-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_norm [hPre_finite_norm : Cert.Pre_finite_norm.Facts] (m : (ℓ : Loc Cert.MixIdeal.nD Cert.MixIdeal.τ Cert.MixIdeal.sig) → Buf (Elt Ideal) ℓ) : Prop :=
  ∀ c : Dev Cert.MixIdeal.nD,
    (Cert.Pre_finite_norm.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))).1 = (fun _ => 1#1)
    ∧ (Cert.Pre_finite_norm.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))).2.1 = (fun _ => 1#1)
    ∧ (Cert.Pre_finite_norm.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))).2.2.1 = (fun _ => 1#1)
    ∧ (Cert.Pre_finite_norm.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))).2.2.2.1 = (fun _ => 1#1)
    ∧ (Cert.Pre_finite_norm.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))).2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_ConvGlu (m : (ℓ : Loc Cert.ConvGlu.nD Cert.ConvGlu.τ Cert.ConvGlu.sig) → Buf (Elt Bits) ℓ) : Prop :=
  True

def Pre_ConvGluIdeal (m : (ℓ : Loc Cert.ConvGluIdeal.nD Cert.ConvGluIdeal.τ Cert.ConvGluIdeal.sig) → Buf (Elt Ideal) ℓ) : Prop :=
  True

def Pre_ConvGluRefIdeal (m : (ℓ : Loc Cert.ConvGluRefIdeal.nD Cert.ConvGluRefIdeal.τ Cert.ConvGluRefIdeal.sig) → Buf (Elt Ideal) ℓ) : Prop :=
  True

def Pre_ConvLn (m : (ℓ : Loc Cert.ConvLn.nD Cert.ConvLn.τ Cert.ConvLn.sig) → Buf (Elt Bits) ℓ) : Prop :=
  True

def Pre_ConvLnIdeal (m : (ℓ : Loc Cert.ConvLnIdeal.nD Cert.ConvLnIdeal.τ Cert.ConvLnIdeal.sig) → Buf (Elt Ideal) ℓ) : Prop :=
  True

def Pre_ConvLnIdeal_finite_convln [hPre_finite_convln : Cert.Pre_finite_convln.Facts] (m : (ℓ : Loc Cert.ConvLnIdeal.nD Cert.ConvLnIdeal.τ Cert.ConvLnIdeal.sig) → Buf (Elt Ideal) ℓ) : Prop :=
  ∀ c : Dev Cert.ConvLnIdeal.nD,
    (Cert.Pre_finite_convln.fn (F := Ideal) (m ((c.tc : Thread Cert.ConvLnIdeal.nD Cert.ConvLnIdeal.τ).loc Cert.ConvLnIdeal.main_arg0)) (m ((c.tc : Thread Cert.ConvLnIdeal.nD Cert.ConvLnIdeal.τ).loc Cert.ConvLnIdeal.main_arg1)) (m ((c.tc : Thread Cert.ConvLnIdeal.nD Cert.ConvLnIdeal.τ).loc Cert.ConvLnIdeal.main_arg2)) (m ((c.tc : Thread Cert.ConvLnIdeal.nD Cert.ConvLnIdeal.τ).loc Cert.ConvLnIdeal.main_arg3)) (m ((c.tc : Thread Cert.ConvLnIdeal.nD Cert.ConvLnIdeal.τ).loc Cert.ConvLnIdeal.main_arg4)) (m ((c.tc : Thread Cert.ConvLnIdeal.nD Cert.ConvLnIdeal.τ).loc Cert.ConvLnIdeal.main_arg5))).1 = (fun _ => 1#1)
    ∧ (Cert.Pre_finite_convln.fn (F := Ideal) (m ((c.tc : Thread Cert.ConvLnIdeal.nD Cert.ConvLnIdeal.τ).loc Cert.ConvLnIdeal.main_arg0)) (m ((c.tc : Thread Cert.ConvLnIdeal.nD Cert.ConvLnIdeal.τ).loc Cert.ConvLnIdeal.main_arg1)) (m ((c.tc : Thread Cert.ConvLnIdeal.nD Cert.ConvLnIdeal.τ).loc Cert.ConvLnIdeal.main_arg2)) (m ((c.tc : Thread Cert.ConvLnIdeal.nD Cert.ConvLnIdeal.τ).loc Cert.ConvLnIdeal.main_arg3)) (m ((c.tc : Thread Cert.ConvLnIdeal.nD Cert.ConvLnIdeal.τ).loc Cert.ConvLnIdeal.main_arg4)) (m ((c.tc : Thread Cert.ConvLnIdeal.nD Cert.ConvLnIdeal.τ).loc Cert.ConvLnIdeal.main_arg5))).2.1 = (fun _ => 1#1)
    ∧ (Cert.Pre_finite_convln.fn (F := Ideal) (m ((c.tc : Thread Cert.ConvLnIdeal.nD Cert.ConvLnIdeal.τ).loc Cert.ConvLnIdeal.main_arg0)) (m ((c.tc : Thread Cert.ConvLnIdeal.nD Cert.ConvLnIdeal.τ).loc Cert.ConvLnIdeal.main_arg1)) (m ((c.tc : Thread Cert.ConvLnIdeal.nD Cert.ConvLnIdeal.τ).loc Cert.ConvLnIdeal.main_arg2)) (m ((c.tc : Thread Cert.ConvLnIdeal.nD Cert.ConvLnIdeal.τ).loc Cert.ConvLnIdeal.main_arg3)) (m ((c.tc : Thread Cert.ConvLnIdeal.nD Cert.ConvLnIdeal.τ).loc Cert.ConvLnIdeal.main_arg4)) (m ((c.tc : Thread Cert.ConvLnIdeal.nD Cert.ConvLnIdeal.τ).loc Cert.ConvLnIdeal.main_arg5))).2.2.1 = (fun _ => 1#1)
    ∧ (Cert.Pre_finite_convln.fn (F := Ideal) (m ((c.tc : Thread Cert.ConvLnIdeal.nD Cert.ConvLnIdeal.τ).loc Cert.ConvLnIdeal.main_arg0)) (m ((c.tc : Thread Cert.ConvLnIdeal.nD Cert.ConvLnIdeal.τ).loc Cert.ConvLnIdeal.main_arg1)) (m ((c.tc : Thread Cert.ConvLnIdeal.nD Cert.ConvLnIdeal.τ).loc Cert.ConvLnIdeal.main_arg2)) (m ((c.tc : Thread Cert.ConvLnIdeal.nD Cert.ConvLnIdeal.τ).loc Cert.ConvLnIdeal.main_arg3)) (m ((c.tc : Thread Cert.ConvLnIdeal.nD Cert.ConvLnIdeal.τ).loc Cert.ConvLnIdeal.main_arg4)) (m ((c.tc : Thread Cert.ConvLnIdeal.nD Cert.ConvLnIdeal.τ).loc Cert.ConvLnIdeal.main_arg5))).2.2.2.1 = (fun _ => 1#1)
    ∧ (Cert.Pre_finite_convln.fn (F := Ideal) (m ((c.tc : Thread Cert.ConvLnIdeal.nD Cert.ConvLnIdeal.τ).loc Cert.ConvLnIdeal.main_arg0)) (m ((c.tc : Thread Cert.ConvLnIdeal.nD Cert.ConvLnIdeal.τ).loc Cert.ConvLnIdeal.main_arg1)) (m ((c.tc : Thread Cert.ConvLnIdeal.nD Cert.ConvLnIdeal.τ).loc Cert.ConvLnIdeal.main_arg2)) (m ((c.tc : Thread Cert.ConvLnIdeal.nD Cert.ConvLnIdeal.τ).loc Cert.ConvLnIdeal.main_arg3)) (m ((c.tc : Thread Cert.ConvLnIdeal.nD Cert.ConvLnIdeal.τ).loc Cert.ConvLnIdeal.main_arg4)) (m ((c.tc : Thread Cert.ConvLnIdeal.nD Cert.ConvLnIdeal.τ).loc Cert.ConvLnIdeal.main_arg5))).2.2.2.2.1 = (fun _ => 1#1)
    ∧ (Cert.Pre_finite_convln.fn (F := Ideal) (m ((c.tc : Thread Cert.ConvLnIdeal.nD Cert.ConvLnIdeal.τ).loc Cert.ConvLnIdeal.main_arg0)) (m ((c.tc : Thread Cert.ConvLnIdeal.nD Cert.ConvLnIdeal.τ).loc Cert.ConvLnIdeal.main_arg1)) (m ((c.tc : Thread Cert.ConvLnIdeal.nD Cert.ConvLnIdeal.τ).loc Cert.ConvLnIdeal.main_arg2)) (m ((c.tc : Thread Cert.ConvLnIdeal.nD Cert.ConvLnIdeal.τ).loc Cert.ConvLnIdeal.main_arg3)) (m ((c.tc : Thread Cert.ConvLnIdeal.nD Cert.ConvLnIdeal.τ).loc Cert.ConvLnIdeal.main_arg4)) (m ((c.tc : Thread Cert.ConvLnIdeal.nD Cert.ConvLnIdeal.τ).loc Cert.ConvLnIdeal.main_arg5))).2.2.2.2.2 = (fun _ => 1#1)

def Pre_ConvLnRefIdeal (m : (ℓ : Loc Cert.ConvLnRefIdeal.nD Cert.ConvLnRefIdeal.τ Cert.ConvLnRefIdeal.sig) → Buf (Elt Ideal) ℓ) : Prop :=
  True

def Pre_ConvLnRefIdeal_finite_convln [hPre_finite_convln : Cert.Pre_finite_convln.Facts] (m : (ℓ : Loc Cert.ConvLnRefIdeal.nD Cert.ConvLnRefIdeal.τ Cert.ConvLnRefIdeal.sig) → Buf (Elt Ideal) ℓ) : Prop :=
  ∀ c : Dev Cert.ConvLnRefIdeal.nD,
    (Cert.Pre_finite_convln.fn (F := Ideal) (m ((c.tc : Thread Cert.ConvLnRefIdeal.nD Cert.ConvLnRefIdeal.τ).loc Cert.ConvLnRefIdeal.main_arg0)) (m ((c.tc : Thread Cert.ConvLnRefIdeal.nD Cert.ConvLnRefIdeal.τ).loc Cert.ConvLnRefIdeal.main_arg1)) (m ((c.tc : Thread Cert.ConvLnRefIdeal.nD Cert.ConvLnRefIdeal.τ).loc Cert.ConvLnRefIdeal.main_arg2)) (m ((c.tc : Thread Cert.ConvLnRefIdeal.nD Cert.ConvLnRefIdeal.τ).loc Cert.ConvLnRefIdeal.main_arg3)) (m ((c.tc : Thread Cert.ConvLnRefIdeal.nD Cert.ConvLnRefIdeal.τ).loc Cert.ConvLnRefIdeal.main_arg4)) (m ((c.tc : Thread Cert.ConvLnRefIdeal.nD Cert.ConvLnRefIdeal.τ).loc Cert.ConvLnRefIdeal.main_arg5))).1 = (fun _ => 1#1)
    ∧ (Cert.Pre_finite_convln.fn (F := Ideal) (m ((c.tc : Thread Cert.ConvLnRefIdeal.nD Cert.ConvLnRefIdeal.τ).loc Cert.ConvLnRefIdeal.main_arg0)) (m ((c.tc : Thread Cert.ConvLnRefIdeal.nD Cert.ConvLnRefIdeal.τ).loc Cert.ConvLnRefIdeal.main_arg1)) (m ((c.tc : Thread Cert.ConvLnRefIdeal.nD Cert.ConvLnRefIdeal.τ).loc Cert.ConvLnRefIdeal.main_arg2)) (m ((c.tc : Thread Cert.ConvLnRefIdeal.nD Cert.ConvLnRefIdeal.τ).loc Cert.ConvLnRefIdeal.main_arg3)) (m ((c.tc : Thread Cert.ConvLnRefIdeal.nD Cert.ConvLnRefIdeal.τ).loc Cert.ConvLnRefIdeal.main_arg4)) (m ((c.tc : Thread Cert.ConvLnRefIdeal.nD Cert.ConvLnRefIdeal.τ).loc Cert.ConvLnRefIdeal.main_arg5))).2.1 = (fun _ => 1#1)
    ∧ (Cert.Pre_finite_convln.fn (F := Ideal) (m ((c.tc : Thread Cert.ConvLnRefIdeal.nD Cert.ConvLnRefIdeal.τ).loc Cert.ConvLnRefIdeal.main_arg0)) (m ((c.tc : Thread Cert.ConvLnRefIdeal.nD Cert.ConvLnRefIdeal.τ).loc Cert.ConvLnRefIdeal.main_arg1)) (m ((c.tc : Thread Cert.ConvLnRefIdeal.nD Cert.ConvLnRefIdeal.τ).loc Cert.ConvLnRefIdeal.main_arg2)) (m ((c.tc : Thread Cert.ConvLnRefIdeal.nD Cert.ConvLnRefIdeal.τ).loc Cert.ConvLnRefIdeal.main_arg3)) (m ((c.tc : Thread Cert.ConvLnRefIdeal.nD Cert.ConvLnRefIdeal.τ).loc Cert.ConvLnRefIdeal.main_arg4)) (m ((c.tc : Thread Cert.ConvLnRefIdeal.nD Cert.ConvLnRefIdeal.τ).loc Cert.ConvLnRefIdeal.main_arg5))).2.2.1 = (fun _ => 1#1)
    ∧ (Cert.Pre_finite_convln.fn (F := Ideal) (m ((c.tc : Thread Cert.ConvLnRefIdeal.nD Cert.ConvLnRefIdeal.τ).loc Cert.ConvLnRefIdeal.main_arg0)) (m ((c.tc : Thread Cert.ConvLnRefIdeal.nD Cert.ConvLnRefIdeal.τ).loc Cert.ConvLnRefIdeal.main_arg1)) (m ((c.tc : Thread Cert.ConvLnRefIdeal.nD Cert.ConvLnRefIdeal.τ).loc Cert.ConvLnRefIdeal.main_arg2)) (m ((c.tc : Thread Cert.ConvLnRefIdeal.nD Cert.ConvLnRefIdeal.τ).loc Cert.ConvLnRefIdeal.main_arg3)) (m ((c.tc : Thread Cert.ConvLnRefIdeal.nD Cert.ConvLnRefIdeal.τ).loc Cert.ConvLnRefIdeal.main_arg4)) (m ((c.tc : Thread Cert.ConvLnRefIdeal.nD Cert.ConvLnRefIdeal.τ).loc Cert.ConvLnRefIdeal.main_arg5))).2.2.2.1 = (fun _ => 1#1)
    ∧ (Cert.Pre_finite_convln.fn (F := Ideal) (m ((c.tc : Thread Cert.ConvLnRefIdeal.nD Cert.ConvLnRefIdeal.τ).loc Cert.ConvLnRefIdeal.main_arg0)) (m ((c.tc : Thread Cert.ConvLnRefIdeal.nD Cert.ConvLnRefIdeal.τ).loc Cert.ConvLnRefIdeal.main_arg1)) (m ((c.tc : Thread Cert.ConvLnRefIdeal.nD Cert.ConvLnRefIdeal.τ).loc Cert.ConvLnRefIdeal.main_arg2)) (m ((c.tc : Thread Cert.ConvLnRefIdeal.nD Cert.ConvLnRefIdeal.τ).loc Cert.ConvLnRefIdeal.main_arg3)) (m ((c.tc : Thread Cert.ConvLnRefIdeal.nD Cert.ConvLnRefIdeal.τ).loc Cert.ConvLnRefIdeal.main_arg4)) (m ((c.tc : Thread Cert.ConvLnRefIdeal.nD Cert.ConvLnRefIdeal.τ).loc Cert.ConvLnRefIdeal.main_arg5))).2.2.2.2.1 = (fun _ => 1#1)
    ∧ (Cert.Pre_finite_convln.fn (F := Ideal) (m ((c.tc : Thread Cert.ConvLnRefIdeal.nD Cert.ConvLnRefIdeal.τ).loc Cert.ConvLnRefIdeal.main_arg0)) (m ((c.tc : Thread Cert.ConvLnRefIdeal.nD Cert.ConvLnRefIdeal.τ).loc Cert.ConvLnRefIdeal.main_arg1)) (m ((c.tc : Thread Cert.ConvLnRefIdeal.nD Cert.ConvLnRefIdeal.τ).loc Cert.ConvLnRefIdeal.main_arg2)) (m ((c.tc : Thread Cert.ConvLnRefIdeal.nD Cert.ConvLnRefIdeal.τ).loc Cert.ConvLnRefIdeal.main_arg3)) (m ((c.tc : Thread Cert.ConvLnRefIdeal.nD Cert.ConvLnRefIdeal.τ).loc Cert.ConvLnRefIdeal.main_arg4)) (m ((c.tc : Thread Cert.ConvLnRefIdeal.nD Cert.ConvLnRefIdeal.τ).loc Cert.ConvLnRefIdeal.main_arg5))).2.2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.2 = (fun _ => 1#1)

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_finite_attnf [hPre_finite_attnf : Cert.Pre_finite_attnf.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_finite_attnf.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3)) (m ((c.tc : Thread Cert.AttnFIdeal.nD Cert.AttnFIdeal.τ).loc Cert.AttnFIdeal.main_arg4))).1 = (fun _ => 1#1)
    ∧ (Cert.Pre_finite_attnf.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3)) (m ((c.tc : Thread Cert.AttnFIdeal.nD Cert.AttnFIdeal.τ).loc Cert.AttnFIdeal.main_arg4))).2.1 = (fun _ => 1#1)
    ∧ (Cert.Pre_finite_attnf.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3)) (m ((c.tc : Thread Cert.AttnFIdeal.nD Cert.AttnFIdeal.τ).loc Cert.AttnFIdeal.main_arg4))).2.2.1 = (fun _ => 1#1)
    ∧ (Cert.Pre_finite_attnf.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3)) (m ((c.tc : Thread Cert.AttnFIdeal.nD Cert.AttnFIdeal.τ).loc Cert.AttnFIdeal.main_arg4))).2.2.2.1 = (fun _ => 1#1)
    ∧ (Cert.Pre_finite_attnf.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3)) (m ((c.tc : Thread Cert.AttnFIdeal.nD Cert.AttnFIdeal.τ).loc Cert.AttnFIdeal.main_arg4))).2.2.2.2 = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_finite_attnf [hPre_finite_attnf : Cert.Pre_finite_attnf.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_finite_attnf.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3)) (m ((c.tc : Thread Cert.AttnFRefIdeal.nD Cert.AttnFRefIdeal.τ).loc Cert.AttnFRefIdeal.main_arg4))).1 = (fun _ => 1#1)
    ∧ (Cert.Pre_finite_attnf.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3)) (m ((c.tc : Thread Cert.AttnFRefIdeal.nD Cert.AttnFRefIdeal.τ).loc Cert.AttnFRefIdeal.main_arg4))).2.1 = (fun _ => 1#1)
    ∧ (Cert.Pre_finite_attnf.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3)) (m ((c.tc : Thread Cert.AttnFRefIdeal.nD Cert.AttnFRefIdeal.τ).loc Cert.AttnFRefIdeal.main_arg4))).2.2.1 = (fun _ => 1#1)
    ∧ (Cert.Pre_finite_attnf.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3)) (m ((c.tc : Thread Cert.AttnFRefIdeal.nD Cert.AttnFRefIdeal.τ).loc Cert.AttnFRefIdeal.main_arg4))).2.2.2.1 = (fun _ => 1#1)
    ∧ (Cert.Pre_finite_attnf.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3)) (m ((c.tc : Thread Cert.AttnFRefIdeal.nD Cert.AttnFRefIdeal.τ).loc Cert.AttnFRefIdeal.main_arg4))).2.2.2.2 = (fun _ => 1#1)

def Pre_RmsF (m : (ℓ : Loc Cert.RmsF.nD Cert.RmsF.τ Cert.RmsF.sig) → Buf (Elt Bits) ℓ) : Prop :=
  True

def Pre_RmsFIdeal (m : (ℓ : Loc Cert.RmsFIdeal.nD Cert.RmsFIdeal.τ Cert.RmsFIdeal.sig) → Buf (Elt Ideal) ℓ) : Prop :=
  True

def Pre_RmsFRefIdeal (m : (ℓ : Loc Cert.RmsFRefIdeal.nD Cert.RmsFRefIdeal.τ Cert.RmsFRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_MergeFRefIdeal (m : (ℓ : Loc Cert.MergeFRefIdeal.nD Cert.MergeFRefIdeal.τ Cert.MergeFRefIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixIdeal_pre_finite_norm [hMixIdeal : Cert.MixIdeal.Facts] [hPre_finite_norm : Cert.Pre_finite_norm.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_norm m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_ConvGlu [hConvGlu : Cert.ConvGlu.Facts] : Prop :=
  ∀ (m : (ℓ : Loc Cert.ConvGlu.nD Cert.ConvGlu.τ Cert.ConvGlu.sig) → Buf (Elt Bits) ℓ) (g : Dev Cert.ConvGlu.nD → PrngReg), Pre_ConvGlu m →
    θ_run (Cert.ConvGlu.defs (F := Bits)) (onTc (τ := Cert.ConvGlu.τ) (Cert.ConvGlu.main (F := Bits))) ⟨m, fun _ => 0, g⟩ (fun r => (∀ c : Dev Cert.ConvGlu.nD,
      r.2.mem ((c.tc : Thread Cert.ConvGlu.nD Cert.ConvGlu.τ).loc Cert.ConvGlu.main_arg0) = m ((c.tc : Thread Cert.ConvGlu.nD Cert.ConvGlu.τ).loc Cert.ConvGlu.main_arg0)
      ∧ r.2.mem ((c.tc : Thread Cert.ConvGlu.nD Cert.ConvGlu.τ).loc Cert.ConvGlu.main_arg1) = m ((c.tc : Thread Cert.ConvGlu.nD Cert.ConvGlu.τ).loc Cert.ConvGlu.main_arg1)
      ∧ r.2.mem ((c.tc : Thread Cert.ConvGlu.nD Cert.ConvGlu.τ).loc Cert.ConvGlu.main_arg2) = m ((c.tc : Thread Cert.ConvGlu.nD Cert.ConvGlu.τ).loc Cert.ConvGlu.main_arg2)
      ∧ r.2.mem ((c.tc : Thread Cert.ConvGlu.nD Cert.ConvGlu.τ).loc Cert.ConvGlu.main_arg3) = m ((c.tc : Thread Cert.ConvGlu.nD Cert.ConvGlu.τ).loc Cert.ConvGlu.main_arg3)
      ∧ r.2.mem ((c.tc : Thread Cert.ConvGlu.nD Cert.ConvGlu.τ).loc Cert.ConvGlu.main_arg4) = m ((c.tc : Thread Cert.ConvGlu.nD Cert.ConvGlu.τ).loc Cert.ConvGlu.main_arg4)
      ∧ r.2.mem ((c.tc : Thread Cert.ConvGlu.nD Cert.ConvGlu.τ).loc Cert.ConvGlu.main_arg5) = m ((c.tc : Thread Cert.ConvGlu.nD Cert.ConvGlu.τ).loc Cert.ConvGlu.main_arg5))
      ∧ r.2.sem = fun _ => 0)

def quiescent_ConvGluIdeal [hConvGluIdeal : Cert.ConvGluIdeal.Facts] : Prop :=
  ∀ (m : (ℓ : Loc Cert.ConvGluIdeal.nD Cert.ConvGluIdeal.τ Cert.ConvGluIdeal.sig) → Buf (Elt Ideal) ℓ) (g : Dev Cert.ConvGluIdeal.nD → PrngReg), Pre_ConvGluIdeal m →
    θ_run (Cert.ConvGluIdeal.defs (F := Ideal)) (onTc (τ := Cert.ConvGluIdeal.τ) (Cert.ConvGluIdeal.main (F := Ideal))) ⟨m, fun _ => 0, g⟩ (fun r => (∀ c : Dev Cert.ConvGluIdeal.nD,
      r.2.mem ((c.tc : Thread Cert.ConvGluIdeal.nD Cert.ConvGluIdeal.τ).loc Cert.ConvGluIdeal.main_arg0) = m ((c.tc : Thread Cert.ConvGluIdeal.nD Cert.ConvGluIdeal.τ).loc Cert.ConvGluIdeal.main_arg0)
      ∧ r.2.mem ((c.tc : Thread Cert.ConvGluIdeal.nD Cert.ConvGluIdeal.τ).loc Cert.ConvGluIdeal.main_arg1) = m ((c.tc : Thread Cert.ConvGluIdeal.nD Cert.ConvGluIdeal.τ).loc Cert.ConvGluIdeal.main_arg1)
      ∧ r.2.mem ((c.tc : Thread Cert.ConvGluIdeal.nD Cert.ConvGluIdeal.τ).loc Cert.ConvGluIdeal.main_arg2) = m ((c.tc : Thread Cert.ConvGluIdeal.nD Cert.ConvGluIdeal.τ).loc Cert.ConvGluIdeal.main_arg2)
      ∧ r.2.mem ((c.tc : Thread Cert.ConvGluIdeal.nD Cert.ConvGluIdeal.τ).loc Cert.ConvGluIdeal.main_arg3) = m ((c.tc : Thread Cert.ConvGluIdeal.nD Cert.ConvGluIdeal.τ).loc Cert.ConvGluIdeal.main_arg3)
      ∧ r.2.mem ((c.tc : Thread Cert.ConvGluIdeal.nD Cert.ConvGluIdeal.τ).loc Cert.ConvGluIdeal.main_arg4) = m ((c.tc : Thread Cert.ConvGluIdeal.nD Cert.ConvGluIdeal.τ).loc Cert.ConvGluIdeal.main_arg4)
      ∧ r.2.mem ((c.tc : Thread Cert.ConvGluIdeal.nD Cert.ConvGluIdeal.τ).loc Cert.ConvGluIdeal.main_arg5) = m ((c.tc : Thread Cert.ConvGluIdeal.nD Cert.ConvGluIdeal.τ).loc Cert.ConvGluIdeal.main_arg5))
      ∧ r.2.sem = fun _ => 0)

def quiescent_ConvGluRefIdeal [hConvGluRefIdeal : Cert.ConvGluRefIdeal.Facts] : Prop :=
  ∀ (m : (ℓ : Loc Cert.ConvGluRefIdeal.nD Cert.ConvGluRefIdeal.τ Cert.ConvGluRefIdeal.sig) → Buf (Elt Ideal) ℓ) (g : Dev Cert.ConvGluRefIdeal.nD → PrngReg), Pre_ConvGluRefIdeal m →
    θ_run (Cert.ConvGluRefIdeal.defs (F := Ideal)) (onTc (τ := Cert.ConvGluRefIdeal.τ) (Cert.ConvGluRefIdeal.main (F := Ideal))) ⟨m, fun _ => 0, g⟩ (fun r => (∀ c : Dev Cert.ConvGluRefIdeal.nD,
      r.2.mem ((c.tc : Thread Cert.ConvGluRefIdeal.nD Cert.ConvGluRefIdeal.τ).loc Cert.ConvGluRefIdeal.main_arg0) = m ((c.tc : Thread Cert.ConvGluRefIdeal.nD Cert.ConvGluRefIdeal.τ).loc Cert.ConvGluRefIdeal.main_arg0)
      ∧ r.2.mem ((c.tc : Thread Cert.ConvGluRefIdeal.nD Cert.ConvGluRefIdeal.τ).loc Cert.ConvGluRefIdeal.main_arg1) = m ((c.tc : Thread Cert.ConvGluRefIdeal.nD Cert.ConvGluRefIdeal.τ).loc Cert.ConvGluRefIdeal.main_arg1)
      ∧ r.2.mem ((c.tc : Thread Cert.ConvGluRefIdeal.nD Cert.ConvGluRefIdeal.τ).loc Cert.ConvGluRefIdeal.main_arg2) = m ((c.tc : Thread Cert.ConvGluRefIdeal.nD Cert.ConvGluRefIdeal.τ).loc Cert.ConvGluRefIdeal.main_arg2)
      ∧ r.2.mem ((c.tc : Thread Cert.ConvGluRefIdeal.nD Cert.ConvGluRefIdeal.τ).loc Cert.ConvGluRefIdeal.main_arg3) = m ((c.tc : Thread Cert.ConvGluRefIdeal.nD Cert.ConvGluRefIdeal.τ).loc Cert.ConvGluRefIdeal.main_arg3)
      ∧ r.2.mem ((c.tc : Thread Cert.ConvGluRefIdeal.nD Cert.ConvGluRefIdeal.τ).loc Cert.ConvGluRefIdeal.main_arg4) = m ((c.tc : Thread Cert.ConvGluRefIdeal.nD Cert.ConvGluRefIdeal.τ).loc Cert.ConvGluRefIdeal.main_arg4)
      ∧ r.2.mem ((c.tc : Thread Cert.ConvGluRefIdeal.nD Cert.ConvGluRefIdeal.τ).loc Cert.ConvGluRefIdeal.main_arg5) = m ((c.tc : Thread Cert.ConvGluRefIdeal.nD Cert.ConvGluRefIdeal.τ).loc Cert.ConvGluRefIdeal.main_arg5))
      ∧ r.2.sem = fun _ => 0)

def quiescent_ConvLn [hConvLn : Cert.ConvLn.Facts] : Prop :=
  ∀ (m : (ℓ : Loc Cert.ConvLn.nD Cert.ConvLn.τ Cert.ConvLn.sig) → Buf (Elt Bits) ℓ) (g : Dev Cert.ConvLn.nD → PrngReg), Pre_ConvLn m →
    θ_run (Cert.ConvLn.defs (F := Bits)) (onTc (τ := Cert.ConvLn.τ) (Cert.ConvLn.main (F := Bits))) ⟨m, fun _ => 0, g⟩ (fun r => (∀ c : Dev Cert.ConvLn.nD,
      r.2.mem ((c.tc : Thread Cert.ConvLn.nD Cert.ConvLn.τ).loc Cert.ConvLn.main_arg0) = m ((c.tc : Thread Cert.ConvLn.nD Cert.ConvLn.τ).loc Cert.ConvLn.main_arg0)
      ∧ r.2.mem ((c.tc : Thread Cert.ConvLn.nD Cert.ConvLn.τ).loc Cert.ConvLn.main_arg1) = m ((c.tc : Thread Cert.ConvLn.nD Cert.ConvLn.τ).loc Cert.ConvLn.main_arg1)
      ∧ r.2.mem ((c.tc : Thread Cert.ConvLn.nD Cert.ConvLn.τ).loc Cert.ConvLn.main_arg2) = m ((c.tc : Thread Cert.ConvLn.nD Cert.ConvLn.τ).loc Cert.ConvLn.main_arg2)
      ∧ r.2.mem ((c.tc : Thread Cert.ConvLn.nD Cert.ConvLn.τ).loc Cert.ConvLn.main_arg3) = m ((c.tc : Thread Cert.ConvLn.nD Cert.ConvLn.τ).loc Cert.ConvLn.main_arg3)
      ∧ r.2.mem ((c.tc : Thread Cert.ConvLn.nD Cert.ConvLn.τ).loc Cert.ConvLn.main_arg4) = m ((c.tc : Thread Cert.ConvLn.nD Cert.ConvLn.τ).loc Cert.ConvLn.main_arg4)
      ∧ r.2.mem ((c.tc : Thread Cert.ConvLn.nD Cert.ConvLn.τ).loc Cert.ConvLn.main_arg5) = m ((c.tc : Thread Cert.ConvLn.nD Cert.ConvLn.τ).loc Cert.ConvLn.main_arg5))
      ∧ r.2.sem = fun _ => 0)

def quiescent_ConvLnIdeal [hConvLnIdeal : Cert.ConvLnIdeal.Facts] : Prop :=
  ∀ (m : (ℓ : Loc Cert.ConvLnIdeal.nD Cert.ConvLnIdeal.τ Cert.ConvLnIdeal.sig) → Buf (Elt Ideal) ℓ) (g : Dev Cert.ConvLnIdeal.nD → PrngReg), Pre_ConvLnIdeal m →
    θ_run (Cert.ConvLnIdeal.defs (F := Ideal)) (onTc (τ := Cert.ConvLnIdeal.τ) (Cert.ConvLnIdeal.main (F := Ideal))) ⟨m, fun _ => 0, g⟩ (fun r => (∀ c : Dev Cert.ConvLnIdeal.nD,
      r.2.mem ((c.tc : Thread Cert.ConvLnIdeal.nD Cert.ConvLnIdeal.τ).loc Cert.ConvLnIdeal.main_arg0) = m ((c.tc : Thread Cert.ConvLnIdeal.nD Cert.ConvLnIdeal.τ).loc Cert.ConvLnIdeal.main_arg0)
      ∧ r.2.mem ((c.tc : Thread Cert.ConvLnIdeal.nD Cert.ConvLnIdeal.τ).loc Cert.ConvLnIdeal.main_arg1) = m ((c.tc : Thread Cert.ConvLnIdeal.nD Cert.ConvLnIdeal.τ).loc Cert.ConvLnIdeal.main_arg1)
      ∧ r.2.mem ((c.tc : Thread Cert.ConvLnIdeal.nD Cert.ConvLnIdeal.τ).loc Cert.ConvLnIdeal.main_arg2) = m ((c.tc : Thread Cert.ConvLnIdeal.nD Cert.ConvLnIdeal.τ).loc Cert.ConvLnIdeal.main_arg2)
      ∧ r.2.mem ((c.tc : Thread Cert.ConvLnIdeal.nD Cert.ConvLnIdeal.τ).loc Cert.ConvLnIdeal.main_arg3) = m ((c.tc : Thread Cert.ConvLnIdeal.nD Cert.ConvLnIdeal.τ).loc Cert.ConvLnIdeal.main_arg3)
      ∧ r.2.mem ((c.tc : Thread Cert.ConvLnIdeal.nD Cert.ConvLnIdeal.τ).loc Cert.ConvLnIdeal.main_arg4) = m ((c.tc : Thread Cert.ConvLnIdeal.nD Cert.ConvLnIdeal.τ).loc Cert.ConvLnIdeal.main_arg4)
      ∧ r.2.mem ((c.tc : Thread Cert.ConvLnIdeal.nD Cert.ConvLnIdeal.τ).loc Cert.ConvLnIdeal.main_arg5) = m ((c.tc : Thread Cert.ConvLnIdeal.nD Cert.ConvLnIdeal.τ).loc Cert.ConvLnIdeal.main_arg5))
      ∧ r.2.sem = fun _ => 0)

def quiescent_ConvLnIdeal_pre_finite_convln [hConvLnIdeal : Cert.ConvLnIdeal.Facts] [hPre_finite_convln : Cert.Pre_finite_convln.Facts] : Prop :=
  ∀ (m : (ℓ : Loc Cert.ConvLnIdeal.nD Cert.ConvLnIdeal.τ Cert.ConvLnIdeal.sig) → Buf (Elt Ideal) ℓ) (g : Dev Cert.ConvLnIdeal.nD → PrngReg), Pre_ConvLnIdeal_finite_convln m →
    θ_run (Cert.ConvLnIdeal.defs (F := Ideal)) (onTc (τ := Cert.ConvLnIdeal.τ) (Cert.ConvLnIdeal.main (F := Ideal))) ⟨m, fun _ => 0, g⟩ (fun r => (∀ c : Dev Cert.ConvLnIdeal.nD,
      r.2.mem ((c.tc : Thread Cert.ConvLnIdeal.nD Cert.ConvLnIdeal.τ).loc Cert.ConvLnIdeal.main_arg0) = m ((c.tc : Thread Cert.ConvLnIdeal.nD Cert.ConvLnIdeal.τ).loc Cert.ConvLnIdeal.main_arg0)
      ∧ r.2.mem ((c.tc : Thread Cert.ConvLnIdeal.nD Cert.ConvLnIdeal.τ).loc Cert.ConvLnIdeal.main_arg1) = m ((c.tc : Thread Cert.ConvLnIdeal.nD Cert.ConvLnIdeal.τ).loc Cert.ConvLnIdeal.main_arg1)
      ∧ r.2.mem ((c.tc : Thread Cert.ConvLnIdeal.nD Cert.ConvLnIdeal.τ).loc Cert.ConvLnIdeal.main_arg2) = m ((c.tc : Thread Cert.ConvLnIdeal.nD Cert.ConvLnIdeal.τ).loc Cert.ConvLnIdeal.main_arg2)
      ∧ r.2.mem ((c.tc : Thread Cert.ConvLnIdeal.nD Cert.ConvLnIdeal.τ).loc Cert.ConvLnIdeal.main_arg3) = m ((c.tc : Thread Cert.ConvLnIdeal.nD Cert.ConvLnIdeal.τ).loc Cert.ConvLnIdeal.main_arg3)
      ∧ r.2.mem ((c.tc : Thread Cert.ConvLnIdeal.nD Cert.ConvLnIdeal.τ).loc Cert.ConvLnIdeal.main_arg4) = m ((c.tc : Thread Cert.ConvLnIdeal.nD Cert.ConvLnIdeal.τ).loc Cert.ConvLnIdeal.main_arg4)
      ∧ r.2.mem ((c.tc : Thread Cert.ConvLnIdeal.nD Cert.ConvLnIdeal.τ).loc Cert.ConvLnIdeal.main_arg5) = m ((c.tc : Thread Cert.ConvLnIdeal.nD Cert.ConvLnIdeal.τ).loc Cert.ConvLnIdeal.main_arg5))
      ∧ r.2.sem = fun _ => 0)

def quiescent_ConvLnRefIdeal [hConvLnRefIdeal : Cert.ConvLnRefIdeal.Facts] : Prop :=
  ∀ (m : (ℓ : Loc Cert.ConvLnRefIdeal.nD Cert.ConvLnRefIdeal.τ Cert.ConvLnRefIdeal.sig) → Buf (Elt Ideal) ℓ) (g : Dev Cert.ConvLnRefIdeal.nD → PrngReg), Pre_ConvLnRefIdeal m →
    θ_run (Cert.ConvLnRefIdeal.defs (F := Ideal)) (onTc (τ := Cert.ConvLnRefIdeal.τ) (Cert.ConvLnRefIdeal.main (F := Ideal))) ⟨m, fun _ => 0, g⟩ (fun r => (∀ c : Dev Cert.ConvLnRefIdeal.nD,
      r.2.mem ((c.tc : Thread Cert.ConvLnRefIdeal.nD Cert.ConvLnRefIdeal.τ).loc Cert.ConvLnRefIdeal.main_arg0) = m ((c.tc : Thread Cert.ConvLnRefIdeal.nD Cert.ConvLnRefIdeal.τ).loc Cert.ConvLnRefIdeal.main_arg0)
      ∧ r.2.mem ((c.tc : Thread Cert.ConvLnRefIdeal.nD Cert.ConvLnRefIdeal.τ).loc Cert.ConvLnRefIdeal.main_arg1) = m ((c.tc : Thread Cert.ConvLnRefIdeal.nD Cert.ConvLnRefIdeal.τ).loc Cert.ConvLnRefIdeal.main_arg1)
      ∧ r.2.mem ((c.tc : Thread Cert.ConvLnRefIdeal.nD Cert.ConvLnRefIdeal.τ).loc Cert.ConvLnRefIdeal.main_arg2) = m ((c.tc : Thread Cert.ConvLnRefIdeal.nD Cert.ConvLnRefIdeal.τ).loc Cert.ConvLnRefIdeal.main_arg2)
      ∧ r.2.mem ((c.tc : Thread Cert.ConvLnRefIdeal.nD Cert.ConvLnRefIdeal.τ).loc Cert.ConvLnRefIdeal.main_arg3) = m ((c.tc : Thread Cert.ConvLnRefIdeal.nD Cert.ConvLnRefIdeal.τ).loc Cert.ConvLnRefIdeal.main_arg3)
      ∧ r.2.mem ((c.tc : Thread Cert.ConvLnRefIdeal.nD Cert.ConvLnRefIdeal.τ).loc Cert.ConvLnRefIdeal.main_arg4) = m ((c.tc : Thread Cert.ConvLnRefIdeal.nD Cert.ConvLnRefIdeal.τ).loc Cert.ConvLnRefIdeal.main_arg4)
      ∧ r.2.mem ((c.tc : Thread Cert.ConvLnRefIdeal.nD Cert.ConvLnRefIdeal.τ).loc Cert.ConvLnRefIdeal.main_arg5) = m ((c.tc : Thread Cert.ConvLnRefIdeal.nD Cert.ConvLnRefIdeal.τ).loc Cert.ConvLnRefIdeal.main_arg5))
      ∧ r.2.sem = fun _ => 0)

def quiescent_ConvLnRefIdeal_pre_finite_convln [hConvLnRefIdeal : Cert.ConvLnRefIdeal.Facts] [hPre_finite_convln : Cert.Pre_finite_convln.Facts] : Prop :=
  ∀ (m : (ℓ : Loc Cert.ConvLnRefIdeal.nD Cert.ConvLnRefIdeal.τ Cert.ConvLnRefIdeal.sig) → Buf (Elt Ideal) ℓ) (g : Dev Cert.ConvLnRefIdeal.nD → PrngReg), Pre_ConvLnRefIdeal_finite_convln m →
    θ_run (Cert.ConvLnRefIdeal.defs (F := Ideal)) (onTc (τ := Cert.ConvLnRefIdeal.τ) (Cert.ConvLnRefIdeal.main (F := Ideal))) ⟨m, fun _ => 0, g⟩ (fun r => (∀ c : Dev Cert.ConvLnRefIdeal.nD,
      r.2.mem ((c.tc : Thread Cert.ConvLnRefIdeal.nD Cert.ConvLnRefIdeal.τ).loc Cert.ConvLnRefIdeal.main_arg0) = m ((c.tc : Thread Cert.ConvLnRefIdeal.nD Cert.ConvLnRefIdeal.τ).loc Cert.ConvLnRefIdeal.main_arg0)
      ∧ r.2.mem ((c.tc : Thread Cert.ConvLnRefIdeal.nD Cert.ConvLnRefIdeal.τ).loc Cert.ConvLnRefIdeal.main_arg1) = m ((c.tc : Thread Cert.ConvLnRefIdeal.nD Cert.ConvLnRefIdeal.τ).loc Cert.ConvLnRefIdeal.main_arg1)
      ∧ r.2.mem ((c.tc : Thread Cert.ConvLnRefIdeal.nD Cert.ConvLnRefIdeal.τ).loc Cert.ConvLnRefIdeal.main_arg2) = m ((c.tc : Thread Cert.ConvLnRefIdeal.nD Cert.ConvLnRefIdeal.τ).loc Cert.ConvLnRefIdeal.main_arg2)
      ∧ r.2.mem ((c.tc : Thread Cert.ConvLnRefIdeal.nD Cert.ConvLnRefIdeal.τ).loc Cert.ConvLnRefIdeal.main_arg3) = m ((c.tc : Thread Cert.ConvLnRefIdeal.nD Cert.ConvLnRefIdeal.τ).loc Cert.ConvLnRefIdeal.main_arg3)
      ∧ r.2.mem ((c.tc : Thread Cert.ConvLnRefIdeal.nD Cert.ConvLnRefIdeal.τ).loc Cert.ConvLnRefIdeal.main_arg4) = m ((c.tc : Thread Cert.ConvLnRefIdeal.nD Cert.ConvLnRefIdeal.τ).loc Cert.ConvLnRefIdeal.main_arg4)
      ∧ r.2.mem ((c.tc : Thread Cert.ConvLnRefIdeal.nD Cert.ConvLnRefIdeal.τ).loc Cert.ConvLnRefIdeal.main_arg5) = m ((c.tc : Thread Cert.ConvLnRefIdeal.nD Cert.ConvLnRefIdeal.τ).loc Cert.ConvLnRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2)
      ∧ r.2.mem ((c.tc : Thread Cert.AttnF.nD Cert.AttnF.τ).loc Cert.AttnF.main_arg3) = m ((c.tc : Thread Cert.AttnF.nD Cert.AttnF.τ).loc Cert.AttnF.main_arg3)
      ∧ r.2.mem ((c.tc : Thread Cert.AttnF.nD Cert.AttnF.τ).loc Cert.AttnF.main_arg4) = m ((c.tc : Thread Cert.AttnF.nD Cert.AttnF.τ).loc Cert.AttnF.main_arg4))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
      ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4))
      ∧ r.2.sem = fun _ => 0)

def quiescent_AttnFIdeal_pre_finite_attnf [hAttnFIdeal : Cert.AttnFIdeal.Facts] [hPre_finite_attnf : Cert.Pre_finite_attnf.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_finite_attnf m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
      ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3)
      ∧ r.2.mem ((c.tc : Thread Cert.AttnFRefIdeal.nD Cert.AttnFRefIdeal.τ).loc Cert.AttnFRefIdeal.main_arg4) = m ((c.tc : Thread Cert.AttnFRefIdeal.nD Cert.AttnFRefIdeal.τ).loc Cert.AttnFRefIdeal.main_arg4))
      ∧ r.2.sem = fun _ => 0)

def quiescent_AttnFRefIdeal_pre_finite_attnf [hAttnFRefIdeal : Cert.AttnFRefIdeal.Facts] [hPre_finite_attnf : Cert.Pre_finite_attnf.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_finite_attnf m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3)
      ∧ r.2.mem ((c.tc : Thread Cert.AttnFRefIdeal.nD Cert.AttnFRefIdeal.τ).loc Cert.AttnFRefIdeal.main_arg4) = m ((c.tc : Thread Cert.AttnFRefIdeal.nD Cert.AttnFRefIdeal.τ).loc Cert.AttnFRefIdeal.main_arg4))
      ∧ r.2.sem = fun _ => 0)

def quiescent_RmsF [hRmsF : Cert.RmsF.Facts] : Prop :=
  ∀ (m : (ℓ : Loc Cert.RmsF.nD Cert.RmsF.τ Cert.RmsF.sig) → Buf (Elt Bits) ℓ) (g : Dev Cert.RmsF.nD → PrngReg), Pre_RmsF m →
    θ_run (Cert.RmsF.defs (F := Bits)) (onTc (τ := Cert.RmsF.τ) (Cert.RmsF.main (F := Bits))) ⟨m, fun _ => 0, g⟩ (fun r => (∀ c : Dev Cert.RmsF.nD,
      r.2.mem ((c.tc : Thread Cert.RmsF.nD Cert.RmsF.τ).loc Cert.RmsF.main_arg0) = m ((c.tc : Thread Cert.RmsF.nD Cert.RmsF.τ).loc Cert.RmsF.main_arg0)
      ∧ r.2.mem ((c.tc : Thread Cert.RmsF.nD Cert.RmsF.τ).loc Cert.RmsF.main_arg1) = m ((c.tc : Thread Cert.RmsF.nD Cert.RmsF.τ).loc Cert.RmsF.main_arg1))
      ∧ r.2.sem = fun _ => 0)

def quiescent_RmsFIdeal [hRmsFIdeal : Cert.RmsFIdeal.Facts] : Prop :=
  ∀ (m : (ℓ : Loc Cert.RmsFIdeal.nD Cert.RmsFIdeal.τ Cert.RmsFIdeal.sig) → Buf (Elt Ideal) ℓ) (g : Dev Cert.RmsFIdeal.nD → PrngReg), Pre_RmsFIdeal m →
    θ_run (Cert.RmsFIdeal.defs (F := Ideal)) (onTc (τ := Cert.RmsFIdeal.τ) (Cert.RmsFIdeal.main (F := Ideal))) ⟨m, fun _ => 0, g⟩ (fun r => (∀ c : Dev Cert.RmsFIdeal.nD,
      r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
      ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ r.2.sem = fun _ => 0)

def quiescent_RmsFRefIdeal [hRmsFRefIdeal : Cert.RmsFRefIdeal.Facts] : Prop :=
  ∀ (m : (ℓ : Loc Cert.RmsFRefIdeal.nD Cert.RmsFRefIdeal.τ Cert.RmsFRefIdeal.sig) → Buf (Elt Ideal) ℓ) (g : Dev Cert.RmsFRefIdeal.nD → PrngReg), Pre_RmsFRefIdeal m →
    θ_run (Cert.RmsFRefIdeal.defs (F := Ideal)) (onTc (τ := Cert.RmsFRefIdeal.τ) (Cert.RmsFRefIdeal.main (F := Ideal))) ⟨m, fun _ => 0, g⟩ (fun r => (∀ c : Dev Cert.RmsFRefIdeal.nD,
      r.2.mem ((c.tc : Thread Cert.RmsFRefIdeal.nD Cert.RmsFRefIdeal.τ).loc Cert.RmsFRefIdeal.main_arg0) = m ((c.tc : Thread Cert.RmsFRefIdeal.nD Cert.RmsFRefIdeal.τ).loc Cert.RmsFRefIdeal.main_arg0)
      ∧ r.2.mem ((c.tc : Thread Cert.RmsFRefIdeal.nD Cert.RmsFRefIdeal.τ).loc Cert.RmsFRefIdeal.main_arg1) = m ((c.tc : Thread Cert.RmsFRefIdeal.nD Cert.RmsFRefIdeal.τ).loc Cert.RmsFRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2)
      ∧ r.2.mem ((c.tc : Thread Cert.MergeF.nD Cert.MergeF.τ).loc Cert.MergeF.main_arg3) = m ((c.tc : Thread Cert.MergeF.nD Cert.MergeF.τ).loc Cert.MergeF.main_arg3)
      ∧ r.2.mem ((c.tc : Thread Cert.MergeF.nD Cert.MergeF.τ).loc Cert.MergeF.main_arg4) = m ((c.tc : Thread Cert.MergeF.nD Cert.MergeF.τ).loc Cert.MergeF.main_arg4))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
      ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3)
      ∧ r.2.mem ((c.tc : Thread Cert.MergeFIdeal.nD Cert.MergeFIdeal.τ).loc Cert.MergeFIdeal.main_arg4) = m ((c.tc : Thread Cert.MergeFIdeal.nD Cert.MergeFIdeal.τ).loc Cert.MergeFIdeal.main_arg4))
      ∧ r.2.sem = fun _ => 0)

def quiescent_MergeFRefIdeal [hMergeFRefIdeal : Cert.MergeFRefIdeal.Facts] : Prop :=
  ∀ (m : (ℓ : Loc Cert.MergeFRefIdeal.nD Cert.MergeFRefIdeal.τ Cert.MergeFRefIdeal.sig) → Buf (Elt Ideal) ℓ) (g : Dev Cert.MergeFRefIdeal.nD → PrngReg), Pre_MergeFRefIdeal m →
    θ_run (Cert.MergeFRefIdeal.defs (F := Ideal)) (onTc (τ := Cert.MergeFRefIdeal.τ) (Cert.MergeFRefIdeal.main (F := Ideal))) ⟨m, fun _ => 0, g⟩ (fun r => (∀ c : Dev Cert.MergeFRefIdeal.nD,
      r.2.mem ((c.tc : Thread Cert.MergeFRefIdeal.nD Cert.MergeFRefIdeal.τ).loc Cert.MergeFRefIdeal.main_arg0) = m ((c.tc : Thread Cert.MergeFRefIdeal.nD Cert.MergeFRefIdeal.τ).loc Cert.MergeFRefIdeal.main_arg0)
      ∧ r.2.mem ((c.tc : Thread Cert.MergeFRefIdeal.nD Cert.MergeFRefIdeal.τ).loc Cert.MergeFRefIdeal.main_arg1) = m ((c.tc : Thread Cert.MergeFRefIdeal.nD Cert.MergeFRefIdeal.τ).loc Cert.MergeFRefIdeal.main_arg1)
      ∧ r.2.mem ((c.tc : Thread Cert.MergeFRefIdeal.nD Cert.MergeFRefIdeal.τ).loc Cert.MergeFRefIdeal.main_arg2) = m ((c.tc : Thread Cert.MergeFRefIdeal.nD Cert.MergeFRefIdeal.τ).loc Cert.MergeFRefIdeal.main_arg2)
      ∧ r.2.mem ((c.tc : Thread Cert.MergeFRefIdeal.nD Cert.MergeFRefIdeal.τ).loc Cert.MergeFRefIdeal.main_arg3) = m ((c.tc : Thread Cert.MergeFRefIdeal.nD Cert.MergeFRefIdeal.τ).loc Cert.MergeFRefIdeal.main_arg3)
      ∧ r.2.mem ((c.tc : Thread Cert.MergeFRefIdeal.nD Cert.MergeFRefIdeal.τ).loc Cert.MergeFRefIdeal.main_arg4) = m ((c.tc : Thread Cert.MergeFRefIdeal.nD Cert.MergeFRefIdeal.τ).loc Cert.MergeFRefIdeal.main_arg4))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2)
      ∧ r.2.mem ((c.tc : Thread Cert.ConvF.nD Cert.ConvF.τ).loc Cert.ConvF.main_arg3) = m ((c.tc : Thread Cert.ConvF.nD Cert.ConvF.τ).loc Cert.ConvF.main_arg3)
      ∧ r.2.mem ((c.tc : Thread Cert.ConvF.nD Cert.ConvF.τ).loc Cert.ConvF.main_arg4) = m ((c.tc : Thread Cert.ConvF.nD Cert.ConvF.τ).loc Cert.ConvF.main_arg4))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2)
      ∧ r.2.mem ((c.tc : Thread Cert.ConvFIdeal.nD Cert.ConvFIdeal.τ).loc Cert.ConvFIdeal.main_arg3) = m ((c.tc : Thread Cert.ConvFIdeal.nD Cert.ConvFIdeal.τ).loc Cert.ConvFIdeal.main_arg3)
      ∧ r.2.mem ((c.tc : Thread Cert.ConvFIdeal.nD Cert.ConvFIdeal.τ).loc Cert.ConvFIdeal.main_arg4) = m ((c.tc : Thread Cert.ConvFIdeal.nD Cert.ConvFIdeal.τ).loc Cert.ConvFIdeal.main_arg4))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1)
      ∧ r.2.mem ((c.tc : Thread Cert.ConvFRefIdeal.nD Cert.ConvFRefIdeal.τ).loc Cert.ConvFRefIdeal.main_arg2) = m ((c.tc : Thread Cert.ConvFRefIdeal.nD Cert.ConvFRefIdeal.τ).loc Cert.ConvFRefIdeal.main_arg2)
      ∧ r.2.mem ((c.tc : Thread Cert.ConvFRefIdeal.nD Cert.ConvFRefIdeal.τ).loc Cert.ConvFRefIdeal.main_arg3) = m ((c.tc : Thread Cert.ConvFRefIdeal.nD Cert.ConvFRefIdeal.τ).loc Cert.ConvFRefIdeal.main_arg3)
      ∧ r.2.mem ((c.tc : Thread Cert.ConvFRefIdeal.nD Cert.ConvFRefIdeal.τ).loc Cert.ConvFRefIdeal.main_arg4) = m ((c.tc : Thread Cert.ConvFRefIdeal.nD Cert.ConvFRefIdeal.τ).loc Cert.ConvFRefIdeal.main_arg4))
      ∧ r.2.sem = fun _ => 0)

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v8)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v8) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v17) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v10_0)) (v1 : (c : Dev Cert.NormIdeal.nD) → Buf (Elt Ideal) ((c.tc : Thread Cert.NormIdeal.nD Cert.NormIdeal.τ).loc Cert.NormIdeal.main_v10_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v10_0) = v0 c
          ∧ r.2.mem ((c.tc : Thread Cert.NormIdeal.nD Cert.NormIdeal.τ).loc Cert.NormIdeal.main_v10_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v38) = v0 c
          ∧ r.2.mem ((c.tc : Thread Cert.NormRefIdeal.nD Cert.NormRefIdeal.τ).loc Cert.NormRefIdeal.main_v39) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Mix_MixIdeal : Prop :=
  True

def algebraic_MixIdeal_NormRefIdeal_pre_finite_norm [hMixIdeal : Cert.MixIdeal.Facts] [hNormRefIdeal : Cert.NormRefIdeal.Facts] [hPre_finite_norm : Cert.Pre_finite_norm.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_MixIdeal_finite_norm m →
    (∀ c : Dev Cert.MixIdeal.nD,
      m' ((c.tc : Thread Cert.NormRefIdeal.nD Cert.NormRefIdeal.τ).loc Cert.NormRefIdeal.main_arg0) = m ((c.tc : Thread Cert.MixIdeal.nD Cert.MixIdeal.τ).loc Cert.MixIdeal.main_arg0)
      ∧ m' ((c.tc : Thread Cert.NormRefIdeal.nD Cert.NormRefIdeal.τ).loc Cert.NormRefIdeal.main_arg1) = m ((c.tc : Thread Cert.MixIdeal.nD Cert.MixIdeal.τ).loc Cert.MixIdeal.main_arg1)
      ∧ m' ((c.tc : Thread Cert.NormRefIdeal.nD Cert.NormRefIdeal.τ).loc Cert.NormRefIdeal.main_arg2) = m ((c.tc : Thread Cert.MixIdeal.nD Cert.MixIdeal.τ).loc Cert.MixIdeal.main_arg2)
      ∧ m' ((c.tc : Thread Cert.NormRefIdeal.nD Cert.NormRefIdeal.τ).loc Cert.NormRefIdeal.main_arg3) = m ((c.tc : Thread Cert.MixIdeal.nD Cert.MixIdeal.τ).loc Cert.MixIdeal.main_arg3)
      ∧ m' ((c.tc : Thread Cert.NormRefIdeal.nD Cert.NormRefIdeal.τ).loc Cert.NormRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v38) = v0 c
          ∧ r.2.mem ((c.tc : Thread Cert.NormRefIdeal.nD Cert.NormRefIdeal.τ).loc Cert.NormRefIdeal.main_v39) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)) (v2 : (c : Dev Cert.MergeIdeal.nD) → Buf (Elt Ideal) ((c.tc : Thread Cert.MergeIdeal.nD Cert.MergeIdeal.τ).loc Cert.MergeIdeal.main_v6_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_v6_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v37) = v0 c
          ∧ r.2.mem ((c.tc : Thread Cert.MergeRefIdeal.nD Cert.MergeRefIdeal.τ).loc Cert.MergeRefIdeal.main_v38) = v1 c
          ∧ r.2.mem ((c.tc : Thread Cert.MergeRefIdeal.nD Cert.MergeRefIdeal.τ).loc Cert.MergeRefIdeal.main_v42) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v18) = v0 c
          ∧ r.2.mem ((c.tc : Thread Cert.LossRefIdeal.nD Cert.LossRefIdeal.τ).loc Cert.LossRefIdeal.main_v19) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v38)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v38) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v41) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def preserves_ConvGlu_ConvGluIdeal : Prop :=
  True

def algebraic_ConvGluIdeal_ConvGluRefIdeal [hConvGluIdeal : Cert.ConvGluIdeal.Facts] [hConvGluRefIdeal : Cert.ConvGluRefIdeal.Facts] : Prop :=
  ∀ (m : (ℓ : Loc Cert.ConvGluIdeal.nD Cert.ConvGluIdeal.τ Cert.ConvGluIdeal.sig) → Buf (Elt Ideal) ℓ) (g : Dev Cert.ConvGluIdeal.nD → PrngReg)
    (m' : (ℓ : Loc Cert.ConvGluRefIdeal.nD Cert.ConvGluRefIdeal.τ Cert.ConvGluRefIdeal.sig) → Buf (Elt Ideal) ℓ) (g' : Dev Cert.ConvGluRefIdeal.nD → PrngReg), Pre_ConvGluIdeal m →
    (∀ c : Dev Cert.ConvGluIdeal.nD,
      m' ((c.tc : Thread Cert.ConvGluRefIdeal.nD Cert.ConvGluRefIdeal.τ).loc Cert.ConvGluRefIdeal.main_arg0) = m ((c.tc : Thread Cert.ConvGluIdeal.nD Cert.ConvGluIdeal.τ).loc Cert.ConvGluIdeal.main_arg0)
      ∧ m' ((c.tc : Thread Cert.ConvGluRefIdeal.nD Cert.ConvGluRefIdeal.τ).loc Cert.ConvGluRefIdeal.main_arg1) = m ((c.tc : Thread Cert.ConvGluIdeal.nD Cert.ConvGluIdeal.τ).loc Cert.ConvGluIdeal.main_arg1)
      ∧ m' ((c.tc : Thread Cert.ConvGluRefIdeal.nD Cert.ConvGluRefIdeal.τ).loc Cert.ConvGluRefIdeal.main_arg2) = m ((c.tc : Thread Cert.ConvGluIdeal.nD Cert.ConvGluIdeal.τ).loc Cert.ConvGluIdeal.main_arg2)
      ∧ m' ((c.tc : Thread Cert.ConvGluRefIdeal.nD Cert.ConvGluRefIdeal.τ).loc Cert.ConvGluRefIdeal.main_arg3) = m ((c.tc : Thread Cert.ConvGluIdeal.nD Cert.ConvGluIdeal.τ).loc Cert.ConvGluIdeal.main_arg3)
      ∧ m' ((c.tc : Thread Cert.ConvGluRefIdeal.nD Cert.ConvGluRefIdeal.τ).loc Cert.ConvGluRefIdeal.main_arg4) = m ((c.tc : Thread Cert.ConvGluIdeal.nD Cert.ConvGluIdeal.τ).loc Cert.ConvGluIdeal.main_arg4)
      ∧ m' ((c.tc : Thread Cert.ConvGluRefIdeal.nD Cert.ConvGluRefIdeal.τ).loc Cert.ConvGluRefIdeal.main_arg5) = m ((c.tc : Thread Cert.ConvGluIdeal.nD Cert.ConvGluIdeal.τ).loc Cert.ConvGluIdeal.main_arg5)) →
    ∃ (v0 : (c : Dev Cert.ConvGluIdeal.nD) → Buf (Elt Ideal) ((c.tc : Thread Cert.ConvGluIdeal.nD Cert.ConvGluIdeal.τ).loc Cert.ConvGluIdeal.main_v5)),
      θ_run (Cert.ConvGluIdeal.defs (F := Ideal)) (onTc (τ := Cert.ConvGluIdeal.τ) (Cert.ConvGluIdeal.main (F := Ideal))) ⟨m, fun _ => 0, g⟩ (fun r => ∀ c : Dev Cert.ConvGluIdeal.nD,
          r.2.mem ((c.tc : Thread Cert.ConvGluIdeal.nD Cert.ConvGluIdeal.τ).loc Cert.ConvGluIdeal.main_v5) = v0 c
          ∧ r.2.mem ((c.tc : Thread Cert.ConvGluIdeal.nD Cert.ConvGluIdeal.τ).loc Cert.ConvGluIdeal.main_arg0) = m ((c.tc : Thread Cert.ConvGluIdeal.nD Cert.ConvGluIdeal.τ).loc Cert.ConvGluIdeal.main_arg0)
          ∧ r.2.mem ((c.tc : Thread Cert.ConvGluIdeal.nD Cert.ConvGluIdeal.τ).loc Cert.ConvGluIdeal.main_arg1) = m ((c.tc : Thread Cert.ConvGluIdeal.nD Cert.ConvGluIdeal.τ).loc Cert.ConvGluIdeal.main_arg1)
          ∧ r.2.mem ((c.tc : Thread Cert.ConvGluIdeal.nD Cert.ConvGluIdeal.τ).loc Cert.ConvGluIdeal.main_arg2) = m ((c.tc : Thread Cert.ConvGluIdeal.nD Cert.ConvGluIdeal.τ).loc Cert.ConvGluIdeal.main_arg2)
          ∧ r.2.mem ((c.tc : Thread Cert.ConvGluIdeal.nD Cert.ConvGluIdeal.τ).loc Cert.ConvGluIdeal.main_arg3) = m ((c.tc : Thread Cert.ConvGluIdeal.nD Cert.ConvGluIdeal.τ).loc Cert.ConvGluIdeal.main_arg3)
          ∧ r.2.mem ((c.tc : Thread Cert.ConvGluIdeal.nD Cert.ConvGluIdeal.τ).loc Cert.ConvGluIdeal.main_arg4) = m ((c.tc : Thread Cert.ConvGluIdeal.nD Cert.ConvGluIdeal.τ).loc Cert.ConvGluIdeal.main_arg4)
          ∧ r.2.mem ((c.tc : Thread Cert.ConvGluIdeal.nD Cert.ConvGluIdeal.τ).loc Cert.ConvGluIdeal.main_arg5) = m ((c.tc : Thread Cert.ConvGluIdeal.nD Cert.ConvGluIdeal.τ).loc Cert.ConvGluIdeal.main_arg5))
      ∧ θ_run (Cert.ConvGluRefIdeal.defs (F := Ideal)) (onTc (τ := Cert.ConvGluRefIdeal.τ) (Cert.ConvGluRefIdeal.main (F := Ideal))) ⟨m', fun _ => 0, g'⟩ (fun r => ∀ c : Dev Cert.ConvGluRefIdeal.nD,
          r.2.mem ((c.tc : Thread Cert.ConvGluRefIdeal.nD Cert.ConvGluRefIdeal.τ).loc Cert.ConvGluRefIdeal.main_v393) = v0 c
          ∧ r.2.mem ((c.tc : Thread Cert.ConvGluRefIdeal.nD Cert.ConvGluRefIdeal.τ).loc Cert.ConvGluRefIdeal.main_arg0) = m' ((c.tc : Thread Cert.ConvGluRefIdeal.nD Cert.ConvGluRefIdeal.τ).loc Cert.ConvGluRefIdeal.main_arg0)
          ∧ r.2.mem ((c.tc : Thread Cert.ConvGluRefIdeal.nD Cert.ConvGluRefIdeal.τ).loc Cert.ConvGluRefIdeal.main_arg1) = m' ((c.tc : Thread Cert.ConvGluRefIdeal.nD Cert.ConvGluRefIdeal.τ).loc Cert.ConvGluRefIdeal.main_arg1)
          ∧ r.2.mem ((c.tc : Thread Cert.ConvGluRefIdeal.nD Cert.ConvGluRefIdeal.τ).loc Cert.ConvGluRefIdeal.main_arg2) = m' ((c.tc : Thread Cert.ConvGluRefIdeal.nD Cert.ConvGluRefIdeal.τ).loc Cert.ConvGluRefIdeal.main_arg2)
          ∧ r.2.mem ((c.tc : Thread Cert.ConvGluRefIdeal.nD Cert.ConvGluRefIdeal.τ).loc Cert.ConvGluRefIdeal.main_arg3) = m' ((c.tc : Thread Cert.ConvGluRefIdeal.nD Cert.ConvGluRefIdeal.τ).loc Cert.ConvGluRefIdeal.main_arg3)
          ∧ r.2.mem ((c.tc : Thread Cert.ConvGluRefIdeal.nD Cert.ConvGluRefIdeal.τ).loc Cert.ConvGluRefIdeal.main_arg4) = m' ((c.tc : Thread Cert.ConvGluRefIdeal.nD Cert.ConvGluRefIdeal.τ).loc Cert.ConvGluRefIdeal.main_arg4)
          ∧ r.2.mem ((c.tc : Thread Cert.ConvGluRefIdeal.nD Cert.ConvGluRefIdeal.τ).loc Cert.ConvGluRefIdeal.main_arg5) = m' ((c.tc : Thread Cert.ConvGluRefIdeal.nD Cert.ConvGluRefIdeal.τ).loc Cert.ConvGluRefIdeal.main_arg5))

def preserves_ConvLn_ConvLnIdeal : Prop :=
  True

def algebraic_ConvLnIdeal_ConvLnRefIdeal_pre_finite_convln [hConvLnIdeal : Cert.ConvLnIdeal.Facts] [hConvLnRefIdeal : Cert.ConvLnRefIdeal.Facts] [hPre_finite_convln : Cert.Pre_finite_convln.Facts] : Prop :=
  ∀ (m : (ℓ : Loc Cert.ConvLnIdeal.nD Cert.ConvLnIdeal.τ Cert.ConvLnIdeal.sig) → Buf (Elt Ideal) ℓ) (g : Dev Cert.ConvLnIdeal.nD → PrngReg)
    (m' : (ℓ : Loc Cert.ConvLnRefIdeal.nD Cert.ConvLnRefIdeal.τ Cert.ConvLnRefIdeal.sig) → Buf (Elt Ideal) ℓ) (g' : Dev Cert.ConvLnRefIdeal.nD → PrngReg), Pre_ConvLnIdeal_finite_convln m →
    (∀ c : Dev Cert.ConvLnIdeal.nD,
      m' ((c.tc : Thread Cert.ConvLnRefIdeal.nD Cert.ConvLnRefIdeal.τ).loc Cert.ConvLnRefIdeal.main_arg0) = m ((c.tc : Thread Cert.ConvLnIdeal.nD Cert.ConvLnIdeal.τ).loc Cert.ConvLnIdeal.main_arg0)
      ∧ m' ((c.tc : Thread Cert.ConvLnRefIdeal.nD Cert.ConvLnRefIdeal.τ).loc Cert.ConvLnRefIdeal.main_arg1) = m ((c.tc : Thread Cert.ConvLnIdeal.nD Cert.ConvLnIdeal.τ).loc Cert.ConvLnIdeal.main_arg1)
      ∧ m' ((c.tc : Thread Cert.ConvLnRefIdeal.nD Cert.ConvLnRefIdeal.τ).loc Cert.ConvLnRefIdeal.main_arg2) = m ((c.tc : Thread Cert.ConvLnIdeal.nD Cert.ConvLnIdeal.τ).loc Cert.ConvLnIdeal.main_arg2)
      ∧ m' ((c.tc : Thread Cert.ConvLnRefIdeal.nD Cert.ConvLnRefIdeal.τ).loc Cert.ConvLnRefIdeal.main_arg3) = m ((c.tc : Thread Cert.ConvLnIdeal.nD Cert.ConvLnIdeal.τ).loc Cert.ConvLnIdeal.main_arg3)
      ∧ m' ((c.tc : Thread Cert.ConvLnRefIdeal.nD Cert.ConvLnRefIdeal.τ).loc Cert.ConvLnRefIdeal.main_arg4) = m ((c.tc : Thread Cert.ConvLnIdeal.nD Cert.ConvLnIdeal.τ).loc Cert.ConvLnIdeal.main_arg4)
      ∧ m' ((c.tc : Thread Cert.ConvLnRefIdeal.nD Cert.ConvLnRefIdeal.τ).loc Cert.ConvLnRefIdeal.main_arg5) = m ((c.tc : Thread Cert.ConvLnIdeal.nD Cert.ConvLnIdeal.τ).loc Cert.ConvLnIdeal.main_arg5)) →
    ∃ (v0 : (c : Dev Cert.ConvLnIdeal.nD) → Buf (Elt Ideal) ((c.tc : Thread Cert.ConvLnIdeal.nD Cert.ConvLnIdeal.τ).loc Cert.ConvLnIdeal.main_v234_0)) (v1 : (c : Dev Cert.ConvLnIdeal.nD) → Buf (Elt Ideal) ((c.tc : Thread Cert.ConvLnIdeal.nD Cert.ConvLnIdeal.τ).loc Cert.ConvLnIdeal.main_v234_2)) (v2 : (c : Dev Cert.ConvLnIdeal.nD) → Buf (Elt Ideal) ((c.tc : Thread Cert.ConvLnIdeal.nD Cert.ConvLnIdeal.τ).loc Cert.ConvLnIdeal.main_v234_3)) (v3 : (c : Dev Cert.ConvLnIdeal.nD) → Buf (Elt Ideal) ((c.tc : Thread Cert.ConvLnIdeal.nD Cert.ConvLnIdeal.τ).loc Cert.ConvLnIdeal.main_v234_4)),
      θ_run (Cert.ConvLnIdeal.defs (F := Ideal)) (onTc (τ := Cert.ConvLnIdeal.τ) (Cert.ConvLnIdeal.main (F := Ideal))) ⟨m, fun _ => 0, g⟩ (fun r => ∀ c : Dev Cert.ConvLnIdeal.nD,
          r.2.mem ((c.tc : Thread Cert.ConvLnIdeal.nD Cert.ConvLnIdeal.τ).loc Cert.ConvLnIdeal.main_v234_0) = v0 c
          ∧ r.2.mem ((c.tc : Thread Cert.ConvLnIdeal.nD Cert.ConvLnIdeal.τ).loc Cert.ConvLnIdeal.main_v234_2) = v1 c
          ∧ r.2.mem ((c.tc : Thread Cert.ConvLnIdeal.nD Cert.ConvLnIdeal.τ).loc Cert.ConvLnIdeal.main_v234_3) = v2 c
          ∧ r.2.mem ((c.tc : Thread Cert.ConvLnIdeal.nD Cert.ConvLnIdeal.τ).loc Cert.ConvLnIdeal.main_v234_4) = v3 c
          ∧ r.2.mem ((c.tc : Thread Cert.ConvLnIdeal.nD Cert.ConvLnIdeal.τ).loc Cert.ConvLnIdeal.main_arg0) = m ((c.tc : Thread Cert.ConvLnIdeal.nD Cert.ConvLnIdeal.τ).loc Cert.ConvLnIdeal.main_arg0)
          ∧ r.2.mem ((c.tc : Thread Cert.ConvLnIdeal.nD Cert.ConvLnIdeal.τ).loc Cert.ConvLnIdeal.main_arg1) = m ((c.tc : Thread Cert.ConvLnIdeal.nD Cert.ConvLnIdeal.τ).loc Cert.ConvLnIdeal.main_arg1)
          ∧ r.2.mem ((c.tc : Thread Cert.ConvLnIdeal.nD Cert.ConvLnIdeal.τ).loc Cert.ConvLnIdeal.main_arg2) = m ((c.tc : Thread Cert.ConvLnIdeal.nD Cert.ConvLnIdeal.τ).loc Cert.ConvLnIdeal.main_arg2)
          ∧ r.2.mem ((c.tc : Thread Cert.ConvLnIdeal.nD Cert.ConvLnIdeal.τ).loc Cert.ConvLnIdeal.main_arg3) = m ((c.tc : Thread Cert.ConvLnIdeal.nD Cert.ConvLnIdeal.τ).loc Cert.ConvLnIdeal.main_arg3)
          ∧ r.2.mem ((c.tc : Thread Cert.ConvLnIdeal.nD Cert.ConvLnIdeal.τ).loc Cert.ConvLnIdeal.main_arg4) = m ((c.tc : Thread Cert.ConvLnIdeal.nD Cert.ConvLnIdeal.τ).loc Cert.ConvLnIdeal.main_arg4)
          ∧ r.2.mem ((c.tc : Thread Cert.ConvLnIdeal.nD Cert.ConvLnIdeal.τ).loc Cert.ConvLnIdeal.main_arg5) = m ((c.tc : Thread Cert.ConvLnIdeal.nD Cert.ConvLnIdeal.τ).loc Cert.ConvLnIdeal.main_arg5))
      ∧ θ_run (Cert.ConvLnRefIdeal.defs (F := Ideal)) (onTc (τ := Cert.ConvLnRefIdeal.τ) (Cert.ConvLnRefIdeal.main (F := Ideal))) ⟨m', fun _ => 0, g'⟩ (fun r => ∀ c : Dev Cert.ConvLnRefIdeal.nD,
          r.2.mem ((c.tc : Thread Cert.ConvLnRefIdeal.nD Cert.ConvLnRefIdeal.τ).loc Cert.ConvLnRefIdeal.main_v293) = v0 c
          ∧ r.2.mem ((c.tc : Thread Cert.ConvLnRefIdeal.nD Cert.ConvLnRefIdeal.τ).loc Cert.ConvLnRefIdeal.main_v297) = v1 c
          ∧ r.2.mem ((c.tc : Thread Cert.ConvLnRefIdeal.nD Cert.ConvLnRefIdeal.τ).loc Cert.ConvLnRefIdeal.main_v298) = v2 c
          ∧ r.2.mem ((c.tc : Thread Cert.ConvLnRefIdeal.nD Cert.ConvLnRefIdeal.τ).loc Cert.ConvLnRefIdeal.main_v299) = v3 c
          ∧ r.2.mem ((c.tc : Thread Cert.ConvLnRefIdeal.nD Cert.ConvLnRefIdeal.τ).loc Cert.ConvLnRefIdeal.main_arg0) = m' ((c.tc : Thread Cert.ConvLnRefIdeal.nD Cert.ConvLnRefIdeal.τ).loc Cert.ConvLnRefIdeal.main_arg0)
          ∧ r.2.mem ((c.tc : Thread Cert.ConvLnRefIdeal.nD Cert.ConvLnRefIdeal.τ).loc Cert.ConvLnRefIdeal.main_arg1) = m' ((c.tc : Thread Cert.ConvLnRefIdeal.nD Cert.ConvLnRefIdeal.τ).loc Cert.ConvLnRefIdeal.main_arg1)
          ∧ r.2.mem ((c.tc : Thread Cert.ConvLnRefIdeal.nD Cert.ConvLnRefIdeal.τ).loc Cert.ConvLnRefIdeal.main_arg2) = m' ((c.tc : Thread Cert.ConvLnRefIdeal.nD Cert.ConvLnRefIdeal.τ).loc Cert.ConvLnRefIdeal.main_arg2)
          ∧ r.2.mem ((c.tc : Thread Cert.ConvLnRefIdeal.nD Cert.ConvLnRefIdeal.τ).loc Cert.ConvLnRefIdeal.main_arg3) = m' ((c.tc : Thread Cert.ConvLnRefIdeal.nD Cert.ConvLnRefIdeal.τ).loc Cert.ConvLnRefIdeal.main_arg3)
          ∧ r.2.mem ((c.tc : Thread Cert.ConvLnRefIdeal.nD Cert.ConvLnRefIdeal.τ).loc Cert.ConvLnRefIdeal.main_arg4) = m' ((c.tc : Thread Cert.ConvLnRefIdeal.nD Cert.ConvLnRefIdeal.τ).loc Cert.ConvLnRefIdeal.main_arg4)
          ∧ r.2.mem ((c.tc : Thread Cert.ConvLnRefIdeal.nD Cert.ConvLnRefIdeal.τ).loc Cert.ConvLnRefIdeal.main_arg5) = m' ((c.tc : Thread Cert.ConvLnRefIdeal.nD Cert.ConvLnRefIdeal.τ).loc Cert.ConvLnRefIdeal.main_arg5))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v94_0)) (v1 : (c : Dev Cert.AttnIdeal.nD) → Buf (Elt Ideal) ((c.tc : Thread Cert.AttnIdeal.nD Cert.AttnIdeal.τ).loc Cert.AttnIdeal.main_v94_1)) (v2 : (c : Dev Cert.AttnIdeal.nD) → Buf (Elt Ideal) ((c.tc : Thread Cert.AttnIdeal.nD Cert.AttnIdeal.τ).loc Cert.AttnIdeal.main_v94_2)) (v3 : (c : Dev Cert.AttnIdeal.nD) → Buf (Elt Ideal) ((c.tc : Thread Cert.AttnIdeal.nD Cert.AttnIdeal.τ).loc Cert.AttnIdeal.main_v94_3)) (v4 : (c : Dev Cert.AttnIdeal.nD) → Buf (Elt Ideal) ((c.tc : Thread Cert.AttnIdeal.nD Cert.AttnIdeal.τ).loc Cert.AttnIdeal.main_v94_4)) (v5 : (c : Dev Cert.AttnIdeal.nD) → Buf (Elt Ideal) ((c.tc : Thread Cert.AttnIdeal.nD Cert.AttnIdeal.τ).loc Cert.AttnIdeal.main_v94_5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v94_0) = v0 c
          ∧ r.2.mem ((c.tc : Thread Cert.AttnIdeal.nD Cert.AttnIdeal.τ).loc Cert.AttnIdeal.main_v94_1) = v1 c
          ∧ r.2.mem ((c.tc : Thread Cert.AttnIdeal.nD Cert.AttnIdeal.τ).loc Cert.AttnIdeal.main_v94_2) = v2 c
          ∧ r.2.mem ((c.tc : Thread Cert.AttnIdeal.nD Cert.AttnIdeal.τ).loc Cert.AttnIdeal.main_v94_3) = v3 c
          ∧ r.2.mem ((c.tc : Thread Cert.AttnIdeal.nD Cert.AttnIdeal.τ).loc Cert.AttnIdeal.main_v94_4) = v4 c
          ∧ r.2.mem ((c.tc : Thread Cert.AttnIdeal.nD Cert.AttnIdeal.τ).loc Cert.AttnIdeal.main_v94_5) = v5 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v232) = v0 c
          ∧ r.2.mem ((c.tc : Thread Cert.AttnRefIdeal.nD Cert.AttnRefIdeal.τ).loc Cert.AttnRefIdeal.main_v233) = v1 c
          ∧ r.2.mem ((c.tc : Thread Cert.AttnRefIdeal.nD Cert.AttnRefIdeal.τ).loc Cert.AttnRefIdeal.main_v234) = v2 c
          ∧ r.2.mem ((c.tc : Thread Cert.AttnRefIdeal.nD Cert.AttnRefIdeal.τ).loc Cert.AttnRefIdeal.main_v235) = v3 c
          ∧ r.2.mem ((c.tc : Thread Cert.AttnRefIdeal.nD Cert.AttnRefIdeal.τ).loc Cert.AttnRefIdeal.main_v236) = v4 c
          ∧ r.2.mem ((c.tc : Thread Cert.AttnRefIdeal.nD Cert.AttnRefIdeal.τ).loc Cert.AttnRefIdeal.main_v237) = v5 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_AttnF_AttnFIdeal : Prop :=
  True

def algebraic_AttnFIdeal_AttnFRefIdeal_pre_finite_attnf [hAttnFIdeal : Cert.AttnFIdeal.Facts] [hAttnFRefIdeal : Cert.AttnFRefIdeal.Facts] [hPre_finite_attnf : Cert.Pre_finite_attnf.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_finite_attnf m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)
      ∧ m' ((c.tc : Thread Cert.AttnFRefIdeal.nD Cert.AttnFRefIdeal.τ).loc Cert.AttnFRefIdeal.main_arg3) = m ((c.tc : Thread Cert.AttnFIdeal.nD Cert.AttnFIdeal.τ).loc Cert.AttnFIdeal.main_arg3)
      ∧ m' ((c.tc : Thread Cert.AttnFRefIdeal.nD Cert.AttnFRefIdeal.τ).loc Cert.AttnFRefIdeal.main_arg4) = m ((c.tc : Thread Cert.AttnFIdeal.nD Cert.AttnFIdeal.τ).loc Cert.AttnFIdeal.main_arg4)) →
    ∃ (v0 : (c : Dev Cert.AttnFIdeal.nD) → Buf (Elt Ideal) ((c.tc : Thread Cert.AttnFIdeal.nD Cert.AttnFIdeal.τ).loc Cert.AttnFIdeal.main_v25_0)) (v1 : (c : Dev Cert.AttnFIdeal.nD) → Buf (Elt Ideal) ((c.tc : Thread Cert.AttnFIdeal.nD Cert.AttnFIdeal.τ).loc Cert.AttnFIdeal.main_v25_1)) (v2 : (c : Dev Cert.AttnFIdeal.nD) → Buf (Elt Ideal) ((c.tc : Thread Cert.AttnFIdeal.nD Cert.AttnFIdeal.τ).loc Cert.AttnFIdeal.main_v25_2)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v25_0) = v0 c
          ∧ r.2.mem ((c.tc : Thread Cert.AttnFIdeal.nD Cert.AttnFIdeal.τ).loc Cert.AttnFIdeal.main_v25_1) = v1 c
          ∧ r.2.mem ((c.tc : Thread Cert.AttnFIdeal.nD Cert.AttnFIdeal.τ).loc Cert.AttnFIdeal.main_v25_2) = v2 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
          ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
          ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v101) = v0 c
          ∧ r.2.mem ((c.tc : Thread Cert.AttnFRefIdeal.nD Cert.AttnFRefIdeal.τ).loc Cert.AttnFRefIdeal.main_v103) = v1 c
          ∧ r.2.mem ((c.tc : Thread Cert.AttnFRefIdeal.nD Cert.AttnFRefIdeal.τ).loc Cert.AttnFRefIdeal.main_v104) = v2 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2)
          ∧ r.2.mem ((c.tc : Thread Cert.AttnFRefIdeal.nD Cert.AttnFRefIdeal.τ).loc Cert.AttnFRefIdeal.main_arg3) = m' ((c.tc : Thread Cert.AttnFRefIdeal.nD Cert.AttnFRefIdeal.τ).loc Cert.AttnFRefIdeal.main_arg3)
          ∧ r.2.mem ((c.tc : Thread Cert.AttnFRefIdeal.nD Cert.AttnFRefIdeal.τ).loc Cert.AttnFRefIdeal.main_arg4) = m' ((c.tc : Thread Cert.AttnFRefIdeal.nD Cert.AttnFRefIdeal.τ).loc Cert.AttnFRefIdeal.main_arg4))

def preserves_RmsF_RmsFIdeal : Prop :=
  True

def algebraic_RmsFIdeal_RmsFRefIdeal [hRmsFIdeal : Cert.RmsFIdeal.Facts] [hRmsFRefIdeal : Cert.RmsFRefIdeal.Facts] : Prop :=
  ∀ (m : (ℓ : Loc Cert.RmsFIdeal.nD Cert.RmsFIdeal.τ Cert.RmsFIdeal.sig) → Buf (Elt Ideal) ℓ) (g : Dev Cert.RmsFIdeal.nD → PrngReg)
    (m' : (ℓ : Loc Cert.RmsFRefIdeal.nD Cert.RmsFRefIdeal.τ Cert.RmsFRefIdeal.sig) → Buf (Elt Ideal) ℓ) (g' : Dev Cert.RmsFRefIdeal.nD → PrngReg), Pre_RmsFIdeal m →
    (∀ c : Dev Cert.RmsFIdeal.nD,
      m' ((c.tc : Thread Cert.RmsFRefIdeal.nD Cert.RmsFRefIdeal.τ).loc Cert.RmsFRefIdeal.main_arg0) = m ((c.tc : Thread Cert.RmsFIdeal.nD Cert.RmsFIdeal.τ).loc Cert.RmsFIdeal.main_arg0)
      ∧ m' ((c.tc : Thread Cert.RmsFRefIdeal.nD Cert.RmsFRefIdeal.τ).loc Cert.RmsFRefIdeal.main_arg1) = m ((c.tc : Thread Cert.RmsFIdeal.nD Cert.RmsFIdeal.τ).loc Cert.RmsFIdeal.main_arg1)) →
    ∃ (v0 : (c : Dev Cert.RmsFIdeal.nD) → Buf (Elt Ideal) ((c.tc : Thread Cert.RmsFIdeal.nD Cert.RmsFIdeal.τ).loc Cert.RmsFIdeal.main_v1)),
      θ_run (Cert.RmsFIdeal.defs (F := Ideal)) (onTc (τ := Cert.RmsFIdeal.τ) (Cert.RmsFIdeal.main (F := Ideal))) ⟨m, fun _ => 0, g⟩ (fun r => ∀ c : Dev Cert.RmsFIdeal.nD,
          r.2.mem ((c.tc : Thread Cert.RmsFIdeal.nD Cert.RmsFIdeal.τ).loc Cert.RmsFIdeal.main_v1) = v0 c
          ∧ r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
          ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ θ_run (Cert.RmsFRefIdeal.defs (F := Ideal)) (onTc (τ := Cert.RmsFRefIdeal.τ) (Cert.RmsFRefIdeal.main (F := Ideal))) ⟨m', fun _ => 0, g'⟩ (fun r => ∀ c : Dev Cert.RmsFRefIdeal.nD,
          r.2.mem ((c.tc : Thread Cert.RmsFRefIdeal.nD Cert.RmsFRefIdeal.τ).loc Cert.RmsFRefIdeal.main_v13) = v0 c
          ∧ r.2.mem ((c.tc : Thread Cert.RmsFRefIdeal.nD Cert.RmsFRefIdeal.τ).loc Cert.RmsFRefIdeal.main_arg0) = m' ((c.tc : Thread Cert.RmsFRefIdeal.nD Cert.RmsFRefIdeal.τ).loc Cert.RmsFRefIdeal.main_arg0)
          ∧ r.2.mem ((c.tc : Thread Cert.RmsFRefIdeal.nD Cert.RmsFRefIdeal.τ).loc Cert.RmsFRefIdeal.main_arg1) = m' ((c.tc : Thread Cert.RmsFRefIdeal.nD Cert.RmsFRefIdeal.τ).loc Cert.RmsFRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v4_0)) (v1 : (c : Dev Cert.FfnInIdeal.nD) → Buf (Elt Ideal) ((c.tc : Thread Cert.FfnInIdeal.nD Cert.FfnInIdeal.τ).loc Cert.FfnInIdeal.main_v4_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v4_0) = v0 c
          ∧ r.2.mem ((c.tc : Thread Cert.FfnInIdeal.nD Cert.FfnInIdeal.τ).loc Cert.FfnInIdeal.main_v4_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v6) = v0 c
          ∧ r.2.mem ((c.tc : Thread Cert.FfnInRefIdeal.nD Cert.FfnInRefIdeal.τ).loc Cert.FfnInRefIdeal.main_v9) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v3_0)) (v1 : (c : Dev Cert.FfnOutIdeal.nD) → Buf (Elt Ideal) ((c.tc : Thread Cert.FfnOutIdeal.nD Cert.FfnOutIdeal.τ).loc Cert.FfnOutIdeal.main_v3_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v3_0) = v0 c
          ∧ r.2.mem ((c.tc : Thread Cert.FfnOutIdeal.nD Cert.FfnOutIdeal.τ).loc Cert.FfnOutIdeal.main_v3_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_v17) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v3_0)) (v1 : (c : Dev Cert.MixOutIdeal.nD) → Buf (Elt Ideal) ((c.tc : Thread Cert.MixOutIdeal.nD Cert.MixOutIdeal.τ).loc Cert.MixOutIdeal.main_v3_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3_0) = v0 c
          ∧ r.2.mem ((c.tc : Thread Cert.MixOutIdeal.nD Cert.MixOutIdeal.τ).loc Cert.MixOutIdeal.main_v3_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v1) = v0 c
          ∧ r.2.mem ((c.tc : Thread Cert.MixOutRefIdeal.nD Cert.MixOutRefIdeal.τ).loc Cert.MixOutRefIdeal.main_v15) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_MergeF_MergeFIdeal : Prop :=
  True

def algebraic_MergeFIdeal_MergeFRefIdeal [hMergeFIdeal : Cert.MergeFIdeal.Facts] [hMergeFRefIdeal : Cert.MergeFRefIdeal.Facts] : Prop :=
  ∀ (m : (ℓ : Loc Cert.MergeFIdeal.nD Cert.MergeFIdeal.τ Cert.MergeFIdeal.sig) → Buf (Elt Ideal) ℓ) (g : Dev Cert.MergeFIdeal.nD → PrngReg)
    (m' : (ℓ : Loc Cert.MergeFRefIdeal.nD Cert.MergeFRefIdeal.τ Cert.MergeFRefIdeal.sig) → Buf (Elt Ideal) ℓ) (g' : Dev Cert.MergeFRefIdeal.nD → PrngReg), Pre_MergeFIdeal m →
    (∀ c : Dev Cert.MergeFIdeal.nD,
      m' ((c.tc : Thread Cert.MergeFRefIdeal.nD Cert.MergeFRefIdeal.τ).loc Cert.MergeFRefIdeal.main_arg0) = m ((c.tc : Thread Cert.MergeFIdeal.nD Cert.MergeFIdeal.τ).loc Cert.MergeFIdeal.main_arg0)
      ∧ m' ((c.tc : Thread Cert.MergeFRefIdeal.nD Cert.MergeFRefIdeal.τ).loc Cert.MergeFRefIdeal.main_arg1) = m ((c.tc : Thread Cert.MergeFIdeal.nD Cert.MergeFIdeal.τ).loc Cert.MergeFIdeal.main_arg1)
      ∧ m' ((c.tc : Thread Cert.MergeFRefIdeal.nD Cert.MergeFRefIdeal.τ).loc Cert.MergeFRefIdeal.main_arg2) = m ((c.tc : Thread Cert.MergeFIdeal.nD Cert.MergeFIdeal.τ).loc Cert.MergeFIdeal.main_arg2)
      ∧ m' ((c.tc : Thread Cert.MergeFRefIdeal.nD Cert.MergeFRefIdeal.τ).loc Cert.MergeFRefIdeal.main_arg3) = m ((c.tc : Thread Cert.MergeFIdeal.nD Cert.MergeFIdeal.τ).loc Cert.MergeFIdeal.main_arg3)
      ∧ m' ((c.tc : Thread Cert.MergeFRefIdeal.nD Cert.MergeFRefIdeal.τ).loc Cert.MergeFRefIdeal.main_arg4) = m ((c.tc : Thread Cert.MergeFIdeal.nD Cert.MergeFIdeal.τ).loc Cert.MergeFIdeal.main_arg4)) →
    ∃ (v0 : (c : Dev Cert.MergeFIdeal.nD) → Buf (Elt Ideal) ((c.tc : Thread Cert.MergeFIdeal.nD Cert.MergeFIdeal.τ).loc Cert.MergeFIdeal.main_v5_0)) (v1 : (c : Dev Cert.MergeFIdeal.nD) → Buf (Elt Ideal) ((c.tc : Thread Cert.MergeFIdeal.nD Cert.MergeFIdeal.τ).loc Cert.MergeFIdeal.main_v5_1)) (v2 : (c : Dev Cert.MergeFIdeal.nD) → Buf (Elt Ideal) ((c.tc : Thread Cert.MergeFIdeal.nD Cert.MergeFIdeal.τ).loc Cert.MergeFIdeal.main_v5_2)),
      θ_run (Cert.MergeFIdeal.defs (F := Ideal)) (onTc (τ := Cert.MergeFIdeal.τ) (Cert.MergeFIdeal.main (F := Ideal))) ⟨m, fun _ => 0, g⟩ (fun r => ∀ c : Dev Cert.MergeFIdeal.nD,
          r.2.mem ((c.tc : Thread Cert.MergeFIdeal.nD Cert.MergeFIdeal.τ).loc Cert.MergeFIdeal.main_v5_0) = v0 c
          ∧ r.2.mem ((c.tc : Thread Cert.MergeFIdeal.nD Cert.MergeFIdeal.τ).loc Cert.MergeFIdeal.main_v5_1) = v1 c
          ∧ r.2.mem ((c.tc : Thread Cert.MergeFIdeal.nD Cert.MergeFIdeal.τ).loc Cert.MergeFIdeal.main_v5_2) = v2 c
          ∧ r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
          ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
          ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
          ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3)
          ∧ r.2.mem ((c.tc : Thread Cert.MergeFIdeal.nD Cert.MergeFIdeal.τ).loc Cert.MergeFIdeal.main_arg4) = m ((c.tc : Thread Cert.MergeFIdeal.nD Cert.MergeFIdeal.τ).loc Cert.MergeFIdeal.main_arg4))
      ∧ θ_run (Cert.MergeFRefIdeal.defs (F := Ideal)) (onTc (τ := Cert.MergeFRefIdeal.τ) (Cert.MergeFRefIdeal.main (F := Ideal))) ⟨m', fun _ => 0, g'⟩ (fun r => ∀ c : Dev Cert.MergeFRefIdeal.nD,
          r.2.mem ((c.tc : Thread Cert.MergeFRefIdeal.nD Cert.MergeFRefIdeal.τ).loc Cert.MergeFRefIdeal.main_v23) = v0 c
          ∧ r.2.mem ((c.tc : Thread Cert.MergeFRefIdeal.nD Cert.MergeFRefIdeal.τ).loc Cert.MergeFRefIdeal.main_v24) = v1 c
          ∧ r.2.mem ((c.tc : Thread Cert.MergeFRefIdeal.nD Cert.MergeFRefIdeal.τ).loc Cert.MergeFRefIdeal.main_v25) = v2 c
          ∧ r.2.mem ((c.tc : Thread Cert.MergeFRefIdeal.nD Cert.MergeFRefIdeal.τ).loc Cert.MergeFRefIdeal.main_arg0) = m' ((c.tc : Thread Cert.MergeFRefIdeal.nD Cert.MergeFRefIdeal.τ).loc Cert.MergeFRefIdeal.main_arg0)
          ∧ r.2.mem ((c.tc : Thread Cert.MergeFRefIdeal.nD Cert.MergeFRefIdeal.τ).loc Cert.MergeFRefIdeal.main_arg1) = m' ((c.tc : Thread Cert.MergeFRefIdeal.nD Cert.MergeFRefIdeal.τ).loc Cert.MergeFRefIdeal.main_arg1)
          ∧ r.2.mem ((c.tc : Thread Cert.MergeFRefIdeal.nD Cert.MergeFRefIdeal.τ).loc Cert.MergeFRefIdeal.main_arg2) = m' ((c.tc : Thread Cert.MergeFRefIdeal.nD Cert.MergeFRefIdeal.τ).loc Cert.MergeFRefIdeal.main_arg2)
          ∧ r.2.mem ((c.tc : Thread Cert.MergeFRefIdeal.nD Cert.MergeFRefIdeal.τ).loc Cert.MergeFRefIdeal.main_arg3) = m' ((c.tc : Thread Cert.MergeFRefIdeal.nD Cert.MergeFRefIdeal.τ).loc Cert.MergeFRefIdeal.main_arg3)
          ∧ r.2.mem ((c.tc : Thread Cert.MergeFRefIdeal.nD Cert.MergeFRefIdeal.τ).loc Cert.MergeFRefIdeal.main_arg4) = m' ((c.tc : Thread Cert.MergeFRefIdeal.nD Cert.MergeFRefIdeal.τ).loc Cert.MergeFRefIdeal.main_arg4))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)
      ∧ m' ((c.tc : Thread Cert.ConvFRefIdeal.nD Cert.ConvFRefIdeal.τ).loc Cert.ConvFRefIdeal.main_arg2) = m ((c.tc : Thread Cert.ConvFIdeal.nD Cert.ConvFIdeal.τ).loc Cert.ConvFIdeal.main_arg2)
      ∧ m' ((c.tc : Thread Cert.ConvFRefIdeal.nD Cert.ConvFRefIdeal.τ).loc Cert.ConvFRefIdeal.main_arg3) = m ((c.tc : Thread Cert.ConvFIdeal.nD Cert.ConvFIdeal.τ).loc Cert.ConvFIdeal.main_arg3)
      ∧ m' ((c.tc : Thread Cert.ConvFRefIdeal.nD Cert.ConvFRefIdeal.τ).loc Cert.ConvFRefIdeal.main_arg4) = m ((c.tc : Thread Cert.ConvFIdeal.nD Cert.ConvFIdeal.τ).loc Cert.ConvFIdeal.main_arg4)) →
    ∃ (v0 : (c : Dev Cert.ConvFIdeal.nD) → Buf (Elt Ideal) ((c.tc : Thread Cert.ConvFIdeal.nD Cert.ConvFIdeal.τ).loc Cert.ConvFIdeal.main_v5_0)) (v1 : (c : Dev Cert.ConvFIdeal.nD) → Buf (Elt Ideal) ((c.tc : Thread Cert.ConvFIdeal.nD Cert.ConvFIdeal.τ).loc Cert.ConvFIdeal.main_v5_1)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v5_0) = v0 c
          ∧ r.2.mem ((c.tc : Thread Cert.ConvFIdeal.nD Cert.ConvFIdeal.τ).loc Cert.ConvFIdeal.main_v5_1) = v1 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
          ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2)
          ∧ r.2.mem ((c.tc : Thread Cert.ConvFIdeal.nD Cert.ConvFIdeal.τ).loc Cert.ConvFIdeal.main_arg3) = m ((c.tc : Thread Cert.ConvFIdeal.nD Cert.ConvFIdeal.τ).loc Cert.ConvFIdeal.main_arg3)
          ∧ r.2.mem ((c.tc : Thread Cert.ConvFIdeal.nD Cert.ConvFIdeal.τ).loc Cert.ConvFIdeal.main_arg4) = m ((c.tc : Thread Cert.ConvFIdeal.nD Cert.ConvFIdeal.τ).loc Cert.ConvFIdeal.main_arg4))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v255) = v0 c
          ∧ r.2.mem ((c.tc : Thread Cert.ConvFRefIdeal.nD Cert.ConvFRefIdeal.τ).loc Cert.ConvFRefIdeal.main_v229) = v1 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1)
          ∧ r.2.mem ((c.tc : Thread Cert.ConvFRefIdeal.nD Cert.ConvFRefIdeal.τ).loc Cert.ConvFRefIdeal.main_arg2) = m' ((c.tc : Thread Cert.ConvFRefIdeal.nD Cert.ConvFRefIdeal.τ).loc Cert.ConvFRefIdeal.main_arg2)
          ∧ r.2.mem ((c.tc : Thread Cert.ConvFRefIdeal.nD Cert.ConvFRefIdeal.τ).loc Cert.ConvFRefIdeal.main_arg3) = m' ((c.tc : Thread Cert.ConvFRefIdeal.nD Cert.ConvFRefIdeal.τ).loc Cert.ConvFRefIdeal.main_arg3)
          ∧ r.2.mem ((c.tc : Thread Cert.ConvFRefIdeal.nD Cert.ConvFRefIdeal.τ).loc Cert.ConvFRefIdeal.main_arg4) = m' ((c.tc : Thread Cert.ConvFRefIdeal.nD Cert.ConvFRefIdeal.τ).loc Cert.ConvFRefIdeal.main_arg4))

def Claim : Prop :=
  ∃ (hGate : Cert.Gate.Facts) (hGateIdeal : Cert.GateIdeal.Facts) (hGateRefIdeal : Cert.GateRefIdeal.Facts) (hNorm : Cert.Norm.Facts) (hNormIdeal : Cert.NormIdeal.Facts) (hNormRefIdeal : Cert.NormRefIdeal.Facts) (hMix : Cert.Mix.Facts) (hMixIdeal : Cert.MixIdeal.Facts) (hMerge : Cert.Merge.Facts) (hMergeIdeal : Cert.MergeIdeal.Facts) (hMergeRefIdeal : Cert.MergeRefIdeal.Facts) (hLoss : Cert.Loss.Facts) (hLossIdeal : Cert.LossIdeal.Facts) (hLossRefIdeal : Cert.LossRefIdeal.Facts) (hBias : Cert.Bias.Facts) (hBiasIdeal : Cert.BiasIdeal.Facts) (hBiasRefIdeal : Cert.BiasRefIdeal.Facts) (hConvGlu : Cert.ConvGlu.Facts) (hConvGluIdeal : Cert.ConvGluIdeal.Facts) (hConvGluRefIdeal : Cert.ConvGluRefIdeal.Facts) (hConvLn : Cert.ConvLn.Facts) (hConvLnIdeal : Cert.ConvLnIdeal.Facts) (hConvLnRefIdeal : Cert.ConvLnRefIdeal.Facts) (hAttn : Cert.Attn.Facts) (hAttnIdeal : Cert.AttnIdeal.Facts) (hAttnRefIdeal : Cert.AttnRefIdeal.Facts) (hAttnF : Cert.AttnF.Facts) (hAttnFIdeal : Cert.AttnFIdeal.Facts) (hAttnFRefIdeal : Cert.AttnFRefIdeal.Facts) (hRmsF : Cert.RmsF.Facts) (hRmsFIdeal : Cert.RmsFIdeal.Facts) (hRmsFRefIdeal : Cert.RmsFRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hMixOut : Cert.MixOut.Facts) (hMixOutIdeal : Cert.MixOutIdeal.Facts) (hMixOutRefIdeal : Cert.MixOutRefIdeal.Facts) (hMergeF : Cert.MergeF.Facts) (hMergeFIdeal : Cert.MergeFIdeal.Facts) (hMergeFRefIdeal : Cert.MergeFRefIdeal.Facts) (hConvF : Cert.ConvF.Facts) (hConvFIdeal : Cert.ConvFIdeal.Facts) (hConvFRefIdeal : Cert.ConvFRefIdeal.Facts) (hPre_finite_gate : Cert.Pre_finite_gate.Facts) (hPre_finite_norm : Cert.Pre_finite_norm.Facts) (hPre_finite_convln : Cert.Pre_finite_convln.Facts) (hPre_finite_attn : Cert.Pre_finite_attn.Facts) (hPre_finite_attnf : Cert.Pre_finite_attnf.Facts),
    quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_Mix (hMix := hMix)
    ∧ quiescent_MixIdeal (hMixIdeal := hMixIdeal)
    ∧ quiescent_MixIdeal_pre_finite_norm (hMixIdeal := hMixIdeal) (hPre_finite_norm := hPre_finite_norm)
    ∧ quiescent_Merge (hMerge := hMerge)
    ∧ quiescent_MergeIdeal (hMergeIdeal := hMergeIdeal)
    ∧ quiescent_MergeRefIdeal (hMergeRefIdeal := hMergeRefIdeal)
    ∧ quiescent_Loss (hLoss := hLoss)
    ∧ quiescent_LossIdeal (hLossIdeal := hLossIdeal)
    ∧ quiescent_LossRefIdeal (hLossRefIdeal := hLossRefIdeal)
    ∧ quiescent_Bias (hBias := hBias)
    ∧ quiescent_BiasIdeal (hBiasIdeal := hBiasIdeal)
    ∧ quiescent_BiasRefIdeal (hBiasRefIdeal := hBiasRefIdeal)
    ∧ quiescent_ConvGlu (hConvGlu := hConvGlu)
    ∧ quiescent_ConvGluIdeal (hConvGluIdeal := hConvGluIdeal)
    ∧ quiescent_ConvGluRefIdeal (hConvGluRefIdeal := hConvGluRefIdeal)
    ∧ quiescent_ConvLn (hConvLn := hConvLn)
    ∧ quiescent_ConvLnIdeal (hConvLnIdeal := hConvLnIdeal)
    ∧ quiescent_ConvLnIdeal_pre_finite_convln (hConvLnIdeal := hConvLnIdeal) (hPre_finite_convln := hPre_finite_convln)
    ∧ quiescent_ConvLnRefIdeal (hConvLnRefIdeal := hConvLnRefIdeal)
    ∧ quiescent_ConvLnRefIdeal_pre_finite_convln (hConvLnRefIdeal := hConvLnRefIdeal) (hPre_finite_convln := hPre_finite_convln)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_AttnF (hAttnF := hAttnF)
    ∧ quiescent_AttnFIdeal (hAttnFIdeal := hAttnFIdeal)
    ∧ quiescent_AttnFIdeal_pre_finite_attnf (hAttnFIdeal := hAttnFIdeal) (hPre_finite_attnf := hPre_finite_attnf)
    ∧ quiescent_AttnFRefIdeal (hAttnFRefIdeal := hAttnFRefIdeal)
    ∧ quiescent_AttnFRefIdeal_pre_finite_attnf (hAttnFRefIdeal := hAttnFRefIdeal) (hPre_finite_attnf := hPre_finite_attnf)
    ∧ quiescent_RmsF (hRmsF := hRmsF)
    ∧ quiescent_RmsFIdeal (hRmsFIdeal := hRmsFIdeal)
    ∧ quiescent_RmsFRefIdeal (hRmsFRefIdeal := hRmsFRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MergeF (hMergeF := hMergeF)
    ∧ quiescent_MergeFIdeal (hMergeFIdeal := hMergeFIdeal)
    ∧ quiescent_MergeFRefIdeal (hMergeFRefIdeal := hMergeFRefIdeal)
    ∧ quiescent_ConvF (hConvF := hConvF)
    ∧ quiescent_ConvFIdeal (hConvFIdeal := hConvFIdeal)
    ∧ quiescent_ConvFRefIdeal (hConvFRefIdeal := hConvFRefIdeal)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_Mix_MixIdeal
    ∧ algebraic_MixIdeal_NormRefIdeal_pre_finite_norm (hMixIdeal := hMixIdeal) (hNormRefIdeal := hNormRefIdeal) (hPre_finite_norm := hPre_finite_norm)
    ∧ preserves_Merge_MergeIdeal
    ∧ algebraic_MergeIdeal_MergeRefIdeal (hMergeIdeal := hMergeIdeal) (hMergeRefIdeal := hMergeRefIdeal)
    ∧ preserves_Loss_LossIdeal
    ∧ algebraic_LossIdeal_LossRefIdeal (hLossIdeal := hLossIdeal) (hLossRefIdeal := hLossRefIdeal)
    ∧ preserves_Bias_BiasIdeal
    ∧ algebraic_BiasIdeal_BiasRefIdeal (hBiasIdeal := hBiasIdeal) (hBiasRefIdeal := hBiasRefIdeal)
    ∧ preserves_ConvGlu_ConvGluIdeal
    ∧ algebraic_ConvGluIdeal_ConvGluRefIdeal (hConvGluIdeal := hConvGluIdeal) (hConvGluRefIdeal := hConvGluRefIdeal)
    ∧ preserves_ConvLn_ConvLnIdeal
    ∧ algebraic_ConvLnIdeal_ConvLnRefIdeal_pre_finite_convln (hConvLnIdeal := hConvLnIdeal) (hConvLnRefIdeal := hConvLnRefIdeal) (hPre_finite_convln := hPre_finite_convln)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_AttnF_AttnFIdeal
    ∧ algebraic_AttnFIdeal_AttnFRefIdeal_pre_finite_attnf (hAttnFIdeal := hAttnFIdeal) (hAttnFRefIdeal := hAttnFRefIdeal) (hPre_finite_attnf := hPre_finite_attnf)
    ∧ preserves_RmsF_RmsFIdeal
    ∧ algebraic_RmsFIdeal_RmsFRefIdeal (hRmsFIdeal := hRmsFIdeal) (hRmsFRefIdeal := hRmsFRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_MixOut_MixOutIdeal
    ∧ algebraic_MixOutIdeal_MixOutRefIdeal (hMixOutIdeal := hMixOutIdeal) (hMixOutRefIdeal := hMixOutRefIdeal)
    ∧ preserves_MergeF_MergeFIdeal
    ∧ algebraic_MergeFIdeal_MergeFRefIdeal (hMergeFIdeal := hMergeFIdeal) (hMergeFRefIdeal := hMergeFRefIdeal)
    ∧ preserves_ConvF_ConvFIdeal
    ∧ algebraic_ConvFIdeal_ConvFRefIdeal (hConvFIdeal := hConvFIdeal) (hConvFRefIdeal := hConvFRefIdeal)
-- ==== Pre_finite_attn.lean ====
abbrev S4096x5632 : Shape := ⟨2, ![4096, 5632]⟩
abbrev S64 : Shape := ⟨1, ![64]⟩
abbrev S16 : Shape := ⟨1, ![16]⟩
abbrev S16x128x256 : Shape := ⟨3, ![16, 128, 256]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  bcast_S_S64 : S_.BroadcastsInDim S64 (![] : Fin 0 → Fin S64.rank)
  bcast_S_S16 : S_.BroadcastsInDim S16 (![] : Fin 0 → Fin S16.rank)
  bcast_S_S16x128x256 : S_.BroadcastsInDim S16x128x256 (![] : Fin 0 → Fin S16x128x256.rank)
  bcast_S_S4096x1024 : S_.BroadcastsInDim S4096x1024 (![] : Fin 0 → Fin S4096x1024.rank)

variable [Facts]

def fn {F : FTy → Type} [FloatOps F] (main_arg0 : FVec F S4096x5632 .f32) (main_arg1 : FVec F S64 .f32) (main_arg2 : FVec F S64 .f32) (main_arg3 : FVec F S16 .f32) (main_arg4 : FVec F S16x128x256 .f32) (main_arg5 : FVec F S4096x1024 .f32) : IVec S4096x5632 1 × IVec S64 1 × IVec S64 1 × IVec S16 1 × IVec S16x128x256 1 × IVec S4096x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S16x128x256 .f32 := Host.absf main_arg4
  let main_cst_3 : FVec F S_ .f32 := constant S_ .f32 0x7F800000#32
  let main_v13 : FVec F S16x128x256 .f32 := broadcastInDim S16x128x256 ![] bcast_S_S16x128x256 main_cst_3
  let main_v14 : IVec S16x128x256 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_attnf.lean ====
abbrev S4096x5632 : Shape := ⟨2, ![4096, 5632]⟩
abbrev S64 : Shape := ⟨1, ![64]⟩
abbrev S16 : Shape := ⟨1, ![16]⟩
abbrev S16x128x256 : Shape := ⟨3, ![16, 128, 256]⟩
abbrev S_ : Shape := ⟨0, ![]⟩

class Facts : Prop where
  bcast_S_S4096x5632 : S_.BroadcastsInDim S4096x5632 (![] : Fin 0 → Fin S4096x5632.rank)
  bcast_S_S64 : S_.BroadcastsInDim S64 (![] : Fin 0 → Fin S64.rank)
  bcast_S_S16 : S_.BroadcastsInDim S16 (![] : Fin 0 → Fin S16.rank)
  bcast_S_S16x128x256 : S_.BroadcastsInDim S16x128x256 (![] : Fin 0 → Fin S16x128x256.rank)

variable [Facts]

def fn {F : FTy → Type} [FloatOps F] (main_arg0 : FVec F S4096x5632 .f32) (main_arg1 : FVec F S64 .f32) (main_arg2 : FVec F S64 .f32) (main_arg3 : FVec F S16 .f32) (main_arg4 : FVec F S16x128x256 .f32) : IVec S4096x5632 1 × IVec S64 1 × IVec S64 1 × IVec S16 1 × IVec S16x128x256 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S16x128x256 .f32 := Host.absf main_arg4
  let main_cst_3 : FVec F S_ .f32 := constant S_ .f32 0x7F800000#32
  let main_v13 : FVec F S16x128x256 .f32 := broadcastInDim S16x128x256 ![] bcast_S_S16x128x256 main_cst_3
  let main_v14 : IVec S16x128x256 1 := cmpf .olt main_v12 main_v13
  (main_v2, main_v5, main_v8, main_v11, main_v14)
-- ==== Pre_finite_convln.lean ====
abbrev S4096x5632 : Shape := ⟨2, ![4096, 5632]⟩
abbrev S31x1024 : Shape := ⟨2, ![31, 1024]⟩
abbrev S1024 : Shape := ⟨1, ![1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  bcast_S_S31x1024 : S_.BroadcastsInDim S31x1024 (![] : Fin 0 → Fin S31x1024.rank)
  bcast_S_S1024 : S_.BroadcastsInDim S1024 (![] : Fin 0 → Fin S1024.rank)
  bcast_S_S4096x1024 : S_.BroadcastsInDim S4096x1024 (![] : Fin 0 → Fin S4096x1024.rank)

variable [Facts]

def fn {F : FTy → Type} [FloatOps F] (main_arg0 : FVec F S4096x5632 .f32) (main_arg1 : FVec F S31x1024 .f32) (main_arg2 : FVec F S1024 .f32) (main_arg3 : FVec F S1024 .f32) (main_arg4 : FVec F S1024 .f32) (main_arg5 : FVec F S4096x1024 .f32) : IVec S4096x5632 1 × IVec S31x1024 1 × IVec S1024 1 × IVec S1024 1 × IVec S1024 1 × IVec S4096x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S31x1024 .f32 := Host.absf main_arg1
  let main_cst_0 : FVec F S_ .f32 := constant S_ .f32 0x7F800000#32
  let main_v4 : FVec F S31x1024 .f32 := broadcastInDim S31x1024 ![] bcast_S_S31x1024 main_cst_0
  let main_v5 : IVec S31x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_gate.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x5632 .f32) (main_arg2 : FVec F S2816x1024 .f32) (main_arg3 : FVec F S4096x1024 .f32) : IVec S4096x1024 1 × IVec S1024x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_norm.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S4096x5632 : S_.BroadcastsInDim S4096x5632 (![] : Fin 0 → Fin S4096x5632.rank)

variable [Facts]

def fn {F : FTy → Type} [FloatOps F] (main_arg0 : FVec F S4096x1024 .f32) (main_arg1 : FVec F S1024 .f32) (main_arg2 : FVec F S1024x5632 .f32) (main_arg3 : FVec F S4096x1024 .f32) (main_arg4 : FVec F S4096x5632 .f32) : IVec S4096x1024 1 × IVec S1024 1 × IVec S1024x5632 1 × IVec S4096x1024 1 × IVec S4096x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x5632 .f32 := Host.absf main_arg4
  let main_cst_3 : FVec F S_ .f32 := constant S_ .f32 0x7F800000#32
  let main_v13 : FVec F S4096x5632 .f32 := broadcastInDim S4096x5632 ![] bcast_S_S4096x5632 main_cst_3
  let main_v14 : IVec S4096x5632 1 := cmpf .olt main_v12 main_v13
  (main_v2, main_v5, main_v8, main_v11, main_v14)
-- ==== Gate.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1024x1024 : Shape := ⟨2, ![1024, 1024]⟩
abbrev S1408x1024 : Shape := ⟨2, ![1408, 1024]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 13
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S1x4096x2816, .f32⟩
  | .hbm, ⟨8, _⟩ => ⟨S1x4096x2816, .f32⟩
  | .hbm, ⟨9, _⟩ => ⟨S2x4096x2816, .f32⟩
  | .hbm, ⟨10, _⟩ => ⟨S2x4096x2816, .bf16⟩
  | .hbm, ⟨11, _⟩ => ⟨S2816x1024, .bf16⟩
  | .hbm, ⟨12, _⟩ => ⟨S2x4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2x1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateRefIdeal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S1x4096x2816, .f32⟩
  | .hbm, ⟨36, _⟩ => ⟨S1x4096x2816, .f32⟩
  | .hbm, ⟨37, _⟩ => ⟨S2x4096x2816, .f32⟩
  | .hbm, ⟨38, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩

abbrev nD : Nat := 1
abbrev τ : Topo := Topo.v7x

variable {F : FTy → Type} [FloatOps F]
-- ==== Norm.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1x1024 : Shape := ⟨2, ![1, 1024]⟩
abbrev S1x512x1408 : Shape := ⟨3, ![1, 512, 1408]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 17
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S4096x2816, .f32⟩
  | .hbm, ⟨9, _⟩ => ⟨S4096x2816, .f32⟩
  | .hbm, ⟨10, _⟩ => ⟨S1x4096x2816, .f32⟩
  | .hbm, ⟨11, _⟩ => ⟨S1x4096x2816, .f32⟩
  | .hbm, ⟨12, _⟩ => ⟨S2x4096x2816, .f32⟩
  | .hbm, ⟨13, _⟩ => ⟨S2x4096x2816, .bf16⟩
  | .hbm, ⟨14, _⟩ => ⟨S1x1024, .f32⟩
  | .hbm, ⟨15, _⟩ => ⟨S4096x1024, .f32⟩
  | .hbm, ⟨16, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S4x1024x1408, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_37 : BitVec 32 := 0#32
  let v60 : BitVec 1 := Scalar.cmpi .ne v59 c0_i32_37
  v60

def k0_cond2 (i : grid0.Coords) : BitVec 1 :=
  let arg0 : BitVec 32 := BitVec.ofNat 32 (i 0).val
  let c0_i32_38 : BitVec 32 := 0#32
  let v61 : BitVec 1 := Scalar.cmpi .sgt arg0 c0_i32_38
  let v62 : BitVec 32 := Scalar.extui v61
  let c0_i32_39 : BitVec 32 := 0#32
  let v63 : BitVec 1 := Scalar.cmpi .ne v62 c0_i32_39
  v63

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  ![c1_i32.toNat, arg0.toNat, c1_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormRefIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Mix.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S512x1408 : Shape := ⟨2, ![512, 1408]⟩
abbrev S512x1024 : Shape := ⟨2, ![512, 1024]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S4096x5632, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S4x1024x1408, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_33 : BitVec 32 := 0#32
  let v60 : BitVec 1 := Scalar.cmpi .ne v59 c0_i32_33
  v60

def k0_cond2 (i : grid0.Coords) : BitVec 1 :=
  let arg0 : BitVec 32 := BitVec.ofNat 32 (i 0).val
  let c0_i32_34 : BitVec 32 := 0#32
  let v61 : BitVec 1 := Scalar.cmpi .sgt arg0 c0_i32_34
  let v62 : BitVec 32 := Scalar.extui v61
  let c0_i32_35 : BitVec 32 := 0#32
  let v63 : BitVec 1 := Scalar.cmpi .ne v62 c0_i32_35
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Merge.lean ====
abbrev S4096x1024 : Shape := ⟨2, ![4096, 1024]⟩
abbrev S4096x5632 : Shape := ⟨2, ![4096, 5632]⟩
abbrev S1024x1024 : Shape := ⟨2, ![1024, 1024]⟩
abbrev S2x4096x1024 : Shape := ⟨3, ![2, 4096, 1024]⟩
abbrev S512x1024 : Shape := ⟨2, ![512, 1024]⟩
abbrev S1024x512 : Shape := ⟨2, ![1024, 512]⟩
abbrev S2x1024x512 : Shape := ⟨3, ![2, 1024, 512]⟩
abbrev S1x1024x512 : Shape := ⟨3, ![1, 1024, 512]⟩

abbrev nBuf : Space → Nat
  | .hbm => 16
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x5632, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S1024x1024, .bf16⟩
  | .hbm, ⟨12, _⟩ => ⟨S4096x5632, .bf16⟩
  | .hbm, ⟨13, _⟩ => ⟨S4096x1024, .bf16⟩
  | .hbm, ⟨14, _⟩ => ⟨S4096x1024, .bf16⟩
  | .hbm, ⟨15, _⟩ => ⟨S2x4096x1024, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S2x1024x512, .bf16⟩
  | .local _ .vmem, ⟨17, _⟩ => ⟨S2x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi c9_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== MergeRefIdeal.lean ====
abbrev S4096x1024 : Shape := ⟨2, ![4096, 1024]⟩
abbrev S4096x5632 : Shape := ⟨2, ![4096, 5632]⟩
abbrev S1024x1024 : Shape := ⟨2, ![1024, 1024]⟩
abbrev S4096x2048 : Shape := ⟨2, ![4096, 2048]⟩
abbrev S4096x256 : Shape := ⟨2, ![4096, 256]⟩
abbrev S_ : Shape := ⟨0, ![]⟩
abbrev S1x4096x1024 : Shape := ⟨3, ![1, 4096, 1024]⟩
abbrev S2x4096x1024 : Shape := ⟨3, ![2, 4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x5632, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x2048, .f32⟩
  | .hbm, ⟨8, _⟩ => ⟨S4096x1024, .f32⟩
  | .hbm, ⟨9, _⟩ => ⟨S4096x256, .f32⟩
  | .hbm, ⟨10, _⟩ => ⟨S4096x256, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S4096x1024, .bf16⟩
  | .hbm, ⟨52, _⟩ => ⟨S1x4096x1024, .f32⟩
  | .hbm, ⟨53, _⟩ => ⟨S1x4096x1024, .f32⟩
  | .hbm, ⟨54, _⟩ => ⟨S2x4096x1024, .f32⟩
  | .hbm, ⟨55, _⟩ => ⟨S2x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S4096x1024 : Shape := ⟨2, ![4096, 1024]⟩
abbrev S8x128 : Shape := ⟨2, ![8, 128]⟩
abbrev S1024x2816 : Shape := ⟨2, ![1024, 2816]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x2816, .bf16⟩
  | .hbm, ⟨5, _⟩ => ⟨S2816x1024, .bf16⟩
  | .hbm, ⟨6, _⟩ => ⟨S4096x1024, .f32⟩
  | .hbm, ⟨7, _⟩ => ⟨S8x128, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S8x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_13 : BitVec 32 := 0#32
  let v23 : BitVec 1 := Scalar.cmpi .ne v22 c0_i32_13
  v23

def k0_cond2 (i : grid0.Coords) : BitVec 1 :=
  let arg0 : BitVec 32 := BitVec.ofNat 32 (i 0).val
  let c0_i32_14 : BitVec 32 := 0#32
  let v24 : BitVec 1 := Scalar.cmpi .sgt arg0 c0_i32_14
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== LossRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1024, .f32⟩
  | .hbm, ⟨31, _⟩ => ⟨S4096x1024, .f32⟩
  | .hbm, ⟨32, _⟩ => ⟨S8x128, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_cst_5 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_cst_7 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== Bias.lean ====
abbrev S16x128x256 : Shape := ⟨3, ![16, 128, 256]⟩
abbrev S16x32768 : Shape := ⟨2, ![16, 32768]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S32 : Shape := ⟨1, ![32]⟩
abbrev S32x1x1 : Shape := ⟨3, ![32, 1, 1]⟩
abbrev S32x128x256 : Shape := ⟨3, ![32, 128, 256]⟩
abbrev S32x32768 : Shape := ⟨2, ![32, 32768]⟩
abbrev S16x32 : Shape := ⟨2, ![16, 32]⟩
abbrev S16x4096 : Shape := ⟨2, ![16, 4096]⟩
abbrev S32x4096 : Shape := ⟨2, ![32, 4096]⟩

abbrev nBuf : Space → Nat
  | .hbm => 49
  | .vmem => 5
  | .smem => 0
  | _ => 0

abbrev bufTy : (tb : Table) → Fin (tcTables nBuf tb) → BufTy
  | .hbm, ⟨0, _⟩ => ⟨S16x128x256, .f32⟩
  | .hbm, ⟨1, _⟩ => ⟨S16x32768, .f32⟩
  | .hbm, ⟨2, _⟩ => ⟨S128, .i32⟩
  | .hbm, ⟨3, _⟩ => ⟨S128x1, .i32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S128x256, .i32⟩
  | .hbm, ⟨40, _⟩ => ⟨S1x128x256, .i32⟩
  | .hbm, ⟨41, _⟩ => ⟨S32, .i32⟩
  | .hbm, ⟨42, _⟩ => ⟨S32x1x1, .i32⟩
  | .hbm, ⟨43, _⟩ => ⟨S32x128x256, .i32⟩
  | .hbm, ⟨44, _⟩ => ⟨S32x128x256, .i32⟩
  | .hbm, ⟨45, _⟩ => ⟨S32x128x256, .i1⟩
  | .hbm, ⟨46, _⟩ => ⟨S32x128x256, .f32⟩
  | .hbm, ⟨47, _⟩ => ⟨S32x32768, .f32⟩
  | .hbm, ⟨48, _⟩ => ⟨S16x32, .f32⟩
  | .local _ .vmem, ⟨0, _⟩ => ⟨S16x4096, .f32⟩
  | .local _ .vmem, ⟨1, _⟩ => ⟨S16x4096, .f32⟩
  | .local _ .vmem, ⟨2, _⟩ => ⟨S32x4096, .f32⟩
  | .local _ .vmem, ⟨3, _⟩ => ⟨S32x4096, .f32⟩
  | .local _ .vmem, ⟨4, _⟩ => ⟨S16x32, .f32⟩
  | _, _ => ⟨S16x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_c_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_c_5 : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg0 : BitVec 32 := BitVec.ofNat 32 (i 0).val
  let c0_i32_4 : BitVec 32 := 0#32
  let v8 : BitVec 1 := Scalar.cmpi .sgt arg0 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== BiasRefIdeal.lean ====
abbrev S16x128x256 : Shape := ⟨3, ![16, 128, 256]⟩
abbrev S_ : Shape := ⟨0, ![]⟩
abbrev S32x16 : Shape := ⟨2, ![32, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x32 : Shape := ⟨2, ![16, 32]⟩

abbrev nBuf : Space → Nat
  | .hbm => 56
  | .vmem => 0
  | .smem => 0
  | _ => 0

abbrev bufTy : (tb : Table) → Fin (tcTables nBuf tb) → BufTy
  | .hbm, ⟨0, _⟩ => ⟨S16x128x256, .f32⟩
  | .hbm, ⟨1, _⟩ => ⟨S_, .f32⟩
  | .hbm, ⟨2, _⟩ => ⟨S32x16, .f32⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i32⟩
  | .hbm, ⟨19, _⟩ => ⟨S128x256, .f32⟩
  | .hbm, ⟨20, _⟩ => ⟨S_, .f32⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x256, .i32⟩
  | .hbm, ⟨31, _⟩ => ⟨S_, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S128x256, .i32⟩
  | .hbm, ⟨48, _⟩ => ⟨S128x256x1, .i32⟩
  | .hbm, ⟨49, _⟩ => ⟨S128x256x16, .f32⟩
  | .hbm, ⟨50, _⟩ => ⟨S16x128x256, .f32⟩
  | .hbm, ⟨51, _⟩ => ⟨S128x256x16, .f32⟩
  | .hbm, ⟨52, _⟩ => ⟨S_, .f32⟩
  | .hbm, ⟨53, _⟩ => ⟨S32x16, .f32⟩
  | .hbm, ⟨54, _⟩ => ⟨S32x16, .f32⟩
  | .hbm, ⟨55, _⟩ => ⟨S16x32, .f32⟩
  | _, _ => ⟨S16x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_5 : Ref sig .tc := ⟨.hbm, 31, rfl⟩
abbrev main_v23 : Ref sig .tc := ⟨.hbm, 32, rfl⟩
abbrev main_v24 : Ref sig .tc := ⟨.hbm, 33, rfl⟩
abbrev main_c_6 : Ref sig .tc := ⟨.hbm, 34, rfl⟩
abbrev main_v25 : Ref sig .tc := ⟨.hbm, 35, rfl⟩
abbrev main_v26 : Ref sig .tc := ⟨.hbm, 36, rfl⟩
abbrev main_c_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_8 : Ref sig .tc := ⟨.hbm, 41, rfl⟩
abbrev main_v30 : Ref sig .tc := ⟨.hbm, 42, rfl⟩
abbrev main_v31 : Ref sig .tc := ⟨.hbm, 43, rfl⟩
abbrev main_c_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== ConvGlu.lean ====
abbrev S4096x5632 : Shape := ⟨2, ![4096, 5632]⟩
abbrev S31x1024 : Shape := ⟨2, ![31, 1024]⟩
abbrev S4096x1024 : Shape := ⟨2, ![4096, 1024]⟩
abbrev S32x2x128x512 : Shape := ⟨4, ![32, 2, 128, 512]⟩
abbrev S2x4096x1024 : Shape := ⟨3, ![2, 4096, 1024]⟩
abbrev S_ : Shape := ⟨0, ![]⟩
abbrev S32x1024 : Shape := ⟨2, ![32, 1024]⟩
abbrev S256x1024 : Shape := ⟨2, ![256, 1024]⟩
abbrev S2x2x128x512 : Shape := ⟨4, ![2, 2, 128, 512]⟩
abbrev S1x1x128x512 : Shape := ⟨4, ![1, 1, 128, 512]⟩
abbrev S2x256x1024 : Shape := ⟨3, ![2, 256, 1024]⟩
abbrev S256x5632 : Shape := ⟨2, ![256, 5632]⟩
abbrev S288x1024 : Shape := ⟨2, ![288, 1024]⟩
abbrev S128x512 : Shape := ⟨2, ![128, 512]⟩
abbrev S1x256x1024 : Shape := ⟨3, ![1, 256, 1024]⟩
abbrev S1x128 : Shape := ⟨2, ![1, 128]⟩
abbrev S128x128 : Shape := ⟨2, ![128, 128]⟩
abbrev S152x128 : Shape := ⟨2, ![152, 128]⟩
abbrev S144x128 : Shape := ⟨2, ![144, 128]⟩

abbrev nBuf : Space → Nat
  | .hbm => 14
  | .vmem => 21
  | .smem => 0
  | _ => 0

abbrev bufTy : (tb : Table) → Fin (tcTables nBuf tb) → BufTy
  | .hbm, ⟨0, _⟩ => ⟨S4096x5632, .f32⟩
  | .hbm, ⟨1, _⟩ => ⟨S31x1024, .f32⟩
  | .hbm, ⟨2, _⟩ => ⟨S4096x1024, .f32⟩
  | .hbm, ⟨3, _⟩ => ⟨S4096x1024, .f32⟩
  | .hbm, ⟨4, _⟩ => ⟨S32x2x128x512, .f32⟩
  | .hbm, ⟨5, _⟩ => ⟨S2x4096x1024, .f32⟩
  | .hbm, ⟨6, _⟩ => ⟨S_, .i32⟩
  | .hbm, ⟨7, _⟩ => ⟨S_, .f32⟩
  | .hbm, ⟨8, _⟩ => ⟨S32x1024, .f32⟩
  | .hbm, ⟨9, _⟩ => ⟨S4096x5632, .bf16⟩
  | .hbm, ⟨10, _⟩ => ⟨S4096x1024, .bf16⟩
  | .hbm, ⟨11, _⟩ => ⟨S32x2x128x512, .bf16⟩
  | .hbm, ⟨12, _⟩ => ⟨S2x4096x1024, .bf16⟩
  | .hbm, ⟨13, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S256x1024, .bf16⟩
  | .local _ .vmem, ⟨10, _⟩ => ⟨S256x1024, .bf16⟩
  | .local _ .vmem, ⟨11, _⟩ => ⟨S2x2x128x512, .bf16⟩
  | .local _ .vmem, ⟨12, _⟩ => ⟨S2x2x128x512, .bf16⟩
  | .local _ .vmem, ⟨13, _⟩ => ⟨S1x1x128x512, .bf16⟩
  | .local _ .vmem, ⟨14, _⟩ => ⟨S1x1x128x512, .bf16⟩
  | .local _ .vmem, ⟨15, _⟩ => ⟨S2x256x1024, .bf16⟩
  | .local _ .vmem, ⟨16, _⟩ => ⟨S2x256x1024, .bf16⟩
  | .local _ .vmem, ⟨17, _⟩ => ⟨S256x5632, .bf16⟩
  | .local _ .vmem, ⟨18, _⟩ => ⟨S256x5632, .bf16⟩
  | .local _ .vmem, ⟨19, _⟩ => ⟨S288x1024, .f32⟩
  | .local _ .vmem, ⟨20, _⟩ => ⟨S256x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvGluRefIdeal.lean ====
abbrev S4096x5632 : Shape := ⟨2, ![4096, 5632]⟩
abbrev S31x1024 : Shape := ⟨2, ![31, 1024]⟩
abbrev S4096x1024 : Shape := ⟨2, ![4096, 1024]⟩
abbrev S32x2x128x512 : Shape := ⟨4, ![32, 2, 128, 512]⟩
abbrev S2x4096x1024 : Shape := ⟨3, ![2, 4096, 1024]⟩
abbrev S4096x2048 : Shape := ⟨2, ![4096, 2048]⟩
abbrev S4096x512 : Shape := ⟨2, ![4096, 512]⟩
abbrev S_ : Shape := ⟨0, ![]⟩
abbrev S30x1024 : Shape := ⟨2, ![30, 1024]⟩
abbrev S4126x1024 : Shape := ⟨2, ![4126, 1024]⟩
abbrev S1x1024 : Shape := ⟨2, ![1, 1024]⟩
abbrev S1024 : Shape := ⟨1, ![1024]⟩
abbrev S32x128x512 : Shape := ⟨3, ![32, 128, 512]⟩
abbrev S1x128x512 : Shape := ⟨3, ![1, 128, 512]⟩
abbrev S31x128x512 : Shape := ⟨3, ![31, 128, 512]⟩
abbrev S32x1x128x512 : Shape := ⟨4, ![32, 1, 128, 512]⟩
abbrev S1x4096x1024 : Shape := ⟨3, ![1, 4096, 1024]⟩

abbrev nBuf : Space → Nat
  | .hbm => 439
  | .vmem => 0
  | .smem => 0
  | _ => 0

abbrev hbmTy0_0 (i : Nat) : BufTy := match i % 128 with
  | 0 => ⟨S4096x5632, .f32⟩
  | 1 => ⟨S31x1024, .f32⟩
  | 2 => ⟨S4096x1024, .f32⟩
  | 3 => ⟨S4096x1024, .f32⟩
  | 4 => ⟨S32x2x128x512, .f32⟩
  | 5 => ⟨S2x4096x1024, .f32⟩
  | 6 => ⟨S4096x2048, .f32⟩
  | 7 => ⟨S4096x1024, .f32⟩
  | 8 => ⟨S4096x512, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S4096x1024, .f32⟩
  | 26 => ⟨S_, .f32⟩
  | 27 => ⟨S30x1024, .f32⟩
  | 28 => ⟨S4126x1024, .f32⟩
  | 29 => ⟨S_, .f32⟩
  | 30 => ⟨S30x1024, .f32⟩
  | 31 => ⟨S1x1024, .f32⟩
  | 32 => ⟨S1024, .f32⟩
  | 33 => ⟨S4096x1024, .f32⟩
  | 34 => ⟨S1x1024, .f32⟩
  | 35 => ⟨S4096x1024, .f32⟩
  | 36 => ⟨S4096x1024, .f32⟩
  | 37 => ⟨S1x1024, .f32⟩
  | 38 => ⟨S1024, .f32⟩
  | 39 => ⟨S4096x1024, .f32⟩
  | 40 => ⟨S1x1024, .f32⟩
  | 41 => ⟨S4096x1024, .f32⟩
  | 42 => ⟨S4096x1024, .f32⟩
  | 43 => ⟨S4096x1024, .f32⟩
  | 44 => ⟨S1x1024, .f32⟩
  | 45 => ⟨S1024, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S1x1024, .f32⟩
  | 52 => ⟨S1024, .f32⟩
  | 53 => ⟨S4096x1024, .f32⟩
  | 54 => ⟨S1x1024, .f32⟩
  | 55 => ⟨S4096x1024, .f32⟩
  | 56 => ⟨S4096x1024, .f32⟩
  | 57 => ⟨S4096x1024, .f32⟩
  | 58 => ⟨S1x1024, .f32⟩
  | 59 => ⟨S1024, .f32⟩
  | 60 => ⟨S4096x1024, .f32⟩
  | 61 => ⟨S1x1024, .f32⟩
  | 62 => ⟨S4096x1024, .f32⟩
  | 63 => ⟨S4096x1024, .f32⟩
  | 64 => ⟨S4096x1024, .f32⟩
  | 65 => ⟨S1x1024, .f32⟩
  | 66 => ⟨S1024, .f32⟩
  | 67 => ⟨S4096x1024, .f32⟩
  | 68 => ⟨S1x1024, .f32⟩
  | 69 => ⟨S4096x1024, .f32⟩
  | 70 => ⟨S4096x1024, .f32⟩
  | 71 => ⟨S4096x1024, .f32⟩
  | 72 => ⟨S1x1024, .f32⟩
  | 73 => ⟨S1024, .f32⟩
  | 74 => ⟨S4096x1024, .f32⟩
  | 75 => ⟨S1x1024, .f32⟩
  | 76 => ⟨S4096x1024, .f32⟩
  | 77 => ⟨S4096x1024, .f32⟩
  | 78 => ⟨S4096x1024, .f32⟩
  | 79 => ⟨S1x1024, .f32⟩
  | 80 => ⟨S1024, .f32⟩
  | 81 => ⟨S4096x1024, .f32⟩
  | 82 => ⟨S1x1024, .f32⟩
  | 83 => ⟨S4096x1024, .f32⟩
  | 84 => ⟨S4096x1024, .f32⟩
  | 85 => ⟨S4096x1024, .f32⟩
  | 86 => ⟨S1x1024, .f32⟩
  | 87 => ⟨S1024, .f32⟩
  | 88 => ⟨S4096x1024, .f32⟩
  | 89 => ⟨S1x1024, .f32⟩
  | 90 => ⟨S4096x1024, .f32⟩
  | 91 => ⟨S4096x1024, .f32⟩
  | 92 => ⟨S4096x1024, .f32⟩
  | 93 => ⟨S1x1024, .f32⟩
  | 94 => ⟨S1024, .f32⟩
  | 95 => ⟨S4096x1024, .f32⟩
  | 96 => ⟨S1x1024, .f32⟩
  | 97 => ⟨S4096x1024, .f32⟩
  | 98 => ⟨S4096x1024, .f32⟩
  | 99 => ⟨S4096x1024, .f32⟩
  | 100 => ⟨S1x1024, .f32⟩
  | 101 => ⟨S1024, .f32⟩
  | 102 => ⟨S4096x1024, .f32⟩
  | 103 => ⟨S1x1024, .f32⟩
  | 104 => ⟨S4096x1024, .f32⟩
  | 105 => ⟨S4096x1024, .f32⟩
  | 106 => ⟨S4096x1024, .f32⟩
  | 107 => ⟨S1x1024, .f32⟩
  | 108 => ⟨S1024, .f32⟩
  | 109 => ⟨S4096x1024, .f32⟩
  | 110 => ⟨S1x1024, .f32⟩
  | 111 => ⟨S4096x1024, .f32⟩
  | 112 => ⟨S4096x1024, .f32⟩
  | 113 => ⟨S4096x1024, .f32⟩
  | 114 => ⟨S1x1024, .f32⟩
  | 115 => ⟨S1024, .f32⟩
  | 116 => ⟨S4096x1024, .f32⟩
  | 117 => ⟨S1x1024, .f32⟩
  | 118 => ⟨S4096x1024, .f32⟩
  | 119 => ⟨S4096x1024, .f32⟩
  | 120 => ⟨S4096x1024, .f32⟩
  | 121 => ⟨S1x1024, .f32⟩
  | 122 => ⟨S1024, .f32⟩
  | 123 => ⟨S4096x1024, .f32⟩
  | 124 => ⟨S1x1024, .f32⟩
  | 125 => ⟨S4096x1024, .f32⟩
  | 126 => ⟨S4096x1024, .f32⟩
  | 127 => ⟨S4096x1024, .f32⟩
  | _ => ⟨S4096x5632, .f32⟩

abbrev hbmTy0_1 (i : Nat) : BufTy := match i % 128 with
  | 0 => ⟨S1x1024, .f32⟩
  | 1 => ⟨S1024, .f32⟩
  | 2 => ⟨S4096x1024, .f32⟩
  | 3 => ⟨S1x1024, .f32⟩
  | 4 => ⟨S4096x1024, .f32⟩
  | 5 => ⟨S4096x1024, .f32⟩
  | 6 => ⟨S4096x1024, .f32⟩
  | 7 => ⟨S1x1024, .f32⟩
  | 8 => ⟨S1024, .f32⟩
  | 9 => ⟨S4096x1024, .f32⟩
  | 10 => ⟨S1x1024, .f32⟩
  | 11 => ⟨S4096x1024, .f32⟩
  | 12 => ⟨S4096x1024, .f32⟩
  | 13 => ⟨S4096x1024, .f32⟩
  | 14 => ⟨S1x1024, .f32⟩
  | 15 => ⟨S1024, .f32⟩
  | 16 => ⟨S4096x1024, .f32⟩
  | 17 => ⟨S1x1024, .f32⟩
  | 18 => ⟨S4096x1024, .f32⟩
  | 19 => ⟨S4096x1024, .f32⟩
  | 20 => ⟨S4096x1024, .f32⟩
  | 21 => ⟨S1x1024, .f32⟩
  | 22 => ⟨S1024, .f32⟩
  | 23 => ⟨S4096x1024, .f32⟩
  | 24 => ⟨S1x1024, .f32⟩
  | 25 => ⟨S4096x1024, .f32⟩
  | 26 => ⟨S4096x1024, .f32⟩
  | 27 => ⟨S4096x1024, .f32⟩
  | 28 => ⟨S1x1024, .f32⟩
  | 29 => ⟨S1024, .f32⟩
  | 30 => ⟨S4096x1024, .f32⟩
  | 31 => ⟨S1x1024, .f32⟩
  | 32 => ⟨S4096x1024, .f32⟩
  | 33 => ⟨S4096x1024, .f32⟩
  | 34 => ⟨S4096x1024, .f32⟩
  | 35 => ⟨S1x1024, .f32⟩
  | 36 => ⟨S1024, .f32⟩
  | 37 => ⟨S4096x1024, .f32⟩
  | 38 => ⟨S1x1024, .f32⟩
  | 39 => ⟨S4096x1024, .f32⟩
  | 40 => ⟨S4096x1024, .f32⟩
  | 41 => ⟨S4096x1024, .f32⟩
  | 42 => ⟨S1x1024, .f32⟩
  | 43 => ⟨S1024, .f32⟩
  | 44 => ⟨S4096x1024, .f32⟩
  | 45 => ⟨S1x1024, .f32⟩
  | 46 => ⟨S4096x1024, .f32⟩
  | 47 => ⟨S4096x1024, .f32⟩
  | 48 => ⟨S4096x1024, .f32⟩
  | 49 => ⟨S1x1024, .f32⟩
  | 50 => ⟨S1024, .f32⟩
  | 51 => ⟨S4096x1024, .f32⟩
  | 52 => ⟨S1x1024, .f32⟩
  | 53 => ⟨S4096x1024, .f32⟩
  | 54 => ⟨S4096x1024, .f32⟩
  | 55 => ⟨S4096x1024, .f32⟩
  | 56 => ⟨S1x1024, .f32⟩
  | 57 => ⟨S1024, .f32⟩
  | 58 => ⟨S4096x1024, .f32⟩
  | 59 => ⟨S1x1024, .f32⟩
  | 60 => ⟨S4096x1024, .f32⟩
  | 61 => ⟨S4096x1024, .f32⟩
  | 62 => ⟨S4096x1024, .f32⟩
  | 63 => ⟨S1x1024, .f32⟩
  | 64 => ⟨S1024, .f32⟩
  | 65 => ⟨S4096x1024, .f32⟩
  | 66 => ⟨S1x1024, .f32⟩
  | 67 => ⟨S4096x1024, .f32⟩
  | 68 => ⟨S4096x1024, .f32⟩
  | 69 => ⟨S4096x1024, .f32⟩
  | 70 => ⟨S1x1024, .f32⟩
  | 71 => ⟨S1024, .f32⟩
  | 72 => ⟨S4096x1024, .f32⟩
  | 73 => ⟨S1x1024, .f32⟩
  | 74 => ⟨S4096x1024, .f32⟩
  | 75 => ⟨S4096x1024, .f32⟩
  | 76 => ⟨S4096x1024, .f32⟩
  | 77 => ⟨S1x1024, .f32⟩
  | 78 => ⟨S1024, .f32⟩
  | 79 => ⟨S4096x1024, .f32⟩
  | 80 => ⟨S1x1024, .f32⟩
  | 81 => ⟨S4096x1024, .f32⟩
  | 82 => ⟨S4096x1024, .f32⟩
  | 83 => ⟨S4096x1024, .f32⟩
  | 84 => ⟨S1x1024, .f32⟩
  | 85 => ⟨S1024, .f32⟩
  | 86 => ⟨S4096x1024, .f32⟩
  | 87 => ⟨S1x1024, .f32⟩
  | 88 => ⟨S4096x1024, .f32⟩
  | 89 => ⟨S4096x1024, .f32⟩
  | 90 => ⟨S4096x1024, .f32⟩
  | 91 => ⟨S1x1024, .f32⟩
  | 92 => ⟨S1024, .f32⟩
  | 93 => ⟨S4096x1024, .f32⟩
  | 94 => ⟨S1x1024, .f32⟩
  | 95 => ⟨S4096x1024, .f32⟩
  | 96 => ⟨S4096x1024, .f32⟩
  | 97 => ⟨S4096x1024, .f32⟩
  | 98 => ⟨S1x1024, .f32⟩
  | 99 => ⟨S1024, .f32⟩
  | 100 => ⟨S4096x1024, .f32⟩
  | 101 => ⟨S1x1024, .f32⟩
  | 102 => ⟨S4096x1024, .f32⟩
  | 103 => ⟨S4096x1024, .f32⟩
  | 104 => ⟨S4096x1024, .f32⟩
  | 105 => ⟨S1x1024, .f32⟩
  | 106 => ⟨S1024, .f32⟩
  | 107 => ⟨S4096x1024, .f32⟩
  | 108 => ⟨S1x1024, .f32⟩
  | 109 => ⟨S4096x1024, .f32⟩
  | 110 => ⟨S4096x1024, .f32⟩
  | 111 => ⟨S4096x1024, .f32⟩
  | 112 => ⟨S1x1024, .f32⟩
  | 113 => ⟨S1024, .f32⟩
  | 114 => ⟨S4096x1024, .f32⟩
  | 115 => ⟨S1x1024, .f32⟩
  | 116 => ⟨S4096x1024, .f32⟩
  | 117 => ⟨S4096x1024, .f32⟩
  | 118 => ⟨S4096x1024, .f32⟩
  | 119 => ⟨S32x128x512, .f32⟩
  | 120 => ⟨S1x128x512, .f32⟩
  | 121 => ⟨S_, .f32⟩
  | 122 => ⟨S1x128x512, .f32⟩
  | 123 => ⟨S31x128x512, .f32⟩
  | 124 => ⟨S32x128x512, .f32⟩
  | 125 => ⟨S_, .f32⟩
  | 126 => ⟨S1x128x512, .f32⟩
  | 127 => ⟨S32x1x128x512, .f32⟩
  | _ => ⟨S4096x5632, .f32⟩

abbrev hbmTy0_2 (i : Nat) : BufTy := match i % 128 with
  | 0 => ⟨S32x1x128x512, .f32⟩
  | 1 => ⟨S32x2x128x512, .f32⟩
  | 2 => ⟨S1x4096x1024, .f32⟩
  | 3 => ⟨S1x4096x1024, .f32⟩
  | 4 => ⟨S2x4096x1024, .f32⟩
  | 5 => ⟨S1x4096x1024, .f32⟩
  | 6 => ⟨S4096x1024, .f32⟩
  | 7 => ⟨S1x4096x1024, .f32⟩
  | 8 => ⟨S4096x1024, .f32⟩
  | 9 => ⟨S32x1x128x512, .f32⟩
  | 10 => ⟨S32x128x512, .f32⟩
  | 11 => ⟨S32x1x128x512, .f32⟩
  | 12 => ⟨S32x128x512, .f32⟩
  | 13 => ⟨S1x128x512, .f32⟩
  | 14 => ⟨S31x128x512, .f32⟩
  | 15 => ⟨S_, .f32⟩
  | 16 => ⟨S32x128x512, .f32⟩
  | 17 => ⟨S32x128x512, .f32⟩
  | 18 => ⟨S4096x512, .f32⟩
  | 19 => ⟨S4096x1024, .f32⟩
  | 20 => ⟨S4096x1024, .f32⟩
  | 21 => ⟨S4096x1024, .f32⟩
  | 22 => ⟨S4096x1024, .f32⟩
  | 23 => ⟨S_, .f32⟩
  | 24 => ⟨S4126x1024, .f32⟩
  | 25 => ⟨S4096x1024, .f32⟩
  | 26 => ⟨S4096x1024, .f32⟩
  | 27 => ⟨S_, .f32⟩
  | 28 => ⟨S4126x1024, .f32⟩
  | 29 => ⟨S4126x1024, .f32⟩
  | 30 => ⟨S4096x1024, .f32⟩
  | 31 => ⟨S4096x1024, .f32⟩
  | 32 => ⟨S_, .f32⟩
  | 33 => ⟨S4126x1024, .f32⟩
  | 34 => ⟨S4126x1024, .f32⟩
  | 35 => ⟨S4096x1024, .f32⟩
  | 36 => ⟨S4096x1024, .f32⟩
  | 37 => ⟨S_, .f32⟩
  | 38 => ⟨S4126x1024, .f32⟩
  | 39 => ⟨S4126x1024, .f32⟩
  | 40 => ⟨S4096x1024, .f32⟩
  | 41 => ⟨S4096x1024, .f32⟩
  | 42 => ⟨S_, .f32⟩
  | 43 => ⟨S4126x1024, .f32⟩
  | 44 => ⟨S4126x1024, .f32⟩
  | 45 => ⟨S4096x1024, .f32⟩
  | 46 => ⟨S4096x1024, .f32⟩
  | 47 => ⟨S_, .f32⟩
  | 48 => ⟨S4126x1024, .f32⟩
  | 49 => ⟨S4126x1024, .f32⟩
  | 50 => ⟨S4096x1024, .f32⟩
  | 51 => ⟨S4096x1024, .f32⟩
  | 52 => ⟨S_, .f32⟩
  | 53 => ⟨S4126x1024, .f32⟩
  | 54 => ⟨S4126x1024, .f32⟩
  | 55 => ⟨S4096x1024, .f32⟩
  | 56 => ⟨S4096x1024, .f32⟩
  | 57 => ⟨S_, .f32⟩
  | 58 => ⟨S4126x1024, .f32⟩
  | 59 => ⟨S4126x1024, .f32⟩
  | 60 => ⟨S4096x1024, .f32⟩
  | 61 => ⟨S4096x1024, .f32⟩
  | 62 => ⟨S_, .f32⟩
  | 63 => ⟨S4126x1024, .f32⟩
  | 64 => ⟨S4126x1024, .f32⟩
  | 65 => ⟨S4096x1024, .f32⟩
  | 66 => ⟨S4096x1024, .f32⟩
  | 67 => ⟨S_, .f32⟩
  | 68 => ⟨S4126x1024, .f32⟩
  | 69 => ⟨S4126x1024, .f32⟩
  | 70 => ⟨S4096x1024, .f32⟩
  | 71 => ⟨S4096x1024, .f32⟩
  | 72 => ⟨S_, .f32⟩
  | 73 => ⟨S4126x1024, .f32⟩
  | 74 => ⟨S4126x1024, .f32⟩
  | 75 => ⟨S4096x1024, .f32⟩
  | 76 => ⟨S4096x1024, .f32⟩
  | 77 => ⟨S_, .f32⟩
  | 78 => ⟨S4126x1024, .f32⟩
  | 79 => ⟨S4126x1024, .f32⟩
  | 80 => ⟨S4096x1024, .f32⟩
  | 81 => ⟨S4096x1024, .f32⟩
  | 82 => ⟨S_, .f32⟩
  | 83 => ⟨S4126x1024, .f32⟩
  | 84 => ⟨S4126x1024, .f32⟩
  | 85 => ⟨S4096x1024, .f32⟩
  | 86 => ⟨S4096x1024, .f32⟩
  | 87 => ⟨S_, .f32⟩
  | 88 => ⟨S4126x1024, .f32⟩
  | 89 => ⟨S4126x1024, .f32⟩
  | 90 => ⟨S4096x1024, .f32⟩
  | 91 => ⟨S4096x1024, .f32⟩
  | 92 => ⟨S_, .f32⟩
  | 93 => ⟨S4126x1024, .f32⟩
  | 94 => ⟨S4126x1024, .f32⟩
  | 95 => ⟨S4096x1024, .f32⟩
  | 96 => ⟨S4096x1024, .f32⟩
  | 97 => ⟨S_, .f32⟩
  | 98 => ⟨S4126x1024, .f32⟩
  | 99 => ⟨S4126x1024, .f32⟩
  | 100 => ⟨S4096x1024, .f32⟩
  | 101 => ⟨S4096x1024, .f32⟩
  | 102 => ⟨S_, .f32⟩
  | 103 => ⟨S4126x1024, .f32⟩
  | 104 => ⟨S4126x1024, .f32⟩
  | 105 => ⟨S4096x1024, .f32⟩
  | 106 => ⟨S4096x1024, .f32⟩
  | 107 => ⟨S_, .f32⟩
  | 108 => ⟨S4126x1024, .f32⟩
  | 109 => ⟨S4126x1024, .f32⟩
  | 110 => ⟨S4096x1024, .f32⟩
  | 111 => ⟨S4096x1024, .f32⟩
  | 112 => ⟨S_, .f32⟩
  | 113 => ⟨S4126x1024, .f32⟩
  | 114 => ⟨S4126x1024, .f32⟩
  | 115 => ⟨S4096x1024, .f32⟩
  | 116 => ⟨S4096x1024, .f32⟩
  | 117 => ⟨S_, .f32⟩
  | 118 => ⟨S4126x1024, .f32⟩
  | 119 => ⟨S4126x1024, .f32⟩
  | 120 => ⟨S4096x1024, .f32⟩
  | 121 => ⟨S4096x1024, .f32⟩
  | 122 => ⟨S_, .f32⟩
  | 123 => ⟨S4126x1024, .f32⟩
  | 124 => ⟨S4126x1024, .f32⟩
  | 125 => ⟨S4096x1024, .f32⟩
  | 126 => ⟨S4096x1024, .f32⟩
  | 127 => ⟨S_, .f32⟩
  | _ => ⟨S4096x5632, .f32⟩

abbrev hbmTy0_3 (i : Nat) : BufTy := match i % 128 with
  | 0 => ⟨S4126x1024, .f32⟩
  | 1 => ⟨S4126x1024, .f32⟩
  | 2 => ⟨S4096x1024, .f32⟩
  | 3 => ⟨S4096x1024, .f32⟩
  | 4 => ⟨S_, .f32⟩
  | 5 => ⟨S4126x1024, .f32⟩
  | 6 => ⟨S4126x1024, .f32⟩
  | 7 => ⟨S4096x1024, .f32⟩
  | 8 => ⟨S4096x1024, .f32⟩
  | 9 => ⟨S_, .f32⟩
  | 10 => ⟨S4126x1024, .f32⟩
  | 11 => ⟨S4126x1024, .f32⟩
  | 12 => ⟨S4096x1024, .f32⟩
  | 13 => ⟨S4096x1024, .f32⟩
  | 14 => ⟨S_, .f32⟩
  | 15 => ⟨S4126x1024, .f32⟩
  | 16 => ⟨S4126x1024, .f32⟩
  | 17 => ⟨S4096x1024, .f32⟩
  | 18 => ⟨S4096x1024, .f32⟩
  | 19 => ⟨S_, .f32⟩
  | 20 => ⟨S4126x1024, .f32⟩
  | 21 => ⟨S4126x1024, .f32⟩
  | 22 => ⟨S4096x1024, .f32⟩
  | 23 => ⟨S4096x1024, .f32⟩
  | 24 => ⟨S_, .f32⟩
  | 25 => ⟨S4126x1024, .f32⟩
  | 26 => ⟨S4126x1024, .f32⟩
  | 27 => ⟨S4096x1024, .f32⟩
  | 28 => ⟨S4096x1024, .f32⟩
  | 29 => ⟨S_, .f32⟩
  | 30 => ⟨S4126x1024, .f32⟩
  | 31 => ⟨S4126x1024, .f32⟩
  | 32 => ⟨S4096x1024, .f32⟩
  | 33 => ⟨S4096x1024, .f32⟩
  | 34 => ⟨S_, .f32⟩
  | 35 => ⟨S4126x1024, .f32⟩
  | 36 => ⟨S4126x1024, .f32⟩
  | 37 => ⟨S4096x1024, .f32⟩
  | 38 => ⟨S4096x1024, .f32⟩
  | 39 => ⟨S_, .f32⟩
  | 40 => ⟨S4126x1024, .f32⟩
  | 41 => ⟨S4126x1024, .f32⟩
  | 42 => ⟨S4096x1024, .f32⟩
  | 43 => ⟨S4096x1024, .f32⟩
  | 44 => ⟨S_, .f32⟩
  | 45 => ⟨S4126x1024, .f32⟩
  | 46 => ⟨S4126x1024, .f32⟩
  | 47 => ⟨S30x1024, .f32⟩
  | 48 => ⟨S4096x1024, .f32⟩
  | 49 => ⟨S4096x1024, .f32⟩
  | 50 => ⟨S4096x1024, .f32⟩
  | 51 => ⟨S4096x1024, .f32⟩
  | 52 => ⟨S4096x2048, .f32⟩
  | 53 => ⟨S4096x5632, .f32⟩
  | 54 => ⟨S4096x5632, .bf16⟩
  | _ => ⟨S4096x5632, .f32⟩

abbrev hbmTy (i : Nat) : BufTy := match i / 128 with
  | 0 => hbmTy0_0 i
  | 1 => hbmTy0_1 i
  | 2 => hbmTy0_2 i
  | 3 => hbmTy0_3 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_cst_4 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_cst_5 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_v255 : Ref sig .tc := ⟨.hbm, 268, rfl⟩
abbrev main_v256 : Ref sig .tc := ⟨.hbm, 269, rfl⟩
abbrev main_v257 : Ref sig .tc := ⟨.hbm, 270, rfl⟩
abbrev main_cst_6 : Ref sig .tc := ⟨.hbm, 271, rfl⟩
abbrev main_v258 : Ref sig .tc := ⟨.hbm, 272, rfl⟩
abbrev main_v259 : Ref sig .tc := ⟨.hbm, 273, rfl⟩
abbrev main_v260 : Ref sig .tc := ⟨.hbm, 274, rfl⟩
abbrev main_v261 : Ref sig .tc := ⟨.hbm, 275, rfl⟩
abbrev main_v262 : Ref sig .tc := ⟨.hbm, 276, rfl⟩
abbrev main_v263 : Ref sig .tc := ⟨.hbm, 277, rfl⟩
abbrev main_v264 : Ref sig .tc := ⟨.hbm, 278, rfl⟩
abbrev main_cst_7 : Ref sig .tc := ⟨.hbm, 279, rfl⟩
abbrev main_v265 : Ref sig .tc := ⟨.hbm, 280, rfl⟩
abbrev main_v266 : Ref sig .tc := ⟨.hbm, 281, rfl⟩
abbrev main_v267 : Ref sig .tc := ⟨.hbm, 282, rfl⟩
abbrev main_cst_8 : Ref sig .tc := ⟨.hbm, 283, rfl⟩
abbrev main_v268 : Ref sig .tc := ⟨.hbm, 284, rfl⟩
abbrev main_v269 : Ref sig .tc := ⟨.hbm, 285, rfl⟩
abbrev main_v270 : Ref sig .tc := ⟨.hbm, 286, rfl⟩
abbrev main_v271 : Ref sig .tc := ⟨.hbm, 287, rfl⟩
abbrev main_cst_9 : Ref sig .tc := ⟨.hbm, 288, rfl⟩
abbrev main_v272 : Ref sig .tc := ⟨.hbm, 289, rfl⟩
abbrev main_v273 : Ref sig .tc := ⟨.hbm, 290, rfl⟩
abbrev main_v274 : Ref sig .tc := ⟨.hbm, 291, rfl⟩
abbrev main_v275 : Ref sig .tc := ⟨.hbm, 292, rfl⟩
abbrev main_cst_10 : Ref sig .tc := ⟨.hbm, 293, rfl⟩
abbrev main_v276 : Ref sig .tc := ⟨.hbm, 294, rfl⟩
abbrev main_v277 : Ref sig .tc := ⟨.hbm, 295, rfl⟩
abbrev main_v278 : Ref sig .tc := ⟨.hbm, 296, rfl⟩
abbrev main_v279 : Ref sig .tc := ⟨.hbm, 297, rfl⟩
abbrev main_cst_11 : Ref sig .tc := ⟨.hbm, 298, rfl⟩
abbrev main_v280 : Ref sig .tc := ⟨.hbm, 299, rfl⟩
abbrev main_v281 : Ref sig .tc := ⟨.hbm, 300, rfl⟩
abbrev main_v282 : Ref sig .tc := ⟨.hbm, 301, rfl⟩
abbrev main_v283 : Ref sig .tc := ⟨.hbm, 302, rfl⟩
abbrev main_cst_12 : Ref sig .tc := ⟨.hbm, 303, rfl⟩
abbrev main_v284 : Ref sig .tc := ⟨.hbm, 304, rfl⟩
abbrev main_v285 : Ref sig .tc := ⟨.hbm, 305, rfl⟩
abbrev main_v286 : Ref sig .tc := ⟨.hbm, 306, rfl⟩
abbrev main_v287 : Ref sig .tc := ⟨.hbm, 307, rfl⟩
abbrev main_cst_13 : Ref sig .tc := ⟨.hbm, 308, rfl⟩
abbrev main_v288 : Ref sig .tc := ⟨.hbm, 309, rfl⟩
abbrev main_v289 : Ref sig .tc := ⟨.hbm, 310, rfl⟩
abbrev main_v290 : Ref sig .tc := ⟨.hbm, 311, rfl⟩
abbrev main_v291 : Ref sig .tc := ⟨.hbm, 312, rfl⟩
abbrev main_cst_14 : Ref sig .tc := ⟨.hbm, 313, rfl⟩
abbrev main_v292 : Ref sig .tc := ⟨.hbm, 314, rfl⟩
abbrev main_v293 : Ref sig .tc := ⟨.hbm, 315, rfl⟩
abbrev main_v294 : Ref sig .tc := ⟨.hbm, 316, rfl⟩
abbrev main_v295 : Ref sig .tc := ⟨.hbm, 317, rfl⟩
abbrev main_cst_15 : Ref sig .tc := ⟨.hbm, 318, rfl⟩
abbrev main_v296 : Ref sig .tc := ⟨.hbm, 319, rfl⟩
abbrev main_v297 : Ref sig .tc := ⟨.hbm, 320, rfl⟩
abbrev main_v298 : Ref sig .tc := ⟨.hbm, 321, rfl⟩
abbrev main_v299 : Ref sig .tc := ⟨.hbm, 322, rfl⟩
abbrev main_cst_16 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_cst_17 : Ref sig .tc := ⟨.hbm, 328, rfl⟩
abbrev main_v304 : Ref sig .tc := ⟨.hbm, 329, rfl⟩
abbrev main_v305 : Ref sig .tc := ⟨.hbm, 330, rfl⟩
abbrev main_v306 : Ref sig .tc := ⟨.hbm, 331, rfl⟩
abbrev main_v307 : Ref sig .tc := ⟨.hbm, 332, rfl⟩
abbrev main_cst_18 : Ref sig .tc := ⟨.hbm, 333, rfl⟩
abbrev main_v308 : Ref sig .tc := ⟨.hbm, 334, rfl⟩
abbrev main_v309 : Ref sig .tc := ⟨.hbm, 335, rfl⟩
abbrev main_v310 : Ref sig .tc := ⟨.hbm, 336, rfl⟩
abbrev main_v311 : Ref sig .tc := ⟨.hbm, 337, rfl⟩
abbrev main_cst_19 : Ref sig .tc := ⟨.hbm, 338, rfl⟩
abbrev main_v312 : Ref sig .tc := ⟨.hbm, 339, rfl⟩
abbrev main_v313 : Ref sig .tc := ⟨.hbm, 340, rfl⟩
abbrev main_v314 : Ref sig .tc := ⟨.hbm, 341, rfl⟩
abbrev main_v315 : Ref sig .tc := ⟨.hbm, 342, rfl⟩
abbrev main_cst_20 : Ref sig .tc := ⟨.hbm, 343, rfl⟩
abbrev main_v316 : Ref sig .tc := ⟨.hbm, 344, rfl⟩
abbrev main_v317 : Ref sig .tc := ⟨.hbm, 345, rfl⟩
abbrev main_v318 : Ref sig .tc := ⟨.hbm, 346, rfl⟩
abbrev main_v319 : Ref sig .tc := ⟨.hbm, 347, rfl⟩
abbrev main_cst_21 : Ref sig .tc := ⟨.hbm, 348, rfl⟩
abbrev main_v320 : Ref sig .tc := ⟨.hbm, 349, rfl⟩
abbrev main_v321 : Ref sig .tc := ⟨.hbm, 350, rfl⟩
abbrev main_v322 : Ref sig .tc := ⟨.hbm, 351, rfl⟩
abbrev main_v323 : Ref sig .tc := ⟨.hbm, 352, rfl⟩
abbrev main_cst_22 : Ref sig .tc := ⟨.hbm, 353, rfl⟩
abbrev main_v324 : Ref sig .tc := ⟨.hbm, 354, rfl⟩
abbrev main_v325 : Ref sig .tc := ⟨.hbm, 355, rfl⟩
abbrev main_v326 : Ref sig .tc := ⟨.hbm, 356, rfl⟩
abbrev main_v327 : Ref sig .tc := ⟨.hbm, 357, rfl⟩
abbrev main_cst_23 : Ref sig .tc := ⟨.hbm, 358, rfl⟩
abbrev main_v328 : Ref sig .tc := ⟨.hbm, 359, rfl⟩
abbrev main_v329 : Ref sig .tc := ⟨.hbm, 360, rfl⟩
abbrev main_v330 : Ref sig .tc := ⟨.hbm, 361, rfl⟩
abbrev main_v331 : Ref sig .tc := ⟨.hbm, 362, rfl⟩
abbrev main_cst_24 : Ref sig .tc := ⟨.hbm, 363, rfl⟩
abbrev main_v332 : Ref sig .tc := ⟨.hbm, 364, rfl⟩
abbrev main_v333 : Ref sig .tc := ⟨.hbm, 365, rfl⟩
abbrev main_v334 : Ref sig .tc := ⟨.hbm, 366, rfl⟩
abbrev main_v335 : Ref sig .tc := ⟨.hbm, 367, rfl⟩
abbrev main_cst_25 : Ref sig .tc := ⟨.hbm, 368, rfl⟩
abbrev main_v336 : Ref sig .tc := ⟨.hbm, 369, rfl⟩
abbrev main_v337 : Ref sig .tc := ⟨.hbm, 370, rfl⟩
abbrev main_v338 : Ref sig .tc := ⟨.hbm, 371, rfl⟩
abbrev main_v339 : Ref sig .tc := ⟨.hbm, 372, rfl⟩
abbrev main_cst_26 : Ref sig .tc := ⟨.hbm, 373, rfl⟩
abbrev main_v340 : Ref sig .tc := ⟨.hbm, 374, rfl⟩
abbrev main_v341 : Ref sig .tc := ⟨.hbm, 375, rfl⟩
abbrev main_v342 : Ref sig .tc := ⟨.hbm, 376, rfl⟩
abbrev main_v343 : Ref sig .tc := ⟨.hbm, 377, rfl⟩
abbrev main_cst_27 : Ref sig .tc := ⟨.hbm, 378, rfl⟩
abbrev main_v344 : Ref sig .tc := ⟨.hbm, 379, rfl⟩
abbrev main_v345 : Ref sig .tc := ⟨.hbm, 380, rfl⟩
abbrev main_v346 : Ref sig .tc := ⟨.hbm, 381, rfl⟩
abbrev main_v347 : Ref sig .tc := ⟨.hbm, 382, rfl⟩
abbrev main_cst_28 : Ref sig .tc := ⟨.hbm, 383, rfl⟩
abbrev main_v348 : Ref sig .tc := ⟨.hbm, 384, rfl⟩
abbrev main_v349 : Ref sig .tc := ⟨.hbm, 385, rfl⟩
abbrev main_v350 : Ref sig .tc := ⟨.hbm, 386, rfl⟩
abbrev main_v351 : Ref sig .tc := ⟨.hbm, 387, rfl⟩
abbrev main_cst_29 : Ref sig .tc := ⟨.hbm, 388, rfl⟩
abbrev main_v352 : Ref sig .tc := ⟨.hbm, 389, rfl⟩
abbrev main_v353 : Ref sig .tc := ⟨.hbm, 390, rfl⟩
abbrev main_v354 : Ref sig .tc := ⟨.hbm, 391, rfl⟩
abbrev main_v355 : Ref sig .tc := ⟨.hbm, 392, rfl⟩
abbrev main_cst_30 : Ref sig .tc := ⟨.hbm, 393, rfl⟩
abbrev main_v356 : Ref sig .tc := ⟨.hbm, 394, rfl⟩
abbrev main_v357 : Ref sig .tc := ⟨.hbm, 395, rfl⟩
abbrev main_v358 : Ref sig .tc := ⟨.hbm, 396, rfl⟩
abbrev main_v359 : Ref sig .tc := ⟨.hbm, 397, rfl⟩
abbrev main_cst_31 : Ref sig .tc := ⟨.hbm, 398, rfl⟩
abbrev main_v360 : Ref sig .tc := ⟨.hbm, 399, rfl⟩
abbrev main_v361 : Ref sig .tc := ⟨.hbm, 400, rfl⟩
abbrev main_v362 : Ref sig .tc := ⟨.hbm, 401, rfl⟩
abbrev main_v363 : Ref sig .tc := ⟨.hbm, 402, rfl⟩
abbrev main_cst_32 : Ref sig .tc := ⟨.hbm, 403, rfl⟩
abbrev main_v364 : Ref sig .tc := ⟨.hbm, 404, rfl⟩
abbrev main_v365 : Ref sig .tc := ⟨.hbm, 405, rfl⟩
abbrev main_v366 : Ref sig .tc := ⟨.hbm, 406, rfl⟩
abbrev main_v367 : Ref sig .tc := ⟨.hbm, 407, rfl⟩
abbrev main_cst_33 : Ref sig .tc := ⟨.hbm, 408, rfl⟩
abbrev main_v368 : Ref sig .tc := ⟨.hbm, 409, rfl⟩
abbrev main_v369 : Ref sig .tc := ⟨.hbm, 410, rfl⟩
abbrev main_v370 : Ref sig .tc := ⟨.hbm, 411, rfl⟩
abbrev main_v371 : Ref sig .tc := ⟨.hbm, 412, rfl⟩
abbrev main_cst_34 : Ref sig .tc := ⟨.hbm, 413, rfl⟩
abbrev main_v372 : Ref sig .tc := ⟨.hbm, 414, rfl⟩
abbrev main_v373 : Ref sig .tc := ⟨.hbm, 415, rfl⟩
abbrev main_v374 : Ref sig .tc := ⟨.hbm, 416, rfl⟩
abbrev main_v375 : Ref sig .tc := ⟨.hbm, 417, rfl⟩
abbrev main_cst_35 : Ref sig .tc := ⟨.hbm, 418, rfl⟩
abbrev main_v376 : Ref sig .tc := ⟨.hbm, 419, rfl⟩
abbrev main_v377 : Ref sig .tc := ⟨.hbm, 420, rfl⟩
abbrev main_v378 : Ref sig .tc := ⟨.hbm, 421, rfl⟩
abbrev main_v379 : Ref sig .tc := ⟨.hbm, 422, rfl⟩
abbrev main_cst_36 : Ref sig .tc := ⟨.hbm, 423, rfl⟩
abbrev main_v380 : Ref sig .tc := ⟨.hbm, 424, rfl⟩
abbrev main_v381 : Ref sig .tc := ⟨.hbm, 425, rfl⟩
abbrev main_v382 : Ref sig .tc := ⟨.hbm, 426, rfl⟩
abbrev main_v383 : Ref sig .tc := ⟨.hbm, 427, rfl⟩
abbrev main_cst_37 : Ref sig .tc := ⟨.hbm, 428, rfl⟩
abbrev main_v384 : Ref sig .tc := ⟨.hbm, 429, rfl⟩
abbrev main_v385 : Ref sig .tc := ⟨.hbm, 430, rfl⟩
abbrev main_v386 : Ref sig .tc := ⟨.hbm, 431, rfl⟩
abbrev main_v387 : Ref sig .tc := ⟨.hbm, 432, rfl⟩
abbrev main_v388 : Ref sig .tc := ⟨.hbm, 433, rfl⟩
abbrev main_v389 : Ref sig .tc := ⟨.hbm, 434, rfl⟩
abbrev main_v390 : Ref sig .tc := ⟨.hbm, 435, rfl⟩
abbrev main_v391 : Ref sig .tc := ⟨.hbm, 436, rfl⟩
abbrev main_v392 : Ref sig .tc := ⟨.hbm, 437, rfl⟩
abbrev main_v393 : Ref sig .tc := ⟨.hbm, 438, rfl⟩

abbrev nD : Nat := 1
abbrev τ : Topo := Topo.v7x

variable {F : FTy → Type} [FloatOps F]
-- ==== ConvLn.lean ====
abbrev S4096x5632 : Shape := ⟨2, ![4096, 5632]⟩
abbrev S31x1024 : Shape := ⟨2, ![31, 1024]⟩
abbrev S1024 : Shape := ⟨1, ![1024]⟩
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S1x1024 : Shape := ⟨2, ![1, 1024]⟩
abbrev S32x1024 : Shape := ⟨2, ![32, 1024]⟩
abbrev S256x1024 : Shape := ⟨2, ![256, 1024]⟩
abbrev S288x1024 : Shape := ⟨2, ![288, 1024]⟩
abbrev S256 : Shape := ⟨1, ![256]⟩
abbrev S256x1 : Shape := ⟨2, ![256, 1]⟩
abbrev S8x128 : Shape := ⟨2, ![8, 128]⟩
abbrev S128x128 : Shape := ⟨2, ![128, 128]⟩
abbrev S152x128 : Shape := ⟨2, ![152, 128]⟩
abbrev S16x8x128 : Shape := ⟨3, ![16, 8, 128]⟩
abbrev S160x128 : Shape := ⟨2, ![160, 128]⟩
abbrev S1x128 : Shape := ⟨2, ![1, 128]⟩
abbrev S128 : Shape := ⟨1, ![128]⟩

abbrev nBuf : Space → Nat
  | .hbm => 248
  | .vmem => 21
  | .smem => 0
  | _ => 0

abbrev hbmTy0_0 (i : Nat) : BufTy := match i % 128 with
  | 0 => ⟨S4096x5632, .f32⟩
  | 1 => ⟨S31x1024, .f32⟩
  | 2 => ⟨S1024, .f32⟩
  | 3 => ⟨S1024, .f32⟩
  | 4 => ⟨S1024, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S_, .f32⟩
  | 18 => ⟨S30x1024, .f32⟩
  | 19 => ⟨S4126x1024, .f32⟩
  | 20 => ⟨S1x1024, .f32⟩
  | 21 => ⟨S1024, .f32⟩
  | 22 => ⟨S4096x1024, .f32⟩
  | 23 => ⟨S1x1024, .f32⟩
  | 24 => ⟨S4096x1024, .f32⟩
  | 25 => ⟨S4096x1024, .f32⟩
  | 26 => ⟨S1x1024, .f32⟩
  | 27 => ⟨S1024, .f32⟩
  | 28 => ⟨S4096x1024, .f32⟩
  | 29 => ⟨S1x1024, .f32⟩
  | 30 => ⟨S4096x1024, .f32⟩
  | 31 => ⟨S4096x1024, .f32⟩
  | 32 => ⟨S4096x1024, .f32⟩
  | 33 => ⟨S1x1024, .f32⟩
  | 34 => ⟨S1024, .f32⟩
  | 35 => ⟨S4096x1024, .f32⟩
  | 36 => ⟨S1x1024, .f32⟩
  | 37 => ⟨S4096x1024, .f32⟩
  | 38 => ⟨S4096x1024, .f32⟩
  | 39 => ⟨S4096x1024, .f32⟩
  | 40 => ⟨S1x1024, .f32⟩
  | 41 => ⟨S1024, .f32⟩
  | 42 => ⟨S4096x1024, .f32⟩
  | 43 => ⟨S1x1024, .f32⟩
  | 44 => ⟨S4096x1024, .f32⟩
  | 45 => ⟨S4096x1024, .f32⟩
  | 46 => ⟨S4096x1024, .f32⟩
  | 47 => ⟨S1x1024, .f32⟩
  | 48 => ⟨S1024, .f32⟩
  | 49 => ⟨S4096x1024, .f32⟩
  | 50 => ⟨S1x1024, .f32⟩
  | 51 => ⟨S4096x1024, .f32⟩
  | 52 => ⟨S4096x1024, .f32⟩
  | 53 => ⟨S4096x1024, .f32⟩
  | 54 => ⟨S1x1024, .f32⟩
  | 55 => ⟨S1024, .f32⟩
  | 56 => ⟨S4096x1024, .f32⟩
  | 57 => ⟨S1x1024, .f32⟩
  | 58 => ⟨S4096x1024, .f32⟩
  | 59 => ⟨S4096x1024, .f32⟩
  | 60 => ⟨S4096x1024, .f32⟩
  | 61 => ⟨S1x1024, .f32⟩
  | 62 => ⟨S1024, .f32⟩
  | 63 => ⟨S4096x1024, .f32⟩
  | 64 => ⟨S1x1024, .f32⟩
  | 65 => ⟨S4096x1024, .f32⟩
  | 66 => ⟨S4096x1024, .f32⟩
  | 67 => ⟨S4096x1024, .f32⟩
  | 68 => ⟨S1x1024, .f32⟩
  | 69 => ⟨S1024, .f32⟩
  | 70 => ⟨S4096x1024, .f32⟩
  | 71 => ⟨S1x1024, .f32⟩
  | 72 => ⟨S4096x1024, .f32⟩
  | 73 => ⟨S4096x1024, .f32⟩
  | 74 => ⟨S4096x1024, .f32⟩
  | 75 => ⟨S1x1024, .f32⟩
  | 76 => ⟨S1024, .f32⟩
  | 77 => ⟨S4096x1024, .f32⟩
  | 78 => ⟨S1x1024, .f32⟩
  | 79 => ⟨S4096x1024, .f32⟩
  | 80 => ⟨S4096x1024, .f32⟩
  | 81 => ⟨S4096x1024, .f32⟩
  | 82 => ⟨S1x1024, .f32⟩
  | 83 => ⟨S1024, .f32⟩
  | 84 => ⟨S4096x1024, .f32⟩
  | 85 => ⟨S1x1024, .f32⟩
  | 86 => ⟨S4096x1024, .f32⟩
  | 87 => ⟨S4096x1024, .f32⟩
  | 88 => ⟨S4096x1024, .f32⟩
  | 89 => ⟨S1x1024, .f32⟩
  | 90 => ⟨S1024, .f32⟩
  | 91 => ⟨S4096x1024, .f32⟩
  | 92 => ⟨S1x1024, .f32⟩
  | 93 => ⟨S4096x1024, .f32⟩
  | 94 => ⟨S4096x1024, .f32⟩
  | 95 => ⟨S4096x1024, .f32⟩
  | 96 => ⟨S1x1024, .f32⟩
  | 97 => ⟨S1024, .f32⟩
  | 98 => ⟨S4096x1024, .f32⟩
  | 99 => ⟨S1x1024, .f32⟩
  | 100 => ⟨S4096x1024, .f32⟩
  | 101 => ⟨S4096x1024, .f32⟩
  | 102 => ⟨S4096x1024, .f32⟩
  | 103 => ⟨S1x1024, .f32⟩
  | 104 => ⟨S1024, .f32⟩
  | 105 => ⟨S4096x1024, .f32⟩
  | 106 => ⟨S1x1024, .f32⟩
  | 107 => ⟨S4096x1024, .f32⟩
  | 108 => ⟨S4096x1024, .f32⟩
  | 109 => ⟨S4096x1024, .f32⟩
  | 110 => ⟨S1x1024, .f32⟩
  | 111 => ⟨S1024, .f32⟩
  | 112 => ⟨S4096x1024, .f32⟩
  | 113 => ⟨S1x1024, .f32⟩
  | 114 => ⟨S4096x1024, .f32⟩
  | 115 => ⟨S4096x1024, .f32⟩
  | 116 => ⟨S4096x1024, .f32⟩
  | 117 => ⟨S1x1024, .f32⟩
  | 118 => ⟨S1024, .f32⟩
  | 119 => ⟨S4096x1024, .f32⟩
  | 120 => ⟨S1x1024, .f32⟩
  | 121 => ⟨S4096x1024, .f32⟩
  | 122 => ⟨S4096x1024, .f32⟩
  | 123 => ⟨S4096x1024, .f32⟩
  | 124 => ⟨S1x1024, .f32⟩
  | 125 => ⟨S1024, .f32⟩
  | 126 => ⟨S4096x1024, .f32⟩
  | 127 => ⟨S1x1024, .f32⟩
  | _ => ⟨S4096x5632, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S1x1024, .f32⟩
  | 4 => ⟨S1024, .f32⟩
  | 5 => ⟨S4096x1024, .f32⟩
  | 6 => ⟨S1x1024, .f32⟩
  | 7 => ⟨S4096x1024, .f32⟩
  | 8 => ⟨S4096x1024, .f32⟩
  | 9 => ⟨S4096x1024, .f32⟩
  | 10 => ⟨S1x1024, .f32⟩
  | 11 => ⟨S1024, .f32⟩
  | 12 => ⟨S4096x1024, .f32⟩
  | 13 => ⟨S1x1024, .f32⟩
  | 14 => ⟨S4096x1024, .f32⟩
  | 15 => ⟨S4096x1024, .f32⟩
  | 16 => ⟨S4096x1024, .f32⟩
  | 17 => ⟨S1x1024, .f32⟩
  | 18 => ⟨S1024, .f32⟩
  | 19 => ⟨S4096x1024, .f32⟩
  | 20 => ⟨S1x1024, .f32⟩
  | 21 => ⟨S4096x1024, .f32⟩
  | 22 => ⟨S4096x1024, .f32⟩
  | 23 => ⟨S4096x1024, .f32⟩
  | 24 => ⟨S1x1024, .f32⟩
  | 25 => ⟨S1024, .f32⟩
  | 26 => ⟨S4096x1024, .f32⟩
  | 27 => ⟨S1x1024, .f32⟩
  | 28 => ⟨S4096x1024, .f32⟩
  | 29 => ⟨S4096x1024, .f32⟩
  | 30 => ⟨S4096x1024, .f32⟩
  | 31 => ⟨S1x1024, .f32⟩
  | 32 => ⟨S1024, .f32⟩
  | 33 => ⟨S4096x1024, .f32⟩
  | 34 => ⟨S1x1024, .f32⟩
  | 35 => ⟨S4096x1024, .f32⟩
  | 36 => ⟨S4096x1024, .f32⟩
  | 37 => ⟨S4096x1024, .f32⟩
  | 38 => ⟨S1x1024, .f32⟩
  | 39 => ⟨S1024, .f32⟩
  | 40 => ⟨S4096x1024, .f32⟩
  | 41 => ⟨S1x1024, .f32⟩
  | 42 => ⟨S4096x1024, .f32⟩
  | 43 => ⟨S4096x1024, .f32⟩
  | 44 => ⟨S4096x1024, .f32⟩
  | 45 => ⟨S1x1024, .f32⟩
  | 46 => ⟨S1024, .f32⟩
  | 47 => ⟨S4096x1024, .f32⟩
  | 48 => ⟨S1x1024, .f32⟩
  | 49 => ⟨S4096x1024, .f32⟩
  | 50 => ⟨S4096x1024, .f32⟩
  | 51 => ⟨S4096x1024, .f32⟩
  | 52 => ⟨S1x1024, .f32⟩
  | 53 => ⟨S1024, .f32⟩
  | 54 => ⟨S4096x1024, .f32⟩
  | 55 => ⟨S1x1024, .f32⟩
  | 56 => ⟨S4096x1024, .f32⟩
  | 57 => ⟨S4096x1024, .f32⟩
  | 58 => ⟨S4096x1024, .f32⟩
  | 59 => ⟨S1x1024, .f32⟩
  | 60 => ⟨S1024, .f32⟩
  | 61 => ⟨S4096x1024, .f32⟩
  | 62 => ⟨S1x1024, .f32⟩
  | 63 => ⟨S4096x1024, .f32⟩
  | 64 => ⟨S4096x1024, .f32⟩
  | 65 => ⟨S4096x1024, .f32⟩
  | 66 => ⟨S1x1024, .f32⟩
  | 67 => ⟨S1024, .f32⟩
  | 68 => ⟨S4096x1024, .f32⟩
  | 69 => ⟨S1x1024, .f32⟩
  | 70 => ⟨S4096x1024, .f32⟩
  | 71 => ⟨S4096x1024, .f32⟩
  | 72 => ⟨S4096x1024, .f32⟩
  | 73 => ⟨S1x1024, .f32⟩
  | 74 => ⟨S1024, .f32⟩
  | 75 => ⟨S4096x1024, .f32⟩
  | 76 => ⟨S1x1024, .f32⟩
  | 77 => ⟨S4096x1024, .f32⟩
  | 78 => ⟨S4096x1024, .f32⟩
  | 79 => ⟨S4096x1024, .f32⟩
  | 80 => ⟨S1x1024, .f32⟩
  | 81 => ⟨S1024, .f32⟩
  | 82 => ⟨S4096x1024, .f32⟩
  | 83 => ⟨S1x1024, .f32⟩
  | 84 => ⟨S4096x1024, .f32⟩
  | 85 => ⟨S4096x1024, .f32⟩
  | 86 => ⟨S4096x1024, .f32⟩
  | 87 => ⟨S1x1024, .f32⟩
  | 88 => ⟨S1024, .f32⟩
  | 89 => ⟨S4096x1024, .f32⟩
  | 90 => ⟨S1x1024, .f32⟩
  | 91 => ⟨S4096x1024, .f32⟩
  | 92 => ⟨S4096x1024, .f32⟩
  | 93 => ⟨S4096x1024, .f32⟩
  | 94 => ⟨S1x1024, .f32⟩
  | 95 => ⟨S1024, .f32⟩
  | 96 => ⟨S4096x1024, .f32⟩
  | 97 => ⟨S1x1024, .f32⟩
  | 98 => ⟨S4096x1024, .f32⟩
  | 99 => ⟨S4096x1024, .f32⟩
  | 100 => ⟨S4096x1024, .f32⟩
  | 101 => ⟨S1x1024, .f32⟩
  | 102 => ⟨S1024, .f32⟩
  | 103 => ⟨S4096x1024, .f32⟩
  | 104 => ⟨S1x1024, .f32⟩
  | 105 => ⟨S4096x1024, .f32⟩
  | 106 => ⟨S4096x1024, .f32⟩
  | 107 => ⟨S4096x1024, .f32⟩
  | 108 => ⟨S1x1024, .f32⟩
  | 109 => ⟨S4096x1024, .f32⟩
  | 110 => ⟨S4096x1024, .f32⟩
  | 111 => ⟨S4096x5632, .bf16⟩
  | 112 => ⟨S4096x1024, .bf16⟩
  | 113 => ⟨S1x1024, .f32⟩
  | 114 => ⟨S1x1024, .f32⟩
  | 115 => ⟨S4096x1024, .f32⟩
  | 116 => ⟨S32x1024, .f32⟩
  | 117 => ⟨S1x1024, .f32⟩
  | 118 => ⟨S1x1024, .f32⟩
  | 119 => ⟨S1x1024, .f32⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S32x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S288x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234_0 : Ref sig .tc := ⟨.hbm, 243, rfl⟩
abbrev main_v234_1 : Ref sig .tc := ⟨.hbm, 244, rfl⟩
abbrev main_v234_2 : Ref sig .tc := ⟨.hbm, 245, rfl⟩
abbrev main_v234_3 : Ref sig .tc := ⟨.hbm, 246, rfl⟩
abbrev main_v234_4 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ConvLnRefIdeal.lean ====
abbrev S4096x5632 : Shape := ⟨2, ![4096, 5632]⟩
abbrev S31x1024 : Shape := ⟨2, ![31, 1024]⟩
abbrev S1024 : Shape := ⟨1, ![1024]⟩
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S1x1024 : Shape := ⟨2, ![1, 1024]⟩
abbrev S4096 : Shape := ⟨1, ![4096]⟩
abbrev S4096x1 : Shape := ⟨2, ![4096, 1]⟩

abbrev nBuf : Space → Nat
  | .hbm => 344
  | .vmem => 0
  | .smem => 0
  | _ => 0

abbrev hbmTy0_0 (i : Nat) : BufTy := match i % 128 with
  | 0 => ⟨S4096x5632, .f32⟩
  | 1 => ⟨S31x1024, .f32⟩
  | 2 => ⟨S1024, .f32⟩
  | 3 => ⟨S1024, .f32⟩
  | 4 => ⟨S1024, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S_, .f32⟩
  | 18 => ⟨S30x1024, .f32⟩
  | 19 => ⟨S4126x1024, .f32⟩
  | 20 => ⟨S1x1024, .f32⟩
  | 21 => ⟨S1024, .f32⟩
  | 22 => ⟨S4096x1024, .f32⟩
  | 23 => ⟨S1x1024, .f32⟩
  | 24 => ⟨S4096x1024, .f32⟩
  | 25 => ⟨S4096x1024, .f32⟩
  | 26 => ⟨S1x1024, .f32⟩
  | 27 => ⟨S1024, .f32⟩
  | 28 => ⟨S4096x1024, .f32⟩
  | 29 => ⟨S1x1024, .f32⟩
  | 30 => ⟨S4096x1024, .f32⟩
  | 31 => ⟨S4096x1024, .f32⟩
  | 32 => ⟨S4096x1024, .f32⟩
  | 33 => ⟨S1x1024, .f32⟩
  | 34 => ⟨S1024, .f32⟩
  | 35 => ⟨S4096x1024, .f32⟩
  | 36 => ⟨S1x1024, .f32⟩
  | 37 => ⟨S4096x1024, .f32⟩
  | 38 => ⟨S4096x1024, .f32⟩
  | 39 => ⟨S4096x1024, .f32⟩
  | 40 => ⟨S1x1024, .f32⟩
  | 41 => ⟨S1024, .f32⟩
  | 42 => ⟨S4096x1024, .f32⟩
  | 43 => ⟨S1x1024, .f32⟩
  | 44 => ⟨S4096x1024, .f32⟩
  | 45 => ⟨S4096x1024, .f32⟩
  | 46 => ⟨S4096x1024, .f32⟩
  | 47 => ⟨S1x1024, .f32⟩
  | 48 => ⟨S1024, .f32⟩
  | 49 => ⟨S4096x1024, .f32⟩
  | 50 => ⟨S1x1024, .f32⟩
  | 51 => ⟨S4096x1024, .f32⟩
  | 52 => ⟨S4096x1024, .f32⟩
  | 53 => ⟨S4096x1024, .f32⟩
  | 54 => ⟨S1x1024, .f32⟩
  | 55 => ⟨S1024, .f32⟩
  | 56 => ⟨S4096x1024, .f32⟩
  | 57 => ⟨S1x1024, .f32⟩
  | 58 => ⟨S4096x1024, .f32⟩
  | 59 => ⟨S4096x1024, .f32⟩
  | 60 => ⟨S4096x1024, .f32⟩
  | 61 => ⟨S1x1024, .f32⟩
  | 62 => ⟨S1024, .f32⟩
  | 63 => ⟨S4096x1024, .f32⟩
  | 64 => ⟨S1x1024, .f32⟩
  | 65 => ⟨S4096x1024, .f32⟩
  | 66 => ⟨S4096x1024, .f32⟩
  | 67 => ⟨S4096x1024, .f32⟩
  | 68 => ⟨S1x1024, .f32⟩
  | 69 => ⟨S1024, .f32⟩
  | 70 => ⟨S4096x1024, .f32⟩
  | 71 => ⟨S1x1024, .f32⟩
  | 72 => ⟨S4096x1024, .f32⟩
  | 73 => ⟨S4096x1024, .f32⟩
  | 74 => ⟨S4096x1024, .f32⟩
  | 75 => ⟨S1x1024, .f32⟩
  | 76 => ⟨S1024, .f32⟩
  | 77 => ⟨S4096x1024, .f32⟩
  | 78 => ⟨S1x1024, .f32⟩
  | 79 => ⟨S4096x1024, .f32⟩
  | 80 => ⟨S4096x1024, .f32⟩
  | 81 => ⟨S4096x1024, .f32⟩
  | 82 => ⟨S1x1024, .f32⟩
  | 83 => ⟨S1024, .f32⟩
  | 84 => ⟨S4096x1024, .f32⟩
  | 85 => ⟨S1x1024, .f32⟩
  | 86 => ⟨S4096x1024, .f32⟩
  | 87 => ⟨S4096x1024, .f32⟩
  | 88 => ⟨S4096x1024, .f32⟩
  | 89 => ⟨S1x1024, .f32⟩
  | 90 => ⟨S1024, .f32⟩
  | 91 => ⟨S4096x1024, .f32⟩
  | 92 => ⟨S1x1024, .f32⟩
  | 93 => ⟨S4096x1024, .f32⟩
  | 94 => ⟨S4096x1024, .f32⟩
  | 95 => ⟨S4096x1024, .f32⟩
  | 96 => ⟨S1x1024, .f32⟩
  | 97 => ⟨S1024, .f32⟩
  | 98 => ⟨S4096x1024, .f32⟩
  | 99 => ⟨S1x1024, .f32⟩
  | 100 => ⟨S4096x1024, .f32⟩
  | 101 => ⟨S4096x1024, .f32⟩
  | 102 => ⟨S4096x1024, .f32⟩
  | 103 => ⟨S1x1024, .f32⟩
  | 104 => ⟨S1024, .f32⟩
  | 105 => ⟨S4096x1024, .f32⟩
  | 106 => ⟨S1x1024, .f32⟩
  | 107 => ⟨S4096x1024, .f32⟩
  | 108 => ⟨S4096x1024, .f32⟩
  | 109 => ⟨S4096x1024, .f32⟩
  | 110 => ⟨S1x1024, .f32⟩
  | 111 => ⟨S1024, .f32⟩
  | 112 => ⟨S4096x1024, .f32⟩
  | 113 => ⟨S1x1024, .f32⟩
  | 114 => ⟨S4096x1024, .f32⟩
  | 115 => ⟨S4096x1024, .f32⟩
  | 116 => ⟨S4096x1024, .f32⟩
  | 117 => ⟨S1x1024, .f32⟩
  | 118 => ⟨S1024, .f32⟩
  | 119 => ⟨S4096x1024, .f32⟩
  | 120 => ⟨S1x1024, .f32⟩
  | 121 => ⟨S4096x1024, .f32⟩
  | 122 => ⟨S4096x1024, .f32⟩
  | 123 => ⟨S4096x1024, .f32⟩
  | 124 => ⟨S1x1024, .f32⟩
  | 125 => ⟨S1024, .f32⟩
  | 126 => ⟨S4096x1024, .f32⟩
  | 127 => ⟨S1x1024, .f32⟩
  | _ => ⟨S4096x5632, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S1x1024, .f32⟩
  | 4 => ⟨S1024, .f32⟩
  | 5 => ⟨S4096x1024, .f32⟩
  | 6 => ⟨S1x1024, .f32⟩
  | 7 => ⟨S4096x1024, .f32⟩
  | 8 => ⟨S4096x1024, .f32⟩
  | 9 => ⟨S4096x1024, .f32⟩
  | 10 => ⟨S1x1024, .f32⟩
  | 11 => ⟨S1024, .f32⟩
  | 12 => ⟨S4096x1024, .f32⟩
  | 13 => ⟨S1x1024, .f32⟩
  | 14 => ⟨S4096x1024, .f32⟩
  | 15 => ⟨S4096x1024, .f32⟩
  | 16 => ⟨S4096x1024, .f32⟩
  | 17 => ⟨S1x1024, .f32⟩
  | 18 => ⟨S1024, .f32⟩
  | 19 => ⟨S4096x1024, .f32⟩
  | 20 => ⟨S1x1024, .f32⟩
  | 21 => ⟨S4096x1024, .f32⟩
  | 22 => ⟨S4096x1024, .f32⟩
  | 23 => ⟨S4096x1024, .f32⟩
  | 24 => ⟨S1x1024, .f32⟩
  | 25 => ⟨S1024, .f32⟩
  | 26 => ⟨S4096x1024, .f32⟩
  | 27 => ⟨S1x1024, .f32⟩
  | 28 => ⟨S4096x1024, .f32⟩
  | 29 => ⟨S4096x1024, .f32⟩
  | 30 => ⟨S4096x1024, .f32⟩
  | 31 => ⟨S1x1024, .f32⟩
  | 32 => ⟨S1024, .f32⟩
  | 33 => ⟨S4096x1024, .f32⟩
  | 34 => ⟨S1x1024, .f32⟩
  | 35 => ⟨S4096x1024, .f32⟩
  | 36 => ⟨S4096x1024, .f32⟩
  | 37 => ⟨S4096x1024, .f32⟩
  | 38 => ⟨S1x1024, .f32⟩
  | 39 => ⟨S1024, .f32⟩
  | 40 => ⟨S4096x1024, .f32⟩
  | 41 => ⟨S1x1024, .f32⟩
  | 42 => ⟨S4096x1024, .f32⟩
  | 43 => ⟨S4096x1024, .f32⟩
  | 44 => ⟨S4096x1024, .f32⟩
  | 45 => ⟨S1x1024, .f32⟩
  | 46 => ⟨S1024, .f32⟩
  | 47 => ⟨S4096x1024, .f32⟩
  | 48 => ⟨S1x1024, .f32⟩
  | 49 => ⟨S4096x1024, .f32⟩
  | 50 => ⟨S4096x1024, .f32⟩
  | 51 => ⟨S4096x1024, .f32⟩
  | 52 => ⟨S1x1024, .f32⟩
  | 53 => ⟨S1024, .f32⟩
  | 54 => ⟨S4096x1024, .f32⟩
  | 55 => ⟨S1x1024, .f32⟩
  | 56 => ⟨S4096x1024, .f32⟩
  | 57 => ⟨S4096x1024, .f32⟩
  | 58 => ⟨S4096x1024, .f32⟩
  | 59 => ⟨S1x1024, .f32⟩
  | 60 => ⟨S1024, .f32⟩
  | 61 => ⟨S4096x1024, .f32⟩
  | 62 => ⟨S1x1024, .f32⟩
  | 63 => ⟨S4096x1024, .f32⟩
  | 64 => ⟨S4096x1024, .f32⟩
  | 65 => ⟨S4096x1024, .f32⟩
  | 66 => ⟨S1x1024, .f32⟩
  | 67 => ⟨S1024, .f32⟩
  | 68 => ⟨S4096x1024, .f32⟩
  | 69 => ⟨S1x1024, .f32⟩
  | 70 => ⟨S4096x1024, .f32⟩
  | 71 => ⟨S4096x1024, .f32⟩
  | 72 => ⟨S4096x1024, .f32⟩
  | 73 => ⟨S1x1024, .f32⟩
  | 74 => ⟨S1024, .f32⟩
  | 75 => ⟨S4096x1024, .f32⟩
  | 76 => ⟨S1x1024, .f32⟩
  | 77 => ⟨S4096x1024, .f32⟩
  | 78 => ⟨S4096x1024, .f32⟩
  | 79 => ⟨S4096x1024, .f32⟩
  | 80 => ⟨S1x1024, .f32⟩
  | 81 => ⟨S1024, .f32⟩
  | 82 => ⟨S4096x1024, .f32⟩
  | 83 => ⟨S1x1024, .f32⟩
  | 84 => ⟨S4096x1024, .f32⟩
  | 85 => ⟨S4096x1024, .f32⟩
  | 86 => ⟨S4096x1024, .f32⟩
  | 87 => ⟨S1x1024, .f32⟩
  | 88 => ⟨S1024, .f32⟩
  | 89 => ⟨S4096x1024, .f32⟩
  | 90 => ⟨S1x1024, .f32⟩
  | 91 => ⟨S4096x1024, .f32⟩
  | 92 => ⟨S4096x1024, .f32⟩
  | 93 => ⟨S4096x1024, .f32⟩
  | 94 => ⟨S1x1024, .f32⟩
  | 95 => ⟨S1024, .f32⟩
  | 96 => ⟨S4096x1024, .f32⟩
  | 97 => ⟨S1x1024, .f32⟩
  | 98 => ⟨S4096x1024, .f32⟩
  | 99 => ⟨S4096x1024, .f32⟩
  | 100 => ⟨S4096x1024, .f32⟩
  | 101 => ⟨S1x1024, .f32⟩
  | 102 => ⟨S1024, .f32⟩
  | 103 => ⟨S4096x1024, .f32⟩
  | 104 => ⟨S1x1024, .f32⟩
  | 105 => ⟨S4096x1024, .f32⟩
  | 106 => ⟨S4096x1024, .f32⟩
  | 107 => ⟨S4096x1024, .f32⟩
  | 108 => ⟨S1x1024, .f32⟩
  | 109 => ⟨S4096x1024, .f32⟩
  | 110 => ⟨S4096x1024, .f32⟩
  | 111 => ⟨S_, .f32⟩
  | 112 => ⟨S4096, .f32⟩
  | 113 => ⟨S4096x1, .f32⟩
  | 114 => ⟨S_, .f32⟩
  | 115 => ⟨S4096x1, .f32⟩
  | 116 => ⟨S4096x1, .f32⟩
  | 117 => ⟨S4096x1024, .f32⟩
  | 118 => ⟨S4096x1024, .f32⟩
  | 119 => ⟨S4096x1024, .f32⟩
  | 120 => ⟨S_, .f32⟩
  | 121 => ⟨S4096x1024, .f32⟩
  | 122 => ⟨S4096x1024, .f32⟩
  | 123 => ⟨S_, .f32⟩
  | 124 => ⟨S4096, .f32⟩
  | 125 => ⟨S4096x1, .f32⟩
  | 126 => ⟨S_, .f32⟩
  | 127 => ⟨S4096x1, .f32⟩
  | _ => ⟨S4096x5632, .f32⟩

abbrev hbmTy0_2 (i : Nat) : BufTy := match i % 128 with
  | 0 => ⟨S4096x1, .f32⟩
  | 1 => ⟨S4096x1024, .f32⟩
  | 2 => ⟨S4096x1024, .f32⟩
  | 3 => ⟨S_, .f32⟩
  | 4 => ⟨S4096x1, .f32⟩
  | 5 => ⟨S4096x1, .f32⟩
  | 6 => ⟨S4096x1, .f32⟩
  | 7 => ⟨S4096x1, .f32⟩
  | 8 => ⟨S_, .f32⟩
  | 9 => ⟨S4096x1, .f32⟩
  | 10 => ⟨S4096x1, .f32⟩
  | 11 => ⟨S4096x1024, .f32⟩
  | 12 => ⟨S4096x1024, .f32⟩
  | 13 => ⟨S1x1024, .f32⟩
  | 14 => ⟨S4096x1024, .f32⟩
  | 15 => ⟨S4096x1024, .f32⟩
  | 16 => ⟨S1x1024, .f32⟩
  | 17 => ⟨S4096x1024, .f32⟩
  | 18 => ⟨S4096x1024, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S1024, .f32⟩
  | 38 => ⟨S1x1024, .f32⟩
  | 39 => ⟨S_, .f32⟩
  | 40 => ⟨S1024, .f32⟩
  | 41 => ⟨S4096x1024, .f32⟩
  | 42 => ⟨S_, .f32⟩
  | 43 => ⟨S1024, .f32⟩
  | 44 => ⟨S1x1024, .f32⟩
  | 45 => ⟨S4096x1024, .f32⟩
  | 46 => ⟨S4096x1024, .f32⟩
  | 47 => ⟨S_, .f32⟩
  | 48 => ⟨S1024, .f32⟩
  | 49 => ⟨S4096x1024, .f32⟩
  | 50 => ⟨S_, .f32⟩
  | 51 => ⟨S4096, .f32⟩
  | 52 => ⟨S4096x1, .f32⟩
  | 53 => ⟨S4096x1024, .f32⟩
  | 54 => ⟨S4096x1024, .f32⟩
  | 55 => ⟨S4096x1, .f32⟩
  | 56 => ⟨S4096x1024, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096, .f32⟩
  | 65 => ⟨S4096x1024, .f32⟩
  | 66 => ⟨S4096x1024, .f32⟩
  | 67 => ⟨S4096x1024, .f32⟩
  | 68 => ⟨S_, .f32⟩
  | 69 => ⟨S4096, .f32⟩
  | 70 => ⟨S4096x1, .f32⟩
  | 71 => ⟨S4096x1024, .f32⟩
  | 72 => ⟨S4096x1, .f32⟩
  | 73 => ⟨S_, .f32⟩
  | 74 => ⟨S4096x1, .f32⟩
  | 75 => ⟨S4096x1, .f32⟩
  | 76 => ⟨S_, .f32⟩
  | 77 => ⟨S4096, .f32⟩
  | 78 => ⟨S4096x1024, .f32⟩
  | 79 => ⟨S4096x1024, .f32⟩
  | 80 => ⟨S_, .f32⟩
  | 81 => ⟨S1024, .f32⟩
  | 82 => ⟨S1x1024, .f32⟩
  | 83 => ⟨S_, .f32⟩
  | 84 => ⟨S1024, .f32⟩
  | 85 => ⟨S1x1024, .f32⟩
  | 86 => ⟨S1x1024, .f32⟩
  | 87 => ⟨S1x1024, .f32⟩
  | _ => ⟨S4096x5632, .f32⟩

abbrev hbmTy (i : Nat) : BufTy := match i / 128 with
  | 0 => hbmTy0_0 i
  | 1 => hbmTy0_1 i
  | 2 => hbmTy0_2 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_cst_2 : Ref sig .tc := ⟨.hbm, 239, rfl⟩
abbrev main_v230 : Ref sig .tc := ⟨.hbm, 240, rfl⟩
abbrev main_v231 : Ref sig .tc := ⟨.hbm, 241, rfl⟩
abbrev main_cst_3 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_cst_4 : Ref sig .tc := ⟨.hbm, 248, rfl⟩
abbrev main_v237 : Ref sig .tc := ⟨.hbm, 249, rfl⟩
abbrev main_v238 : Ref sig .tc := ⟨.hbm, 250, rfl⟩
abbrev main_cst_5 : Ref sig .tc := ⟨.hbm, 251, rfl⟩
abbrev main_v239 : Ref sig .tc := ⟨.hbm, 252, rfl⟩
abbrev main_v240 : Ref sig .tc := ⟨.hbm, 253, rfl⟩
abbrev main_cst_6 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_cst_7 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_cst_8 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_call0_v0 : Ref sig .tc := ⟨.hbm, 275, rfl⟩
abbrev main_call0_v1 : Ref sig .tc := ⟨.hbm, 276, rfl⟩
abbrev main_call0_cst : Ref sig .tc := ⟨.hbm, 277, rfl⟩
abbrev main_call0_v2 : Ref sig .tc := ⟨.hbm, 278, rfl⟩
abbrev main_call0_v3 : Ref sig .tc := ⟨.hbm, 279, rfl⟩
abbrev main_call0_cst_0 : Ref sig .tc := ⟨.hbm, 280, rfl⟩
abbrev main_call0_v4 : Ref sig .tc := ⟨.hbm, 281, rfl⟩
abbrev main_v259_2 : Ref sig .tc := ⟨.hbm, 282, rfl⟩
abbrev main_call0_cst_1 : Ref sig .tc := ⟨.hbm, 283, rfl⟩
abbrev main_call0_v6 : Ref sig .tc := ⟨.hbm, 284, rfl⟩
abbrev main_call0_v7 : Ref sig .tc := ⟨.hbm, 285, rfl⟩
abbrev main_v259_1 : Ref sig .tc := ⟨.hbm, 286, rfl⟩
abbrev main_v259_0 : Ref sig .tc := ⟨.hbm, 287, rfl⟩
abbrev main_call1_v0 : Ref sig .tc := ⟨.hbm, 288, rfl⟩
abbrev main_call1_v1 : Ref sig .tc := ⟨.hbm, 289, rfl⟩
abbrev main_call1_v2 : Ref sig .tc := ⟨.hbm, 290, rfl⟩
abbrev main_v260 : Ref sig .tc := ⟨.hbm, 291, rfl⟩
abbrev main_cst_9 : Ref sig .tc := ⟨.hbm, 292, rfl⟩
abbrev main_v261 : Ref sig .tc := ⟨.hbm, 293, rfl⟩
abbrev main_v262 : Ref sig .tc := ⟨.hbm, 294, rfl⟩
abbrev main_cst_10 : Ref sig .tc := ⟨.hbm, 295, rfl⟩
abbrev main_v263 : Ref sig .tc := ⟨.hbm, 296, rfl⟩
abbrev main_v264 : Ref sig .tc := ⟨.hbm, 297, rfl⟩
abbrev main_cst_11 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_cst_12 : Ref sig .tc := ⟨.hbm, 303, rfl⟩
abbrev main_v269 : Ref sig .tc := ⟨.hbm, 304, rfl⟩
abbrev main_v270 : Ref sig .tc := ⟨.hbm, 305, rfl⟩
abbrev main_cst_13 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_cst_14 : Ref sig .tc := ⟨.hbm, 313, rfl⟩
abbrev main_v277 : Ref sig .tc := ⟨.hbm, 314, rfl⟩
abbrev main_v278 : Ref sig .tc := ⟨.hbm, 315, rfl⟩
abbrev main_cst_15 : Ref sig .tc := ⟨.hbm, 316, rfl⟩
abbrev main_v279 : Ref sig .tc := ⟨.hbm, 317, rfl⟩
abbrev main_v280 : Ref sig .tc := ⟨.hbm, 318, rfl⟩
abbrev main_cst_16 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_v284 : Ref sig .tc := ⟨.hbm, 323, rfl⟩
abbrev main_cst_17 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_cst_18 : Ref sig .tc := ⟨.hbm, 329, rfl⟩
abbrev main_v289 : Ref sig .tc := ⟨.hbm, 330, rfl⟩
abbrev main_v290 : Ref sig .tc := ⟨.hbm, 331, rfl⟩
abbrev main_cst_19 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_cst_20 : Ref sig .tc := ⟨.hbm, 336, rfl⟩
abbrev main_v294 : Ref sig .tc := ⟨.hbm, 337, rfl⟩
abbrev main_v295 : Ref sig .tc := ⟨.hbm, 338, rfl⟩
abbrev main_cst_21 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_v299 : Ref sig .tc := ⟨.hbm, 343, rfl⟩

abbrev nD : Nat := 1
abbrev τ : Topo := Topo.v7x

variable {F : FTy → Type} [FloatOps F]
-- ==== Attn.lean ====
abbrev S4096x5632 : Shape := ⟨2, ![4096, 5632]⟩
abbrev S64 : Shape := ⟨1, ![64]⟩
abbrev S16 : Shape := ⟨1, ![16]⟩
abbrev S16x128x256 : Shape := ⟨3, ![16, 128, 256]⟩
abbrev S4096x1024 : Shape := ⟨2, ![4096, 1024]⟩
abbrev S4096x16x64 : Shape := ⟨3, ![4096, 16, 64]⟩
abbrev S4096x256 : Shape := ⟨2, ![4096, 256]⟩
abbrev S4096x4x64 : Shape := ⟨3, ![4096, 4, 64]⟩
abbrev S32x128x4x64 : Shape := ⟨4, ![32, 128, 4, 64]⟩
abbrev S1x128x4x64 : Shape := ⟨4, ![1, 128, 4, 64]⟩
abbrev S_ : Shape := ⟨0, ![]⟩
abbrev S31x128x4x64 : Shape := ⟨4, ![31, 128, 4, 64]⟩
abbrev S32x1x128x4x64 : Shape := ⟨5, ![32, 1, 128, 4, 64]⟩
abbrev S32x2x128x4x64 : Shape := ⟨5, ![32, 2, 128, 4, 64]⟩
abbrev S4096x16 : Shape := ⟨2, ![4096, 16]⟩
abbrev S4096x16x1 : Shape := ⟨3, ![4096, 16, 1]⟩
abbrev S1x1x64 : Shape := ⟨3, ![1, 1, 64]⟩
abbrev S32x128x4x4x64 : Shape := ⟨5, ![32, 128, 4, 4, 64]⟩
abbrev S32x2x128x4 : Shape := ⟨4, ![32, 2, 128, 4]⟩
abbrev S32x2x128x4x1 : Shape := ⟨5, ![32, 2, 128, 4, 1]⟩
abbrev S1x1x1x1x64 : Shape := ⟨5, ![1, 1, 1, 1, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S32x128x256 : Shape := ⟨3, ![32, 128, 256]⟩
abbrev S4x4x128x256 : Shape := ⟨4, ![4, 4, 128, 256]⟩
abbrev S1x4x4x128x256 : Shape := ⟨5, ![1, 4, 4, 128, 256]⟩
abbrev S32x1x1x128x256 : Shape := ⟨5, ![32, 1, 1, 128, 256]⟩
abbrev S4x4 : Shape := ⟨2, ![4, 4]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S1x64 : Shape := ⟨2, ![1, 64]⟩
abbrev S32x4x512x256 : Shape := ⟨4, ![32, 4, 512, 256]⟩
abbrev S32x4x512x1 : Shape := ⟨4, ![32, 4, 512, 1]⟩
abbrev S32x2x128x512 : Shape := ⟨4, ![32, 2, 128, 512]⟩
abbrev S4x512x256 : Shape := ⟨3, ![4, 512, 256]⟩
abbrev S4x4x1 : Shape := ⟨3, ![4, 4, 1]⟩
abbrev S512x1024 : Shape := ⟨2, ![512, 1024]⟩
abbrev S128x256 : Shape := ⟨2, ![128, 256]⟩
abbrev S512x256 : Shape := ⟨2, ![512, 256]⟩
abbrev S4x4x512x256 : Shape := ⟨4, ![4, 4, 512, 256]⟩
abbrev S4x4x512x1 : Shape := ⟨4, ![4, 4, 512, 1]⟩
abbrev S4x2x128x512 : Shape := ⟨4, ![4, 2, 128, 512]⟩
abbrev S256x64 : Shape := ⟨2, ![256, 64]⟩
abbrev S128x64 : Shape := ⟨2, ![128, 64]⟩
abbrev S512x64 : Shape := ⟨2, ![512, 64]⟩
abbrev S640x64 : Shape := ⟨2, ![640, 64]⟩
abbrev S640 : Shape := ⟨1, ![640]⟩
abbrev S640x1 : Shape := ⟨2, ![640, 1]⟩
abbrev S512 : Shape := ⟨1, ![512]⟩
abbrev S512x1 : Shape := ⟨2, ![512, 1]⟩
abbrev S1x1x512x256 : Shape := ⟨4, ![1, 1, 512, 256]⟩
abbrev S1x1x512x1 : Shape := ⟨4, ![1, 1, 512, 1]⟩
abbrev S64x256 : Shape := ⟨2, ![64, 256]⟩
abbrev S256x1 : Shape := ⟨2, ![256, 1]⟩
abbrev S256 : Shape := ⟨1, ![256]⟩
abbrev S1x512x256 : Shape := ⟨3, ![1, 512, 256]⟩
abbrev S1x4x1 : Shape := ⟨3, ![1, 4, 1]⟩
abbrev S4x1 : Shape := ⟨2, ![4, 1]⟩
abbrev S4x128x1 : Shape := ⟨3, ![4, 128, 1]⟩
abbrev S1x1x128x256 : Shape := ⟨4, ![1, 1, 128, 256]⟩

abbrev nBuf : Space → Nat
  | .hbm => 126
  | .vmem => 26
  | .smem => 0
  | _ => 0

abbrev bufTy : (tb : Table) → Fin (tcTables nBuf tb) → BufTy
  | .hbm, ⟨0, _⟩ => ⟨S4096x5632, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S16x128x256, .f32⟩
  | .hbm, ⟨5, _⟩ => ⟨S4096x1024, .f32⟩
  | .hbm, ⟨6, _⟩ => ⟨S4096x1024, .f32⟩
  | .hbm, ⟨7, _⟩ => ⟨S4096x16x64, .f32⟩
  | .hbm, ⟨8, _⟩ => ⟨S4096x256, .f32⟩
  | .hbm, ⟨9, _⟩ => ⟨S4096x4x64, .f32⟩
  | .hbm, ⟨10, _⟩ => ⟨S32x128x4x64, .f32⟩
  | .hbm, ⟨11, _⟩ => ⟨S1x128x4x64, .f32⟩
  | .hbm, ⟨12, _⟩ => ⟨S_, .f32⟩
  | .hbm, ⟨13, _⟩ => ⟨S1x128x4x64, .f32⟩
  | .hbm, ⟨14, _⟩ => ⟨S31x128x4x64, .f32⟩
  | .hbm, ⟨15, _⟩ => ⟨S32x128x4x64, .f32⟩
  | .hbm, ⟨16, _⟩ => ⟨S32x1x128x4x64, .f32⟩
  | .hbm, ⟨17, _⟩ => ⟨S32x1x128x4x64, .f32⟩
  | .hbm, ⟨18, _⟩ => ⟨S32x2x128x4x64, .f32⟩
  | .hbm, ⟨19, _⟩ => ⟨S4096x16x64, .f32⟩
  | .hbm, ⟨20, _⟩ => ⟨S_, .f32⟩
  | .hbm, ⟨21, _⟩ => ⟨S4096x16, .f32⟩
  | .hbm, ⟨22, _⟩ => ⟨S4096x16x1, .f32⟩
  | .hbm, ⟨23, _⟩ => ⟨S_, .f32⟩
  | .hbm, ⟨24, _⟩ => ⟨S4096x16x1, .f32⟩
  | .hbm, ⟨25, _⟩ => ⟨S4096x16x1, .f32⟩
  | .hbm, ⟨26, _⟩ => ⟨S_, .f32⟩
  | .hbm, ⟨27, _⟩ => ⟨S4096x16x1, .f32⟩
  | .hbm, ⟨28, _⟩ => ⟨S4096x16x1, .f32⟩
  | .hbm, ⟨29, _⟩ => ⟨S4096x16x1, .f32⟩
  | .hbm, ⟨30, _⟩ => ⟨S4096x16x64, .f32⟩
  | .hbm, ⟨31, _⟩ => ⟨S4096x16x64, .f32⟩
  | .hbm, ⟨32, _⟩ => ⟨S1x1x64, .f32⟩
  | .hbm, ⟨33, _⟩ => ⟨S4096x16x64, .f32⟩
  | .hbm, ⟨34, _⟩ => ⟨S4096x16x64, .f32⟩
  | .hbm, ⟨35, _⟩ => ⟨S32x128x4x4x64, .f32⟩
  | .hbm, ⟨36, _⟩ => ⟨S32x2x128x4x64, .f32⟩
  | .hbm, ⟨37, _⟩ => ⟨S_, .f32⟩
  | .hbm, ⟨38, _⟩ => ⟨S32x2x128x4, .f32⟩
  | .hbm, ⟨39, _⟩ => ⟨S32x2x128x4x1, .f32⟩
  | .hbm, ⟨40, _⟩ => ⟨S_, .f32⟩
  | .hbm, ⟨41, _⟩ => ⟨S32x2x128x4x1, .f32⟩
  | .hbm, ⟨42, _⟩ => ⟨S32x2x128x4x1, .f32⟩
  | .hbm, ⟨43, _⟩ => ⟨S_, .f32⟩
  | .hbm, ⟨44, _⟩ => ⟨S32x2x128x4x1, .f32⟩
  | .hbm, ⟨45, _⟩ => ⟨S32x2x128x4x1, .f32⟩
  | .hbm, ⟨46, _⟩ => ⟨S32x2x128x4x1, .f32⟩
  | .hbm, ⟨47, _⟩ => ⟨S32x2x128x4x64, .f32⟩
  | .hbm, ⟨48, _⟩ => ⟨S32x2x128x4x64, .f32⟩
  | .hbm, ⟨49, _⟩ => ⟨S1x1x1x1x64, .f32⟩
  | .hbm, ⟨50, _⟩ => ⟨S32x2x128x4x64, .f32⟩
  | .hbm, ⟨51, _⟩ => ⟨S32x2x128x4x64, .f32⟩
  | .hbm, ⟨52, _⟩ => ⟨S32x256x4x64, .f32⟩
  | .hbm, ⟨53, _⟩ => ⟨S32x4x256x128x4, .f32⟩
  | .hbm, ⟨54, _⟩ => ⟨S32x4x4x128x256, .f32⟩
  | .hbm, ⟨55, _⟩ => ⟨S_, .f32⟩
  | .hbm, ⟨56, _⟩ => ⟨S32x4x4x128x256, .f32⟩
  | .hbm, ⟨57, _⟩ => ⟨S32x4x4x128x256, .f32⟩
  | .hbm, ⟨58, _⟩ => ⟨S32x128x256, .i32⟩
  | .hbm, ⟨59, _⟩ => ⟨S32x128x256, .i32⟩
  | .hbm, ⟨60, _⟩ => ⟨S32x128x256, .i32⟩
  | .hbm, ⟨61, _⟩ => ⟨S_, .i32⟩
  | .hbm, ⟨62, _⟩ => ⟨S32x128x256, .i32⟩
  | .hbm, ⟨63, _⟩ => ⟨S32x128x256, .i32⟩
  | .hbm, ⟨64, _⟩ => ⟨S32x128x256, .i32⟩
  | .hbm, ⟨65, _⟩ => ⟨S_, .i32⟩
  | .hbm, ⟨66, _⟩ => ⟨S32x128x256, .i32⟩
  | .hbm, ⟨67, _⟩ => ⟨S32x128x256, .i32⟩
  | .hbm, ⟨68, _⟩ => ⟨S_, .i32⟩
  | .hbm, ⟨69, _⟩ => ⟨S32x128x256, .i32⟩
  | .hbm, ⟨70, _⟩ => ⟨S32x128x256, .i32⟩
  | .hbm, ⟨71, _⟩ => ⟨S32x128x256, .i32⟩
  | .hbm, ⟨72, _⟩ => ⟨S_, .i32⟩
  | .hbm, ⟨73, _⟩ => ⟨S32x128x256, .i32⟩
  | .hbm, ⟨74, _⟩ => ⟨S32x128x256, .i1⟩
  | .hbm, ⟨75, _⟩ => ⟨S_, .i32⟩
  | .hbm, ⟨76, _⟩ => ⟨S32x128x256, .i32⟩
  | .hbm, ⟨77, _⟩ => ⟨S32x128x256, .i1⟩
  | .hbm, ⟨78, _⟩ => ⟨S32x128x256, .i1⟩
  | .hbm, ⟨79, _⟩ => ⟨S_, .i32⟩
  | .hbm, ⟨80, _⟩ => ⟨S32x128x256, .i32⟩
  | .hbm, ⟨81, _⟩ => ⟨S32x128x256, .i1⟩
  | .hbm, ⟨82, _⟩ => ⟨S32x128x256, .i1⟩
  | .hbm, ⟨83, _⟩ => ⟨S4x4x128x256, .f32⟩
  | .hbm, ⟨84, _⟩ => ⟨S1x4x4x128x256, .f32⟩
  | .hbm, ⟨85, _⟩ => ⟨S32x4x4x128x256, .f32⟩
  | .hbm, ⟨86, _⟩ => ⟨S32x4x4x128x256, .f32⟩
  | .hbm, ⟨87, _⟩ => ⟨S32x1x1x128x256, .i1⟩
  | .hbm, ⟨88, _⟩ => ⟨S_, .f32⟩
  | .hbm, ⟨89, _⟩ => ⟨S_, .f32⟩
  | .hbm, ⟨90, _⟩ => ⟨S32x4x4x128x256, .i1⟩
  | .hbm, ⟨91, _⟩ => ⟨S32x4x4x128x256, .f32⟩
  | .hbm, ⟨92, _⟩ => ⟨S32x4x4x128x256, .f32⟩
  | .hbm, ⟨93, _⟩ => ⟨S4x4, .f32⟩
  | .hbm, ⟨94, _⟩ => ⟨S1x4x4x1x1, .f32⟩
  | .hbm, ⟨95, _⟩ => ⟨S_, .f32⟩
  | .hbm, ⟨96, _⟩ => ⟨S32x4x4x128, .f32⟩
  | .hbm, ⟨97, _⟩ => ⟨S32x4x4x128x1, .f32⟩
  | .hbm, ⟨98, _⟩ => ⟨S32x4x4x128x1, .f32⟩
  | .hbm, ⟨99, _⟩ => ⟨S32x4x4x128x1, .f32⟩
  | .hbm, ⟨100, _⟩ => ⟨S32x4x4x128x256, .f32⟩
  | .hbm, ⟨101, _⟩ => ⟨S32x4x4x128x256, .f32⟩
  | .hbm, ⟨102, _⟩ => ⟨S32x4x4x128x256, .f32⟩
  | .hbm, ⟨103, _⟩ => ⟨S32x4x4x128x1, .f32⟩
  | .hbm, ⟨104, _⟩ => ⟨S32x4x4x128x1, .f32⟩
  | .hbm, ⟨105, _⟩ => ⟨S32x4x4x128x1, .f32⟩
  | .hbm, ⟨106, _⟩ => ⟨S_, .f32⟩
  | .hbm, ⟨107, _⟩ => ⟨S32x4x4x128, .f32⟩
  | .hbm, ⟨108, _⟩ => ⟨S32x4x4x128x1, .f32⟩
  | .hbm, ⟨109, _⟩ => ⟨S32x4x4x128x1, .f32⟩
  | .hbm, ⟨110, _⟩ => ⟨S32x4x4x128x256, .f32⟩
  | .hbm, ⟨111, _⟩ => ⟨S32x4x4x128x256, .f32⟩
  | .hbm, ⟨112, _⟩ => ⟨S32x4x4x128x1, .f32⟩
  | .hbm, ⟨113, _⟩ => ⟨S4096x5632, .bf16⟩
  | .hbm, ⟨114, _⟩ => ⟨S4096x1024, .bf16⟩
  | .hbm, ⟨115, _⟩ => ⟨S1x64, .f32⟩
  | .hbm, ⟨116, _⟩ => ⟨S1x64, .f32⟩
  | .hbm, ⟨117, _⟩ => ⟨S32x4x512x256, .f32⟩
  | .hbm, ⟨118, _⟩ => ⟨S32x4x512x256, .bf16⟩
  | .hbm, ⟨119, _⟩ => ⟨S32x4x512x1, .f32⟩
  | .hbm, ⟨120, _⟩ => ⟨S4096x1024, .bf16⟩
  | .hbm, ⟨121, _⟩ => ⟨S32x2x128x512, .bf16⟩
  | .hbm, ⟨122, _⟩ => ⟨S4x512x256, .f32⟩
  | .hbm, ⟨123, _⟩ => ⟨S4x4x1, .f32⟩
  | .hbm, ⟨124, _⟩ => ⟨S1x64, .f32⟩
  | .hbm, ⟨125, _⟩ => ⟨S1x64, .f32⟩
  | .local _ .vmem, ⟨0, _⟩ => ⟨S512x1024, .bf16⟩
  | .local _ .vmem, ⟨1, _⟩ => ⟨S512x1024, .bf16⟩
  | .local _ .vmem, ⟨2, _⟩ => ⟨S128x256, .bf16⟩
  | .local _ .vmem, ⟨3, _⟩ => ⟨S128x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S512x256, .bf16⟩
  | .local _ .vmem, ⟨9, _⟩ => ⟨S512x256, .bf16⟩
  | .local _ .vmem, ⟨10, _⟩ => ⟨S512x1024, .bf16⟩
  | .local _ .vmem, ⟨11, _⟩ => ⟨S512x1024, .bf16⟩
  | .local _ .vmem, ⟨12, _⟩ => ⟨S1x64, .f32⟩
  | .local _ .vmem, ⟨13, _⟩ => ⟨S1x64, .f32⟩
  | .local _ .vmem, ⟨14, _⟩ => ⟨S4x4x512x256, .bf16⟩
  | .local _ .vmem, ⟨15, _⟩ => ⟨S4x4x512x256, .bf16⟩
  | .local _ .vmem, ⟨16, _⟩ => ⟨S4x4x512x1, .f32⟩
  | .local _ .vmem, ⟨17, _⟩ => ⟨S4x4x512x1, .f32⟩
  | .local _ .vmem, ⟨18, _⟩ => ⟨S512x1024, .bf16⟩
  | .local _ .vmem, ⟨19, _⟩ => ⟨S512x1024, .bf16⟩
  | .local _ .vmem, ⟨20, _⟩ => ⟨S4x2x128x512, .bf16⟩
  | .local _ .vmem, ⟨21, _⟩ => ⟨S4x2x128x512, .bf16⟩
  | .local _ .vmem, ⟨22, _⟩ => ⟨S4x512x256, .f32⟩
  | .local _ .vmem, ⟨23, _⟩ => ⟨S4x4x1, .f32⟩
  | .local _ .vmem, ⟨24, _⟩ => ⟨S1x64, .f32⟩
  | .local _ .vmem, ⟨25, _⟩ => ⟨S1x64, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_c_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_9 : Ref sig .tc := ⟨.hbm, 72, rfl⟩
abbrev main_v55 : Ref sig .tc := ⟨.hbm, 73, rfl⟩
abbrev main_v56 : Ref sig .tc := ⟨.hbm, 74, rfl⟩
abbrev main_c_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94_0 : Ref sig .tc := ⟨.hbm, 120, rfl⟩
abbrev main_v94_1 : Ref sig .tc := ⟨.hbm, 121, rfl⟩
abbrev main_v94_2 : Ref sig .tc := ⟨.hbm, 122, rfl⟩
abbrev main_v94_3 : Ref sig .tc := ⟨.hbm, 123, rfl⟩
abbrev main_v94_4 : Ref sig .tc := ⟨.hbm, 124, rfl⟩
abbrev main_v94_5 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let c0_i32_0 : BitVec 32 := 0#32
  ![v2.toNat, c12_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c13_i32 : BitVec 32 := 13#32
  let c0_i32_0 : BitVec 32 := 0#32
  ![v2.toNat, c13_i32.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x4x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x4x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x2x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x4x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== AttnRefIdeal.lean ====
abbrev S4096x5632 : Shape := ⟨2, ![4096, 5632]⟩
abbrev S64 : Shape := ⟨1, ![64]⟩
abbrev S16 : Shape := ⟨1, ![16]⟩
abbrev S16x128x256 : Shape := ⟨3, ![16, 128, 256]⟩
abbrev S4096x1024 : Shape := ⟨2, ![4096, 1024]⟩
abbrev S4096x16x64 : Shape := ⟨3, ![4096, 16, 64]⟩
abbrev S4096x256 : Shape := ⟨2, ![4096, 256]⟩
abbrev S4096x4x64 : Shape := ⟨3, ![4096, 4, 64]⟩
abbrev S32x128x4x64 : Shape := ⟨4, ![32, 128, 4, 64]⟩
abbrev S1x128x4x64 : Shape := ⟨4, ![1, 128, 4, 64]⟩
abbrev S_ : Shape := ⟨0, ![]⟩
abbrev S31x128x4x64 : Shape := ⟨4, ![31, 128, 4, 64]⟩
abbrev S32x1x128x4x64 : Shape := ⟨5, ![32, 1, 128, 4, 64]⟩
abbrev S32x2x128x4x64 : Shape := ⟨5, ![32, 2, 128, 4, 64]⟩
abbrev S4096x16 : Shape := ⟨2, ![4096, 16]⟩
abbrev S4096x16x1 : Shape := ⟨3, ![4096, 16, 1]⟩
abbrev S1x1x64 : Shape := ⟨3, ![1, 1, 64]⟩
abbrev S32x128x4x4x64 : Shape := ⟨5, ![32, 128, 4, 4, 64]⟩
abbrev S32x2x128x4 : Shape := ⟨4, ![32, 2, 128, 4]⟩
abbrev S32x2x128x4x1 : Shape := ⟨5, ![32, 2, 128, 4, 1]⟩
abbrev S1x1x1x1x64 : Shape := ⟨5, ![1, 1, 1, 1, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S32x128x256 : Shape := ⟨3, ![32, 128, 256]⟩
abbrev S4x4x128x256 : Shape := ⟨4, ![4, 4, 128, 256]⟩
abbrev S1x4x4x128x256 : Shape := ⟨5, ![1, 4, 4, 128, 256]⟩
abbrev S32x1x1x128x256 : Shape := ⟨5, ![32, 1, 1, 128, 256]⟩
abbrev S4x4 : Shape := ⟨2, ![4, 4]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S32x4x64x4x128 : Shape := ⟨5, ![32, 4, 64, 4, 128]⟩
abbrev S32x4x64x256 : Shape := ⟨4, ![32, 4, 64, 256]⟩
abbrev S4x4x1 : Shape := ⟨3, ![4, 4, 1]⟩
abbrev S32x4x128x4x64 : Shape := ⟨5, ![32, 4, 128, 4, 64]⟩
abbrev S32x4x256x64 : Shape := ⟨4, ![32, 4, 256, 64]⟩
abbrev S32x2x128x256 : Shape := ⟨4, ![32, 2, 128, 256]⟩
abbrev S32x2x128x512 : Shape := ⟨4, ![32, 2, 128, 512]⟩
abbrev S4x512x256 : Shape := ⟨3, ![4, 512, 256]⟩
abbrev S1x64 : Shape := ⟨2, ![1, 64]⟩

abbrev nBuf : Space → Nat
  | .hbm => 300
  | .vmem => 0
  | .smem => 0
  | _ => 0

abbrev hbmTy0_0 (i : Nat) : BufTy := match i % 128 with
  | 0 => ⟨S4096x5632, .f32⟩
  | 1 => ⟨S64, .f32⟩
  | 2 => ⟨S64, .f32⟩
  | 3 => ⟨S16, .f32⟩
  | 4 => ⟨S16x128x256, .f32⟩
  | 5 => ⟨S4096x1024, .f32⟩
  | 6 => ⟨S4096x1024, .f32⟩
  | 7 => ⟨S4096x16x64, .f32⟩
  | 8 => ⟨S4096x256, .f32⟩
  | 9 => ⟨S4096x4x64, .f32⟩
  | 10 => ⟨S4096x256, .f32⟩
  | 11 => ⟨S4096x4x64, .f32⟩
  | 12 => ⟨S32x128x4x64, .f32⟩
  | 13 => ⟨S1x128x4x64, .f32⟩
  | 14 => ⟨S_, .f32⟩
  | 15 => ⟨S1x128x4x64, .f32⟩
  | 16 => ⟨S31x128x4x64, .f32⟩
  | 17 => ⟨S32x128x4x64, .f32⟩
  | 18 => ⟨S32x1x128x4x64, .f32⟩
  | 19 => ⟨S32x1x128x4x64, .f32⟩
  | 20 => ⟨S32x2x128x4x64, .f32⟩
  | 21 => ⟨S32x128x4x64, .f32⟩
  | 22 => ⟨S1x128x4x64, .f32⟩
  | 23 => ⟨S_, .f32⟩
  | 24 => ⟨S1x128x4x64, .f32⟩
  | 25 => ⟨S31x128x4x64, .f32⟩
  | 26 => ⟨S32x128x4x64, .f32⟩
  | 27 => ⟨S32x1x128x4x64, .f32⟩
  | 28 => ⟨S32x1x128x4x64, .f32⟩
  | 29 => ⟨S32x2x128x4x64, .f32⟩
  | 30 => ⟨S4096x16x64, .f32⟩
  | 31 => ⟨S_, .f32⟩
  | 32 => ⟨S4096x16, .f32⟩
  | 33 => ⟨S4096x16x1, .f32⟩
  | 34 => ⟨S_, .f32⟩
  | 35 => ⟨S4096x16x1, .f32⟩
  | 36 => ⟨S4096x16x1, .f32⟩
  | 37 => ⟨S_, .f32⟩
  | 38 => ⟨S4096x16x1, .f32⟩
  | 39 => ⟨S4096x16x1, .f32⟩
  | 40 => ⟨S4096x16x1, .f32⟩
  | 41 => ⟨S4096x16x1, .f32⟩
  | 42 => ⟨S_, .f32⟩
  | 43 => ⟨S4096x16x1, .f32⟩
  | 44 => ⟨S4096x16x1, .f32⟩
  | 45 => ⟨S4096x16x64, .f32⟩
  | 46 => ⟨S4096x16x64, .f32⟩
  | 47 => ⟨S1x1x64, .f32⟩
  | 48 => ⟨S4096x16x64, .f32⟩
  | 49 => ⟨S4096x16x64, .f32⟩
  | 50 => ⟨S32x128x4x4x64, .f32⟩
  | 51 => ⟨S32x2x128x4x64, .f32⟩
  | 52 => ⟨S_, .f32⟩
  | 53 => ⟨S32x2x128x4, .f32⟩
  | 54 => ⟨S32x2x128x4x1, .f32⟩
  | 55 => ⟨S_, .f32⟩
  | 56 => ⟨S32x2x128x4x1, .f32⟩
  | 57 => ⟨S32x2x128x4x1, .f32⟩
  | 58 => ⟨S_, .f32⟩
  | 59 => ⟨S32x2x128x4x1, .f32⟩
  | 60 => ⟨S32x2x128x4x1, .f32⟩
  | 61 => ⟨S32x2x128x4x1, .f32⟩
  | 62 => ⟨S32x2x128x4x1, .f32⟩
  | 63 => ⟨S_, .f32⟩
  | 64 => ⟨S32x2x128x4x1, .f32⟩
  | 65 => ⟨S32x2x128x4x1, .f32⟩
  | 66 => ⟨S32x2x128x4x64, .f32⟩
  | 67 => ⟨S32x2x128x4x64, .f32⟩
  | 68 => ⟨S1x1x1x1x64, .f32⟩
  | 69 => ⟨S32x2x128x4x64, .f32⟩
  | 70 => ⟨S32x2x128x4x64, .f32⟩
  | 71 => ⟨S32x256x4x64, .f32⟩
  | 72 => ⟨S32x4x256x128x4, .f32⟩
  | 73 => ⟨S32x4x4x128x256, .f32⟩
  | 74 => ⟨S_, .f32⟩
  | 75 => ⟨S32x4x4x128x256, .f32⟩
  | 76 => ⟨S32x4x4x128x256, .f32⟩
  | 77 => ⟨S32x128x256, .i32⟩
  | 78 => ⟨S32x128x256, .i32⟩
  | 79 => ⟨S32x128x256, .i32⟩
  | 80 => ⟨S_, .i32⟩
  | 81 => ⟨S32x128x256, .i32⟩
  | 82 => ⟨S32x128x256, .i32⟩
  | 83 => ⟨S32x128x256, .i32⟩
  | 84 => ⟨S_, .i32⟩
  | 85 => ⟨S32x128x256, .i32⟩
  | 86 => ⟨S32x128x256, .i32⟩
  | 87 => ⟨S_, .i32⟩
  | 88 => ⟨S32x128x256, .i32⟩
  | 89 => ⟨S32x128x256, .i32⟩
  | 90 => ⟨S32x128x256, .i32⟩
  | 91 => ⟨S_, .i32⟩
  | 92 => ⟨S32x128x256, .i32⟩
  | 93 => ⟨S32x128x256, .i1⟩
  | 94 => ⟨S_, .i32⟩
  | 95 => ⟨S32x128x256, .i32⟩
  | 96 => ⟨S32x128x256, .i1⟩
  | 97 => ⟨S32x128x256, .i1⟩
  | 98 => ⟨S_, .i32⟩
  | 99 => ⟨S32x128x256, .i32⟩
  | 100 => ⟨S32x128x256, .i1⟩
  | 101 => ⟨S32x128x256, .i1⟩
  | 102 => ⟨S4x4x128x256, .f32⟩
  | 103 => ⟨S1x4x4x128x256, .f32⟩
  | 104 => ⟨S32x4x4x128x256, .f32⟩
  | 105 => ⟨S32x4x4x128x256, .f32⟩
  | 106 => ⟨S32x1x1x128x256, .i1⟩
  | 107 => ⟨S_, .f32⟩
  | 108 => ⟨S_, .f32⟩
  | 109 => ⟨S32x4x4x128x256, .i1⟩
  | 110 => ⟨S32x4x4x128x256, .f32⟩
  | 111 => ⟨S32x4x4x128x256, .f32⟩
  | 112 => ⟨S_, .f32⟩
  | 113 => ⟨S32x4x4x128x256, .f32⟩
  | 114 => ⟨S4x4, .f32⟩
  | 115 => ⟨S1x4x4x1x1, .f32⟩
  | 116 => ⟨S_, .f32⟩
  | 117 => ⟨S32x4x4x128, .f32⟩
  | 118 => ⟨S32x4x4x128x1, .f32⟩
  | 119 => ⟨S32x4x4x128x256, .f32⟩
  | 120 => ⟨S32x4x4x128x256, .i1⟩
  | 121 => ⟨S32x4x4x128x256, .f32⟩
  | 122 => ⟨S_, .f32⟩
  | 123 => ⟨S32x4x4x128, .f32⟩
  | 124 => ⟨S32x4x4x128x1, .f32⟩
  | 125 => ⟨S32x4x4x128x1, .f32⟩
  | 126 => ⟨S32x4x4x128x1, .f32⟩
  | 127 => ⟨S32x4x4x128x1, .f32⟩
  | _ => ⟨S4096x5632, .f32⟩

abbrev hbmTy0_1 (i : Nat) : BufTy := match i % 128 with
  | 0 => ⟨S32x4x4x128x1, .i1⟩
  | 1 => ⟨S32x4x4x128x1, .f32⟩
  | 2 => ⟨S32x4x4x128x1, .i1⟩
  | 3 => ⟨S_, .f32⟩
  | 4 => ⟨S32x4x4x128x1, .f32⟩
  | 5 => ⟨S_, .f32⟩
  | 6 => ⟨S32x4x4x128x1, .f32⟩
  | 7 => ⟨S_, .f32⟩
  | 8 => ⟨S32x4x4x128x1, .f32⟩
  | 9 => ⟨S32x4x4x128x1, .f32⟩
  | 10 => ⟨S32x4x4x128x1, .f32⟩
  | 11 => ⟨S32x4x4x128x1, .f32⟩
  | 12 => ⟨S32x4x4x128x1, .i1⟩
  | 13 => ⟨S32x4x4x128x1, .f32⟩
  | 14 => ⟨S32x4x4x128x1, .i1⟩
  | 15 => ⟨S_, .f32⟩
  | 16 => ⟨S32x4x4x128x1, .f32⟩
  | 17 => ⟨S_, .f32⟩
  | 18 => ⟨S32x4x4x128x1, .f32⟩
  | 19 => ⟨S_, .f32⟩
  | 20 => ⟨S32x4x4x128x1, .f32⟩
  | 21 => ⟨S32x4x4x128x1, .f32⟩
  | 22 => ⟨S32x4x4x128x1, .f32⟩
  | 23 => ⟨S32x4x4x128x256, .f32⟩
  | 24 => ⟨S32x4x4x128x256, .f32⟩
  | 25 => ⟨S32x4x4x128x256, .f32⟩
  | 26 => ⟨S32x4x4x128x1, .f32⟩
  | 27 => ⟨S32x4x4x128x1, .f32⟩
  | 28 => ⟨S32x4x4x128x1, .f32⟩
  | 29 => ⟨S_, .f32⟩
  | 30 => ⟨S32x4x4x128, .f32⟩
  | 31 => ⟨S32x4x4x128x1, .f32⟩
  | 32 => ⟨S32x4x4x128x1, .f32⟩
  | 33 => ⟨S32x4x4x128x256, .f32⟩
  | 34 => ⟨S32x4x4x128x256, .f32⟩
  | 35 => ⟨S32x4x4x128x1, .f32⟩
  | 36 => ⟨S_, .f32⟩
  | 37 => ⟨S32x4x4x128x1, .f32⟩
  | 38 => ⟨S32x4x4x128x1, .f32⟩
  | 39 => ⟨S32x4x4x128x1, .f32⟩
  | 40 => ⟨S32x4x4x128x1, .f32⟩
  | 41 => ⟨S_, .f32⟩
  | 42 => ⟨S32x4x4x128x1, .f32⟩
  | 43 => ⟨S32x4x4x128x1, .f32⟩
  | 44 => ⟨S32x256x4x64, .f32⟩
  | 45 => ⟨S32x4x64x4x128, .f32⟩
  | 46 => ⟨S32x128x4x4x64, .f32⟩
  | 47 => ⟨S4096x1024, .f32⟩
  | 48 => ⟨S32x128x4x4x64, .f32⟩
  | 49 => ⟨S32x4x64x4x128, .f32⟩
  | 50 => ⟨S32x4x4x128x256, .f32⟩
  | 51 => ⟨S32x4x64x256, .f32⟩
  | 52 => ⟨S32x256x4x64, .f32⟩
  | 53 => ⟨S32x2x128x4x64, .f32⟩
  | 54 => ⟨S32x4x4x128x256, .f32⟩
  | 55 => ⟨S32x4x4x128x256, .f32⟩
  | 56 => ⟨S32x4x4x128x256, .f32⟩
  | 57 => ⟨S_, .f32⟩
  | 58 => ⟨S32x4x4x128, .f32⟩
  | 59 => ⟨S32x4x4x128x1, .f32⟩
  | 60 => ⟨S32x4x4x128x1, .f32⟩
  | 61 => ⟨S32x4x4x128x256, .f32⟩
  | 62 => ⟨S32x4x4x128x256, .f32⟩
  | 63 => ⟨S_, .f32⟩
  | 64 => ⟨S32x4x4x128, .f32⟩
  | 65 => ⟨S32x4x4x128x256, .f32⟩
  | 66 => ⟨S32x4x4x128x256, .f32⟩
  | 67 => ⟨S32x4x4x128x1, .f32⟩
  | 68 => ⟨S_, .f32⟩
  | 69 => ⟨S4x4x1, .f32⟩
  | 70 => ⟨S1x4x4x1x1, .f32⟩
  | 71 => ⟨S32x4x4x128x1, .f32⟩
  | 72 => ⟨S32x4x4x128x256, .f32⟩
  | 73 => ⟨S32x4x4x128x256, .f32⟩
  | 74 => ⟨S_, .f32⟩
  | 75 => ⟨S32x4x4x128, .f32⟩
  | 76 => ⟨S32x4x4x128x1, .f32⟩
  | 77 => ⟨S32x4x4x128x1, .f32⟩
  | 78 => ⟨S32x4x4x128x1, .f32⟩
  | 79 => ⟨S_, .f32⟩
  | 80 => ⟨S4x4x1, .f32⟩
  | 81 => ⟨S1x4x4x1x1, .f32⟩
  | 82 => ⟨S1x4x4x1x1, .f32⟩
  | 83 => ⟨S32x4x4x128x1, .f32⟩
  | 84 => ⟨S_, .f32⟩
  | 85 => ⟨S32x4x4x128, .f32⟩
  | 86 => ⟨S32x4x4x128, .f32⟩
  | 87 => ⟨S32x4x4x128x256, .f32⟩
  | 88 => ⟨S32x4x4x128x256, .f32⟩
  | 89 => ⟨S32x4x4x128x256, .f32⟩
  | 90 => ⟨S_, .f32⟩
  | 91 => ⟨S4x4, .f32⟩
  | 92 => ⟨S16, .f32⟩
  | 93 => ⟨S_, .f32⟩
  | 94 => ⟨S32x4x4x128x256, .f32⟩
  | 95 => ⟨S32x4x4x128x256, .f32⟩
  | 96 => ⟨S_, .f32⟩
  | 97 => ⟨S4x4x128x256, .f32⟩
  | 98 => ⟨S1x4x4x128x256, .f32⟩
  | 99 => ⟨S_, .f32⟩
  | 100 => ⟨S4x4x128x256, .f32⟩
  | 101 => ⟨S16x128x256, .f32⟩
  | 102 => ⟨S_, .f32⟩
  | 103 => ⟨S32x4x4x128x256, .f32⟩
  | 104 => ⟨S32x4x4x128x256, .f32⟩
  | 105 => ⟨S32x4x256x128x4, .f32⟩
  | 106 => ⟨S32x4x128x4x64, .f32⟩
  | 107 => ⟨S32x128x4x4x64, .f32⟩
  | 108 => ⟨S32x4x256x64, .f32⟩
  | 109 => ⟨S32x256x4x64, .f32⟩
  | 110 => ⟨S32x2x128x4x64, .f32⟩
  | 111 => ⟨S32x2x128x4x64, .f32⟩
  | 112 => ⟨S_, .f32⟩
  | 113 => ⟨S64, .f32⟩
  | 114 => ⟨S1x1x1x1x64, .f32⟩
  | 115 => ⟨S32x2x128x4x64, .f32⟩
  | 116 => ⟨S32x2x128x4x64, .f32⟩
  | 117 => ⟨S_, .f32⟩
  | 118 => ⟨S64, .f32⟩
  | 119 => ⟨S32x2x128x4x64, .f32⟩
  | 120 => ⟨S_, .f32⟩
  | 121 => ⟨S32x2x128x4, .f32⟩
  | 122 => ⟨S32x2x128x4x1, .f32⟩
  | 123 => ⟨S32x2x128x4x64, .f32⟩
  | 124 => ⟨S32x2x128x4x64, .f32⟩
  | 125 => ⟨S32x2x128x4x1, .f32⟩
  | 126 => ⟨S_, .f32⟩
  | 127 => ⟨S32x2x128x4x1, .f32⟩
  | _ => ⟨S4096x5632, .f32⟩

abbrev hbmTy0_2 (i : Nat) : BufTy := match i % 128 with
  | 0 => ⟨S32x2x128x4x1, .f32⟩
  | 1 => ⟨S_, .f32⟩
  | 2 => ⟨S32x2x128x4, .f32⟩
  | 3 => ⟨S32x2x128x4x64, .f32⟩
  | 4 => ⟨S32x2x128x4x64, .f32⟩
  | 5 => ⟨S32x2x128x4x64, .f32⟩
  | 6 => ⟨S32x2x128x4x64, .f32⟩
  | 7 => ⟨S32x2x128x4x64, .f32⟩
  | 8 => ⟨S4096x16x64, .f32⟩
  | 9 => ⟨S4096x16x64, .f32⟩
  | 10 => ⟨S_, .f32⟩
  | 11 => ⟨S64, .f32⟩
  | 12 => ⟨S1x1x64, .f32⟩
  | 13 => ⟨S4096x16x64, .f32⟩
  | 14 => ⟨S4096x16x64, .f32⟩
  | 15 => ⟨S_, .f32⟩
  | 16 => ⟨S64, .f32⟩
  | 17 => ⟨S4096x16x64, .f32⟩
  | 18 => ⟨S_, .f32⟩
  | 19 => ⟨S4096x16, .f32⟩
  | 20 => ⟨S4096x16x1, .f32⟩
  | 21 => ⟨S4096x16x64, .f32⟩
  | 22 => ⟨S4096x16x64, .f32⟩
  | 23 => ⟨S4096x16x1, .f32⟩
  | 24 => ⟨S_, .f32⟩
  | 25 => ⟨S4096x16x1, .f32⟩
  | 26 => ⟨S4096x16x1, .f32⟩
  | 27 => ⟨S_, .f32⟩
  | 28 => ⟨S4096x16, .f32⟩
  | 29 => ⟨S4096x16x64, .f32⟩
  | 30 => ⟨S4096x16x64, .f32⟩
  | 31 => ⟨S4096x16x64, .f32⟩
  | 32 => ⟨S4096x16x64, .f32⟩
  | 33 => ⟨S4096x16x64, .f32⟩
  | 34 => ⟨S32x2x128x256, .f32⟩
  | 35 => ⟨S32x2x128x256, .f32⟩
  | 36 => ⟨S32x2x128x512, .f32⟩
  | 37 => ⟨S4096x1024, .f32⟩
  | 38 => ⟨S4096x1024, .bf16⟩
  | 39 => ⟨S32x2x128x512, .bf16⟩
  | 40 => ⟨S4x512x256, .f32⟩
  | 41 => ⟨S4x4x1, .f32⟩
  | 42 => ⟨S1x64, .f32⟩
  | 43 => ⟨S1x64, .f32⟩
  | _ => ⟨S4096x5632, .f32⟩

abbrev hbmTy (i : Nat) : BufTy := match i / 128 with
  | 0 => hbmTy0_0 i
  | 1 => hbmTy0_1 i
  | 2 => hbmTy0_2 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_10 : Ref sig .tc := ⟨.hbm, 84, rfl⟩
abbrev main_v66 : Ref sig .tc := ⟨.hbm, 85, rfl⟩
abbrev main_v67 : Ref sig .tc := ⟨.hbm, 86, rfl⟩
abbrev main_c_11 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_12 : Ref sig .tc := ⟨.hbm, 91, rfl⟩
abbrev main_v71 : Ref sig .tc := ⟨.hbm, 92, rfl⟩
abbrev main_v72 : Ref sig .tc := ⟨.hbm, 93, rfl⟩
abbrev main_c_13 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_14 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_15 : Ref sig .tc := ⟨.hbm, 107, rfl⟩
abbrev main_call0_v0 : Ref sig .tc := ⟨.hbm, 108, rfl⟩
abbrev main_v84_1 : Ref sig .tc := ⟨.hbm, 109, rfl⟩
abbrev main_call0_v2 : Ref sig .tc := ⟨.hbm, 110, rfl⟩
abbrev main_v84_0 : Ref sig .tc := ⟨.hbm, 111, rfl⟩
abbrev main_call0_cst : Ref sig .tc := ⟨.hbm, 112, rfl⟩
abbrev main_v84_2 : Ref sig .tc := ⟨.hbm, 113, rfl⟩
abbrev main_v85 : Ref sig .tc := ⟨.hbm, 114, rfl⟩
abbrev main_v86 : Ref sig .tc := ⟨.hbm, 115, rfl⟩
abbrev main_cst_16 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_17 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_18 : Ref sig .tc := ⟨.hbm, 131, rfl⟩
abbrev main_v100 : Ref sig .tc := ⟨.hbm, 132, rfl⟩
abbrev main_cst_19 : Ref sig .tc := ⟨.hbm, 133, rfl⟩
abbrev main_v101 : Ref sig .tc := ⟨.hbm, 134, rfl⟩
abbrev main_cst_20 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_21 : Ref sig .tc := ⟨.hbm, 143, rfl⟩
abbrev main_v109 : Ref sig .tc := ⟨.hbm, 144, rfl⟩
abbrev main_cst_22 : Ref sig .tc := ⟨.hbm, 145, rfl⟩
abbrev main_v110 : Ref sig .tc := ⟨.hbm, 146, rfl⟩
abbrev main_cst_23 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_24 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_25 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_26 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_cst_27 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_28 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_29 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_cst_30 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_cst_31 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_32 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_cst_33 : Ref sig .tc := ⟨.hbm, 218, rfl⟩
abbrev main_v172 : Ref sig .tc := ⟨.hbm, 219, rfl⟩
abbrev main_v173 : Ref sig .tc := ⟨.hbm, 220, rfl⟩
abbrev main_call1_cst : Ref sig .tc := ⟨.hbm, 221, rfl⟩
abbrev main_call1_v0 : Ref sig .tc := ⟨.hbm, 222, rfl⟩
abbrev main_v174 : Ref sig .tc := ⟨.hbm, 223, rfl⟩
abbrev main_cst_34 : Ref sig .tc := ⟨.hbm, 224, rfl⟩
abbrev main_v175 : Ref sig .tc := ⟨.hbm, 225, rfl⟩
abbrev main_v176 : Ref sig .tc := ⟨.hbm, 226, rfl⟩
abbrev main_cst_35 : Ref sig .tc := ⟨.hbm, 227, rfl⟩
abbrev main_v177 : Ref sig .tc := ⟨.hbm, 228, rfl⟩
abbrev main_v178 : Ref sig .tc := ⟨.hbm, 229, rfl⟩
abbrev main_cst_36 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_cst_37 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_cst_38 : Ref sig .tc := ⟨.hbm, 245, rfl⟩
abbrev main_v192 : Ref sig .tc := ⟨.hbm, 246, rfl⟩
abbrev main_v193 : Ref sig .tc := ⟨.hbm, 247, rfl⟩
abbrev main_cst_39 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_cst_40 : Ref sig .tc := ⟨.hbm, 254, rfl⟩
abbrev main_v199 : Ref sig .tc := ⟨.hbm, 255, rfl⟩
abbrev main_v200 : Ref sig .tc := ⟨.hbm, 256, rfl⟩
abbrev main_cst_41 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_cst_42 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_cst_43 : Ref sig .tc := ⟨.hbm, 271, rfl⟩
abbrev main_v213 : Ref sig .tc := ⟨.hbm, 272, rfl⟩
abbrev main_v214 : Ref sig .tc := ⟨.hbm, 273, rfl⟩
abbrev main_cst_44 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_cst_45 : Ref sig .tc := ⟨.hbm, 280, rfl⟩
abbrev main_v220 : Ref sig .tc := ⟨.hbm, 281, rfl⟩
abbrev main_v221 : Ref sig .tc := ⟨.hbm, 282, rfl⟩
abbrev main_cst_46 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩

abbrev nD : Nat := 1
abbrev τ : Topo := Topo.v7x

variable {F : FTy → Type} [FloatOps F]
-- ==== AttnF.lean ====
abbrev S4096x5632 : Shape := ⟨2, ![4096, 5632]⟩
abbrev S64 : Shape := ⟨1, ![64]⟩
abbrev S16 : Shape := ⟨1, ![16]⟩
abbrev S16x128x256 : Shape := ⟨3, ![16, 128, 256]⟩
abbrev S_ : Shape := ⟨0, ![]⟩
abbrev S4x512x256 : Shape := ⟨3, ![4, 512, 256]⟩
abbrev S4x4 : Shape := ⟨2, ![4, 4]⟩
abbrev S4x4x128 : Shape := ⟨3, ![4, 4, 128]⟩
abbrev S4x512 : Shape := ⟨2, ![4, 512]⟩
abbrev S4x512x1 : Shape := ⟨3, ![4, 512, 1]⟩
abbrev S1x64 : Shape := ⟨2, ![1, 64]⟩
abbrev S1x1x1x64 : Shape := ⟨4, ![1, 1, 1, 64]⟩
abbrev S1x1x4x64 : Shape := ⟨4, ![1, 1, 4, 64]⟩
abbrev S1x256 : Shape := ⟨2, ![1, 256]⟩
abbrev S4096x1024 : Shape := ⟨2, ![4096, 1024]⟩
abbrev S32x4x512x256 : Shape := ⟨4, ![32, 4, 512, 256]⟩
abbrev S32x4x512x1 : Shape := ⟨4, ![32, 4, 512, 1]⟩
abbrev S512x1024 : Shape := ⟨2, ![512, 1024]⟩
abbrev S128x256 : Shape := ⟨2, ![128, 256]⟩
abbrev S512x256 : Shape := ⟨2, ![512, 256]⟩
abbrev S4x4x512x256 : Shape := ⟨4, ![4, 4, 512, 256]⟩
abbrev S4x4x512x1 : Shape := ⟨4, ![4, 4, 512, 1]⟩
abbrev S256x256 : Shape := ⟨2, ![256, 256]⟩
abbrev S640x256 : Shape := ⟨2, ![640, 256]⟩
abbrev S640 : Shape := ⟨1, ![640]⟩
abbrev S640x1 : Shape := ⟨2, ![640, 1]⟩
abbrev S128 : Shape := ⟨1, ![128]⟩
abbrev S128x1 : Shape := ⟨2, ![128, 1]⟩
abbrev S1x512x1 : Shape := ⟨3, ![1, 512, 1]⟩
abbrev S512x1 : Shape := ⟨2, ![512, 1]⟩
abbrev S1x512x256 : Shape := ⟨3, ![1, 512, 256]⟩
abbrev S512 : Shape := ⟨1, ![512]⟩
abbrev S1x1x512x1 : Shape := ⟨4, ![1, 1, 512, 1]⟩
abbrev S1x1x512x256 : Shape := ⟨4, ![1, 1, 512, 256]⟩

abbrev nBuf : Space → Nat
  | .hbm => 39
  | .vmem => 20
  | .smem => 0
  | _ => 0

abbrev bufTy : (tb : Table) → Fin (tcTables nBuf tb) → BufTy
  | .hbm, ⟨0, _⟩ => ⟨S4096x5632, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S16x128x256, .f32⟩
  | .hbm, ⟨5, _⟩ => ⟨S16x128x256, .i32⟩
  | .hbm, ⟨6, _⟩ => ⟨S16x128x256, .i32⟩
  | .hbm, ⟨7, _⟩ => ⟨S_, .i32⟩
  | .hbm, ⟨8, _⟩ => ⟨S16x128x256, .i32⟩
  | .hbm, ⟨9, _⟩ => ⟨S16x128x256, .i32⟩
  | .hbm, ⟨10, _⟩ => ⟨S16x128x256, .i32⟩
  | .hbm, ⟨11, _⟩ => ⟨S_, .i32⟩
  | .hbm, ⟨12, _⟩ => ⟨S16x128x256, .i32⟩
  | .hbm, ⟨13, _⟩ => ⟨S16x128x256, .i1⟩
  | .hbm, ⟨14, _⟩ => ⟨S_, .i32⟩
  | .hbm, ⟨15, _⟩ => ⟨S16x128x256, .i32⟩
  | .hbm, ⟨16, _⟩ => ⟨S16x128x256, .i1⟩
  | .hbm, ⟨17, _⟩ => ⟨S16x128x256, .i1⟩
  | .hbm, ⟨18, _⟩ => ⟨S_, .f32⟩
  | .hbm, ⟨19, _⟩ => ⟨S_, .f32⟩
  | .hbm, ⟨20, _⟩ => ⟨S16x128x256, .f32⟩
  | .hbm, ⟨21, _⟩ => ⟨S16x128x256, .f32⟩
  | .hbm, ⟨22, _⟩ => ⟨S4x512x256, .f32⟩
  | .hbm, ⟨23, _⟩ => ⟨S4x4, .f32⟩
  | .hbm, ⟨24, _⟩ => ⟨S4x4x128, .f32⟩
  | .hbm, ⟨25, _⟩ => ⟨S4x512, .f32⟩
  | .hbm, ⟨26, _⟩ => ⟨S4x512x1, .f32⟩
  | .hbm, ⟨27, _⟩ => ⟨S4096x5632, .bf16⟩
  | .hbm, ⟨28, _⟩ => ⟨S1x64, .f32⟩
  | .hbm, ⟨29, _⟩ => ⟨S1x1x1x64, .f32⟩
  | .hbm, ⟨30, _⟩ => ⟨S1x1x4x64, .f32⟩
  | .hbm, ⟨31, _⟩ => ⟨S1x256, .f32⟩
  | .hbm, ⟨32, _⟩ => ⟨S1x64, .f32⟩
  | .hbm, ⟨33, _⟩ => ⟨S1x1x1x64, .f32⟩
  | .hbm, ⟨34, _⟩ => ⟨S1x1x4x64, .f32⟩
  | .hbm, ⟨35, _⟩ => ⟨S1x256, .f32⟩
  | .hbm, ⟨36, _⟩ => ⟨S4096x1024, .bf16⟩
  | .hbm, ⟨37, _⟩ => ⟨S32x4x512x256, .bf16⟩
  | .hbm, ⟨38, _⟩ => ⟨S32x4x512x1, .f32⟩
  | .local _ .vmem, ⟨0, _⟩ => ⟨S512x1024, .bf16⟩
  | .local _ .vmem, ⟨1, _⟩ => ⟨S512x1024, .bf16⟩
  | .local _ .vmem, ⟨2, _⟩ => ⟨S128x256, .bf16⟩
  | .local _ .vmem, ⟨3, _⟩ => ⟨S128x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S512x256, .bf16⟩
  | .local _ .vmem, ⟨9, _⟩ => ⟨S512x256, .bf16⟩
  | .local _ .vmem, ⟨10, _⟩ => ⟨S1x256, .f32⟩
  | .local _ .vmem, ⟨11, _⟩ => ⟨S1x256, .f32⟩
  | .local _ .vmem, ⟨12, _⟩ => ⟨S4x512x1, .f32⟩
  | .local _ .vmem, ⟨13, _⟩ => ⟨S4x512x256, .f32⟩
  | .local _ .vmem, ⟨14, _⟩ => ⟨S512x1024, .bf16⟩
  | .local _ .vmem, ⟨15, _⟩ => ⟨S512x1024, .bf16⟩
  | .local _ .vmem, ⟨16, _⟩ => ⟨S4x4x512x256, .bf16⟩
  | .local _ .vmem, ⟨17, _⟩ => ⟨S4x4x512x256, .bf16⟩
  | .local _ .vmem, ⟨18, _⟩ => ⟨S4x4x512x1, .f32⟩
  | .local _ .vmem, ⟨19, _⟩ => ⟨S4x4x512x1, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let c0_i32_0 : BitVec 32 := 0#32
  ![v2.toNat, c12_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c13_i32 : BitVec 32 := 13#32
  let c0_i32_0 : BitVec 32 := 0#32
  ![v2.toNat, c13_i32.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x4x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x4x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttnFRefIdeal.lean ====
abbrev S4096x5632 : Shape := ⟨2, ![4096, 5632]⟩
abbrev S64 : Shape := ⟨1, ![64]⟩
abbrev S16 : Shape := ⟨1, ![16]⟩
abbrev S16x128x256 : Shape := ⟨3, ![16, 128, 256]⟩
abbrev S4096x1024 : Shape := ⟨2, ![4096, 1024]⟩
abbrev S4096x16x64 : Shape := ⟨3, ![4096, 16, 64]⟩
abbrev S4096x256 : Shape := ⟨2, ![4096, 256]⟩
abbrev S4096x4x64 : Shape := ⟨3, ![4096, 4, 64]⟩
abbrev S32x128x4x64 : Shape := ⟨4, ![32, 128, 4, 64]⟩
abbrev S1x128x4x64 : Shape := ⟨4, ![1, 128, 4, 64]⟩
abbrev S_ : Shape := ⟨0, ![]⟩
abbrev S31x128x4x64 : Shape := ⟨4, ![31, 128, 4, 64]⟩
abbrev S32x1x128x4x64 : Shape := ⟨5, ![32, 1, 128, 4, 64]⟩
abbrev S32x2x128x4x64 : Shape := ⟨5, ![32, 2, 128, 4, 64]⟩
abbrev S4096x16 : Shape := ⟨2, ![4096, 16]⟩
abbrev S4096x16x1 : Shape := ⟨3, ![4096, 16, 1]⟩
abbrev S1x1x64 : Shape := ⟨3, ![1, 1, 64]⟩
abbrev S32x128x4x4x64 : Shape := ⟨5, ![32, 128, 4, 4, 64]⟩
abbrev S32x2x128x4 : Shape := ⟨4, ![32, 2, 128, 4]⟩
abbrev S32x2x128x4x1 : Shape := ⟨5, ![32, 2, 128, 4, 1]⟩
abbrev S1x1x1x1x64 : Shape := ⟨5, ![1, 1, 1, 1, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S32x128x256 : Shape := ⟨3, ![32, 128, 256]⟩
abbrev S4x4x128x256 : Shape := ⟨4, ![4, 4, 128, 256]⟩
abbrev S1x4x4x128x256 : Shape := ⟨5, ![1, 4, 4, 128, 256]⟩
abbrev S32x1x1x128x256 : Shape := ⟨5, ![32, 1, 1, 128, 256]⟩
abbrev S4x4 : Shape := ⟨2, ![4, 4]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S32x4x64x4x128 : Shape := ⟨5, ![32, 4, 64, 4, 128]⟩
abbrev S32x4x512x256 : Shape := ⟨4, ![32, 4, 512, 256]⟩
abbrev S32x4x512x1 : Shape := ⟨4, ![32, 4, 512, 1]⟩

abbrev nBuf : Space → Nat
  | .hbm => 131
  | .vmem => 0
  | .smem => 0
  | _ => 0

abbrev hbmTy0_0 (i : Nat) : BufTy := match i % 128 with
  | 0 => ⟨S4096x5632, .f32⟩
  | 1 => ⟨S64, .f32⟩
  | 2 => ⟨S64, .f32⟩
  | 3 => ⟨S16, .f32⟩
  | 4 => ⟨S16x128x256, .f32⟩
  | 5 => ⟨S4096x1024, .f32⟩
  | 6 => ⟨S4096x16x64, .f32⟩
  | 7 => ⟨S4096x256, .f32⟩
  | 8 => ⟨S4096x4x64, .f32⟩
  | 9 => ⟨S4096x256, .f32⟩
  | 10 => ⟨S4096x4x64, .f32⟩
  | 11 => ⟨S32x128x4x64, .f32⟩
  | 12 => ⟨S1x128x4x64, .f32⟩
  | 13 => ⟨S_, .f32⟩
  | 14 => ⟨S1x128x4x64, .f32⟩
  | 15 => ⟨S31x128x4x64, .f32⟩
  | 16 => ⟨S32x128x4x64, .f32⟩
  | 17 => ⟨S32x1x128x4x64, .f32⟩
  | 18 => ⟨S32x1x128x4x64, .f32⟩
  | 19 => ⟨S32x2x128x4x64, .f32⟩
  | 20 => ⟨S4096x16x64, .f32⟩
  | 21 => ⟨S_, .f32⟩
  | 22 => ⟨S4096x16, .f32⟩
  | 23 => ⟨S4096x16x1, .f32⟩
  | 24 => ⟨S_, .f32⟩
  | 25 => ⟨S4096x16x1, .f32⟩
  | 26 => ⟨S4096x16x1, .f32⟩
  | 27 => ⟨S_, .f32⟩
  | 28 => ⟨S4096x16x1, .f32⟩
  | 29 => ⟨S4096x16x1, .f32⟩
  | 30 => ⟨S4096x16x1, .f32⟩
  | 31 => ⟨S4096x16x64, .f32⟩
  | 32 => ⟨S4096x16x64, .f32⟩
  | 33 => ⟨S1x1x64, .f32⟩
  | 34 => ⟨S4096x16x64, .f32⟩
  | 35 => ⟨S4096x16x64, .f32⟩
  | 36 => ⟨S32x128x4x4x64, .f32⟩
  | 37 => ⟨S32x2x128x4x64, .f32⟩
  | 38 => ⟨S_, .f32⟩
  | 39 => ⟨S32x2x128x4, .f32⟩
  | 40 => ⟨S32x2x128x4x1, .f32⟩
  | 41 => ⟨S_, .f32⟩
  | 42 => ⟨S32x2x128x4x1, .f32⟩
  | 43 => ⟨S32x2x128x4x1, .f32⟩
  | 44 => ⟨S_, .f32⟩
  | 45 => ⟨S32x2x128x4x1, .f32⟩
  | 46 => ⟨S32x2x128x4x1, .f32⟩
  | 47 => ⟨S32x2x128x4x1, .f32⟩
  | 48 => ⟨S32x2x128x4x64, .f32⟩
  | 49 => ⟨S32x2x128x4x64, .f32⟩
  | 50 => ⟨S1x1x1x1x64, .f32⟩
  | 51 => ⟨S32x2x128x4x64, .f32⟩
  | 52 => ⟨S32x2x128x4x64, .f32⟩
  | 53 => ⟨S32x256x4x64, .f32⟩
  | 54 => ⟨S32x4x256x128x4, .f32⟩
  | 55 => ⟨S32x4x4x128x256, .f32⟩
  | 56 => ⟨S_, .f32⟩
  | 57 => ⟨S32x4x4x128x256, .f32⟩
  | 58 => ⟨S32x4x4x128x256, .f32⟩
  | 59 => ⟨S32x128x256, .i32⟩
  | 60 => ⟨S32x128x256, .i32⟩
  | 61 => ⟨S32x128x256, .i32⟩
  | 62 => ⟨S_, .i32⟩
  | 63 => ⟨S32x128x256, .i32⟩
  | 64 => ⟨S32x128x256, .i32⟩
  | 65 => ⟨S32x128x256, .i32⟩
  | 66 => ⟨S_, .i32⟩
  | 67 => ⟨S32x128x256, .i32⟩
  | 68 => ⟨S32x128x256, .i32⟩
  | 69 => ⟨S_, .i32⟩
  | 70 => ⟨S32x128x256, .i32⟩
  | 71 => ⟨S32x128x256, .i32⟩
  | 72 => ⟨S32x128x256, .i32⟩
  | 73 => ⟨S_, .i32⟩
  | 74 => ⟨S32x128x256, .i32⟩
  | 75 => ⟨S32x128x256, .i1⟩
  | 76 => ⟨S_, .i32⟩
  | 77 => ⟨S32x128x256, .i32⟩
  | 78 => ⟨S32x128x256, .i1⟩
  | 79 => ⟨S32x128x256, .i1⟩
  | 80 => ⟨S_, .i32⟩
  | 81 => ⟨S32x128x256, .i32⟩
  | 82 => ⟨S32x128x256, .i1⟩
  | 83 => ⟨S32x128x256, .i1⟩
  | 84 => ⟨S4x4x128x256, .f32⟩
  | 85 => ⟨S1x4x4x128x256, .f32⟩
  | 86 => ⟨S32x4x4x128x256, .f32⟩
  | 87 => ⟨S32x4x4x128x256, .f32⟩
  | 88 => ⟨S32x1x1x128x256, .i1⟩
  | 89 => ⟨S_, .f32⟩
  | 90 => ⟨S_, .f32⟩
  | 91 => ⟨S32x4x4x128x256, .i1⟩
  | 92 => ⟨S32x4x4x128x256, .f32⟩
  | 93 => ⟨S32x4x4x128x256, .f32⟩
  | 94 => ⟨S4x4, .f32⟩
  | 95 => ⟨S1x4x4x1x1, .f32⟩
  | 96 => ⟨S_, .f32⟩
  | 97 => ⟨S32x4x4x128, .f32⟩
  | 98 => ⟨S32x4x4x128x1, .f32⟩
  | 99 => ⟨S32x4x4x128x1, .f32⟩
  | 100 => ⟨S32x4x4x128x1, .f32⟩
  | 101 => ⟨S32x4x4x128x256, .f32⟩
  | 102 => ⟨S32x4x4x128x256, .f32⟩
  | 103 => ⟨S32x4x4x128x256, .f32⟩
  | 104 => ⟨S32x4x4x128x1, .f32⟩
  | 105 => ⟨S32x4x4x128x1, .f32⟩
  | 106 => ⟨S32x4x4x128x1, .f32⟩
  | 107 => ⟨S_, .f32⟩
  | 108 => ⟨S32x4x4x128, .f32⟩
  | 109 => ⟨S32x4x4x128x1, .f32⟩
  | 110 => ⟨S32x4x4x128x1, .f32⟩
  | 111 => ⟨S32x4x4x128x256, .f32⟩
  | 112 => ⟨S32x4x4x128x256, .f32⟩
  | 113 => ⟨S32x4x4x128x1, .f32⟩
  | 114 => ⟨S32x128x4x64, .f32⟩
  | 115 => ⟨S1x128x4x64, .f32⟩
  | 116 => ⟨S_, .f32⟩
  | 117 => ⟨S1x128x4x64, .f32⟩
  | 118 => ⟨S31x128x4x64, .f32⟩
  | 119 => ⟨S32x128x4x64, .f32⟩
  | 120 => ⟨S32x1x128x4x64, .f32⟩
  | 121 => ⟨S32x1x128x4x64, .f32⟩
  | 122 => ⟨S32x2x128x4x64, .f32⟩
  | 123 => ⟨S32x256x4x64, .f32⟩
  | 124 => ⟨S32x4x64x4x128, .f32⟩
  | 125 => ⟨S32x128x4x4x64, .f32⟩
  | 126 => ⟨S4096x1024, .f32⟩
  | 127 => ⟨S4096x1024, .bf16⟩
  | _ => ⟨S4096x5632, .f32⟩

abbrev hbmTy0_1 (i : Nat) : BufTy := match i % 128 with
  | 0 => ⟨S32x4x512x256, .f32⟩
  | 1 => ⟨S32x4x512x256, .bf16⟩
  | 2 => ⟨S32x4x512x1, .f32⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_7 : Ref sig .tc := ⟨.hbm, 66, rfl⟩
abbrev main_v52 : Ref sig .tc := ⟨.hbm, 67, rfl⟩
abbrev main_v53 : Ref sig .tc := ⟨.hbm, 68, rfl⟩
abbrev main_c_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_9 : Ref sig .tc := ⟨.hbm, 73, rfl⟩
abbrev main_v57 : Ref sig .tc := ⟨.hbm, 74, rfl⟩
abbrev main_v58 : Ref sig .tc := ⟨.hbm, 75, rfl⟩
abbrev main_c_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_13 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_15 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩

abbrev nD : Nat := 1
abbrev τ : Topo := Topo.v7x

variable {F : FTy → Type} [FloatOps F]
-- ==== RmsF.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FfnIn.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S1024x1024 : Shape := ⟨2, ![1024, 1024]⟩
abbrev S1x1024x1408 : Shape := ⟨3, ![1, 1024, 1408]⟩
abbrev S2x1024x1408 : Shape := ⟨3, ![2, 1024, 1408]⟩
abbrev S1024x1408 : Shape := ⟨2, ![1024, 1408]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S1024x4x1408, .bf16⟩
  | .hbm, ⟨5, _⟩ => ⟨S4x1024x1408, .bf16⟩
  | .hbm, ⟨6, _⟩ => ⟨S2x4096x2816, .bf16⟩
  | .hbm, ⟨7, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnInRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S1x4096x2816, .f32⟩
  | .hbm, ⟨6, _⟩ => ⟨S1x4096x2816, .f32⟩
  | .hbm, ⟨7, _⟩ => ⟨S2x4096x2816, .f32⟩
  | .hbm, ⟨8, _⟩ => ⟨S2x4096x2816, .bf16⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x2816, .bf16⟩
  | .hbm, ⟨5, _⟩ => ⟨S2816x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== MixOutRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MergeF.lean ====
abbrev S4096x1024 : Shape := ⟨2, ![4096, 1024]⟩
abbrev S4096x5632 : Shape := ⟨2, ![4096, 5632]⟩
abbrev S1024x1024 : Shape := ⟨2, ![1024, 1024]⟩
abbrev S1024x512 : Shape := ⟨2, ![1024, 512]⟩

abbrev nBuf : Space → Nat
  | .hbm => 13
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x5632, .f32⟩
  | .hbm, ⟨3, _⟩ => ⟨S1024x1024, .f32⟩
  | .hbm, ⟨4, _⟩ => ⟨S1024x1024, .f32⟩
  | .hbm, ⟨5, _⟩ => ⟨S4096x1024, .bf16⟩
  | .hbm, ⟨6, _⟩ => ⟨S4096x1024, .bf16⟩
  | .hbm, ⟨7, _⟩ => ⟨S4096x5632, .bf16⟩
  | .hbm, ⟨8, _⟩ => ⟨S1024x1024, .bf16⟩
  | .hbm, ⟨9, _⟩ => ⟨S1024x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeFRefIdeal.lean ====
abbrev S4096x1024 : Shape := ⟨2, ![4096, 1024]⟩
abbrev S4096x5632 : Shape := ⟨2, ![4096, 5632]⟩
abbrev S1024x1024 : Shape := ⟨2, ![1024, 1024]⟩
abbrev S4096x2048 : Shape := ⟨2, ![4096, 2048]⟩
abbrev S4096x256 : Shape := ⟨2, ![4096, 256]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x5632, .f32⟩
  | .hbm, ⟨3, _⟩ => ⟨S1024x1024, .f32⟩
  | .hbm, ⟨4, _⟩ => ⟨S1024x1024, .f32⟩
  | .hbm, ⟨5, _⟩ => ⟨S4096x2048, .f32⟩
  | .hbm, ⟨6, _⟩ => ⟨S4096x1024, .f32⟩
  | .hbm, ⟨7, _⟩ => ⟨S4096x256, .f32⟩
  | .hbm, ⟨8, _⟩ => ⟨S4096x256, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x1024, .bf16⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== ConvF.lean ====
abbrev S4096x5632 : Shape := ⟨2, ![4096, 5632]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S1x1024 : Shape := ⟨2, ![1, 1024]⟩
abbrev S4096x1024 : Shape := ⟨2, ![4096, 1024]⟩
abbrev S256x1024 : Shape := ⟨2, ![256, 1024]⟩
abbrev S288x1024 : Shape := ⟨2, ![288, 1024]⟩
abbrev S1x128 : Shape := ⟨2, ![1, 128]⟩
abbrev S128x128 : Shape := ⟨2, ![128, 128]⟩
abbrev S152x128 : Shape := ⟨2, ![152, 128]⟩
abbrev S160x128 : Shape := ⟨2, ![160, 128]⟩
abbrev S256 : Shape := ⟨1, ![256]⟩
abbrev S256x1 : Shape := ⟨2, ![256, 1]⟩

abbrev nBuf : Space → Nat
  | .hbm => 14
  | .vmem => 17
  | .smem => 0
  | _ => 0

abbrev bufTy : (tb : Table) → Fin (tcTables nBuf tb) → BufTy
  | .hbm, ⟨0, _⟩ => ⟨S4096x5632, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S32x1024, .f32⟩
  | .hbm, ⟨8, _⟩ => ⟨S4096x5632, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .bf16⟩
  | .hbm, ⟨13, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S32x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S288x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvFRefIdeal.lean ====
abbrev S4096x5632 : Shape := ⟨2, ![4096, 5632]⟩
abbrev S31x1024 : Shape := ⟨2, ![31, 1024]⟩
abbrev S1024 : Shape := ⟨1, ![1024]⟩
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S1x1024 : Shape := ⟨2, ![1, 1024]⟩
abbrev S4096 : Shape := ⟨1, ![4096]⟩
abbrev S4096x1 : Shape := ⟨2, ![4096, 1]⟩

abbrev nBuf : Space → Nat
  | .hbm => 277
  | .vmem => 0
  | .smem => 0
  | _ => 0

abbrev hbmTy0_0 (i : Nat) : BufTy := match i % 128 with
  | 0 => ⟨S4096x5632, .f32⟩
  | 1 => ⟨S31x1024, .f32⟩
  | 2 => ⟨S1024, .f32⟩
  | 3 => ⟨S1024, .f32⟩
  | 4 => ⟨S1024, .f32⟩
  | 5 => ⟨S4096x1024, .f32⟩
  | 6 => ⟨S4096x1024, .f32⟩
  | 7 => ⟨S4096x1024, .f32⟩
  | 8 => ⟨S4096x1024, .f32⟩
  | 9 => ⟨S_, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S4096x1024, .f32⟩
  | 16 => ⟨S_, .f32⟩
  | 17 => ⟨S30x1024, .f32⟩
  | 18 => ⟨S4126x1024, .f32⟩
  | 19 => ⟨S1x1024, .f32⟩
  | 20 => ⟨S1024, .f32⟩
  | 21 => ⟨S4096x1024, .f32⟩
  | 22 => ⟨S1x1024, .f32⟩
  | 23 => ⟨S4096x1024, .f32⟩
  | 24 => ⟨S4096x1024, .f32⟩
  | 25 => ⟨S1x1024, .f32⟩
  | 26 => ⟨S1024, .f32⟩
  | 27 => ⟨S4096x1024, .f32⟩
  | 28 => ⟨S1x1024, .f32⟩
  | 29 => ⟨S4096x1024, .f32⟩
  | 30 => ⟨S4096x1024, .f32⟩
  | 31 => ⟨S4096x1024, .f32⟩
  | 32 => ⟨S1x1024, .f32⟩
  | 33 => ⟨S1024, .f32⟩
  | 34 => ⟨S4096x1024, .f32⟩
  | 35 => ⟨S1x1024, .f32⟩
  | 36 => ⟨S4096x1024, .f32⟩
  | 37 => ⟨S4096x1024, .f32⟩
  | 38 => ⟨S4096x1024, .f32⟩
  | 39 => ⟨S1x1024, .f32⟩
  | 40 => ⟨S1024, .f32⟩
  | 41 => ⟨S4096x1024, .f32⟩
  | 42 => ⟨S1x1024, .f32⟩
  | 43 => ⟨S4096x1024, .f32⟩
  | 44 => ⟨S4096x1024, .f32⟩
  | 45 => ⟨S4096x1024, .f32⟩
  | 46 => ⟨S1x1024, .f32⟩
  | 47 => ⟨S1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S1x1024, .f32⟩
  | 54 => ⟨S1024, .f32⟩
  | 55 => ⟨S4096x1024, .f32⟩
  | 56 => ⟨S1x1024, .f32⟩
  | 57 => ⟨S4096x1024, .f32⟩
  | 58 => ⟨S4096x1024, .f32⟩
  | 59 => ⟨S4096x1024, .f32⟩
  | 60 => ⟨S1x1024, .f32⟩
  | 61 => ⟨S1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S1x1024, .f32⟩
  | 68 => ⟨S1024, .f32⟩
  | 69 => ⟨S4096x1024, .f32⟩
  | 70 => ⟨S1x1024, .f32⟩
  | 71 => ⟨S4096x1024, .f32⟩
  | 72 => ⟨S4096x1024, .f32⟩
  | 73 => ⟨S4096x1024, .f32⟩
  | 74 => ⟨S1x1024, .f32⟩
  | 75 => ⟨S1024, .f32⟩
  | 76 => ⟨S4096x1024, .f32⟩
  | 77 => ⟨S1x1024, .f32⟩
  | 78 => ⟨S4096x1024, .f32⟩
  | 79 => ⟨S4096x1024, .f32⟩
  | 80 => ⟨S4096x1024, .f32⟩
  | 81 => ⟨S1x1024, .f32⟩
  | 82 => ⟨S1024, .f32⟩
  | 83 => ⟨S4096x1024, .f32⟩
  | 84 => ⟨S1x1024, .f32⟩
  | 85 => ⟨S4096x1024, .f32⟩
  | 86 => ⟨S4096x1024, .f32⟩
  | 87 => ⟨S4096x1024, .f32⟩
  | 88 => ⟨S1x1024, .f32⟩
  | 89 => ⟨S1024, .f32⟩
  | 90 => ⟨S4096x1024, .f32⟩
  | 91 => ⟨S1x1024, .f32⟩
  | 92 => ⟨S4096x1024, .f32⟩
  | 93 => ⟨S4096x1024, .f32⟩
  | 94 => ⟨S4096x1024, .f32⟩
  | 95 => ⟨S1x1024, .f32⟩
  | 96 => ⟨S1024, .f32⟩
  | 97 => ⟨S4096x1024, .f32⟩
  | 98 => ⟨S1x1024, .f32⟩
  | 99 => ⟨S4096x1024, .f32⟩
  | 100 => ⟨S4096x1024, .f32⟩
  | 101 => ⟨S4096x1024, .f32⟩
  | 102 => ⟨S1x1024, .f32⟩
  | 103 => ⟨S1024, .f32⟩
  | 104 => ⟨S4096x1024, .f32⟩
  | 105 => ⟨S1x1024, .f32⟩
  | 106 => ⟨S4096x1024, .f32⟩
  | 107 => ⟨S4096x1024, .f32⟩
  | 108 => ⟨S4096x1024, .f32⟩
  | 109 => ⟨S1x1024, .f32⟩
  | 110 => ⟨S1024, .f32⟩
  | 111 => ⟨S4096x1024, .f32⟩
  | 112 => ⟨S1x1024, .f32⟩
  | 113 => ⟨S4096x1024, .f32⟩
  | 114 => ⟨S4096x1024, .f32⟩
  | 115 => ⟨S4096x1024, .f32⟩
  | 116 => ⟨S1x1024, .f32⟩
  | 117 => ⟨S1024, .f32⟩
  | 118 => ⟨S4096x1024, .f32⟩
  | 119 => ⟨S1x1024, .f32⟩
  | 120 => ⟨S4096x1024, .f32⟩
  | 121 => ⟨S4096x1024, .f32⟩
  | 122 => ⟨S4096x1024, .f32⟩
  | 123 => ⟨S1x1024, .f32⟩
  | 124 => ⟨S1024, .f32⟩
  | 125 => ⟨S4096x1024, .f32⟩
  | 126 => ⟨S1x1024, .f32⟩
  | 127 => ⟨S4096x1024, .f32⟩
  | _ => ⟨S4096x5632, .f32⟩

abbrev hbmTy0_1 (i : Nat) : BufTy := match i % 128 with
  | 0 => ⟨S4096x1024, .f32⟩
  | 1 => ⟨S4096x1024, .f32⟩
  | 2 => ⟨S1x1024, .f32⟩
  | 3 => ⟨S1024, .f32⟩
  | 4 => ⟨S4096x1024, .f32⟩
  | 5 => ⟨S1x1024, .f32⟩
  | 6 => ⟨S4096x1024, .f32⟩
  | 7 => ⟨S4096x1024, .f32⟩
  | 8 => ⟨S4096x1024, .f32⟩
  | 9 => ⟨S1x1024, .f32⟩
  | 10 => ⟨S1024, .f32⟩
  | 11 => ⟨S4096x1024, .f32⟩
  | 12 => ⟨S1x1024, .f32⟩
  | 13 => ⟨S4096x1024, .f32⟩
  | 14 => ⟨S4096x1024, .f32⟩
  | 15 => ⟨S4096x1024, .f32⟩
  | 16 => ⟨S1x1024, .f32⟩
  | 17 => ⟨S1024, .f32⟩
  | 18 => ⟨S4096x1024, .f32⟩
  | 19 => ⟨S1x1024, .f32⟩
  | 20 => ⟨S4096x1024, .f32⟩
  | 21 => ⟨S4096x1024, .f32⟩
  | 22 => ⟨S4096x1024, .f32⟩
  | 23 => ⟨S1x1024, .f32⟩
  | 24 => ⟨S1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S4096x1024, .f32⟩
  | 33 => ⟨S1x1024, .f32⟩
  | 34 => ⟨S4096x1024, .f32⟩
  | 35 => ⟨S4096x1024, .f32⟩
  | 36 => ⟨S4096x1024, .f32⟩
  | 37 => ⟨S1x1024, .f32⟩
  | 38 => ⟨S1024, .f32⟩
  | 39 => ⟨S4096x1024, .f32⟩
  | 40 => ⟨S1x1024, .f32⟩
  | 41 => ⟨S4096x1024, .f32⟩
  | 42 => ⟨S4096x1024, .f32⟩
  | 43 => ⟨S4096x1024, .f32⟩
  | 44 => ⟨S1x1024, .f32⟩
  | 45 => ⟨S1024, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S1x1024, .f32⟩
  | 52 => ⟨S1024, .f32⟩
  | 53 => ⟨S4096x1024, .f32⟩
  | 54 => ⟨S1x1024, .f32⟩
  | 55 => ⟨S4096x1024, .f32⟩
  | 56 => ⟨S4096x1024, .f32⟩
  | 57 => ⟨S4096x1024, .f32⟩
  | 58 => ⟨S1x1024, .f32⟩
  | 59 => ⟨S1024, .f32⟩
  | 60 => ⟨S4096x1024, .f32⟩
  | 61 => ⟨S1x1024, .f32⟩
  | 62 => ⟨S4096x1024, .f32⟩
  | 63 => ⟨S4096x1024, .f32⟩
  | 64 => ⟨S4096x1024, .f32⟩
  | 65 => ⟨S1x1024, .f32⟩
  | 66 => ⟨S1024, .f32⟩
  | 67 => ⟨S4096x1024, .f32⟩
  | 68 => ⟨S1x1024, .f32⟩
  | 69 => ⟨S4096x1024, .f32⟩
  | 70 => ⟨S4096x1024, .f32⟩
  | 71 => ⟨S4096x1024, .f32⟩
  | 72 => ⟨S1x1024, .f32⟩
  | 73 => ⟨S1024, .f32⟩
  | 74 => ⟨S4096x1024, .f32⟩
  | 75 => ⟨S1x1024, .f32⟩
  | 76 => ⟨S4096x1024, .f32⟩
  | 77 => ⟨S4096x1024, .f32⟩
  | 78 => ⟨S4096x1024, .f32⟩
  | 79 => ⟨S1x1024, .f32⟩
  | 80 => ⟨S1024, .f32⟩
  | 81 => ⟨S4096x1024, .f32⟩
  | 82 => ⟨S1x1024, .f32⟩
  | 83 => ⟨S4096x1024, .f32⟩
  | 84 => ⟨S4096x1024, .f32⟩
  | 85 => ⟨S4096x1024, .f32⟩
  | 86 => ⟨S1x1024, .f32⟩
  | 87 => ⟨S1024, .f32⟩
  | 88 => ⟨S4096x1024, .f32⟩
  | 89 => ⟨S1x1024, .f32⟩
  | 90 => ⟨S4096x1024, .f32⟩
  | 91 => ⟨S4096x1024, .f32⟩
  | 92 => ⟨S4096x1024, .f32⟩
  | 93 => ⟨S1x1024, .f32⟩
  | 94 => ⟨S1024, .f32⟩
  | 95 => ⟨S4096x1024, .f32⟩
  | 96 => ⟨S1x1024, .f32⟩
  | 97 => ⟨S4096x1024, .f32⟩
  | 98 => ⟨S4096x1024, .f32⟩
  | 99 => ⟨S4096x1024, .f32⟩
  | 100 => ⟨S1x1024, .f32⟩
  | 101 => ⟨S1024, .f32⟩
  | 102 => ⟨S4096x1024, .f32⟩
  | 103 => ⟨S1x1024, .f32⟩
  | 104 => ⟨S4096x1024, .f32⟩
  | 105 => ⟨S4096x1024, .f32⟩
  | 106 => ⟨S4096x1024, .f32⟩
  | 107 => ⟨S1x1024, .f32⟩
  | 108 => ⟨S4096x1024, .f32⟩
  | 109 => ⟨S4096x1024, .f32⟩
  | 110 => ⟨S_, .f32⟩
  | 111 => ⟨S4096, .f32⟩
  | 112 => ⟨S4096x1, .f32⟩
  | 113 => ⟨S_, .f32⟩
  | 114 => ⟨S4096x1, .f32⟩
  | 115 => ⟨S4096x1, .f32⟩
  | 116 => ⟨S4096x1024, .f32⟩
  | 117 => ⟨S4096x1024, .f32⟩
  | 118 => ⟨S4096x1024, .f32⟩
  | 119 => ⟨S_, .f32⟩
  | 120 => ⟨S4096, .f32⟩
  | 121 => ⟨S4096x1, .f32⟩
  | 122 => ⟨S_, .f32⟩
  | 123 => ⟨S4096x1, .f32⟩
  | 124 => ⟨S4096x1, .f32⟩
  | 125 => ⟨S4096x1024, .f32⟩
  | 126 => ⟨S4096x1024, .f32⟩
  | 127 => ⟨S_, .f32⟩
  | _ => ⟨S4096x5632, .f32⟩

abbrev hbmTy0_2 (i : Nat) : BufTy := match i % 128 with
  | 0 => ⟨S4096x1, .f32⟩
  | 1 => ⟨S4096x1, .f32⟩
  | 2 => ⟨S4096x1, .f32⟩
  | 3 => ⟨S4096x1024, .f32⟩
  | 4 => ⟨S4096x1024, .f32⟩
  | 5 => ⟨S1x1024, .f32⟩
  | 6 => ⟨S4096x1024, .f32⟩
  | 7 => ⟨S4096x1024, .f32⟩
  | 8 => ⟨S1x1024, .f32⟩
  | 9 => ⟨S4096x1024, .f32⟩
  | 10 => ⟨S4096x1024, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S4096x1024, .f32⟩
  | 20 => ⟨S4096x1024, .bf16⟩
  | _ => ⟨S4096x5632, .f32⟩

abbrev hbmTy (i : Nat) : BufTy := match i / 128 with
  | 0 => hbmTy0_0 i
  | 1 => hbmTy0_1 i
  | 2 => hbmTy0_2 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_cst_2 : Ref sig .tc := ⟨.hbm, 238, rfl⟩
abbrev main_v230 : Ref sig .tc := ⟨.hbm, 239, rfl⟩
abbrev main_v231 : Ref sig .tc := ⟨.hbm, 240, rfl⟩
abbrev main_cst_3 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_cst_4 : Ref sig .tc := ⟨.hbm, 247, rfl⟩
abbrev main_v237 : Ref sig .tc := ⟨.hbm, 248, rfl⟩
abbrev main_v238 : Ref sig .tc := ⟨.hbm, 249, rfl⟩
abbrev main_cst_5 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_cst_6 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_call0_v0 : Ref sig .tc := ⟨.hbm, 267, rfl⟩
abbrev main_call0_v1 : Ref sig .tc := ⟨.hbm, 268, rfl⟩
abbrev main_call0_cst : Ref sig .tc := ⟨.hbm, 269, rfl⟩
abbrev main_call0_v2 : Ref sig .tc := ⟨.hbm, 270, rfl⟩
abbrev main_call0_v3 : Ref sig .tc := ⟨.hbm, 271, rfl⟩
abbrev main_call0_cst_0 : Ref sig .tc := ⟨.hbm, 272, rfl⟩
abbrev main_call0_v4 : Ref sig .tc := ⟨.hbm, 273, rfl⟩
abbrev main_call0_v5 : Ref sig .tc := ⟨.hbm, 274, rfl⟩
abbrev main_v254 : Ref sig .tc := ⟨.hbm, 275, rfl⟩
abbrev main_v255 : Ref sig .tc := ⟨.hbm, 276, rfl⟩

abbrev nD : Nat := 1
abbrev τ : Topo := Topo.v7x

variable {F : FTy → Type} [FloatOps F]
-- ==== Proof.Common.Real.lean ====
module

public import Idealize.ShloMosaic.Lib.Pointwise
public import Idealize.ShloMosaic.Lib.IdealHost

/-! # Extended reals that are real numbers

The claims that need it assume that the arguments are finite. Here such an array becomes an array of real numbers, and the
operations the programs apply to it become the operations of the real numbers. -/

@[expose] public section

noncomputable section

open Idealize.ShloMosaic

namespace Cert.Lift

/-- The extended real is a real number. -/
def IsReal (x : EReal) : Prop := ∃ r : ℝ, x = r

/-- Every entry of the array is a real number. -/
def Finite {ι : Type} (x : ι → EReal) : Prop := ∀ i, IsReal (x i)

theorem IsReal.coe (r : ℝ) : IsReal (r : EReal) := ⟨r, rfl⟩
theorem IsReal.zero : IsReal 0 := ⟨0, rfl⟩
theorem IsReal.one : IsReal 1 := ⟨1, rfl⟩
theorem IsReal.mul {x y : EReal} : IsReal x → IsReal y → IsReal (x * y) := by
  rintro ⟨a, rfl⟩ ⟨b, rfl⟩; exact ⟨a * b, (EReal.coe_mul a b).symm⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.neg {x : EReal} : IsReal x → IsReal (-x) := by
  rintro ⟨a, rfl⟩; exact ⟨-a, (EReal.coe_neg a).symm⟩

/-- The finite sum of real numbers, as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.sum {ι : Type} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- An array of real entries is an array of real numbers. -/
theorem Finite.lift {ι : Type} {x : ι → EReal} (h : Finite x) : ∃ f : ι → ℝ, x = fun i => (f i : EReal) :=
  ⟨fun i => (h i).choose, funext fun i => (h i).choose_spec⟩

/-- The word `0x3F000000` is a half. -/
theorem ofBits_half : Ideal.ofBits .f32 0x3F000000#32 = ((1 / 2 : ℝ) : EReal) := by
  simp [Ideal.ofBits, Ideal.ieee, -EReal.coe_mul]; norm_num

/-- An extended real whose absolute value is below infinity is a real number. -/
theorem real_of_abs {x : EReal} (h : max x (-x) < ⊤) : IsReal x := by
  induction x with
  | bot => simp at h
  | top => simp at h
  | coe r => exact ⟨r, rfl⟩

/-- The logistic function of a real number, as the programs write it. -/
theorem div_one_add_exp (a : ℝ) :
    Ideal.div 1 (1 + Ideal.exp (-(a : EReal))) = ((1 / (1 + Real.exp (-a)) : ℝ) : EReal) := by
  have h : (1 + Real.exp (-a)) ≠ 0 := by positivity
  rw [← EReal.coe_neg, Ideal.exp_coe, ← EReal.coe_one, ← EReal.coe_add, Ideal.div_coe h, EReal.coe_one, one_mul]

/-- The word `0x7F800000` is infinity. -/
theorem ofBits_inf : Ideal.ofBits .f32 0x7F800000#32 = ⊤ := by simp [Ideal.ofBits, Ideal.ieee]

/-- The precondition's test of one array: where every entry's absolute value compares below infinity, the array is finite. -/
theorem finite_of_test {S : Shape} (x : FVec Ideal S .f32) (b : (⟨0, ![]⟩ : Shape).BroadcastsInDim S (![] : Fin 0 → Fin S.rank))
    (h : cmpf .olt (Host.absf x) (broadcastInDim S ![] b (constant (F := Ideal) ⟨0, ![]⟩ .f32 0x7F800000#32)) = fun _ => 1#1) :
    Finite (x : S.Idx → EReal) := by
  intro i
  have := congrFun h i
  pointwise at this
  rw [ofBits_inf] at this
  refine real_of_abs ?_
  by_contra hn
  rw [show FloatOps.absf (x i) = max (x i) (-x i) from rfl, decide_eq_false hn] at this
  exact absurd this (by decide)

end Cert.Lift
end
-- ==== Proof.Gate.Kernel.lean ====
module

public import proofs.«01_k».proof.Proof.Gen.GateIdeal.Value
public import Idealize.ShloMosaic.Lib.Pipeline.ValueKit
public import Idealize.ShloMosaic.Lib.Pointwise
public import Idealize.ShloMosaic.Lib.Claim

set_option maxRecDepth 16384

@[expose] public section

noncomputable section

open Idealize.ShloMosaic Idealize.ShloMosaic.TcCoe Idealize.SL.Sem Idealize.ShloMosaic.ValueIdx
open Idealize.ShloMosaic.Pipeline (Dat)

namespace Cert.GateIdeal.Array

open Cert.GateIdeal Cert.GateIdeal.Gen

variable (m : (ℓ : Loc nD τ sig) → Buf (Elt Ideal) ℓ)

/-- The kernel's gate `1 / (1 + exp (0 - x))`. -/
def sgm (x : EReal) : EReal := Ideal.div 1 (1 + Ideal.exp (0 - x))

/-- Entry `(r, c)` of the cotangent of the gated product: half the result's cotangent times the transposed weight. -/
def acc (wo : FVec Ideal S2816x1024 .f32) (dr : FVec Ideal S4096x1024 .f32) (r : Fin 4096) (c : Fin 2816) : EReal :=
  ∑ k : Fin 1024, Ideal.ofBits FTy.f32 0x3F000000#32 * dr (Idealize.ShloMosaic.ix2 r k) * wo (Idealize.ShloMosaic.ix2 c k)

/-- Entry `(r, c)` of the projected input. -/
def proj (n : FVec Ideal S4096x1024 .f32) (wi : FVec Ideal S1024x5632 .f32) (r : Fin 4096) (c : Fin 5632) : EReal :=
  ∑ k : Fin 1024, n (Idealize.ShloMosaic.ix2 r k) * wi (Idealize.ShloMosaic.ix2 k c)

/-- The two gradients of `silu a * b` at the cotangent `d`, as the kernel writes them. -/
def gateA (d a b : EReal) : EReal := d * b * (sgm a * (1 + a * (1 - sgm a)))
def gateB (d a : EReal) : EReal := d * (a * sgm a)

/-- The gate's two projections, stacked: the left half of the projected input and its right half. -/
def stack (n : FVec Ideal S4096x1024 .f32) (wi : FVec Ideal S1024x5632 .f32) : FVec Ideal S2x4096x2816 .bf16 := fun i =>
  proj n wi (i 1) ⟨2816 * (i 0).val + (i 2).val, by have h := (i 2).isLt; have g := (i 0).isLt; simp at h g; omega⟩

/-- The kernel's result array as one function of its arguments. -/
def G (n : FVec Ideal S4096x1024 .f32) (wi : FVec Ideal S1024x5632 .f32) (wo : FVec Ideal S2816x1024 .f32)
    (dr : FVec Ideal S4096x1024 .f32) : FVec Ideal S2x4096x2816 .bf16 := fun i =>
  if (i 0).val < 1 then gateA (acc wo dr (i 1) (i 2)) (stack n wi (Idealize.ShloMosaic.ix3 0 (i 1) (i 2)))
    (stack n wi (Idealize.ShloMosaic.ix3 1 (i 1) (i 2)))
  else gateB (acc wo dr (i 1) (i 2)) (stack n wi (Idealize.ShloMosaic.ix3 0 (i 1) (i 2)))

/-- The stacked operand the region is entered with. -/
theorem entry (c : Dev nD) : V m c main_v6
    = stack (m ((c : Thread nD τ).loc main_arg0)) (m ((c : Thread nD τ).loc main_arg1)) := by
  refine funext (α := S2x4096x2816.Idx) fun i => ?_
  unfold V
  after_results
  have h : (i 0).val < 2 := (i 0).isLt
  rcases (by omega : (i 0).val = 0 ∨ (i 0).val = 1) with h0 | h0 <;> pointwise [stack, proj, h0]

/-- Every window's block index at every point. -/
theorem idx : ∀ t : Fin cfg0.N, win0_0.index t = ![t.val % 4, 0] ∧ win0_1.index t = ![t.val / 4, 0]
    ∧ win0_2.index t = ![0, t.val % 4, t.val / 4] ∧ win0_3.index t = ![0, t.val % 4, t.val / 4] ∧ t.val / 4 < 2 :=
  (by decide +kernel : ∀ t : Fin grid0.N, _)

/-- What the body leaves at a block's index is the formula where that index lies in the array. -/
theorem point (c : Dev nD) (t : Fin cfg0.N) (y : S2x1024x1408.Idx) :
    out0_3 (iblk m c 0 t) (iblk m c 1 t) (iblk m c 2 t) y
      = G (m ((c : Thread nD τ).loc main_arg0)) (m ((c : Thread nD τ).loc main_arg1))
        (m ((c : Thread nD τ).loc main_arg2)) (m ((c : Thread nD τ).loc main_arg3)) (((cfg0.win 3).blk t).view.emb y) := by
  unfold out0_3
  canon_tiles x h
  all_goals
    unfold G
    blk_simp [idx t]
    pointwise [k0_pay1, k0_pay5, k0_pay6, k0_pay4, k0_pay3, k0_pay2, gateA, gateB, acc, sgm, h0]
    blk_point [iblk, V, idx t]
  all_goals
    rw [entry]
    simp only [stack, proj]
    blk_simp [idx t]
    blk_point [idx t]

/-- The result array after the run. -/
theorem final (c : Dev nD) : (dats m 0 c).arrAt 3 (cfgs 0).N
    = G (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t _ y => ?_
  blk_simp
  rw [after0_3]
  exact point m c t y

end Cert.GateIdeal.Array
end
-- ==== Proof.Gate.Reference.lean ====
module

public import proofs.«01_k».proof.Proof.Gen.GateRefIdeal.Run
public import proofs.«01_k».proof.Proof.Gen.GateRefIdeal.Read
public import Idealize.ShloMosaic.Lib.Pointwise

@[expose] public section

set_option maxRecDepth 16384

noncomputable section

open Idealize.ShloMosaic Idealize.ShloMosaic.TcCoe Idealize.SL.Sem Idealize.ShloMosaic.ValueIdx

namespace Cert.GateRefIdeal.Array

open Cert.GateRefIdeal Cert.GateRefIdeal.Gen Cert.GateRefIdeal.Read

/-- The logistic function as the reference writes it. -/
def logi (x : EReal) : EReal := Ideal.div 1 (1 + Ideal.exp (-x))

/-- Entry `(r, c)` of the projected input. -/
def proj (n : FVec Ideal S4096x1024 .f32) (wi : FVec Ideal S1024x5632 .f32) (r : Fin 4096) (c : Fin 5632) : EReal :=
  ∑ k : Fin 1024, n (Idealize.ShloMosaic.ix2 r k) * wi (Idealize.ShloMosaic.ix2 k c)

/-- Entry `(r, c)` of the gated product's cotangent. -/
def cot (wo : FVec Ideal S2816x1024 .f32) (dr : FVec Ideal S4096x1024 .f32) (r : Fin 4096) (c : Fin 2816) : EReal :=
  ∑ k : Fin 1024, Ideal.ofBits FTy.f32 0x3F000000#32 * dr (Idealize.ShloMosaic.ix2 r k) * wo (Idealize.ShloMosaic.ix2 c k)

/-- The reference's result at an index: in the first half the cotangent of the gate, in the second that of the gated factor. -/
theorem read (n : FVec Ideal S4096x1024 .f32) (wi : FVec Ideal S1024x5632 .f32) (wo : FVec Ideal S2816x1024 .f32)
    (dr : FVec Ideal S4096x1024 .f32) (i : S2x4096x2816.Idx) (hb : 2816 + (i 2).val < 5632) (ha : (i 2).val < 5632) :
    (val_main_v17 (F := Ideal) n wi wo dr i : EReal)
      = let a := proj n wi (i 1) ⟨(i 2).val, ha⟩
        let b := proj n wi (i 1) ⟨2816 + (i 2).val, hb⟩
        let d := cot wo dr (i 1) (i 2)
        if (i 0).val < 1 then d * b * logi a + a * (d * b) * (logi a * (1 - logi a)) else a * logi a * d := by
  pointwise [val_main_v0, val_main_v1, val_main_v2, val_main_call0_v0, val_main_call0_v1, val_main_call0_cst, val_main_call0_v2, val_main_call0_v3, val_main_call0_cst_0, val_main_call0_v4, val_main_v3_2, val_main_call0_cst_1, val_main_call0_v6, val_main_call0_v7, val_main_v3_1, val_main_v3_0, val_main_cst_0, val_main_v8, val_main_v9, val_main_v10, val_main_v11, val_main_v12, val_main_call1_v0, val_main_call1_v1, val_main_call1_v2, val_main_v13, val_main_v14, val_main_v15, val_main_v16, val_main_v17, logi, proj, cot]
  first | done | rfl

end Cert.GateRefIdeal.Array
end
-- ==== Proof.Gate.Equation.lean ====
module

public import proofs.«01_k».proof.Proof.Common.Real
public import proofs.«01_k».proof.Proof.Gate.Kernel
public import proofs.«01_k».proof.Proof.Gate.Reference
public import proofs.«01_k».proof.Proof.Gen.GateIdeal.Frame
public import proofs.«01_k».proof.Defs
public import proofs.«01_k».proof.Proof.Gen.Pre_finite_gate
public import Idealize.ShloMosaic.Lib.Claim

@[expose] public section

set_option maxRecDepth 16384

noncomputable section

open Idealize.ShloMosaic Idealize.ShloMosaic.TcCoe Idealize.SL.Sem Idealize.ShloMosaic.ValueIdx

namespace Cert.GateClaim

open Cert.Lift

/-- Over real numbers the derivative of the gate is the same in the kernel's writing and in the reference's. -/
theorem gate_eq {a b d : EReal} (ha : IsReal a) (hb : IsReal b) (hd : IsReal d) :
    GateIdeal.Array.gateA d a b = d * b * GateRefIdeal.Array.logi a
      + a * (d * b) * (GateRefIdeal.Array.logi a * (1 - GateRefIdeal.Array.logi a)) := by
  obtain ⟨a, rfl⟩ := ha
  obtain ⟨b, rfl⟩ := hb
  obtain ⟨d, rfl⟩ := hd
  unfold GateIdeal.Array.gateA GateIdeal.Array.sgm GateRefIdeal.Array.logi
  rw [zero_sub, div_one_add_exp]
  generalize 1 / (1 + Real.exp (-a)) = s
  norm_cast
  ring

/-- The kernel's array is the reference's where the arguments are finite. -/
theorem array_eq (n : FVec Ideal GateIdeal.S4096x1024 .f32) (wi : FVec Ideal GateIdeal.S1024x5632 .f32)
    (wo : FVec Ideal GateIdeal.S2816x1024 .f32) (dr : FVec Ideal GateIdeal.S4096x1024 .f32)
    (hn : Finite (n : GateIdeal.S4096x1024.Idx → EReal)) (hi : Finite (wi : GateIdeal.S1024x5632.Idx → EReal))
    (ho : Finite (wo : GateIdeal.S2816x1024.Idx → EReal)) (hr : Finite (dr : GateIdeal.S4096x1024.Idx → EReal)) :
    GateIdeal.Array.G n wi wo dr = GateRefIdeal.Read.val_main_v17 (F := Ideal) n wi wo dr := by
  refine funext (α := GateIdeal.S2x4096x2816.Idx) fun i => ?_
  have h2 : (i 2).val < 2816 := (i 2).isLt
  refine Eq.trans ?_ (GateRefIdeal.Array.read n wi wo dr i (by omega) (by omega)).symm
  have hp : ∀ r c, IsReal (GateRefIdeal.Array.proj n wi r c) := fun r c => IsReal.sum fun k => (hn _).mul (hi _)
  have hd : ∀ r c, IsReal (GateRefIdeal.Array.cot wo dr r c) := fun r c =>
    IsReal.sum fun k => ((ofBits_half ▸ IsReal.coe _ : IsReal _).mul (hr _)).mul (ho _)
  have e0 : GateIdeal.Array.stack n wi (Idealize.ShloMosaic.ix3 0 (i 1) (i 2))
      = GateRefIdeal.Array.proj n wi (i 1) ⟨(i 2).val, by omega⟩ := by
    simp [GateIdeal.Array.stack, GateIdeal.Array.proj, GateRefIdeal.Array.proj]
  have e1 : GateIdeal.Array.stack n wi (Idealize.ShloMosaic.ix3 1 (i 1) (i 2))
      = GateRefIdeal.Array.proj n wi (i 1) ⟨2816 + (i 2).val, by omega⟩ := by
    simp [GateIdeal.Array.stack, GateIdeal.Array.proj, GateRefIdeal.Array.proj]
  have ec : GateIdeal.Array.acc wo dr (i 1) (i 2) = GateRefIdeal.Array.cot wo dr (i 1) (i 2) := rfl
  unfold GateIdeal.Array.G
  rw [e0, e1, ec]
  dsimp only
  split
  · exact gate_eq (hp _ _) (hp _ _) (hd _ _)
  · unfold GateIdeal.Array.gateB GateIdeal.Array.sgm GateRefIdeal.Array.logi
    rw [zero_sub, mul_comm]

/-- Gate: kernel and reference end with equal results. -/
theorem algebraic : algebraic_GateIdeal_GateRefIdeal_pre_finite_gate := by
  pair_intro
  · run_from GateIdeal.Gen.run_main m g
  · run_from GateRefIdeal.Value.run m' g'
    rw [(hagree c).2.2.2]
    have hf := hpre c
    exact ((GateIdeal.Array.final m c).trans (array_eq _ _ _ _ (finite_of_test _ _ hf.1) (finite_of_test _ _ hf.2.1)
      (finite_of_test _ _ hf.2.2.1) (finite_of_test _ _ hf.2.2.2))).symm

end Cert.GateClaim
end
-- ==== Proof.Norm.Formula.lean ====
module

public import proofs.«01_k».proof.Proof.Gen.NormIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.NormForm

open Cert.NormIdeal

/-! # What the fused gradient of the RMS norm leaves, as the kernel sums it

Both calls of the function (of a feed-forward and of the mixer) leave these arrays. -/

/-- Segment `s` of the product's gradient: the sum over the columns `1408 s ≤ k < 1408 (s + 1)`. -/
def seg (w : FVec Ideal S1024x5632 .f32) (du : FVec Ideal S4096x5632 .f32) (s : Fin 4) (r : Fin 4096) (c : Fin 1024) : EReal :=
  ∑ k : Fin 1408, du (Idealize.ShloMosaic.ix2 r ⟨s.val * 1408 + k.val, by omega⟩)
    * w (Idealize.ShloMosaic.ix2 c ⟨s.val * 1408 + k.val, by omega⟩)

/-- The gradient of the normed row. -/
def dn (w : FVec Ideal S1024x5632 .f32) (du : FVec Ideal S4096x5632 .f32) (r : Fin 4096) (c : Fin 1024) : EReal :=
  seg w du 0 r c + seg w du 1 r c + seg w du 2 r c + seg w du 3 r c

/-- The row's reciprocal root mean square. -/
def rs (x : FVec Ideal S4096x1024 .f32) (r : Fin 4096) : EReal :=
  Ideal.rsqrt (Ideal.div (∑ c : Fin 1024, x (Idealize.ShloMosaic.ix2 r c) * x (Idealize.ShloMosaic.ix2 r c))
    (Ideal.ofBits FTy.f32 0x44800000#32) + Ideal.ofBits FTy.f32 0x358637BD#32)

/-- The gradient of the input. -/
def dx (x : FVec Ideal S4096x1024 .f32) (g : FVec Ideal S1024 .f32) (w : FVec Ideal S1024x5632 .f32)
    (dr : FVec Ideal S4096x1024 .f32) (du : FVec Ideal S4096x5632 .f32) : FVec Ideal S4096x1024 .f32 := fun i =>
  dr (Idealize.ShloMosaic.ix2 (i 0) (i 1))
    + (rs x (i 0) * (dn w du (i 0) (i 1) * g (Idealize.ShloMosaic.ix1 (i 1)))
      - x (Idealize.ShloMosaic.ix2 (i 0) (i 1)) * (rs x (i 0) * rs x (i 0) * rs x (i 0))
        * Ideal.div (∑ c : Fin 1024, x (Idealize.ShloMosaic.ix2 (i 0) c) * (dn w du (i 0) c * g (Idealize.ShloMosaic.ix1 c)))
          (Ideal.ofBits FTy.f32 0x44800000#32))

/-- A row's part of the gradient of the scale. -/
def dgRow (x : FVec Ideal S4096x1024 .f32) (w : FVec Ideal S1024x5632 .f32) (du : FVec Ideal S4096x5632 .f32)
    (r : Fin 4096) (c : Fin 1024) : EReal :=
  dn w du r c * (x (Idealize.ShloMosaic.ix2 r c) * rs x r)

/-- The gradient of the scale, summed block by block of 512 rows. -/
def dg (x : FVec Ideal S4096x1024 .f32) (w : FVec Ideal S1024x5632 .f32) (du : FVec Ideal S4096x5632 .f32) :
    FVec Ideal S1x1024 .f32 := fun i =>
  ∑ p : Fin 8, ∑ r : Fin 512, dgRow x w du ⟨p.val * 512 + r.val, by omega⟩ (i 1)

end Cert.NormForm
end
-- ==== Proof.Norm.Reference.lean ====
module

public import proofs.«01_k».proof.Proof.Gen.NormRefIdeal.Run
public import proofs.«01_k».proof.Proof.Gen.NormRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.NormRefIdeal.Array

open Cert.NormRefIdeal Cert.NormRefIdeal.Read

/-- The gradient of the normed row: the cotangent's row against the weight's row. -/
def dn (w : FVec Ideal S1024x5632 .f32) (du : FVec Ideal S4096x5632 .f32) (r : Fin 4096) (c : Fin 1024) : EReal :=
  ∑ k : Fin 5632, du (Idealize.ShloMosaic.ix2 r k) * w (Idealize.ShloMosaic.ix2 c k)

/-- The row's mean square and the constant. -/
def ms (x : FVec Ideal S4096x1024 .f32) (r : Fin 4096) : EReal :=
  Ideal.div (∑ c : Fin 1024, x (Idealize.ShloMosaic.ix2 r c) * x (Idealize.ShloMosaic.ix2 r c))
    (Ideal.ofBits FTy.f32 0x44800000#32) + Ideal.ofBits FTy.f32 0x358637BD#32

/-- Half the derivative through the mean square. -/
def half (x : FVec Ideal S4096x1024 .f32) (g : FVec Ideal S1024 .f32) (w : FVec Ideal S1024x5632 .f32)
    (du : FVec Ideal S4096x5632 .f32) (r : Fin 4096) : EReal :=
  Ideal.div ((∑ c : Fin 1024, x (Idealize.ShloMosaic.ix2 r c) * (dn w du r c * g (Idealize.ShloMosaic.ix1 c)))
      * (Ideal.ofBits FTy.f32 0xBF000000#32 * Ideal.div (Ideal.rsqrt (ms x r)) (ms x r)))
    (Ideal.ofBits FTy.f32 0x44800000#32)

/-- The gradient of the input at an index. -/
theorem readX (x : FVec Ideal S4096x1024 .f32) (g : FVec Ideal S1024 .f32) (w : FVec Ideal S1024x5632 .f32)
    (dr : FVec Ideal S4096x1024 .f32) (du : FVec Ideal S4096x5632 .f32) (r : Fin 4096) (c : Fin 1024) :
    val_main_v38 (F := Ideal) x g w dr du (Idealize.ShloMosaic.ix2 r c)
      = dr (Idealize.ShloMosaic.ix2 r c) + dn w du r c * g (Idealize.ShloMosaic.ix1 c) * Ideal.rsqrt (ms x r)
        + x (Idealize.ShloMosaic.ix2 r c) * half x g w du r + half x g w du r * x (Idealize.ShloMosaic.ix2 r c) := by
  pointwise [val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v13, val_main_v14, val_main_v15, val_main_v17, val_main_v18, val_main_cst_3, val_main_v19,
    val_main_v20, val_main_v21, val_main_v22, val_main_cst_4, val_main_v23, val_main_v24, val_main_cst_5,
    val_main_v25, val_main_v26, val_main_v27, val_main_v28, val_main_v29, val_main_v30, val_main_cst_6, val_main_v31,
    val_main_v32, val_main_cst_7, val_main_v33, val_main_v34, val_main_v35, val_main_v36, val_main_v37, val_main_v38,
    val_main_v39,
    dn, ms, half]
  simp only [Fin.sum_univ_one]
  first | done | rfl

/-- The gradient of the scale at an index. -/
theorem readG (x : FVec Ideal S4096x1024 .f32) (w : FVec Ideal S1024x5632 .f32)
    (du : FVec Ideal S4096x5632 .f32) (i : S1x1024.Idx) :
    val_main_v39 (F := Ideal) x w du i
      = ∑ r : Fin 4096, x (Idealize.ShloMosaic.ix2 r (i 1)) * Ideal.rsqrt (ms x r) * dn w du r (i 1) := by
  pointwise [val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v13, val_main_v14, val_main_v15, val_main_v17, val_main_v18, val_main_cst_3, val_main_v19,
    val_main_v20, val_main_v21, val_main_v22, val_main_cst_4, val_main_v23, val_main_v24, val_main_cst_5,
    val_main_v25, val_main_v26, val_main_v27, val_main_v28, val_main_v29, val_main_v30, val_main_cst_6, val_main_v31,
    val_main_v32, val_main_cst_7, val_main_v33, val_main_v34, val_main_v35, val_main_v36, val_main_v37, val_main_v38,
    val_main_v39,
    dn, ms]
  simp only [Fin.sum_univ_one]
  first | done | rfl

end Cert.NormRefIdeal.Array
end
-- ==== Proof.Norm.Shared.lean ====
module

public import proofs.«01_k».proof.Proof.Common.Real
public import proofs.«01_k».proof.Proof.Norm.Formula
public import proofs.«01_k».proof.Proof.Norm.Reference
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.NormForm

open Cert.Lift

/-! # The gradient of the RMS norm: the kernel's writing and the reference's -/

theorem ofBits_1024 : Ideal.ofBits .f32 0x44800000#32 = ((1024 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- The constant added to the mean square is a positive number. -/
theorem ofBits_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- The four segments together are the whole product. -/
theorem dn_eq (w : FVec Ideal NormIdeal.S1024x5632 .f32) (du : FVec Ideal NormIdeal.S4096x5632 .f32) (r : Fin 4096) (c : Fin 1024) :
    dn w du r c = NormRefIdeal.Array.dn w du r c := by
  unfold dn NormRefIdeal.Array.dn
  rw [show seg w du 0 r c + seg w du 1 r c + seg w du 2 r c + seg w du 3 r c = ∑ s : Fin 4, seg w du s r c from
    (Fin.sum_univ_four fun s => seg w du s r c).symm]
  exact Fin.sum_mul_add_congr fun s k hl => rfl

/-- The sum of the rows, block by block and as a whole. -/
theorem dg_at (x : FVec Ideal NormIdeal.S4096x1024 .f32) (w : FVec Ideal NormIdeal.S1024x5632 .f32)
    (du : FVec Ideal NormIdeal.S4096x5632 .f32) (c : Fin 1024) :
    (∑ p : Fin 8, ∑ r : Fin 512, dgRow x w du ⟨p.val * 512 + r.val, by omega⟩ c)
      = ∑ r : Fin 4096, x (Idealize.ShloMosaic.ix2 r c) * Ideal.rsqrt (NormRefIdeal.Array.ms x r)
        * NormRefIdeal.Array.dn w du r c := by
  unfold dgRow
  simp only [dn_eq, mul_comm (NormRefIdeal.Array.dn w du _ _)]
  exact Fin.sum_mul_add_congr fun s k hl => rfl

/-- The gradient of the scale. -/
theorem dg_eq (x : FVec Ideal NormIdeal.S4096x1024 .f32) (w : FVec Ideal NormIdeal.S1024x5632 .f32)
    (du : FVec Ideal NormIdeal.S4096x5632 .f32) : dg x w du = NormRefIdeal.Read.val_main_v39 (F := Ideal) x w du :=
  funext (α := NormIdeal.S1x1024.Idx) fun i => (dg_at x w du (i 1)).trans (NormRefIdeal.Array.readG x w du i).symm

/-- The two writings over real numbers; `a` is the mean square. -/
theorem dx_real {dr d x s a S : ℝ} (h : s * s * a = 1) :
    dr + (s * d - x * (s * s * s) * (S * 1024⁻¹)) = dr + d * s + x * (S * (-(1 / 2) * (s * a⁻¹)) * 1024⁻¹)
      + S * (-(1 / 2) * (s * a⁻¹)) * 1024⁻¹ * x := by
  have : a⁻¹ = s * s := (eq_inv_of_mul_eq_one_left h).symm
  rw [this]
  ring

/-- The gradient of the input, where the arguments are finite. -/
theorem dx_eq (x : FVec Ideal NormIdeal.S4096x1024 .f32) (g : FVec Ideal NormIdeal.S1024 .f32)
    (w : FVec Ideal NormIdeal.S1024x5632 .f32) (dr : FVec Ideal NormIdeal.S4096x1024 .f32)
    (du : FVec Ideal NormIdeal.S4096x5632 .f32)
    (hx : Finite (x : NormIdeal.S4096x1024.Idx → EReal)) (hg : Finite (g : NormIdeal.S1024.Idx → EReal))
    (hw : Finite (w : NormIdeal.S1024x5632.Idx → EReal)) (hr : Finite (dr : NormIdeal.S4096x1024.Idx → EReal))
    (hu : Finite (du : NormIdeal.S4096x5632.Idx → EReal)) :
    dx x g w dr du = NormRefIdeal.Read.val_main_v38 (F := Ideal) x g w dr du := by
  refine funext (α := NormIdeal.S4096x1024.Idx) fun i => ?_
  obtain ⟨r, c, rfl⟩ : ∃ (r : Fin 4096) (c : Fin 1024), i = Idealize.ShloMosaic.ix2 r c :=
    ⟨i 0, i 1, Idealize.ShloMosaic.ValueIdx.eq_ix2 (n0 := 4096) (n1 := 1024) i⟩
  refine Eq.trans ?_ (NormRefIdeal.Array.readX x g w dr du r c).symm
  have hd : ∀ c, IsReal (NormRefIdeal.Array.dn w du r c) := fun c => IsReal.sum fun k => (hu _).mul (hw _)
  have hS : IsReal (∑ c : Fin 1024, x (Idealize.ShloMosaic.ix2 r c)
      * (NormRefIdeal.Array.dn w du r c * g (Idealize.ShloMosaic.ix1 c))) := IsReal.sum fun c => (hx _).mul ((hd c).mul (hg _))
  obtain ⟨e, he, hb⟩ := ofBits_eps
  obtain ⟨a, ha, hm⟩ : ∃ a : ℝ, 0 < a ∧ NormRefIdeal.Array.ms x r = (a : EReal) := by
    obtain ⟨f, hf⟩ := hx.lift
    refine ⟨(∑ c : Fin 1024, f (Idealize.ShloMosaic.ix2 r c) * f (Idealize.ShloMosaic.ix2 r c)) * 1024⁻¹ + e, ?_, ?_⟩
    · have : 0 ≤ ∑ c : Fin 1024, f (Idealize.ShloMosaic.ix2 r c) * f (Idealize.ShloMosaic.ix2 r c) :=
        Finset.sum_nonneg fun c _ => mul_self_nonneg _
      positivity
    · unfold NormRefIdeal.Array.ms
      rw [hb, ofBits_1024, Ideal.div_coe (by norm_num), EReal.coe_add, EReal.coe_mul, coe_sum]
      subst hf
      simp only [EReal.coe_mul]
      norm_num
  have hs : Ideal.rsqrt (NormRefIdeal.Array.ms x r) = (((√a)⁻¹ : ℝ) : EReal) := by
    rw [hm, Ideal.rsqrt_coe, if_neg (by linarith), if_neg (by linarith)]
  have h1 : (√a)⁻¹ * (√a)⁻¹ * a = 1 := by
    rw [← mul_inv, Real.mul_self_sqrt ha.le]; exact inv_mul_cancel₀ ha.ne'
  have hrs : rs x r = (((√a)⁻¹ : ℝ) : EReal) := hs
  change dr (Idealize.ShloMosaic.ix2 r c) + (rs x r * (dn w du r c * g (Idealize.ShloMosaic.ix1 c))
      - x (Idealize.ShloMosaic.ix2 r c) * (rs x r * rs x r * rs x r)
        * Ideal.div (∑ c : Fin 1024, x (Idealize.ShloMosaic.ix2 r c) * (dn w du r c * g (Idealize.ShloMosaic.ix1 c)))
          (Ideal.ofBits FTy.f32 0x44800000#32)) = _
  unfold NormRefIdeal.Array.half
  simp only [dn_eq]
  rw [hs, hm]
  generalize (√a)⁻¹ = s at *
  obtain ⟨S, hS⟩ := hS
  obtain ⟨d, hd⟩ := (hd c).mul (hg (Idealize.ShloMosaic.ix1 c))
  obtain ⟨y, hy⟩ := hx (Idealize.ShloMosaic.ix2 r c)
  obtain ⟨z, hz⟩ := hr (Idealize.ShloMosaic.ix2 r c)
  rw [hS, hd, hy, hz, hrs, ofBits_neg_half, ofBits_1024]
  simp only [Ideal.div_coe ha.ne', Ideal.div_coe (show (1024 : ℝ) ≠ 0 by norm_num)]
  have := dx_real (dr := z) (d := d) (x := y) (S := S) h1
  simp only [one_div] at this ⊢
  exact_mod_cast congrArg (Real.toEReal) this

end Cert.NormForm
end
-- ==== Proof.Norm.Kernel.lean ====
module

public import proofs.«01_k».proof.Proof.Gen.NormIdeal.Value
public import proofs.«01_k».proof.Proof.Norm.Formula
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.NormIdeal.Array

open Cert.NormIdeal Cert.NormIdeal.Gen

variable (m : (ℓ : Loc nD τ sig) → Buf (Elt Ideal) ℓ)

/-- Every window's block index at every point. -/
theorem idx : ∀ t : Fin cfg0.N, win0_0.index t = ![0, t.val, 0] ∧ win0_1.index t = ![0, t.val, 1]
    ∧ win0_2.index t = ![1, t.val, 0] ∧ win0_3.index t = ![1, t.val, 1]
    ∧ win0_4.index t = ![0, 0, 0] ∧ win0_5.index t = ![t.val, 0] ∧ win0_6.index t = ![0, 0] ∧ win0_7.index t = ![t.val, 0]
    ∧ win0_8.index t = ![t.val, 0] ∧ t.val < 8 :=
  (by decide +kernel : ∀ t : Fin grid0.N, _)

/-- The weight's segments the region is entered with. -/
theorem entryW (c : Dev nD) : V m c main_v2
    = (fun i => m ((c : Thread nD τ).loc main_arg2) (Idealize.ShloMosaic.ix2 (i 1) ⟨(i 0).val * 1408 + (i 2).val, by
        have h0 : (i 0).val < 4 := (i 0).isLt
        have h2 : (i 2).val < 1408 := (i 2).isLt
        omega⟩) : FVec Ideal S4x1024x1408 .bf16) := by
  refine funext (α := S4x1024x1408.Idx) fun i => ?_
  unfold V
  after_results
  have h0 : (i 0).val < 4 := (i 0).isLt
  have h2 : (i 2).val < 1408 := (i 2).isLt
  pointwise
  all_goals first | done | (congr 1; blk_ext)

/-- The scale the region is entered with. -/
theorem entryG (c : Dev nD) : V m c main_v9
    = (fun i => m ((c : Thread nD τ).loc main_arg1) (Idealize.ShloMosaic.ix1 (i 1)) : FVec Ideal S1x1024 .f32) := by
  refine funext (α := S1x1024.Idx) fun i => ?_
  unfold V
  after_results
  pointwise

/-- The product's gradient, split into its halves. -/
theorem entryU (c : Dev nD) : V m c main_v8
    = (fun i => m ((c : Thread nD τ).loc main_arg4) (Idealize.ShloMosaic.ix2 (i 1) ⟨(i 0).val * 2816 + (i 2).val, by
        have h0 : (i 0).val < 2 := (i 0).isLt
        have h2 : (i 2).val < 2816 := (i 2).isLt
        omega⟩) : FVec Ideal S2x4096x2816 .bf16) := by
  refine funext (α := S2x4096x2816.Idx) fun i => ?_
  unfold V
  after_results
  have h : (i 0).val < 2 := (i 0).isLt
  rcases (by omega : (i 0).val = 0 ∨ (i 0).val = 1) with h0 | h0 <;> pointwise [h0]

/-- A block of the gradient of the normed rows, as the body computes it. -/
def dnB (c : Dev nD) (t : Fin cfg0.N) : FVec Ideal S512x1024 .f32 :=
  k0_pay5 (F := Ideal) (iblk m c 0 t)
    (View.ld (iblk m c 4 t) (Rect.unit ![0, 0, 0] ![1, 1024, 1408] inb_S4x1024x1408_S1x1024x1408_0_0_0))
    (iblk m c 1 t)
    (View.ld (iblk m c 4 t) (Rect.unit ![1, 0, 0] ![1, 1024, 1408] inb_S4x1024x1408_S1x1024x1408_1_0_0))
    (iblk m c 2 t)
    (View.ld (iblk m c 4 t) (Rect.unit ![2, 0, 0] ![1, 1024, 1408] inb_S4x1024x1408_S1x1024x1408_2_0_0))
    (iblk m c 3 t)
    (View.ld (iblk m c 4 t) (Rect.unit ![3, 0, 0] ![1, 1024, 1408] inb_S4x1024x1408_S1x1024x1408_3_0_0))

set_option maxHeartbeats 1000000 in
/-- … is that block of the array. -/
theorem dnBlk (c : Dev nD) (t : Fin cfg0.N) (ht : t.val < 8) (p : Fin 512) (q : Fin 1024) :
    (dnB m c t (Idealize.ShloMosaic.ix2 p q) : EReal)
      = NormForm.dn (m ((c : Thread nD τ).loc main_arg2)) (m ((c : Thread nD τ).loc main_arg4)) ⟨t.val * 512 + p.val, by omega⟩ q := by
  pointwise [dnB, k0_pay5, NormForm.dn, NormForm.seg]
  simp only [iblk]
  blk_simp
  refine congrArg₂ (· + ·) (congrArg₂ (· + ·) (congrArg₂ (· + ·) ?_ ?_) ?_) ?_ <;> refine Fin.sum_fin_congr fun x => ?_ <;>
    refine congrArg₂ (· * ·) ?_ ?_ <;> (first | rw [entryU] | rw [entryW]) <;> blk_ext [idx t]

/-- A block of the rows' reciprocal root mean squares. -/
theorem rsBlk (c : Dev nD) (t : Fin cfg0.N) (ht : t.val < 8) (p : Fin 512) (q : Fin 1) :
    (k0_pay1 (F := Ideal) (k0_pay6 (iblk m c 5 t)) (Ideal.ofBits FTy.f32 1149239296#32) (Idealize.ShloMosaic.ix2 p q) : EReal)
      = NormForm.rs (m ((c : Thread nD τ).loc main_arg0)) ⟨t.val * 512 + p.val, by omega⟩ := by
  pointwise [k0_pay1, k0_pay6, NormForm.rs]
  blk_point [iblk, V, idx t]

/-- What a point leaves of the input's gradient. -/
theorem pointX (c : Dev nD) (t : Fin cfg0.N) (ht : t.val < 8) (p : Fin 512) (q : Fin 1024) :
    k0_pay2 (F := Ideal) (dnB m c t) (iblk m c 5 t) (k0_pay6 (iblk m c 5 t)) (FloatOps.ofBits (F := Ideal) FTy.f32 1149239296#32) (iblk m c 6 t) (iblk m c 7 t) (Idealize.ShloMosaic.ix2 p q)
      = NormForm.dx (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 8).blk t).view.emb (Idealize.ShloMosaic.ix2 p q)) := by
  pointwise [k0_pay2]
  simp only [dnBlk m c t ht, rsBlk m c t ht]
  unfold NormForm.dx
  simp only [iblk, entryG]
  blk_point [iblk, V, idx t]

/-- What a point adds to the scale's gradient. -/
theorem pointG (c : Dev nD) (t : Fin cfg0.N) (ht : t.val < 8) (z : Fin 1) (q : Fin 1024) :
    (k0_pay3 (F := Ideal) (dnB m c t) (iblk m c 5 t) (k0_pay6 (iblk m c 5 t)) (FloatOps.ofBits (F := Ideal) FTy.f32 1149239296#32) (Idealize.ShloMosaic.ix2 z q) : EReal)
      = ∑ r : Fin 512, NormForm.dgRow (m ((c : Thread nD τ).loc main_arg0)) (m ((c : Thread nD τ).loc main_arg2))
          (m ((c : Thread nD τ).loc main_arg4)) ⟨t.val * 512 + r.val, by omega⟩ q := by
  pointwise [k0_pay3]
  simp only [dnBlk m c t ht, rsBlk m c t ht, NormForm.dgRow]
  blk_point [iblk, V, idx t]

/-- The gradient of the input after the run. -/
theorem finalX (c : Dev nD) : (dats m 0 c).arrAt 8 (cfgs 0).N
    = NormForm.dx (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  have ht : t.val < 8 := t.isLt
  rcases Nat.eq_zero_or_pos t.val with h | h
  · rw [outsAt0_A m c t (by omega) (by omega)]
    frame_out
    rw [Idealize.ShloMosaic.ValueIdx.eq_ix2 (n0 := 512) (n1 := 1024) y]
    exact pointX m c t ht (y 0) (y 1)
  · rw [outsAt0_B m c t (by omega) (by omega)]
    frame_out
    rw [Idealize.ShloMosaic.ValueIdx.eq_ix2 (n0 := 512) (n1 := 1024) y]
    exact pointX m c t ht (y 0) (y 1)

/-- The gradient of the scale after the run. -/
theorem finalG (c : Dev nD) : (dats m 0 c).arrAt 9 (cfgs 0).N
    = NormForm.dg (m ((c : Thread nD τ).loc main_arg0)) (m ((c : Thread nD τ).loc main_arg2)) (m ((c : Thread nD τ).loc main_arg4)) := by
  refine (dats m 0 c).arrAt_eq_of_after_last 9 t0_7 (by decide +kernel) _ fun j => ?_
  blk_simp
  rw [after0_9, Pipeline.eq_sum_fin_of_reset_step_apply_last (fun n h => (outsAt0 m c n h).2) 8 (fun _ => 0)
      (fun t j => ∑ r : Fin 512, NormForm.dgRow (m ((c : Thread nD τ).loc main_arg0)) (m ((c : Thread nD τ).loc main_arg2))
          (m ((c : Thread nD τ).loc main_arg4)) ⟨t.val * 512 + r.val, by have : t.val < 8 := t.isLt; omega⟩ (j 1))
      (fun t h j => by
        have ht : t.val < 8 := t.isLt
        rw [outsAt0_A m c t (by omega) (by omega)]; frame_out
        rw [zero_add, Idealize.ShloMosaic.ValueIdx.eq_ix2 (n0 := 1) (n1 := 1024) j]
        exact pointG m c t ht (j 0) (j 1))
      (fun t h j => by
        have ht : t.val < 8 := t.isLt
        rw [outsAt0_B m c t (by omega) (by omega)]; frame_out
        rw [Idealize.ShloMosaic.ValueIdx.eq_ix2 (n0 := 1) (n1 := 1024) j]
        refine Eq.trans ?_ (congrArg (_ + ·) (pointG m c t ht (j 0) (j 1)))
        pointwise [k0_pay4]
        rfl)
      (le_of_eq N_0) t0_7 rfl j, zero_add]
  rfl

end Cert.NormIdeal.Array
end
-- ==== Proof.Norm.Equation.lean ====
module

public import proofs.«01_k».proof.Proof.Norm.Shared
public import proofs.«01_k».proof.Proof.Norm.Kernel
public import proofs.«01_k».proof.Proof.Gen.NormIdeal.Frame
public import proofs.«01_k».proof.Defs
public import proofs.«01_k».proof.Proof.Gen.Pre_finite_norm
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.NormClaim

open Cert.Lift

/-- The gradient of the feed-forward's norm: kernel and reference end with equal results. -/
theorem algebraic : algebraic_NormIdeal_NormRefIdeal_pre_finite_norm := by
  pair_intro
  · run_from NormIdeal.Gen.run_main m g
  · run_from NormRefIdeal.Value.run m' g'
    · have hf := hpre c
      obtain ⟨h0, h1, h2, h3, h4⟩ := hagree c
      rw [NormRefIdeal.Read.val_main_v38_eq, h0, h1, h2, h3, h4]
      exact ((NormIdeal.Array.finalX m c).trans (NormForm.dx_eq _ _ _ _ _ (finite_of_test _ _ hf.1) (finite_of_test _ _ hf.2.1)
        (finite_of_test _ _ hf.2.2.1) (finite_of_test _ _ hf.2.2.2.1) (finite_of_test _ _ hf.2.2.2.2))).symm
    · exact ((NormIdeal.Array.finalG m c).trans (NormForm.dg_eq _ _ _)).symm

end Cert.NormClaim
end
-- ==== Proof.Mix.Kernel.lean ====
module

public import proofs.«01_k».proof.Proof.Gen.MixIdeal.Value
public import proofs.«01_k».proof.Proof.Norm.Formula
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.MixIdeal.Array

open Cert.MixIdeal Cert.MixIdeal.Gen

variable (m : (ℓ : Loc nD τ sig) → Buf (Elt Ideal) ℓ)

/-- Every window's block index at every point. -/
theorem idx : ∀ t : Fin cfg0.N, win0_0.index t = ![t.val, 0] ∧ win0_1.index t = ![t.val, 1]
    ∧ win0_2.index t = ![t.val, 2] ∧ win0_3.index t = ![t.val, 3]
    ∧ win0_4.index t = ![0, 0, 0] ∧ win0_5.index t = ![t.val, 0] ∧ win0_6.index t = ![0, 0] ∧ win0_7.index t = ![t.val, 0]
    ∧ win0_8.index t = ![t.val, 0] ∧ t.val < 8 :=
  (by decide +kernel : ∀ t : Fin grid0.N, _)

/-- The weight's segments the region is entered with. -/
theorem entryW (c : Dev nD) : V m c main_v2
    = (fun i => m ((c : Thread nD τ).loc main_arg2) (Idealize.ShloMosaic.ix2 (i 1) ⟨(i 0).val * 1408 + (i 2).val, by
        have h0 : (i 0).val < 4 := (i 0).isLt
        have h2 : (i 2).val < 1408 := (i 2).isLt
        omega⟩) : FVec Ideal S4x1024x1408 .bf16) := by
  refine funext (α := S4x1024x1408.Idx) fun i => ?_
  unfold V
  after_results
  have h0 : (i 0).val < 4 := (i 0).isLt
  have h2 : (i 2).val < 1408 := (i 2).isLt
  pointwise
  all_goals first | done | (congr 1; blk_ext)

/-- The scale the region is entered with. -/
theorem entryG (c : Dev nD) : V m c main_v4
    = (fun i => m ((c : Thread nD τ).loc main_arg1) (Idealize.ShloMosaic.ix1 (i 1)) : FVec Ideal S1x1024 .f32) := by
  refine funext (α := S1x1024.Idx) fun i => ?_
  unfold V
  after_results
  pointwise

/-- The product's gradient the region is entered with. -/
theorem entryU (c : Dev nD) : V m c main_v3 = (m ((c : Thread nD τ).loc main_arg4) : FVec Ideal S4096x5632 .f32) := by
  refine funext (α := S4096x5632.Idx) fun i => ?_
  unfold V
  after_results
  pointwise

/-- A block of the gradient of the normed rows, as the body computes it. -/
def dnB (c : Dev nD) (t : Fin cfg0.N) : FVec Ideal S512x1024 .f32 :=
  k0_pay5 (F := Ideal) (iblk m c 0 t)
    (View.ld (iblk m c 4 t) (Rect.unit ![0, 0, 0] ![1, 1024, 1408] inb_S4x1024x1408_S1x1024x1408_0_0_0))
    (iblk m c 1 t)
    (View.ld (iblk m c 4 t) (Rect.unit ![1, 0, 0] ![1, 1024, 1408] inb_S4x1024x1408_S1x1024x1408_1_0_0))
    (iblk m c 2 t)
    (View.ld (iblk m c 4 t) (Rect.unit ![2, 0, 0] ![1, 1024, 1408] inb_S4x1024x1408_S1x1024x1408_2_0_0))
    (iblk m c 3 t)
    (View.ld (iblk m c 4 t) (Rect.unit ![3, 0, 0] ![1, 1024, 1408] inb_S4x1024x1408_S1x1024x1408_3_0_0))

set_option maxHeartbeats 1000000 in
/-- … is that block of the array. -/
theorem dnBlk (c : Dev nD) (t : Fin cfg0.N) (ht : t.val < 8) (p : Fin 512) (q : Fin 1024) :
    (dnB m c t (Idealize.ShloMosaic.ix2 p q) : EReal)
      = NormForm.dn (m ((c : Thread nD τ).loc main_arg2)) (m ((c : Thread nD τ).loc main_arg4)) ⟨t.val * 512 + p.val, by omega⟩ q := by
  pointwise [dnB, k0_pay5, NormForm.dn, NormForm.seg]
  simp only [iblk]
  blk_simp
  simp only [entryU, entryW]
  blk_point [idx t]

/-- A block of the rows' reciprocal root mean squares. -/
theorem rsBlk (c : Dev nD) (t : Fin cfg0.N) (ht : t.val < 8) (p : Fin 512) (q : Fin 1) :
    (k0_pay1 (F := Ideal) (k0_pay6 (iblk m c 5 t)) k0_pay7 (Idealize.ShloMosaic.ix2 p q) : EReal)
      = NormForm.rs (m ((c : Thread nD τ).loc main_arg0)) ⟨t.val * 512 + p.val, by omega⟩ := by
  pointwise [k0_pay1, k0_pay6, k0_pay7, NormForm.rs]
  blk_point [iblk, V, idx t]

/-- What a point leaves of the input's gradient. -/
theorem pointX (c : Dev nD) (t : Fin cfg0.N) (ht : t.val < 8) (p : Fin 512) (q : Fin 1024) :
    k0_pay2 (F := Ideal) (dnB m c t) (iblk m c 5 t) (k0_pay6 (iblk m c 5 t)) k0_pay7 (iblk m c 6 t) (iblk m c 7 t) (Idealize.ShloMosaic.ix2 p q)
      = NormForm.dx (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 8).blk t).view.emb (Idealize.ShloMosaic.ix2 p q)) := by
  pointwise [k0_pay2]
  simp only [dnBlk m c t ht, rsBlk m c t ht]
  unfold NormForm.dx
  simp only [iblk, entryG]
  blk_point [iblk, V, idx t]

/-- What a point adds to the scale's gradient. -/
theorem pointG (c : Dev nD) (t : Fin cfg0.N) (ht : t.val < 8) (z : Fin 1) (q : Fin 1024) :
    (k0_pay3 (F := Ideal) (dnB m c t) (iblk m c 5 t) (k0_pay6 (iblk m c 5 t)) k0_pay7 (Idealize.ShloMosaic.ix2 z q) : EReal)
      = ∑ r : Fin 512, NormForm.dgRow (m ((c : Thread nD τ).loc main_arg0)) (m ((c : Thread nD τ).loc main_arg2))
          (m ((c : Thread nD τ).loc main_arg4)) ⟨t.val * 512 + r.val, by omega⟩ q := by
  pointwise [k0_pay3]
  simp only [dnBlk m c t ht, rsBlk m c t ht, NormForm.dgRow]
  blk_point [iblk, V, idx t]

/-- The gradient of the input after the run. -/
theorem finalX (c : Dev nD) : (dats m 0 c).arrAt 8 (cfgs 0).N
    = NormForm.dx (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  have ht : t.val < 8 := t.isLt
  rcases Nat.eq_zero_or_pos t.val with h | h
  · rw [outsAt0_A m c t (by omega) (by omega)]
    frame_out
    rw [Idealize.ShloMosaic.ValueIdx.eq_ix2 (n0 := 512) (n1 := 1024) y]
    exact pointX m c t ht (y 0) (y 1)
  · rw [outsAt0_B m c t (by omega) (by omega)]
    frame_out
    rw [Idealize.ShloMosaic.ValueIdx.eq_ix2 (n0 := 512) (n1 := 1024) y]
    exact pointX m c t ht (y 0) (y 1)

/-- The gradient of the scale after the run. -/
theorem finalG (c : Dev nD) : (dats m 0 c).arrAt 9 (cfgs 0).N
    = NormForm.dg (m ((c : Thread nD τ).loc main_arg0)) (m ((c : Thread nD τ).loc main_arg2)) (m ((c : Thread nD τ).loc main_arg4)) := by
  refine (dats m 0 c).arrAt_eq_of_after_last 9 t0_7 (by decide +kernel) _ fun j => ?_
  blk_simp
  rw [after0_9, Pipeline.eq_sum_fin_of_reset_step_apply_last (fun n h => (outsAt0 m c n h).2) 8 (fun _ => 0)
      (fun t j => ∑ r : Fin 512, NormForm.dgRow (m ((c : Thread nD τ).loc main_arg0)) (m ((c : Thread nD τ).loc main_arg2))
          (m ((c : Thread nD τ).loc main_arg4)) ⟨t.val * 512 + r.val, by have : t.val < 8 := t.isLt; omega⟩ (j 1))
      (fun t h j => by
        have ht : t.val < 8 := t.isLt
        rw [outsAt0_A m c t (by omega) (by omega)]; frame_out
        rw [zero_add, Idealize.ShloMosaic.ValueIdx.eq_ix2 (n0 := 1) (n1 := 1024) j]
        exact pointG m c t ht (j 0) (j 1))
      (fun t h j => by
        have ht : t.val < 8 := t.isLt
        rw [outsAt0_B m c t (by omega) (by omega)]; frame_out
        rw [Idealize.ShloMosaic.ValueIdx.eq_ix2 (n0 := 1) (n1 := 1024) j]
        refine Eq.trans ?_ (congrArg (_ + ·) (pointG m c t ht (j 0) (j 1)))
        pointwise [k0_pay4]
        rfl)
      (le_of_eq N_0) t0_7 rfl j, zero_add]
  rfl

end Cert.MixIdeal.Array
end
-- ==== Proof.Mix.Equation.lean ====
module

public import proofs.«01_k».proof.Proof.Norm.Shared
public import proofs.«01_k».proof.Proof.Mix.Kernel
public import proofs.«01_k».proof.Proof.Gen.MixIdeal.Frame
public import proofs.«01_k».proof.Defs
public import proofs.«01_k».proof.Proof.Gen.Pre_finite_norm
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.MixClaim

open Cert.Lift

/-- The gradient of the mixer's norm: kernel and reference end with equal results. -/
theorem algebraic : algebraic_MixIdeal_NormRefIdeal_pre_finite_norm := by
  pair_intro
  · run_from MixIdeal.Gen.run_main m g
  · run_from NormRefIdeal.Value.run m' g'
    · have hf := hpre c
      obtain ⟨h0, h1, h2, h3, h4⟩ := hagree c
      rw [NormRefIdeal.Read.val_main_v38_eq, h0, h1, h2, h3, h4]
      exact ((MixIdeal.Array.finalX m c).trans (NormForm.dx_eq _ _ _ _ _ (finite_of_test _ _ hf.1) (finite_of_test _ _ hf.2.1)
        (finite_of_test _ _ hf.2.2.1) (finite_of_test _ _ hf.2.2.2.1) (finite_of_test _ _ hf.2.2.2.2))).symm
    · exact ((MixIdeal.Array.finalG m c).trans (NormForm.dg_eq _ _ _)).symm

end Cert.MixClaim
end
-- ==== Proof.Merge.Kernel.lean ====
module

public import proofs.«01_k».proof.Proof.Gen.MergeIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.MergeIdeal.Array

open Cert.MergeIdeal Cert.MergeIdeal.Gen

variable (m : (ℓ : Loc nD τ sig) → Buf (Elt Ideal) ℓ)

/-- The kernel's gate `1 / (1 + exp (0 - x))`. -/
def sgm (x : EReal) : EReal := Ideal.div 1 (1 + Ideal.exp (0 - x))

/-- Entry `(r, c)` of a product of two matrices. -/
def mm (x : FVec Ideal S4096x1024 .f32) (w : FVec Ideal S1024x1024 .f32) (r : Fin 4096) (c : Fin 1024) : EReal :=
  ∑ k : Fin 1024, x (Idealize.ShloMosaic.ix2 r k) * w (Idealize.ShloMosaic.ix2 k c)

/-- Entry `(r, c)` of the cotangent times the transposed weight. -/
def cot (w : FVec Ideal S1024x1024 .f32) (dr : FVec Ideal S4096x1024 .f32) (r : Fin 4096) (c : Fin 1024) : EReal :=
  ∑ k : Fin 1024, dr (Idealize.ShloMosaic.ix2 r k) * w (Idealize.ShloMosaic.ix2 c k)

/-- The gate's logit of the branch: columns from 3584 for the convolution's, from 4608 for the attention's. -/
def logit (p : FVec Ideal S4096x5632 .f32) (s : ℕ) (hs : s ≤ 4608) (r : Fin 4096) (c : Fin 1024) : EReal :=
  p (Idealize.ShloMosaic.ix2 r ⟨s + c.val, by omega⟩)

/-- The gradient of a gated branch. -/
def branch (w : FVec Ideal S1024x1024 .f32) (dr : FVec Ideal S4096x1024 .f32) (p : FVec Ideal S4096x5632 .f32)
    (s : ℕ) (hs : s ≤ 4608) : FVec Ideal S4096x1024 .bf16 := fun i =>
  cot w dr (i 0) (i 1) * sgm (logit p s hs (i 0) (i 1))

/-- The gradient of the gate's logit, of the branch `x · w`. -/
def slope (x : FVec Ideal S4096x1024 .f32) (w wt : FVec Ideal S1024x1024 .f32) (dr : FVec Ideal S4096x1024 .f32)
    (p : FVec Ideal S4096x5632 .f32) (s : ℕ) (hs : s ≤ 4608) (r : Fin 4096) (c : Fin 1024) : EReal :=
  cot wt dr r c * mm x w r c * sgm (logit p s hs r c) * (1 - sgm (logit p s hs r c))

/-- The two logits' gradients, stacked. -/
def slopes (z o : FVec Ideal S4096x1024 .f32) (p : FVec Ideal S4096x5632 .f32) (wp wo wt : FVec Ideal S1024x1024 .f32)
    (dr : FVec Ideal S4096x1024 .f32) : FVec Ideal S2x4096x1024 .bf16 := fun i =>
  if (i 0).val < 1 then slope z wp wt dr p 3584 (by omega) (i 1) (i 2) else slope o wo wt dr p 4608 (by omega) (i 1) (i 2)

/-- Every window's block index at every point. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2]
    ∧ win0_4.index t = ![t.val / 2, 7 + t.val % 2] ∧ win0_5.index t = ![t.val / 2, 9 + t.val % 2]
    ∧ win0_6.index t = ![t.val / 2, t.val % 2] ∧ win0_7.index t = ![t.val / 2, t.val % 2]
    ∧ win0_8.index t = ![0, t.val / 2, t.val % 2] ∧ t.val / 2 < 4 :=
  (by decide +kernel : ∀ t : Fin grid0.N, _)

/-- The stored gradient of the convolution's branch. -/
theorem point6 (c : Dev nD) (t : Fin cfg0.N) (y : S1024x512.Idx) :
    out0_6 (iblk m c 0 t) (iblk m c 1 t) (iblk m c 2 t) (iblk m c 3 t) (iblk m c 4 t) (iblk m c 5 t) y
      = branch (m ((c : Thread nD τ).loc main_arg5)) (m ((c : Thread nD τ).loc main_arg6)) (m ((c : Thread nD τ).loc main_arg2))
          3584 (by omega) (((cfg0.win 6).blk t).view.emb y) := by
  unfold_out out0_6
  canon_tiles x h
  all_goals
    pointwise [k0_pay6, k0_pay3, k0_pay4, branch, cot, sgm, logit]
    blk_point [iblk, V, idx t]

/-- The stored gradient of the attention's branch. -/
theorem point7 (c : Dev nD) (t : Fin cfg0.N) (y : S1024x512.Idx) :
    out0_7 (iblk m c 0 t) (iblk m c 1 t) (iblk m c 2 t) (iblk m c 3 t) (iblk m c 4 t) (iblk m c 5 t) y
      = branch (m ((c : Thread nD τ).loc main_arg5)) (m ((c : Thread nD τ).loc main_arg6)) (m ((c : Thread nD τ).loc main_arg2))
          4608 (by omega) (((cfg0.win 7).blk t).view.emb y) := by
  unfold_out out0_7
  canon_tiles x h
  all_goals
    pointwise [k0_pay7, k0_pay3, k0_pay5, branch, cot, sgm, logit]
    blk_point [iblk, V, idx t]

/-- The branches' values the region is entered with. -/
theorem entry1 (c : Dev nD) : V m c main_v1
    = (fun i => mm (m ((c : Thread nD τ).loc main_arg0)) (m ((c : Thread nD τ).loc main_arg3)) (i 0) (i 1)
        : FVec Ideal S4096x1024 .bf16) := by
  refine funext (α := S4096x1024.Idx) fun i => ?_
  unfold V
  after_results
  pointwise [mm]

theorem entry3 (c : Dev nD) : V m c main_v3
    = (fun i => mm (m ((c : Thread nD τ).loc main_arg1)) (m ((c : Thread nD τ).loc main_arg4)) (i 0) (i 1)
        : FVec Ideal S4096x1024 .bf16) := by
  refine funext (α := S4096x1024.Idx) fun i => ?_
  unfold V
  after_results
  pointwise [mm]

/-- The stored gradients of the logits. -/
theorem point8 (c : Dev nD) (t : Fin cfg0.N) (y : S2x1024x512.Idx) :
    out0_8 (iblk m c 0 t) (iblk m c 1 t) (iblk m c 2 t) (iblk m c 3 t) (iblk m c 4 t) (iblk m c 5 t) y
      = slopes (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (((cfg0.win 8).blk t).view.emb y) := by
  unfold_out out0_8
  canon_tiles x h
  all_goals
    unfold slopes
    blk_simp [idx t]
    pointwise [k0_pay1, k0_pay2, k0_pay3, k0_pay4, k0_pay5, k0_pay8, slope, cot, mm, sgm, logit, h0]
    blk_point [iblk, V, idx t]
  all_goals
    first | rw [entry1] | rw [entry3]
    simp only [mm]
    blk_simp [idx t]
    blk_point [idx t]

/-- The arrays after the run. -/
theorem final6 (c : Dev nD) : (dats m 0 c).arrAt 6 (cfgs 0).N = branch (m ((c : Thread nD τ).loc main_arg5))
    (m ((c : Thread nD τ).loc main_arg6)) (m ((c : Thread nD τ).loc main_arg2)) 3584 (by omega) := by
  refine (dats m 0 c).arrAt_eq_of_covers 6 _ (by decide +kernel) fun t _ y => ?_
  blk_simp
  rw [after0_6]
  exact point6 m c t y

theorem final7 (c : Dev nD) : (dats m 0 c).arrAt 7 (cfgs 0).N = branch (m ((c : Thread nD τ).loc main_arg5))
    (m ((c : Thread nD τ).loc main_arg6)) (m ((c : Thread nD τ).loc main_arg2)) 4608 (by omega) := by
  refine (dats m 0 c).arrAt_eq_of_covers 7 _ (by decide +kernel) fun t _ y => ?_
  blk_simp
  rw [after0_7]
  exact point7 m c t y

theorem final8 (c : Dev nD) : (dats m 0 c).arrAt 8 (cfgs 0).N
    = slopes (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 8 _ (by decide +kernel) fun t _ y => ?_
  blk_simp
  rw [after0_8]
  exact point8 m c t y

end Cert.MergeIdeal.Array
end
-- ==== Proof.Merge.Reference.lean ====
module

public import proofs.«01_k».proof.Proof.Gen.MergeRefIdeal.Run
public import proofs.«01_k».proof.Proof.Gen.MergeRefIdeal.Read
public import Idealize.ShloMosaic.Lib.Pointwise

@[expose] public section

set_option maxRecDepth 16384

noncomputable section

open Idealize.ShloMosaic Idealize.ShloMosaic.TcCoe Idealize.SL.Sem Idealize.ShloMosaic.ValueIdx
open Idealize.ShloMosaic.Pipeline (Dat)

namespace Cert.MergeRefIdeal.Array

open Cert.MergeRefIdeal Cert.MergeRefIdeal.Gen Cert.MergeRefIdeal.Read

/-- The reference's logistic function. -/
def logi (x : EReal) : EReal := Ideal.div 1 (1 + Ideal.exp (-x))

/-- Entry `(r, c)` of a product of two matrices. -/
def mm (x : FVec Ideal S4096x1024 .f32) (w : FVec Ideal S1024x1024 .f32) (r : Fin 4096) (c : Fin 1024) : EReal :=
  ∑ k : Fin 1024, x (Idealize.ShloMosaic.ix2 r k) * w (Idealize.ShloMosaic.ix2 k c)

/-- Entry `(r, c)` of the cotangent times the transposed weight. -/
def cot (w : FVec Ideal S1024x1024 .f32) (dr : FVec Ideal S4096x1024 .f32) (r : Fin 4096) (c : Fin 1024) : EReal :=
  ∑ k : Fin 1024, dr (Idealize.ShloMosaic.ix2 r k) * w (Idealize.ShloMosaic.ix2 c k)

/-- The reference's gradient of the convolution's branch at an index. -/
theorem read0 (p : FVec Ideal S4096x5632 .f32) (wt : FVec Ideal S1024x1024 .f32) (dr : FVec Ideal S4096x1024 .f32)
    (i : S4096x1024.Idx) (h1 : 3584 + (i 1).val < 5632) :
    (val_main_v37 (F := Ideal) p wt dr i : EReal)
      = logi (p (Idealize.ShloMosaic.ix2 (i 0) ⟨3584 + (i 1).val, h1⟩)) * cot wt dr (i 0) (i 1) := by
  pointwise [
    val_main_v0, val_main_v1, val_main_v2, val_main_v3, val_main_v4, val_main_v5, val_main_v6, val_main_v7,
    val_main_v8, val_main_v9, val_main_cst, val_main_v10, val_main_v11, val_main_cst_0, val_main_v12, val_main_v13,
    val_main_cst_1, val_main_v14, val_main_v15, val_main_v16, val_main_v17, val_main_v18, val_main_v19,
    val_main_cst_2, val_main_v20, val_main_v21, val_main_cst_3, val_main_v22, val_main_v23, val_main_cst_4,
    val_main_v24, val_main_v25, val_main_v26, val_main_v27, val_main_v28, val_main_v29, val_main_v30, val_main_v31,
    val_main_v32, val_main_v33, val_main_v34, val_main_v35, val_main_v36, val_main_v37, val_main_v38, val_main_v39,
    val_main_v40, val_main_v41, val_main_v42, logi, cot]
  first | done | rfl

/-- The reference's gradient of the attention's branch at an index. -/
theorem read1 (p : FVec Ideal S4096x5632 .f32) (wt : FVec Ideal S1024x1024 .f32) (dr : FVec Ideal S4096x1024 .f32)
    (i : S4096x1024.Idx) (h1 : 4608 + (i 1).val < 5632) :
    (val_main_v38 (F := Ideal) p wt dr i : EReal)
      = logi (p (Idealize.ShloMosaic.ix2 (i 0) ⟨4608 + (i 1).val, h1⟩)) * cot wt dr (i 0) (i 1) := by
  pointwise [
    val_main_v0, val_main_v1, val_main_v2, val_main_v3, val_main_v4, val_main_v5, val_main_v6, val_main_v7,
    val_main_v8, val_main_v9, val_main_cst, val_main_v10, val_main_v11, val_main_cst_0, val_main_v12, val_main_v13,
    val_main_cst_1, val_main_v14, val_main_v15, val_main_v16, val_main_v17, val_main_v18, val_main_v19,
    val_main_cst_2, val_main_v20, val_main_v21, val_main_cst_3, val_main_v22, val_main_v23, val_main_cst_4,
    val_main_v24, val_main_v25, val_main_v26, val_main_v27, val_main_v28, val_main_v29, val_main_v30, val_main_v31,
    val_main_v32, val_main_v33, val_main_v34, val_main_v35, val_main_v36, val_main_v37, val_main_v38, val_main_v39,
    val_main_v40, val_main_v41, val_main_v42, logi, cot]
  first | done | rfl

/-- The reference's gradient of the logits at an index. -/
theorem read2 (z : FVec Ideal S4096x1024 .f32) (o : FVec Ideal S4096x1024 .f32) (p : FVec Ideal S4096x5632 .f32)
    (wp wo wt : FVec Ideal S1024x1024 .f32) (dr : FVec Ideal S4096x1024 .f32) (i : S2x4096x1024.Idx) (ha : 3584 + (i 2).val < 5632) (hb : 4608 + (i 2).val < 5632) :
    (val_main_v42 (F := Ideal) z o p wp wo wt dr i : EReal)
      = if (i 0).val < 1 then cot wt dr (i 1) (i 2) * mm z wp (i 1) (i 2)
          * (logi (p (Idealize.ShloMosaic.ix2 (i 1) ⟨3584 + (i 2).val, ha⟩))
            * (1 - logi (p (Idealize.ShloMosaic.ix2 (i 1) ⟨3584 + (i 2).val, ha⟩))))
        else cot wt dr (i 1) (i 2) * mm o wo (i 1) (i 2)
          * (logi (p (Idealize.ShloMosaic.ix2 (i 1) ⟨4608 + (i 2).val, hb⟩))
            * (1 - logi (p (Idealize.ShloMosaic.ix2 (i 1) ⟨4608 + (i 2).val, hb⟩)))) := by
  pointwise [
    val_main_v0, val_main_v1, val_main_v2, val_main_v3, val_main_v4, val_main_v5, val_main_v6, val_main_v7,
    val_main_v8, val_main_v9, val_main_cst, val_main_v10, val_main_v11, val_main_cst_0, val_main_v12, val_main_v13,
    val_main_cst_1, val_main_v14, val_main_v15, val_main_v16, val_main_v17, val_main_v18, val_main_v19,
    val_main_cst_2, val_main_v20, val_main_v21, val_main_cst_3, val_main_v22, val_main_v23, val_main_cst_4,
    val_main_v24, val_main_v25, val_main_v26, val_main_v27, val_main_v28, val_main_v29, val_main_v30, val_main_v31,
    val_main_v32, val_main_v33, val_main_v34, val_main_v35, val_main_v36, val_main_v37, val_main_v38, val_main_v39,
    val_main_v40, val_main_v41, val_main_v42, logi, cot, mm]
  first | done | rfl

end Cert.MergeRefIdeal.Array
end
-- ==== Proof.Merge.Equation.lean ====
module

public import proofs.«01_k».proof.Proof.Merge.Kernel
public import proofs.«01_k».proof.Proof.Merge.Reference
public import proofs.«01_k».proof.Proof.Gen.MergeIdeal.Frame
public import proofs.«01_k».proof.Defs
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.MergeClaim

/-- The two writings of the logistic function are one. -/
theorem logi_eq (x : EReal) : MergeIdeal.Array.sgm x = MergeRefIdeal.Array.logi x := by
  unfold MergeIdeal.Array.sgm MergeRefIdeal.Array.logi
  rw [zero_sub]

/-- The branches' gradients agree. -/
theorem branch0_eq (p : FVec Ideal MergeIdeal.S4096x5632 .f32) (wt : FVec Ideal MergeIdeal.S1024x1024 .f32)
    (dr : FVec Ideal MergeIdeal.S4096x1024 .f32) :
    MergeIdeal.Array.branch wt dr p 3584 (by omega) = MergeRefIdeal.Read.val_main_v37 (F := Ideal) p wt dr := by
  refine funext (α := MergeIdeal.S4096x1024.Idx) fun i => ?_
  have h : (i 1).val < 1024 := (i 1).isLt
  refine Eq.trans ?_ (MergeRefIdeal.Array.read0 p wt dr i (by omega)).symm
  unfold MergeIdeal.Array.branch
  rw [logi_eq, mul_comm]
  rfl

theorem branch1_eq (p : FVec Ideal MergeIdeal.S4096x5632 .f32) (wt : FVec Ideal MergeIdeal.S1024x1024 .f32)
    (dr : FVec Ideal MergeIdeal.S4096x1024 .f32) :
    MergeIdeal.Array.branch wt dr p 4608 (by omega) = MergeRefIdeal.Read.val_main_v38 (F := Ideal) p wt dr := by
  refine funext (α := MergeIdeal.S4096x1024.Idx) fun i => ?_
  have h : (i 1).val < 1024 := (i 1).isLt
  refine Eq.trans ?_ (MergeRefIdeal.Array.read1 p wt dr i (by omega)).symm
  unfold MergeIdeal.Array.branch
  rw [logi_eq, mul_comm]
  rfl

/-- The logits' gradients agree. -/
theorem slopes_eq (z o : FVec Ideal MergeIdeal.S4096x1024 .f32) (p : FVec Ideal MergeIdeal.S4096x5632 .f32)
    (wp wo wt : FVec Ideal MergeIdeal.S1024x1024 .f32) (dr : FVec Ideal MergeIdeal.S4096x1024 .f32) :
    MergeIdeal.Array.slopes z o p wp wo wt dr = MergeRefIdeal.Read.val_main_v42 (F := Ideal) z o p wp wo wt dr := by
  refine funext (α := MergeIdeal.S2x4096x1024.Idx) fun i => ?_
  have h : (i 2).val < 1024 := (i 2).isLt
  refine Eq.trans ?_ (MergeRefIdeal.Array.read2 z o p wp wo wt dr i (by omega) (by omega)).symm
  unfold MergeIdeal.Array.slopes MergeIdeal.Array.slope
  split
  · rw [logi_eq, mul_assoc]; rfl
  · rw [logi_eq, mul_assoc]; rfl

/-- Merge: kernel and reference end with equal results. -/
theorem algebraic : algebraic_MergeIdeal_MergeRefIdeal := by
  pair_intro
  · run_from MergeIdeal.Gen.run_main m g
  · run_from MergeRefIdeal.Value.run m' g'
    · exact ((MergeIdeal.Array.final6 m c).trans (branch0_eq _ _ _)).symm
    · exact ((MergeIdeal.Array.final7 m c).trans (branch1_eq _ _ _)).symm
    · obtain ⟨h0, h1, h2, h3, h4, h5, h6⟩ := hagree c
      rw [h4, h5, h6]
      exact ((MergeIdeal.Array.final8 m c).trans (slopes_eq _ _ _ _ _ _ _)).symm

end Cert.MergeClaim
end
-- ==== Proof.Loss.Kernel.lean ====
module

public import proofs.«01_k».proof.Proof.Gen.LossIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.LossIdeal.Array

open Cert.LossIdeal Cert.LossIdeal.Gen

variable (m : (ℓ : Loc nD τ sig) → Buf (Elt Ideal) ℓ)

/-- The error of entry `(r, c)`: the layer's output less the target. -/
def err (h : FVec Ideal S4096x2816 .f32) (w : FVec Ideal S2816x1024 .f32) (x y : FVec Ideal S4096x1024 .f32)
    (r : Fin 4096) (c : Fin 1024) : EReal :=
  x (Idealize.ShloMosaic.ix2 r c)
    + Ideal.ofBits FTy.f32 0x3F000000#32 * (∑ k : Fin 2816, h (Idealize.ShloMosaic.ix2 r k) * w (Idealize.ShloMosaic.ix2 k c))
    - y (Idealize.ShloMosaic.ix2 r c)

/-- The gradient of the output as the kernel writes it. -/
def GD (h : FVec Ideal S4096x2816 .f32) (w : FVec Ideal S2816x1024 .f32) (x y : FVec Ideal S4096x1024 .f32) :
    FVec Ideal S4096x1024 .f32 := fun i => err h w x y (i 0) (i 1) * Ideal.ofBits FTy.f32 0x3A800000#32

/-- Every window's block index at every point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ t.val < 4 :=
  (by decide +kernel : ∀ t : Fin grid0.N, _)

/-- The stored gradient at a block's index. -/
theorem pointD (c : Dev nD) (t : Fin cfg0.N) (y : S1024x1024.Idx) :
    k0_pay2 (iblk m c 0 t) (iblk m c 1 t) (iblk m c 2 t) (iblk m c 3 t) y
      = GD (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay1, k0_pay2, GD, err]
  blk_point [iblk, V, idx t]

/-- The array of gradients after the run. -/
theorem finalD (c : Dev nD) : (dats m 0 c).arrAt 4 (cfgs 0).N
    = GD (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  have ht := (idx t).2.2.2.2.2
  rcases Nat.eq_zero_or_pos t.val with h | h
  · rw [outsAt0_A m c t (by omega) (by omega)]
    frame_out
    exact pointD m c t y
  · rw [outsAt0_B m c t (by omega) (by omega)]
    frame_out
    exact pointD m c t y

/-- The squared error of an entry. -/
def sq (h : FVec Ideal S4096x2816 .f32) (w : FVec Ideal S2816x1024 .f32) (x y : FVec Ideal S4096x1024 .f32)
    (r : Fin 4096) (c : Fin 1024) : EReal := err h w x y r c * err h w x y r c

/-- The loss as the kernel sums it: every block of 1024 rows is summed, scaled and added. -/
def lossSum (h : FVec Ideal S4096x2816 .f32) (w : FVec Ideal S2816x1024 .f32) (x y : FVec Ideal S4096x1024 .f32) :
    FVec Ideal S8x128 .f32 := fun _ =>
  ∑ p : Fin 4, Ideal.ofBits FTy.f32 0x3A000000#32
    * ∑ r : Fin 1024, ∑ c : Fin 1024, sq h w x y ⟨p.val * 1024 + r.val, by omega⟩ c

/-- One block's part of the loss. -/
theorem part (c : Dev nD) (t : Fin cfg0.N) (ht : t.val < 4) (j : S8x128.Idx) :
    (k0_pay3 (F := Ideal) (iblk m c 0 t) (iblk m c 1 t) (iblk m c 2 t) (iblk m c 3 t) j : EReal)
      = Ideal.ofBits FTy.f32 0x3A000000#32 * ∑ r : Fin 1024, ∑ k : Fin 1024,
        sq (m ((c : Thread nD τ).loc main_arg0)) (m ((c : Thread nD τ).loc main_arg1))
          (m ((c : Thread nD τ).loc main_arg2)) (m ((c : Thread nD τ).loc main_arg3)) ⟨t.val * 1024 + r.val, by omega⟩ k := by
  pointwise [k0_pay1, k0_pay3, sq, err]
  blk_point [iblk, V, idx t]

/-- The loss after the run. -/
theorem finalL (c : Dev nD) : (dats m 0 c).arrAt 5 (cfgs 0).N
    = lossSum (m ((c : Thread nD τ).loc main_arg0)) (m ((c : Thread nD τ).loc main_arg1))
        (m ((c : Thread nD τ).loc main_arg2)) (m ((c : Thread nD τ).loc main_arg3)) := by
  refine (dats m 0 c).arrAt_eq_of_after_last 5 t0_3 (by decide +kernel) _ fun j => ?_
  blk_simp
  rw [after0_5, Pipeline.eq_sum_fin_of_reset_step_apply_last (fun n h => (outsAt0 m c n h).2) 4 (fun _ => 0)
      (fun t => k0_pay3 (F := Ideal) (iblk m c 0 t) (iblk m c 1 t) (iblk m c 2 t) (iblk m c 3 t))
      (fun t h j => by
        have ht := (idx t).2.2.2.2.2
        rw [outsAt0_A m c t (by omega) (by omega)]; frame_out; rw [zero_add])
      (fun t h j => by
        rw [outsAt0_B m c t (by omega) (by omega)]; frame_out; pointwise [k0_pay4])
      (le_of_eq N_0) t0_3 rfl j, zero_add]
  refine Fin.sum_fin_congr fun p => ?_
  exact part m c p p.isLt j

end Cert.LossIdeal.Array
end
-- ==== Proof.Loss.Reference.lean ====
module

public import proofs.«01_k».proof.Proof.Gen.LossRefIdeal.Run
public import proofs.«01_k».proof.Proof.Gen.LossRefIdeal.Read
public import Idealize.ShloMosaic.Lib.Pointwise

@[expose] public section

set_option maxRecDepth 16384

noncomputable section

open Idealize.ShloMosaic Idealize.ShloMosaic.TcCoe Idealize.SL.Sem Idealize.ShloMosaic.ValueIdx
open Idealize.ShloMosaic.Pipeline (Dat)

namespace Cert.LossRefIdeal.Array

open Cert.LossRefIdeal Cert.LossRefIdeal.Gen Cert.LossRefIdeal.Read

/-- The error of entry `(r, c)`. -/
def err (h : FVec Ideal S4096x2816 .f32) (w : FVec Ideal S2816x1024 .f32) (x y : FVec Ideal S4096x1024 .f32)
    (r : Fin 4096) (c : Fin 1024) : EReal :=
  x (Idealize.ShloMosaic.ix2 r c)
    + Ideal.ofBits FTy.f32 0x3F000000#32 * (∑ k : Fin 2816, h (Idealize.ShloMosaic.ix2 r k) * w (Idealize.ShloMosaic.ix2 k c))
    - y (Idealize.ShloMosaic.ix2 r c)

/-- The reference's gradient at an index. -/
theorem readD (h : FVec Ideal S4096x2816 .f32) (w : FVec Ideal S2816x1024 .f32) (x y : FVec Ideal S4096x1024 .f32) (i : S4096x1024.Idx) :
    (val_main_v18 (F := Ideal) h w x y i : EReal)
      = Ideal.div (Ideal.ofBits FTy.f32 0x3F000000#32) (Ideal.ofBits FTy.f32 0x44800000#32)
          * (Ideal.ofBits FTy.f32 0x40000000#32 * err h w x y (i 0) (i 1)) := by
  pointwise [
    val_main_v0, val_main_cst, val_main_v1, val_main_v2, val_main_v3, val_main_v4, val_main_v5, val_main_cst_0,
    val_main_v6, val_main_v7, val_main_cst_1, val_main_v8, val_main_cst_2, val_main_v9, val_main_v10, val_main_cst_3,
    val_main_v11, val_main_cst_4, val_main_v12, val_main_cst_5, val_main_cst_6, val_main_v13, val_main_v14,
    val_main_cst_7, val_main_v15, val_main_v16, val_main_v17, val_main_v18, val_main_v19, err]
  first | done | rfl

/-- The reference's loss: half the sum over the rows of the mean square. -/
theorem readL (h : FVec Ideal S4096x2816 .f32) (w : FVec Ideal S2816x1024 .f32) (x y : FVec Ideal S4096x1024 .f32) (i : S8x128.Idx) :
    (val_main_v19 (F := Ideal) h w x y i : EReal)
      = Ideal.ofBits FTy.f32 0x3F000000#32 * ∑ r : Fin 4096, Ideal.div
          (∑ c : Fin 1024, err h w x y r c * err h w x y r c) (Ideal.ofBits FTy.f32 0x44800000#32) := by
  pointwise [
    val_main_v0, val_main_cst, val_main_v1, val_main_v2, val_main_v3, val_main_v4, val_main_v5, val_main_cst_0,
    val_main_v6, val_main_v7, val_main_cst_1, val_main_v8, val_main_cst_2, val_main_v9, val_main_v10, val_main_cst_3,
    val_main_v11, val_main_cst_4, val_main_v12, val_main_cst_5, val_main_cst_6, val_main_v13, val_main_v14,
    val_main_cst_7, val_main_v15, val_main_v16, val_main_v17, val_main_v18, val_main_v19, err]
  first | done | rfl

end Cert.LossRefIdeal.Array
end
-- ==== Proof.Loss.Equation.lean ====
module

public import proofs.«01_k».proof.Proof.Common.Real
public import proofs.«01_k».proof.Proof.Loss.Kernel
public import proofs.«01_k».proof.Proof.Loss.Reference
public import proofs.«01_k».proof.Proof.Gen.LossIdeal.Frame
public import proofs.«01_k».proof.Defs
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.LossClaim

open Cert.Lift

/-- A factor goes into a sum of numbers that are not negative. -/
theorem mul_sum {n : ℕ} (c : EReal) (f : Fin n → EReal) (hf : ∀ i, 0 ≤ f i) : c * ∑ i, f i = ∑ i, c * f i := by
  classical
  suffices h : ∀ s : Finset (Fin n), c * ∑ i ∈ s, f i = ∑ i ∈ s, c * f i from h Finset.univ
  intro s
  induction s using Finset.induction_on with
  | empty => simp
  | insert a s h ih =>
    rw [Finset.sum_insert h, Finset.sum_insert h, EReal.left_distrib_of_nonneg (hf a) (Finset.sum_nonneg fun i _ => hf i), ih]

/-- A square is not negative. -/
theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

theorem ofBits_two : Ideal.ofBits .f32 0x40000000#32 = ((2 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num
theorem ofBits_inv2048 : Ideal.ofBits .f32 0x3A000000#32 = ((1 / 2048 : ℝ) : EReal) := by
  simp [Ideal.ofBits, Ideal.ieee, -EReal.coe_mul]; norm_num

/-- The gradients agree. -/
theorem grad_eq (h : FVec Ideal LossIdeal.S4096x2816 .f32) (w : FVec Ideal LossIdeal.S2816x1024 .f32)
    (x y : FVec Ideal LossIdeal.S4096x1024 .f32) :
    LossIdeal.Array.GD h w x y = LossRefIdeal.Read.val_main_v18 (F := Ideal) h w x y := by
  refine funext (α := LossIdeal.S4096x1024.Idx) fun i => ?_
  refine Eq.trans ?_ (LossRefIdeal.Array.readD h w x y i).symm
  unfold LossIdeal.Array.GD
  rw [show LossRefIdeal.Array.err h w x y (i 0) (i 1) = LossIdeal.Array.err h w x y (i 0) (i 1) from rfl]
  rw [ofBits_half, ofBits_1024, ofBits_two, ofBits_inv1024, Ideal.div_coe (by norm_num), ← EReal.coe_mul, ← mul_assoc,
    ← EReal.coe_mul, mul_comm]
  congr 2
  norm_num

/-- The losses agree. -/
theorem loss_eq (h : FVec Ideal LossIdeal.S4096x2816 .f32) (w : FVec Ideal LossIdeal.S2816x1024 .f32)
    (x y : FVec Ideal LossIdeal.S4096x1024 .f32) :
    LossIdeal.Array.lossSum h w x y = LossRefIdeal.Read.val_main_v19 (F := Ideal) h w x y := by
  refine funext (α := LossIdeal.S8x128.Idx) fun i => ?_
  refine Eq.trans ?_ (LossRefIdeal.Array.readL h w x y i).symm
  have hn : ∀ r, 0 ≤ ∑ c : Fin 1024, LossIdeal.Array.sq h w x y r c := fun r => Finset.sum_nonneg fun c _ => sq_nonneg _
  have hr : ∀ r, Ideal.div (∑ c : Fin 1024, LossRefIdeal.Array.err h w x y r c * LossRefIdeal.Array.err h w x y r c)
      (Ideal.ofBits FTy.f32 0x44800000#32) = ((1 / 1024 : ℝ) : EReal) * ∑ c : Fin 1024, LossIdeal.Array.sq h w x y r c := by
    intro r
    rw [ofBits_1024, Ideal.div_coe (by norm_num), mul_comm, show (1 / 1024 : ℝ) = 1024⁻¹ by norm_num]
    first | done | rfl
  simp only [hr]
  unfold LossIdeal.Array.lossSum
  rw [ofBits_half, ofBits_inv2048]
  rw [← mul_sum _ _ hn, ← mul_assoc, ← EReal.coe_mul, show (1 / 2 * (1 / 1024) : ℝ) = 1 / 2048 by norm_num,
    ← mul_sum _ _ (fun p => Finset.sum_nonneg fun r _ => hn _)]
  congr 1
  exact Fin.sum_mul_add_congr fun s k hl => rfl

/-- Loss: kernel and reference end with equal results. -/
theorem algebraic : algebraic_LossIdeal_LossRefIdeal := by
  pair_intro
  · run_from LossIdeal.Gen.run_main m g
  · run_from LossRefIdeal.Value.run m' g'
    · exact ((LossIdeal.Array.finalD m c).trans (grad_eq _ _ _ _)).symm
    · exact ((LossIdeal.Array.finalL m c).trans (loss_eq _ _ _ _)).symm

end Cert.LossClaim
end
-- ==== Proof.Bias.Kernel.lean ====
module

public import proofs.«01_k».proof.Proof.Gen.BiasIdeal.Value
public import proofs.«01_k».proof.Proof.Gen.BiasRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.BiasIdeal.Array

open Cert.BiasIdeal Cert.BiasIdeal.Gen

variable (m : (ℓ : Loc nD τ sig) → Buf (Elt Ideal) ℓ)

/-! # The kernel: the product with the one-hot array, eight blocks of positions -/

/-- Every window's block index at every point. -/
theorem idx : ∀ t : Fin cfg0.N, win0_0.index t = ![0, t.val] ∧ win0_1.index t = ![0, t.val] ∧ win0_2.index t = ![0, 0] ∧ t.val < 8 :=
  (by decide +kernel : ∀ t : Fin grid0.N, _)

/-- The product of the cotangent and the one-hot array at a position. -/
def term (d : FVec Ideal S16x128x256 .f32) (h : Fin 16) (b : Fin 32) (n : Fin 32768) : EReal :=
  d (Idealize.ShloMosaic.ix3 h (⟨n.val / 256, by omega⟩ : Fin 128) (⟨n.val % 256, by omega⟩ : Fin 256))
    * (if BiasRefIdeal.Read.val_main_v29 (F := Ideal) (Idealize.ShloMosaic.ix2 (⟨n.val / 256, by omega⟩ : Fin 128) (⟨n.val % 256, by omega⟩ : Fin 256))
        = BitVec.ofNat 32 b.val then 1 else 0)

/-- The table's gradient as the kernel sums it. -/
def dTab (d : FVec Ideal S16x128x256 .f32) : FVec Ideal S16x32 .f32 := fun i =>
  ∑ t : Fin 8, ∑ l : Fin 4096, term d (i 0) (i 1) ⟨t.val * 4096 + l.val, by omega⟩

set_option maxHeartbeats 4000000 in
/-- The one-hot array the region is entered with. -/
theorem entryHot (c : Dev nD) : V m c main_v37
    = (shapeCast S32x32768 (uitofp .f32 (cmpi .eq
        (broadcastInDim S32x128x256 ![0, 1, 2] bcast_S1x128x256_S32x128x256_0_1_2
          (broadcastInDim S1x128x256 ![1, 2] bcast_S128x256_S1x128x256_1_2 (BiasRefIdeal.Read.val_main_v29 (F := Ideal))))
        (broadcastInDim S32x128x256 ![0, 1, 2] bcast_S32x1x1_S32x128x256_0_1_2
          (broadcastInDim S32x1x1 ![0] bcast_S32_S32x1x1_0 (iotaInDim S32 32 0)))))
        shapeCasts_S32x128x256_S32x32768 : FVec Ideal S32x32768 .f32) := by
  simp only [V, List.flatten_cons, List.flatten_nil, List.append_nil, hostOps0, hostOps0_1, hostOps0_2, List.cons_append, List.nil_append]
  after_results_simp
  rfl

/-- … at an index. -/
theorem atHot (c : Dev nD) (b : Fin 32) (n : Fin 32768) : (V m c main_v37 (Idealize.ShloMosaic.ix2 b n) : EReal)
    = if BiasRefIdeal.Read.val_main_v29 (F := Ideal) (Idealize.ShloMosaic.ix2 (⟨n.val / 256, by omega⟩ : Fin 128) (⟨n.val % 256, by omega⟩ : Fin 256))
        = BitVec.ofNat 32 b.val then (1 : EReal) else 0 := by
  rw [entryHot]
  generalize BiasRefIdeal.Read.val_main_v29 (F := Ideal) = x
  pointwise
  generalize x (Idealize.ShloMosaic.ix2 (⟨n.val / 256, by omega⟩ : Fin 128) (⟨n.val % 256, by omega⟩ : Fin 256)) = y
  generalize BitVec.ofNat 32 b.val = z
  show (((BitVec.ofBool (y == z)).toNat : ℝ) : EReal) = _
  by_cases h : y = z
  · rw [if_pos h, beq_iff_eq.mpr h]
    simp
  · rw [if_neg h, beq_eq_false_iff_ne.mpr h]
    simp

set_option maxHeartbeats 4000000 in
/-- The cotangent the region is entered with. -/
theorem entryD (c : Dev nD) : V m c main_v0
    = (shapeCast S16x32768 (m ((c : Thread nD τ).loc main_arg0)) shapeCasts_S16x128x256_S16x32768 : FVec Ideal S16x32768 .f32) := by
  simp only [V, List.flatten_cons, List.flatten_nil, List.append_nil, hostOps0, hostOps0_1, hostOps0_2, List.cons_append, List.nil_append]
  after_results_simp
  rfl

/-- The cotangent, its positions in one row. -/
theorem atD (c : Dev nD) (h : Fin 16) (n : Fin 32768) : (V m c main_v0 (Idealize.ShloMosaic.ix2 h n) : EReal)
    = m ((c : Thread nD τ).loc main_arg0) (Idealize.ShloMosaic.ix3 h (⟨n.val / 256, by omega⟩ : Fin 128) (⟨n.val % 256, by omega⟩ : Fin 256)) := by
  rw [entryD]
  pointwise

/-- What a point adds. -/
theorem point (c : Dev nD) (t : Fin cfg0.N) (ht : t.val < 8) (h : Fin 16) (b : Fin 32) :
    (k0_pay1 (F := Ideal) (iblk m c 0 t) (iblk m c 1 t) (Idealize.ShloMosaic.ix2 h b) : EReal)
      = ∑ l : Fin 4096, term (m ((c : Thread nD τ).loc main_arg0)) h b ⟨t.val * 4096 + l.val, by omega⟩ := by
  pointwise [k0_pay1]
  refine Fin.sum_fin_congr fun l => ?_
  refine congrArg₂ (· * ·) ?_ ?_
  · refine Eq.trans ?_ (atD m c h ⟨t.val * 4096 + l.val, by omega⟩)
    simp only [iblk]
    blk_simp
    refine congrArg (V m c main_v0) ?_
    blk_ext [idx t]
  · refine Eq.trans ?_ (atHot m c b ⟨t.val * 4096 + l.val, by omega⟩)
    simp only [iblk]
    blk_simp
    refine congrArg (V m c main_v37) ?_
    blk_ext [idx t]

/-- The table's gradient after the run. -/
theorem final (c : Dev nD) : (dats m 0 c).arrAt 2 (cfgs 0).N = dTab (m ((c : Thread nD τ).loc main_arg0)) := by
  refine (dats m 0 c).arrAt_eq_of_after_last 2 t0_7 (by decide +kernel) _ fun j => ?_
  blk_simp
  rw [after0_2, Pipeline.eq_sum_fin_of_reset_step_apply_last (fun n h => outsAt0 m c n h) 8 (fun _ => 0)
      (fun t j => ∑ l : Fin 4096, term (m ((c : Thread nD τ).loc main_arg0)) (j 0) (j 1) ⟨t.val * 4096 + l.val, by have : t.val < 8 := t.isLt; omega⟩)
      (fun t h j => by
        have ht : t.val < 8 := t.isLt
        rw [outsAt0_A m c t (by omega) (by omega)]; frame_out
        rw [zero_add, Idealize.ShloMosaic.ValueIdx.eq_ix2 (n0 := 16) (n1 := 32) j]
        exact point m c t ht (j 0) (j 1))
      (fun t h j => by
        have ht : t.val < 8 := t.isLt
        rw [outsAt0_B m c t (by omega) (by omega)]; frame_out
        rw [Idealize.ShloMosaic.ValueIdx.eq_ix2 (n0 := 16) (n1 := 32) j]
        refine Eq.trans ?_ (congrArg (_ + ·) (point m c t ht (j 0) (j 1)))
        pointwise [k0_pay2]
        rfl)
      (le_of_eq N_0) t0_7 rfl j, zero_add]
  rfl

end Cert.BiasIdeal.Array
end
-- ==== Proof.Bias.Bucket.lean ====
module

public import proofs.«01_k».proof.Proof.Gen.BiasRefIdeal.Read
public import proofs.«01_k».proof.Proof.Common.Real
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.BiasRefIdeal.Bucket

open Cert.BiasRefIdeal Cert.BiasRefIdeal.Gen Cert.BiasRefIdeal.Read

/-! # The bucket of a distance is not negative -/

theorem ofBits_16 : Ideal.ofBits .f32 0x41800000#32 = ((16 : ℝ) : EReal) := by
  simp [Ideal.ofBits, Ideal.ieee, -EReal.coe_mul]; norm_num

/-- The logarithm of eight, as a number of 32 bits. -/
theorem ofBits_log8 : Ideal.ofBits .f32 0x40051592#32 = ((8721810 / 2 ^ 22 : ℝ) : EReal) := by
  simp [Ideal.ofBits, Ideal.ieee, -EReal.coe_mul]; norm_num

/-- A number between zero and `2 ^ 30` becomes an integer in the same bounds. -/
theorem toInt_range (x : ℝ) (h0 : 0 ≤ x) (h1 : x ≤ 2 ^ 30) :
    0 ≤ (Ideal.fptosi 32 (x : EReal)).toInt ∧ (Ideal.fptosi 32 (x : EReal)).toInt ≤ 2 ^ 30 := by
  have f0 : 0 ≤ ⌊x⌋ := Int.floor_nonneg.mpr h0
  have f1 : ⌊x⌋ ≤ 2 ^ 30 := by
    have : (⌊x⌋ : ℝ) ≤ ((2 ^ 30 : ℤ) : ℝ) := (Int.floor_le x).trans (h1.trans (by norm_num))
    exact_mod_cast this
  have e : Ideal.toIntClamped (-(2 ^ (32 - 1) : Nat)) ((2 ^ (32 - 1) : Nat) - 1) (x : EReal) = ⌊x⌋ := by
    show max _ (min _ (if 0 ≤ x then ⌊x⌋ else ⌈x⌉)) = _
    rw [if_pos h0, min_eq_right (by push_cast; omega), max_eq_right (by push_cast; omega)]
  rw [Ideal.fptosi, e, BitVec.toInt_ofInt, Int.bmod_eq_of_le (by omega) (by omega)]
  exact ⟨f0, f1⟩

/-- The logarithm of a distance of 16 and more, scaled, lies between zero and `2 ^ 30`. -/
theorem log_range (d : BitVec 32) (hd : 16 ≤ d.toInt) :
    ∃ x : ℝ, 0 ≤ x ∧ x ≤ 2 ^ 30
      ∧ Ideal.div (Ideal.log (Ideal.div ((d.toInt : ℝ) : EReal) (Ideal.ofBits .f32 0x41800000#32)))
          (Ideal.ofBits .f32 0x40051592#32) * Ideal.ofBits .f32 0x41800000#32 = (x : EReal) := by
  have r0 : (16 : ℝ) ≤ (d.toInt : ℝ) := by exact_mod_cast hd
  have r1 : (d.toInt : ℝ) ≤ 2 ^ 31 := by
    have h : d.toInt < 2 ^ 31 := BitVec.toInt_lt
    exact_mod_cast h.le
  generalize (d.toInt : ℝ) = r at r0 r1
  have y1 : 1 ≤ r * (1 / 16) := by linarith
  have l0 : 0 ≤ Real.log (r * (1 / 16)) := Real.log_nonneg y1
  have l1 : Real.log (r * (1 / 16)) ≤ r * (1 / 16) - 1 := Real.log_le_sub_one_of_pos (by linarith)
  refine ⟨Real.log (r * (1 / 16)) * (1 / (8721810 / 2 ^ 22)) * 16, by positivity, ?_, ?_⟩
  · have : Real.log (r * (1 / 16)) ≤ 2 ^ 27 := by linarith
    have : Real.log (r * (1 / 16)) * (1 / (8721810 / 2 ^ 22)) ≤ 2 ^ 27 * (1 / 2) :=
      mul_le_mul this (by norm_num) (by norm_num) (by norm_num)
    linarith
  · rw [ofBits_16, Ideal.div_coe (by norm_num), ← EReal.coe_mul, Ideal.log_coe, if_neg (by linarith), ofBits_log8,
      Ideal.div_coe (by norm_num), ← EReal.coe_mul, ← EReal.coe_mul]

/-- The logarithmic part of the bucket is not negative. -/
theorem large_nonneg (d : BitVec 32) (hd : 16 ≤ d.toInt) (x : EReal)
    (hx : ∃ r : ℝ, 0 ≤ r ∧ r ≤ 2 ^ 30 ∧ x = (r : EReal)) :
    0 ≤ (IntOp.minsi (IntOp.addi 16#32 (Ideal.fptosi 32 x)) 31#32).toInt := by
  obtain ⟨r, h0, h1, rfl⟩ := hx
  obtain ⟨a, b⟩ := toInt_range r h0 h1
  generalize Ideal.fptosi 32 (r : EReal) = z at a b
  unfold IntOp.minsi IntOp.addi
  have e : (16#32 + z).toInt = 16 + z.toInt := by
    rw [BitVec.toInt_add, show (16#32 : BitVec 32).toInt = 16 from rfl, Int.bmod_eq_of_le (by omega) (by omega)]
  split
  · omega
  · decide

theorem v29_nonneg (i : S128x256.Idx) : 0 ≤ (val_main_v29 (F := Ideal) i).toInt := by
  rw [val_main_v29_apply, val_main_v28_apply, val_main_v26_apply, val_main_v24_apply, val_main_v25_apply, val_main_v23_apply,
    val_main_v22_apply, val_main_v21_apply, val_main_v19_apply, val_main_v17_apply, val_main_v16_apply, val_main_v14_apply,
    val_main_v13_apply, val_main_v27_apply, val_main_v20_apply, val_main_v18_apply, val_main_v15_apply, val_main_v12_apply,
    val_main_c_1_apply, val_main_c_5_apply, val_main_c_6_apply, val_main_c_7_apply, val_main_cst_2_apply, val_main_cst_3_apply,
    val_main_cst_4_apply]
  have h0 : 0 ≤ (val_main_v11 (F := Ideal) i).toInt := by
    rw [val_main_v11_apply, val_main_v10_apply, val_main_c_0_apply]
    generalize val_main_v9 (F := Ideal) i = y
    unfold IntOp.maxsi
    split
    · next h =>
      rw [BitVec.slt_iff_toInt_lt] at h
      exact le_of_lt (lt_of_eq_of_lt (by rfl) h)
    · decide
  generalize val_main_v11 (F := Ideal) i = d at h0
  have hc : IntOp.cmpi .slt d 16#32 = BitVec.ofBool (d.slt 16#32) := rfl
  rw [hc]
  by_cases h : d.slt 16#32 = true
  · rw [h]
    exact h0
  · have h16 : 16 ≤ d.toInt := by
      rw [BitVec.slt_iff_toInt_lt, show (16#32 : BitVec 32).toInt = 16 from rfl] at h
      omega
    rw [eq_false_of_ne_true h]
    have hm : IntOp.maxsi d 1#32 = d := by
      unfold IntOp.maxsi
      rw [if_pos]
      rw [BitVec.slt_iff_toInt_lt, show (1#32 : BitVec 32).toInt = 1 from rfl]
      omega
    rw [hm]
    exact large_nonneg d h16 _ (log_range d h16)

/-- So the wrap of negative indices does nothing. -/
theorem v34 (i : S128x256.Idx) : val_main_v34 (F := Ideal) i = val_main_v29 (F := Ideal) i := by
  rw [val_main_v34_apply, val_main_v31_apply, val_main_v30_apply, val_main_c_8_apply]
  have h := v29_nonneg i
  generalize val_main_v29 (F := Ideal) i = d at h
  have hc : IntOp.cmpi .slt d 0#32 = BitVec.ofBool (d.slt 0#32) := rfl
  rw [hc, show d.slt 0#32 = false from eq_false_of_ne_true fun e => by
    rw [BitVec.slt_iff_toInt_lt, show (0#32 : BitVec 32).toInt = 0 from rfl] at e
    omega]
  rfl

end Cert.BiasRefIdeal.Bucket
end
-- ==== Proof.Bias.Reference.lean ====
module

public import proofs.«01_k».proof.Proof.Bias.Bucket
public import Idealize.ShloMosaic.Lib.Routing.OpsPair
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.BiasRefIdeal.Array

open Cert.BiasRefIdeal Cert.BiasRefIdeal.Gen Cert.BiasRefIdeal.Read

/-! # The reference: the sum over the positions whose bucket is the one asked for -/

/-- An update lands in the row that its index names, in its own column. -/
theorem lands (idx : IVec S128x256x1 32) (q : Fin 128) (k : Fin 256) (z h : Fin 16) (b : Fin 32) :
    scatter_S32x16_S128x256x1_S128x256x16_2_0_0_2.resultIdx? (Idealize.ShloMosaic.ix3 q k z) idx = some (Idealize.ShloMosaic.ix2 b h)
      ↔ (idx (Idealize.ShloMosaic.ix3 q k 0)).toInt = (b.val : Int) ∧ z = h := by
  refine (Routing.resultIdx?_ix2 (R := 32) (C := 16) scatter_S32x16_S128x256x1_S128x256x16_2_0_0_2 _ idx b h).trans ?_
  have s0 : scatter_S32x16_S128x256x1_S128x256x16_2_0_0_2.start (Idealize.ShloMosaic.ix3 q k z) idx 0
      = (idx (Idealize.ShloMosaic.ix3 q k 0)).toInt := by
    refine congrArg (fun j => (idx j).toInt) ?_
    funext a
    match a with
    | ⟨0, _⟩ => rfl
    | ⟨1, _⟩ => rfl
    | ⟨2, _⟩ => rfl
  have w0 : scatter_S32x16_S128x256x1_S128x256x16_2_0_0_2.window (Idealize.ShloMosaic.ix3 q k z) 0 = 0 := rfl
  have s1 : scatter_S32x16_S128x256x1_S128x256x16_2_0_0_2.start (Idealize.ShloMosaic.ix3 q k z) idx 1 = 0 := rfl
  have w1 : scatter_S32x16_S128x256x1_S128x256x16_2_0_0_2.window (Idealize.ShloMosaic.ix3 q k z) 1 = z.val := rfl
  rw [s0, w0, s1, w1]
  refine and_congr (by simp) ?_
  rw [zero_add, Int.natCast_inj, Fin.ext_iff]

/-- The reference's result. -/
theorem read (d : FVec Ideal S16x128x256 .f32) (h : Fin 16) (b : Fin 32) :
    val_main_v41 (F := Ideal) d (Idealize.ShloMosaic.ix2 h b)
      = ∑ q : Fin 128, ∑ k : Fin 256,
          if (val_main_v29 (F := Ideal) (Idealize.ShloMosaic.ix2 q k)).toInt = (b.val : Int) then d (Idealize.ShloMosaic.ix3 h q k) else (0 : EReal) := by
  rw [val_main_v41_apply]
  rw [show idx_main_v41 (Idealize.ShloMosaic.ix2 h b) = Idealize.ShloMosaic.ix2 b h from by
    funext a
    match a with
    | ⟨0, _⟩ => rfl
    | ⟨1, _⟩ => rfl]
  show (val_main_v39 (F := Ideal) (Idealize.ShloMosaic.ix2 b h) : EReal)
    + ∑ j ∈ Finset.univ.filter (fun j : S128x256x16.Idx => scatter_S32x16_S128x256x1_S128x256x16_2_0_0_2.resultIdx? j (val_main_v35 (F := Ideal)) = some (Idealize.ShloMosaic.ix2 b h)),
        (val_main_v38 (F := Ideal) d j : EReal) = _
  rw [val_main_v39_apply, val_main_cst_10_apply, show (FloatOps.ofBits (F := Ideal) .f32 0x00000000#32 : EReal) = 0 from by simp [pointwise], zero_add, Finset.sum_filter]
  refine (sum_idx3 (n0 := 128) (n1 := 256) (n2 := 16) _).trans ?_
  refine Fin.sum_fin_congr fun q => Fin.sum_fin_congr fun k => ?_
  have e35 : val_main_v35 (F := Ideal) (Idealize.ShloMosaic.ix3 q k 0) = val_main_v29 (F := Ideal) (Idealize.ShloMosaic.ix2 q k) := by
    rw [val_main_v35_apply, Bucket.v34]
    refine congrArg _ ?_
    funext a
    match a with
    | ⟨0, _⟩ => rfl
    | ⟨1, _⟩ => rfl
  rw [Finset.sum_eq_single h]
  · refine if_congr ?_ ?_ rfl
    · rw [lands, e35]
      exact and_iff_left rfl
    · rw [val_main_v38_apply]
      refine congrArg d ?_
      funext a
      match a with
      | ⟨0, _⟩ => rfl
      | ⟨1, _⟩ => rfl
      | ⟨2, _⟩ => rfl
  · intro z _ hz
    rw [if_neg]
    rw [lands]
    exact fun e => hz e.2
  · intro e
    exact absurd (Finset.mem_univ h) e

end Cert.BiasRefIdeal.Array
end
-- ==== Proof.Bias.Equation.lean ====
module

public import proofs.«01_k».proof.Proof.Bias.Kernel
public import proofs.«01_k».proof.Proof.Bias.Reference
public import proofs.«01_k».proof.Proof.Gen.BiasIdeal.Frame
public import proofs.«01_k».proof.Defs
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.BiasClaim

/-- A word is the number `b` when its integer is. -/
theorem word_eq (x : BitVec 32) (b : Fin 32) : x = BitVec.ofNat 32 b.val ↔ x.toInt = (b.val : Int) := by
  have e : (BitVec.ofNat 32 b.val).toInt = (b.val : Int) := by
    have := b.isLt
    rw [← BitVec.ofInt_natCast, BitVec.toInt_ofInt, Int.bmod_eq_of_le (by omega) (by omega)]
  constructor
  · rintro rfl; exact e
  · intro h; exact BitVec.eq_of_toInt_eq (h.trans e.symm)

/-- The kernel's sum of products is the reference's sum over the positions of the bucket. -/
theorem tab_eq (d : FVec Ideal BiasIdeal.S16x128x256 .f32) :
    BiasIdeal.Array.dTab d = BiasRefIdeal.Read.val_main_v41 (F := Ideal) d := by
  refine funext (α := BiasIdeal.S16x32.Idx) fun i => ?_
  rw [Idealize.ShloMosaic.ValueIdx.eq_ix2 (n0 := 16) (n1 := 32) i]
  refine Eq.trans ?_ (BiasRefIdeal.Array.read d (i 0) (i 1)).symm
  refine Eq.trans (b := ∑ n : Fin 32768, BiasIdeal.Array.term d (i 0) (i 1) n) ?_ ?_
  · exact Fin.sum_mul_add_congr fun s p hl => rfl
  · refine Eq.symm ?_
    refine Fin.sum_mul_add_congr fun q k hl => ?_
    have hq : (⟨(q.val * 256 + k.val) / 256, by omega⟩ : Fin 128) = q := Fin.ext (by show (q.val * 256 + k.val) / 256 = q.val; omega)
    have hk : (⟨(q.val * 256 + k.val) % 256, by omega⟩ : Fin 256) = k := Fin.ext (by show (q.val * 256 + k.val) % 256 = k.val; omega)
    unfold BiasIdeal.Array.term
    rw [hq, hk]
    by_cases h : BiasRefIdeal.Read.val_main_v29 (F := Ideal) (Idealize.ShloMosaic.ix2 q k) = BitVec.ofNat 32 (i 1).val
    · rw [if_pos ((word_eq _ _).mp h), if_pos h, mul_one]
    · rw [if_neg (fun e => h ((word_eq _ _).mpr e)), if_neg h, mul_zero]

set_option maxHeartbeats 4000000 in
/-- The claim: the kernel's result is the reference's. -/
theorem algebraic : algebraic_BiasIdeal_BiasRefIdeal := by
  pair_intro
  · run_from BiasIdeal.Gen.run_main m g
    exact BiasIdeal.Gen.V_main_arg0 m c
  · run_from BiasRefIdeal.Value.run m' g'
    · rw [BiasRefIdeal.Read.val_main_v41_eq, hagree c]
      exact ((BiasIdeal.Array.final m c).trans (tab_eq _)).symm

end Cert.BiasClaim
end
-- ==== Proof.ConvGlu.Formula.lean ====
module

public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

/-! The gradient of the convolution and its gated linear unit, as formulas over the arguments. -/

namespace Cert.ConvGluForm

/-- The rows and channels. -/
abbrev Rows : Shape := ⟨2, ![4096, 1024]⟩
/-- The taps' weights. -/
abbrev Taps : Shape := ⟨2, ![31, 1024]⟩
/-- The input projection. -/
abbrev Cols : Shape := ⟨2, ![4096, 5632]⟩
/-- The keys' and values' parts: per block, the rows it has as the block before and as its own. -/
abbrev Parts : Shape := ⟨4, ![32, 2, 128, 512]⟩
/-- The two gates. -/
abbrev Gates : Shape := ⟨3, ![2, 4096, 1024]⟩

/-- The convolution's cotangent, zero past the last row. -/
def later (d : Rows.Idx → EReal) (n : ℕ) (l : Fin 1024) : EReal :=
  if h : n < 4096 then d (Idealize.ShloMosaic.ix2 ⟨n, h⟩ l) else 0

/-- The gradient of the convolution's input: every tap's weight times the cotangent of the row the tap carried it to. -/
def dz0 (w : Taps.Idx → EReal) (d : Rows.Idx → EReal) (n : ℕ) (l : Fin 1024) : EReal :=
  ∑ k : Fin 31, w (Idealize.ShloMosaic.ix2 k l) * later d (n + 30 - k.val) l

/-- A product. -/
abbrev times (a b : EReal) : EReal := a * b

/-- The logistic function. -/
def logistic (x : EReal) : EReal := Ideal.div 1 (1 + Ideal.exp (-x))

/-- The gradient of the value half. -/
def dA (p : Cols.Idx → EReal) (w : Taps.Idx → EReal) (d : Rows.Idx → EReal) (n : Fin 4096) (l : Fin 1024) : EReal :=
  dz0 w d n.val l * logistic (p (Idealize.ShloMosaic.ix2 n ⟨1024 + l.val, by omega⟩))

/-- The gradient of the gate half. -/
def dG (p : Cols.Idx → EReal) (w : Taps.Idx → EReal) (d : Rows.Idx → EReal) (n : Fin 4096) (l : Fin 1024) : EReal :=
  dz0 w d n.val l * p (Idealize.ShloMosaic.ix2 n ⟨l.val, by omega⟩) * logistic (p (Idealize.ShloMosaic.ix2 n ⟨1024 + l.val, by omega⟩))
    * (1 - logistic (p (Idealize.ShloMosaic.ix2 n ⟨1024 + l.val, by omega⟩)))

/-- A row's part in the block after its own, where there is one. -/
def next (k : Parts.Idx → EReal) (n : Fin 4096) (l : Fin 512) : EReal :=
  if h : n.val / 128 + 1 < 32 then k (Idealize.ShloMosaic.ix4 ⟨n.val / 128 + 1, h⟩ 0 ⟨n.val % 128, by omega⟩ l) else 0

/-- The part in the block after a row's own, where there is one. -/
theorem next_of_lt (k : Parts.Idx → EReal) (n : Fin 4096) (l : Fin 512) (h : n.val / 128 + 1 < 32) :
    next k n l = k (Idealize.ShloMosaic.ix4 ⟨n.val / 128 + 1, h⟩ 0 ⟨n.val % 128, by omega⟩ l) := dif_pos h

/-- Nothing comes after the last block. -/
theorem next_of_not (k : Parts.Idx → EReal) (n : Fin 4096) (l : Fin 512) (h : ¬ n.val / 128 + 1 < 32) :
    next k n l = 0 := dif_neg h

/-- The gradient of the keys and values: a row's part in its own block, and in the block after it where there is one. -/
def dKv (k : Parts.Idx → EReal) (n : Fin 4096) (l : Fin 512) : EReal :=
  k (Idealize.ShloMosaic.ix4 ⟨n.val / 128, by omega⟩ 1 ⟨n.val % 128, by omega⟩ l)
    + next k n l

/-- The gradient of the input projection, column group by column group. -/
def grad (p : Cols.Idx → EReal) (w : Taps.Idx → EReal) (d : Rows.Idx → EReal) (q : Rows.Idx → EReal) (k : Parts.Idx → EReal)
    (g : Gates.Idx → EReal) (i : Cols.Idx) : EReal :=
  have hn : (i 1).val < 5632 := (i 1).isLt
  if h : (i 1).val < 1024 then dA p w d (i 0) ⟨(i 1).val, h⟩
  else if h : (i 1).val < 2048 then dG p w d (i 0) ⟨(i 1).val - 1024, by omega⟩
  else if h : (i 1).val < 3072 then q (Idealize.ShloMosaic.ix2 (i 0) ⟨(i 1).val - 2048, by omega⟩)
  else if h : (i 1).val < 3584 then dKv k (i 0) ⟨(i 1).val - 3072, by omega⟩
  else if h : (i 1).val < 4608 then g (Idealize.ShloMosaic.ix3 0 (i 0) ⟨(i 1).val - 3584, by omega⟩)
  else g (Idealize.ShloMosaic.ix3 1 (i 0) ⟨(i 1).val - 4608, by omega⟩)

section Groups

variable (p : Cols.Idx → EReal) (w : Taps.Idx → EReal) (d : Rows.Idx → EReal) (q : Rows.Idx → EReal) (k : Parts.Idx → EReal)
  (g : Gates.Idx → EReal) (i : Cols.Idx)

/-- The columns of the value half. -/
theorem grad_value (h : (i 1).val < 1024) : grad p w d q k g i = dA p w d (i 0) ⟨(i 1).val, h⟩ := by
  unfold grad
  rw [dif_pos h]

/-- The columns of the gate half. -/
theorem grad_gate (h0 : 1024 ≤ (i 1).val) (h : (i 1).val < 2048) : grad p w d q k g i = dG p w d (i 0) ⟨(i 1).val - 1024, by omega⟩ := by
  unfold grad
  rw [dif_neg (by omega), dif_pos h]

/-- The columns of the queries. -/
theorem grad_queries (h0 : 2048 ≤ (i 1).val) (h : (i 1).val < 3072) : grad p w d q k g i = q (Idealize.ShloMosaic.ix2 (i 0) ⟨(i 1).val - 2048, by omega⟩) := by
  unfold grad
  rw [dif_neg (by omega), dif_neg (by omega), dif_pos h]

/-- The columns of the keys and values. -/
theorem grad_keys (h0 : 3072 ≤ (i 1).val) (h : (i 1).val < 3584) : grad p w d q k g i = dKv k (i 0) ⟨(i 1).val - 3072, by omega⟩ := by
  unfold grad
  rw [dif_neg (by omega), dif_neg (by omega), dif_neg (by omega), dif_pos h]

/-- The columns of the first gate. -/
theorem grad_first (h0 : 3584 ≤ (i 1).val) (h : (i 1).val < 4608) : grad p w d q k g i = g (Idealize.ShloMosaic.ix3 0 (i 0) ⟨(i 1).val - 3584, by omega⟩) := by
  unfold grad
  rw [dif_neg (by omega), dif_neg (by omega), dif_neg (by omega), dif_neg (by omega), dif_pos h]

/-- The columns of the second gate. -/
theorem grad_second (h0 : 4608 ≤ (i 1).val) : grad p w d q k g i = g (Idealize.ShloMosaic.ix3 1 (i 0) ⟨(i 1).val - 4608, by have hn : (i 1).val < 5632 := (i 1).isLt; omega⟩) := by
  unfold grad
  rw [dif_neg (by omega), dif_neg (by omega), dif_neg (by omega), dif_neg (by omega), dif_neg (by omega)]

end Groups

/-- The sum over the taps, in the order of their distances' residues by eight. -/
theorem sum_taps (f : Fin 31 → EReal) :
    f 0 + f 8 + f 16 + f 24 + f 1 + f 9 + f 17 + f 25 + f 2 + f 10 + f 18 + f 26 + f 3 + f 11 + f 19 + f 27
      + f 4 + f 12 + f 20 + f 28 + f 5 + f 13 + f 21 + f 29 + f 6 + f 14 + f 22 + f 30 + f 7 + f 15 + f 23 = ∑ k, f k := by
  simp only [Fin.sum_univ_succ, Fin.sum_univ_zero]
  simp only [Fin.succ_zero_eq_one, Fin.succ_one_eq_two, add_zero, Fin.isValue, Fin.reduceSucc]
  abel

/-- The sum over the taps, from the last. -/
theorem sum_taps_down (f : Fin 31 → EReal) :
    f 30 + f 29 + f 28 + f 27 + f 26 + f 25 + f 24 + f 23 + f 22 + f 21 + f 20 + f 19 + f 18 + f 17 + f 16 + f 15 + f 14 + f 13 + f 12 + f 11 + f 10 + f 9 + f 8 + f 7 + f 6 + f 5 + f 4 + f 3 + f 2 + f 1 + f 0 = ∑ k, f k := by
  simp only [Fin.sum_univ_succ, Fin.sum_univ_zero]
  simp only [Fin.succ_zero_eq_one, Fin.succ_one_eq_two, add_zero, Fin.isValue, Fin.reduceSucc]
  abel

end Cert.ConvGluForm

end
-- ==== Proof.ConvGlu.Kernel.lean ====
module

public import proofs.«01_k».proof.Proof.Gen.ConvGluIdeal.Value
public import proofs.«01_k».proof.Proof.ConvGlu.Formula
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvGluIdeal.Array

open Cert.ConvGluIdeal Cert.ConvGluIdeal.Gen

variable (m : (ℓ : Loc nD τ sig) → Buf (Elt Ideal) ℓ)

/-- Every window's block index at every point. -/
theorem idx : ∀ t : Fin cfg0.N, win0_0.index t = ![t.val, 0] ∧ win0_1.index t = ![t.val, 1]
    ∧ win0_2.index t = ![t.val, 0] ∧ win0_3.index t = ![min (8 * t.val + 8) 127, 0]
    ∧ win0_4.index t = ![0, 0] ∧ win0_5.index t = ![t.val, 0] ∧ win0_6.index t = ![t.val, 0, 0, 0]
    ∧ win0_7.index t = ![min (2 * t.val + 2) 31, 0, 0, 0] ∧ win0_8.index t = ![0, t.val, 0] ∧ win0_9.index t = ![t.val, 0] ∧ t.val < 16 :=
  (by decide +kernel : ∀ t : Fin grid0.N, _)

/-- The weights the region is entered with: the taps, and a row of zeros. -/
theorem entryW (c : Dev nD) (k : Fin 31) (l : Fin 1024) : V m c main_v0 (Idealize.ShloMosaic.ix2 ⟨k.val, by omega⟩ l)
    = m ((c : Thread nD τ).loc main_arg1) (Idealize.ShloMosaic.ix2 k l) := by
  have e : V m c main_v0 = (pad S32x1024 ![0, 0] ![1, 0] ![0, 0] (m ((c : Thread nD τ).loc main_arg1) : FVec Ideal S31x1024 .f32)
      (sitofp .f32 (constantI S_ 32 0#32) : FVec Ideal S_ .f32) pads_S31x1024_S32x1024_010_000 h_S_ : FVec Ideal S32x1024 .f32) := by
    simp only [V, List.flatten_cons, List.flatten_nil, List.append_nil, hostOps0, hostOps0_1, List.cons_append, List.nil_append]
    after_results_simp
    rfl
  rw [e]
  pointwise
  refine (dif_pos fun a => ?_).trans (congrArg _ ?_)
  · have hk := k.isLt
    have hl := l.isLt
    match a with
    | ⟨0, _⟩ => exact ⟨Nat.zero_le _, Nat.mod_one _, by simpa using hk⟩
    | ⟨1, _⟩ => exact ⟨Nat.zero_le _, Nat.mod_one _, by simpa using hl⟩
  · blk_ext

/-- The columns' gradient the region is entered with. -/
theorem entryP (c : Dev nD) : V m c main_v1 = (m ((c : Thread nD τ).loc main_arg0) : FVec Ideal S4096x5632 .f32) := by
  simp only [V, List.flatten_cons, List.flatten_nil, List.append_nil, hostOps0, hostOps0_1, List.cons_append, List.nil_append]
  after_results_simp
  rfl

/-- … of the queries. -/
theorem entryQ (c : Dev nD) : V m c main_v2 = (m ((c : Thread nD τ).loc main_arg3) : FVec Ideal S4096x1024 .f32) := by
  simp only [V, List.flatten_cons, List.flatten_nil, List.append_nil, hostOps0, hostOps0_1, List.cons_append, List.nil_append]
  after_results_simp
  rfl

/-- … of the keys and values. -/
theorem entryK (c : Dev nD) : V m c main_v3 = (m ((c : Thread nD τ).loc main_arg4) : FVec Ideal S32x2x128x512 .f32) := by
  simp only [V, List.flatten_cons, List.flatten_nil, List.append_nil, hostOps0, hostOps0_1, List.cons_append, List.nil_append]
  after_results_simp
  rfl

/-- … of the gates. -/
theorem entryG (c : Dev nD) : V m c main_v4 = (m ((c : Thread nD τ).loc main_arg5) : FVec Ideal S2x4096x1024 .f32) := by
  simp only [V, List.flatten_cons, List.flatten_nil, List.append_nil, hostOps0, hostOps0_1, List.cons_append, List.nil_append]
  after_results_simp
  rfl

/-- A point's block of the weights. -/
theorem wBlk (c : Dev nD) (t : Fin cfg0.N) (k : Fin 31) (l : Fin 1024) : (iblk m c 4 t (Idealize.ShloMosaic.ix2 ⟨k.val, by omega⟩ l) : EReal)
    = m ((c : Thread nD τ).loc main_arg1) (Idealize.ShloMosaic.ix2 k l) := by
  refine Eq.trans ?_ (entryW m c k l)
  simp only [iblk]
  blk_simp
  blk_ext [idx t]

/-- A point's block of the value half. -/
theorem aBlk (c : Dev nD) (t : Fin cfg0.N) (x : S256x1024.Idx) (h : t.val < 16) : (X0_0 m c t x : EReal)
    = m ((c : Thread nD τ).loc main_arg0) (Idealize.ShloMosaic.ix2 ⟨t.val * 256 + (x 0).val, by have := (x 0).isLt; simp at this; omega⟩ ⟨(x 1).val, by have := (x 1).isLt; simp at this; omega⟩) := by
  unfold X0_0 Pipeline.Window.fill
  rw [dif_pos (moved0_0 t _)]
  simp only [iblk]
  blk_simp
  rw [entryP]
  blk_ext [idx t]

/-- A point's block of the gate half. -/
theorem gBlk (c : Dev nD) (t : Fin cfg0.N) (x : S256x1024.Idx) (h : t.val < 16) : (X0_1 m c t x : EReal)
    = m ((c : Thread nD τ).loc main_arg0) (Idealize.ShloMosaic.ix2 ⟨t.val * 256 + (x 0).val, by have := (x 0).isLt; simp at this; omega⟩ ⟨1024 + (x 1).val, by have := (x 1).isLt; simp at this; omega⟩) := by
  unfold X0_1 Pipeline.Window.fill
  rw [dif_pos (moved0_1 t _)]
  simp only [iblk]
  blk_simp
  rw [entryP]
  blk_ext [idx t]

/-- The last point has none after it. -/
theorem last_slt : ∀ t : Fin cfg0.N, t.val = 15 → Scalar.cmpi CmpIPredicate.slt (BitVec.ofNat 32 (grid0.coords t 0).val) 15#32 = 0#1 :=
  (by decide +kernel : ∀ t : Fin grid0.N, t.val = 15 → Scalar.cmpi CmpIPredicate.slt (BitVec.ofNat 32 (grid0.coords t 0).val) 15#32 = 0#1)

/-- Every other has one. -/
theorem before_slt : ∀ t : Fin cfg0.N, ¬ t.val = 15 → Scalar.cmpi CmpIPredicate.slt (BitVec.ofNat 32 (grid0.coords t 0).val) 15#32 = 1#1 :=
  (by decide +kernel : ∀ t : Fin grid0.N, ¬ t.val = 15 → Scalar.cmpi CmpIPredicate.slt (BitVec.ofNat 32 (grid0.coords t 0).val) 15#32 = 1#1)

/-- A point's two blocks of the keys' and values' parts. -/
theorem kBlk (c : Dev nD) (t : Fin cfg0.N) (a b : Fin 2) (r : Fin 128) (l : Fin 512) (u : Fin 32) (v : Fin 128) (hu : u.val = 2 * t.val + a.val) (hv : v = r) :
    (iblk m c 6 t (Idealize.ShloMosaic.ix4 a b r l) : EReal) = m ((c : Thread nD τ).loc main_arg4) (Idealize.ShloMosaic.ix4 u b v l) := by
  subst hv
  simp only [iblk]
  blk_simp
  rw [entryK]
  blk_ext [idx t]

/-- The next block's part, nothing at the last point. -/
theorem kNext (c : Dev nD) (t : Fin cfg0.N) (r : Fin 128) (l : Fin 512) (n : Fin 4096) (hn : n.val = t.val * 256 + 128 + r.val) :
    (Scalar.select (Scalar.cmpi CmpIPredicate.slt (BitVec.ofNat 32 (grid0.coords t 0).val) 15#32)
      (iblk m c 7 t (Idealize.ShloMosaic.ix4 0 0 r l) : EReal) 0 : EReal)
    = ConvGluForm.next (m ((c : Thread nD τ).loc main_arg4)) n l := by
  unfold ConvGluForm.next
  have ht : t.val < 16 := t.isLt
  by_cases h : t.val = 15
  · rw [dif_neg (by omega), last_slt t h]
    rfl
  · rw [dif_pos (by omega), before_slt t h]
    show iblk m c 7 t _ = _
    simp only [iblk]
    blk_simp
    rw [entryK]
    blk_ext [idx t]

/-- The padded cotangent of a point's rows. -/
def padded (c : Dev nD) (t : Fin cfg0.N) (i : S288x1024.Idx) : EReal :=
  ConvGluForm.later (m ((c : Thread nD τ).loc main_arg2)) (t.val * 256 + (i 0).val) (i 1)

/-- A point's own rows of the cotangent. -/
theorem ownBlk (c : Dev nD) (t : Fin cfg0.N) (x : S256x1024.Idx) : (iblk m c 2 t x : EReal)
    = ConvGluForm.later (m ((c : Thread nD τ).loc main_arg2)) (t.val * 256 + (x 0).val) ⟨(x 1).val, (x 1).isLt⟩ := by
  have ht : t.val < 16 := t.isLt
  have hx : (x 0).val < 256 := (x 0).isLt
  unfold ConvGluForm.later
  rw [dif_pos (by omega)]
  blk_point [iblk, V, idx t]

/-- The next point's first rows of the cotangent, zero at the last point. -/
theorem nextBlk (c : Dev nD) (t : Fin cfg0.N) (x : S32x1024.Idx) :
    (Scalar.select (Scalar.cmpi CmpIPredicate.slt (BitVec.ofNat 32 (grid0.coords t 0).val) 15#32) (iblk m c 3 t x : EReal) 0 : EReal)
    = ConvGluForm.later (m ((c : Thread nD τ).loc main_arg2)) (t.val * 256 + (256 + (x 0).val)) ⟨(x 1).val, (x 1).isLt⟩ := by
  have ht : t.val < 16 := t.isLt
  have hx : (x 0).val < 32 := (x 0).isLt
  unfold ConvGluForm.later
  by_cases h : t.val = 15
  · rw [dif_neg (by omega), last_slt t h]
    rfl
  · rw [dif_pos (by omega), before_slt t h]
    show iblk m c 3 t x = _
    blk_point [iblk, V, idx t]

/-- … as a point stores it: its own rows and the first of the next point's. -/
theorem padded_eq (c : Dev nD) (t : Fin cfg0.N) (i : S288x1024.Idx) :
    (View.canon (Val := Elt Ideal) (s := S288x1024) (e := .f32)
      [⟨Rect.unit ![256, 0] ![32, 1024] inb_S288x1024_S32x1024_256_0, k0_pay10 (BitVec.ofNat 32 (grid0.coords t 0).val) (iblk m c 3 t)⟩,
        ⟨Rect.unit ![0, 0] ![256, 1024] inb_S288x1024_S256x1024_0_0, k0_pay9 (iblk m c 2 t)⟩] i : EReal) = padded m c t i := by
  have ht : t.val < 16 := t.isLt
  canon_tiles x h using (by
    have b0 := (i 0).isLt
    have b1 := (i 1).isLt
    simp only [List.mem_cons, exists_eq_or_imp, exists_eq_left, List.not_mem_nil, false_and, exists_false, or_false, Rect.mem_set_unit, Fin.forall_fin_succ]
    simp at b0 b1 ⊢
    omega)
  · pointwise [k0_pay10]
    rw [nextBlk, padded, h0, show (i 1) = ⟨(x 1).val, x1_lt⟩ from Fin.ext h1]
    rfl
  · pointwise [k0_pay9]
    rw [ownBlk, padded, h0, show (i 1) = ⟨(x 1).val, x1_lt⟩ from Fin.ext h1]
    rfl

set_option maxHeartbeats 1000000
/-- What a point leaves in its block. -/
theorem point (c : Dev nD) (t : Fin cfg0.N) (y : S256x5632.Idx) (i : S4096x5632.Idx) (hr : (i 0).val = t.val * 256 + (y 0).val) (hc : (i 1).val = (y 1).val) :
    ((outsAt0 m c t) y : EReal) = ConvGluForm.grad (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) i := by
  have ht : t.val < 16 := t.isLt
  unfold outsAt0
  frame_out
  simp only [View.readCov_eq_canon']
  generalize hZ : View.canon (Val := Elt Ideal) (s := S256x1024) (e := .f32) _ = Z
  generalize hP : View.canon (Val := Elt Ideal) (s := S288x1024) (e := .f32) _ = P at hZ
  have hp : ∀ i, P i = padded m c t i := fun i => by rw [← hP]; exact padded_eq m c t i
  have hz : ∀ y, (Z y : EReal) = ConvGluForm.dz0 (m ((c : Thread nD τ).loc main_arg1)) (m ((c : Thread nD τ).loc main_arg2)) (t.val * 256 + (y 0).val) (y 1) := by
    intro y
    unfold ConvGluForm.dz0
    generalize hf : (fun k : Fin 31 => ConvGluForm.times (m ((c : Thread nD τ).loc main_arg1) (Idealize.ShloMosaic.ix2 k (y 1)))
      (ConvGluForm.later (m ((c : Thread nD τ).loc main_arg2)) (t.val * 256 + (y 0).val + 30 - k.val) (y 1))) = f
    have hterm : ∀ (k : Fin 31) (k' : Fin 32) (r : Fin 288) (l : Fin 1024), k'.val = k.val → r.val = (y 0).val + 30 - k.val → l.val = (y 1).val →
        ConvGluForm.times (iblk m c 4 t (Idealize.ShloMosaic.ix2 k' l)) (P (Idealize.ShloMosaic.ix2 r l)) = f k := by
      intro k k' r l hk hr hl
      have e : l = y 1 := Fin.ext hl
      subst e
      rw [← hf, show k' = ⟨k.val, by omega⟩ from Fin.ext hk]
      refine congrArg₂ (· * ·) (wBlk m c t k _) ?_
      rw [hp]
      unfold padded
      refine congrArg (fun n => ConvGluForm.later _ n _) ?_
      show t.val * 256 + r.val = _
      omega
    refine Eq.trans ?_ (ConvGluForm.sum_taps f)
    rw [← hZ]
    canon_tiles x h
    all_goals
      pointwise [k0_pay11, k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32,
    k0_pay33, k0_pay34, k0_pay35, k0_pay36, k0_pay37, k0_pay38, k0_pay39, k0_pay40, k0_pay41, k0_pay42, k0_pay43,
    k0_pay44, k0_pay45, k0_pay46, k0_pay47, k0_pay48, k0_pay49, k0_pay50, k0_pay51, k0_pay52, k0_pay53, k0_pay54,
    k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76,
    k0_pay77, k0_pay78, k0_pay79, k0_pay80, k0_pay81, k0_pay82, k0_pay83, k0_pay84, k0_pay85, k0_pay86, k0_pay87,
    k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118,
    k0_pay119, k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137, k0_pay138,
    k0_pay139, k0_pay140, k0_pay141, k0_pay142, k0_pay143, k0_pay144, k0_pay145, k0_pay146, k0_pay147, k0_pay148,
    k0_pay149, k0_pay150, k0_pay151, k0_pay152, k0_pay153, k0_pay154, k0_pay155, k0_pay156, k0_pay157, k0_pay158,
    k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178,
    k0_pay179, k0_pay180, k0_pay181, k0_pay182, k0_pay183, k0_pay184, k0_pay185, k0_pay186, k0_pay187, k0_pay188,
    k0_pay189, k0_pay190, k0_pay191, k0_pay192, k0_pay193, k0_pay194, k0_pay195, k0_pay196, k0_pay197, k0_pay198,
    k0_pay199, k0_pay200, k0_pay201, k0_pay202, k0_pay203, k0_pay204, k0_pay205, k0_pay206, k0_pay207, k0_pay208,
    k0_pay209, k0_pay210, k0_pay211, k0_pay212, k0_pay213, k0_pay214, k0_pay215, k0_pay216, k0_pay217, k0_pay218,
    k0_pay219, k0_pay220, k0_pay221, k0_pay222, k0_pay223, k0_pay224, k0_pay225, k0_pay226, k0_pay227, k0_pay228,
    k0_pay229, k0_pay230, k0_pay231, k0_pay232, k0_pay233, k0_pay234, k0_pay235, k0_pay236, k0_pay237, k0_pay238,
    k0_pay239, k0_pay240, k0_pay241, k0_pay242, k0_pay243, k0_pay244, k0_pay245, k0_pay246, k0_pay247, k0_pay248,
    k0_pay249, k0_pay250, k0_pay251, k0_pay252, k0_pay253, k0_pay254, k0_pay255, k0_pay256, k0_pay257, k0_pay258,
    k0_pay259, k0_pay260, k0_pay261, k0_pay262, k0_pay263, k0_pay264, k0_pay265, k0_pay266, k0_pay267, k0_pay268,
    k0_pay269, k0_pay270, k0_pay271, k0_pay272, k0_pay273, k0_pay274, k0_pay275, k0_pay276, k0_pay277, k0_pay278,
    k0_pay279, k0_pay280, k0_pay281, k0_pay282, k0_pay283, k0_pay284, k0_pay285, k0_pay286, k0_pay287, k0_pay288,
    k0_pay289, k0_pay290, k0_pay291, k0_pay292, k0_pay293, k0_pay294, k0_pay295, k0_pay296, k0_pay297, k0_pay298,
    k0_pay299, k0_pay300, k0_pay301, k0_pay302, k0_pay303, k0_pay304, k0_pay305, k0_pay306, k0_pay307, k0_pay308,
    k0_pay309, k0_pay310, k0_pay311, k0_pay312, k0_pay313, k0_pay314, k0_pay315, k0_pay316, k0_pay317, k0_pay318,
    k0_pay319, k0_pay320, k0_pay321, k0_pay322, k0_pay323, k0_pay324, k0_pay325, k0_pay326, k0_pay327, k0_pay328,
    k0_pay329, k0_pay330, k0_pay331, k0_pay332, k0_pay333, k0_pay334, k0_pay335, k0_pay336, k0_pay337, k0_pay338,
    k0_pay339, k0_pay340, k0_pay341, k0_pay342, k0_pay343, k0_pay344, k0_pay345, k0_pay346, k0_pay347, k0_pay348,
    k0_pay349, k0_pay350, k0_pay351]
      iterate 30 refine congrArg₂ (· + ·) ?_ ?_
      all_goals refine hterm _ _ _ _ rfl ?_ ?_ <;> (dsimp only; omega)
  clear hZ hP
  canon_tiles x h using (by
    have b0 := (y 0).isLt
    have b1 := (y 1).isLt
    simp only [List.mem_cons, exists_eq_or_imp, exists_eq_left, List.not_mem_nil, false_and, exists_false, or_false, Rect.mem_set_unit, Fin.forall_fin_succ]
    simp at b0 b1 ⊢
    omega)
  · rw [ConvGluForm.grad_gate _ _ _ _ _ _ _ (by omega) (by omega)]
    refine Eq.trans ?_ (congrArg₂ (ConvGluForm.dG _ _ _) (Fin.ext (by dsimp only; omega) : (⟨t.val * 256 + (x 0).val, by omega⟩ : Fin 4096) = _)
      (Fin.ext (by dsimp only; omega) : (⟨(x 1).val, by omega⟩ : Fin 1024) = _))
    pointwise [k0_pay1, k0_pay3, k0_pay351, k0_pay352, ConvGluForm.dG, ConvGluForm.logistic]
    rw [hz, aBlk m c t x ht, gBlk m c t x ht, zero_sub]
  · rw [ConvGluForm.grad_value _ _ _ _ _ _ _ (by omega)]
    refine Eq.trans ?_ (congrArg₂ (ConvGluForm.dA _ _ _) (Fin.ext (by dsimp only; omega) : (⟨t.val * 256 + (x 0).val, by omega⟩ : Fin 4096) = _)
      (Fin.ext (by dsimp only; omega) : (⟨(x 1).val, by omega⟩ : Fin 1024) = _))
    pointwise [k0_pay1, k0_pay2, k0_pay352, ConvGluForm.dA, ConvGluForm.logistic]
    rw [hz, gBlk m c t x ht, zero_sub]
  · rw [ConvGluForm.grad_second _ _ _ _ _ _ _ (by omega)]
    pointwise [k0_pay8]
    simp only [iblk]
    blk_simp
    rw [entryG]
    blk_ext [idx t]
  · rw [ConvGluForm.grad_first _ _ _ _ _ _ _ (by omega) (by omega)]
    pointwise [k0_pay7]
    simp only [iblk]
    blk_simp
    rw [entryG]
    blk_ext [idx t]
  · rw [ConvGluForm.grad_keys _ _ _ _ _ _ _ (by omega) (by omega)]
    refine Eq.trans ?_ (congrArg (ConvGluForm.dKv _ (i 0)) (Fin.ext (by dsimp only; omega) : (⟨(x 1).val, by omega⟩ : Fin 512) = _))
    pointwise [k0_pay6]
    exact congrArg₂ (· + ·) (kBlk m c t 1 1 (x 0) (x 1) _ _ (by show (i 0).val / 128 = 2 * t.val + 1; omega) (Fin.ext (by show (i 0).val % 128 = _; omega)))
      (kNext m c t (x 0) (x 1) (i 0) (by omega))
  · rw [ConvGluForm.grad_keys _ _ _ _ _ _ _ (by omega) (by omega)]
    refine Eq.trans ?_ (congrArg (ConvGluForm.dKv _ (i 0)) (Fin.ext (by dsimp only; omega) : (⟨(x 1).val, by omega⟩ : Fin 512) = _))
    unfold ConvGluForm.dKv ConvGluForm.next
    rw [dif_pos (by omega)]
    pointwise [k0_pay5]
    exact congrArg₂ (· + ·)
      (kBlk m c t 0 1 (x 0) (x 1) _ _ (by show (i 0).val / 128 = 2 * t.val + 0; omega) (Fin.ext (by show (i 0).val % 128 = _; omega)))
      (kBlk m c t 1 0 (x 0) (x 1) _ _ (by show (i 0).val / 128 + 1 = 2 * t.val + 1; omega) (Fin.ext (by show (i 0).val % 128 = _; omega)))
  · rw [ConvGluForm.grad_queries _ _ _ _ _ _ _ (by omega) (by omega)]
    pointwise [k0_pay4]
    simp only [iblk]
    blk_simp
    rw [entryQ]
    blk_ext [idx t]

/-- The array the region leaves. -/
theorem final (c : Dev nD) : (dats m 0 c).arrAt 9 cfg0.N = (ConvGluForm.grad (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) : FVec Ideal S4096x5632 .bf16) := by
  refine (dats m 0 c).arrAt_eq_of_covers 9 _ (by decide +kernel) fun t _ y => ?_
  blk_simp
  rw [after0_9]
  have hi := idx t
  exact point m c t y _ (by blk_point [hi]) (by blk_point [hi])

end Cert.ConvGluIdeal.Array

end
-- ==== Proof.ConvGlu.Reference.lean ====
module

public import proofs.«01_k».proof.Proof.Gen.ConvGluRefIdeal.Run
public import proofs.«01_k».proof.Proof.Gen.ConvGluRefIdeal.Read
public import proofs.«01_k».proof.Proof.ConvGlu.Formula
public import Idealize.ShloMosaic.Lib.KernelVsHost
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvGluRefIdeal.Array

open Cert.ConvGluRefIdeal Cert.ConvGluRefIdeal.Gen Cert.ConvGluRefIdeal.Read

/-- One tap of the transposed convolution: the weight times the cotangent, shifted. -/
theorem tap (w : FVec Ideal S31x1024 .f32) (d : FVec Ideal S4096x1024 .f32) (n : ℕ) (hn : n < 4096) (l : Fin 1024) (k : Fin 31) (f : EReal)
    (hf : ConvGluForm.times (w (Idealize.ShloMosaic.ix2 k l)) (ConvGluForm.later d (n + 30 - k.val) l) = f)
    (lo hi : ℕ) (a b : FVec Ideal S4096x1024 .f32) (v : FVec Ideal S_ .f32) (hp : S4096x1024.Pads ![lo, 0] ![hi, 0] ![0, 0] S4126x1024) (hu : 0 < S_.numel)
    (i : S4126x1024.Idx) (hlo : lo = k.val) (ha : ∀ r, a (Idealize.ShloMosaic.ix2 r l) = w (Idealize.ShloMosaic.ix2 k l))
    (hb : ∀ r, b (Idealize.ShloMosaic.ix2 r l) = d (Idealize.ShloMosaic.ix2 r l)) (hv : (v (Shape.Idx.first hu) : EReal) = 0)
    (h0 : (i 0).val = 30 + n) (h1 : (i 1).val = l.val) :
    (pad S4126x1024 ![lo, 0] ![hi, 0] ![0, 0] (mulf a b) v hp hu i : EReal) = f := by
  subst hlo
  have hk := k.isLt
  rw [← hf]
  unfold ConvGluForm.later
  by_cases h : n + 30 - k.val < 4096
  · rw [dif_pos h]
    refine (Idealize.ShloMosaic.pad_apply_of_inside _ _ _ _ v hp hu i (Idealize.ShloMosaic.ix2 ⟨n + 30 - k.val, h⟩ l) ?_).trans ?_
    · intro a
      match a with
      | ⟨0, _⟩ => exact h0.trans (by show _ = k.val + (n + 30 - k.val) * (0 + 1); omega)
      | ⟨1, _⟩ => exact h1.trans (by show _ = 0 + l.val * (0 + 1); omega)
    · exact congrArg₂ (· * ·) (ha _) (hb _)
  · rw [dif_neg h]
    refine (Idealize.ShloMosaic.pad_apply_of_not_inside _ _ _ _ v hp hu i (0 : Fin 2) ?_).trans ?_
    · rintro ⟨-, -, ho⟩
      have ho' : ((i 0).val - k.val) / (0 + 1) < 4096 := ho
      omega
    · rw [hv]
      exact (mul_zero _).symm

/-- The transposed convolution's row, thirty rows into the padded array. -/
theorem conv (x1 : FVec Ideal S31x1024 .f32) (x2 : FVec Ideal S4096x1024 .f32) (n : Fin 4096) (l : Fin 1024) :
    (val_main_v387 (F := Ideal) x1 x2 (Idealize.ShloMosaic.ix2 n l) : EReal) = ConvGluForm.dz0 x1 x2 n.val l := by
  unfold ConvGluForm.dz0
  generalize hf : (fun k : Fin 31 => ConvGluForm.times (x1 (Idealize.ShloMosaic.ix2 k l)) (ConvGluForm.later x2 (n.val + 30 - k.val) l)) = f
  refine Eq.trans ?_ (Eq.trans (ConvGluForm.sum_taps_down f) (Finset.sum_congr rfl fun k _ => rfl))
  pointwise [val_main_v387, val_main_v385, val_main_v381, val_main_v377, val_main_v373, val_main_v369, val_main_v365, val_main_v361,
    val_main_v357, val_main_v353, val_main_v349, val_main_v345, val_main_v341, val_main_v337, val_main_v333,
    val_main_v329, val_main_v325, val_main_v321, val_main_v317, val_main_v313, val_main_v309, val_main_v305,
    val_main_v301, val_main_v297, val_main_v293, val_main_v289, val_main_v285, val_main_v281, val_main_v277,
    val_main_v273, val_main_v269]
  iterate 30 refine congrArg₂ (· + ·) ?_ ?_
  all_goals
    refine tap x1 x2 n.val n.isLt l _ _ (congrFun hf _) _ _ _ _ _ _ _ _ rfl (fun r => ?_) (fun r => ?_) Ideal.ofBits_zero_f32 rfl rfl
  all_goals pointwise [val_main_v382, val_main_v23, val_main_v21, val_main_v20, val_main_v378, val_main_v29, val_main_v27, val_main_v26,
    val_main_v374, val_main_v36, val_main_v34, val_main_v33, val_main_v370, val_main_v43, val_main_v41, val_main_v40,
    val_main_v366, val_main_v50, val_main_v48, val_main_v47, val_main_v362, val_main_v57, val_main_v55, val_main_v54,
    val_main_v358, val_main_v64, val_main_v62, val_main_v61, val_main_v354, val_main_v71, val_main_v69, val_main_v68,
    val_main_v350, val_main_v78, val_main_v76, val_main_v75, val_main_v346, val_main_v85, val_main_v83, val_main_v82,
    val_main_v342, val_main_v92, val_main_v90, val_main_v89, val_main_v338, val_main_v99, val_main_v97, val_main_v96,
    val_main_v334, val_main_v106, val_main_v104, val_main_v103, val_main_v330, val_main_v113, val_main_v111,
    val_main_v110, val_main_v326, val_main_v120, val_main_v118, val_main_v117, val_main_v322, val_main_v127,
    val_main_v125, val_main_v124, val_main_v318, val_main_v134, val_main_v132, val_main_v131, val_main_v314,
    val_main_v141, val_main_v139, val_main_v138, val_main_v310, val_main_v148, val_main_v146, val_main_v145,
    val_main_v306, val_main_v155, val_main_v153, val_main_v152, val_main_v302, val_main_v162, val_main_v160,
    val_main_v159, val_main_v298, val_main_v169, val_main_v167, val_main_v166, val_main_v294, val_main_v176,
    val_main_v174, val_main_v173, val_main_v290, val_main_v183, val_main_v181, val_main_v180, val_main_v286,
    val_main_v190, val_main_v188, val_main_v187, val_main_v282, val_main_v197, val_main_v195, val_main_v194,
    val_main_v278, val_main_v204, val_main_v202, val_main_v201, val_main_v274, val_main_v211, val_main_v209,
    val_main_v208, val_main_v270, val_main_v218, val_main_v216, val_main_v215, val_main_v266, val_main_v225,
    val_main_v223, val_main_v222, val_main_v263, val_main_v232, val_main_v230, val_main_v229, val_main_v261,
    val_main_v262]

/-- The value half's gradient. -/
theorem value (x0 : FVec Ideal S4096x5632 .f32) (x1 : FVec Ideal S31x1024 .f32) (x2 : FVec Ideal S4096x1024 .f32) (n : Fin 4096) (l : Fin 1024) :
    (val_main_v389 (F := Ideal) x0 x1 x2 (Idealize.ShloMosaic.ix2 n l) : EReal) = ConvGluForm.dA x0 x1 x2 n l := by
  unfold ConvGluForm.dA
  rw [← conv x1 x2 n l]
  pointwise [val_main_v390, val_main_v389, val_main_v388, val_main_v0, val_main_v5, val_main_v6, val_main_v7, val_main_v8,
    val_main_v9, val_main_v10, val_main_v11, val_main_v12, val_main_v13, val_main_v14, val_main_v15, val_main_cst,
    val_main_cst_0, val_main_cst_1, ConvGluForm.logistic]

/-- The gate half's gradient. -/
theorem gate (x0 : FVec Ideal S4096x5632 .f32) (x1 : FVec Ideal S31x1024 .f32) (x2 : FVec Ideal S4096x1024 .f32) (n : Fin 4096) (l : Fin 1024) :
    (val_main_v390 (F := Ideal) x0 x1 x2 (Idealize.ShloMosaic.ix2 n l) : EReal) = ConvGluForm.dG x0 x1 x2 n l := by
  unfold ConvGluForm.dG
  rw [← conv x1 x2 n l]
  pointwise [val_main_v390, val_main_v389, val_main_v388, val_main_v0, val_main_v5, val_main_v6, val_main_v7, val_main_v8,
    val_main_v9, val_main_v10, val_main_v11, val_main_v12, val_main_v13, val_main_v14, val_main_v15, val_main_cst,
    val_main_cst_0, val_main_cst_1, ConvGluForm.logistic]
  rw [mul_comm (x0 _), ← mul_assoc]

/-- The keys' and values' gradient. -/
theorem keys (x4 : FVec Ideal S32x2x128x512 .f32) (n : Fin 4096) (l : Fin 512) :
    (val_main_v260 (F := Ideal) x4 (Idealize.ShloMosaic.ix2 n l) : EReal) = ConvGluForm.dKv x4 n l := by
  unfold ConvGluForm.dKv
  pointwise [val_main_v252, val_main_v253, val_main_v254, val_main_v255, val_main_v257, val_main_v258, val_main_v259, val_main_v260, val_main_cst_6]
  have hr : n.val % 128 < 128 := Nat.mod_lt _ (by norm_num)
  refine congrArg (x4 _ + ·) ?_
  by_cases h : n.val / 128 + 1 < 32
  · refine (dif_pos (show n.val / 128 < 31 ∧ n.val % 128 < 128 from ⟨by omega, hr⟩)).trans ?_
    refine Eq.trans (congrArg x4 ?_) (ConvGluForm.next_of_lt x4 n l h).symm
    blk_ext
  · refine (dif_neg (show ¬ (n.val / 128 < 31 ∧ n.val % 128 < 128) from by omega)).trans (ConvGluForm.next_of_not x4 n l h).symm

set_option maxHeartbeats 1000000 in
/-- The reference's gradient at an index. -/
theorem grad (x0 : FVec Ideal S4096x5632 .f32) (x1 : FVec Ideal S31x1024 .f32) (x2 x3 : FVec Ideal S4096x1024 .f32)
    (x4 : FVec Ideal S32x2x128x512 .f32) (x5 : FVec Ideal S2x4096x1024 .f32) (i : S4096x5632.Idx) :
    (val_main_v393 (F := Ideal) x0 x1 x2 x3 x4 x5 i : EReal) = ConvGluForm.grad x0 x1 x2 x3 x4 x5 i := by
  have hn : (i 0).val < 4096 := (i 0).isLt
  have hl : (i 1).val < 5632 := (i 1).isLt
  pointwise [val_main_v393, val_main_v392]
  by_cases c1 : (i 1).val < 1024
  · rw [dif_pos (by omega), ConvGluForm.grad_value _ _ _ _ _ _ _ c1]
    pointwise [val_main_v391]
    rw [dif_pos c1]
    exact (value x0 x1 x2 (i 0) ⟨(i 1).val, c1⟩)
  by_cases c2 : (i 1).val < 2048
  · rw [dif_pos c2, ConvGluForm.grad_gate _ _ _ _ _ _ _ (by omega) c2]
    pointwise [val_main_v391]
    rw [dif_neg c1]
    exact (gate x0 x1 x2 (i 0) ⟨(i 1).val - 1024, by omega⟩)
  by_cases c3 : (i 1).val < 3072
  · rw [dif_neg c2, dif_pos (by omega), ConvGluForm.grad_queries _ _ _ _ _ _ _ (by omega) c3]
  by_cases c4 : (i 1).val < 3584
  · rw [dif_neg c2, dif_neg (by omega), dif_pos (by omega), ConvGluForm.grad_keys _ _ _ _ _ _ _ (by omega) c4]
    refine (keys x4 (i 0) _).trans (congrArg (ConvGluForm.dKv x4 (i 0)) (Fin.ext ?_))
    dsimp only
    omega
  by_cases c5 : (i 1).val < 4608
  · rw [dif_neg c2, dif_neg (by omega), dif_neg (by omega), dif_pos (by omega), ConvGluForm.grad_first _ _ _ _ _ _ _ (by omega) c5]
    pointwise [val_main_v248, val_main_v249]
    blk_ext
  · rw [dif_neg c2, dif_neg (by omega), dif_neg (by omega), dif_neg (by omega), ConvGluForm.grad_second _ _ _ _ _ _ _ (by omega)]
    pointwise [val_main_v250, val_main_v251]
    blk_ext

end Cert.ConvGluRefIdeal.Array

end
-- ==== Proof.ConvGlu.Equation.lean ====
module

public import proofs.«01_k».proof.Proof.ConvGlu.Kernel
public import proofs.«01_k».proof.Proof.ConvGlu.Reference
public import proofs.«01_k».proof.Defs
public import proofs.«01_k».proof.Proof.Gen.ConvGluIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvGluClaim

/-- The gradient of the convolution and its gated linear unit: kernel and reference end with equal results. -/
theorem algebraic : algebraic_ConvGluIdeal_ConvGluRefIdeal := by
  pair_intro
  · run_from ConvGluIdeal.Gen.run_main m g
    · exact ConvGluIdeal.Gen.V_main_arg0 m c
    · exact ConvGluIdeal.Gen.V_main_arg1 m c
    · exact ConvGluIdeal.Gen.V_main_arg3 m c
    · exact ConvGluIdeal.Gen.V_main_arg4 m c
    · exact ConvGluIdeal.Gen.V_main_arg5 m c
  · run_from ConvGluRefIdeal.Value.run m' g'
    · obtain ⟨h0, h1, h2, h3, h4, h5⟩ := hagree c
      rw [ConvGluRefIdeal.Read.val_main_v393_eq]
      refine ((ConvGluIdeal.Array.final m c).trans (funext (α := ConvGluIdeal.S4096x5632.Idx) fun i => ?_)).symm
      rw [← ConvGluRefIdeal.Array.grad, ← h0, ← h1, ← h2, ← h3, ← h4, ← h5]

end Cert.ConvGluClaim

end
-- ==== Proof.Attn.Formula.lean ====
module

public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnFormula

/-- The mean of the squares of a row of sixty-four. -/
def meanSq (x : Fin 64 → EReal) : EReal := Ideal.div (∑ e : Fin 64, x e * x e) (Ideal.ofBits FTy.f32 0x42800000#32)

/-- The reciprocal of a row's root mean square. -/
def rinv (x : Fin 64 → EReal) : EReal := Ideal.rsqrt (meanSq x + Ideal.ofBits FTy.f32 0x358637BD#32)

/-- A row divided by its root mean square, times the gain. -/
def nrm (x g : Fin 64 → EReal) (d : Fin 64) : EReal := x d * rinv x * g d

/-- The gradient of `nrm` in the row, for the cotangent `w` of its result. -/
def nrmGrad (w x g : Fin 64 → EReal) (d : Fin 64) : EReal :=
  rinv x * (w d * g d) - x d * (rinv x * rinv x * rinv x)
    * Ideal.div (∑ e : Fin 64, x e * (w e * g e)) (Ideal.ofBits FTy.f32 0x42800000#32)

/-- The term of a row in the gradient of the gain. -/
def gainTerm (w x : Fin 64 → EReal) (d : Fin 64) : EReal := w d * (x d * rinv x)

variable (P : Fin 512 → Fin 256 → EReal) (D Q : Fin 512 → Fin 64 → EReal) (K V : Fin 256 → Fin 64 → EReal)
  (gq gk : Fin 64 → EReal)

/-- The gradient of the loss in a probability. -/
def dProb (s : Fin 512) (j : Fin 256) : EReal := ∑ d : Fin 64, D s d * V j d

/-- The mean of the probabilities' gradients over a row. -/
def delta (s : Fin 512) : EReal := ∑ j : Fin 256, P s j * dProb D V s j

/-- The gradient in a score. -/
def dScore (s : Fin 512) (j : Fin 256) : EReal := P s j * (dProb D V s j - delta P D V s)

/-- The gradient in a scaled product of a query and a key. -/
def dDot (s : Fin 512) (j : Fin 256) : EReal := dScore P D V s j * Ideal.ofBits FTy.f32 0x3E000000#32

/-- The gradient in a normed query. -/
def dQueryN (s : Fin 512) (d : Fin 64) : EReal := ∑ j : Fin 256, dDot P D V s j * nrm (K j) gk d

/-- The gradient in a normed key. -/
def dKeyN (j : Fin 256) (d : Fin 64) : EReal := ∑ s : Fin 512, nrm (Q s) gq d * dDot P D V s j

/-- The gradient in a query. -/
def dQuery (s : Fin 512) (d : Fin 64) : EReal := nrmGrad (dQueryN P D K V gk s) (Q s) gq d

/-- The gradient in a key of the window. -/
def dKey (j : Fin 256) (d : Fin 64) : EReal := nrmGrad (dKeyN P D Q V gq j) (K j) gk d

/-- The gradient in a value of the window. -/
def dValue (j : Fin 256) (d : Fin 64) : EReal := ∑ s : Fin 512, D s d * P s j

/-- One window's part of the gradient of the queries' gain. -/
def dGainQ (d : Fin 64) : EReal := ∑ s : Fin 512, gainTerm (dQueryN P D K V gk s) (Q s) d

/-- One window's part of the gradient of the keys' gain. -/
def dGainK (d : Fin 64) : EReal := ∑ j : Fin 256, gainTerm (dKeyN P D Q V gq j) (K j) d

/-- One window's part of the gradient of a sink, the head `g` of the group. -/
def dSink (S : Fin 512 → EReal) (g : Fin 4) : EReal :=
  ∑ a : Fin 128, (0 - S ⟨g.val * 128 + a.val, by omega⟩) * delta P D V ⟨g.val * 128 + a.val, by omega⟩

end Cert.AttnFormula
-- ==== Proof.Attn.Real.lean ====
module

public import proofs.«01_k».proof.Proof.Attn.Formula
public import proofs.«01_k».proof.Proof.Common.Real
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnReal

open Cert.AttnFormula Cert.Lift

/-- The constant added to a mean square. -/
def eps : ℝ := 8796093 / 2 ^ 43

theorem eps_pos : 0 < eps := by unfold eps; norm_num
theorem ofBits_eps : Ideal.ofBits .f32 0x358637BD#32 = ((eps : ℝ) : EReal) := by
  unfold eps; simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee, -EReal.coe_mul]

/-- A quotient of real numbers, the divisor not zero. -/
theorem div_real {y : ℝ} (h : y ≠ 0) (x : ℝ) : Ideal.div (x : EReal) (y : EReal) = ((x / y : ℝ) : EReal) := by
  rw [Ideal.div_coe h, ← EReal.coe_mul]; congr 1; ring

/-- The reciprocal square root of a positive number. -/
theorem rsqrt_real {y : ℝ} (h : 0 < y) : Ideal.rsqrt (y : EReal) = (((Real.sqrt y)⁻¹ : ℝ) : EReal) := by
  rw [Ideal.rsqrt_coe, if_neg (not_lt.mpr h.le), if_neg h.ne']

/-- The mean of the squares of a row. -/
def msR (x : Fin 64 → ℝ) : ℝ := (∑ e : Fin 64, x e * x e) / 64

theorem ms_pos (x : Fin 64 → ℝ) : 0 < msR x + eps :=
  add_pos_of_nonneg_of_pos (div_nonneg (Finset.sum_nonneg fun e _ => mul_self_nonneg _) (by norm_num)) eps_pos

/-- The reciprocal of a row's root mean square. -/
def rinvR (x : Fin 64 → ℝ) : ℝ := (Real.sqrt (msR x + eps))⁻¹

/-- Its square times the mean square and the constant is one. -/
theorem rinv_sq (x : Fin 64 → ℝ) : rinvR x * rinvR x * (msR x + eps) = 1 := by
  have h := ms_pos x
  have hs : Real.sqrt (msR x + eps) ≠ 0 := (Real.sqrt_pos.mpr h).ne'
  unfold rinvR
  field_simp
  exact (Real.sq_sqrt h.le).symm

/-- A row divided by its root mean square, times the gain. -/
def nrmR (x g : Fin 64 → ℝ) (d : Fin 64) : ℝ := x d * rinvR x * g d

/-- The gradient of `nrmR` in the row. -/
def nrmGradR (w x g : Fin 64 → ℝ) (d : Fin 64) : ℝ :=
  rinvR x * (w d * g d) - x d * (rinvR x * rinvR x * rinvR x) * ((∑ e : Fin 64, x e * (w e * g e)) / 64)

/-- The term of a row in the gradient of the gain. -/
def gainTermR (w x : Fin 64 → ℝ) (d : Fin 64) : ℝ := w d * (x d * rinvR x)

/-- The gradient as the reference writes it: both factors' parts of the mean square apart. -/
theorem nrmGrad_two (w x g : Fin 64 → ℝ) (d : Fin 64) :
    w d * g d * rinvR x + x d * ((∑ e : Fin 64, x e * (w e * g e)) * (-(1 / 2) * (rinvR x / (msR x + eps))) / 64)
        + (∑ e : Fin 64, x e * (w e * g e)) * (-(1 / 2) * (rinvR x / (msR x + eps))) / 64 * x d
      = nrmGradR w x g d := by
  have h : (msR x + eps)⁻¹ = rinvR x * rinvR x := (eq_inv_of_mul_eq_one_left (rinv_sq x)).symm
  unfold nrmGradR
  rw [div_eq_mul_inv (rinvR x), h]
  ring

section rows
variable (P : Fin 512 → Fin 256 → ℝ) (D Q : Fin 512 → Fin 64 → ℝ) (K V : Fin 256 → Fin 64 → ℝ) (gq gk : Fin 64 → ℝ)

/-- The gradient of the loss in a probability. -/
def dProbR (s : Fin 512) (j : Fin 256) : ℝ := ∑ d : Fin 64, D s d * V j d
/-- The mean of the probabilities' gradients over a row. -/
def deltaR (s : Fin 512) : ℝ := ∑ j : Fin 256, P s j * dProbR D V s j
/-- The gradient in a score. -/
def dScoreR (s : Fin 512) (j : Fin 256) : ℝ := P s j * (dProbR D V s j - deltaR P D V s)
/-- The gradient in a normed query. -/
def dQueryNR (s : Fin 512) (d : Fin 64) : ℝ := ∑ j : Fin 256, dScoreR P D V s j * (1 / 8) * nrmR (K j) gk d
/-- The gradient in a normed key. -/
def dKeyNR (j : Fin 256) (d : Fin 64) : ℝ := ∑ s : Fin 512, nrmR (Q s) gq d * (dScoreR P D V s j * (1 / 8))
/-- The gradient in a query. -/
def dQueryR (s : Fin 512) (d : Fin 64) : ℝ := nrmGradR (dQueryNR P D K V gk s) (Q s) gq d
/-- The gradient in a key of the window. -/
def dKeyR (j : Fin 256) (d : Fin 64) : ℝ := nrmGradR (dKeyNR P D Q V gq j) (K j) gk d
/-- The gradient in a value of the window. -/
def dValueR (j : Fin 256) (d : Fin 64) : ℝ := ∑ s : Fin 512, D s d * P s j
/-- One window's part of the gradient of the queries' gain. -/
def dGainQR (d : Fin 64) : ℝ := ∑ s : Fin 512, gainTermR (dQueryNR P D K V gk s) (Q s) d
/-- One window's part of the gradient of the keys' gain. -/
def dGainKR (d : Fin 64) : ℝ := ∑ j : Fin 256, gainTermR (dKeyNR P D Q V gq j) (K j) d
/-- One window's part of the gradient of a sink. -/
def dSinkR (S : Fin 512 → ℝ) (g : Fin 4) : ℝ :=
  ∑ a : Fin 128, (0 - S ⟨g.val * 128 + a.val, by omega⟩) * deltaR P D V ⟨g.val * 128 + a.val, by omega⟩

end rows

/-- A row of real numbers as extended reals. -/
def up1 {α : Type} (x : α → ℝ) (a : α) : EReal := (x a : EReal)
/-- A table of real numbers as extended reals. -/
def up2 {α β : Type} (x : α → β → ℝ) (a : α) (b : β) : EReal := (x a b : EReal)

theorem up2_row {α β : Type} (x : α → β → ℝ) (a : α) : up2 x a = up1 (x a) := rfl

theorem meanSq_up (x : Fin 64 → ℝ) : meanSq (up1 x) = ((msR x : ℝ) : EReal) := by
  unfold meanSq msR up1
  rw [ofBits_64]
  simp only [← EReal.coe_mul, ← coe_sum]
  exact div_real (by norm_num) _

theorem rinv_up (x : Fin 64 → ℝ) : rinv (up1 x) = ((rinvR x : ℝ) : EReal) := by
  unfold rinv rinvR
  rw [meanSq_up, ofBits_eps, ← EReal.coe_add]
  exact rsqrt_real (ms_pos x)

theorem nrm_up (x g : Fin 64 → ℝ) : nrm (up1 x) (up1 g) = up1 (nrmR x g) := by
  funext d
  unfold nrm nrmR
  rw [rinv_up]
  simp only [up1, ← EReal.coe_mul]

theorem nrmGrad_up (w x g : Fin 64 → ℝ) : nrmGrad (up1 w) (up1 x) (up1 g) = up1 (nrmGradR w x g) := by
  funext d
  unfold nrmGrad nrmGradR
  rw [rinv_up, ofBits_64]
  simp only [up1, ← EReal.coe_mul, ← coe_sum, div_real (show (64 : ℝ) ≠ 0 by norm_num), ← EReal.coe_sub]

theorem gainTerm_up (w x : Fin 64 → ℝ) : gainTerm (up1 w) (up1 x) = up1 (gainTermR w x) := by
  funext d
  unfold gainTerm gainTermR
  rw [rinv_up]
  simp only [up1, ← EReal.coe_mul]

section rows
variable (P : Fin 512 → Fin 256 → ℝ) (D Q : Fin 512 → Fin 64 → ℝ) (K V : Fin 256 → Fin 64 → ℝ) (gq gk : Fin 64 → ℝ)

theorem dProb_up : dProb (up2 D) (up2 V) = up2 (dProbR D V) := by
  funext s j
  unfold dProb dProbR
  simp only [up2, ← EReal.coe_mul, ← coe_sum]

theorem delta_up : delta (up2 P) (up2 D) (up2 V) = up1 (deltaR P D V) := by
  funext s
  unfold delta deltaR
  simp only [dProb_up, up1, up2, ← EReal.coe_mul, ← coe_sum]

theorem dScore_up : dScore (up2 P) (up2 D) (up2 V) = up2 (dScoreR P D V) := by
  funext s j
  unfold dScore dScoreR
  simp only [dProb_up, delta_up, up1, up2, ← EReal.coe_mul, ← EReal.coe_sub]

theorem dDot_up (s : Fin 512) (j : Fin 256) : dDot (up2 P) (up2 D) (up2 V) s j = ((dScoreR P D V s j * (1 / 8) : ℝ) : EReal) := by
  unfold dDot
  rw [dScore_up, ofBits_eighth]
  simp only [up2, ← EReal.coe_mul]

theorem dQueryN_up : dQueryN (up2 P) (up2 D) (up2 K) (up2 V) (up1 gk) = up2 (dQueryNR P D K V gk) := by
  funext s d
  unfold dQueryN dQueryNR
  simp only [dDot_up, up2_row, nrm_up]
  simp only [up1, up2, ← EReal.coe_mul, ← coe_sum]

theorem dKeyN_up : dKeyN (up2 P) (up2 D) (up2 Q) (up2 V) (up1 gq) = up2 (dKeyNR P D Q V gq) := by
  funext j d
  unfold dKeyN dKeyNR
  simp only [dDot_up, up2_row, nrm_up]
  simp only [up1, up2, ← EReal.coe_mul, ← coe_sum]

theorem dQuery_up (s : Fin 512) (d : Fin 64) :
    dQuery (up2 P) (up2 D) (up2 Q) (up2 K) (up2 V) (up1 gq) (up1 gk) s d = ((dQueryR P D Q K V gq gk s d : ℝ) : EReal) := by
  unfold dQuery dQueryR
  rw [dQueryN_up, up2_row, up2_row, nrmGrad_up]
  rfl

theorem dKey_up (j : Fin 256) (d : Fin 64) :
    dKey (up2 P) (up2 D) (up2 Q) (up2 K) (up2 V) (up1 gq) (up1 gk) j d = ((dKeyR P D Q K V gq gk j d : ℝ) : EReal) := by
  unfold dKey dKeyR
  rw [dKeyN_up, up2_row, up2_row, nrmGrad_up]
  rfl

theorem dValue_up (j : Fin 256) (d : Fin 64) : dValue (up2 P) (up2 D) j d = ((dValueR P D j d : ℝ) : EReal) := by
  unfold dValue dValueR
  simp only [up2, ← EReal.coe_mul, ← coe_sum]

theorem dGainQ_up (d : Fin 64) :
    dGainQ (up2 P) (up2 D) (up2 Q) (up2 K) (up2 V) (up1 gk) d = ((dGainQR P D Q K V gk d : ℝ) : EReal) := by
  unfold dGainQ dGainQR
  simp only [dQueryN_up, up2_row, gainTerm_up]
  simp only [up1, ← coe_sum]

theorem dGainK_up (d : Fin 64) :
    dGainK (up2 P) (up2 D) (up2 Q) (up2 K) (up2 V) (up1 gq) d = ((dGainKR P D Q K V gq d : ℝ) : EReal) := by
  unfold dGainK dGainKR
  simp only [dKeyN_up, up2_row, gainTerm_up]
  simp only [up1, ← coe_sum]

theorem dSink_up (S : Fin 512 → ℝ) (g : Fin 4) :
    dSink (up2 P) (up2 D) (up2 V) (up1 S) g = ((dSinkR P D V S g : ℝ) : EReal) := by
  unfold dSink dSinkR
  simp only [delta_up, up1, ← EReal.coe_zero, ← EReal.coe_sub, ← EReal.coe_mul, ← coe_sum]

/-! Keys and values whose probabilities are all zero do not count. -/

variable {P} {K' V' : Fin 256 → Fin 64 → ℝ}

theorem delta_off (h : ∀ j, (∀ s, P s j = 0) ∨ V j = V' j) (s : Fin 512) : deltaR P D V s = deltaR P D V' s := by
  unfold deltaR dProbR
  refine Finset.sum_congr rfl fun j _ => ?_
  rcases h j with h | h
  · rw [h s, zero_mul, zero_mul]
  · rw [h]

theorem dScore_off (h : ∀ j, (∀ s, P s j = 0) ∨ V j = V' j) : dScoreR P D V = dScoreR P D V' := by
  funext s j
  unfold dScoreR
  rw [delta_off D V h]
  rcases h j with h | h
  · rw [h s, zero_mul, zero_mul]
  · unfold dProbR; rw [h]

theorem dScore_zero {j : Fin 256} (h : ∀ s, P s j = 0) (s : Fin 512) : dScoreR P D V s j = 0 := by
  unfold dScoreR; rw [h s, zero_mul]

theorem dQueryN_off (h : ∀ j, (∀ s, P s j = 0) ∨ V j = V' j) (hk : ∀ j, (∀ s, P s j = 0) ∨ K j = K' j) :
    dQueryNR P D K V gk = dQueryNR P D K' V' gk := by
  funext s d
  unfold dQueryNR
  rw [dScore_off D V h]
  refine Finset.sum_congr rfl fun j _ => ?_
  rcases hk j with h | h
  · rw [dScore_zero D V' h]; simp
  · rw [h]

theorem dKeyN_off (h : ∀ j, (∀ s, P s j = 0) ∨ V j = V' j) : dKeyNR P D Q V gq = dKeyNR P D Q V' gq := by
  funext j d
  unfold dKeyNR
  rw [dScore_off D V h]

theorem dKeyN_zero {j : Fin 256} (h : ∀ s, P s j = 0) : dKeyNR P D Q V gq j = fun _ => 0 := by
  funext d
  unfold dKeyNR
  exact Finset.sum_eq_zero fun s _ => by rw [dScore_zero D V h]; ring

theorem nrmGrad_zero (x g : Fin 64 → ℝ) (d : Fin 64) : nrmGradR (fun _ => 0) x g d = 0 := by
  unfold nrmGradR; simp

theorem dQuery_off (h : ∀ j, (∀ s, P s j = 0) ∨ V j = V' j) (hk : ∀ j, (∀ s, P s j = 0) ∨ K j = K' j) :
    dQueryR P D Q K V gq gk = dQueryR P D Q K' V' gq gk := by
  funext s d
  unfold dQueryR
  rw [dQueryN_off D K V gk h hk]

theorem dKey_off (h : ∀ j, (∀ s, P s j = 0) ∨ V j = V' j) (hk : ∀ j, (∀ s, P s j = 0) ∨ K j = K' j) :
    dKeyR P D Q K V gq gk = dKeyR P D Q K' V' gq gk := by
  funext j d
  unfold dKeyR
  rw [dKeyN_off D Q V gq h]
  rcases hk j with h | h
  · rw [dKeyN_zero D Q V' gq h, nrmGrad_zero, nrmGrad_zero]
  · rw [h]

theorem dGainQ_off (h : ∀ j, (∀ s, P s j = 0) ∨ V j = V' j) (hk : ∀ j, (∀ s, P s j = 0) ∨ K j = K' j) :
    dGainQR P D Q K V gk = dGainQR P D Q K' V' gk := by
  funext d
  unfold dGainQR
  rw [dQueryN_off D K V gk h hk]

theorem dGainK_off (h : ∀ j, (∀ s, P s j = 0) ∨ V j = V' j) (hk : ∀ j, (∀ s, P s j = 0) ∨ K j = K' j) :
    dGainKR P D Q K V gq = dGainKR P D Q K' V' gq := by
  funext d
  unfold dGainKR
  rw [dKeyN_off D Q V gq h]
  refine Finset.sum_congr rfl fun j _ => ?_
  rcases hk j with h | h
  · rw [dKeyN_zero D Q V' gq h]; simp [gainTermR]
  · rw [h]

theorem dSink_off (h : ∀ j, (∀ s, P s j = 0) ∨ V j = V' j) (S : Fin 512 → ℝ) : dSinkR P D V S = dSinkR P D V' S := by
  funext g
  unfold dSinkR
  exact Finset.sum_congr rfl fun a _ => by rw [delta_off D V h]

end rows

/-! A row of the softmax with a sink, its terms `e` and `f`: the gradient as the reference writes it. -/

section softmax
variable {ι : Type} [Fintype ι] (e dp : ι → ℝ) (f : ℝ)

/-- The gradient in the row's maximum vanishes. -/
theorem max_zero (T : ℝ) (hT : T ≠ 0) (h : T = ∑ j, e j + f) :
    -(-(∑ j, dp j * (1 / (T * T)) * e j) * f) + ∑ j, -((dp j / T + -(∑ j, dp j * (1 / (T * T)) * e j)) * e j) = 0 := by
  have hS : ∑ j, dp j * (1 / (T * T)) * e j = (∑ j, dp j * e j) / (T * T) := by
    rw [Finset.sum_div]; exact Finset.sum_congr rfl fun j _ => by ring
  have h2 : ∑ j, -((dp j / T + -((∑ j, dp j * e j) / (T * T))) * e j)
      = -((∑ j, dp j * e j) / T) + (∑ j, dp j * e j) / (T * T) * (T - f) := by
    have : T - f = ∑ j, e j := by rw [h]; ring
    rw [this]
    generalize (∑ j, dp j * e j) / (T * T) = S
    rw [Finset.mul_sum, Finset.sum_div, ← Finset.sum_neg_distrib, ← Finset.sum_add_distrib]
    exact Finset.sum_congr rfl fun j _ => by ring
  rw [hS, h2]
  field_simp
  ring

/-- The gradient in a score is the probability times its gradient's distance from the mean. -/
theorem score_eq (T : ℝ) (hT : T ≠ 0) (j : ι) :
    (dp j / T + -(∑ j, dp j * (1 / (T * T)) * e j)) * e j = e j / T * (dp j - ∑ j, e j / T * dp j) := by
  have hS : ∑ j, dp j * (1 / (T * T)) * e j = (∑ j, e j / T * dp j) / T := by
    rw [Finset.sum_div]; exact Finset.sum_congr rfl fun j _ => by field_simp
  rw [hS]
  field_simp
  ring

/-- The gradient in the sink. -/
theorem sink_eq (T : ℝ) (hT : T ≠ 0) :
    -(∑ j, dp j * (1 / (T * T)) * e j) * f = (0 - f / T) * ∑ j, e j / T * dp j := by
  have hS : ∑ j, dp j * (1 / (T * T)) * e j = (∑ j, e j / T * dp j) / T := by
    rw [Finset.sum_div]; exact Finset.sum_congr rfl fun j _ => by field_simp
  rw [hS]
  field_simp
  ring

end softmax

end Cert.AttnReal
-- ==== Proof.ConvLn.Formula.lean ====
module

public import Idealize.ShloMosaic.Lib.Pipeline.ValueKit
public import Idealize.ShloMosaic.Lib.Pointwise
public import Idealize.ShloMosaic.Lib.Claim
public import proofs.«01_k».proof.Proof.Attn.Real

/-! # The gradient of the layer norm and the SiLU, row by row: the kernel's writing and the reference's -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvLnForm

open Cert.Lift

/-- A row of 1024 channels. -/
abbrev Row := Fin 1024 → EReal

/-- The mean of a row. -/
def mean (f : Row) : EReal := Ideal.div (∑ k, f k) (Ideal.ofBits FTy.f32 0x44800000#32)
/-- The row less its mean. -/
def zc (z : Row) : Row := fun k => z k - mean z
/-- The mean square and the constant. -/
def ms (z : Row) : EReal := mean (fun k => zc z k * zc z k) + Ideal.ofBits FTy.f32 0x358637BD#32
/-- The reciprocal root. -/
def rs (z : Row) : EReal := Ideal.rsqrt (ms z)
/-- The normed row. -/
def xh (z : Row) : Row := fun k => zc z k * rs z
/-- … scaled and shifted. -/
def z2 (z g b : Row) : Row := fun k => xh z k * g k + b k
/-- The logistic function. -/
def sg (x : EReal) : EReal := Ideal.div 1 (1 + Ideal.exp (-x))
/-- The cotangent through the SiLU, as the kernel writes it. -/
def dz2 (d z g b : Row) : Row := fun k => d k * (sg (z2 z g b k) * (1 + z2 z g b k * (1 - sg (z2 z g b k))))
/-- … as the reference writes it. -/
def dz2R (d z g b : Row) : Row := fun k =>
  d k * sg (z2 z g b k) + z2 z g b k * d k * (sg (z2 z g b k) * (1 - sg (z2 z g b k)))

/-- The gradient of the row, as the kernel writes it, from the cotangent `e` of the normed row. -/
def grad (e z : Row) : Row := fun k => rs z * (e k - mean e - xh z k * mean (fun k => e k * xh z k))

/-- The derivative through the mean square, in the reference. -/
def half (e z : Row) : EReal :=
  Ideal.div ((∑ k, zc z k * e k) * (Ideal.ofBits FTy.f32 0xBF000000#32 * Ideal.div (rs z) (ms z))) (Ideal.ofBits FTy.f32 0x44800000#32)
/-- … times twice the row less its mean. -/
def back (e z : Row) : Row := fun k => half e z * (Ideal.ofBits FTy.f32 0x40000000#32 * zc z k)
/-- The gradient of the row, as the reference writes it. -/
def gradR (e z : Row) : Row := fun k =>
  e k * rs z + back e z k
    + Ideal.div ((∑ k, -(e k * rs z)) + ∑ k, -(back e z k)) (Ideal.ofBits FTy.f32 0x44800000#32)

/-- The kernel's gradient of the row from the cotangent of the SiLU. -/
def dz1 (d z g b : Row) : Row := grad (fun k => dz2 d z g b k * g k) z

theorem ofBits_1024 : Ideal.ofBits .f32 0x44800000#32 = ((1024 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num

/-- The mean of a row of real numbers. -/
theorem mean_coe (f : Fin 1024 → ℝ) : mean (fun k => (f k : EReal)) = (((∑ k, f k) * 1024⁻¹ : ℝ) : EReal) := by
  unfold mean
  rw [ofBits_1024, Ideal.div_coe (by norm_num), EReal.coe_mul, coe_sum]
  norm_num

/-- What the norm is made of, over real numbers. -/
theorem norm_real (f : Fin 1024 → ℝ) : ∃ (c : Fin 1024 → ℝ) (a s : ℝ), (∑ k, c k) = 0 ∧ 0 < a ∧ s * s * a = 1
    ∧ zc (fun k => (f k : EReal)) = (fun k => (c k : EReal)) ∧ ms (fun k => (f k : EReal)) = (a : EReal)
    ∧ rs (fun k => (f k : EReal)) = (s : EReal) := by
  set c : Fin 1024 → ℝ := fun k => f k - (∑ k, f k) * 1024⁻¹ with hc
  set a : ℝ := (∑ k, c k * c k) * 1024⁻¹ + AttnReal.eps with ha
  have hz : zc (fun k => (f k : EReal)) = (fun k => (c k : EReal)) := by
    funext k
    unfold zc
    rw [mean_coe, ← EReal.coe_sub]
  have hm : ms (fun k => (f k : EReal)) = (a : EReal) := by
    unfold ms
    rw [hz, AttnReal.ofBits_eps]
    simp only [← EReal.coe_mul]
    rw [mean_coe, ← EReal.coe_add]
  have hp : 0 < a := by
    have h0 : 0 ≤ ∑ k, c k * c k := Finset.sum_nonneg fun k _ => mul_self_nonneg _
    have := AttnReal.eps_pos
    positivity
  refine ⟨c, a, (√a)⁻¹, ?_, hp, ?_, hz, hm, ?_⟩
  · rw [hc, Finset.sum_sub_distrib, Finset.sum_const, Finset.card_univ, Fintype.card_fin]
    simp only [nsmul_eq_mul]
    push_cast
    ring
  · rw [← mul_inv, Real.mul_self_sqrt hp.le]; exact inv_mul_cancel₀ hp.ne'
  · unfold rs
    rw [hm, Ideal.rsqrt_coe, if_neg (by linarith), if_neg (by linarith)]

/-- The logistic function of a real number is a real number. -/
theorem sg_real (x : ℝ) : ∃ y : ℝ, sg (x : EReal) = (y : EReal) := ⟨_, Lift.div_one_add_exp x⟩

/-- The scaled and shifted row is real. -/
theorem z2_real (f g b : Fin 1024 → ℝ) (k : Fin 1024) :
    IsReal (z2 (fun k => (f k : EReal)) (fun k => (g k : EReal)) (fun k => (b k : EReal)) k) := by
  obtain ⟨c, a, s, -, -, -, hz, -, hs⟩ := norm_real f
  unfold z2 xh
  rw [hz, hs]
  exact (((IsReal.coe _).mul (IsReal.coe _)).mul (IsReal.coe _)).add (IsReal.coe _)

/-- The two writings of the cotangent through the SiLU. -/
theorem dz2_eq (d f g b : Fin 1024 → ℝ) (k : Fin 1024) :
    dz2R (fun k => (d k : EReal)) (fun k => (f k : EReal)) (fun k => (g k : EReal)) (fun k => (b k : EReal)) k
      = dz2 (fun k => (d k : EReal)) (fun k => (f k : EReal)) (fun k => (g k : EReal)) (fun k => (b k : EReal)) k := by
  unfold dz2R dz2
  obtain ⟨x, hx⟩ := z2_real f g b k
  rw [hx]
  obtain ⟨y, hy⟩ := sg_real x
  rw [hy]
  have : (d k * y + x * d k * (y * (1 - y)) : ℝ) = d k * (y * (1 + x * (1 - y))) := by ring
  show (d k : EReal) * (y : EReal) + (x : EReal) * (d k : EReal) * ((y * (1 - y) : ℝ) : EReal) = (d k : EReal) * ((y * (1 + x * (1 - y)) : ℝ) : EReal)
  exact_mod_cast congrArg Real.toEReal this

/-- It is real. -/
theorem dz2_real (d f g b : Fin 1024 → ℝ) (k : Fin 1024) :
    IsReal (dz2 (fun k => (d k : EReal)) (fun k => (f k : EReal)) (fun k => (g k : EReal)) (fun k => (b k : EReal)) k) := by
  unfold dz2
  obtain ⟨x, hx⟩ := z2_real f g b k
  rw [hx]
  obtain ⟨y, hy⟩ := sg_real x
  rw [hy]
  exact (IsReal.coe _).mul ((IsReal.coe _).mul (IsReal.one.add ((IsReal.coe _).mul (IsReal.one.sub (IsReal.coe _)))))

/-- The two writings of the row's gradient. -/
theorem grad_eq (e f : Fin 1024 → ℝ) (k : Fin 1024) :
    gradR (fun k => (e k : EReal)) (fun k => (f k : EReal)) k = grad (fun k => (e k : EReal)) (fun k => (f k : EReal)) k := by
  obtain ⟨c, a, s, h0, hp, h1, hz, hm, hs⟩ := norm_real f
  have hr : ∀ x : ℝ, Ideal.div (x : EReal) (1024 : ℝ) = ((x * 1024⁻¹ : ℝ) : EReal) := fun x => by
    rw [Ideal.div_coe (by norm_num), EReal.coe_mul]; norm_num
  have hh : half (fun k => (e k : EReal)) (fun k => (f k : EReal)) = (((∑ k, c k * e k) * (-(1 / 2) * (s * a⁻¹)) * 1024⁻¹ : ℝ) : EReal) := by
    unfold half
    rw [hz, hm, hs, ofBits_neg_half, ofBits_1024, Ideal.div_coe hp.ne']
    simp only [← EReal.coe_mul, ← coe_sum, one_div, ← EReal.coe_inv]
    rw [hr]
  have hb : back (fun k => (e k : EReal)) (fun k => (f k : EReal))
      = fun k => (((∑ k, c k * e k) * (-(1 / 2) * (s * a⁻¹)) * 1024⁻¹ * (2 * c k) : ℝ) : EReal) := by
    funext k
    unfold back
    rw [hh, hz, ofBits_two]
    simp only [← EReal.coe_mul]
  unfold gradR grad xh
  rw [hb, hz, hs, ofBits_1024]
  simp only [← EReal.coe_mul, ← EReal.coe_neg, ← coe_sum, ← EReal.coe_add, mean_coe, hr, ← EReal.coe_sub]
  refine congrArg Real.toEReal ?_
  have ha : a⁻¹ = s * s := (eq_inv_of_mul_eq_one_left h1).symm
  rw [ha]
  have e1 : ∑ k, -((∑ k, c k * e k) * (-(1 / 2) * (s * (s * s))) * 1024⁻¹ * (2 * c k)) = 0 := by
    rw [Finset.sum_neg_distrib, ← Finset.mul_sum, ← Finset.mul_sum, h0]; ring
  have e2 : ∑ k, -(e k * s) = -((∑ k, e k) * s) := by rw [Finset.sum_neg_distrib, Finset.sum_mul]
  have e3 : ∑ k, e k * (c k * s) = (∑ k, c k * e k) * s := by
    rw [Finset.sum_mul]; exact Finset.sum_congr rfl fun k _ => by ring
  rw [e1, e2, e3]
  ring

end Cert.ConvLnForm

end
-- ==== Proof.ConvLn.Rows.lean ====
module

public import proofs.«01_k».proof.Proof.Gen.ConvLnIdeal.Value
public import proofs.«01_k».proof.Proof.ConvLn.Formula
public import Idealize.ShloMosaic.Lib.Pipeline.ValueKit
public import Idealize.ShloMosaic.Lib.Pointwise
public import Idealize.ShloMosaic.Lib.Claim

/-! # What the body computes, row by row -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvLnIdeal.Rows

open Cert.ConvLnIdeal Cert.ConvLnIdeal.Gen Cert.ConvLnForm

variable (z : FVec Ideal S256x1024 .f32) (d : FVec Ideal S256x1024 .bf16) (g b : FVec Ideal S1x1024 .f32) (p : Fin 256)

/-- A row of a block. -/
abbrev row {φ : FTy} (x : FVec Ideal S256x1024 φ) (p : Fin 256) : Row := fun k => (x (Idealize.ShloMosaic.ix2 p k) : EReal)
/-- The one row of a scale or a shift. -/
abbrev only (x : FVec Ideal S1x1024 .f32) : Row := fun k => (x (Idealize.ShloMosaic.ix2 0 k) : EReal)

theorem zc_at (q : Fin 1024) : (k0_pay4 (F := Ideal) z (Idealize.ShloMosaic.ix2 p q) : EReal) = zc (row z p) q := by
  pointwise [k0_pay4, zc, mean]

theorem rs_at (q : Fin 1) : (k0_pay5 (F := Ideal) z (Idealize.ShloMosaic.ix2 p q) : EReal) = rs (row z p) := by
  unfold rs ms mean
  pointwise [k0_pay5]
  simp only [zc_at]

theorem xh_at (q : Fin 1024) : (k0_pay6 (F := Ideal) z (Idealize.ShloMosaic.ix2 p q) : EReal) = xh (row z p) q := by
  unfold xh
  pointwise [k0_pay6]
  simp only [zc_at, rs_at]

/-- The derivative of the SiLU. -/
theorem silu_at (q : Fin 1024) : (k0_pay8 (F := Ideal) z g b (Idealize.ShloMosaic.ix2 p q) : EReal)
    = sg (z2 (row z p) (only g) (only b) q) * (1 + z2 (row z p) (only g) (only b) q * (1 - sg (z2 (row z p) (only g) (only b) q))) := by
  unfold sg z2
  pointwise [k0_pay8]
  simp only [xh_at, zero_sub]

/-- The cotangent of the scaled and shifted row. -/
theorem dz2_at (q : Fin 1024) : (k0_pay9 (F := Ideal) (k0_pay7 d) (k0_pay8 z g b) (Idealize.ShloMosaic.ix2 p q) : EReal)
    = dz2 (row d p) (row z p) (only g) (only b) q := by
  unfold dz2
  pointwise [k0_pay9, k0_pay7]
  simp only [silu_at]

/-- The gradient of the row. -/
theorem dz1_at (q : Fin 1024) : (k0_pay10 (F := Ideal) (k0_pay5 z) (k0_pay6 z) (k0_pay7 d) (k0_pay8 z g b) g (Idealize.ShloMosaic.ix2 p q) : EReal)
    = dz1 (row d p) (row z p) (only g) (only b) q := by
  unfold dz1 grad mean
  pointwise [k0_pay10]
  simp only [dz2_at, rs_at, xh_at]

/-- What the block adds to the scale's gradient. -/
theorem dlg_at (a : FVec Ideal S1x1024 .f32) (y : Fin 1) (q : Fin 1024) :
    (k0_pay15 (F := Ideal) (k0_pay6 z) (k0_pay7 d) (k0_pay8 z g b) a (Idealize.ShloMosaic.ix2 y q) : EReal)
      = a (Idealize.ShloMosaic.ix2 y q) + ∑ p : Fin 256, dz2 (row d p) (row z p) (only g) (only b) q * xh (row z p) q := by
  pointwise [k0_pay15]
  simp only [dz2_at, xh_at]

/-- … to the shift's. -/
theorem dlb_at (a : FVec Ideal S1x1024 .f32) (y : Fin 1) (q : Fin 1024) :
    (k0_pay16 (F := Ideal) (k0_pay7 d) (k0_pay8 z g b) a (Idealize.ShloMosaic.ix2 y q) : EReal)
      = a (Idealize.ShloMosaic.ix2 y q) + ∑ p : Fin 256, dz2 (row d p) (row z p) (only g) (only b) q := by
  pointwise [k0_pay16]
  simp only [dz2_at]

/-- … to the bias's. -/
theorem dbias_at (a : FVec Ideal S1x1024 .f32) (y : Fin 1) (q : Fin 1024) :
    (k0_pay17 (F := Ideal) (k0_pay10 (k0_pay5 z) (k0_pay6 z) (k0_pay7 d) (k0_pay8 z g b) g) a (Idealize.ShloMosaic.ix2 y q) : EReal)
      = a (Idealize.ShloMosaic.ix2 y q) + ∑ p : Fin 256, dz1 (row d p) (row z p) (only g) (only b) q := by
  pointwise [k0_pay17]
  simp only [dz1_at]

end Cert.ConvLnIdeal.Rows
end
-- ==== Proof.ConvLn.Kernel.lean ====
module

public import proofs.«01_k».proof.Proof.ConvLn.Rows
public import Idealize.ShloMosaic.Lib.Pipeline.ValueKit
public import Idealize.ShloMosaic.Lib.Pointwise
public import Idealize.ShloMosaic.Lib.Claim

/-! # The kernel's four results as whole arrays -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvLnIdeal.Array

open Cert.ConvLnIdeal Cert.ConvLnIdeal.Gen Cert.ConvLnIdeal.Rows Cert.ConvLnForm

variable (m : (ℓ : Loc nD τ sig) → Buf (Elt Ideal) ℓ)

/-- Every window's block index at every point. -/
theorem idx : ∀ t : Fin cfg0.N, win0_4.index t = ![t.val, 0] ∧ win0_5.index t = ![t.val, 0] ∧ win0_6.index t = ![0, 0]
    ∧ win0_7.index t = ![0, 0] ∧ win0_8.index t = ![t.val, 0] ∧ win0_10.index t = ![0, 0] ∧ win0_11.index t = ![0, 0]
    ∧ win0_12.index t = ![0, 0] ∧ t.val < 16 :=
  (by decide +kernel : ∀ t : Fin grid0.N, _)

/-- A row of the convolution's output. -/
def zR (c : Dev nD) (n : Fin 4096) : Row := fun k => (V m c main_v229 (Idealize.ShloMosaic.ix2 n k) : EReal)
/-- A row of the cotangent. -/
def dR (c : Dev nD) (n : Fin 4096) : Row := fun k => (m ((c : Thread nD τ).loc main_arg5) (Idealize.ShloMosaic.ix2 n k) : EReal)
/-- The scale. -/
def gR (c : Dev nD) : Row := fun k => (m ((c : Thread nD τ).loc main_arg3) (Idealize.ShloMosaic.ix1 k) : EReal)
/-- The shift. -/
def bR (c : Dev nD) : Row := fun k => (m ((c : Thread nD τ).loc main_arg4) (Idealize.ShloMosaic.ix1 k) : EReal)

theorem entryD (c : Dev nD) (i : S4096x1024.Idx) : (V m c main_v231 i : EReal) = m ((c : Thread nD τ).loc main_arg5) i := by
  unfold V
  after_results
  pointwise

theorem entryG (c : Dev nD) (k : Fin 1024) : (V m c main_v232 (Idealize.ShloMosaic.ix2 0 k) : EReal) = gR m c k := by
  unfold V gR
  after_results
  pointwise

theorem entryB (c : Dev nD) (k : Fin 1024) : (V m c main_v233 (Idealize.ShloMosaic.ix2 0 k) : EReal) = bR m c k := by
  unfold V bR
  after_results
  pointwise

/-- The gradient of the convolution's output. -/
def arrZ (c : Dev nD) : FVec Ideal S4096x1024 .f32 := fun i => dz1 (dR m c (i 0)) (zR m c (i 0)) (gR m c) (bR m c) (i 1)
/-- … of the bias, block by block of 256 rows. -/
def arrBias (c : Dev nD) : FVec Ideal S1x1024 .f32 := fun i =>
  ∑ s : Fin 16, ∑ p : Fin 256, dz1 (dR m c ⟨s.val * 256 + p.val, by omega⟩) (zR m c ⟨s.val * 256 + p.val, by omega⟩) (gR m c) (bR m c) (i 1)
/-- … of the scale. -/
def arrG (c : Dev nD) : FVec Ideal S1x1024 .f32 := fun i =>
  ∑ s : Fin 16, ∑ p : Fin 256, dz2 (dR m c ⟨s.val * 256 + p.val, by omega⟩) (zR m c ⟨s.val * 256 + p.val, by omega⟩) (gR m c) (bR m c) (i 1)
    * xh (zR m c ⟨s.val * 256 + p.val, by omega⟩) (i 1)
/-- … of the shift. -/
def arrB (c : Dev nD) : FVec Ideal S1x1024 .f32 := fun i =>
  ∑ s : Fin 16, ∑ p : Fin 256, dz2 (dR m c ⟨s.val * 256 + p.val, by omega⟩) (zR m c ⟨s.val * 256 + p.val, by omega⟩) (gR m c) (bR m c) (i 1)

variable (c : Dev nD) (t : Fin cfg0.N) (ht : t.val < 16)

theorem blkZ (p : Fin 256) : row (φ := .f32) (iblk m c 4 t) p = zR m c ⟨t.val * 256 + p.val, by omega⟩ := by
  funext k
  unfold row zR
  simp only [iblk]
  blk_simp
  blk_ext [idx t]

theorem blkD (p : Fin 256) : row (φ := .bf16) (iblk m c 5 t) p = dR m c ⟨t.val * 256 + p.val, by omega⟩ := by
  funext k
  unfold row dR
  refine Eq.trans ?_ (entryD m c _)
  simp only [iblk]
  blk_simp
  blk_ext [idx t]

theorem blkG : only (iblk m c 6 t) = gR m c := by
  funext k
  refine Eq.trans ?_ (entryG m c k)
  unfold only
  simp only [iblk]
  blk_simp
  blk_ext [idx t]

theorem blkB : only (iblk m c 7 t) = bR m c := by
  funext k
  refine Eq.trans ?_ (entryB m c k)
  unfold only
  simp only [iblk]
  blk_simp
  blk_ext [idx t]

include ht in
theorem pointZ (p : Fin 256) (q : Fin 1024) :
    (k0_pay10 (F := Ideal) (k0_pay5 (iblk m c 4 t)) (k0_pay6 (iblk m c 4 t)) (k0_pay7 (iblk m c 5 t)) (k0_pay8 (iblk m c 4 t) (iblk m c 6 t) (iblk m c 7 t)) (iblk m c 6 t) (Idealize.ShloMosaic.ix2 p q) : EReal)
      = arrZ m c (((cfg0.win 8).blk t).view.emb (Idealize.ShloMosaic.ix2 p q)) := by
  refine (dz1_at (iblk m c 4 t) (iblk m c 5 t) (iblk m c 6 t) (iblk m c 7 t) p q).trans ?_
  rw [blkZ m c t ht, blkD m c t ht, blkG, blkB]
  refine Eq.trans (b := arrZ m c (Idealize.ShloMosaic.ix2 ⟨t.val * 256 + p.val, by omega⟩ q)) rfl (congrArg (arrZ m c) ?_)
  blk_ext [idx t]

set_option maxHeartbeats 4000000 in
theorem finalZ : (dats m 0 c).arrAt 8 (cfgs 0).N = arrZ m c := by
  refine (dats m 0 c).arrAt_eq_of_covers 8 _ (by decide +kernel) fun t _ y => ?_
  blk_simp
  rw [after0_8]
  have ht : t.val < 16 := t.isLt
  rcases Nat.eq_zero_or_pos t.val with h | h
  · rw [outsAt0_A m c t (by omega)]
    frame_out
    rw [Idealize.ShloMosaic.ValueIdx.eq_ix2 (n0 := 256) (n1 := 1024) y]
    exact pointZ m c t ht (y 0) (y 1)
  · rw [outsAt0_B m c t (by omega)]
    frame_out
    rw [Idealize.ShloMosaic.ValueIdx.eq_ix2 (n0 := 256) (n1 := 1024) y]
    exact pointZ m c t ht (y 0) (y 1)

set_option maxHeartbeats 4000000 in
theorem finalBias : (dats m 0 c).arrAt 10 (cfgs 0).N = arrBias m c := by
  refine (dats m 0 c).arrAt_eq_of_after_last 10 t0_15 (by decide +kernel) _ fun j => ?_
  blk_simp
  rw [after0_10, Pipeline.eq_sum_fin_of_reset_step_apply_last (fun n h => (outsAt0 m c n h).2.2.1) 16 (fun _ => 0)
      (fun t j => ∑ p : Fin 256, dz1 (dR m c ⟨t.val * 256 + p.val, by have : t.val < 16 := t.isLt; omega⟩) (zR m c ⟨t.val * 256 + p.val, by have : t.val < 16 := t.isLt; omega⟩) (gR m c) (bR m c) (j 1))
      (fun t h j => by
        have ht : t.val < 16 := t.isLt
        rw [outsAt0_A m c t (by omega)]; frame_out
        rw [Idealize.ShloMosaic.ValueIdx.eq_ix2 (n0 := 1) (n1 := 1024) j]
        refine (dbias_at (iblk m c 4 t) (iblk m c 5 t) (iblk m c 6 t) (iblk m c 7 t) _ (j 0) (j 1)).trans ?_
        simp only [blkZ m c t ht, blkD m c t ht, blkG, blkB]
        pointwise [k0_pay12])
      (fun t h j => by
        have ht : t.val < 16 := t.isLt
        rw [outsAt0_B m c t (by omega)]; frame_out
        rw [Idealize.ShloMosaic.ValueIdx.eq_ix2 (n0 := 1) (n1 := 1024) j]
        refine (dbias_at (iblk m c 4 t) (iblk m c 5 t) (iblk m c 6 t) (iblk m c 7 t) _ (j 0) (j 1)).trans ?_
        simp only [blkZ m c t ht, blkD m c t ht, blkG, blkB]
        rfl)
      (le_of_eq N_0) t0_15 rfl j, zero_add]
  rfl

set_option maxHeartbeats 4000000 in
theorem finalG : (dats m 0 c).arrAt 11 (cfgs 0).N = arrG m c := by
  refine (dats m 0 c).arrAt_eq_of_after_last 11 t0_15 (by decide +kernel) _ fun j => ?_
  blk_simp
  rw [after0_11, Pipeline.eq_sum_fin_of_reset_step_apply_last (fun n h => (outsAt0 m c n h).2.2.2.1) 16 (fun _ => 0)
      (fun t j => ∑ p : Fin 256, dz2 (dR m c ⟨t.val * 256 + p.val, by have : t.val < 16 := t.isLt; omega⟩) (zR m c ⟨t.val * 256 + p.val, by have : t.val < 16 := t.isLt; omega⟩) (gR m c) (bR m c) (j 1) * xh (zR m c ⟨t.val * 256 + p.val, by have : t.val < 16 := t.isLt; omega⟩) (j 1))
      (fun t h j => by
        have ht : t.val < 16 := t.isLt
        rw [outsAt0_A m c t (by omega)]; frame_out
        rw [Idealize.ShloMosaic.ValueIdx.eq_ix2 (n0 := 1) (n1 := 1024) j]
        refine (dlg_at (iblk m c 4 t) (iblk m c 5 t) (iblk m c 6 t) (iblk m c 7 t) _ (j 0) (j 1)).trans ?_
        simp only [blkZ m c t ht, blkD m c t ht, blkG, blkB]
        pointwise [k0_pay13])
      (fun t h j => by
        have ht : t.val < 16 := t.isLt
        rw [outsAt0_B m c t (by omega)]; frame_out
        rw [Idealize.ShloMosaic.ValueIdx.eq_ix2 (n0 := 1) (n1 := 1024) j]
        refine (dlg_at (iblk m c 4 t) (iblk m c 5 t) (iblk m c 6 t) (iblk m c 7 t) _ (j 0) (j 1)).trans ?_
        simp only [blkZ m c t ht, blkD m c t ht, blkG, blkB]
        rfl)
      (le_of_eq N_0) t0_15 rfl j, zero_add]
  rfl

set_option maxHeartbeats 4000000 in
theorem finalB : (dats m 0 c).arrAt 12 (cfgs 0).N = arrB m c := by
  refine (dats m 0 c).arrAt_eq_of_after_last 12 t0_15 (by decide +kernel) _ fun j => ?_
  blk_simp
  rw [after0_12, Pipeline.eq_sum_fin_of_reset_step_apply_last (fun n h => (outsAt0 m c n h).2.2.2.2) 16 (fun _ => 0)
      (fun t j => ∑ p : Fin 256, dz2 (dR m c ⟨t.val * 256 + p.val, by have : t.val < 16 := t.isLt; omega⟩) (zR m c ⟨t.val * 256 + p.val, by have : t.val < 16 := t.isLt; omega⟩) (gR m c) (bR m c) (j 1))
      (fun t h j => by
        have ht : t.val < 16 := t.isLt
        rw [outsAt0_A m c t (by omega)]; frame_out
        rw [Idealize.ShloMosaic.ValueIdx.eq_ix2 (n0 := 1) (n1 := 1024) j]
        refine (dlb_at (iblk m c 4 t) (iblk m c 5 t) (iblk m c 6 t) (iblk m c 7 t) _ (j 0) (j 1)).trans ?_
        simp only [blkZ m c t ht, blkD m c t ht, blkG, blkB]
        pointwise [k0_pay14])
      (fun t h j => by
        have ht : t.val < 16 := t.isLt
        rw [outsAt0_B m c t (by omega)]; frame_out
        rw [Idealize.ShloMosaic.ValueIdx.eq_ix2 (n0 := 1) (n1 := 1024) j]
        refine (dlb_at (iblk m c 4 t) (iblk m c 5 t) (iblk m c 6 t) (iblk m c 7 t) _ (j 0) (j 1)).trans ?_
        simp only [blkZ m c t ht, blkD m c t ht, blkG, blkB]
        rfl)
      (le_of_eq N_0) t0_15 rfl j, zero_add]
  rfl

end Cert.ConvLnIdeal.Array
end
-- ==== Proof.ConvLn.Reference.lean ====
module

public import proofs.«01_k».proof.Proof.Gen.ConvLnRefIdeal.Run
public import proofs.«01_k».proof.Proof.Gen.ConvLnRefIdeal.Read
public import proofs.«01_k».proof.Proof.ConvLn.Formula
public import Idealize.ShloMosaic.Lib.KernelVsHost
public import Idealize.ShloMosaic.Lib.Pipeline.ValueKit
public import Idealize.ShloMosaic.Lib.Pointwise
public import Idealize.ShloMosaic.Lib.Claim

/-! # The reference, row by row -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvLnRefIdeal.Array

open Cert.ConvLnRefIdeal Cert.ConvLnRefIdeal.Gen Cert.ConvLnRefIdeal.Read Cert.ConvLnForm Cert.Lift

variable (x0 : FVec Ideal S4096x5632 .f32) (x1 : FVec Ideal S31x1024 .f32) (x2 x3 x4 : FVec Ideal S1024 .f32) (x5 : FVec Ideal S4096x1024 .f32)

/-- A row of the convolution's output. -/
def zrow (n : Fin 4096) : Row := fun k => (val_main_v229 (F := Ideal) x0 x1 x2 (Idealize.ShloMosaic.ix2 n k) : EReal)
/-- A row of the cotangent. -/
abbrev drow (n : Fin 4096) : Row := fun k => (x5 (Idealize.ShloMosaic.ix2 n k) : EReal)
/-- A scale or a shift. -/
abbrev vec (x : FVec Ideal S1024 .f32) : Row := fun k => (x (Idealize.ShloMosaic.ix1 k) : EReal)

theorem zc_at (n : Fin 4096) (k : Fin 1024) : (val_main_v244 (F := Ideal) x0 x1 x2 (Idealize.ShloMosaic.ix2 n k) : EReal) = zc (zrow x0 x1 x2 n) k := by
  pointwise [val_main_v244, val_main_v243, val_main_v233, val_main_v232, val_main_cst_3, val_main_v231, val_main_v230, val_main_cst_2, zc, mean, zrow]

theorem zc_at' (n : Fin 4096) (k : Fin 1024) : (val_main_v235 (F := Ideal) x0 x1 x2 (Idealize.ShloMosaic.ix2 n k) : EReal) = zc (zrow x0 x1 x2 n) k := by
  pointwise [val_main_v235, val_main_v234, val_main_v233, val_main_v232, val_main_cst_3, val_main_v231, val_main_v230, val_main_cst_2, zc, mean, zrow]

theorem ms_at (n : Fin 4096) (k : Fin 1) : (val_main_v246 (F := Ideal) x0 x1 x2 (Idealize.ShloMosaic.ix2 n k) : EReal) = ms (zrow x0 x1 x2 n) := by
  unfold ms mean
  pointwise [val_main_v246, val_main_v245, val_main_cst_7, val_main_v242, val_main_v241, val_main_cst_6, val_main_v240, val_main_v239, val_main_cst_5, val_main_v236]
  simp only [zc_at']

theorem rs_at (n : Fin 4096) (k : Fin 1) : (val_main_v247 (F := Ideal) x0 x1 x2 (Idealize.ShloMosaic.ix2 n k) : EReal) = rs (zrow x0 x1 x2 n) := by
  unfold rs
  pointwise [val_main_v247]
  simp only [ms_at]

theorem xh_at (n : Fin 4096) (k : Fin 1024) : (val_main_v252 (F := Ideal) x0 x1 x2 (Idealize.ShloMosaic.ix2 n k) : EReal) = xh (zrow x0 x1 x2 n) k := by
  unfold xh
  pointwise [val_main_v252, val_main_v251]
  simp only [zc_at, rs_at]

theorem z2_at (n : Fin 4096) (k : Fin 1024) : (val_main_v258 (F := Ideal) x0 x1 x2 x3 x4 (Idealize.ShloMosaic.ix2 n k) : EReal) = z2 (zrow x0 x1 x2 n) (vec x3) (vec x4) k := by
  unfold z2
  pointwise [val_main_v258, val_main_v257, val_main_v256, val_main_v255, val_main_v254, val_main_v253]
  simp only [xh_at]

theorem dz2_at (n : Fin 4096) (k : Fin 1024) : (val_main_v260 (F := Ideal) x0 x1 x2 x3 x4 x5 (Idealize.ShloMosaic.ix2 n k) : EReal)
    = dz2R (drow x5 n) (zrow x0 x1 x2 n) (vec x3) (vec x4) k := by
  unfold dz2R sg
  pointwise [val_main_call0_v0, val_main_call0_v1, val_main_call0_cst, val_main_call0_v2, val_main_call0_v3, val_main_call0_cst_0, val_main_call0_v4, val_main_v259_2, val_main_call0_cst_1, val_main_call0_v6, val_main_call0_v7, val_main_v259_1, val_main_v259_0, val_main_call1_v0, val_main_call1_v1, val_main_call1_v2, val_main_v260]
  simp only [z2_at]

/-- The cotangent of the normed row. -/
def erow (n : Fin 4096) : Row := fun k => dz2R (drow x5 n) (zrow x0 x1 x2 n) (vec x3) (vec x4) k * vec x3 k

theorem e_at (n : Fin 4096) (k : Fin 1024) : (val_main_v268 (F := Ideal) x0 x1 x2 x3 x4 x5 (Idealize.ShloMosaic.ix2 n k) : EReal) = erow x0 x1 x2 x3 x4 x5 n k := by
  unfold erow
  pointwise [val_main_v268, val_main_v267, val_main_v253]
  simp only [dz2_at]

theorem er_at (n : Fin 4096) (k : Fin 1024) : (val_main_v274 (F := Ideal) x0 x1 x2 x3 x4 x5 (Idealize.ShloMosaic.ix2 n k) : EReal)
    = erow x0 x1 x2 x3 x4 x5 n k * rs (zrow x0 x1 x2 n) := by
  pointwise [val_main_v274, val_main_v273]
  simp only [e_at, rs_at]

theorem half_at (n : Fin 4096) : (val_main_v281 (F := Ideal) x0 x1 x2 x3 x4 x5 (Idealize.ShloMosaic.ix1 n) : EReal)
    = half (erow x0 x1 x2 x3 x4 x5 n) (zrow x0 x1 x2 n) := by
  unfold half
  pointwise [val_main_v281, val_main_cst_16, val_main_v280, val_main_v279, val_main_cst_15, val_main_v275, val_main_v272, val_main_v271, val_main_cst_13, val_main_v270,
    val_main_v250, val_main_v249, val_main_cst_8, val_main_v248]
  simp only [Fin.sum_univ_one, e_at, zc_at, rs_at, ms_at]

theorem back_at (n : Fin 4096) (k : Fin 1024) : (val_main_v283 (F := Ideal) x0 x1 x2 x3 x4 x5 (Idealize.ShloMosaic.ix2 n k) : EReal)
    = back (erow x0 x1 x2 x3 x4 x5 n) (zrow x0 x1 x2 n) k := by
  unfold back
  pointwise [val_main_v283, val_main_v282, val_main_v238, val_main_v237, val_main_cst_4]
  simp only [half_at, zc_at']

/-- The gradient of the convolution's output. -/
theorem dz1_at (n : Fin 4096) (k : Fin 1024) : (val_main_v293 (F := Ideal) x0 x1 x2 x3 x4 x5 (Idealize.ShloMosaic.ix2 n k) : EReal)
    = gradR (erow x0 x1 x2 x3 x4 x5 n) (zrow x0 x1 x2 n) k := by
  unfold gradR
  pointwise [val_main_v293, val_main_v292, val_main_v291, val_main_cst_19, val_main_v290, val_main_v289, val_main_cst_18, val_main_v288, val_main_v287, val_main_v286, val_main_v285,
    val_main_cst_17, val_main_v284, val_main_v278, val_main_v277, val_main_cst_14, val_main_v276]
  simp only [Fin.sum_univ_one, er_at, back_at]

/-- The gradient of the bias. -/
theorem dbias_at (y : Fin 1) (k : Fin 1024) : (val_main_v297 (F := Ideal) x0 x1 x2 x3 x4 x5 (Idealize.ShloMosaic.ix2 y k) : EReal)
    = ∑ n : Fin 4096, gradR (erow x0 x1 x2 x3 x4 x5 n) (zrow x0 x1 x2 n) k := by
  pointwise [val_main_v297, val_main_v296, val_main_cst_21, val_main_v295, val_main_v294, val_main_cst_20]
  simp only [Fin.sum_univ_one, dz1_at]

/-- The gradient of the scale. -/
theorem dlg_at (y : Fin 1) (k : Fin 1024) : (val_main_v298 (F := Ideal) x0 x1 x2 x3 x4 x5 (Idealize.ShloMosaic.ix2 y k) : EReal)
    = ∑ n : Fin 4096, xh (zrow x0 x1 x2 n) k * dz2R (drow x5 n) (zrow x0 x1 x2 n) (vec x3) (vec x4) k := by
  pointwise [val_main_v298, val_main_v269, val_main_cst_12, val_main_v266, val_main_v265, val_main_cst_11, val_main_v264]
  simp only [Fin.sum_univ_one, xh_at, dz2_at]

/-- The gradient of the shift. -/
theorem dlb_at (y : Fin 1) (k : Fin 1024) : (val_main_v299 (F := Ideal) x0 x1 x2 x3 x4 x5 (Idealize.ShloMosaic.ix2 y k) : EReal)
    = ∑ n : Fin 4096, dz2R (drow x5 n) (zrow x0 x1 x2 n) (vec x3) (vec x4) k := by
  pointwise [val_main_v299, val_main_v263, val_main_cst_10, val_main_v262, val_main_v261, val_main_cst_9]
  simp only [Fin.sum_univ_one, dz2_at]

end Cert.ConvLnRefIdeal.Array
end
-- ==== Proof.ConvLn.Real.lean ====
module

public import proofs.«01_k».proof.Proof.ConvLn.Reference
public import Idealize.ShloMosaic.Lib.Pipeline.ValueKit
public import Idealize.ShloMosaic.Lib.Pointwise
public import Idealize.ShloMosaic.Lib.Claim

/-! # The convolution's output is real where its arguments are -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvLnRefIdeal.Array

open Cert.ConvLnRefIdeal Cert.ConvLnRefIdeal.Gen Cert.ConvLnRefIdeal.Read Cert.ConvLnForm Cert.Lift

variable (x0 : FVec Ideal S4096x5632 .f32) (x1 : FVec Ideal S31x1024 .f32) (x2 : FVec Ideal S1024 .f32)
  (h0 : Finite (x0 : S4096x5632.Idx → EReal)) (h1 : Finite (x1 : S31x1024.Idx → EReal)) (h2 : Finite (x2 : S1024.Idx → EReal))

include h0 in
/-- The gated linear unit. -/
theorem glu_real (i : S4096x1024.Idx) : IsReal (val_main_v8 (F := Ideal) x0 i : EReal) := by
  rw [Idealize.ShloMosaic.ValueIdx.eq_ix2 (n0 := 4096) (n1 := 1024) i]
  pointwise [val_main_v0, val_main_v1, val_main_v2, val_main_v3, val_main_cst, val_main_v4, val_main_v5, val_main_cst_0, val_main_v6, val_main_v7, val_main_v8]
  refine (h0 _).mul ?_
  generalize hj : x0 _ = y
  obtain ⟨a, rfl⟩ : IsReal y := hj ▸ h0 _
  exact ⟨_, div_one_add_exp a⟩

include h0 in
/-- … with the zeros before it. -/
theorem pad_real (i : S4126x1024.Idx) : IsReal (val_main_v10 (F := Ideal) x0 i : EReal) := by
  rw [Idealize.ShloMosaic.ValueIdx.eq_ix2 (n0 := 4126) (n1 := 1024) i]
  have hg := glu_real x0 h0
  pointwise [val_main_v10, val_main_v9, val_main_cst_1]
  by_cases h : (i 0).val < 30
  · rw [dif_pos h]; exact IsReal.zero
  · rw [dif_neg h]; exact hg _

include h0 h1 h2 in
/-- The convolution's output. -/
theorem z_real (n : Fin 4096) (k : Fin 1024) : IsReal (zrow x0 x1 x2 n k) := by
  have hg := pad_real x0 h0
  unfold zrow
  pointwise [val_main_v11, val_main_v12, val_main_v13, val_main_v14, val_main_v15, val_main_v16, val_main_v17, val_main_v18,
    val_main_v19, val_main_v20, val_main_v21, val_main_v22, val_main_v23, val_main_v24, val_main_v25, val_main_v26,
    val_main_v27, val_main_v28, val_main_v29, val_main_v30, val_main_v31, val_main_v32, val_main_v33, val_main_v34,
    val_main_v35, val_main_v36, val_main_v37, val_main_v38, val_main_v39, val_main_v40, val_main_v41, val_main_v42,
    val_main_v43, val_main_v44, val_main_v45, val_main_v46, val_main_v47, val_main_v48, val_main_v49, val_main_v50,
    val_main_v51, val_main_v52, val_main_v53, val_main_v54, val_main_v55, val_main_v56, val_main_v57, val_main_v58,
    val_main_v59, val_main_v60, val_main_v61, val_main_v62, val_main_v63, val_main_v64, val_main_v65, val_main_v66,
    val_main_v67, val_main_v68, val_main_v69, val_main_v70, val_main_v71, val_main_v72, val_main_v73, val_main_v74,
    val_main_v75, val_main_v76, val_main_v77, val_main_v78, val_main_v79, val_main_v80, val_main_v81, val_main_v82,
    val_main_v83, val_main_v84, val_main_v85, val_main_v86, val_main_v87, val_main_v88, val_main_v89, val_main_v90,
    val_main_v91, val_main_v92, val_main_v93, val_main_v94, val_main_v95, val_main_v96, val_main_v97, val_main_v98,
    val_main_v99, val_main_v100, val_main_v101, val_main_v102, val_main_v103, val_main_v104, val_main_v105,
    val_main_v106, val_main_v107, val_main_v108, val_main_v109, val_main_v110, val_main_v111, val_main_v112,
    val_main_v113, val_main_v114, val_main_v115, val_main_v116, val_main_v117, val_main_v118, val_main_v119,
    val_main_v120, val_main_v121, val_main_v122, val_main_v123, val_main_v124, val_main_v125, val_main_v126,
    val_main_v127, val_main_v128, val_main_v129, val_main_v130, val_main_v131, val_main_v132, val_main_v133,
    val_main_v134, val_main_v135, val_main_v136, val_main_v137, val_main_v138, val_main_v139, val_main_v140,
    val_main_v141, val_main_v142, val_main_v143, val_main_v144, val_main_v145, val_main_v146, val_main_v147,
    val_main_v148, val_main_v149, val_main_v150, val_main_v151, val_main_v152, val_main_v153, val_main_v154,
    val_main_v155, val_main_v156, val_main_v157, val_main_v158, val_main_v159, val_main_v160, val_main_v161,
    val_main_v162, val_main_v163, val_main_v164, val_main_v165, val_main_v166, val_main_v167, val_main_v168,
    val_main_v169, val_main_v170, val_main_v171, val_main_v172, val_main_v173, val_main_v174, val_main_v175,
    val_main_v176, val_main_v177, val_main_v178, val_main_v179, val_main_v180, val_main_v181, val_main_v182,
    val_main_v183, val_main_v184, val_main_v185, val_main_v186, val_main_v187, val_main_v188, val_main_v189,
    val_main_v190, val_main_v191, val_main_v192, val_main_v193, val_main_v194, val_main_v195, val_main_v196,
    val_main_v197, val_main_v198, val_main_v199, val_main_v200, val_main_v201, val_main_v202, val_main_v203,
    val_main_v204, val_main_v205, val_main_v206, val_main_v207, val_main_v208, val_main_v209, val_main_v210,
    val_main_v211, val_main_v212, val_main_v213, val_main_v214, val_main_v215, val_main_v216, val_main_v217,
    val_main_v218, val_main_v219, val_main_v220, val_main_v221, val_main_v222, val_main_v223, val_main_v224,
    val_main_v225, val_main_v226, val_main_v227, val_main_v228, val_main_v229]
  iterate 31 refine IsReal.add ?_ ?_
  all_goals first | exact h2 _ | exact (h1 _).mul (hg _)

end Cert.ConvLnRefIdeal.Array
end
-- ==== Proof.ConvLn.Equation.lean ====
module

public import proofs.«01_k».proof.Defs
public import proofs.«01_k».proof.Proof.Gen.Pre_finite_convln
public import proofs.«01_k».proof.Proof.ConvLn.Kernel
public import proofs.«01_k».proof.Proof.ConvLn.Real
public import Idealize.ShloMosaic.Lib.Pipeline.ValueKit
public import Idealize.ShloMosaic.Lib.Pointwise
public import Idealize.ShloMosaic.Lib.Claim

/-! # The two sides end with equal results -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvLnClaim

open Cert.ConvLnForm Cert.Lift

section
variable (d z g b : Row) (hd : ∀ k, IsReal (d k)) (hz : ∀ k, IsReal (z k)) (hg : ∀ k, IsReal (g k)) (hb : ∀ k, IsReal (b k))
include hd hz hg hb

/-- The two writings of the cotangent through the SiLU, over rows of real numbers. -/
theorem silu_eq (k : Fin 1024) : dz2R d z g b k = dz2 d z g b k := by
  choose d' hd' using hd
  choose z' hz' using hz
  choose g' hg' using hg
  choose b' hb' using hb
  obtain rfl := funext hd'
  obtain rfl := funext hz'
  obtain rfl := funext hg'
  obtain rfl := funext hb'
  exact dz2_eq d' z' g' b' k

/-- The two writings of the row's gradient. -/
theorem row_eq (k : Fin 1024) : gradR (fun k => dz2R d z g b k * g k) z k = dz1 d z g b k := by
  simp only [silu_eq d z g b hd hz hg hb]
  choose d' hd' using hd
  choose z' hz' using hz
  choose g' hg' using hg
  choose b' hb' using hb
  obtain rfl := funext hd'
  obtain rfl := funext hz'
  obtain rfl := funext hg'
  obtain rfl := funext hb'
  have he : ∀ k, IsReal (dz2 (fun k => (d' k : EReal)) (fun k => (z' k : EReal)) (fun k => (g' k : EReal)) (fun k => (b' k : EReal)) k * (g' k : EReal)) :=
    fun k => (dz2_real d' z' g' b' k).mul (IsReal.coe _)
  choose e he' using he
  unfold dz1
  rw [funext he']
  exact grad_eq e z' k

end

section
variable (m : (ℓ : Loc ConvLnIdeal.nD ConvLnIdeal.τ ConvLnIdeal.sig) → Buf (Elt Ideal) ℓ) (c : Dev ConvLnIdeal.nD)

set_option maxHeartbeats 4000000 in
/-- The convolution's output the call is given is the reference's. -/
theorem entryZ : ConvLnIdeal.Gen.V m c ConvLnIdeal.main_v229
    = (ConvLnRefIdeal.Read.val_main_v229 (F := Ideal) (m ((c.tc : Thread ConvLnIdeal.nD ConvLnIdeal.τ).loc ConvLnIdeal.main_arg0)) (m ((c.tc : Thread ConvLnIdeal.nD ConvLnIdeal.τ).loc ConvLnIdeal.main_arg1)) (m ((c.tc : Thread ConvLnIdeal.nD ConvLnIdeal.τ).loc ConvLnIdeal.main_arg2)) : FVec Ideal ConvLnIdeal.S4096x1024 .f32) := by
  simp only [ConvLnIdeal.Gen.V, ConvLnIdeal.Gen.hostOps0]
  after_results_simp
  rfl

theorem zR_eq (n : Fin 4096) : ConvLnIdeal.Array.zR m c n = ConvLnRefIdeal.Array.zrow (m ((c.tc : Thread ConvLnIdeal.nD ConvLnIdeal.τ).loc ConvLnIdeal.main_arg0)) (m ((c.tc : Thread ConvLnIdeal.nD ConvLnIdeal.τ).loc ConvLnIdeal.main_arg1)) (m ((c.tc : Thread ConvLnIdeal.nD ConvLnIdeal.τ).loc ConvLnIdeal.main_arg2)) n := by
  funext k
  unfold ConvLnIdeal.Array.zR ConvLnRefIdeal.Array.zrow
  rw [entryZ]

variable (f0 : Finite ((m ((c.tc : Thread ConvLnIdeal.nD ConvLnIdeal.τ).loc ConvLnIdeal.main_arg0)) : FVec Ideal ConvLnRefIdeal.S4096x5632 .f32)) (f1 : Finite ((m ((c.tc : Thread ConvLnIdeal.nD ConvLnIdeal.τ).loc ConvLnIdeal.main_arg1)) : FVec Ideal ConvLnRefIdeal.S31x1024 .f32))
  (f2 : Finite ((m ((c.tc : Thread ConvLnIdeal.nD ConvLnIdeal.τ).loc ConvLnIdeal.main_arg2)) : FVec Ideal ConvLnRefIdeal.S1024 .f32)) (f3 : Finite ((m ((c.tc : Thread ConvLnIdeal.nD ConvLnIdeal.τ).loc ConvLnIdeal.main_arg3)) : FVec Ideal ConvLnRefIdeal.S1024 .f32))
  (f4 : Finite ((m ((c.tc : Thread ConvLnIdeal.nD ConvLnIdeal.τ).loc ConvLnIdeal.main_arg4)) : FVec Ideal ConvLnRefIdeal.S1024 .f32)) (f5 : Finite ((m ((c.tc : Thread ConvLnIdeal.nD ConvLnIdeal.τ).loc ConvLnIdeal.main_arg5)) : FVec Ideal ConvLnRefIdeal.S4096x1024 .f32))
include f0 f1 f2 f3 f4 f5

theorem d_eq (n : Fin 4096) (k : Fin 1024) :
    dz2 (ConvLnIdeal.Array.dR m c n) (ConvLnIdeal.Array.zR m c n) (ConvLnIdeal.Array.gR m c) (ConvLnIdeal.Array.bR m c) k
      = dz2R (ConvLnRefIdeal.Array.drow (m ((c.tc : Thread ConvLnIdeal.nD ConvLnIdeal.τ).loc ConvLnIdeal.main_arg5)) n) (ConvLnRefIdeal.Array.zrow (m ((c.tc : Thread ConvLnIdeal.nD ConvLnIdeal.τ).loc ConvLnIdeal.main_arg0)) (m ((c.tc : Thread ConvLnIdeal.nD ConvLnIdeal.τ).loc ConvLnIdeal.main_arg1)) (m ((c.tc : Thread ConvLnIdeal.nD ConvLnIdeal.τ).loc ConvLnIdeal.main_arg2)) n) (ConvLnRefIdeal.Array.vec (m ((c.tc : Thread ConvLnIdeal.nD ConvLnIdeal.τ).loc ConvLnIdeal.main_arg3))) (ConvLnRefIdeal.Array.vec (m ((c.tc : Thread ConvLnIdeal.nD ConvLnIdeal.τ).loc ConvLnIdeal.main_arg4))) k := by
  rw [zR_eq]
  exact (silu_eq _ _ _ _ (fun _ => f5 _) (fun _ => ConvLnRefIdeal.Array.z_real _ _ _ f0 f1 f2 n _) (fun _ => f3 _) (fun _ => f4 _) k).symm

theorem r_eq (n : Fin 4096) (k : Fin 1024) :
    dz1 (ConvLnIdeal.Array.dR m c n) (ConvLnIdeal.Array.zR m c n) (ConvLnIdeal.Array.gR m c) (ConvLnIdeal.Array.bR m c) k
      = gradR (ConvLnRefIdeal.Array.erow (m ((c.tc : Thread ConvLnIdeal.nD ConvLnIdeal.τ).loc ConvLnIdeal.main_arg0)) (m ((c.tc : Thread ConvLnIdeal.nD ConvLnIdeal.τ).loc ConvLnIdeal.main_arg1)) (m ((c.tc : Thread ConvLnIdeal.nD ConvLnIdeal.τ).loc ConvLnIdeal.main_arg2)) (m ((c.tc : Thread ConvLnIdeal.nD ConvLnIdeal.τ).loc ConvLnIdeal.main_arg3)) (m ((c.tc : Thread ConvLnIdeal.nD ConvLnIdeal.τ).loc ConvLnIdeal.main_arg4)) (m ((c.tc : Thread ConvLnIdeal.nD ConvLnIdeal.τ).loc ConvLnIdeal.main_arg5)) n) (ConvLnRefIdeal.Array.zrow (m ((c.tc : Thread ConvLnIdeal.nD ConvLnIdeal.τ).loc ConvLnIdeal.main_arg0)) (m ((c.tc : Thread ConvLnIdeal.nD ConvLnIdeal.τ).loc ConvLnIdeal.main_arg1)) (m ((c.tc : Thread ConvLnIdeal.nD ConvLnIdeal.τ).loc ConvLnIdeal.main_arg2)) n) k := by
  rw [zR_eq]
  exact (row_eq _ _ _ _ (fun _ => f5 _) (fun _ => ConvLnRefIdeal.Array.z_real _ _ _ f0 f1 f2 n _) (fun _ => f3 _) (fun _ => f4 _) k).symm

theorem eqZ : ConvLnIdeal.Array.arrZ m c = ConvLnRefIdeal.Read.val_main_v293 (F := Ideal) (m ((c.tc : Thread ConvLnIdeal.nD ConvLnIdeal.τ).loc ConvLnIdeal.main_arg0)) (m ((c.tc : Thread ConvLnIdeal.nD ConvLnIdeal.τ).loc ConvLnIdeal.main_arg1)) (m ((c.tc : Thread ConvLnIdeal.nD ConvLnIdeal.τ).loc ConvLnIdeal.main_arg2)) (m ((c.tc : Thread ConvLnIdeal.nD ConvLnIdeal.τ).loc ConvLnIdeal.main_arg3)) (m ((c.tc : Thread ConvLnIdeal.nD ConvLnIdeal.τ).loc ConvLnIdeal.main_arg4)) (m ((c.tc : Thread ConvLnIdeal.nD ConvLnIdeal.τ).loc ConvLnIdeal.main_arg5)) := by
  refine funext (α := ConvLnIdeal.S4096x1024.Idx) fun i => ?_
  obtain ⟨n, k, rfl⟩ : ∃ (n : Fin 4096) (k : Fin 1024), i = Idealize.ShloMosaic.ix2 n k := ⟨i 0, i 1, Idealize.ShloMosaic.ValueIdx.eq_ix2 (n0 := 4096) (n1 := 1024) i⟩
  exact (r_eq m c f0 f1 f2 f3 f4 f5 n k).trans (ConvLnRefIdeal.Array.dz1_at _ _ _ _ _ _ n k).symm

theorem eqBias : ConvLnIdeal.Array.arrBias m c = ConvLnRefIdeal.Read.val_main_v297 (F := Ideal) (m ((c.tc : Thread ConvLnIdeal.nD ConvLnIdeal.τ).loc ConvLnIdeal.main_arg0)) (m ((c.tc : Thread ConvLnIdeal.nD ConvLnIdeal.τ).loc ConvLnIdeal.main_arg1)) (m ((c.tc : Thread ConvLnIdeal.nD ConvLnIdeal.τ).loc ConvLnIdeal.main_arg2)) (m ((c.tc : Thread ConvLnIdeal.nD ConvLnIdeal.τ).loc ConvLnIdeal.main_arg3)) (m ((c.tc : Thread ConvLnIdeal.nD ConvLnIdeal.τ).loc ConvLnIdeal.main_arg4)) (m ((c.tc : Thread ConvLnIdeal.nD ConvLnIdeal.τ).loc ConvLnIdeal.main_arg5)) := by
  refine funext (α := ConvLnIdeal.S1x1024.Idx) fun i => ?_
  obtain ⟨y, k, rfl⟩ : ∃ (y : Fin 1) (k : Fin 1024), i = Idealize.ShloMosaic.ix2 y k := ⟨i 0, i 1, Idealize.ShloMosaic.ValueIdx.eq_ix2 (n0 := 1) (n1 := 1024) i⟩
  refine Eq.trans ?_ (ConvLnRefIdeal.Array.dbias_at _ _ _ _ _ _ y k).symm
  exact Fin.sum_mul_add_congr fun s p hl => r_eq m c f0 f1 f2 f3 f4 f5 _ k

theorem eqG : ConvLnIdeal.Array.arrG m c = ConvLnRefIdeal.Read.val_main_v298 (F := Ideal) (m ((c.tc : Thread ConvLnIdeal.nD ConvLnIdeal.τ).loc ConvLnIdeal.main_arg0)) (m ((c.tc : Thread ConvLnIdeal.nD ConvLnIdeal.τ).loc ConvLnIdeal.main_arg1)) (m ((c.tc : Thread ConvLnIdeal.nD ConvLnIdeal.τ).loc ConvLnIdeal.main_arg2)) (m ((c.tc : Thread ConvLnIdeal.nD ConvLnIdeal.τ).loc ConvLnIdeal.main_arg3)) (m ((c.tc : Thread ConvLnIdeal.nD ConvLnIdeal.τ).loc ConvLnIdeal.main_arg4)) (m ((c.tc : Thread ConvLnIdeal.nD ConvLnIdeal.τ).loc ConvLnIdeal.main_arg5)) := by
  refine funext (α := ConvLnIdeal.S1x1024.Idx) fun i => ?_
  obtain ⟨y, k, rfl⟩ : ∃ (y : Fin 1) (k : Fin 1024), i = Idealize.ShloMosaic.ix2 y k := ⟨i 0, i 1, Idealize.ShloMosaic.ValueIdx.eq_ix2 (n0 := 1) (n1 := 1024) i⟩
  refine Eq.trans ?_ (ConvLnRefIdeal.Array.dlg_at _ _ _ _ _ _ y k).symm
  exact Fin.sum_mul_add_congr fun s p hl => (congrArg₂ (· * ·) (d_eq m c f0 f1 f2 f3 f4 f5 _ k) (congrArg (fun z => xh z k) (zR_eq m c _))).trans (mul_comm _ _)

theorem eqB : ConvLnIdeal.Array.arrB m c = ConvLnRefIdeal.Read.val_main_v299 (F := Ideal) (m ((c.tc : Thread ConvLnIdeal.nD ConvLnIdeal.τ).loc ConvLnIdeal.main_arg0)) (m ((c.tc : Thread ConvLnIdeal.nD ConvLnIdeal.τ).loc ConvLnIdeal.main_arg1)) (m ((c.tc : Thread ConvLnIdeal.nD ConvLnIdeal.τ).loc ConvLnIdeal.main_arg2)) (m ((c.tc : Thread ConvLnIdeal.nD ConvLnIdeal.τ).loc ConvLnIdeal.main_arg3)) (m ((c.tc : Thread ConvLnIdeal.nD ConvLnIdeal.τ).loc ConvLnIdeal.main_arg4)) (m ((c.tc : Thread ConvLnIdeal.nD ConvLnIdeal.τ).loc ConvLnIdeal.main_arg5)) := by
  refine funext (α := ConvLnIdeal.S1x1024.Idx) fun i => ?_
  obtain ⟨y, k, rfl⟩ : ∃ (y : Fin 1) (k : Fin 1024), i = Idealize.ShloMosaic.ix2 y k := ⟨i 0, i 1, Idealize.ShloMosaic.ValueIdx.eq_ix2 (n0 := 1) (n1 := 1024) i⟩
  refine Eq.trans ?_ (ConvLnRefIdeal.Array.dlb_at _ _ _ _ _ _ y k).symm
  exact Fin.sum_mul_add_congr fun s p hl => d_eq m c f0 f1 f2 f3 f4 f5 _ k

end

set_option maxHeartbeats 4000000 in
/-- The gradient of the layer norm and the SiLU: kernel and reference end with equal results. -/
theorem algebraic : algebraic_ConvLnIdeal_ConvLnRefIdeal_pre_finite_convln := by
  pair_intro
  · run_from ConvLnIdeal.Gen.run_main m g
  · run_from ConvLnRefIdeal.Value.run m' g'
    · have hf := hpre c
      obtain ⟨h0, h1, h2, h3, h4, h5⟩ := hagree c
      have l0 : StableHlo.launchContents m' c (Proc.devRef .tc ConvLnRefIdeal.main_arg0) = (m ((c.tc : Thread ConvLnIdeal.nD ConvLnIdeal.τ).loc ConvLnIdeal.main_arg0)) := h0
      have l1 : StableHlo.launchContents m' c (Proc.devRef .tc ConvLnRefIdeal.main_arg1) = (m ((c.tc : Thread ConvLnIdeal.nD ConvLnIdeal.τ).loc ConvLnIdeal.main_arg1)) := h1
      have l2 : StableHlo.launchContents m' c (Proc.devRef .tc ConvLnRefIdeal.main_arg2) = (m ((c.tc : Thread ConvLnIdeal.nD ConvLnIdeal.τ).loc ConvLnIdeal.main_arg2)) := h2
      have l3 : StableHlo.launchContents m' c (Proc.devRef .tc ConvLnRefIdeal.main_arg3) = (m ((c.tc : Thread ConvLnIdeal.nD ConvLnIdeal.τ).loc ConvLnIdeal.main_arg3)) := h3
      have l4 : StableHlo.launchContents m' c (Proc.devRef .tc ConvLnRefIdeal.main_arg4) = (m ((c.tc : Thread ConvLnIdeal.nD ConvLnIdeal.τ).loc ConvLnIdeal.main_arg4)) := h4
      have l5 : StableHlo.launchContents m' c (Proc.devRef .tc ConvLnRefIdeal.main_arg5) = (m ((c.tc : Thread ConvLnIdeal.nD ConvLnIdeal.τ).loc ConvLnIdeal.main_arg5)) := h5
      rw [ConvLnRefIdeal.Read.val_main_v293_eq, l0, l1, l2, l3, l4, l5]
      exact ((ConvLnIdeal.Array.finalZ m c).trans (eqZ m c (finite_of_test _ _ hf.1) (finite_of_test _ _ hf.2.1)
        (finite_of_test _ _ hf.2.2.1) (finite_of_test _ _ hf.2.2.2.1) (finite_of_test _ _ hf.2.2.2.2.1) (finite_of_test _ _ hf.2.2.2.2.2))).symm
    · have hf := hpre c
      obtain ⟨h0, h1, h2, h3, h4, h5⟩ := hagree c
      have l0 : StableHlo.launchContents m' c (Proc.devRef .tc ConvLnRefIdeal.main_arg0) = (m ((c.tc : Thread ConvLnIdeal.nD ConvLnIdeal.τ).loc ConvLnIdeal.main_arg0)) := h0
      have l1 : StableHlo.launchContents m' c (Proc.devRef .tc ConvLnRefIdeal.main_arg1) = (m ((c.tc : Thread ConvLnIdeal.nD ConvLnIdeal.τ).loc ConvLnIdeal.main_arg1)) := h1
      have l2 : StableHlo.launchContents m' c (Proc.devRef .tc ConvLnRefIdeal.main_arg2) = (m ((c.tc : Thread ConvLnIdeal.nD ConvLnIdeal.τ).loc ConvLnIdeal.main_arg2)) := h2
      have l3 : StableHlo.launchContents m' c (Proc.devRef .tc ConvLnRefIdeal.main_arg3) = (m ((c.tc : Thread ConvLnIdeal.nD ConvLnIdeal.τ).loc ConvLnIdeal.main_arg3)) := h3
      have l4 : StableHlo.launchContents m' c (Proc.devRef .tc ConvLnRefIdeal.main_arg4) = (m ((c.tc : Thread ConvLnIdeal.nD ConvLnIdeal.τ).loc ConvLnIdeal.main_arg4)) := h4
      have l5 : StableHlo.launchContents m' c (Proc.devRef .tc ConvLnRefIdeal.main_arg5) = (m ((c.tc : Thread ConvLnIdeal.nD ConvLnIdeal.τ).loc ConvLnIdeal.main_arg5)) := h5
      rw [ConvLnRefIdeal.Read.val_main_v297_eq, l0, l1, l2, l3, l4, l5]
      exact ((ConvLnIdeal.Array.finalBias m c).trans (eqBias m c (finite_of_test _ _ hf.1) (finite_of_test _ _ hf.2.1)
        (finite_of_test _ _ hf.2.2.1) (finite_of_test _ _ hf.2.2.2.1) (finite_of_test _ _ hf.2.2.2.2.1) (finite_of_test _ _ hf.2.2.2.2.2))).symm
    · have hf := hpre c
      obtain ⟨h0, h1, h2, h3, h4, h5⟩ := hagree c
      have l0 : StableHlo.launchContents m' c (Proc.devRef .tc ConvLnRefIdeal.main_arg0) = (m ((c.tc : Thread ConvLnIdeal.nD ConvLnIdeal.τ).loc ConvLnIdeal.main_arg0)) := h0
      have l1 : StableHlo.launchContents m' c (Proc.devRef .tc ConvLnRefIdeal.main_arg1) = (m ((c.tc : Thread ConvLnIdeal.nD ConvLnIdeal.τ).loc ConvLnIdeal.main_arg1)) := h1
      have l2 : StableHlo.launchContents m' c (Proc.devRef .tc ConvLnRefIdeal.main_arg2) = (m ((c.tc : Thread ConvLnIdeal.nD ConvLnIdeal.τ).loc ConvLnIdeal.main_arg2)) := h2
      have l3 : StableHlo.launchContents m' c (Proc.devRef .tc ConvLnRefIdeal.main_arg3) = (m ((c.tc : Thread ConvLnIdeal.nD ConvLnIdeal.τ).loc ConvLnIdeal.main_arg3)) := h3
      have l4 : StableHlo.launchContents m' c (Proc.devRef .tc ConvLnRefIdeal.main_arg4) = (m ((c.tc : Thread ConvLnIdeal.nD ConvLnIdeal.τ).loc ConvLnIdeal.main_arg4)) := h4
      have l5 : StableHlo.launchContents m' c (Proc.devRef .tc ConvLnRefIdeal.main_arg5) = (m ((c.tc : Thread ConvLnIdeal.nD ConvLnIdeal.τ).loc ConvLnIdeal.main_arg5)) := h5
      rw [ConvLnRefIdeal.Read.val_main_v298_eq, l0, l1, l2, l3, l4, l5]
      exact ((ConvLnIdeal.Array.finalG m c).trans (eqG m c (finite_of_test _ _ hf.1) (finite_of_test _ _ hf.2.1)
        (finite_of_test _ _ hf.2.2.1) (finite_of_test _ _ hf.2.2.2.1) (finite_of_test _ _ hf.2.2.2.2.1) (finite_of_test _ _ hf.2.2.2.2.2))).symm
    · have hf := hpre c
      obtain ⟨h0, h1, h2, h3, h4, h5⟩ := hagree c
      have l0 : StableHlo.launchContents m' c (Proc.devRef .tc ConvLnRefIdeal.main_arg0) = (m ((c.tc : Thread ConvLnIdeal.nD ConvLnIdeal.τ).loc ConvLnIdeal.main_arg0)) := h0
      have l1 : StableHlo.launchContents m' c (Proc.devRef .tc ConvLnRefIdeal.main_arg1) = (m ((c.tc : Thread ConvLnIdeal.nD ConvLnIdeal.τ).loc ConvLnIdeal.main_arg1)) := h1
      have l2 : StableHlo.launchContents m' c (Proc.devRef .tc ConvLnRefIdeal.main_arg2) = (m ((c.tc : Thread ConvLnIdeal.nD ConvLnIdeal.τ).loc ConvLnIdeal.main_arg2)) := h2
      have l3 : StableHlo.launchContents m' c (Proc.devRef .tc ConvLnRefIdeal.main_arg3) = (m ((c.tc : Thread ConvLnIdeal.nD ConvLnIdeal.τ).loc ConvLnIdeal.main_arg3)) := h3
      have l4 : StableHlo.launchContents m' c (Proc.devRef .tc ConvLnRefIdeal.main_arg4) = (m ((c.tc : Thread ConvLnIdeal.nD ConvLnIdeal.τ).loc ConvLnIdeal.main_arg4)) := h4
      have l5 : StableHlo.launchContents m' c (Proc.devRef .tc ConvLnRefIdeal.main_arg5) = (m ((c.tc : Thread ConvLnIdeal.nD ConvLnIdeal.τ).loc ConvLnIdeal.main_arg5)) := h5
      rw [ConvLnRefIdeal.Read.val_main_v299_eq, l0, l1, l2, l3, l4, l5]
      exact ((ConvLnIdeal.Array.finalB m c).trans (eqB m c (finite_of_test _ _ hf.1) (finite_of_test _ _ hf.2.1)
        (finite_of_test _ _ hf.2.2.1) (finite_of_test _ _ hf.2.2.2.1) (finite_of_test _ _ hf.2.2.2.2.1) (finite_of_test _ _ hf.2.2.2.2.2))).symm

end Cert.ConvLnClaim
end
-- ==== Proof.Attn.RefRows.lean ====
module

public import proofs.«01_k».proof.Proof.Gen.AttnRefIdeal.Read
public import proofs.«01_k».proof.Proof.Attn.Real
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnRef.Rows

open Cert.AttnRefIdeal Cert.AttnRefIdeal.Gen Cert.AttnRefIdeal.Read Cert.AttnReal Cert.Lift

/-! Real arguments as arrays of extended reals. -/

/-- The projected rows. -/
def X0 (p : Fin 4096 → Fin 5632 → ℝ) : (⟨S4096x5632, .f32⟩ : BufTy).Contents (Elt Ideal) := fun i => ((p (i 0) (i 1) : ℝ) : EReal)
/-- A gain. -/
def X1 (g : Fin 64 → ℝ) : (⟨S64, .f32⟩ : BufTy).Contents (Elt Ideal) := fun i => ((g (i 0) : ℝ) : EReal)
/-- The sinks. -/
def X3 (s : Fin 16 → ℝ) : (⟨S16, .f32⟩ : BufTy).Contents (Elt Ideal) := fun i => ((s (i 0) : ℝ) : EReal)
/-- The bias of the scores. -/
def X4 (b : Fin 16 → Fin 128 → Fin 256 → ℝ) : (⟨S16x128x256, .f32⟩ : BufTy).Contents (Elt Ideal) :=
  fun i => ((b (i 0) (i 1) (i 2) : ℝ) : EReal)
/-- The cotangent. -/
def X5 (o : Fin 4096 → Fin 1024 → ℝ) : (⟨S4096x1024, .f32⟩ : BufTy).Contents (Elt Ideal) := fun i => ((o (i 0) (i 1) : ℝ) : EReal)

/-- The row of a group's four heads laid one after the other. -/
def row (g : Fin 4) (a : Fin 128) : Fin 512 := ⟨g.val * 128 + a.val, by omega⟩

/-- One token's query of one head. -/
def headR (p : Fin 4096 → Fin 5632 → ℝ) (r : Fin 4096) (h : Fin 16) (d : Fin 64) : ℝ := p r ⟨2048 + (64 * h.val + d.val), by omega⟩

/-- The queries of a block of tokens, a group's heads one after the other. -/
def qryR (p : Fin 4096 → Fin 5632 → ℝ) (n : Fin 32) (h : Fin 4) (s : Fin 512) (d : Fin 64) : ℝ :=
  p ⟨128 * n.val + s.val % 128, by omega⟩ ⟨2048 + (256 * h.val + 64 * (s.val / 128) + d.val), by omega⟩

/-- The window of a block: the block before it and the block, the first block's window beginning with zeros. -/
def winR (p : Fin 4096 → Fin 5632 → ℝ) (b : ℕ) (hb : b + 256 ≤ 5632) (n : Fin 32) (h : Fin 4) (j : Fin 256) (d : Fin 64) : ℝ :=
  if hz : n.val = 0 ∧ j.val < 128 then 0
  else p ⟨128 * n.val + j.val - 128, by omega⟩ ⟨b + (64 * h.val + d.val), by omega⟩

/-- The window's keys. -/
def keyR (p : Fin 4096 → Fin 5632 → ℝ) : Fin 32 → Fin 4 → Fin 256 → Fin 64 → ℝ := winR p 3072 (by omega)
/-- The window's values. -/
def valR (p : Fin 4096 → Fin 5632 → ℝ) : Fin 32 → Fin 4 → Fin 256 → Fin 64 → ℝ := winR p 3328 (by omega)

variable (p : Fin 4096 → Fin 5632 → ℝ) (gq gk : Fin 64 → ℝ)

theorem v1_at (r : Fin 4096) (h : Fin 16) (d : Fin 64) :
    val_main_v1 (F := Ideal) (X0 p) (Idealize.ShloMosaic.ix3 r h d) = ((headR p r h d : ℝ) : EReal) := by
  rw [val_main_v1_apply, val_main_v0_apply]
  unfold X0 headR
  congr 2
  · apply Fin.ext; show ((r.val * 16 + h.val) * 64 + d.val) / 1024 = r.val; omega
  · apply Fin.ext; show 2048 + ((r.val * 16 + h.val) * 64 + d.val) % 1024 = 2048 + (64 * h.val + d.val); omega

theorem v6_at (n : Fin 32) (a : Fin 128) (h : Fin 4) (d : Fin 64) :
    val_main_v6 (F := Ideal) (X0 p) (Idealize.ShloMosaic.ix4 n a h d)
      = ((p ⟨128 * n.val + a.val, by omega⟩ ⟨3072 + (64 * h.val + d.val), by omega⟩ : ℝ) : EReal) := by
  rw [val_main_v6_apply, val_main_v3_apply, val_main_v2_apply]
  unfold X0
  congr 2
  · apply Fin.ext; simp; omega
  · apply Fin.ext; simp; omega

theorem v13_at (n : Fin 32) (w : Fin 2) (a : Fin 128) (h : Fin 4) (d : Fin 64) :
    val_main_v13 (F := Ideal) (X0 p) (Idealize.ShloMosaic.ix5 n w a h d)
      = ((keyR p n h ⟨w.val * 128 + a.val, by omega⟩ d : ℝ) : EReal) := by
  pointwise [val_main_v13, val_main_v11, val_main_v10, val_main_v9, val_main_v8, val_main_cst, val_main_v12]
  unfold keyR winR
  by_cases hw : w.val < 1
  · rw [dif_pos hw]
    by_cases hn : n.val < 1
    · rw [dif_pos hn, dif_pos ⟨by omega, by show w.val * 128 + a.val < 128; omega⟩]; rfl
    · rw [dif_neg hn, v6_at, dif_neg (by rintro ⟨h0, _⟩; omega)]
      congr 2
      apply Fin.ext; show 128 * (n.val - 1) + a.val = 128 * n.val + (w.val * 128 + a.val) - 128; omega
  · rw [dif_neg hw, v6_at, dif_neg (by rintro ⟨_, h1⟩; have : w.val * 128 + a.val < 128 := h1; omega)]
    congr 2
    apply Fin.ext; show 128 * n.val + a.val = 128 * n.val + (w.val * 128 + a.val) - 128; omega

theorem v14_at (n : Fin 32) (a : Fin 128) (h : Fin 4) (d : Fin 64) :
    val_main_v14 (F := Ideal) (X0 p) (Idealize.ShloMosaic.ix4 n a h d)
      = ((p ⟨128 * n.val + a.val, by omega⟩ ⟨3328 + (64 * h.val + d.val), by omega⟩ : ℝ) : EReal) := by
  rw [val_main_v14_apply, val_main_v5_apply, val_main_v4_apply]
  unfold X0
  congr 2
  · apply Fin.ext; simp; omega
  · apply Fin.ext; simp; omega

theorem v21_at (n : Fin 32) (w : Fin 2) (a : Fin 128) (h : Fin 4) (d : Fin 64) :
    val_main_v21 (F := Ideal) (X0 p) (Idealize.ShloMosaic.ix5 n w a h d)
      = ((valR p n h ⟨w.val * 128 + a.val, by omega⟩ d : ℝ) : EReal) := by
  pointwise [val_main_v21, val_main_v19, val_main_v18, val_main_v17, val_main_v16, val_main_cst_0, val_main_v20]
  unfold valR winR
  by_cases hw : w.val < 1
  · rw [dif_pos hw]
    by_cases hn : n.val < 1
    · rw [dif_pos hn, dif_pos ⟨by omega, by show w.val * 128 + a.val < 128; omega⟩]; rfl
    · rw [dif_neg hn, v14_at, dif_neg (by rintro ⟨h0, _⟩; omega)]
      congr 2
      apply Fin.ext; show 128 * (n.val - 1) + a.val = 128 * n.val + (w.val * 128 + a.val) - 128; omega
  · rw [dif_neg hw, v14_at, dif_neg (by rintro ⟨_, h1⟩; have : w.val * 128 + a.val < 128 := h1; omega)]
    congr 2
    apply Fin.ext; show 128 * n.val + a.val = 128 * n.val + (w.val * 128 + a.val) - 128; omega

theorem v132_at (n : Fin 32) (j : Fin 256) (h : Fin 4) (d : Fin 64) :
    val_main_v132 (F := Ideal) (X0 p) (Idealize.ShloMosaic.ix4 n j h d) = ((valR p n h j d : ℝ) : EReal) := by
  pointwise [val_main_v132]
  refine (congrArg (val_main_v21 (F := Ideal) (X0 p)) (?_ : _ = Idealize.ShloMosaic.ix5 n (⟨j.val / 128, by omega⟩ : Fin 2) (⟨j.val % 128, by omega⟩ : Fin 128) h d)).trans
    ((v21_at p n ⟨j.val / 128, by omega⟩ ⟨j.val % 128, by omega⟩ h d).trans ?_)
  · blk_ext
  · congr 3; show j.val / 128 * 128 + j.val % 128 = j.val; omega

/-! The queries' norm. -/

theorem v28_at (r : Fin 4096) (h : Fin 16) (e : Fin 1) :
    val_main_v28 (F := Ideal) (X0 p) (Idealize.ShloMosaic.ix3 r h e) = ((msR (headR p r h) + eps : ℝ) : EReal) := by
  pointwise [val_main_v28, val_main_v26, val_main_v24, val_main_v23, val_main_cst_1, val_main_v22, val_main_v25, val_main_cst_2,
    val_main_v27, val_main_cst_3]
  simp only [v1_at, ofBits_64, ofBits_eps, ← EReal.coe_mul, ← coe_sum, div_real (show (64 : ℝ) ≠ 0 by norm_num), ← EReal.coe_add, Scalar.ofBits]
  rfl

theorem v29_at (r : Fin 4096) (h : Fin 16) (e : Fin 1) :
    val_main_v29 (F := Ideal) (X0 p) (Idealize.ShloMosaic.ix3 r h e) = ((rinvR (headR p r h) : ℝ) : EReal) := by
  pointwise [val_main_v29]
  rw [v28_at]
  exact rsqrt_real (ms_pos _)

theorem v32_at (r : Fin 4096) (h : Fin 16) (e : Fin 1) :
    val_main_v32 (F := Ideal) (X0 p) (Idealize.ShloMosaic.ix3 r h e)
      = ((-(1 / 2) * (rinvR (headR p r h) / (msR (headR p r h) + eps)) : ℝ) : EReal) := by
  pointwise [val_main_v32, val_main_v31, val_main_cst_4, val_main_v30]
  rw [v28_at, v29_at, div_real (ms_pos _).ne', ofBits_neg_half, ← EReal.coe_mul]

theorem v34_at (r : Fin 4096) (h : Fin 16) (d : Fin 64) :
    val_main_v34 (F := Ideal) (X0 p) (Idealize.ShloMosaic.ix3 r h d)
      = ((headR p r h d * rinvR (headR p r h) : ℝ) : EReal) := by
  pointwise [val_main_v34, val_main_v33]
  rw [v1_at, v29_at, ← EReal.coe_mul]

theorem v37_at (r : Fin 4096) (h : Fin 16) (d : Fin 64) :
    val_main_v37 (F := Ideal) (X0 p) (X1 gq) (Idealize.ShloMosaic.ix3 r h d)
      = ((nrmR (headR p r h) gq d : ℝ) : EReal) := by
  pointwise [val_main_v37, val_main_v36, val_main_v35]
  rw [v34_at, show X1 gq (Idealize.ShloMosaic.ix1 d) = ((gq d : ℝ) : EReal) from rfl, ← EReal.coe_mul]
  rfl

/-- One token's query of one head among the block's queries. -/
theorem head_eq (n : Fin 32) (a : Fin 128) (h g : Fin 4) (r : Fin 4096) (k : Fin 16) (hr : r.val = 128 * n.val + a.val)
    (hk : k.val = 4 * h.val + g.val) : headR p r k = qryR p n h (row g a) := by
  funext d
  unfold headR qryR row
  congr 1
  · apply Fin.ext; show r.val = 128 * n.val + (g.val * 128 + a.val) % 128; omega
  · apply Fin.ext; show 2048 + (64 * k.val + d.val) = 2048 + (256 * h.val + 64 * ((g.val * 128 + a.val) / 128) + d.val); omega

theorem v38_at (n : Fin 32) (a : Fin 128) (h g : Fin 4) (d : Fin 64) :
    val_main_v38 (F := Ideal) (X0 p) (X1 gq) (Idealize.ShloMosaic.ix5 n a h g d)
      = ((nrmR (qryR p n h (row g a)) gq d : ℝ) : EReal) := by
  pointwise [val_main_v38]
  refine (congrArg (val_main_v37 (F := Ideal) (X0 p) (X1 gq)) (?_ : _ = Idealize.ShloMosaic.ix3 (⟨128 * n.val + a.val, by omega⟩ : Fin 4096) (⟨4 * h.val + g.val, by omega⟩ : Fin 16) d)).trans
    ((v37_at p gq _ _ d).trans ?_)
  · blk_ext
  · rw [head_eq p n a h g _ _ rfl rfl]

/-! The keys' norm. -/

theorem v45_at (n : Fin 32) (w : Fin 2) (a : Fin 128) (h : Fin 4) (e : Fin 1) :
    val_main_v45 (F := Ideal) (X0 p) (Idealize.ShloMosaic.ix5 n w a h e)
      = ((msR (keyR p n h ⟨w.val * 128 + a.val, by omega⟩) + eps : ℝ) : EReal) := by
  pointwise [val_main_v45, val_main_v43, val_main_v41, val_main_v40, val_main_cst_5, val_main_v39, val_main_v42, val_main_cst_6,
    val_main_v44, val_main_cst_7]
  simp only [v13_at, ofBits_64, ofBits_eps, ← EReal.coe_mul, ← coe_sum, div_real (show (64 : ℝ) ≠ 0 by norm_num), ← EReal.coe_add, Scalar.ofBits]
  rfl

theorem v46_at (n : Fin 32) (w : Fin 2) (a : Fin 128) (h : Fin 4) (e : Fin 1) :
    val_main_v46 (F := Ideal) (X0 p) (Idealize.ShloMosaic.ix5 n w a h e)
      = ((rinvR (keyR p n h ⟨w.val * 128 + a.val, by omega⟩) : ℝ) : EReal) := by
  pointwise [val_main_v46]
  rw [v45_at]
  exact rsqrt_real (ms_pos _)

theorem v49_at (n : Fin 32) (w : Fin 2) (a : Fin 128) (h : Fin 4) (e : Fin 1) :
    val_main_v49 (F := Ideal) (X0 p) (Idealize.ShloMosaic.ix5 n w a h e)
      = ((-(1 / 2) * (rinvR (keyR p n h ⟨w.val * 128 + a.val, by omega⟩)
          / (msR (keyR p n h ⟨w.val * 128 + a.val, by omega⟩) + eps)) : ℝ) : EReal) := by
  pointwise [val_main_v49, val_main_v48, val_main_cst_8, val_main_v47]
  rw [v45_at, v46_at, div_real (ms_pos _).ne', ofBits_neg_half, ← EReal.coe_mul]

theorem v51_at (n : Fin 32) (w : Fin 2) (a : Fin 128) (h : Fin 4) (d : Fin 64) :
    val_main_v51 (F := Ideal) (X0 p) (Idealize.ShloMosaic.ix5 n w a h d)
      = ((keyR p n h ⟨w.val * 128 + a.val, by omega⟩ d * rinvR (keyR p n h ⟨w.val * 128 + a.val, by omega⟩) : ℝ) : EReal) := by
  pointwise [val_main_v51, val_main_v50]
  rw [v13_at, v46_at, ← EReal.coe_mul]

theorem v54_at (n : Fin 32) (w : Fin 2) (a : Fin 128) (h : Fin 4) (d : Fin 64) :
    val_main_v54 (F := Ideal) (X0 p) (X1 gk) (Idealize.ShloMosaic.ix5 n w a h d)
      = ((nrmR (keyR p n h ⟨w.val * 128 + a.val, by omega⟩) gk d : ℝ) : EReal) := by
  pointwise [val_main_v54, val_main_v53, val_main_v52]
  rw [v51_at, show X1 gk (Idealize.ShloMosaic.ix1 d) = ((gk d : ℝ) : EReal) from rfl, ← EReal.coe_mul]
  rfl

theorem v55_at (n : Fin 32) (j : Fin 256) (h : Fin 4) (d : Fin 64) :
    val_main_v55 (F := Ideal) (X0 p) (X1 gk) (Idealize.ShloMosaic.ix4 n j h d) = ((nrmR (keyR p n h j) gk d : ℝ) : EReal) := by
  pointwise [val_main_v55]
  refine (congrArg (val_main_v54 (F := Ideal) (X0 p) (X1 gk)) (?_ : _ = Idealize.ShloMosaic.ix5 n (⟨j.val / 128, by omega⟩ : Fin 2) (⟨j.val % 128, by omega⟩ : Fin 128) h d)).trans
    ((v54_at p gk n ⟨j.val / 128, by omega⟩ ⟨j.val % 128, by omega⟩ h d).trans ?_)
  · blk_ext
  · congr 4; show j.val / 128 * 128 + j.val % 128 = j.val; omega

end Cert.AttnRef.Rows
-- ==== Proof.Attn.RefProbs.lean ====
module

public import proofs.«01_k».proof.Proof.Attn.RefRows

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnRef.Probs

open Cert.AttnRefIdeal Cert.AttnRefIdeal.Gen Cert.AttnRefIdeal.Read Cert.AttnReal Cert.Lift Cert.AttnRef.Rows

/-- Block `n`'s token `a` sees the window's entry `j`. -/
def sees (n : Fin 32) (a : Fin 128) (j : Fin 256) : Prop := (val_main_v78 (F := Ideal) (Idealize.ShloMosaic.ix3 n a j) : BitVec 1) = 1#1

instance (n : Fin 32) (a : Fin 128) (j : Fin 256) : Decidable (sees n a j) := by unfold sees; infer_instance

/-- Whether a token of the block sees the window's entry by its distance. -/
def near (a j : ℕ) : BitVec 1 :=
  IntOp.andi (IntOp.cmpi CmpIPredicate.sge (IntOp.subi (IntOp.addi (BitVec.ofNat 32 a) 128#32) (BitVec.ofNat 32 j)) 0#32)
    (IntOp.cmpi CmpIPredicate.slt (IntOp.subi (IntOp.addi (BitVec.ofNat 32 a) 128#32) (BitVec.ofNat 32 j)) 128#32)

/-- Whether block `n` has the window's entry `j` at all. -/
def has (n j : ℕ) : BitVec 1 :=
  IntOp.cmpi CmpIPredicate.sge
    (IntOp.addi (IntOp.subi (IntOp.muli (BitVec.ofNat 32 n) 128#32) 128#32) (BitVec.ofNat 32 j)) 0#32

theorem sees_form (n : Fin 32) (a : Fin 128) (j : Fin 256) :
    (val_main_v78 (F := Ideal) (Idealize.ShloMosaic.ix3 n a j) : BitVec 1) = IntOp.andi (near a.val j.val) (has n.val j.val) := by
  pointwise [val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_c_14, val_main_c_13, val_main_c_12,
    val_main_c_11, val_main_c_10, val_main_c]
  rfl

theorem has_first : ∀ j : Fin 128, has 0 j.val = 0#1 := by decide +kernel
theorem has_own : ∀ n : Fin 32, ∀ a : Fin 128, has n.val (a.val + 128) = 1#1 := by decide +kernel
theorem near_own : ∀ a : Fin 128, near a.val (a.val + 128) = 1#1 := by decide +kernel

/-- The first block does not see what lies before it. -/
theorem not_sees {n : Fin 32} {a : Fin 128} {j : Fin 256} (hn : n.val = 0) (hj : j.val < 128) : ¬ sees n a j := by
  unfold sees
  rw [sees_form, hn, has_first ⟨j.val, hj⟩]
  generalize near a.val j.val = b
  revert b
  decide

/-- A token sees itself. -/
theorem sees_own (n : Fin 32) (a : Fin 128) : sees n a ⟨a.val + 128, by omega⟩ := by
  unfold sees
  rw [sees_form, has_own n a, near_own a]
  rfl

variable (p : Fin 4096 → Fin 5632 → ℝ) (gq gk : Fin 64 → ℝ) (sk : Fin 16 → ℝ) (bs : Fin 16 → Fin 128 → Fin 256 → ℝ)

/-- A score. -/
def scoreR (n : Fin 32) (h g : Fin 4) (a : Fin 128) (j : Fin 256) : ℝ :=
  (∑ d : Fin 64, nrmR (keyR p n h j) gk d * nrmR (qryR p n h (row g a)) gq d) * (1 / 8)
    + bs ⟨4 * h.val + g.val, by omega⟩ a j

theorem v59_at (n : Fin 32) (h g : Fin 4) (a : Fin 128) (j : Fin 256) :
    val_main_v59 (F := Ideal) (X0 p) (X1 gq) (X1 gk) (Idealize.ShloMosaic.ix5 n h g a j)
      = (((∑ d : Fin 64, nrmR (keyR p n h j) gk d * nrmR (qryR p n h (row g a)) gq d) * (1 / 8) : ℝ) : EReal) := by
  pointwise [val_main_v59, val_main_v58, val_main_cst_9, val_main_v57, val_main_v56]
  simp only [v55_at, v38_at, ofBits_eighth, ← EReal.coe_mul, ← coe_sum]

theorem v82_at (n : Fin 32) (h g : Fin 4) (a : Fin 128) (j : Fin 256) :
    val_main_v82 (F := Ideal) (X0 p) (X1 gq) (X1 gk) (X4 bs) (Idealize.ShloMosaic.ix5 n h g a j)
      = ((scoreR p gq gk bs n h g a j : ℝ) : EReal) := by
  pointwise [val_main_v82, val_main_v81, val_main_v80, val_main_v79]
  rw [v59_at]
  have hi : X4 bs (Idealize.ShloMosaic.ix3 (⟨h.val * 4 + g.val, by omega⟩ : Fin 16) a j)
      = ((bs ⟨4 * h.val + g.val, by omega⟩ a j : ℝ) : EReal) := by
    unfold X4
    congr 2
    apply Fin.ext; show h.val * 4 + g.val = 4 * h.val + g.val; omega
  refine (congrArg _ hi).trans ?_
  rw [← EReal.coe_add]
  rfl

theorem v84_at (n : Fin 32) (h g : Fin 4) (a : Fin 128) (j : Fin 256) :
    val_main_v84_0 (F := Ideal) (X0 p) (X1 gq) (X1 gk) (X4 bs) (Idealize.ShloMosaic.ix5 n h g a j)
      = if sees n a j then ((scoreR p gq gk bs n h g a j : ℝ) : EReal) else ⊥ := by
  pointwise [val_main_v84_0, val_main_v84_1, val_main_v83, val_main_call0_v2, val_main_call0_v0, val_main_cst_15]
  rw [v82_at]
  unfold Scalar.select sees
  rw [show (id (constant (F := Ideal) S_ FTy.f32 0xFF800000#32) : FVec Ideal S_ .f32) Idealize.ShloMosaic.ix0 = Ideal.ofBits FTy.f32 0xFF800000#32 from rfl,
    show Ideal.ofBits FTy.f32 0xFF800000#32 = ⊥ from by simp [Ideal.ofBits, Ideal.ieee]]
  rfl

theorem v87_at (n : Fin 32) (h g : Fin 4) (a : Fin 128) :
    val_main_v87 (F := Ideal) (X0 p) (X1 gq) (X1 gk) (X4 bs) (Idealize.ShloMosaic.ix4 n h g a)
      = Finset.univ.sup fun j : Fin 256 => if sees n a j then ((scoreR p gq gk bs n h g a j : ℝ) : EReal) else ⊥ := by
  pointwise [val_main_v87, val_main_cst_16]
  rw [show Ideal.ofBits FTy.f32 0xFF800000#32 = ⊥ from by simp [Ideal.ofBits, Ideal.ieee]]
  simp only [v84_at]
  rfl

/-- The largest score of a row is a real number, and one of the row's entries is it. -/
theorem v87_real (n : Fin 32) (h g : Fin 4) (a : Fin 128) :
    ∃ M : ℝ, val_main_v87 (F := Ideal) (X0 p) (X1 gq) (X1 gk) (X4 bs) (Idealize.ShloMosaic.ix4 n h g a) = (M : EReal)
      ∧ ∃ j : Fin 256, val_main_v84_0 (F := Ideal) (X0 p) (X1 gq) (X1 gk) (X4 bs) (Idealize.ShloMosaic.ix5 n h g a j) = (M : EReal) := by
  rw [v87_at]
  simp only [v84_at]
  obtain ⟨j, -, hj⟩ := Finset.exists_mem_eq_sup (Finset.univ : Finset (Fin 256)) Finset.univ_nonempty
    (fun j : Fin 256 => if sees n a j then ((scoreR p gq gk bs n h g a j : ℝ) : EReal) else ⊥)
  by_cases hs : sees n a j
  · rw [if_pos hs] at hj
    exact ⟨_, hj, j, if_pos hs⟩
  · rw [if_neg hs] at hj
    have := Finset.le_sup (f := fun j : Fin 256 => if sees n a j then ((scoreR p gq gk bs n h g a j : ℝ) : EReal) else ⊥)
      (Finset.mem_univ (⟨a.val + 128, by omega⟩ : Fin 256))
    rw [hj] at this
    simp only [if_pos (sees_own n a), le_bot_iff] at this
    exact absurd this (EReal.coe_ne_bot _)

/-- At least one entry of a row is its largest. -/
theorem v92_ne (n : Fin 32) (h g : Fin 4) (a : Fin 128) :
    val_main_v92 (F := Ideal) (X0 p) (X1 gq) (X1 gk) (X4 bs) (Idealize.ShloMosaic.ix4 n h g a) ≠ 0 := by
  pointwise [val_main_v92, val_main_cst_17, val_main_v91, val_main_v90, val_main_v89, val_main_v88]
  obtain ⟨M, hM, j, hj⟩ := v87_real p gq gk bs n h g a
  have hnn : ∀ b : BitVec 1, (0 : EReal) ≤ FloatOps.uitofp (F := Ideal) .f32 b := by
    intro b
    show (0 : EReal) ≤ ((b.toNat : ℝ) : EReal)
    exact_mod_cast Nat.zero_le _
  refine ne_of_gt (lt_of_lt_of_le (?_ : (0 : EReal) < 1) (le_trans (le_of_eq ?_)
    (Finset.single_le_sum (f := fun x : Fin 256 => FloatOps.uitofp (F := Ideal) .f32 (BitVec.ofBool (decide
      (val_main_v84_0 (F := Ideal) (X0 p) (X1 gq) (X1 gk) (X4 bs) (Idealize.ShloMosaic.ix5 n h g a x)
        = val_main_v87 (F := Ideal) (X0 p) (X1 gq) (X1 gk) (X4 bs) (Idealize.ShloMosaic.ix4 n h g a)))))
      (fun x _ => hnn _) (Finset.mem_univ j))))
  · exact zero_lt_one
  · simp only [hj, hM, decide_true]
    show (1 : EReal) = (((BitVec.ofBool true).toNat : ℝ) : EReal)
    simp

/-- The larger of a row's largest score and its sink. -/
def topR (n : Fin 32) (h g : Fin 4) (a : Fin 128) : ℝ :=
  (val_main_v95 (F := Ideal) (X0 p) (X1 gq) (X1 gk) (X3 sk) (X4 bs) (Idealize.ShloMosaic.ix5 n h g a (0 : Fin 1))).toReal

theorem sink_at (n : Fin 32) (h g : Fin 4) (a : Fin 128) :
    val_main_v94 (F := Ideal) (X3 sk) (Idealize.ShloMosaic.ix5 n h g a (0 : Fin 1)) = ((sk ⟨4 * h.val + g.val, by omega⟩ : ℝ) : EReal) := by
  pointwise [val_main_v94, val_main_v86, val_main_v85]
  unfold X3
  congr 2
  apply Fin.ext; show h.val * 4 + g.val = 4 * h.val + g.val; omega

theorem v95_at (n : Fin 32) (h g : Fin 4) (a : Fin 128) :
    val_main_v95 (F := Ideal) (X0 p) (X1 gq) (X1 gk) (X3 sk) (X4 bs) (Idealize.ShloMosaic.ix5 n h g a (0 : Fin 1))
      = ((topR p gq gk sk bs n h g a : ℝ) : EReal) := by
  unfold topR
  obtain ⟨M, hM, -⟩ := v87_real p gq gk bs n h g a
  have e : val_main_v95 (F := Ideal) (X0 p) (X1 gq) (X1 gk) (X3 sk) (X4 bs) (Idealize.ShloMosaic.ix5 n h g a (0 : Fin 1))
      = ((max M (sk ⟨4 * h.val + g.val, by omega⟩) : ℝ) : EReal) := by
    rw [val_main_v95_apply, sink_at]
    pointwise [val_main_v93]
    rw [hM]
    exact (EReal.coe_strictMono.monotone.map_max).symm
  rw [e, EReal.toReal_coe]

/-- A key's term of the softmax. -/
def termR (n : Fin 32) (h g : Fin 4) (a : Fin 128) (j : Fin 256) : ℝ :=
  if sees n a j then Real.exp (scoreR p gq gk bs n h g a j - topR p gq gk sk bs n h g a) else 0

/-- The sink's term of the softmax. -/
def sinkTermR (n : Fin 32) (h g : Fin 4) (a : Fin 128) : ℝ :=
  Real.exp (sk ⟨4 * h.val + g.val, by omega⟩ - topR p gq gk sk bs n h g a)

/-- The sum of a row's terms. -/
def totalR (n : Fin 32) (h g : Fin 4) (a : Fin 128) : ℝ :=
  ∑ j : Fin 256, termR p gq gk sk bs n h g a j + sinkTermR p gq gk sk bs n h g a

theorem total_ne (n : Fin 32) (h g : Fin 4) (a : Fin 128) : totalR p gq gk sk bs n h g a ≠ 0 := by
  refine ne_of_gt (add_pos_of_nonneg_of_pos (Finset.sum_nonneg fun j _ => ?_) (Real.exp_pos _))
  unfold termR
  split
  · exact (Real.exp_pos _).le
  · exact le_rfl

theorem v116_at (n : Fin 32) (h g : Fin 4) (a : Fin 128) (j : Fin 256) :
    val_main_v116 (F := Ideal) (X0 p) (X1 gq) (X1 gk) (X3 sk) (X4 bs) (Idealize.ShloMosaic.ix5 n h g a j)
      = ((termR p gq gk sk bs n h g a j : ℝ) : EReal) := by
  pointwise [val_main_v116, val_main_v115, val_main_v114]
  rw [v84_at, v95_at]
  unfold termR
  by_cases hs : sees n a j
  · rw [if_pos hs, if_pos hs, ← EReal.coe_sub, Ideal.exp_coe]
  · rw [if_neg hs, if_neg hs, EReal.bot_sub, Ideal.exp_bot, EReal.coe_zero]

theorem v119_at (n : Fin 32) (h g : Fin 4) (a : Fin 128) :
    val_main_v119 (F := Ideal) (X0 p) (X1 gq) (X1 gk) (X3 sk) (X4 bs) (Idealize.ShloMosaic.ix5 n h g a (0 : Fin 1))
      = ((sinkTermR p gq gk sk bs n h g a : ℝ) : EReal) := by
  have hs : val_main_v117 (F := Ideal) (X3 sk) (Idealize.ShloMosaic.ix5 n h g a (0 : Fin 1)) = ((sk ⟨4 * h.val + g.val, by omega⟩ : ℝ) : EReal) :=
    by
    pointwise [val_main_v117, val_main_v86, val_main_v85]
    unfold X3
    congr 2
    apply Fin.ext; show h.val * 4 + g.val = 4 * h.val + g.val; omega
  rw [val_main_v119_apply, val_main_v118_apply, hs, v95_at]
  unfold sinkTermR
  show Ideal.exp (((sk ⟨4 * h.val + g.val, by omega⟩ : ℝ) : EReal) - ((topR p gq gk sk bs n h g a : ℝ) : EReal)) = _
  rw [← EReal.coe_sub, Ideal.exp_coe]

theorem v122_at (n : Fin 32) (h g : Fin 4) (a : Fin 128) :
    val_main_v122 (F := Ideal) (X0 p) (X1 gq) (X1 gk) (X3 sk) (X4 bs) (Idealize.ShloMosaic.ix5 n h g a (0 : Fin 1))
      = ((totalR p gq gk sk bs n h g a : ℝ) : EReal) := by
  pointwise [val_main_v122, val_main_v121, val_main_v120, val_main_cst_24]
  rw [v119_at]
  simp only [v116_at, ← coe_sum, ← EReal.coe_add]
  rfl

theorem v124_at (n : Fin 32) (h g : Fin 4) (a : Fin 128) (j : Fin 256) :
    val_main_v124 (F := Ideal) (X0 p) (X1 gq) (X1 gk) (X3 sk) (X4 bs) (Idealize.ShloMosaic.ix5 n h g a j)
      = ((termR p gq gk sk bs n h g a j / totalR p gq gk sk bs n h g a : ℝ) : EReal) := by
  pointwise [val_main_v124, val_main_v123]
  rw [v116_at, v122_at, div_real (total_ne p gq gk sk bs n h g a)]

theorem v128_at (n : Fin 32) (h g : Fin 4) (a : Fin 128) :
    val_main_v128 (F := Ideal) (X0 p) (X1 gq) (X1 gk) (X3 sk) (X4 bs) (Idealize.ShloMosaic.ix5 n h g a (0 : Fin 1))
      = ((sinkTermR p gq gk sk bs n h g a / totalR p gq gk sk bs n h g a : ℝ) : EReal) := by
  pointwise [val_main_v128]
  rw [v119_at, v122_at, div_real (total_ne p gq gk sk bs n h g a)]

theorem v127_at (n : Fin 32) (h g : Fin 4) (a : Fin 128) :
    val_main_v127 (F := Ideal) (X0 p) (X1 gq) (X1 gk) (X3 sk) (X4 bs) (Idealize.ShloMosaic.ix5 n h g a (0 : Fin 1))
      = ((1 / (totalR p gq gk sk bs n h g a * totalR p gq gk sk bs n h g a) : ℝ) : EReal) := by
  pointwise [val_main_v127, val_main_v126, val_main_cst_25, val_main_v125]
  have h1 : (1 : EReal) = ((1 : ℝ) : EReal) := rfl
  rw [v122_at, h1, ← EReal.coe_mul, div_real (mul_ne_zero (total_ne p gq gk sk bs n h g a) (total_ne p gq gk sk bs n h g a))]

end Cert.AttnRef.Probs
-- ==== Proof.Attn.RefGrad.lean ====
module

public import proofs.«01_k».proof.Proof.Attn.RefProbs

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnRef.Grad

open Cert.AttnRefIdeal Cert.AttnRefIdeal.Gen Cert.AttnRefIdeal.Read Cert.AttnReal Cert.Lift Cert.AttnRef.Rows Cert.AttnRef.Probs

variable (p : Fin 4096 → Fin 5632 → ℝ) (gq gk : Fin 64 → ℝ) (sk : Fin 16 → ℝ) (bs : Fin 16 → Fin 128 → Fin 256 → ℝ)
  (o : Fin 4096 → Fin 1024 → ℝ)

/-- The probabilities of a block of tokens, a group's heads one after the other. -/
def probR (n : Fin 32) (h : Fin 4) (s : Fin 512) (j : Fin 256) : ℝ :=
  termR p gq gk sk bs n h ⟨s.val / 128, by omega⟩ ⟨s.val % 128, by omega⟩ j
    / totalR p gq gk sk bs n h ⟨s.val / 128, by omega⟩ ⟨s.val % 128, by omega⟩

/-- The probabilities of the sinks. -/
def sinkProbR (n : Fin 32) (h : Fin 4) (s : Fin 512) : ℝ :=
  sinkTermR p gq gk sk bs n h ⟨s.val / 128, by omega⟩ ⟨s.val % 128, by omega⟩
    / totalR p gq gk sk bs n h ⟨s.val / 128, by omega⟩ ⟨s.val % 128, by omega⟩

/-- The cotangent of a block of tokens, a group's heads one after the other. -/
def cotR (n : Fin 32) (h : Fin 4) (s : Fin 512) (d : Fin 64) : ℝ :=
  o ⟨128 * n.val + s.val % 128, by omega⟩ ⟨256 * h.val + 64 * (s.val / 128) + d.val, by omega⟩

theorem row_div (g : Fin 4) (a : Fin 128) : (⟨(row g a).val / 128, by omega⟩ : Fin 4) = g := by
  apply Fin.ext; show (g.val * 128 + a.val) / 128 = g.val; omega
theorem row_mod (g : Fin 4) (a : Fin 128) : (⟨(row g a).val % 128, by omega⟩ : Fin 128) = a := by
  apply Fin.ext; show (g.val * 128 + a.val) % 128 = a.val; omega

theorem prob_row (n : Fin 32) (h g : Fin 4) (a : Fin 128) (j : Fin 256) : probR p gq gk sk bs n h (row g a) j = termR p gq gk sk bs n h g a j / totalR p gq gk sk bs n h g a := by
  unfold probR; rw [row_div, row_mod]

theorem sinkProb_row (n : Fin 32) (h g : Fin 4) (a : Fin 128) :
    sinkProbR p gq gk sk bs n h (row g a) = sinkTermR p gq gk sk bs n h g a / totalR p gq gk sk bs n h g a := by
  unfold sinkProbR; rw [row_div, row_mod]

/-- The sum over a group's rows, head by head. -/
theorem sum_rows {M : Type} [AddCommMonoid M] (f : Fin 512 → M) : ∑ s : Fin 512, f s = ∑ g : Fin 4, ∑ a : Fin 128, f (row g a) := by
  rw [← Finset.sum_product']
  refine (Finset.sum_bij' (fun (x : Fin 4 × Fin 128) _ => row x.1 x.2) (fun s _ => (⟨s.val / 128, by omega⟩, ⟨s.val % 128, by omega⟩))
    (fun _ _ => Finset.mem_univ _) (fun _ _ => by simp) (fun x _ => Prod.ext (row_div x.1 x.2) (row_mod x.1 x.2))
    (fun s _ => ?_) fun _ _ => rfl).symm
  apply Fin.ext; show s.val / 128 * 128 + s.val % 128 = s.val; omega

theorem v137_at (n : Fin 32) (h : Fin 4) (d : Fin 64) (g : Fin 4) (a : Fin 128) :
    val_main_v137 (F := Ideal) (X5 o) (Idealize.ShloMosaic.ix5 n h d g a) = ((cotR o n h (row g a) d : ℝ) : EReal) := by
  pointwise [val_main_v137, val_main_v136]
  unfold X5 cotR row
  congr 2
  · apply Fin.ext; simp; omega
  · apply Fin.ext; simp; omega

theorem v138_at (n : Fin 32) (h g : Fin 4) (a : Fin 128) (j : Fin 256) :
    val_main_v138 (F := Ideal) (X0 p) (X5 o) (Idealize.ShloMosaic.ix5 n h g a j) = ((dProbR (cotR o n h) (valR p n h) (row g a) j : ℝ) : EReal) := by
  pointwise [val_main_v138]
  simp only [v137_at, v132_at, ← EReal.coe_mul, ← coe_sum]
  rfl

theorem v141_at (n : Fin 32) (w : Fin 2) (a : Fin 128) (h : Fin 4) (d : Fin 64) :
    val_main_v141 (F := Ideal) (X0 p) (X1 gq) (X1 gk) (X3 sk) (X4 bs) (X5 o) (Idealize.ShloMosaic.ix5 n w a h d)
      = ((dValueR (probR p gq gk sk bs n h) (cotR o n h) ⟨w.val * 128 + a.val, by omega⟩ d : ℝ) : EReal) := by
  pointwise [val_main_v141, val_main_v140, val_main_v139]
  simp only [v137_at, v124_at, ← prob_row, ← EReal.coe_mul, ← coe_sum]
  unfold dValueR
  rw [sum_rows]

theorem v147_at (n : Fin 32) (h g : Fin 4) (a : Fin 128) :
    val_main_v147 (F := Ideal) (X0 p) (X1 gq) (X1 gk) (X3 sk) (X4 bs) (X5 o) (Idealize.ShloMosaic.ix5 n h g a (0 : Fin 1))
      = ((-(∑ j, dProbR (cotR o n h) (valR p n h) (row g a) j * (1 / (totalR p gq gk sk bs n h g a * totalR p gq gk sk bs n h g a)) * termR p gq gk sk bs n h g a j) : ℝ) : EReal) := by
  pointwise [val_main_v147, val_main_v146, val_main_v145, val_main_cst_27, val_main_v144, val_main_v143, val_main_v142]
  simp only [v138_at, v127_at, v116_at, ← EReal.coe_mul, ← coe_sum, ← EReal.coe_neg]

theorem v157_at (n : Fin 32) (h g : Fin 4) (a : Fin 128) (j : Fin 256) :
    val_main_v157 (F := Ideal) (X0 p) (X1 gq) (X1 gk) (X3 sk) (X4 bs) (X5 o) (Idealize.ShloMosaic.ix5 n h g a j)
      = (((dProbR (cotR o n h) (valR p n h) (row g a) j / totalR p gq gk sk bs n h g a + -(∑ j, dProbR (cotR o n h) (valR p n h) (row g a) j * (1 / (totalR p gq gk sk bs n h g a * totalR p gq gk sk bs n h g a)) * termR p gq gk sk bs n h g a j)) * termR p gq gk sk bs n h g a j : ℝ) : EReal) := by
  pointwise [val_main_v157, val_main_v152, val_main_v151, val_main_v150, val_main_cst_28, val_main_v149, val_main_v148]
  simp only [Fin.sum_univ_one, v138_at, v122_at, v147_at, v116_at, div_real (total_ne p gq gk sk bs n h g a), ← EReal.coe_add, ← EReal.coe_mul]

theorem v153_at (n : Fin 32) (h g : Fin 4) (a : Fin 128) :
    val_main_v153 (F := Ideal) (X0 p) (X1 gq) (X1 gk) (X3 sk) (X4 bs) (X5 o) (Idealize.ShloMosaic.ix5 n h g a (0 : Fin 1))
      = ((-(∑ j, dProbR (cotR o n h) (valR p n h) (row g a) j * (1 / (totalR p gq gk sk bs n h g a * totalR p gq gk sk bs n h g a)) * termR p gq gk sk bs n h g a j) * sinkTermR p gq gk sk bs n h g a : ℝ) : EReal) := by
  rw [val_main_v153_apply, v147_at, v119_at]
  exact (EReal.coe_mul _ _).symm

/-- The gradient in a row's maximum is zero. -/
theorem v161_at (n : Fin 32) (h g : Fin 4) (a : Fin 128) : val_main_v161 (F := Ideal) (X0 p) (X1 gq) (X1 gk) (X3 sk) (X4 bs) (X5 o) (Idealize.ShloMosaic.ix5 n h g a (0 : Fin 1)) = 0 := by
  have h1 : val_main_v160 (F := Ideal) (X0 p) (X1 gq) (X1 gk) (X3 sk) (X4 bs) (X5 o) (Idealize.ShloMosaic.ix5 n h g a (0 : Fin 1))
      = ((∑ j, -((dProbR (cotR o n h) (valR p n h) (row g a) j / totalR p gq gk sk bs n h g a + -(∑ j, dProbR (cotR o n h) (valR p n h) (row g a) j * (1 / (totalR p gq gk sk bs n h g a * totalR p gq gk sk bs n h g a)) * termR p gq gk sk bs n h g a j)) * termR p gq gk sk bs n h g a j) : ℝ) : EReal) := by
    pointwise [val_main_v160, val_main_v159, val_main_cst_30, val_main_v158]
    simp only [v157_at, ← EReal.coe_neg, ← coe_sum]
  have h2 : val_main_v156 (F := Ideal) (X0 p) (X1 gq) (X1 gk) (X3 sk) (X4 bs) (X5 o) (Idealize.ShloMosaic.ix5 n h g a (0 : Fin 1))
      = ((-(-(∑ j, dProbR (cotR o n h) (valR p n h) (row g a) j * (1 / (totalR p gq gk sk bs n h g a * totalR p gq gk sk bs n h g a)) * termR p gq gk sk bs n h g a j) * sinkTermR p gq gk sk bs n h g a) : ℝ) : EReal) := by
    pointwise [val_main_v156]
    rw [v153_at, ← EReal.coe_neg]
  rw [val_main_v161_apply, h1, h2]
  refine (EReal.coe_add _ _).symm.trans ?_
  rw [max_zero _ _ _ _ (total_ne p gq gk sk bs n h g a) rfl, EReal.coe_zero]

/-- The gradient in a score. -/
theorem v171_at (n : Fin 32) (h g : Fin 4) (a : Fin 128) (j : Fin 256) :
    val_main_v171 (F := Ideal) (X0 p) (X1 gq) (X1 gk) (X3 sk) (X4 bs) (X5 o) (Idealize.ShloMosaic.ix5 n h g a j)
      = ((dScoreR (probR p gq gk sk bs n h) (cotR o n h) (valR p n h) (row g a) j : ℝ) : EReal) := by
  have h178 : val_main_v167 (F := Ideal) (X0 p) (X1 gq) (X1 gk) (X3 sk) (X4 bs) (X5 o) (Idealize.ShloMosaic.ix4 n h g a) = 0 := by
    pointwise [val_main_v167, val_main_cst_32]
    simp only [Fin.sum_univ_one]
    rw [val_main_v166_apply, v161_at]
    generalize val_main_v104 (F := Ideal) (X0 p) (X1 gq) (X1 gk) (X3 sk) (X4 bs) _ = w
    exact zero_mul w
  have h180 : val_main_v169 (F := Ideal) (X0 p) (X1 gq) (X1 gk) (X3 sk) (X4 bs) (X5 o) (Idealize.ShloMosaic.ix5 n h g a j) = 0 := by
    rw [val_main_v169_apply, show idx_main_v169 (Idealize.ShloMosaic.ix5 n h g a j) = Idealize.ShloMosaic.ix4 n h g a from by blk_ext, val_main_v168_apply, h178]
    show Ideal.div 0 _ = 0
    unfold Ideal.div
    rw [if_neg (v92_ne p gq gk bs n h g a), zero_mul]
  rw [val_main_v171_apply, val_main_v170_apply, h180, v157_at, score_eq _ _ _ (total_ne p gq gk sk bs n h g a)]
  generalize val_main_v91 (F := Ideal) (X0 p) (X1 gq) (X1 gk) (X4 bs) _ = w
  refine (show _ = _ + (0 : EReal) * w from rfl).trans ?_
  rw [zero_mul, add_zero]
  unfold dScoreR deltaR
  simp only [prob_row]

end Cert.AttnRef.Grad
-- ==== Proof.Common.Sums.lean ====
module

public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Sums

/-- The sum of an array of five axes over its first and fourth. -/
theorem sum_03_of_5 {n0 n1 n2 n3 n4 : ℕ} (h : (⟨5, ![n0, n1, n2, n3, n4]⟩ : Shape).ReducesTo [0, 3] ⟨3, ![n1, n2, n4]⟩) (x : (⟨5, ![n0, n1, n2, n3, n4]⟩ : Shape).Idx → EReal) (init : EReal)
    (b : Fin n1) (c : Fin n2) (e : Fin n4) : Ideal.hostReduceAdd h x init (Idealize.ShloMosaic.ix3 b c e) = init + ∑ a : Fin n0, ∑ d : Fin n3, x (Idealize.ShloMosaic.ix5 a b c d e) := by
  have hs := Finset.sum_filter_eq_sum_of_fiber (fun i => h.drop i = (Idealize.ShloMosaic.ix3 b c e)) (fun k : Fin n0 × Fin n3 => Idealize.ShloMosaic.ix5 k.1 b c k.2 e)
    (fun k l e => by
      have e0 : k.1 = l.1 := congrFun e 0
      have e3 : k.2 = l.2 := congrFun e 3
      exact Prod.ext e0 e3)
    (fun i => by
      constructor
      · intro e
        refine ⟨(i 0, i 3), ?_⟩
        funext z
        apply Fin.ext
        match z with
        | ⟨0, _⟩ => rfl
        | ⟨1, _⟩ => exact (congrArg Fin.val (congrFun e 0)).symm
        | ⟨2, _⟩ => exact (congrArg Fin.val (congrFun e 1)).symm
        | ⟨3, _⟩ => rfl
        | ⟨4, _⟩ => exact (congrArg Fin.val (congrFun e 2)).symm
      · rintro ⟨k, rfl⟩
        funext z
        apply Fin.ext
        match z with
        | ⟨0, _⟩ => rfl
        | ⟨1, _⟩ => rfl
        | ⟨2, _⟩ => rfl) x
  refine (congrArg (init + ·) hs).trans ?_
  simp only [Fintype.sum_prod_type]

/-- The sum of an array of five axes over its first and its last two. -/
theorem sum_034_of_5 {n0 n1 n2 n3 n4 : ℕ} (h : (⟨5, ![n0, n1, n2, n3, n4]⟩ : Shape).ReducesTo [0, 3, 4] ⟨2, ![n1, n2]⟩) (x : (⟨5, ![n0, n1, n2, n3, n4]⟩ : Shape).Idx → EReal) (init : EReal)
    (b : Fin n1) (c : Fin n2) : Ideal.hostReduceAdd h x init (Idealize.ShloMosaic.ix2 b c) = init + ∑ a : Fin n0, ∑ d : Fin n3, ∑ e : Fin n4, x (Idealize.ShloMosaic.ix5 a b c d e) := by
  have hs := Finset.sum_filter_eq_sum_of_fiber (fun i => h.drop i = (Idealize.ShloMosaic.ix2 b c)) (fun k : Fin n0 × Fin n3 × Fin n4 => Idealize.ShloMosaic.ix5 k.1 b c k.2.1 k.2.2)
    (fun k l e => by
      have e0 : k.1 = l.1 := congrFun e 0
      have e3 : k.2.1 = l.2.1 := congrFun e 3
      have e4 : k.2.2 = l.2.2 := congrFun e 4
      exact Prod.ext e0 (Prod.ext e3 e4))
    (fun i => by
      constructor
      · intro e
        refine ⟨(i 0, i 3, i 4), ?_⟩
        funext z
        apply Fin.ext
        match z with
        | ⟨0, _⟩ => rfl
        | ⟨1, _⟩ => exact (congrArg Fin.val (congrFun e 0)).symm
        | ⟨2, _⟩ => exact (congrArg Fin.val (congrFun e 1)).symm
        | ⟨3, _⟩ => rfl
        | ⟨4, _⟩ => rfl
      · rintro ⟨k, rfl⟩
        funext z
        apply Fin.ext
        match z with
        | ⟨0, _⟩ => rfl
        | ⟨1, _⟩ => rfl) x
  refine (congrArg (init + ·) hs).trans ?_
  simp only [Fintype.sum_prod_type]

/-- The sum of an array of five axes over its first four. -/
theorem sum_0123_of_5 {n0 n1 n2 n3 n4 : ℕ} (h : (⟨5, ![n0, n1, n2, n3, n4]⟩ : Shape).ReducesTo [0, 1, 2, 3] ⟨1, ![n4]⟩) (x : (⟨5, ![n0, n1, n2, n3, n4]⟩ : Shape).Idx → EReal) (init : EReal)
    (e : Fin n4) : Ideal.hostReduceAdd h x init (Idealize.ShloMosaic.ix1 e) = init + ∑ a : Fin n0, ∑ b : Fin n1, ∑ c : Fin n2, ∑ d : Fin n3, x (Idealize.ShloMosaic.ix5 a b c d e) := by
  have hs := Finset.sum_filter_eq_sum_of_fiber (fun i => h.drop i = (Idealize.ShloMosaic.ix1 e)) (fun k : Fin n0 × Fin n1 × Fin n2 × Fin n3 => Idealize.ShloMosaic.ix5 k.1 k.2.1 k.2.2.1 k.2.2.2 e)
    (fun k l e => by
      have e0 : k.1 = l.1 := congrFun e 0
      have e1 : k.2.1 = l.2.1 := congrFun e 1
      have e2 : k.2.2.1 = l.2.2.1 := congrFun e 2
      have e3 : k.2.2.2 = l.2.2.2 := congrFun e 3
      exact Prod.ext e0 (Prod.ext e1 (Prod.ext e2 e3)))
    (fun i => by
      constructor
      · intro e
        refine ⟨(i 0, i 1, i 2, i 3), ?_⟩
        funext z
        apply Fin.ext
        match z with
        | ⟨0, _⟩ => rfl
        | ⟨1, _⟩ => rfl
        | ⟨2, _⟩ => rfl
        | ⟨3, _⟩ => rfl
        | ⟨4, _⟩ => exact (congrArg Fin.val (congrFun e 0)).symm
      · rintro ⟨k, rfl⟩
        funext z
        apply Fin.ext
        match z with
        | ⟨0, _⟩ => rfl) x
  refine (congrArg (init + ·) hs).trans ?_
  simp only [Fintype.sum_prod_type]

/-- The sum of an array of three axes over its first two. -/
theorem sum_01_of_3 {n0 n1 n2 : ℕ} (h : (⟨3, ![n0, n1, n2]⟩ : Shape).ReducesTo [0, 1] ⟨1, ![n2]⟩) (x : (⟨3, ![n0, n1, n2]⟩ : Shape).Idx → EReal) (init : EReal)
    (c : Fin n2) : Ideal.hostReduceAdd h x init (Idealize.ShloMosaic.ix1 c) = init + ∑ a : Fin n0, ∑ b : Fin n1, x (Idealize.ShloMosaic.ix3 a b c) := by
  have hs := Finset.sum_filter_eq_sum_of_fiber (fun i => h.drop i = (Idealize.ShloMosaic.ix1 c)) (fun k : Fin n0 × Fin n1 => Idealize.ShloMosaic.ix3 k.1 k.2 c)
    (fun k l e => by
      have e0 : k.1 = l.1 := congrFun e 0
      have e1 : k.2 = l.2 := congrFun e 1
      exact Prod.ext e0 e1)
    (fun i => by
      constructor
      · intro e
        refine ⟨(i 0, i 1), ?_⟩
        funext z
        apply Fin.ext
        match z with
        | ⟨0, _⟩ => rfl
        | ⟨1, _⟩ => rfl
        | ⟨2, _⟩ => exact (congrArg Fin.val (congrFun e 0)).symm
      · rintro ⟨k, rfl⟩
        funext z
        apply Fin.ext
        match z with
        | ⟨0, _⟩ => rfl) x
  refine (congrArg (init + ·) hs).trans ?_
  simp only [Fintype.sum_prod_type]

end Cert.Sums
-- ==== Proof.Attn.RefResults.lean ====
module

public import proofs.«01_k».proof.Proof.Attn.RefGrad
public import proofs.«01_k».proof.Proof.Common.Sums

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnRef.Results

open Cert.AttnRefIdeal Cert.AttnRefIdeal.Gen Cert.AttnRefIdeal.Read Cert.AttnReal Cert.Lift Cert.AttnRef.Rows Cert.AttnRef.Probs Cert.AttnRef.Grad

variable (p : Fin 4096 → Fin 5632 → ℝ) (gq gk : Fin 64 → ℝ) (sk : Fin 16 → ℝ) (bs : Fin 16 → Fin 128 → Fin 256 → ℝ)
  (o : Fin 4096 → Fin 1024 → ℝ)

theorem row_of (s : Fin 512) : row ⟨s.val / 128, by omega⟩ ⟨s.val % 128, by omega⟩ = s := by
  apply Fin.ext; show s.val / 128 * 128 + s.val % 128 = s.val; omega

/-- A probability of an entry the token does not see is zero. -/
theorem prob_zero (n : Fin 32) (h g : Fin 4) (a : Fin 128) (j : Fin 256) (hs : ¬ sees n a j) : probR p gq gk sk bs n h (row g a) j = 0 := by
  rw [prob_row]; unfold termR; rw [if_neg hs, zero_div]

theorem v174_at (n : Fin 32) (h g : Fin 4) (a : Fin 128) (j : Fin 256) :
    val_main_v174 (F := Ideal) (X0 p) (X1 gq) (X1 gk) (X3 sk) (X4 bs) (X5 o) (Idealize.ShloMosaic.ix5 n h g a j)
      = ((dScoreR (probR p gq gk sk bs n h) (cotR o n h) (valR p n h) (row g a) j : ℝ) : EReal) := by
  pointwise [val_main_v174, val_main_v84_1, val_main_v83]
  rw [v171_at]
  unfold Scalar.select
  by_cases hs : sees n a j
  · exact if_pos hs
  · refine (if_neg hs).trans ?_
    unfold dScoreR
    rw [prob_zero p gq gk sk bs n h g a j hs, zero_mul]
    pointwise [val_main_call1_v0, val_main_v84_2, val_main_call0_cst, val_main_call1_cst]
    try rfl

/-! The bias. -/

theorem v234_at (h : Fin 4) (s : Fin 512) (j : Fin 256) :
    val_main_v234 (F := Ideal) (X0 p) (X1 gq) (X1 gk) (X3 sk) (X4 bs) (X5 o) (Idealize.ShloMosaic.ix3 h s j)
      = ((∑ n : Fin 32, dScoreR (probR p gq gk sk bs n h) (cotR o n h) (valR p n h) s j : ℝ) : EReal) := by
  pointwise [val_main_v234, val_main_v178, val_main_v177, val_main_cst_35, val_main_v176, val_main_v175, val_main_cst_34]
  simp only [Fin.sum_univ_one]
  refine (Finset.sum_congr rfl fun n _ => (congrArg (val_main_v174 (F := Ideal) (X0 p) (X1 gq) (X1 gk) (X3 sk) (X4 bs) (X5 o)) (?_ : _ = Idealize.ShloMosaic.ix5 n h
    (⟨s.val / 128, by omega⟩ : Fin 4) (⟨s.val % 128, by omega⟩ : Fin 128) j)).trans (v174_at p gq gk sk bs o n h _ _ j)).trans ?_
  · blk_ext
  · rw [← coe_sum, row_of]

/-! The sinks. -/

theorem v154_at (h g : Fin 4) :
    val_main_v154 (F := Ideal) (X0 p) (X1 gq) (X1 gk) (X3 sk) (X4 bs) (X5 o) (Idealize.ShloMosaic.ix3 h g (0 : Fin 1))
      = ((∑ n : Fin 32, dSinkR (probR p gq gk sk bs n h) (cotR o n h) (valR p n h) (sinkProbR p gq gk sk bs n h) g : ℝ) : EReal) := by
  unfold val_main_v154
  rw [ValueIdx.hostReduceAdd_apply, Sums.sum_03_of_5]
  rw [show val_main_cst_29 (F := Ideal) (Shape.Idx.first h_S_) = 0 from Ideal.ofBits_zero_f32, zero_add]
  simp only [v153_at, ← coe_sum]
  congr 1
  refine Finset.sum_congr rfl fun n _ => Finset.sum_congr rfl fun a _ => ?_
  rw [sink_eq _ _ _ _ (total_ne p gq gk sk bs n h g a), ← sinkProb_row]
  simp only [← prob_row]
  rfl

theorem v235_at (h g : Fin 4) (e : Fin 1) :
    val_main_v235 (F := Ideal) (X0 p) (X1 gq) (X1 gk) (X3 sk) (X4 bs) (X5 o) (Idealize.ShloMosaic.ix3 h g e)
      = ((∑ n : Fin 32, dSinkR (probR p gq gk sk bs n h) (cotR o n h) (valR p n h) (sinkProbR p gq gk sk bs n h) g : ℝ) : EReal) := by
  have h174 : val_main_v163 (F := Ideal) (X0 p) (X1 gq) (X1 gk) (X3 sk) (X4 bs) (X5 o) (Idealize.ShloMosaic.ix3 h g (0 : Fin 1)) = 0 := by
    unfold val_main_v163
    rw [ValueIdx.hostReduceAdd_apply, Sums.sum_03_of_5]
    rw [show val_main_cst_31 (F := Ideal) (Shape.Idx.first h_S_) = 0 from Ideal.ofBits_zero_f32, zero_add]
    refine Finset.sum_eq_zero fun n _ => Finset.sum_eq_zero fun a _ => ?_
    rw [val_main_v162_apply, v161_at]
    generalize val_main_v113 (F := Ideal) (X0 p) (X1 gq) (X1 gk) (X3 sk) (X4 bs) _ = w
    exact zero_mul w
  have h183 : val_main_v172 (F := Ideal) (X0 p) (X1 gq) (X1 gk) (X3 sk) (X4 bs) (X5 o) (Idealize.ShloMosaic.ix2 h g)
      = val_main_v154 (F := Ideal) (X0 p) (X1 gq) (X1 gk) (X3 sk) (X4 bs) (X5 o) (Idealize.ShloMosaic.ix3 h g (0 : Fin 1)) + val_main_v163 (F := Ideal) (X0 p) (X1 gq) (X1 gk) (X3 sk) (X4 bs) (X5 o) (Idealize.ShloMosaic.ix3 h g (0 : Fin 1)) := by
    unfold val_main_v172
    rw [ValueIdx.hostReduceAdd_apply, Sums.sum_034_of_5]
    rw [show val_main_cst_33 (F := Ideal) (Shape.Idx.first h_S_) = 0 from Ideal.ofBits_zero_f32, zero_add]
    simp only [Fin.sum_univ_one]
    pointwise [val_main_v165, val_main_v155, val_main_v164]
  have h246 : val_main_v235 (F := Ideal) (X0 p) (X1 gq) (X1 gk) (X3 sk) (X4 bs) (X5 o) (Idealize.ShloMosaic.ix3 h g e) = val_main_v172 (F := Ideal) (X0 p) (X1 gq) (X1 gk) (X3 sk) (X4 bs) (X5 o) (Idealize.ShloMosaic.ix2 h g) := by
    pointwise [val_main_v235, val_main_v173]
  rw [h246, h183, h174, add_zero, v154_at]

/-! The normed queries and keys. -/

theorem v180_at (n : Fin 32) (h g : Fin 4) (a : Fin 128) (j : Fin 256) :
    val_main_v180 (F := Ideal) (X0 p) (X1 gq) (X1 gk) (X3 sk) (X4 bs) (X5 o) (Idealize.ShloMosaic.ix5 n h g a j) = ((dScoreR (probR p gq gk sk bs n h) (cotR o n h) (valR p n h) (row g a) j * (1 / 8) : ℝ) : EReal) := by
  pointwise [val_main_v180, val_main_v179, val_main_cst_36]
  rw [v174_at, ofBits_eighth, ← EReal.coe_mul]

theorem v183_at (n : Fin 32) (a : Fin 128) (h g : Fin 4) (d : Fin 64) :
    val_main_v183 (F := Ideal) (X0 p) (X1 gq) (X1 gk) (X3 sk) (X4 bs) (X5 o) (Idealize.ShloMosaic.ix5 n a h g d) = ((dQueryNR (probR p gq gk sk bs n h) (cotR o n h) (keyR p n h) (valR p n h) gk (row g a) d : ℝ) : EReal) := by
  pointwise [val_main_v183, val_main_v182, val_main_v181]
  simp only [v180_at, v55_at, ← EReal.coe_mul, ← coe_sum]
  rfl

theorem v186_at (n : Fin 32) (w : Fin 2) (a : Fin 128) (h : Fin 4) (d : Fin 64) :
    val_main_v186 (F := Ideal) (X0 p) (X1 gq) (X1 gk) (X3 sk) (X4 bs) (X5 o) (Idealize.ShloMosaic.ix5 n w a h d)
      = ((dKeyNR (probR p gq gk sk bs n h) (cotR o n h) (qryR p n h) (valR p n h) gq ⟨w.val * 128 + a.val, by omega⟩ d : ℝ) : EReal) := by
  pointwise [val_main_v186, val_main_v185, val_main_v184, val_main_v181]
  simp only [v180_at, v38_at, ← EReal.coe_mul, ← coe_sum]
  unfold dKeyNR
  rw [sum_rows, Finset.sum_comm]
  refine congrArg _ (Finset.sum_congr rfl fun g _ => Finset.sum_congr rfl fun b _ => mul_comm _ _)

theorem v207_at (n : Fin 32) (a : Fin 128) (h g : Fin 4) (d : Fin 64) (r : Fin 4096) (k : Fin 16) (hr : r.val = 128 * n.val + a.val)
    (hk : k.val = 4 * h.val + g.val) :
    val_main_v207 (F := Ideal) (X0 p) (X1 gq) (X1 gk) (X3 sk) (X4 bs) (X5 o) (Idealize.ShloMosaic.ix3 r k d) = ((dQueryNR (probR p gq gk sk bs n h) (cotR o n h) (keyR p n h) (valR p n h) gk (row g a) d : ℝ) : EReal) := by
  pointwise [val_main_v207]
  refine (congrArg (val_main_v183 (F := Ideal) (X0 p) (X1 gq) (X1 gk) (X3 sk) (X4 bs) (X5 o)) (?_ : _ = Idealize.ShloMosaic.ix5 n a h g d)).trans (v183_at p gq gk sk bs o n a h g d)
  blk_ext

/-! The queries. -/

theorem v227_at (n : Fin 32) (a : Fin 128) (h g : Fin 4) (d : Fin 64) (r : Fin 4096) (k : Fin 16) (hr : r.val = 128 * n.val + a.val)
    (hk : k.val = 4 * h.val + g.val) :
    val_main_v227 (F := Ideal) (X0 p) (X1 gq) (X1 gk) (X3 sk) (X4 bs) (X5 o) (Idealize.ShloMosaic.ix3 r k d) = ((dQueryR (probR p gq gk sk bs n h) (cotR o n h) (qryR p n h) (keyR p n h) (valR p n h) gq gk (row g a) d : ℝ) : EReal) := by
  have h223 : ∀ e : Fin 64, val_main_v212 (F := Ideal) (X0 p) (X1 gq) (X1 gk) (X3 sk) (X4 bs) (X5 o) (Idealize.ShloMosaic.ix3 r k e)
      = ((dQueryNR (probR p gq gk sk bs n h) (cotR o n h) (keyR p n h) (valR p n h) gk (row g a) e * gq e : ℝ) : EReal) := by
    intro e
    pointwise [val_main_v212, val_main_v211, val_main_v35]
    rw [v207_at p gq gk sk bs o n a h g e r k hr hk, show X1 gq (Idealize.ShloMosaic.ix1 e) = ((gq e : ℝ) : EReal) from rfl, ← EReal.coe_mul]
  have h229 : val_main_v218 (F := Ideal) (X0 p) (X1 gq) (X1 gk) (X3 sk) (X4 bs) (X5 o) (Idealize.ShloMosaic.ix3 r k d)
      = ((dQueryNR (probR p gq gk sk bs n h) (cotR o n h) (keyR p n h) (valR p n h) gk (row g a) d * gq d * rinvR (headR p r k) : ℝ) : EReal) := by
    pointwise [val_main_v218, val_main_v217]
    rw [h223, v29_at, ← EReal.coe_mul]
  have h234 : val_main_v223 (F := Ideal) (X0 p) (X1 gq) (X1 gk) (X3 sk) (X4 bs) (X5 o) (Idealize.ShloMosaic.ix3 r k d)
      = (((∑ e : Fin 64, headR p r k e * (dQueryNR (probR p gq gk sk bs n h) (cotR o n h) (keyR p n h) (valR p n h) gk (row g a) e * gq e))
          * (-(1 / 2) * (rinvR (headR p r k) / (msR (headR p r k) + eps))) / 64 : ℝ) : EReal) := by
    pointwise [val_main_v223, val_main_v222, val_main_cst_46, val_main_v221, val_main_v220, val_main_cst_45, val_main_v219, val_main_v216,
      val_main_v215, val_main_cst_44, val_main_v214]
    simp only [Fin.sum_univ_one, h223, v1_at, v32_at, ofBits_64, ← EReal.coe_mul, ← coe_sum, div_real (show (64 : ℝ) ≠ 0 by norm_num)]
  have h235 : val_main_v224 (F := Ideal) (X0 p) (X1 gq) (X1 gk) (X3 sk) (X4 bs) (X5 o) (Idealize.ShloMosaic.ix3 r k d)
      = ((headR p r k d * ((∑ e : Fin 64, headR p r k e * (dQueryNR (probR p gq gk sk bs n h) (cotR o n h) (keyR p n h) (valR p n h) gk (row g a) e * gq e))
          * (-(1 / 2) * (rinvR (headR p r k) / (msR (headR p r k) + eps))) / 64) : ℝ) : EReal) := by
    pointwise [val_main_v224]
    rw [h234, v1_at, ← EReal.coe_mul]
  have h237 : val_main_v226 (F := Ideal) (X0 p) (X1 gq) (X1 gk) (X3 sk) (X4 bs) (X5 o) (Idealize.ShloMosaic.ix3 r k d)
      = (((∑ e : Fin 64, headR p r k e * (dQueryNR (probR p gq gk sk bs n h) (cotR o n h) (keyR p n h) (valR p n h) gk (row g a) e * gq e))
          * (-(1 / 2) * (rinvR (headR p r k) / (msR (headR p r k) + eps))) / 64 * headR p r k d : ℝ) : EReal) := by
    pointwise [val_main_v226]
    rw [h234, v1_at, ← EReal.coe_mul]
  rw [val_main_v227_apply, val_main_v225_apply, h229, h235, h237]
  refine ((congrArg (· + _) (EReal.coe_add _ _)).symm.trans (EReal.coe_add _ _).symm).trans ?_
  rw [nrmGrad_two, head_eq p n a h g r k hr hk]
  rfl

/-! The keys and values. -/

theorem v206_at (n : Fin 32) (w : Fin 2) (a : Fin 128) (h : Fin 4) (d : Fin 64) :
    val_main_v206 (F := Ideal) (X0 p) (X1 gq) (X1 gk) (X3 sk) (X4 bs) (X5 o) (Idealize.ShloMosaic.ix5 n w a h d)
      = ((dKeyR (probR p gq gk sk bs n h) (cotR o n h) (qryR p n h) (keyR p n h) (valR p n h) gq gk ⟨w.val * 128 + a.val, by omega⟩ d : ℝ) : EReal) := by
  have h202 : ∀ e : Fin 64, val_main_v191 (F := Ideal) (X0 p) (X1 gq) (X1 gk) (X3 sk) (X4 bs) (X5 o) (Idealize.ShloMosaic.ix5 n w a h e)
      = ((dKeyNR (probR p gq gk sk bs n h) (cotR o n h) (qryR p n h) (valR p n h) gq ⟨w.val * 128 + a.val, by omega⟩ e * gk e : ℝ) : EReal) := by
    intro e
    pointwise [val_main_v191, val_main_v190, val_main_v52]
    rw [v186_at, show X1 gk (Idealize.ShloMosaic.ix1 e) = ((gk e : ℝ) : EReal) from rfl, ← EReal.coe_mul]
  have h208 : val_main_v197 (F := Ideal) (X0 p) (X1 gq) (X1 gk) (X3 sk) (X4 bs) (X5 o) (Idealize.ShloMosaic.ix5 n w a h d)
      = ((dKeyNR (probR p gq gk sk bs n h) (cotR o n h) (qryR p n h) (valR p n h) gq ⟨w.val * 128 + a.val, by omega⟩ d * gk d
          * rinvR (keyR p n h ⟨w.val * 128 + a.val, by omega⟩) : ℝ) : EReal) := by
    pointwise [val_main_v197, val_main_v196]
    rw [h202, v46_at, ← EReal.coe_mul]
  have h213 : val_main_v202 (F := Ideal) (X0 p) (X1 gq) (X1 gk) (X3 sk) (X4 bs) (X5 o) (Idealize.ShloMosaic.ix5 n w a h d)
      = (((∑ e : Fin 64, keyR p n h ⟨w.val * 128 + a.val, by omega⟩ e * (dKeyNR (probR p gq gk sk bs n h) (cotR o n h) (qryR p n h) (valR p n h) gq ⟨w.val * 128 + a.val, by omega⟩ e * gk e))
          * (-(1 / 2) * (rinvR (keyR p n h ⟨w.val * 128 + a.val, by omega⟩) / (msR (keyR p n h ⟨w.val * 128 + a.val, by omega⟩) + eps))) / 64 : ℝ) : EReal) := by
    pointwise [val_main_v202, val_main_v201, val_main_cst_41, val_main_v200, val_main_v199, val_main_cst_40, val_main_v198, val_main_v195,
      val_main_v194, val_main_cst_39, val_main_v193]
    simp only [Fin.sum_univ_one, h202, v13_at, v49_at, ofBits_64, ← EReal.coe_mul, ← coe_sum, div_real (show (64 : ℝ) ≠ 0 by norm_num)]
  have h214 : val_main_v203 (F := Ideal) (X0 p) (X1 gq) (X1 gk) (X3 sk) (X4 bs) (X5 o) (Idealize.ShloMosaic.ix5 n w a h d) = ((keyR p n h ⟨w.val * 128 + a.val, by omega⟩ d
          * ((∑ e : Fin 64, keyR p n h ⟨w.val * 128 + a.val, by omega⟩ e * (dKeyNR (probR p gq gk sk bs n h) (cotR o n h) (qryR p n h) (valR p n h) gq ⟨w.val * 128 + a.val, by omega⟩ e * gk e))
          * (-(1 / 2) * (rinvR (keyR p n h ⟨w.val * 128 + a.val, by omega⟩) / (msR (keyR p n h ⟨w.val * 128 + a.val, by omega⟩) + eps))) / 64) : ℝ) : EReal) := by
    rw [val_main_v203_apply, h213, v13_at]
    exact (EReal.coe_mul _ _).symm
  have h216 : val_main_v205 (F := Ideal) (X0 p) (X1 gq) (X1 gk) (X3 sk) (X4 bs) (X5 o) (Idealize.ShloMosaic.ix5 n w a h d) = ((((∑ e : Fin 64, keyR p n h ⟨w.val * 128 + a.val, by omega⟩ e * (dKeyNR (probR p gq gk sk bs n h) (cotR o n h) (qryR p n h) (valR p n h) gq ⟨w.val * 128 + a.val, by omega⟩ e * gk e))
          * (-(1 / 2) * (rinvR (keyR p n h ⟨w.val * 128 + a.val, by omega⟩) / (msR (keyR p n h ⟨w.val * 128 + a.val, by omega⟩) + eps))) / 64) * keyR p n h ⟨w.val * 128 + a.val, by omega⟩ d : ℝ) : EReal) := by
    rw [val_main_v205_apply, h213, v13_at]
    exact (EReal.coe_mul _ _).symm
  rw [val_main_v206_apply, val_main_v204_apply, h208, h214, h216]
  refine ((congrArg (· + _) (EReal.coe_add _ _)).symm.trans (EReal.coe_add _ _).symm).trans ?_
  rw [nrmGrad_two]
  rfl

/-! The gains. -/

/-- A sum over `A * B` terms, in `A` groups of `B`. -/
theorem sum_groups {M : Type} [AddCommMonoid M] {N : ℕ} (A B : ℕ) (hN : N = A * B) (f : Fin N → M) :
    ∑ i : Fin N, f i = ∑ a : Fin A, ∑ b : Fin B, f ⟨a.val * B + b.val, by
      have := Nat.mul_le_mul_right B (Nat.succ_le_of_lt a.isLt)
      have hb := b.isLt
      rw [hN]; rw [Nat.succ_mul] at this; omega⟩ := by
  subst hN
  rw [← Fintype.sum_prod_type', ← finProdFinEquiv.sum_comp]
  refine Finset.sum_congr rfl fun x _ => congrArg f (Fin.ext ?_)
  show x.2.val + B * x.1.val = x.1.val * B + x.2.val
  rw [Nat.mul_comm, Nat.add_comm]

theorem v237_at (u : Fin 1) (d : Fin 64) :
    val_main_v237 (F := Ideal) (X0 p) (X1 gq) (X1 gk) (X3 sk) (X4 bs) (X5 o) (Idealize.ShloMosaic.ix2 u d)
      = ((∑ n : Fin 32, ∑ h : Fin 4, dGainKR (probR p gq gk sk bs n h) (cotR o n h) (qryR p n h) (keyR p n h) (valR p n h) gq d : ℝ) : EReal) := by
  have h198 : ∀ (n : Fin 32) (w : Fin 2) (a : Fin 128) (h : Fin 4), val_main_v187 (F := Ideal) (X0 p) (X1 gq) (X1 gk) (X3 sk) (X4 bs) (X5 o) (Idealize.ShloMosaic.ix5 n w a h d)
      = ((gainTermR (dKeyNR (probR p gq gk sk bs n h) (cotR o n h) (qryR p n h) (valR p n h) gq ⟨w.val * 128 + a.val, by omega⟩) (keyR p n h ⟨w.val * 128 + a.val, by omega⟩) d : ℝ) : EReal) := by
    intro n w a h
    rw [val_main_v187_apply, v51_at, v186_at]
    refine (EReal.coe_mul _ _).symm.trans ?_
    rw [mul_comm]
    rfl
  have h199 : val_main_v188 (F := Ideal) (X0 p) (X1 gq) (X1 gk) (X3 sk) (X4 bs) (X5 o) (Idealize.ShloMosaic.ix1 d)
      = ((∑ n : Fin 32, ∑ h : Fin 4, dGainKR (probR p gq gk sk bs n h) (cotR o n h) (qryR p n h) (keyR p n h) (valR p n h) gq d : ℝ) : EReal) := by
    unfold val_main_v188
    rw [ValueIdx.hostReduceAdd_apply, Sums.sum_0123_of_5]
    rw [show val_main_cst_37 (F := Ideal) (Shape.Idx.first h_S_) = 0 from Ideal.ofBits_zero_f32, zero_add]
    simp only [h198, ← coe_sum]
    refine congrArg _ (Finset.sum_congr rfl fun n _ => ?_)
    unfold dGainKR
    rw [Finset.sum_comm (s := (Finset.univ : Finset (Fin 4)))]
    rw [sum_groups 2 128 rfl]
  have h203 : val_main_v192 (F := Ideal) (X0 p) (X1 gq) (X1 gk) (X3 sk) (X4 bs) (X5 o) (Idealize.ShloMosaic.ix1 d) = val_main_v188 (F := Ideal) (X0 p) (X1 gq) (X1 gk) (X3 sk) (X4 bs) (X5 o) (Idealize.ShloMosaic.ix1 d) := by
    unfold val_main_v192
    rw [ValueIdx.hostReduceAdd_apply, Sums.sum_0123_of_5]
    rw [show val_main_cst_38 (F := Ideal) (Shape.Idx.first h_S_) = 0 from Ideal.ofBits_zero_f32, zero_add]
    simp only [Fin.sum_univ_one]
    pointwise [val_main_v189]
  have h248 : val_main_v237 (F := Ideal) (X0 p) (X1 gq) (X1 gk) (X3 sk) (X4 bs) (X5 o) (Idealize.ShloMosaic.ix2 u d) = val_main_v192 (F := Ideal) (X0 p) (X1 gq) (X1 gk) (X3 sk) (X4 bs) (X5 o) (Idealize.ShloMosaic.ix1 d) := by
    pointwise [val_main_v237]
  rw [h248, h203, h199]

theorem v236_at (u : Fin 1) (d : Fin 64) :
    val_main_v236 (F := Ideal) (X0 p) (X1 gq) (X1 gk) (X3 sk) (X4 bs) (X5 o) (Idealize.ShloMosaic.ix2 u d)
      = ((∑ n : Fin 32, ∑ h : Fin 4, dGainQR (probR p gq gk sk bs n h) (cotR o n h) (qryR p n h) (keyR p n h) (valR p n h) gk d : ℝ) : EReal) := by
  have h219 : ∀ (n : Fin 32) (a : Fin 128) (h g : Fin 4),
      val_main_v208 (F := Ideal) (X0 p) (X1 gq) (X1 gk) (X3 sk) (X4 bs) (X5 o) (Idealize.ShloMosaic.ix3 (⟨n.val * 128 + a.val, by omega⟩ : Fin 4096) (⟨h.val * 4 + g.val, by omega⟩ : Fin 16) d)
        = ((gainTermR (dQueryNR (probR p gq gk sk bs n h) (cotR o n h) (keyR p n h) (valR p n h) gk (row g a)) (qryR p n h (row g a)) d : ℝ) : EReal) := by
    intro n a h g
    rw [val_main_v208_apply, v34_at, v207_at p gq gk sk bs o n a h g d _ _ (by show n.val * 128 + a.val = _; omega) (by show h.val * 4 + g.val = _; omega),
      head_eq p n a h g _ _ (by show n.val * 128 + a.val = _; omega) (by show h.val * 4 + g.val = _; omega)]
    refine (EReal.coe_mul _ _).symm.trans ?_
    rw [mul_comm]
    rfl
  have h220 : val_main_v209 (F := Ideal) (X0 p) (X1 gq) (X1 gk) (X3 sk) (X4 bs) (X5 o) (Idealize.ShloMosaic.ix1 d)
      = ((∑ n : Fin 32, ∑ h : Fin 4, dGainQR (probR p gq gk sk bs n h) (cotR o n h) (qryR p n h) (keyR p n h) (valR p n h) gk d : ℝ) : EReal) := by
    unfold val_main_v209
    rw [ValueIdx.hostReduceAdd_apply, Sums.sum_01_of_3]
    rw [show val_main_cst_42 (F := Ideal) (Shape.Idx.first h_S_) = 0 from Ideal.ofBits_zero_f32, zero_add]
    rw [sum_groups 32 128 rfl]
    simp only [sum_groups 4 4 (show 16 = 4 * 4 from rfl), h219, ← coe_sum]
    refine congrArg _ (Finset.sum_congr rfl fun n _ => ?_)
    unfold dGainQR
    rw [Finset.sum_comm]
    refine Finset.sum_congr rfl fun h _ => ?_
    rw [sum_rows, Finset.sum_comm]
  have h224 : val_main_v213 (F := Ideal) (X0 p) (X1 gq) (X1 gk) (X3 sk) (X4 bs) (X5 o) (Idealize.ShloMosaic.ix1 d) = val_main_v209 (F := Ideal) (X0 p) (X1 gq) (X1 gk) (X3 sk) (X4 bs) (X5 o) (Idealize.ShloMosaic.ix1 d) := by
    unfold val_main_v213
    rw [ValueIdx.hostReduceAdd_apply, Sums.sum_01_of_3]
    rw [show val_main_cst_43 (F := Ideal) (Shape.Idx.first h_S_) = 0 from Ideal.ofBits_zero_f32, zero_add]
    simp only [Fin.sum_univ_one]
    pointwise [val_main_v210]
  have h247 : val_main_v236 (F := Ideal) (X0 p) (X1 gq) (X1 gk) (X3 sk) (X4 bs) (X5 o) (Idealize.ShloMosaic.ix2 u d) = val_main_v213 (F := Ideal) (X0 p) (X1 gq) (X1 gk) (X3 sk) (X4 bs) (X5 o) (Idealize.ShloMosaic.ix1 d) := by
    pointwise [val_main_v236]
  rw [h247, h224, h220]

/-! The arrays of the queries' and of the keys' and values' gradients. -/

theorem v232_at (r : Fin 4096) (k : Fin 1024) :
    val_main_v232 (F := Ideal) (X0 p) (X1 gq) (X1 gk) (X3 sk) (X4 bs) (X5 o) (Idealize.ShloMosaic.ix2 r k)
      = ((dQueryR (probR p gq gk sk bs ⟨r.val / 128, by omega⟩ ⟨k.val / 256, by omega⟩) (cotR o ⟨r.val / 128, by omega⟩ ⟨k.val / 256, by omega⟩)
          (qryR p ⟨r.val / 128, by omega⟩ ⟨k.val / 256, by omega⟩) (keyR p ⟨r.val / 128, by omega⟩ ⟨k.val / 256, by omega⟩)
          (valR p ⟨r.val / 128, by omega⟩ ⟨k.val / 256, by omega⟩) gq gk
          (row ⟨k.val % 256 / 64, by omega⟩ ⟨r.val % 128, by omega⟩) ⟨k.val % 64, by omega⟩ : ℝ) : EReal) := by
  pointwise [val_main_v232, val_main_v231]
  refine (congrArg (val_main_v227 (F := Ideal) (X0 p) (X1 gq) (X1 gk) (X3 sk) (X4 bs) (X5 o)) (?_ : _ = Idealize.ShloMosaic.ix3 r (⟨k.val / 64, by omega⟩ : Fin 16) (⟨k.val % 64, by omega⟩ : Fin 64))).trans
    (v227_at p gq gk sk bs o ⟨r.val / 128, by omega⟩ ⟨r.val % 128, by omega⟩ ⟨k.val / 256, by omega⟩ ⟨k.val % 256 / 64, by omega⟩
      ⟨k.val % 64, by omega⟩ r ⟨k.val / 64, by omega⟩ (by show r.val = 128 * (r.val / 128) + r.val % 128; omega)
      (by show k.val / 64 = 4 * (k.val / 256) + k.val % 256 / 64; omega))
  blk_ext

theorem v233_key (n : Fin 32) (w : Fin 2) (a : Fin 128) (k : Fin 512) (hk : k.val < 256) :
    val_main_v233 (F := Ideal) (X0 p) (X1 gq) (X1 gk) (X3 sk) (X4 bs) (X5 o) (Idealize.ShloMosaic.ix4 n w a k)
      = ((dKeyR (probR p gq gk sk bs n ⟨k.val % 256 / 64, by omega⟩) (cotR o n ⟨k.val % 256 / 64, by omega⟩) (qryR p n ⟨k.val % 256 / 64, by omega⟩)
          (keyR p n ⟨k.val % 256 / 64, by omega⟩) (valR p n ⟨k.val % 256 / 64, by omega⟩) gq gk ⟨w.val * 128 + a.val, by omega⟩
          ⟨k.val % 64, by omega⟩ : ℝ) : EReal) := by
  pointwise [val_main_v233, val_main_v230, val_main_v228]
  rw [dif_pos hk]
  refine (congrArg (val_main_v206 (F := Ideal) (X0 p) (X1 gq) (X1 gk) (X3 sk) (X4 bs) (X5 o)) (?_ : _ = Idealize.ShloMosaic.ix5 n w a (⟨k.val % 256 / 64, by omega⟩ : Fin 4) (⟨k.val % 64, by omega⟩ : Fin 64))).trans
    (v206_at p gq gk sk bs o n w a ⟨k.val % 256 / 64, by omega⟩ ⟨k.val % 64, by omega⟩)
  blk_ext

theorem v233_val (n : Fin 32) (w : Fin 2) (a : Fin 128) (k : Fin 512) (hk : ¬ k.val < 256) :
    val_main_v233 (F := Ideal) (X0 p) (X1 gq) (X1 gk) (X3 sk) (X4 bs) (X5 o) (Idealize.ShloMosaic.ix4 n w a k)
      = ((dValueR (probR p gq gk sk bs n ⟨k.val % 256 / 64, by omega⟩) (cotR o n ⟨k.val % 256 / 64, by omega⟩) ⟨w.val * 128 + a.val, by omega⟩
          ⟨k.val % 64, by omega⟩ : ℝ) : EReal) := by
  pointwise [val_main_v233, val_main_v230, val_main_v229]
  rw [dif_neg hk]
  refine (congrArg (val_main_v141 (F := Ideal) (X0 p) (X1 gq) (X1 gk) (X3 sk) (X4 bs) (X5 o)) (?_ : _ = Idealize.ShloMosaic.ix5 n w a (⟨k.val % 256 / 64, by omega⟩ : Fin 4) (⟨k.val % 64, by omega⟩ : Fin 64))).trans
    (v141_at p gq gk sk bs o n w a ⟨k.val % 256 / 64, by omega⟩ ⟨k.val % 64, by omega⟩)
  blk_ext

end Cert.AttnRef.Results
-- ==== Proof.Attn.Probs.lean ====
module

public import proofs.«01_k».proof.Proof.Gen.AttnIdeal.Value
public import proofs.«01_k».proof.Proof.Gen.AttnRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnIdeal.Probs

open Cert.AttnIdeal Cert.AttnIdeal.Gen

variable (m : (ℓ : Loc nD τ sig) → Buf (Elt Ideal) ℓ)

/-! The probabilities the call is given are the reference's. -/

set_option maxHeartbeats 4000000 in
theorem entryP (c : Dev nD) : V m c main_v92
    = (truncf .bf16 (φ := .f32) (shapeCast S32x4x512x256 (AttnRefIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
        shapeCasts_S32x4x4x128x256_S32x4x512x256) bitsLt_bf16_f32 : FVec Ideal S32x4x512x256 .bf16) := by
  simp only [V, List.flatten_cons, List.flatten_nil, List.append_nil, hostOps0, hostOps0_1, hostOps0_2, List.cons_append, List.nil_append]
  after_results_simp
  rfl

set_option maxHeartbeats 4000000 in
theorem entryS (c : Dev nD) : V m c main_v93
    = (shapeCast S32x4x512x1 (AttnRefIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
        shapeCasts_S32x4x4x128x1_S32x4x512x1 : FVec Ideal S32x4x512x1 .f32) := by
  simp only [V, List.flatten_cons, List.flatten_nil, List.append_nil, hostOps0, hostOps0_1, hostOps0_2, List.cons_append, List.nil_append]
  after_results_simp
  rfl

theorem atP (c : Dev nD) (n : Fin 32) (h : Fin 4) (s : Fin 512) (j : Fin 256) :
    V m c main_v92 (Idealize.ShloMosaic.ix4 n h s j) = AttnRefIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      (Idealize.ShloMosaic.ix5 n h (⟨s.val / 128, by omega⟩ : Fin 4) (⟨s.val % 128, by omega⟩ : Fin 128) j) := by
  rw [entryP]
  generalize AttnRefIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = x
  pointwise []
  try (refine congrArg x ?_; blk_ext)

theorem atS (c : Dev nD) (n : Fin 32) (h : Fin 4) (s : Fin 512) :
    V m c main_v93 (Idealize.ShloMosaic.ix4 n h s (0 : Fin 1)) = AttnRefIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      (Idealize.ShloMosaic.ix5 n h (⟨s.val / 128, by omega⟩ : Fin 4) (⟨s.val % 128, by omega⟩ : Fin 128) (0 : Fin 1)) := by
  rw [entryS]
  generalize AttnRefIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = x
  pointwise []
  try (refine congrArg x ?_; blk_ext)

end Cert.AttnIdeal.Probs
-- ==== Proof.Attn.Data.lean ====
module

public import proofs.«01_k».proof.Proof.Attn.Formula
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnFormula

/-- The queries of the block `n` of rows and the group `h`: the four heads under each other. -/
def qry (p : Fin 4096 → Fin 5632 → EReal) (n : Fin 32) (h : Fin 4) (s : Fin 512) (d : Fin 64) : EReal :=
  p ⟨128 * n.val + s.val % 128, by omega⟩ ⟨2048 + (256 * h.val + 64 * (s.val / 128) + d.val), by omega⟩

/-- The cotangent of the attention's output at the same place. -/
def cotan (o : Fin 4096 → Fin 1024 → EReal) (n : Fin 32) (h : Fin 4) (s : Fin 512) (d : Fin 64) : EReal :=
  o ⟨128 * n.val + s.val % 128, by omega⟩ ⟨256 * h.val + 64 * (s.val / 128) + d.val, by omega⟩

/-- The row of the sequence at the place `j` of the window of the block `n`; before the sequence's start any row. -/
def wrow (n : Fin 32) (j : Fin 256) : Fin 4096 :=
  ⟨if 128 * n.val + j.val < 128 then j.val else 128 * n.val + j.val - 128, by split <;> omega⟩

/-- The keys of a window. -/
def keyW (p : Fin 4096 → Fin 5632 → EReal) (n : Fin 32) (h : Fin 4) (j : Fin 256) (d : Fin 64) : EReal :=
  p (wrow n j) ⟨3072 + (64 * h.val + d.val), by omega⟩

/-- The values of a window. -/
def valW (p : Fin 4096 → Fin 5632 → EReal) (n : Fin 32) (h : Fin 4) (j : Fin 256) (d : Fin 64) : EReal :=
  p (wrow n j) ⟨3328 + (64 * h.val + d.val), by omega⟩

variable (p : Fin 4096 → Fin 5632 → EReal) (o : Fin 4096 → Fin 1024 → EReal)
  (P : Fin 32 → Fin 4 → Fin 512 → Fin 256 → EReal) (S : Fin 32 → Fin 4 → Fin 512 → EReal) (gq gk : Fin 64 → EReal)

/-- The gradient in the queries of a block and a group. -/
def blkQ (n : Fin 32) (h : Fin 4) (s : Fin 512) (d : Fin 64) : EReal :=
  dQuery (P n h) (cotan o n h) (qry p n h) (keyW p n h) (valW p n h) gq gk s d

/-- The gradient in the keys of a block's window and a group. -/
def blkK (n : Fin 32) (h : Fin 4) (j : Fin 256) (d : Fin 64) : EReal :=
  dKey (P n h) (cotan o n h) (qry p n h) (keyW p n h) (valW p n h) gq gk j d

/-- The gradient in the values of a block's window and a group. -/
def blkV (n : Fin 32) (h : Fin 4) (j : Fin 256) (d : Fin 64) : EReal := dValue (P n h) (cotan o n h) j d

/-- The gradient in the scores of a block and a group. -/
def blkS (n : Fin 32) (h : Fin 4) (s : Fin 512) (j : Fin 256) : EReal := dScore (P n h) (cotan o n h) (valW p n h) s j

/-- A block's part of a sink's gradient. -/
def blkN (n : Fin 32) (h g : Fin 4) : EReal := dSink (P n h) (cotan o n h) (valW p n h) (S n h) g

/-- A block's part of the gradient of the queries' gain. -/
def blkGQ (n : Fin 32) (h : Fin 4) (d : Fin 64) : EReal :=
  dGainQ (P n h) (cotan o n h) (qry p n h) (keyW p n h) (valW p n h) gk d

/-- A block's part of the gradient of the keys' gain. -/
def blkGK (n : Fin 32) (h : Fin 4) (d : Fin 64) : EReal :=
  dGainK (P n h) (cotan o n h) (qry p n h) (keyW p n h) (valW p n h) gq d

/-- The gradient in the queries, as an array of rows and columns. -/
def arrQ (r : Fin 4096) (k : Fin 1024) : EReal :=
  blkQ p o P gq gk ⟨r.val / 128, by omega⟩ ⟨k.val / 256, by omega⟩ ⟨k.val % 256 / 64 * 128 + r.val % 128, by omega⟩ ⟨k.val % 64, by omega⟩

/-- The two halves of the windows' gradients, the keys' columns and the values' columns beside each other. -/
def arrKV (n : Fin 32) (r : Fin 2) (a : Fin 128) (k : Fin 512) : EReal :=
  if k.val < 256 then blkK p o P gq gk n ⟨k.val % 256 / 64, by omega⟩ ⟨128 * r.val + a.val, by omega⟩ ⟨k.val % 64, by omega⟩
  else blkV o P n ⟨k.val % 256 / 64, by omega⟩ ⟨128 * r.val + a.val, by omega⟩ ⟨k.val % 64, by omega⟩

/-- The gradient in the scores, summed over the blocks. -/
def arrB (h : Fin 4) (s : Fin 512) (j : Fin 256) : EReal := ∑ n : Fin 32, blkS p o P n h s j

/-- The gradient in the sinks. -/
def arrN (h g : Fin 4) : EReal := ∑ n : Fin 32, blkN p o P S n h g

/-- The gradient in the queries' gain. -/
def arrGQ (d : Fin 64) : EReal := ∑ n : Fin 32, ∑ h : Fin 4, blkGQ p o P gk n h d

/-- The gradient in the keys' gain. -/
def arrGK (d : Fin 64) : EReal := ∑ n : Fin 32, ∑ h : Fin 4, blkGK p o P gq n h d

/-- Thirty-two blocks, four to a point. -/
theorem sum_blocks (f : Fin 32 → EReal) :
    (∑ t : Fin 8, ∑ u : Fin 4, f ⟨4 * t.val + u.val, by omega⟩) = ∑ n : Fin 32, f n := by
  refine Eq.trans (Fin.sum_divmod_fin (N := 32) (A := 8) 4 (fun t u => f ⟨4 * t.val + u.val, by omega⟩)).symm ?_
  exact Finset.sum_congr rfl fun n _ => congrArg f (Fin.ext (by show 4 * (n.val / 4) + n.val % 4 = n.val; omega))

/-- The same with the groups' sum between the two. -/
theorem sum_blocks_groups (f : Fin 4 → Fin 32 → EReal) :
    (∑ t : Fin 8, ∑ h : Fin 4, ∑ u : Fin 4, f h ⟨4 * t.val + u.val, by omega⟩) = ∑ n : Fin 32, ∑ h : Fin 4, f h n := by
  rw [← sum_blocks]
  exact Finset.sum_congr rfl fun t _ => Finset.sum_comm

end Cert.AttnFormula
-- ==== Proof.Attn.Block.lean ====
module

public import proofs.«01_k».proof.Proof.Gen.AttnIdeal.Skeleton
public import proofs.«01_k».proof.Proof.Attn.Formula
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnIdeal.Block

open Cert.AttnIdeal Cert.AttnIdeal.Gen Cert.AttnFormula

/-- The selector of the head `u`'s sixty-four columns out of a group of four heads. -/
def sel : Fin 4 → FVec Ideal S256x64 .bf16
  | 0 => k0_pay3
  | 1 => k0_pay4
  | 2 => k0_pay5
  | 3 => k0_pay6

/-- The head `u`'s columns of the block's rows. -/
def take (x : Vec Ideal S128x256 .bf16) (u : Fin 4) : FVec Ideal S128x64 .f32 :=
  matmul (φ₁ := .bf16) dot_S128x256_S256x64_S128x64_1_0_0_1_n_n none (shapeCast S128x256 x shapeCasts_S128x256_S128x256) (sel u) (constant S128x64 .f32 0x00000000#32)

/-- Four blocks of rows below each other. -/
def stack (a b c d : FVec Ideal S128x64 .f32) : FVec Ideal S512x64 .f32 :=
  concatenate S512x64 0 [⟨S128x64, a⟩, ⟨S128x64, b⟩, ⟨S128x64, c⟩, ⟨S128x64, d⟩]
    concatenates_S128x64_S128x64_S128x64_S128x64_S512x64_d0

/-- The rows of a group's four heads below each other. -/
def heads (x : Vec Ideal S128x256 .bf16) : FVec Ideal S512x64 .f32 :=
  stack (take x 0) (take x 1) (take x 2) (take x 3)

/-- One head's keys (or values): those of the block before, then those of the four blocks. -/
def keys (u : Fin 4) (a : Vec Ideal S128x256 .bf16) (b : Vec Ideal S512x256 .bf16) : FVec Ideal S640x64 .f32 :=
  concatenate S640x64 0 [⟨S128x64, take a u⟩, ⟨S512x64, matmul (φ₁ := .bf16) dot_S512x256_S256x64_S512x64_1_0_0_1_n_n none (shapeCast S512x256 b shapeCasts_S512x256_S512x256) (sel u) (constant S512x64 .f32 0x00000000#32)⟩]
    concatenates_S128x64_S512x64_S640x64_d0

/-- The reciprocals of the root mean squares of the keys. -/
def keysR (x : FVec Ideal S640x64 .f32) : FVec Ideal S640x1 .f32 :=
  rsqrt (addf (divf (shapeCast S640x1 (multiReduction .add [1] S640 (mulf x x) 0x00000000#32 reduces_S640x64_S640 (.inl rfl) rfl)
    shapeCasts_S640_S640x1) (broadcast S640x1 (Scalar.ofBits .f32 0x42800000#32))) (broadcast S640x1 (Scalar.ofBits .f32 0x358637BD#32)))

/-- The normed keys. -/
def keysN (x : FVec Ideal S640x64 .f32) (g : Vec Ideal S1x64 .f32) : FVec Ideal S640x64 .bf16 :=
  truncf .bf16 (mulf (mulf x (broadcastTo S640x64 (keysR x) broadcasts_S640x1_S640x64))
    (broadcastTo S640x64 (shapeCast S1x64 g shapeCasts_S1x64_S1x64) broadcasts_S1x64_S640x64)) bitsLt_bf16_f32

/-- The window of the keys that the block `u` of the four looks at. -/
def win {φ : FTy} (u : Fin 4) (x : FVec Ideal S640x64 φ) : FVec Ideal S256x64 φ :=
  match u with
  | 0 => extractStridedSlice S256x64 ![0, 0] x slices_S640x64_o0_0_S256x64
  | 1 => extractStridedSlice S256x64 ![128, 0] x slices_S640x64_o128_0_S256x64
  | 2 => extractStridedSlice S256x64 ![256, 0] x slices_S640x64_o256_0_S256x64
  | 3 => extractStridedSlice S256x64 ![384, 0] x slices_S640x64_o384_0_S256x64

/-- The same window of a column. -/
def winR (u : Fin 4) (x : FVec Ideal S640x1 .f32) : FVec Ideal S256x1 .f32 :=
  match u with
  | 0 => extractStridedSlice S256x1 ![0, 0] x slices_S640x1_o0_0_S256x1
  | 1 => extractStridedSlice S256x1 ![128, 0] x slices_S640x1_o128_0_S256x1
  | 2 => extractStridedSlice S256x1 ![256, 0] x slices_S640x1_o256_0_S256x1
  | 3 => extractStridedSlice S256x1 ![384, 0] x slices_S640x1_o384_0_S256x1

/-- The reciprocals of the root mean squares of the queries. -/
def queryR (x : FVec Ideal S512x64 .f32) : FVec Ideal S512x1 .f32 :=
  rsqrt (addf (divf (shapeCast S512x1 (multiReduction .add [1] S512 (mulf x x) 0x00000000#32 reduces_S512x64_S512 (.inl rfl) rfl)
    shapeCasts_S512_S512x1) (broadcast S512x1 (Scalar.ofBits .f32 0x42800000#32))) (broadcast S512x1 (Scalar.ofBits .f32 0x358637BD#32)))

/-- The normed queries. -/
def queryN (x : FVec Ideal S512x64 .f32) (g : Vec Ideal S1x64 .f32) : FVec Ideal S512x64 .f32 :=
  mulf (mulf x (broadcastTo S512x64 (queryR x) broadcasts_S512x1_S512x64))
    (broadcastTo S512x64 (shapeCast S1x64 g shapeCasts_S1x64_S1x64) broadcasts_S1x64_S512x64)

/-- The probabilities of one block and group. -/
def probs (p : Vec Ideal S1x1x512x256 .bf16) : FVec Ideal S512x256 .bf16 := shapeCast S512x256 p shapeCasts_S1x1x512x256_S512x256

/-- The cotangent of one block and group. -/
def cot (x : Vec Ideal S128x256 .bf16) : FVec Ideal S512x64 .bf16 := truncf .bf16 (heads x) bitsLt_bf16_f32

/-- The gradient in the values of the window. -/
def dV (p : Vec Ideal S1x1x512x256 .bf16) (o : Vec Ideal S128x256 .bf16) : FVec Ideal S256x64 .f32 :=
  transpose S256x64 [1, 0] (matmul (φ₁ := .bf16) dot_S512x64_S512x256_S64x256_0_0_1_1_n_n none (cot o) (probs p) (constant S64x256 .f32 0x00000000#32)) transposes_S64x256_p1_0_S256x64

/-- The gradient in the probabilities. -/
def dP (v : FVec Ideal S256x64 .bf16) (o : Vec Ideal S128x256 .bf16) : FVec Ideal S512x256 .f32 :=
  matmul (φ₁ := .bf16) dot_S512x64_S256x64_S512x256_1_1_0_0_n_n none (cot o) v (constant S512x256 .f32 0x00000000#32)

/-- The rows' means of the probabilities' gradients. -/
def dMean (p : Vec Ideal S1x1x512x256 .bf16) (v : FVec Ideal S256x64 .bf16) (o : Vec Ideal S128x256 .bf16) : FVec Ideal S512x1 .f32 :=
  shapeCast S512x1 (multiReduction .add [1] S512 (mulf (extf .f32 (probs p) bitsLt_bf16_f32) (dP v o)) 0x00000000#32
    reduces_S512x256_S512 (.inl rfl) rfl) shapeCasts_S512_S512x1

/-- The gradient in the scores. -/
def dS (p : Vec Ideal S1x1x512x256 .bf16) (v : FVec Ideal S256x64 .bf16) (o : Vec Ideal S128x256 .bf16) : FVec Ideal S512x256 .f32 :=
  mulf (extf .f32 (probs p) bitsLt_bf16_f32) (subf (dP v o) (broadcastTo S512x256 (dMean p v o) broadcasts_S512x1_S512x256))

/-- The gradient in the products of queries and keys. -/
def dD (p : Vec Ideal S1x1x512x256 .bf16) (v : FVec Ideal S256x64 .bf16) (o : Vec Ideal S128x256 .bf16) : FVec Ideal S512x256 .bf16 :=
  truncf .bf16 (mulf (dS p v o) (broadcast S512x256 (Scalar.ofBits .f32 0x3E000000#32))) bitsLt_bf16_f32

/-- The gradient in the normed queries. -/
def dQN (p : Vec Ideal S1x1x512x256 .bf16) (v k : FVec Ideal S256x64 .bf16) (o : Vec Ideal S128x256 .bf16) : FVec Ideal S512x64 .f32 :=
  matmul (φ₁ := .bf16) dot_S512x256_S256x64_S512x64_1_0_0_1_n_n none (dD p v o) k (constant S512x64 .f32 0x00000000#32)

/-- The gradient in the normed keys. -/
def dKN (p : Vec Ideal S1x1x512x256 .bf16) (v : FVec Ideal S256x64 .bf16) (o : Vec Ideal S128x256 .bf16) (q : FVec Ideal S512x64 .f32)
    (g : Vec Ideal S1x64 .f32) : FVec Ideal S256x64 .f32 :=
  transpose S256x64 [1, 0] (matmul (φ₁ := .bf16) dot_S512x64_S512x256_S64x256_0_0_1_1_n_n none (truncf .bf16 (queryN q g) bitsLt_bf16_f32) (dD p v o) (constant S64x256 .f32 0x00000000#32))
    transposes_S64x256_p1_0_S256x64

/-- The gradient of the queries' norm, for the cotangent `w`. -/
def queryG (w q : FVec Ideal S512x64 .f32) (g : Vec Ideal S1x64 .f32) : FVec Ideal S512x64 .f32 :=
  subf (mulf (broadcastTo S512x64 (queryR q) broadcasts_S512x1_S512x64)
      (mulf w (broadcastTo S512x64 (shapeCast S1x64 g shapeCasts_S1x64_S1x64) broadcasts_S1x64_S512x64)))
    (mulf (mulf q (broadcastTo S512x64 (mulf (mulf (queryR q) (queryR q)) (queryR q)) broadcasts_S512x1_S512x64))
      (broadcastTo S512x64 (divf (shapeCast S512x1 (multiReduction .add [1] S512
        (mulf q (mulf w (broadcastTo S512x64 (shapeCast S1x64 g shapeCasts_S1x64_S1x64) broadcasts_S1x64_S512x64)))
        0x00000000#32 reduces_S512x64_S512 (.inl rfl) rfl) shapeCasts_S512_S512x1)
        (broadcast S512x1 (Scalar.ofBits .f32 0x42800000#32))) broadcasts_S512x1_S512x64))

/-- The block's part of the gradient of the queries' gain. -/
def queryGG (w q : FVec Ideal S512x64 .f32) : FVec Ideal S1x64 .f32 :=
  shapeCast S1x64 (multiReduction .add [0] S64 (mulf w (mulf q (broadcastTo S512x64 (queryR q) broadcasts_S512x1_S512x64)))
    0x00000000#32 reduces_S512x64_S64 (.inl rfl) rfl) shapeCasts_S64_S1x64

/-- The gradient of the keys' norm, for the cotangent `w`; `r` the reciprocals of the root mean squares. -/
def keyG (w k : FVec Ideal S256x64 .f32) (r : FVec Ideal S256x1 .f32) (g : Vec Ideal S1x64 .f32) : FVec Ideal S256x64 .f32 :=
  subf (mulf (broadcastTo S256x64 r broadcasts_S256x1_S256x64)
      (mulf w (broadcastTo S256x64 (shapeCast S1x64 g shapeCasts_S1x64_S1x64) broadcasts_S1x64_S256x64)))
    (mulf (mulf k (broadcastTo S256x64 (mulf (mulf r r) r) broadcasts_S256x1_S256x64))
      (broadcastTo S256x64 (divf (shapeCast S256x1 (multiReduction .add [1] S256
        (mulf k (mulf w (broadcastTo S256x64 (shapeCast S1x64 g shapeCasts_S1x64_S1x64) broadcasts_S1x64_S256x64)))
        0x00000000#32 reduces_S256x64_S256 (.inl rfl) rfl) shapeCasts_S256_S256x1)
        (broadcast S256x1 (Scalar.ofBits .f32 0x42800000#32))) broadcasts_S256x1_S256x64))

/-- The block's part of the gradient of the keys' gain. -/
def keyGG (w k : FVec Ideal S256x64 .f32) (r : FVec Ideal S256x1 .f32) : FVec Ideal S1x64 .f32 :=
  shapeCast S1x64 (multiReduction .add [0] S64 (mulf w (mulf k (broadcastTo S256x64 r broadcasts_S256x1_S256x64)))
    0x00000000#32 reduces_S256x64_S64 (.inl rfl) rfl) shapeCasts_S64_S1x64

/-- Four heads' rows beside each other again. -/
def put (x : FVec Ideal S512x64 .f32) : FVec Ideal S128x256 .bf16 :=
  truncf .bf16 (addf (addf (addf
    (matmul (φ₁ := .bf16) dot_S128x64_S256x64_S128x256_1_1_0_0_n_n none (truncf .bf16 (extractStridedSlice S128x64 ![0, 0] x slices_S512x64_o0_0_S128x64) bitsLt_bf16_f32) (sel 0) (constant S128x256 .f32 0x00000000#32))
    (matmul (φ₁ := .bf16) dot_S128x64_S256x64_S128x256_1_1_0_0_n_n none (truncf .bf16 (extractStridedSlice S128x64 ![128, 0] x slices_S512x64_o128_0_S128x64) bitsLt_bf16_f32) (sel 1) (constant S128x256 .f32 0x00000000#32)))
    (matmul (φ₁ := .bf16) dot_S128x64_S256x64_S128x256_1_1_0_0_n_n none (truncf .bf16 (extractStridedSlice S128x64 ![256, 0] x slices_S512x64_o256_0_S128x64) bitsLt_bf16_f32) (sel 2) (constant S128x256 .f32 0x00000000#32)))
    (matmul (φ₁ := .bf16) dot_S128x64_S256x64_S128x256_1_1_0_0_n_n none (truncf .bf16 (extractStridedSlice S128x64 ![384, 0] x slices_S512x64_o384_0_S128x64) bitsLt_bf16_f32) (sel 3) (constant S128x256 .f32 0x00000000#32))) bitsLt_bf16_f32

/-- The word of "row `r` is column `c` plus `o`", as a number. -/
theorem bit (r c o : ℕ) (hr : r < 256) (hc : c < 64) (ho : o < 256) :
    (FloatOps.sitofp (F := Ideal) FTy.f32 (BitVec.setWidth 32 (IntOp.cmpi CmpIPredicate.eq (BitVec.ofNat 32 r)
      (IntOp.addi (BitVec.ofNat 32 c) (BitVec.ofNat 32 o)))) : EReal) = if r = c + o then 1 else 0 := by
  have hs : IntOp.addi (BitVec.ofNat 32 c) (BitVec.ofNat 32 o) = BitVec.ofNat 32 (c + o) := by
    simp [IntOp.addi, BitVec.ofNat_add]
  rw [hs]
  by_cases h : r = c + o
  · subst h
    have : IntOp.cmpi CmpIPredicate.eq (BitVec.ofNat 32 (c + o)) (BitVec.ofNat 32 (c + o)) = 1#1 := by simp [IntOp.cmpi]
    rw [this, if_pos rfl]
    show (((1#32 : BitVec 32).toInt : ℝ) : EReal) = 1
    norm_num
  · have hne : BitVec.ofNat 32 r ≠ BitVec.ofNat 32 (c + o) := by
      intro e
      have := congrArg BitVec.toNat e
      simp only [BitVec.toNat_ofNat] at this
      omega
    have : IntOp.cmpi CmpIPredicate.eq (BitVec.ofNat 32 r) (BitVec.ofNat 32 (c + o)) = 0#1 := by
      simp only [IntOp.cmpi, beq_eq_false_iff_ne.mpr hne]
      rfl
    rw [this, if_neg h]
    show (((0#32 : BitVec 32).toInt : ℝ) : EReal) = 0
    norm_num

/-- The selectors' entries. -/
theorem sel_at (u : Fin 4) (r : Fin 256) (c : Fin 64) :
    (sel u (Idealize.ShloMosaic.ix2 r c) : EReal) = if r.val = c.val + 64 * u.val then 1 else 0 := by
  fin_cases u
  · show (k0_pay3 (F := Ideal) (Idealize.ShloMosaic.ix2 r c) : EReal) = _
    refine Eq.trans ?_ (bit r.val c.val 0 (by omega) (by omega) (by omega))
    pointwise [k0_pay3]
  · show (k0_pay4 (F := Ideal) (Idealize.ShloMosaic.ix2 r c) : EReal) = _
    refine Eq.trans ?_ (bit r.val c.val 64 (by omega) (by omega) (by omega))
    pointwise [k0_pay4]
  · show (k0_pay5 (F := Ideal) (Idealize.ShloMosaic.ix2 r c) : EReal) = _
    refine Eq.trans ?_ (bit r.val c.val 128 (by omega) (by omega) (by omega))
    pointwise [k0_pay5]
  · show (k0_pay6 (F := Ideal) (Idealize.ShloMosaic.ix2 r c) : EReal) = _
    refine Eq.trans ?_ (bit r.val c.val 192 (by omega) (by omega) (by omega))
    pointwise [k0_pay6]

/-- A sum with a selector picks one term. -/
theorem sum_pick {n : ℕ} (f : Fin n → EReal) (s : Fin n → EReal) (k : Fin n) (h1 : s k = 1) (h0 : ∀ i, i ≠ k → s i = 0) :
    ∑ i : Fin n, f i * s i = f k := by
  rw [Finset.sum_eq_single k (fun i _ hi => by rw [h0 i hi, mul_zero]) (fun h => absurd (Finset.mem_univ k) h), h1, mul_one]

theorem take_at (x : Vec Ideal S128x256 .bf16) (u : Fin 4) (a : Fin 128) (d : Fin 64) :
    (take x u (Idealize.ShloMosaic.ix2 a d) : EReal) = x (Idealize.ShloMosaic.ix2 a ⟨64 * u.val + d.val, by omega⟩) := by
  refine Eq.trans ?_ (sum_pick (fun r : Fin 256 => x (Idealize.ShloMosaic.ix2 a r)) (fun r => sel u (Idealize.ShloMosaic.ix2 r d))
    ⟨64 * u.val + d.val, by omega⟩ ?_ ?_)
  · pointwise [take]
  · exact (sel_at u _ d).trans (if_pos (by show 64 * u.val + d.val = _; omega))
  · intro r hr
    exact (sel_at u r d).trans (if_neg fun h => hr (Fin.ext (by show r.val = 64 * u.val + d.val; omega)))

theorem keys_at (u : Fin 4) (a : Vec Ideal S128x256 .bf16) (b : Vec Ideal S512x256 .bf16) (i : Fin 640) (d : Fin 64) :
    (keys u a b (Idealize.ShloMosaic.ix2 i d) : EReal)
      = if h : i.val < 128 then a (Idealize.ShloMosaic.ix2 ⟨i.val, h⟩ ⟨64 * u.val + d.val, by omega⟩)
        else b (Idealize.ShloMosaic.ix2 ⟨i.val - 128, by omega⟩ ⟨64 * u.val + d.val, by omega⟩) := by
  by_cases h : i.val < 128
  · rw [dif_pos h]
    refine Eq.trans ?_ (take_at a u ⟨i.val, h⟩ d)
    pointwise [keys]
    rw [dif_pos h]
  · rw [dif_neg h]
    refine Eq.trans ?_ (sum_pick (fun r : Fin 256 => b (Idealize.ShloMosaic.ix2 ⟨i.val - 128, by omega⟩ r)) (fun r => sel u (Idealize.ShloMosaic.ix2 r d))
      ⟨64 * u.val + d.val, by omega⟩ ?_ ?_)
    · pointwise [keys]
      rw [dif_neg h]
    · exact (sel_at u _ d).trans (if_pos (by show 64 * u.val + d.val = _; omega))
    · intro r hr
      exact (sel_at u r d).trans (if_neg fun h => hr (Fin.ext (by show r.val = 64 * u.val + d.val; omega)))

theorem heads_at (x : Vec Ideal S128x256 .bf16) (s : Fin 512) (d : Fin 64) :
    (heads x (Idealize.ShloMosaic.ix2 s d) : EReal)
      = x (Idealize.ShloMosaic.ix2 ⟨s.val % 128, by omega⟩ ⟨64 * (s.val / 128) + d.val, by omega⟩) := by
  refine Eq.trans ?_ (take_at x ⟨s.val / 128, by omega⟩ ⟨s.val % 128, by omega⟩ d)
  have key : ∀ (u u' : Fin 4) (a a' : Fin 128), u = u' → a = a' →
      (take x u (Idealize.ShloMosaic.ix2 a d) : EReal) = take x u' (Idealize.ShloMosaic.ix2 a' d) := by
    rintro u _ a _ rfl rfl
    rfl
  pointwise [heads, stack]
  by_cases h0 : s.val < 128
  · rw [dif_pos h0]
    exact key _ _ _ _ (Fin.ext (by show 0 = s.val / 128; omega)) (Fin.ext (by show s.val = s.val % 128; omega))
  rw [dif_neg h0]
  by_cases h1 : s.val - 128 < 128
  · rw [dif_pos h1]
    exact key _ _ _ _ (Fin.ext (by show 1 = s.val / 128; omega)) (Fin.ext (by show s.val - 128 = s.val % 128; omega))
  rw [dif_neg h1]
  by_cases h2 : s.val - 128 - 128 < 128
  · rw [dif_pos h2]
    exact key _ _ _ _ (Fin.ext (by show 2 = s.val / 128; omega)) (Fin.ext (by show s.val - 128 - 128 = s.val % 128; omega))
  rw [dif_neg h2]
  exact key _ _ _ _ (Fin.ext (by show 3 = s.val / 128; omega)) (Fin.ext (by show s.val - 128 - 128 - 128 = s.val % 128; omega))

theorem keysR_at (x : FVec Ideal S640x64 .f32) (i : Fin 640) :
    (keysR x (Idealize.ShloMosaic.ix2 i 0) : EReal) = rinv (fun d => x (Idealize.ShloMosaic.ix2 i d)) := by
  pointwise [keysR, rinv, meanSq]

theorem keysN_at (x : FVec Ideal S640x64 .f32) (g : Vec Ideal S1x64 .f32) (i : Fin 640) (d : Fin 64) :
    (keysN x g (Idealize.ShloMosaic.ix2 i d) : EReal)
      = nrm (fun d => x (Idealize.ShloMosaic.ix2 i d)) (fun d => g (Idealize.ShloMosaic.ix2 0 d)) d := by
  pointwise [keysN, keysR, rinv, meanSq, nrm]

theorem win_at {φ : FTy} (u : Fin 4) (x : FVec Ideal S640x64 φ) (j : Fin 256) (d : Fin 64) :
    (win u x (Idealize.ShloMosaic.ix2 j d) : EReal) = x (Idealize.ShloMosaic.ix2 ⟨128 * u.val + j.val, by omega⟩ d) := by
  fin_cases u
  all_goals (pointwise [win]; blk_ext)

theorem winR_at (u : Fin 4) (x : FVec Ideal S640x1 .f32) (j : Fin 256) :
    (winR u x (Idealize.ShloMosaic.ix2 j 0) : EReal) = x (Idealize.ShloMosaic.ix2 ⟨128 * u.val + j.val, by omega⟩ 0) := by
  fin_cases u
  all_goals (pointwise [winR]; blk_ext)

theorem queryN_at (x : FVec Ideal S512x64 .f32) (g : Vec Ideal S1x64 .f32) (i : Fin 512) (d : Fin 64) :
    (queryN x g (Idealize.ShloMosaic.ix2 i d) : EReal)
      = nrm (fun d => x (Idealize.ShloMosaic.ix2 i d)) (fun d => g (Idealize.ShloMosaic.ix2 0 d)) d := by
  pointwise [queryN, queryR, rinv, meanSq, nrm]

theorem dV_at (p : Vec Ideal S1x1x512x256 .bf16) (o : Vec Ideal S128x256 .bf16) (j : Fin 256) (d : Fin 64) :
    (dV p o (Idealize.ShloMosaic.ix2 j d) : EReal)
      = dValue (fun s j => p (Idealize.ShloMosaic.ix4 0 0 s j)) (fun s d => heads o (Idealize.ShloMosaic.ix2 s d)) j d := by
  pointwise [dV, cot, probs, dValue]

theorem dS_at (p : Vec Ideal S1x1x512x256 .bf16) (v : FVec Ideal S256x64 .bf16) (o : Vec Ideal S128x256 .bf16) (s : Fin 512) (j : Fin 256) :
    (dS p v o (Idealize.ShloMosaic.ix2 s j) : EReal)
      = dScore (fun s j => p (Idealize.ShloMosaic.ix4 0 0 s j)) (fun s d => heads o (Idealize.ShloMosaic.ix2 s d))
        (fun j d => v (Idealize.ShloMosaic.ix2 j d)) s j := by
  pointwise [dS, dMean, dP, cot, probs, dScore, dProb, delta]

theorem dMean_at (p : Vec Ideal S1x1x512x256 .bf16) (v : FVec Ideal S256x64 .bf16) (o : Vec Ideal S128x256 .bf16) (s : Fin 512) :
    (dMean p v o (Idealize.ShloMosaic.ix2 s 0) : EReal)
      = delta (fun s j => p (Idealize.ShloMosaic.ix4 0 0 s j)) (fun s d => heads o (Idealize.ShloMosaic.ix2 s d))
        (fun j d => v (Idealize.ShloMosaic.ix2 j d)) s := by
  pointwise [dMean, dP, cot, probs, dProb, delta]

theorem dQN_at (p : Vec Ideal S1x1x512x256 .bf16) (v k : FVec Ideal S256x64 .bf16) (o : Vec Ideal S128x256 .bf16) (s : Fin 512) (d : Fin 64) :
    (dQN p v k o (Idealize.ShloMosaic.ix2 s d) : EReal) = ∑ j : Fin 256,
      dDot (fun s j => p (Idealize.ShloMosaic.ix4 0 0 s j)) (fun s d => heads o (Idealize.ShloMosaic.ix2 s d))
        (fun j d => v (Idealize.ShloMosaic.ix2 j d)) s j * k (Idealize.ShloMosaic.ix2 j d) := by
  pointwise [dQN, dD, dS, dMean, dP, cot, probs, dDot, dScore, dProb, delta]

theorem dKN_at (p : Vec Ideal S1x1x512x256 .bf16) (v : FVec Ideal S256x64 .bf16) (o : Vec Ideal S128x256 .bf16) (q : FVec Ideal S512x64 .f32)
    (g : Vec Ideal S1x64 .f32) (j : Fin 256) (d : Fin 64) :
    (dKN p v o q g (Idealize.ShloMosaic.ix2 j d) : EReal)
      = dKeyN (fun s j => p (Idealize.ShloMosaic.ix4 0 0 s j)) (fun s d => heads o (Idealize.ShloMosaic.ix2 s d))
        (fun s d => q (Idealize.ShloMosaic.ix2 s d)) (fun j d => v (Idealize.ShloMosaic.ix2 j d)) (fun d => g (Idealize.ShloMosaic.ix2 0 d)) j d := by
  pointwise [dKN, queryN, queryR, dD, dS, dMean, dP, cot, probs, dKeyN, nrm, rinv, meanSq, dDot, dScore, dProb, delta]

theorem queryG_at (w q : FVec Ideal S512x64 .f32) (g : Vec Ideal S1x64 .f32) (s : Fin 512) (d : Fin 64) :
    (queryG w q g (Idealize.ShloMosaic.ix2 s d) : EReal)
      = nrmGrad (fun d => w (Idealize.ShloMosaic.ix2 s d)) (fun d => q (Idealize.ShloMosaic.ix2 s d)) (fun d => g (Idealize.ShloMosaic.ix2 0 d)) d := by
  pointwise [queryG, queryR, nrmGrad, rinv, meanSq]

theorem queryGG_at (w q : FVec Ideal S512x64 .f32) (d : Fin 64) :
    (queryGG w q (Idealize.ShloMosaic.ix2 0 d) : EReal)
      = ∑ s : Fin 512, gainTerm (fun d => w (Idealize.ShloMosaic.ix2 s d)) (fun d => q (Idealize.ShloMosaic.ix2 s d)) d := by
  pointwise [queryGG, queryR, gainTerm, rinv, meanSq]

theorem keyG_at (w k : FVec Ideal S256x64 .f32) (r : FVec Ideal S256x1 .f32) (g : Vec Ideal S1x64 .f32) (j : Fin 256) (d : Fin 64)
    (hr : (r (Idealize.ShloMosaic.ix2 j 0) : EReal) = rinv fun d => k (Idealize.ShloMosaic.ix2 j d)) :
    (keyG w k r g (Idealize.ShloMosaic.ix2 j d) : EReal)
      = nrmGrad (fun d => w (Idealize.ShloMosaic.ix2 j d)) (fun d => k (Idealize.ShloMosaic.ix2 j d)) (fun d => g (Idealize.ShloMosaic.ix2 0 d)) d := by
  unfold nrmGrad
  rw [← hr]
  pointwise [keyG]

theorem keyGG_at (w k : FVec Ideal S256x64 .f32) (r : FVec Ideal S256x1 .f32) (d : Fin 64)
    (hr : ∀ j : Fin 256, (r (Idealize.ShloMosaic.ix2 j 0) : EReal) = rinv fun d => k (Idealize.ShloMosaic.ix2 j d)) :
    (keyGG w k r (Idealize.ShloMosaic.ix2 0 d) : EReal)
      = ∑ j : Fin 256, gainTerm (fun d => w (Idealize.ShloMosaic.ix2 j d)) (fun d => k (Idealize.ShloMosaic.ix2 j d)) d := by
  unfold gainTerm
  simp only [← hr]
  pointwise [keyGG]

/-- One head's contribution when the heads are put beside each other. -/
theorem sum_put (f : Fin 64 → EReal) (u : Fin 4) (b : Fin 256) :
    (∑ e : Fin 64, f e * sel u (Idealize.ShloMosaic.ix2 b e) : EReal) = if b.val / 64 = u.val then f ⟨b.val % 64, by omega⟩ else 0 := by
  by_cases h : b.val / 64 = u.val
  · rw [if_pos h]
    refine sum_pick f (fun e => sel u (Idealize.ShloMosaic.ix2 b e)) _ ?_ ?_
    · exact (sel_at u b _).trans (if_pos (by show b.val = b.val % 64 + 64 * u.val; omega))
    · intro e he
      exact (sel_at u b e).trans (if_neg fun h' => he (Fin.ext (by show e.val = b.val % 64; omega)))
  · rw [if_neg h]
    refine Finset.sum_eq_zero fun e _ => ?_
    have := (sel_at u b e).trans (if_neg fun h' => h (by omega))
    exact (congrArg (f e * ·) this).trans (mul_zero _)

theorem put_at (x : FVec Ideal S512x64 .f32) (a : Fin 128) (b : Fin 256) :
    (put x (Idealize.ShloMosaic.ix2 a b) : EReal)
      = x (Idealize.ShloMosaic.ix2 ⟨b.val / 64 * 128 + a.val, by omega⟩ ⟨b.val % 64, by omega⟩) := by
  have key : ∀ (r r' : Fin 512) (c : Fin 64), r = r' →
      (x (Idealize.ShloMosaic.ix2 r c) : EReal) = x (Idealize.ShloMosaic.ix2 r' c) := by
    rintro r _ c rfl
    rfl
  pointwise [put]
  refine Eq.trans (congrArg₂ (· + ·) (congrArg₂ (· + ·) (congrArg₂ (· + ·) (sum_put _ 0 b) (sum_put _ 1 b)) (sum_put _ 2 b)) (sum_put _ 3 b)) ?_
  have hb : b.val / 64 < 4 := by omega
  show (if b.val / 64 = 0 then _ else 0) + (if b.val / 64 = 1 then _ else 0) + (if b.val / 64 = 2 then _ else 0)
    + (if b.val / 64 = 3 then _ else 0) = _
  split_ifs with h0 h1 h2 h3 h3 h2 h1 h3 h3 <;> (try omega) <;> simp only [zero_add, add_zero]
  all_goals exact key _ _ _ (Fin.ext (by simp only; omega))

end Cert.AttnIdeal.Block
-- ==== Proof.Attn.Parts.lean ====
module

public import proofs.«01_k».proof.Proof.Attn.Block
public import proofs.«01_k».proof.Proof.Gen.AttnIdeal.Value
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnIdeal.Parts

open Cert.AttnIdeal Cert.AttnIdeal.Gen Cert.AttnFormula Cert.AttnIdeal.Block

variable (x0 : Vec Ideal S512x1024 .bf16) (x1 : Vec Ideal S128x256 .bf16) (x2 : Vec Ideal S512x256 .bf16) (x3 : Vec Ideal S128x256 .bf16)
  (x4 : Vec Ideal S512x256 .bf16) (x5 : Vec Ideal S512x1024 .bf16) (x6 x7 : Vec Ideal S1x64 .f32) (x8 : Vec Ideal S4x4x512x256 .bf16)
  (x9 : Vec Ideal S4x4x512x1 .f32)

/-- The rows of the block `u` and the columns of the group `h`. -/
def rows (x : Vec Ideal S512x1024 .bf16) (u h : Fin 4) : Vec Ideal S128x256 .bf16 :=
  View.ld x (Rect.unit ![128 * u.val, 256 * h.val] ![128, 256] (by
    intro a
    fin_cases a
    · show 128 * u.val + 128 ≤ 512
      omega
    · show 256 * h.val + 256 ≤ 1024
      omega))

/-- The probabilities of the block `u` and the group `h`. -/
def prob (x : Vec Ideal S4x4x512x256 .bf16) (u h : Fin 4) : Vec Ideal S1x1x512x256 .bf16 :=
  View.ld x (Rect.unit ![u.val, h.val, 0, 0] ![1, 1, 512, 256] (by
    intro a
    fin_cases a
    · show u.val + 1 ≤ 4
      omega
    · show h.val + 1 ≤ 4
      omega
    · exact le_refl 512
    · exact le_refl 256))

/-- The sinks' probabilities of the block `u` and the group `h`. -/
def probS (x : Vec Ideal S4x4x512x1 .f32) (u h : Fin 4) : Vec Ideal S1x1x512x1 .f32 :=
  View.ld x (Rect.unit ![u.val, h.val, 0, 0] ![1, 1, 512, 1] (by
    intro a
    fin_cases a
    · show u.val + 1 ≤ 4
      omega
    · show h.val + 1 ≤ 4
      omega
    · exact le_refl 512
    · exact le_refl 1))

/-- The values of the group `h`, rounded. -/
def vals (h : Fin 4) : FVec Ideal S640x64 .bf16 := truncf .bf16 (keys h x3 x4) bitsLt_bf16_f32

/-- The gradient in the normed queries of the block `u` and the group `h`. -/
def gQN (u h : Fin 4) : FVec Ideal S512x64 .f32 :=
  dQN (prob x8 u h) (win u (vals x3 x4 h)) (win u (keysN (keys h x1 x2) x7)) (rows x5 u h)

/-- The gradient in the normed keys. -/
def gKN (u h : Fin 4) : FVec Ideal S256x64 .f32 :=
  dKN (prob x8 u h) (win u (vals x3 x4 h)) (rows x5 u h) (heads (rows x0 u h)) x6

/-- The gradient in the queries, as it is stored. -/
def outQ (u h : Fin 4) : FVec Ideal S128x256 .bf16 := put (queryG (gQN x1 x2 x3 x4 x5 x7 x8 u h) (heads (rows x0 u h)) x6)

/-- The gradient in the keys of the window. -/
def gK (u h : Fin 4) : FVec Ideal S256x64 .f32 :=
  keyG (gKN x0 x3 x4 x5 x6 x8 u h) (win u (keys h x1 x2)) (winR u (keysR (keys h x1 x2))) x7

/-- One half of a window's rows. -/
def half (r : Fin 2) (x : FVec Ideal S256x64 .f32) : FVec Ideal S128x64 .f32 :=
  match r with
  | 0 => extractStridedSlice S128x64 ![0, 0] x slices_S256x64_o0_0_S128x64
  | 1 => extractStridedSlice S128x64 ![128, 0] x slices_S256x64_o128_0_S128x64

/-- The gradient in the keys of one half of a window, as it is stored. -/
def outK (u : Fin 4) (r : Fin 2) : FVec Ideal S1x1x128x256 .bf16 :=
  shapeCast S1x1x128x256 (put (stack (half r (gK x0 x1 x2 x3 x4 x5 x6 x7 x8 u 0)) (half r (gK x0 x1 x2 x3 x4 x5 x6 x7 x8 u 1))
    (half r (gK x0 x1 x2 x3 x4 x5 x6 x7 x8 u 2)) (half r (gK x0 x1 x2 x3 x4 x5 x6 x7 x8 u 3)))) shapeCasts_S128x256_S1x1x128x256

/-- The gradient in the values of one half of a window, as it is stored. -/
def outV (u : Fin 4) (r : Fin 2) : FVec Ideal S1x1x128x256 .bf16 :=
  shapeCast S1x1x128x256 (put (stack (half r (dV (prob x8 u 0) (rows x5 u 0))) (half r (dV (prob x8 u 1) (rows x5 u 1)))
    (half r (dV (prob x8 u 2) (rows x5 u 2))) (half r (dV (prob x8 u 3) (rows x5 u 3))))) shapeCasts_S128x256_S1x1x128x256

/-- The gradient in the scores. -/
def gS (u h : Fin 4) : FVec Ideal S512x256 .f32 := dS (prob x8 u h) (win u (vals x3 x4 h)) (rows x5 u h)

/-- The gradient in the scores, added to what the block `h` of the table held. -/
def addS (o : Vec Ideal S1x512x256 .f32) (d : FVec Ideal S512x256 .f32) : FVec Ideal S1x512x256 .f32 :=
  shapeCast S1x512x256 (addf (shapeCast S512x256 o shapeCasts_S1x512x256_S512x256) d) shapeCasts_S512x256_S1x512x256

/-- The block `h` of a table of scores. -/
def tabS (o : Vec Ideal S4x512x256 .f32) (h : Fin 4) : Vec Ideal S1x512x256 .f32 :=
  View.ld o (Rect.unit ![h.val, 0, 0] ![1, 512, 256] (by
    intro a
    fin_cases a
    · show h.val + 1 ≤ 4
      omega
    · exact le_refl 512
    · exact le_refl 256))

/-- The block `h` of the table after the four blocks of rows of the point. -/
def accS (o : Vec Ideal S4x512x256 .f32) (h : Fin 4) : FVec Ideal S1x512x256 .f32 :=
  addS (addS (addS (addS (tabS o h) (gS x3 x4 x5 x8 0 h)) (gS x3 x4 x5 x8 1 h)) (gS x3 x4 x5 x8 2 h)) (gS x3 x4 x5 x8 3 h)

/-- The sinks' gradient of one block of rows, added to what the block `h` of the table held. -/
def addN (o : Vec Ideal S1x4x1 .f32) (p : Vec Ideal S1x1x512x1 .f32) (d : FVec Ideal S512x1 .f32) : FVec Ideal S1x4x1 .f32 :=
  shapeCast S1x4x1 (addf (shapeCast S4x1 o shapeCasts_S1x4x1_S4x1)
    (multiReduction .add [1] S4x1 (shapeCast S4x128x1 (mulf (subf (broadcast S512x1 (Scalar.ofBits .f32 0x00000000#32))
      (shapeCast S512x1 p shapeCasts_S1x1x512x1_S512x1)) d) shapeCasts_S512x1_S4x128x1) 0x00000000#32 reduces_S4x128x1_S4x1 (.inl rfl) rfl))
    shapeCasts_S4x1_S1x4x1

/-- The block `h` of a table of sinks. -/
def tabN (o : Vec Ideal S4x4x1 .f32) (h : Fin 4) : Vec Ideal S1x4x1 .f32 :=
  View.ld o (Rect.unit ![h.val, 0, 0] ![1, 4, 1] (by
    intro a
    fin_cases a
    · show h.val + 1 ≤ 4
      omega
    · exact le_refl 4
    · exact le_refl 1))

/-- The weighted mean of the probabilities' gradient. -/
def gM (u h : Fin 4) : FVec Ideal S512x1 .f32 := dMean (prob x8 u h) (win u (vals x3 x4 h)) (rows x5 u h)

/-- The block `h` of the sinks' table after the four blocks of rows of the point. -/
def accN (o : Vec Ideal S4x4x1 .f32) (h : Fin 4) : FVec Ideal S1x4x1 .f32 :=
  addN (addN (addN (addN (tabN o h) (probS x9 0 h) (gM x3 x4 x5 x8 0 h)) (probS x9 1 h) (gM x3 x4 x5 x8 1 h)) (probS x9 2 h)
    (gM x3 x4 x5 x8 2 h)) (probS x9 3 h) (gM x3 x4 x5 x8 3 h)

/-- The query gain's gradient of one block of rows and one group. -/
def gGQ (u h : Fin 4) : FVec Ideal S1x64 .f32 := queryGG (gQN x1 x2 x3 x4 x5 x7 x8 u h) (heads (rows x0 u h))

/-- The key gain's gradient of one block of rows and one group. -/
def gGK (u h : Fin 4) : FVec Ideal S1x64 .f32 :=
  keyGG (gKN x0 x3 x4 x5 x6 x8 u h) (win u (keys h x1 x2)) (winR u (keysR (keys h x1 x2)))

/-- A gain's gradient of the four blocks of rows of one group, added to what was summed before. -/
def addG (z : FVec Ideal S1x64 .f32) (f : Fin 4 → FVec Ideal S1x64 .f32) : FVec Ideal S1x64 .f32 :=
  addf (addf (addf (addf z (f 0)) (f 1)) (f 2)) (f 3)

/-- A gain's gradient after the point. -/
def accG (o : Vec Ideal S1x64 .f32) (f : Fin 4 → Fin 4 → FVec Ideal S1x64 .f32) : FVec Ideal S1x64 .f32 :=
  addf (shapeCast S1x64 o shapeCasts_S1x64_S1x64) (addG (addG (addG (addG (broadcast S1x64 (Scalar.ofBits .f32 0x00000000#32))
    fun u => f u 0) fun u => f u 1) fun u => f u 2) fun u => f u 3)

end Cert.AttnIdeal.Parts
-- ==== Proof.Attn.Rows.lean ====
module

public import proofs.«01_k».proof.Proof.Attn.Parts
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnIdeal.Rows

open Cert.AttnIdeal Cert.AttnIdeal.Gen Cert.AttnFormula Cert.AttnIdeal.Block Cert.AttnIdeal.Parts

variable (x0 : Vec Ideal S512x1024 .bf16) (x1 : Vec Ideal S128x256 .bf16) (x2 : Vec Ideal S512x256 .bf16) (x3 : Vec Ideal S128x256 .bf16)
  (x4 : Vec Ideal S512x256 .bf16) (x5 : Vec Ideal S512x1024 .bf16) (x6 x7 : Vec Ideal S1x64 .f32) (x8 : Vec Ideal S4x4x512x256 .bf16)
  (x9 : Vec Ideal S4x4x512x1 .f32)

/-- The probabilities of the block `u` of rows and the group `h`. -/
def pr (x : Vec Ideal S4x4x512x256 .bf16) (u h : Fin 4) (s : Fin 512) (j : Fin 256) : EReal := x (Idealize.ShloMosaic.ix4 u h s j)

/-- The sinks' probabilities of the block `u` of rows and the group `h`. -/
def ps (x : Vec Ideal S4x4x512x1 .f32) (u h : Fin 4) (s : Fin 512) : EReal := x (Idealize.ShloMosaic.ix4 u h s 0)

/-- The rows of the block `u`, the four heads of the group `h` under each other. -/
def dd (x : Vec Ideal S512x1024 .bf16) (u h : Fin 4) (s : Fin 512) (d : Fin 64) : EReal :=
  x (Idealize.ShloMosaic.ix2 ⟨128 * u.val + s.val % 128, by omega⟩ ⟨256 * h.val + 64 * (s.val / 128) + d.val, by omega⟩)

/-- The window of keys or values before the block `u`. -/
def kk (a : Vec Ideal S128x256 .bf16) (b : Vec Ideal S512x256 .bf16) (u h : Fin 4) (j : Fin 256) (d : Fin 64) : EReal :=
  if i : 128 * u.val + j.val < 128 then a (Idealize.ShloMosaic.ix2 ⟨128 * u.val + j.val, i⟩ ⟨64 * h.val + d.val, by omega⟩)
  else b (Idealize.ShloMosaic.ix2 ⟨128 * u.val + j.val - 128, by omega⟩ ⟨64 * h.val + d.val, by omega⟩)

/-- A gain. -/
def gg (x : Vec Ideal S1x64 .f32) (d : Fin 64) : EReal := x (Idealize.ShloMosaic.ix2 0 d)

theorem heads_eq (x : Vec Ideal S512x1024 .bf16) (u h : Fin 4) :
    (fun s d => (heads (rows x u h) (Idealize.ShloMosaic.ix2 s d) : EReal)) = dd x u h := by
  funext s d
  refine (heads_at _ s d).trans ?_
  unfold rows dd
  pointwise []
  blk_ext

theorem prob_eq (x : Vec Ideal S4x4x512x256 .bf16) (u h : Fin 4) :
    (fun s j => (prob x u h (Idealize.ShloMosaic.ix4 0 0 s j) : EReal)) = pr x u h := by
  funext s j
  unfold prob pr
  pointwise []
  blk_ext

theorem probS_eq (x : Vec Ideal S4x4x512x1 .f32) (u h : Fin 4) :
    (fun s => (probS x u h (Idealize.ShloMosaic.ix4 0 0 s 0) : EReal)) = ps x u h := by
  funext s
  unfold probS ps
  pointwise []
  blk_ext

theorem keys_eq (a : Vec Ideal S128x256 .bf16) (b : Vec Ideal S512x256 .bf16) (u h : Fin 4) :
    (fun j d => (win u (keys h a b) (Idealize.ShloMosaic.ix2 j d) : EReal)) = kk a b u h := by
  funext j d
  exact (win_at u _ j d).trans (keys_at h a b _ d)

theorem vals_eq (a : Vec Ideal S128x256 .bf16) (b : Vec Ideal S512x256 .bf16) (u h : Fin 4) :
    (fun j d => (win u (vals a b h) (Idealize.ShloMosaic.ix2 j d) : EReal)) = kk a b u h := by
  funext j d
  exact (win_at u _ j d).trans (keys_at h a b _ d)

theorem keysN_eq (u h : Fin 4) (j : Fin 256) (d : Fin 64) :
    (win u (keysN (keys h x1 x2) x7) (Idealize.ShloMosaic.ix2 j d) : EReal) = nrm (kk x1 x2 u h j) (gg x7) d := by
  rw [← keys_eq]
  refine (win_at u _ j d).trans ((keysN_at _ x7 _ d).trans ?_)
  exact congrArg (fun f => nrm f (gg x7) d) (funext fun e => (win_at u (keys h x1 x2) j e).symm)

theorem keysR_eq (u h : Fin 4) (j : Fin 256) :
    (winR u (keysR (keys h x1 x2)) (Idealize.ShloMosaic.ix2 j 0) : EReal)
      = rinv fun d => win u (keys h x1 x2) (Idealize.ShloMosaic.ix2 j d) := by
  refine (winR_at u _ j).trans ((keysR_at _ _).trans ?_)
  exact congrArg rinv (funext fun e => (win_at u (keys h x1 x2) j e).symm)

theorem gQN_eq (u h : Fin 4) (s : Fin 512) :
    (fun d => (gQN x1 x2 x3 x4 x5 x7 x8 u h (Idealize.ShloMosaic.ix2 s d) : EReal))
      = dQueryN (pr x8 u h) (dd x5 u h) (kk x1 x2 u h) (kk x3 x4 u h) (gg x7) s := by
  funext d
  unfold gQN
  rw [dQN_at, prob_eq, heads_eq, vals_eq]
  exact Finset.sum_congr rfl fun j _ => congrArg (_ * ·) (keysN_eq x1 x2 x7 u h j d)

theorem gKN_eq (u h : Fin 4) (j : Fin 256) :
    (fun d => (gKN x0 x3 x4 x5 x6 x8 u h (Idealize.ShloMosaic.ix2 j d) : EReal))
      = dKeyN (pr x8 u h) (dd x5 u h) (dd x0 u h) (kk x3 x4 u h) (gg x6) j := by
  funext d
  unfold gKN
  rw [dKN_at, prob_eq, heads_eq, heads_eq, vals_eq]
  rfl

/-- The gradient in the queries, of the row `a` and the column `b` of a block. -/
theorem outQ_at (u h : Fin 4) (a : Fin 128) (b : Fin 256) :
    (outQ x0 x1 x2 x3 x4 x5 x6 x7 x8 u h (Idealize.ShloMosaic.ix2 a b) : EReal)
      = dQuery (pr x8 u h) (dd x5 u h) (dd x0 u h) (kk x1 x2 u h) (kk x3 x4 u h) (gg x6) (gg x7)
        ⟨b.val / 64 * 128 + a.val, by omega⟩ ⟨b.val % 64, by omega⟩ := by
  unfold outQ
  rw [put_at, queryG_at, gQN_eq, ← heads_eq x0]
  rfl

/-- The gradient in the keys of a window. -/
theorem gK_at (u h : Fin 4) (j : Fin 256) (d : Fin 64) :
    (gK x0 x1 x2 x3 x4 x5 x6 x7 x8 u h (Idealize.ShloMosaic.ix2 j d) : EReal)
      = dKey (pr x8 u h) (dd x5 u h) (dd x0 u h) (kk x1 x2 u h) (kk x3 x4 u h) (gg x6) (gg x7) j d := by
  unfold gK
  rw [keyG_at _ _ _ _ _ _ (keysR_eq x1 x2 u h j), gKN_eq, ← keys_eq x1]
  rfl

/-- The gradient in the values of a window. -/
theorem gV_at (u h : Fin 4) (j : Fin 256) (d : Fin 64) :
    (dV (prob x8 u h) (rows x5 u h) (Idealize.ShloMosaic.ix2 j d) : EReal) = dValue (pr x8 u h) (dd x5 u h) j d := by
  rw [dV_at, prob_eq, heads_eq]

theorem half_at (r : Fin 2) (x : FVec Ideal S256x64 .f32) (a : Fin 128) (d : Fin 64) :
    (half r x (Idealize.ShloMosaic.ix2 a d) : EReal) = x (Idealize.ShloMosaic.ix2 ⟨128 * r.val + a.val, by omega⟩ d) := by
  fin_cases r
  all_goals (pointwise [half]; blk_ext)

/-- Four groups' halves put beside each other: the row `a` and the column `b`. -/
theorem four_at (r : Fin 2) (x : Fin 4 → FVec Ideal S256x64 .f32) (a : Fin 128) (b : Fin 256) :
    (shapeCast S1x1x128x256 (put (stack (half r (x 0)) (half r (x 1)) (half r (x 2)) (half r (x 3)))) shapeCasts_S128x256_S1x1x128x256
        (Idealize.ShloMosaic.ix4 0 0 a b) : EReal)
      = x ⟨b.val / 64, by omega⟩ (Idealize.ShloMosaic.ix2 ⟨128 * r.val + a.val, by omega⟩ ⟨b.val % 64, by omega⟩) := by
  have key : ∀ (u u' : Fin 4) (a a' : Fin 128) (d : Fin 64), u = u' → a = a' →
      (half r (x u) (Idealize.ShloMosaic.ix2 a d) : EReal) = half r (x u') (Idealize.ShloMosaic.ix2 a' d) := by
    rintro u _ a _ d rfl rfl
    rfl
  refine Eq.trans (b := (put (stack (half r (x 0)) (half r (x 1)) (half r (x 2)) (half r (x 3))) (Idealize.ShloMosaic.ix2 a b) : EReal)) ?_ ?_
  · pointwise []
  · rw [put_at]
    refine Eq.trans ?_ (half_at r (x ⟨b.val / 64, by omega⟩) a ⟨b.val % 64, by omega⟩)
    pointwise [stack]
    by_cases h0 : b.val / 64 * 128 + a.val < 128
    · rw [dif_pos h0]
      exact key _ _ _ _ _ (Fin.ext (by show 0 = b.val / 64; omega)) (Fin.ext (by show b.val / 64 * 128 + a.val = a.val; omega))
    rw [dif_neg h0]
    by_cases h1 : b.val / 64 * 128 + a.val - 128 < 128
    · rw [dif_pos h1]
      exact key _ _ _ _ _ (Fin.ext (by show 1 = b.val / 64; omega)) (Fin.ext (by show b.val / 64 * 128 + a.val - 128 = a.val; omega))
    rw [dif_neg h1]
    by_cases h2 : b.val / 64 * 128 + a.val - 128 - 128 < 128
    · rw [dif_pos h2]
      exact key _ _ _ _ _ (Fin.ext (by show 2 = b.val / 64; omega)) (Fin.ext (by show b.val / 64 * 128 + a.val - 128 - 128 = a.val; omega))
    rw [dif_neg h2]
    exact key _ _ _ _ _ (Fin.ext (by show 3 = b.val / 64; omega)) (Fin.ext (by show b.val / 64 * 128 + a.val - 128 - 128 - 128 = a.val; omega))

/-- The gradient in the keys of one half of a window, as it is stored. -/
theorem outK_at (u : Fin 4) (r : Fin 2) (a : Fin 128) (b : Fin 256) :
    (outK x0 x1 x2 x3 x4 x5 x6 x7 x8 u r (Idealize.ShloMosaic.ix4 0 0 a b) : EReal)
      = dKey (pr x8 u ⟨b.val / 64, by omega⟩) (dd x5 u ⟨b.val / 64, by omega⟩) (dd x0 u ⟨b.val / 64, by omega⟩) (kk x1 x2 u ⟨b.val / 64, by omega⟩)
        (kk x3 x4 u ⟨b.val / 64, by omega⟩) (gg x6) (gg x7) ⟨128 * r.val + a.val, by omega⟩ ⟨b.val % 64, by omega⟩ :=
  (four_at r (fun h => gK x0 x1 x2 x3 x4 x5 x6 x7 x8 u h) a b).trans (gK_at x0 x1 x2 x3 x4 x5 x6 x7 x8 u _ _ _)

/-- The gradient in the values of one half of a window, as it is stored. -/
theorem outV_at (u : Fin 4) (r : Fin 2) (a : Fin 128) (b : Fin 256) :
    (outV x5 x8 u r (Idealize.ShloMosaic.ix4 0 0 a b) : EReal)
      = dValue (pr x8 u ⟨b.val / 64, by omega⟩) (dd x5 u ⟨b.val / 64, by omega⟩) ⟨128 * r.val + a.val, by omega⟩ ⟨b.val % 64, by omega⟩ :=
  (four_at r (fun h => dV (prob x8 u h) (rows x5 u h)) a b).trans (gV_at x5 x8 u _ _ _)

theorem gS_at (u h : Fin 4) (s : Fin 512) (j : Fin 256) :
    (gS x3 x4 x5 x8 u h (Idealize.ShloMosaic.ix2 s j) : EReal) = dScore (pr x8 u h) (dd x5 u h) (kk x3 x4 u h) s j := by
  unfold gS
  rw [dS_at, prob_eq, heads_eq, vals_eq]

theorem gM_at (u h : Fin 4) (s : Fin 512) :
    (gM x3 x4 x5 x8 u h (Idealize.ShloMosaic.ix2 s 0) : EReal) = delta (pr x8 u h) (dd x5 u h) (kk x3 x4 u h) s := by
  unfold gM
  rw [dMean_at, prob_eq, heads_eq, vals_eq]

theorem addS_at (o : Vec Ideal S1x512x256 .f32) (d : FVec Ideal S512x256 .f32) (s : Fin 512) (j : Fin 256) :
    (addS o d (Idealize.ShloMosaic.ix3 0 s j) : EReal) = o (Idealize.ShloMosaic.ix3 0 s j) + d (Idealize.ShloMosaic.ix2 s j) := by
  pointwise [addS]

/-- The table of scores after the point. -/
theorem accS_at (o : Vec Ideal S4x512x256 .f32) (h : Fin 4) (s : Fin 512) (j : Fin 256) :
    (accS x3 x4 x5 x8 o h (Idealize.ShloMosaic.ix3 0 s j) : EReal)
      = o (Idealize.ShloMosaic.ix3 h s j) + ∑ u : Fin 4, dScore (pr x8 u h) (dd x5 u h) (kk x3 x4 u h) s j := by
  have e : (tabS o h (Idealize.ShloMosaic.ix3 0 s j) : EReal) = o (Idealize.ShloMosaic.ix3 h s j) := by
    unfold tabS
    pointwise []
    blk_ext
  unfold accS
  rw [addS_at, addS_at, addS_at, addS_at, gS_at, gS_at, gS_at, gS_at, e, Fin.sum_univ_four (fun u : Fin 4 => dScore (pr x8 u h) (dd x5 u h) (kk x3 x4 u h) s j)]
  simp only [add_assoc]

theorem addN_at (o : Vec Ideal S1x4x1 .f32) (p : Vec Ideal S1x1x512x1 .f32) (d : FVec Ideal S512x1 .f32) (g : Fin 4) :
    (addN o p d (Idealize.ShloMosaic.ix3 0 g 0) : EReal) = o (Idealize.ShloMosaic.ix3 0 g 0) + ∑ a : Fin 128, (0 - p (Idealize.ShloMosaic.ix4 0 0 ⟨g.val * 128 + a.val, by omega⟩ 0))
      * d (Idealize.ShloMosaic.ix2 ⟨g.val * 128 + a.val, by omega⟩ 0) := by
  pointwise [addN]

/-- The sinks' table after the point. -/
theorem accN_at (o : Vec Ideal S4x4x1 .f32) (h g : Fin 4) :
    (accN x3 x4 x5 x8 x9 o h (Idealize.ShloMosaic.ix3 0 g 0) : EReal)
      = o (Idealize.ShloMosaic.ix3 h g 0) + ∑ u : Fin 4, dSink (pr x8 u h) (dd x5 u h) (kk x3 x4 u h) (ps x9 u h) g := by
  have e : (tabN o h (Idealize.ShloMosaic.ix3 0 g 0) : EReal) = o (Idealize.ShloMosaic.ix3 h g 0) := by
    unfold tabN
    pointwise []
    blk_ext
  have t : ∀ u : Fin 4, (∑ a : Fin 128, (0 - probS x9 u h (Idealize.ShloMosaic.ix4 0 0 ⟨g.val * 128 + a.val, by omega⟩ 0))
      * gM x3 x4 x5 x8 u h (Idealize.ShloMosaic.ix2 ⟨g.val * 128 + a.val, by omega⟩ 0) : EReal)
      = dSink (pr x8 u h) (dd x5 u h) (kk x3 x4 u h) (ps x9 u h) g := by
    intro u
    rw [← probS_eq]
    exact Finset.sum_congr rfl fun a _ => congrArg (_ * ·) (gM_at x3 x4 x5 x8 u h _)
  unfold accN
  rw [addN_at, addN_at, addN_at, addN_at, t, t, t, t, e,
    Fin.sum_univ_four (fun u : Fin 4 => dSink (pr x8 u h) (dd x5 u h) (kk x3 x4 u h) (ps x9 u h) g)]
  simp only [add_assoc]

theorem gGQ_at (u h : Fin 4) (d : Fin 64) :
    (gGQ x0 x1 x2 x3 x4 x5 x7 x8 u h (Idealize.ShloMosaic.ix2 0 d) : EReal)
      = dGainQ (pr x8 u h) (dd x5 u h) (dd x0 u h) (kk x1 x2 u h) (kk x3 x4 u h) (gg x7) d := by
  unfold gGQ
  rw [queryGG_at, ← heads_eq x0]
  exact Finset.sum_congr rfl fun s _ => congrArg (fun f => gainTerm f _ d) (gQN_eq x1 x2 x3 x4 x5 x7 x8 u h s)

theorem gGK_at (u h : Fin 4) (d : Fin 64) :
    (gGK x0 x1 x2 x3 x4 x5 x6 x8 u h (Idealize.ShloMosaic.ix2 0 d) : EReal)
      = dGainK (pr x8 u h) (dd x5 u h) (dd x0 u h) (kk x1 x2 u h) (kk x3 x4 u h) (gg x6) d := by
  unfold gGK
  rw [keyGG_at _ _ _ _ (keysR_eq x1 x2 u h), ← keys_eq x1]
  exact Finset.sum_congr rfl fun s _ => congrArg (fun f => gainTerm f _ d) (gKN_eq x0 x3 x4 x5 x6 x8 u h s)

theorem accG_at (o : Vec Ideal S1x64 .f32) (f : Fin 4 → Fin 4 → FVec Ideal S1x64 .f32) (d : Fin 64) :
    (accG o f (Idealize.ShloMosaic.ix2 0 d) : EReal)
      = o (Idealize.ShloMosaic.ix2 0 d) + ∑ h : Fin 4, ∑ u : Fin 4, f u h (Idealize.ShloMosaic.ix2 0 d) := by
  have z : ∀ (z : FVec Ideal S1x64 .f32) (f : Fin 4 → FVec Ideal S1x64 .f32), (addG z f (Idealize.ShloMosaic.ix2 0 d) : EReal)
      = z (Idealize.ShloMosaic.ix2 0 d) + ∑ u : Fin 4, f u (Idealize.ShloMosaic.ix2 0 d) := by
    intro z f
    rw [Fin.sum_univ_four (fun u : Fin 4 => (f u (Idealize.ShloMosaic.ix2 0 d) : EReal))]
    refine Eq.trans (b := ((((z (Idealize.ShloMosaic.ix2 0 d) + f 0 (Idealize.ShloMosaic.ix2 0 d)) + f 1 (Idealize.ShloMosaic.ix2 0 d))
      + f 2 (Idealize.ShloMosaic.ix2 0 d)) + f 3 (Idealize.ShloMosaic.ix2 0 d) : EReal)) ?_ ?_
    · pointwise [addG]
    · simp only [add_assoc]
  refine Eq.trans (b := (o (Idealize.ShloMosaic.ix2 0 d) + addG (addG (addG (addG (broadcast S1x64 (Scalar.ofBits (F := Ideal) .f32 0x00000000#32))
    fun u => f u 0) fun u => f u 1) fun u => f u 2) (fun u => f u 3) (Idealize.ShloMosaic.ix2 0 d) : EReal)) ?_ ?_
  · pointwise [accG]
  · rw [z, z, z, z, Fin.sum_univ_four (fun h : Fin 4 => (∑ u : Fin 4, f u h (Idealize.ShloMosaic.ix2 0 d) : EReal))]
    have z0 : (broadcast S1x64 (Scalar.ofBits (F := Ideal) .f32 0x00000000#32) (Idealize.ShloMosaic.ix2 0 d) : EReal) = 0 := by
      pointwise []
    rw [z0, zero_add]

end Cert.AttnIdeal.Rows
-- ==== Proof.Attn.Point.lean ====
module

public import proofs.«01_k».proof.Proof.Attn.Parts
public import proofs.«01_k».proof.Proof.Gen.AttnIdeal.Value
public import Idealize.ShloMosaic.Lib.Pipeline.ValueKit
public import Idealize.ShloMosaic.Lib.Pointwise
public import Idealize.ShloMosaic.Lib.Claim
public import Idealize.ShloMosaic.Lib.Pipeline.ReadBack

@[expose] public section

set_option maxHeartbeats 2000000
set_option maxRecDepth 16384

noncomputable section

open Idealize.ShloMosaic Idealize.ShloMosaic.TcCoe Idealize.SL.Sem Idealize.ShloMosaic.ValueIdx
open Idealize.ShloMosaic.Pipeline (Dat)

namespace Cert.AttnIdeal.Point

open Cert.AttnIdeal Cert.AttnIdeal.Gen Cert.AttnFormula Cert.AttnIdeal.Block Cert.AttnIdeal.Parts

variable (m : (ℓ : Loc nD τ sig) → Buf (Elt Ideal) ℓ)

/-- A store in the rectangle of the store before it hides that store. -/
theorem canon_hide {s : Shape} {e : EltTy} (r : Rect s) (w w' : r.shape.Idx → Elt Ideal e) (L : List (View.Piece (Elt Ideal) s e)) :
    View.canon (Val := Elt Ideal) (⟨r, w⟩ :: ⟨r, w'⟩ :: L) = View.canon (Val := Elt Ideal) (⟨r, w⟩ :: L) := by
  funext y
  by_cases hm : y ∈ r.set
  · obtain ⟨x, rfl⟩ := r.exists_idx_of_mem hm
    rw [show r.idx x = r.emb x from rfl, View.canon_cons_emb, View.canon_cons_emb]
  · rw [View.canon_cons_of_not_mem _ _ hm, View.canon_cons_of_not_mem _ _ hm, View.canon_cons_of_not_mem _ _ hm]

/-- A later store over two lists of stores that leave the same contents. -/
theorem canon_over {s : Shape} {e : EltTy} (p : View.Piece (Elt Ideal) s e) (L L' : List (View.Piece (Elt Ideal) s e))
    (h : View.canon (Val := Elt Ideal) L = View.canon (Val := Elt Ideal) L') :
    View.canon (Val := Elt Ideal) (p :: L) = View.canon (Val := Elt Ideal) (p :: L') := by
  funext y
  by_cases hm : y ∈ p.1.set
  · obtain ⟨x, rfl⟩ := p.1.exists_idx_of_mem hm
    rw [show p.1.idx x = p.1.emb x from rfl, View.canon_cons_emb, View.canon_cons_emb]
  · rw [View.canon_cons_of_not_mem _ _ hm, View.canon_cons_of_not_mem _ _ hm, h]

/-- Under four stores that cover the array no earlier store counts. -/
theorem canon_cover {s : Shape} {e : EltTy} (p q u v z : View.Piece (Elt Ideal) s e)
    (hc : ∀ y, y ∈ p.1.set ∨ y ∈ q.1.set ∨ y ∈ u.1.set ∨ y ∈ v.1.set) :
    View.canon (Val := Elt Ideal) [p, q, u, v, z] = View.canon (Val := Elt Ideal) [p, q, u, v] := by
  funext y
  have take : ∀ (p : View.Piece (Elt Ideal) s e) (L L' : List (View.Piece (Elt Ideal) s e)),
      (¬ y ∈ p.1.set → View.canon (Val := Elt Ideal) L y = View.canon (Val := Elt Ideal) L' y) →
      View.canon (Val := Elt Ideal) (p :: L) y = View.canon (Val := Elt Ideal) (p :: L') y := by
    intro p L L' h
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm, h hm]
  refine take p _ _ fun hp => take q _ _ fun hq => take u _ _ fun hu => take v _ _ fun hv => ?_
  rcases hc y with h | h | h | h
  · exact absurd h hp
  · exact absurd h hq
  · exact absurd h hu
  · exact absurd h hv

/-- A hidden store under one later store. -/
theorem canon_hide1 {s : Shape} {e : EltTy} (p : View.Piece (Elt Ideal) s e) (r : Rect s) (w w' : r.shape.Idx → Elt Ideal e)
    (L : List (View.Piece (Elt Ideal) s e)) :
    View.canon (Val := Elt Ideal) (p :: ⟨r, w⟩ :: ⟨r, w'⟩ :: L) = View.canon (Val := Elt Ideal) (p :: ⟨r, w⟩ :: L) :=
  canon_over p _ _ (canon_hide r w w' L)

/-- A hidden store under two later stores. -/
theorem canon_hide2 {s : Shape} {e : EltTy} (p q : View.Piece (Elt Ideal) s e) (r : Rect s) (w w' : r.shape.Idx → Elt Ideal e)
    (L : List (View.Piece (Elt Ideal) s e)) :
    View.canon (Val := Elt Ideal) (p :: q :: ⟨r, w⟩ :: ⟨r, w'⟩ :: L) = View.canon (Val := Elt Ideal) (p :: q :: ⟨r, w⟩ :: L) :=
  canon_over p _ _ (canon_hide1 q r w w' L)

/-- A hidden store under three later stores. -/
theorem canon_hide3 {s : Shape} {e : EltTy} (p q u : View.Piece (Elt Ideal) s e) (r : Rect s) (w w' : r.shape.Idx → Elt Ideal e)
    (L : List (View.Piece (Elt Ideal) s e)) :
    View.canon (Val := Elt Ideal) (p :: q :: u :: ⟨r, w⟩ :: ⟨r, w'⟩ :: L)
      = View.canon (Val := Elt Ideal) (p :: q :: u :: ⟨r, w⟩ :: L) :=
  canon_over p _ _ (canon_hide2 q u r w w' L)

/-- The gradient in the queries: the point stores its sixteen blocks. -/
theorem pointQ (c : Dev nD) (t : Fin cfg0.N) (y : S512x1024.Idx) (Q : Vec Ideal S512x1024 .bf16)
    (hQ : ∀ (u h : Fin 4) (x : S128x256.Idx) (y : S512x1024.Idx), (y 0).val = 128 * u.val + (x 0).val → (y 1).val = 256 * h.val + (x 1).val →
      outQ (X0_0 m c t) (iblk m c 1 t) (iblk m c 2 t) (iblk m c 3 t) (iblk m c 4 t) (iblk m c 5 t) (iblk m c 6 t) (iblk m c 7 t) (iblk m c 8 t) u h x = Q y) :
    (outsAt0 m c t.val t.isLt).1 y = Q y := by
  have ht : t.val < 8 := t.isLt
  rcases Nat.eq_zero_or_pos (t.val % 8) with ha | ha
  · rw [outsAt0_A m c t ha]
    frame_out
    canon_tiles x h
    case piece0 => exact hQ 3 3 x y h0 h1
    case piece1 => exact hQ 2 3 x y h0 h1
    case piece2 => exact hQ 1 3 x y h0 h1
    case piece3 => exact hQ 0 3 x y (h0.trans (Nat.zero_add _).symm) h1
    case piece4 => exact hQ 3 2 x y h0 h1
    case piece5 => exact hQ 2 2 x y h0 h1
    case piece6 => exact hQ 1 2 x y h0 h1
    case piece7 => exact hQ 0 2 x y (h0.trans (Nat.zero_add _).symm) h1
    case piece8 => exact hQ 3 1 x y h0 h1
    case piece9 => exact hQ 2 1 x y h0 h1
    case piece10 => exact hQ 1 1 x y h0 h1
    case piece11 => exact hQ 0 1 x y (h0.trans (Nat.zero_add _).symm) h1
    case piece12 => exact hQ 3 0 x y h0 (h1.trans (Nat.zero_add _).symm)
    case piece13 => exact hQ 2 0 x y h0 (h1.trans (Nat.zero_add _).symm)
    case piece14 => exact hQ 1 0 x y h0 (h1.trans (Nat.zero_add _).symm)
    case piece15 => exact hQ 0 0 x y (h0.trans (Nat.zero_add _).symm) (h1.trans (Nat.zero_add _).symm)
  · rw [outsAt0_B m c t (by omega)]
    frame_out
    canon_tiles x h
    case piece0 => exact hQ 3 3 x y h0 h1
    case piece1 => exact hQ 2 3 x y h0 h1
    case piece2 => exact hQ 1 3 x y h0 h1
    case piece3 => exact hQ 0 3 x y (h0.trans (Nat.zero_add _).symm) h1
    case piece4 => exact hQ 3 2 x y h0 h1
    case piece5 => exact hQ 2 2 x y h0 h1
    case piece6 => exact hQ 1 2 x y h0 h1
    case piece7 => exact hQ 0 2 x y (h0.trans (Nat.zero_add _).symm) h1
    case piece8 => exact hQ 3 1 x y h0 h1
    case piece9 => exact hQ 2 1 x y h0 h1
    case piece10 => exact hQ 1 1 x y h0 h1
    case piece11 => exact hQ 0 1 x y (h0.trans (Nat.zero_add _).symm) h1
    case piece12 => exact hQ 3 0 x y h0 (h1.trans (Nat.zero_add _).symm)
    case piece13 => exact hQ 2 0 x y h0 (h1.trans (Nat.zero_add _).symm)
    case piece14 => exact hQ 1 0 x y h0 (h1.trans (Nat.zero_add _).symm)
    case piece15 => exact hQ 0 0 x y (h0.trans (Nat.zero_add _).symm) (h1.trans (Nat.zero_add _).symm)

/-- The gradients in the keys and in the values: the point stores two halves of each for every block of rows. -/
theorem pointKV (c : Dev nD) (t : Fin cfg0.N) (y : S4x2x128x512.Idx) (Q : Vec Ideal S4x2x128x512 .bf16)
    (hK : ∀ (u : Fin 4) (r : Fin 2) (x : S1x1x128x256.Idx) (y : S4x2x128x512.Idx), (y 0).val = u.val + (x 0).val → (y 1).val = r.val + (x 1).val →
      (y 2).val = 0 + (x 2).val → (y 3).val = 0 + (x 3).val → outK (X0_0 m c t) (iblk m c 1 t) (iblk m c 2 t) (iblk m c 3 t) (iblk m c 4 t) (iblk m c 5 t) (iblk m c 6 t) (iblk m c 7 t) (iblk m c 8 t) u r x = Q y)
    (hV : ∀ (u : Fin 4) (r : Fin 2) (x : S1x1x128x256.Idx) (y : S4x2x128x512.Idx), (y 0).val = u.val + (x 0).val → (y 1).val = r.val + (x 1).val →
      (y 2).val = 0 + (x 2).val → (y 3).val = 256 + (x 3).val → outV (iblk m c 5 t) (iblk m c 8 t) u r x = Q y) :
    (outsAt0 m c t.val t.isLt).2.1 y = Q y := by
  have ht : t.val < 8 := t.isLt
  rcases Nat.eq_zero_or_pos (t.val % 8) with ha | ha
  · rw [outsAt0_A m c t ha]
    frame_out
    canon_tiles x h
    case piece0 => exact hV 3 1 x y h0 h1 (h2.trans (Nat.zero_add _).symm) h3
    case piece1 => exact hK 3 1 x y h0 h1 (h2.trans (Nat.zero_add _).symm) (h3.trans (Nat.zero_add _).symm)
    case piece2 => exact hV 3 0 x y h0 (h1.trans (Nat.zero_add _).symm) (h2.trans (Nat.zero_add _).symm) h3
    case piece3 => exact hK 3 0 x y h0 (h1.trans (Nat.zero_add _).symm) (h2.trans (Nat.zero_add _).symm) (h3.trans (Nat.zero_add _).symm)
    case piece4 => exact hV 2 1 x y h0 h1 (h2.trans (Nat.zero_add _).symm) h3
    case piece5 => exact hK 2 1 x y h0 h1 (h2.trans (Nat.zero_add _).symm) (h3.trans (Nat.zero_add _).symm)
    case piece6 => exact hV 2 0 x y h0 (h1.trans (Nat.zero_add _).symm) (h2.trans (Nat.zero_add _).symm) h3
    case piece7 => exact hK 2 0 x y h0 (h1.trans (Nat.zero_add _).symm) (h2.trans (Nat.zero_add _).symm) (h3.trans (Nat.zero_add _).symm)
    case piece8 => exact hV 1 1 x y h0 h1 (h2.trans (Nat.zero_add _).symm) h3
    case piece9 => exact hK 1 1 x y h0 h1 (h2.trans (Nat.zero_add _).symm) (h3.trans (Nat.zero_add _).symm)
    case piece10 => exact hV 1 0 x y h0 (h1.trans (Nat.zero_add _).symm) (h2.trans (Nat.zero_add _).symm) h3
    case piece11 => exact hK 1 0 x y h0 (h1.trans (Nat.zero_add _).symm) (h2.trans (Nat.zero_add _).symm) (h3.trans (Nat.zero_add _).symm)
    case piece12 => exact hV 0 1 x y (h0.trans (Nat.zero_add _).symm) h1 (h2.trans (Nat.zero_add _).symm) h3
    case piece13 => exact hK 0 1 x y (h0.trans (Nat.zero_add _).symm) h1 (h2.trans (Nat.zero_add _).symm) (h3.trans (Nat.zero_add _).symm)
    case piece14 => exact hV 0 0 x y (h0.trans (Nat.zero_add _).symm) (h1.trans (Nat.zero_add _).symm) (h2.trans (Nat.zero_add _).symm) h3
    case piece15 => exact hK 0 0 x y (h0.trans (Nat.zero_add _).symm) (h1.trans (Nat.zero_add _).symm) (h2.trans (Nat.zero_add _).symm) (h3.trans (Nat.zero_add _).symm)
  · rw [outsAt0_B m c t (by omega)]
    frame_out
    canon_tiles x h
    case piece0 => exact hV 3 1 x y h0 h1 (h2.trans (Nat.zero_add _).symm) h3
    case piece1 => exact hK 3 1 x y h0 h1 (h2.trans (Nat.zero_add _).symm) (h3.trans (Nat.zero_add _).symm)
    case piece2 => exact hV 3 0 x y h0 (h1.trans (Nat.zero_add _).symm) (h2.trans (Nat.zero_add _).symm) h3
    case piece3 => exact hK 3 0 x y h0 (h1.trans (Nat.zero_add _).symm) (h2.trans (Nat.zero_add _).symm) (h3.trans (Nat.zero_add _).symm)
    case piece4 => exact hV 2 1 x y h0 h1 (h2.trans (Nat.zero_add _).symm) h3
    case piece5 => exact hK 2 1 x y h0 h1 (h2.trans (Nat.zero_add _).symm) (h3.trans (Nat.zero_add _).symm)
    case piece6 => exact hV 2 0 x y h0 (h1.trans (Nat.zero_add _).symm) (h2.trans (Nat.zero_add _).symm) h3
    case piece7 => exact hK 2 0 x y h0 (h1.trans (Nat.zero_add _).symm) (h2.trans (Nat.zero_add _).symm) (h3.trans (Nat.zero_add _).symm)
    case piece8 => exact hV 1 1 x y h0 h1 (h2.trans (Nat.zero_add _).symm) h3
    case piece9 => exact hK 1 1 x y h0 h1 (h2.trans (Nat.zero_add _).symm) (h3.trans (Nat.zero_add _).symm)
    case piece10 => exact hV 1 0 x y h0 (h1.trans (Nat.zero_add _).symm) (h2.trans (Nat.zero_add _).symm) h3
    case piece11 => exact hK 1 0 x y h0 (h1.trans (Nat.zero_add _).symm) (h2.trans (Nat.zero_add _).symm) (h3.trans (Nat.zero_add _).symm)
    case piece12 => exact hV 0 1 x y (h0.trans (Nat.zero_add _).symm) h1 (h2.trans (Nat.zero_add _).symm) h3
    case piece13 => exact hK 0 1 x y (h0.trans (Nat.zero_add _).symm) h1 (h2.trans (Nat.zero_add _).symm) (h3.trans (Nat.zero_add _).symm)
    case piece14 => exact hV 0 0 x y (h0.trans (Nat.zero_add _).symm) (h1.trans (Nat.zero_add _).symm) (h2.trans (Nat.zero_add _).symm) h3
    case piece15 => exact hK 0 0 x y (h0.trans (Nat.zero_add _).symm) (h1.trans (Nat.zero_add _).symm) (h2.trans (Nat.zero_add _).symm) (h3.trans (Nat.zero_add _).symm)

/-- What the first point leaves in the table of scores. -/
theorem pointB_first (c : Dev nD) (t : Fin cfg0.N) (ht : t.val % 8 = 0) (y : S4x512x256.Idx) (Q : Vec Ideal S4x512x256 .f32)
    (hQ : ∀ (h : Fin 4) (x : S1x512x256.Idx) (y : S4x512x256.Idx), (y 0).val = h.val + (x 0).val → (y 1).val = 0 + (x 1).val → (y 2).val = 0 + (x 2).val →
      accS (iblk m c 3 t) (iblk m c 4 t) (iblk m c 5 t) (iblk m c 8 t) (k0_pay7 (F := Ideal)) h x = Q y) :
    (outsAt0 m c t.val t.isLt).2.2.1 y = Q y := by
  rw [outsAt0_A m c t ht]
  frame_out
  simp (disch := decide) only [↓ View.readCov_skip, ↓ View.readCov_cons_toLoadRect, ↓ View.readCov_fill]
  simp only [canon_hide, canon_hide1, canon_hide2, canon_hide3]
  rw [canon_cover _ _ _ _ _ (fun y => by
    have b0 := (y 0).isLt
    have b1 := (y 1).isLt
    have b2 := (y 2).isLt
    simp only [Rect.mem_set_unit, Fin.forall_fin_succ]
    simp at b0 b1 b2 ⊢
    omega)]
  canon_tiles x h
  case piece0 => exact hQ 3 x y h0 (h1.trans (Nat.zero_add _).symm) (h2.trans (Nat.zero_add _).symm)
  case piece1 => exact hQ 2 x y h0 (h1.trans (Nat.zero_add _).symm) (h2.trans (Nat.zero_add _).symm)
  case piece2 => exact hQ 1 x y h0 (h1.trans (Nat.zero_add _).symm) (h2.trans (Nat.zero_add _).symm)
  case piece3 => exact hQ 0 x y (h0.trans (Nat.zero_add _).symm) (h1.trans (Nat.zero_add _).symm) (h2.trans (Nat.zero_add _).symm)

/-- What the next point leaves in the table of scores. -/
theorem pointB_next (c : Dev nD) (t : Fin cfg0.N) (ht : ¬ t.val % 8 = 0) (y : S4x512x256.Idx) (Q : Vec Ideal S4x512x256 .f32)
    (hQ : ∀ (h : Fin 4) (x : S1x512x256.Idx) (y : S4x512x256.Idx), (y 0).val = h.val + (x 0).val → (y 1).val = 0 + (x 1).val → (y 2).val = 0 + (x 2).val →
      accS (iblk m c 3 t) (iblk m c 4 t) (iblk m c 5 t) (iblk m c 8 t) ((outsAt0 m c (t.val - 1) (Nat.lt_of_le_of_lt (Nat.sub_le _ _) t.isLt)).2.2.1) h x = Q y) :
    (outsAt0 m c t.val t.isLt).2.2.1 y = Q y := by
  rw [outsAt0_B m c t ht]
  frame_out
  simp (disch := decide) only [↓ View.readCov_skip, ↓ View.readCov_cons_toLoadRect, ↓ View.readCov_fill]
  simp only [canon_hide, canon_hide1, canon_hide2, canon_hide3]
  canon_tiles x h
  case piece0 => exact hQ 3 x y h0 (h1.trans (Nat.zero_add _).symm) (h2.trans (Nat.zero_add _).symm)
  case piece1 => exact hQ 2 x y h0 (h1.trans (Nat.zero_add _).symm) (h2.trans (Nat.zero_add _).symm)
  case piece2 => exact hQ 1 x y h0 (h1.trans (Nat.zero_add _).symm) (h2.trans (Nat.zero_add _).symm)
  case piece3 => exact hQ 0 x y (h0.trans (Nat.zero_add _).symm) (h1.trans (Nat.zero_add _).symm) (h2.trans (Nat.zero_add _).symm)

/-- What the first point leaves in the sinks' table. -/
theorem pointN_first (c : Dev nD) (t : Fin cfg0.N) (ht : t.val % 8 = 0) (y : S4x4x1.Idx) (Q : Vec Ideal S4x4x1 .f32)
    (hQ : ∀ (h : Fin 4) (x : S1x4x1.Idx) (y : S4x4x1.Idx), (y 0).val = h.val + (x 0).val → (y 1).val = 0 + (x 1).val → (y 2).val = 0 + (x 2).val →
      accN (iblk m c 3 t) (iblk m c 4 t) (iblk m c 5 t) (iblk m c 8 t) (iblk m c 9 t) (k0_pay8 (F := Ideal)) h x = Q y) :
    (outsAt0 m c t.val t.isLt).2.2.2.1 y = Q y := by
  rw [outsAt0_A m c t ht]
  frame_out
  simp (disch := decide) only [↓ View.readCov_skip, ↓ View.readCov_cons_toLoadRect, ↓ View.readCov_fill]
  simp only [canon_hide, canon_hide1, canon_hide2, canon_hide3]
  rw [canon_cover _ _ _ _ _ (fun y => by
    have b0 := (y 0).isLt
    have b1 := (y 1).isLt
    have b2 := (y 2).isLt
    simp only [Rect.mem_set_unit, Fin.forall_fin_succ]
    simp at b0 b1 b2 ⊢
    omega)]
  canon_tiles x h
  case piece0 => exact hQ 3 x y h0 (h1.trans (Nat.zero_add _).symm) (h2.trans (Nat.zero_add _).symm)
  case piece1 => exact hQ 2 x y h0 (h1.trans (Nat.zero_add _).symm) (h2.trans (Nat.zero_add _).symm)
  case piece2 => exact hQ 1 x y h0 (h1.trans (Nat.zero_add _).symm) (h2.trans (Nat.zero_add _).symm)
  case piece3 => exact hQ 0 x y (h0.trans (Nat.zero_add _).symm) (h1.trans (Nat.zero_add _).symm) (h2.trans (Nat.zero_add _).symm)

/-- What the next point leaves in the sinks' table. -/
theorem pointN_next (c : Dev nD) (t : Fin cfg0.N) (ht : ¬ t.val % 8 = 0) (y : S4x4x1.Idx) (Q : Vec Ideal S4x4x1 .f32)
    (hQ : ∀ (h : Fin 4) (x : S1x4x1.Idx) (y : S4x4x1.Idx), (y 0).val = h.val + (x 0).val → (y 1).val = 0 + (x 1).val → (y 2).val = 0 + (x 2).val →
      accN (iblk m c 3 t) (iblk m c 4 t) (iblk m c 5 t) (iblk m c 8 t) (iblk m c 9 t) ((outsAt0 m c (t.val - 1) (Nat.lt_of_le_of_lt (Nat.sub_le _ _) t.isLt)).2.2.2.1) h x = Q y) :
    (outsAt0 m c t.val t.isLt).2.2.2.1 y = Q y := by
  rw [outsAt0_B m c t ht]
  frame_out
  simp (disch := decide) only [↓ View.readCov_skip, ↓ View.readCov_cons_toLoadRect, ↓ View.readCov_fill]
  simp only [canon_hide, canon_hide1, canon_hide2, canon_hide3]
  canon_tiles x h
  case piece0 => exact hQ 3 x y h0 (h1.trans (Nat.zero_add _).symm) (h2.trans (Nat.zero_add _).symm)
  case piece1 => exact hQ 2 x y h0 (h1.trans (Nat.zero_add _).symm) (h2.trans (Nat.zero_add _).symm)
  case piece2 => exact hQ 1 x y h0 (h1.trans (Nat.zero_add _).symm) (h2.trans (Nat.zero_add _).symm)
  case piece3 => exact hQ 0 x y (h0.trans (Nat.zero_add _).symm) (h1.trans (Nat.zero_add _).symm) (h2.trans (Nat.zero_add _).symm)

/-- What the first point leaves in the query gain's gradient. -/
theorem pointGQ_first (c : Dev nD) (t : Fin cfg0.N) (ht : t.val % 8 = 0) (y : S1x64.Idx) :
    (outsAt0 m c t.val t.isLt).2.2.2.2.1 y = accG (k0_pay9 (F := Ideal)) (gGQ (X0_0 m c t) (iblk m c 1 t) (iblk m c 2 t) (iblk m c 3 t) (iblk m c 4 t) (iblk m c 5 t) (iblk m c 7 t) (iblk m c 8 t)) y := by
  rw [outsAt0_A m c t ht]
  frame_out
  rfl

/-- What the next point leaves in the query gain's gradient. -/
theorem pointGQ_next (c : Dev nD) (t : Fin cfg0.N) (ht : ¬ t.val % 8 = 0) (y : S1x64.Idx) :
    (outsAt0 m c t.val t.isLt).2.2.2.2.1 y = accG ((outsAt0 m c (t.val - 1) (Nat.lt_of_le_of_lt (Nat.sub_le _ _) t.isLt)).2.2.2.2.1) (gGQ (X0_0 m c t) (iblk m c 1 t) (iblk m c 2 t) (iblk m c 3 t) (iblk m c 4 t) (iblk m c 5 t) (iblk m c 7 t) (iblk m c 8 t)) y := by
  rw [outsAt0_B m c t ht]
  frame_out
  rfl

/-- What the first point leaves in the key gain's gradient. -/
theorem pointGK_first (c : Dev nD) (t : Fin cfg0.N) (ht : t.val % 8 = 0) (y : S1x64.Idx) :
    (outsAt0 m c t.val t.isLt).2.2.2.2.2 y = accG (k0_pay9 (F := Ideal)) (gGK (X0_0 m c t) (iblk m c 1 t) (iblk m c 2 t) (iblk m c 3 t) (iblk m c 4 t) (iblk m c 5 t) (iblk m c 6 t) (iblk m c 8 t)) y := by
  rw [outsAt0_A m c t ht]
  frame_out
  rfl

/-- What the next point leaves in the key gain's gradient. -/
theorem pointGK_next (c : Dev nD) (t : Fin cfg0.N) (ht : ¬ t.val % 8 = 0) (y : S1x64.Idx) :
    (outsAt0 m c t.val t.isLt).2.2.2.2.2 y = accG ((outsAt0 m c (t.val - 1) (Nat.lt_of_le_of_lt (Nat.sub_le _ _) t.isLt)).2.2.2.2.2) (gGK (X0_0 m c t) (iblk m c 1 t) (iblk m c 2 t) (iblk m c 3 t) (iblk m c 4 t) (iblk m c 5 t) (iblk m c 6 t) (iblk m c 8 t)) y := by
  rw [outsAt0_B m c t ht]
  frame_out
  rfl

end Cert.AttnIdeal.Point
-- ==== Proof.Attn.Windows.lean ====
module

public import proofs.«01_k».proof.Proof.Attn.Data
public import proofs.«01_k».proof.Proof.Attn.Rows
public import proofs.«01_k».proof.Proof.Attn.Point
public import proofs.«01_k».proof.Proof.Gen.AttnIdeal.Value
public import Idealize.ShloMosaic.Lib.Pipeline.ValueKit
public import Idealize.ShloMosaic.Lib.Pointwise
public import Idealize.ShloMosaic.Lib.Claim

@[expose] public section

set_option maxHeartbeats 2000000
set_option maxRecDepth 16384

noncomputable section

open Idealize.ShloMosaic Idealize.ShloMosaic.TcCoe Idealize.SL.Sem Idealize.ShloMosaic.ValueIdx
open Idealize.ShloMosaic.Pipeline (Dat)

namespace Cert.AttnIdeal.Array

open Cert.AttnIdeal Cert.AttnIdeal.Gen Cert.AttnFormula Cert.AttnIdeal.Block Cert.AttnIdeal.Parts Cert.AttnIdeal.Rows Cert.AttnIdeal.Point

variable (m : (ℓ : Loc nD τ sig) → Buf (Elt Ideal) ℓ)

/-- The projected rows. -/
def pV (c : Dev nD) (r : Fin 4096) (k : Fin 5632) : EReal := m ((c : Thread nD τ).loc main_arg0) (Idealize.ShloMosaic.ix2 r k)

/-- The cotangent of the attention's output. -/
def oV (c : Dev nD) (r : Fin 4096) (k : Fin 1024) : EReal := m ((c : Thread nD τ).loc main_arg5) (Idealize.ShloMosaic.ix2 r k)

/-- The queries' gain. -/
def gqV (c : Dev nD) (d : Fin 64) : EReal := m ((c : Thread nD τ).loc main_arg1) (Idealize.ShloMosaic.ix1 d)

/-- The keys' gain. -/
def gkV (c : Dev nD) (d : Fin 64) : EReal := m ((c : Thread nD τ).loc main_arg2) (Idealize.ShloMosaic.ix1 d)

/-- The probabilities the region is entered with. -/
def PV (c : Dev nD) (n : Fin 32) (h : Fin 4) (s : Fin 512) (j : Fin 256) : EReal := V m c main_v92 (Idealize.ShloMosaic.ix4 n h s j)

/-- The sinks' probabilities the region is entered with. -/
def SV (c : Dev nD) (n : Fin 32) (h : Fin 4) (s : Fin 512) : EReal := V m c main_v93 (Idealize.ShloMosaic.ix4 n h s 0)

/-- The block `u` of the point `t`. -/
def blkN (t : Fin cfg0.N) (u : Fin 4) : Fin 32 :=
  ⟨4 * t.val + u.val, by have : t.val < 8 := t.isLt; omega⟩

/-- Every window's block index at every point. -/
theorem idx : ∀ t : Fin cfg0.N, win0_0.index t = ![t.val, 2] ∧ win0_1.index t = ![4 * t.val - 1, 12] ∧ win0_2.index t = ![t.val, 12]
    ∧ win0_3.index t = ![4 * t.val - 1, 13] ∧ win0_4.index t = ![t.val, 13] ∧ win0_5.index t = ![t.val, 0]
    ∧ win0_6.index t = ![0, 0] ∧ win0_7.index t = ![0, 0] ∧ win0_8.index t = ![t.val, 0, 0, 0] ∧ win0_9.index t = ![t.val, 0, 0, 0]
    ∧ win0_10.index t = ![t.val, 0] ∧ win0_11.index t = ![t.val, 0, 0, 0] ∧ t.val < 8 :=
  (by decide +kernel : ∀ t : Fin grid0.N, _)

/-- The queries' window. -/
theorem at0 (c : Dev nD) (t : Fin cfg0.N) (a : Fin 512) (b : Fin 1024) :
    (X0_0 m c t (Idealize.ShloMosaic.ix2 a b) : EReal) = pV m c ⟨512 * t.val + a.val, by have := (idx t).2.2.2.2.2.2.2.2.2.2.2.2; omega⟩ ⟨2048 + b.val, by omega⟩ := by
  unfold X0_0 Pipeline.Window.fill
  rw [dif_pos (moved0_0 t _)]
  unfold pV
  blk_point [iblk, V, idx t]

theorem at12 (c : Dev nD) (t : Fin cfg0.N) (u h : Fin 4) : kk (iblk m c 1 t) (iblk m c 2 t) u h = keyW (pV m c) (blkN t u) h := by
  have ht := (idx t).2.2.2.2.2.2.2.2.2.2.2.2
  funext j d
  unfold kk keyW wrow blkN pV
  by_cases i : 128 * u.val + j.val < 128
  · rw [dif_pos i]
    by_cases i2 : 128 * (4 * t.val + u.val) + j.val < 128
    · simp only [if_pos i2]
      blk_point [iblk, V, idx t]
    · simp only [if_neg i2]
      blk_point [iblk, V, idx t]
  · rw [dif_neg i]
    have i2 : ¬ 128 * (4 * t.val + u.val) + j.val < 128 := by omega
    simp only [if_neg i2]
    blk_point [iblk, V, idx t]

theorem at34 (c : Dev nD) (t : Fin cfg0.N) (u h : Fin 4) : kk (iblk m c 3 t) (iblk m c 4 t) u h = valW (pV m c) (blkN t u) h := by
  have ht := (idx t).2.2.2.2.2.2.2.2.2.2.2.2
  funext j d
  unfold kk valW wrow blkN pV
  by_cases i : 128 * u.val + j.val < 128
  · rw [dif_pos i]
    by_cases i2 : 128 * (4 * t.val + u.val) + j.val < 128
    · simp only [if_pos i2]
      blk_point [iblk, V, idx t]
    · simp only [if_neg i2]
      blk_point [iblk, V, idx t]
  · rw [dif_neg i]
    have i2 : ¬ 128 * (4 * t.val + u.val) + j.val < 128 := by omega
    simp only [if_neg i2]
    blk_point [iblk, V, idx t]

theorem at00 (c : Dev nD) (t : Fin cfg0.N) (u h : Fin 4) : dd (X0_0 m c t) u h = qry (pV m c) (blkN t u) h := by
  have ht := (idx t).2.2.2.2.2.2.2.2.2.2.2.2
  funext s d
  unfold dd qry
  rw [at0]
  exact congrArg₂ (pV m c) (Fin.ext (by show 512 * t.val + (128 * u.val + s.val % 128) = 128 * (4 * t.val + u.val) + s.val % 128; omega)) rfl

theorem at5 (c : Dev nD) (t : Fin cfg0.N) (u h : Fin 4) : dd (iblk m c 5 t) u h = cotan (oV m c) (blkN t u) h := by
  have ht := (idx t).2.2.2.2.2.2.2.2.2.2.2.2
  funext s d
  unfold dd cotan oV blkN
  blk_point [iblk, V, idx t]

/-- The gain the region is entered with. -/
theorem entry6 (c : Dev nD) (d : Fin 64) : (V m c main_v89 (Idealize.ShloMosaic.ix2 0 d) : EReal) = gqV m c d := by
  unfold gqV
  simp only [V, List.flatten_cons, List.flatten_nil, List.append_nil, hostOps0, hostOps0_1, hostOps0_2, List.cons_append, List.nil_append]
  after_results_simp
  pointwise

theorem at6 (c : Dev nD) (t : Fin cfg0.N) : gg (iblk m c 6 t) = gqV m c := by
  funext d
  unfold gg
  simp only [iblk]
  blk_simp
  refine Eq.trans (b := V m c main_v89 (Idealize.ShloMosaic.ix2 0 d)) ?_ (entry6 m c d)
  blk_ext [idx t]

/-- The gain the region is entered with. -/
theorem entry7 (c : Dev nD) (d : Fin 64) : (V m c main_v90 (Idealize.ShloMosaic.ix2 0 d) : EReal) = gkV m c d := by
  unfold gkV
  simp only [V, List.flatten_cons, List.flatten_nil, List.append_nil, hostOps0, hostOps0_1, hostOps0_2, List.cons_append, List.nil_append]
  after_results_simp
  pointwise

theorem at7 (c : Dev nD) (t : Fin cfg0.N) : gg (iblk m c 7 t) = gkV m c := by
  funext d
  unfold gg
  simp only [iblk]
  blk_simp
  refine Eq.trans (b := V m c main_v90 (Idealize.ShloMosaic.ix2 0 d)) ?_ (entry7 m c d)
  blk_ext [idx t]

theorem at8 (c : Dev nD) (t : Fin cfg0.N) (u h : Fin 4) : pr (iblk m c 8 t) u h = PV m c (blkN t u) h := by
  have ht := (idx t).2.2.2.2.2.2.2.2.2.2.2.2
  funext s j
  unfold pr PV blkN
  simp only [iblk]
  blk_simp
  blk_ext [idx t]

theorem at9 (c : Dev nD) (t : Fin cfg0.N) (u h : Fin 4) : ps (iblk m c 9 t) u h = SV m c (blkN t u) h := by
  have ht := (idx t).2.2.2.2.2.2.2.2.2.2.2.2
  funext s
  unfold ps SV blkN
  simp only [iblk]
  blk_simp
  blk_ext [idx t]

end Cert.AttnIdeal.Array
-- ==== Proof.Attn.Kernel.lean ====
module

public import proofs.«01_k».proof.Proof.Gen.AttnIdeal.Value
public import proofs.«01_k».proof.Proof.Attn.Windows
public import Idealize.ShloMosaic.Lib.Pipeline.ValueKit
public import Idealize.ShloMosaic.Lib.Pointwise
public import Idealize.ShloMosaic.Lib.Claim

@[expose] public section

set_option maxHeartbeats 2000000
set_option maxRecDepth 16384

noncomputable section

open Idealize.ShloMosaic Idealize.ShloMosaic.TcCoe Idealize.SL.Sem Idealize.ShloMosaic.ValueIdx
open Idealize.ShloMosaic.Pipeline (Dat)

namespace Cert.AttnIdeal.Array

open Cert.AttnIdeal Cert.AttnIdeal.Gen Cert.AttnFormula Cert.AttnIdeal.Block Cert.AttnIdeal.Parts Cert.AttnIdeal.Rows Cert.AttnIdeal.Point

variable (m : (ℓ : Loc nD τ sig) → Buf (Elt Ideal) ℓ)

/-- The queries' gradient after the run. -/
def resQ (c : Dev nD) : FVec Ideal S4096x1024 .bf16 := fun i => arrQ (pV m c) (oV m c) (PV m c) (gqV m c) (gkV m c) (i 0) (i 1)

/-- The windows' gradients after the run. -/
def resKV (c : Dev nD) : FVec Ideal S32x2x128x512 .bf16 := fun i => arrKV (pV m c) (oV m c) (PV m c) (gqV m c) (gkV m c) (i 0) (i 1) (i 2) (i 3)

/-- The scores' gradient after the run. -/
def resB (c : Dev nD) : FVec Ideal S4x512x256 .f32 := fun i => arrB (pV m c) (oV m c) (PV m c) (i 0) (i 1) (i 2)

/-- The sinks' gradient after the run. -/
def resN (c : Dev nD) : FVec Ideal S4x4x1 .f32 := fun i => arrN (pV m c) (oV m c) (PV m c) (SV m c) (i 0) (i 1)

/-- The queries' gain's gradient after the run. -/
def resGQ (c : Dev nD) : FVec Ideal S1x64 .f32 := fun i => arrGQ (pV m c) (oV m c) (PV m c) (gkV m c) (i 1)

/-- The keys' gain's gradient after the run. -/
def resGK (c : Dev nD) : FVec Ideal S1x64 .f32 := fun i => arrGK (pV m c) (oV m c) (PV m c) (gqV m c) (i 1)

/-- A part of the queries' gradient at a point. -/
theorem blockQ (c : Dev nD) (t : Fin cfg0.N) (u h : Fin 4) (a : Fin 128) (b : Fin 256) :
    (outQ (X0_0 m c t) (iblk m c 1 t) (iblk m c 2 t) (iblk m c 3 t) (iblk m c 4 t) (iblk m c 5 t) (iblk m c 6 t) (iblk m c 7 t) (iblk m c 8 t) u h (Idealize.ShloMosaic.ix2 a b) : EReal)
      = blkQ (pV m c) (oV m c) (PV m c) (gqV m c) (gkV m c) (Array.blkN t u) h ⟨b.val / 64 * 128 + a.val, by omega⟩ ⟨b.val % 64, by omega⟩ := by
  rw [outQ_at, at12, at34, at00, at5, at6, at7, at8]
  rfl

/-- A part of the keys' gradient at a point. -/
theorem blockK (c : Dev nD) (t : Fin cfg0.N) (u : Fin 4) (r : Fin 2) (a : Fin 128) (b : Fin 256) :
    (outK (X0_0 m c t) (iblk m c 1 t) (iblk m c 2 t) (iblk m c 3 t) (iblk m c 4 t) (iblk m c 5 t) (iblk m c 6 t) (iblk m c 7 t) (iblk m c 8 t) u r (Idealize.ShloMosaic.ix4 0 0 a b) : EReal)
      = blkK (pV m c) (oV m c) (PV m c) (gqV m c) (gkV m c) (Array.blkN t u) ⟨b.val / 64, by omega⟩ ⟨128 * r.val + a.val, by omega⟩ ⟨b.val % 64, by omega⟩ := by
  rw [outK_at, at12, at34, at00, at5, at6, at7, at8]
  rfl

/-- A part of the values' gradient at a point. -/
theorem blockV (c : Dev nD) (t : Fin cfg0.N) (u : Fin 4) (r : Fin 2) (a : Fin 128) (b : Fin 256) :
    (outV (iblk m c 5 t) (iblk m c 8 t) u r (Idealize.ShloMosaic.ix4 0 0 a b) : EReal)
      = blkV (oV m c) (PV m c) (Array.blkN t u) ⟨b.val / 64, by omega⟩ ⟨128 * r.val + a.val, by omega⟩ ⟨b.val % 64, by omega⟩ := by
  rw [outV_at, at5, at8]
  rfl

/-- The array of the queries' gradient after the run. -/
theorem finalQ (c : Dev nD) : (dats m 0 c).arrAt 10 (cfgs 0).N = resQ m c := by
  refine (dats m 0 c).arrAt_eq_of_covers 10 _ (by decide +kernel) fun t _ y => ?_
  blk_simp
  rw [after0_10]
  have ht := (idx t).2.2.2.2.2.2.2.2.2.2.2.2
  have hi := (idx t).2.2.2.2.2.2.2.2.2.2.1
  refine pointQ m c t y (fun y => resQ m c (((cfg0.win 10).blk t).view.emb y)) fun u h x y h0 h1 => ?_
  rw [Idealize.ShloMosaic.ValueIdx.eq_ix2 (n0 := 128) (n1 := 256) x]
  refine (blockQ m c t u h (x 0) (x 1)).trans ?_
  have hx0 : (x 0).val < 128 := (x 0).isLt
  have hx1 : (x 1).val < 256 := (x 1).isLt
  have e0 : ((((cfg0.win 10).blk t).view.emb y) 0).val = t.val * 512 + (y 0).val := by blk_point [hi]
  have e1 : ((((cfg0.win 10).blk t).view.emb y) 1).val = (y 1).val := by blk_point [hi]
  unfold resQ arrQ
  congr 1
  · exact Fin.ext (by show 4 * t.val + u.val = _ / 128; rw [e0, h0]; omega)
  · exact Fin.ext (by show h.val = _ / 256; rw [e1, h1]; omega)
  · exact Fin.ext (by show (x 1).val / 64 * 128 + (x 0).val = _ % 256 / 64 * 128 + _ % 128; rw [e0, e1, h0, h1]; omega)
  · exact Fin.ext (by show (x 1).val % 64 = _ % 64; rw [e1, h1]; omega)

/-- The array of the windows' gradients after the run. -/
theorem finalKV (c : Dev nD) : (dats m 0 c).arrAt 11 (cfgs 0).N = resKV m c := by
  refine (dats m 0 c).arrAt_eq_of_covers 11 _ (by decide +kernel) fun t _ y => ?_
  blk_simp
  rw [after0_11]
  have ht := (idx t).2.2.2.2.2.2.2.2.2.2.2.2
  have hi := (idx t).2.2.2.2.2.2.2.2.2.2.2.1
  have e0 : ∀ y : S4x2x128x512.Idx, ((((cfg0.win 11).blk t).view.emb y) 0).val = t.val * 4 + (y 0).val := fun y => by blk_point [hi]
  have e1 : ∀ y : S4x2x128x512.Idx, ((((cfg0.win 11).blk t).view.emb y) 1).val = (y 1).val := fun y => by blk_point [hi]
  have e2 : ∀ y : S4x2x128x512.Idx, ((((cfg0.win 11).blk t).view.emb y) 2).val = (y 2).val := fun y => by blk_point [hi]
  have e3 : ∀ y : S4x2x128x512.Idx, ((((cfg0.win 11).blk t).view.emb y) 3).val = (y 3).val := fun y => by blk_point [hi]
  refine pointKV m c t y (fun y => resKV m c (((cfg0.win 11).blk t).view.emb y)) (fun u r x y h0 h1 h2 h3 => ?_) (fun u r x y h0 h1 h2 h3 => ?_)
  all_goals
    have hx0 : (x 0).val < 1 := (x 0).isLt
    have hx1 : (x 1).val < 1 := (x 1).isLt
    have hx2 : (x 2).val < 128 := (x 2).isLt
    have hx3 : (x 3).val < 256 := (x 3).isLt
    rw [Idealize.ShloMosaic.ValueIdx.eq_ix4 (n0 := 1) (n1 := 1) (n2 := 128) (n3 := 256) x,
      show x 0 = (0 : Fin 1) from Fin.ext (by show (x 0).val = 0; omega), show x 1 = (0 : Fin 1) from Fin.ext (by show (x 1).val = 0; omega)]
    unfold resKV arrKV
    simp only [e3, h3]
  · refine (blockK m c t u r (x 2) (x 3)).trans ?_
    rw [if_pos (by omega)]
    congr 1
    · exact Fin.ext (by show 4 * t.val + u.val = _; rw [e0, h0]; omega)
    · exact Fin.ext (by show (x 3).val / 64 = (0 + (x 3).val) % 256 / 64; omega)
    · exact Fin.ext (by show 128 * r.val + (x 2).val = 128 * _ + _; rw [e1, e2, h1, h2]; omega)
    · exact Fin.ext (by show (x 3).val % 64 = (0 + (x 3).val) % 64; omega)
  · refine (blockV m c t u r (x 2) (x 3)).trans ?_
    rw [if_neg (by omega)]
    congr 1
    · exact Fin.ext (by show 4 * t.val + u.val = _; rw [e0, h0]; omega)
    · exact Fin.ext (by show (x 3).val / 64 = (256 + (x 3).val) % 256 / 64; omega)
    · exact Fin.ext (by show 128 * r.val + (x 2).val = 128 * _ + _; rw [e1, e2, h1, h2]; omega)
    · exact Fin.ext (by show (x 3).val % 64 = (256 + (x 3).val) % 64; omega)

/-- The table of scores a point starts with and adds to. -/
theorem stepB (c : Dev nD) (t : Fin cfg0.N) (o : Vec Ideal S4x512x256 .f32) (h : Fin 4) (x : S1x512x256.Idx) (y : S4x512x256.Idx)
    (h0 : (y 0).val = h.val + (x 0).val) (h1 : (y 1).val = 0 + (x 1).val) (h2 : (y 2).val = 0 + (x 2).val) :
    (accS (iblk m c 3 t) (iblk m c 4 t) (iblk m c 5 t) (iblk m c 8 t) o h x : EReal)
      = o y + ∑ u : Fin 4, blkS (pV m c) (oV m c) (PV m c) (Array.blkN t u) (y 0) (y 1) (y 2) := by
  have hx0 : (x 0).val < 1 := (x 0).isLt
  have hy : y = Idealize.ShloMosaic.ix3 h (x 1) (x 2) := by
    rw [Idealize.ShloMosaic.ValueIdx.eq_ix3 (n0 := 4) (n1 := 512) (n2 := 256) y]
    rw [show y 0 = h from Fin.ext (by omega), show y 1 = x 1 from Fin.ext (by omega), show y 2 = x 2 from Fin.ext (by omega)]; rfl
  rw [hy, Idealize.ShloMosaic.ValueIdx.eq_ix3 (n0 := 1) (n1 := 512) (n2 := 256) x, show x 0 = (0 : Fin 1) from Fin.ext (by show (x 0).val = 0; omega)]
  refine (accS_at _ _ _ _ o h (x 1) (x 2)).trans ?_
  simp only [at34, at5, at8]
  rfl

/-- The scores' gradient is what the points added. -/
theorem finalB (c : Dev nD) : (dats m 0 c).arrAt 12 (cfgs 0).N = resB m c := by
  refine (dats m 0 c).arrAt_eq_of_after_last 12 t0_7 (by decide +kernel) _ fun j => ?_
  blk_simp
  rw [after0_12, Pipeline.eq_sum_fin_of_reset_step_apply_last (fun n h => (outsAt0 m c n h).2.2.1) 8 (fun _ => 0)
      (fun t j => ∑ u : Fin 4, blkS (pV m c) (oV m c) (PV m c) (Array.blkN t u) (j 0) (j 1) (j 2))
      (fun t h j => by
        have ht := (idx t).2.2.2.2.2.2.2.2.2.2.2.2
        refine pointB_first m c t (by omega) j (fun y => (0 : EReal) + ∑ u : Fin 4, blkS (pV m c) (oV m c) (PV m c) (Array.blkN t u) (y 0) (y 1) (y 2)) fun h x y h0 h1 h2 => ?_
        rw [stepB m c t _ h x y h0 h1 h2]
        congr 1
        pointwise [k0_pay7])
      (fun t h j => by
        have ht := (idx t).2.2.2.2.2.2.2.2.2.2.2.2
        exact pointB_next m c t (by omega) j (fun y => (outsAt0 m c (t.val - 1) (Nat.lt_of_le_of_lt (Nat.sub_le _ _) t.isLt)).2.2.1 y
          + ∑ u : Fin 4, blkS (pV m c) (oV m c) (PV m c) (Array.blkN t u) (y 0) (y 1) (y 2)) fun h x y h0 h1 h2 => stepB m c t _ h x y h0 h1 h2)
      (le_of_eq N_0) t0_7 rfl j, zero_add]
  exact sum_blocks fun n => blkS (pV m c) (oV m c) (PV m c) n (j 0) (j 1) (j 2)

/-- The table of sinks a point starts with and adds to. -/
theorem stepN (c : Dev nD) (t : Fin cfg0.N) (o : Vec Ideal S4x4x1 .f32) (h : Fin 4) (x : S1x4x1.Idx) (y : S4x4x1.Idx)
    (h0 : (y 0).val = h.val + (x 0).val) (h1 : (y 1).val = 0 + (x 1).val) (h2 : (y 2).val = 0 + (x 2).val) :
    (accN (iblk m c 3 t) (iblk m c 4 t) (iblk m c 5 t) (iblk m c 8 t) (iblk m c 9 t) o h x : EReal)
      = o y + ∑ u : Fin 4, AttnFormula.blkN (pV m c) (oV m c) (PV m c) (SV m c) (Array.blkN t u) (y 0) (y 1) := by
  have hx0 : (x 0).val < 1 := (x 0).isLt
  have hx2 : (x 2).val < 1 := (x 2).isLt
  have hy : y = Idealize.ShloMosaic.ix3 h (x 1) 0 := by
    rw [Idealize.ShloMosaic.ValueIdx.eq_ix3 (n0 := 4) (n1 := 4) (n2 := 1) y]
    rw [show y 0 = h from Fin.ext (by omega), show y 1 = x 1 from Fin.ext (by omega), show y 2 = (0 : Fin 1) from Fin.ext (by show (y 2).val = 0; omega)]; rfl
  rw [hy, Idealize.ShloMosaic.ValueIdx.eq_ix3 (n0 := 1) (n1 := 4) (n2 := 1) x, show x 0 = (0 : Fin 1) from Fin.ext (by show (x 0).val = 0; omega),
    show x 2 = (0 : Fin 1) from Fin.ext (by show (x 2).val = 0; omega)]
  refine (accN_at _ _ _ _ _ o h (x 1)).trans ?_
  simp only [at34, at5, at8, at9]
  rfl

/-- The sinks' gradient is what the points added. -/
theorem finalN (c : Dev nD) : (dats m 0 c).arrAt 13 (cfgs 0).N = resN m c := by
  refine (dats m 0 c).arrAt_eq_of_after_last 13 t0_7 (by decide +kernel) _ fun j => ?_
  blk_simp
  rw [after0_13, Pipeline.eq_sum_fin_of_reset_step_apply_last (fun n h => (outsAt0 m c n h).2.2.2.1) 8 (fun _ => 0)
      (fun t j => ∑ u : Fin 4, AttnFormula.blkN (pV m c) (oV m c) (PV m c) (SV m c) (Array.blkN t u) (j 0) (j 1))
      (fun t h j => by
        have ht := (idx t).2.2.2.2.2.2.2.2.2.2.2.2
        refine pointN_first m c t (by omega) j (fun y => (0 : EReal) + ∑ u : Fin 4, AttnFormula.blkN (pV m c) (oV m c) (PV m c) (SV m c) (Array.blkN t u) (y 0) (y 1)) fun h x y h0 h1 h2 => ?_
        rw [stepN m c t _ h x y h0 h1 h2]
        congr 1
        pointwise [k0_pay8])
      (fun t h j => by
        have ht := (idx t).2.2.2.2.2.2.2.2.2.2.2.2
        exact pointN_next m c t (by omega) j (fun y => (outsAt0 m c (t.val - 1) (Nat.lt_of_le_of_lt (Nat.sub_le _ _) t.isLt)).2.2.2.1 y
          + ∑ u : Fin 4, AttnFormula.blkN (pV m c) (oV m c) (PV m c) (SV m c) (Array.blkN t u) (y 0) (y 1)) fun h x y h0 h1 h2 => stepN m c t _ h x y h0 h1 h2)
      (le_of_eq N_0) t0_7 rfl j, zero_add]
  exact sum_blocks fun n => AttnFormula.blkN (pV m c) (oV m c) (PV m c) (SV m c) n (j 0) (j 1)

/-- A window's part of the queries' gain's gradient at a point. -/
theorem blockGQ (c : Dev nD) (t : Fin cfg0.N) (u h : Fin 4) (d : Fin 64) :
    (gGQ (X0_0 m c t) (iblk m c 1 t) (iblk m c 2 t) (iblk m c 3 t) (iblk m c 4 t) (iblk m c 5 t) (iblk m c 7 t) (iblk m c 8 t) u h (Idealize.ShloMosaic.ix2 0 d) : EReal) = blkGQ (pV m c) (oV m c) (PV m c) (gkV m c) (Array.blkN t u) h d := by
  rw [gGQ_at, at12, at34, at00, at5, at7, at8]
  rfl

/-- The queries' gain's gradient a point starts with and adds to. -/
theorem stepGQ (c : Dev nD) (t : Fin cfg0.N) (o : Vec Ideal S1x64 .f32) (y : S1x64.Idx) :
    (accG o (gGQ (X0_0 m c t) (iblk m c 1 t) (iblk m c 2 t) (iblk m c 3 t) (iblk m c 4 t) (iblk m c 5 t) (iblk m c 7 t) (iblk m c 8 t)) y : EReal) = o y + ∑ h : Fin 4, ∑ u : Fin 4, blkGQ (pV m c) (oV m c) (PV m c) (gkV m c) (Array.blkN t u) h (y 1) := by
  have hy : y = Idealize.ShloMosaic.ix2 0 (y 1) := by
    rw [Idealize.ShloMosaic.ValueIdx.eq_ix2 (n0 := 1) (n1 := 64) y]
    rw [show y 0 = (0 : Fin 1) from Fin.ext (by have : (y 0).val < 1 := (y 0).isLt; show (y 0).val = 0; omega)]
    rfl
  rw [hy]
  refine (accG_at o (gGQ (X0_0 m c t) (iblk m c 1 t) (iblk m c 2 t) (iblk m c 3 t) (iblk m c 4 t) (iblk m c 5 t) (iblk m c 7 t) (iblk m c 8 t)) (y 1)).trans (congrArg (_ + ·) (Finset.sum_congr rfl fun h _ => Finset.sum_congr rfl fun u _ => blockGQ m c t u h (y 1)))

/-- The queries' gain's gradient is what the points added. -/
theorem finalGQ (c : Dev nD) : (dats m 0 c).arrAt 14 (cfgs 0).N = resGQ m c := by
  refine (dats m 0 c).arrAt_eq_of_after_last 14 t0_7 (by decide +kernel) _ fun j => ?_
  blk_simp
  rw [after0_14, Pipeline.eq_sum_fin_of_reset_step_apply_last (fun n h => (outsAt0 m c n h).2.2.2.2.1) 8 (fun _ => 0)
      (fun t j => ∑ h : Fin 4, ∑ u : Fin 4, blkGQ (pV m c) (oV m c) (PV m c) (gkV m c) (Array.blkN t u) h (j 1))
      (fun t h j => by
        have ht := (idx t).2.2.2.2.2.2.2.2.2.2.2.2
        rw [pointGQ_first m c t (by omega) j, stepGQ m c t]
        congr 1
        pointwise [k0_pay9])
      (fun t h j => by
        have ht := (idx t).2.2.2.2.2.2.2.2.2.2.2.2
        rw [pointGQ_next m c t (by omega) j]
        exact stepGQ m c t _ j)
      (le_of_eq N_0) t0_7 rfl j, zero_add]
  exact sum_blocks_groups fun h n => blkGQ (pV m c) (oV m c) (PV m c) (gkV m c) n h (j 1)

/-- A window's part of the keys' gain's gradient at a point. -/
theorem blockGK (c : Dev nD) (t : Fin cfg0.N) (u h : Fin 4) (d : Fin 64) :
    (gGK (X0_0 m c t) (iblk m c 1 t) (iblk m c 2 t) (iblk m c 3 t) (iblk m c 4 t) (iblk m c 5 t) (iblk m c 6 t) (iblk m c 8 t) u h (Idealize.ShloMosaic.ix2 0 d) : EReal) = blkGK (pV m c) (oV m c) (PV m c) (gqV m c) (Array.blkN t u) h d := by
  rw [gGK_at, at12, at34, at00, at5, at6, at8]
  rfl

/-- The keys' gain's gradient a point starts with and adds to. -/
theorem stepGK (c : Dev nD) (t : Fin cfg0.N) (o : Vec Ideal S1x64 .f32) (y : S1x64.Idx) :
    (accG o (gGK (X0_0 m c t) (iblk m c 1 t) (iblk m c 2 t) (iblk m c 3 t) (iblk m c 4 t) (iblk m c 5 t) (iblk m c 6 t) (iblk m c 8 t)) y : EReal) = o y + ∑ h : Fin 4, ∑ u : Fin 4, blkGK (pV m c) (oV m c) (PV m c) (gqV m c) (Array.blkN t u) h (y 1) := by
  have hy : y = Idealize.ShloMosaic.ix2 0 (y 1) := by
    rw [Idealize.ShloMosaic.ValueIdx.eq_ix2 (n0 := 1) (n1 := 64) y]
    rw [show y 0 = (0 : Fin 1) from Fin.ext (by have : (y 0).val < 1 := (y 0).isLt; show (y 0).val = 0; omega)]
    rfl
  rw [hy]
  refine (accG_at o (gGK (X0_0 m c t) (iblk m c 1 t) (iblk m c 2 t) (iblk m c 3 t) (iblk m c 4 t) (iblk m c 5 t) (iblk m c 6 t) (iblk m c 8 t)) (y 1)).trans (congrArg (_ + ·) (Finset.sum_congr rfl fun h _ => Finset.sum_congr rfl fun u _ => blockGK m c t u h (y 1)))

/-- The keys' gain's gradient is what the points added. -/
theorem finalGK (c : Dev nD) : (dats m 0 c).arrAt 15 (cfgs 0).N = resGK m c := by
  refine (dats m 0 c).arrAt_eq_of_after_last 15 t0_7 (by decide +kernel) _ fun j => ?_
  blk_simp
  rw [after0_15, Pipeline.eq_sum_fin_of_reset_step_apply_last (fun n h => (outsAt0 m c n h).2.2.2.2.2) 8 (fun _ => 0)
      (fun t j => ∑ h : Fin 4, ∑ u : Fin 4, blkGK (pV m c) (oV m c) (PV m c) (gqV m c) (Array.blkN t u) h (j 1))
      (fun t h j => by
        have ht := (idx t).2.2.2.2.2.2.2.2.2.2.2.2
        rw [pointGK_first m c t (by omega) j, stepGK m c t]
        congr 1
        pointwise [k0_pay9])
      (fun t h j => by
        have ht := (idx t).2.2.2.2.2.2.2.2.2.2.2.2
        rw [pointGK_next m c t (by omega) j]
        exact stepGK m c t _ j)
      (le_of_eq N_0) t0_7 rfl j, zero_add]
  exact sum_blocks_groups fun h n => blkGK (pV m c) (oV m c) (PV m c) (gqV m c) n h (j 1)

end Cert.AttnIdeal.Array
-- ==== Proof.Attn.Meet.lean ====
module

public import proofs.«01_k».proof.Proof.Attn.RefResults
public import proofs.«01_k».proof.Proof.Attn.Probs
public import proofs.«01_k».proof.Proof.Attn.Kernel

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnMeet

open Cert.AttnIdeal Cert.AttnIdeal.Gen Cert.AttnIdeal.Array Cert.AttnIdeal.Probs Cert.AttnFormula Cert.AttnReal Cert.Lift
open Cert.AttnRef.Rows Cert.AttnRef.Probs Cert.AttnRef.Grad Cert.AttnRef.Results

/-- The keys of the window as the call reads them. -/
def keyO (p : Fin 4096 → Fin 5632 → ℝ) (n : Fin 32) (h : Fin 4) (j : Fin 256) (d : Fin 64) : ℝ := p (wrow n j) ⟨3072 + (64 * h.val + d.val), by omega⟩

/-- The values of the window as the call reads them. -/
def valO (p : Fin 4096 → Fin 5632 → ℝ) (n : Fin 32) (h : Fin 4) (j : Fin 256) (d : Fin 64) : ℝ := p (wrow n j) ⟨3328 + (64 * h.val + d.val), by omega⟩

variable (p : Fin 4096 → Fin 5632 → ℝ) (gq gk : Fin 64 → ℝ) (sk : Fin 16 → ℝ) (bs : Fin 16 → Fin 128 → Fin 256 → ℝ) (o : Fin 4096 → Fin 1024 → ℝ)

/-- Off the entries before the first token the two windows are one. -/
theorem win_off (b : ℕ) (hb : b + 256 ≤ 5632) (n : Fin 32) (h : Fin 4) (j : Fin 256) (hz : ¬ (n.val = 0 ∧ j.val < 128)) (d : Fin 64) :
    p (wrow n j) ⟨b + (64 * h.val + d.val), by omega⟩ = winR p b hb n h j d := by
  unfold winR wrow
  rw [dif_neg hz]
  have hw : (⟨if 128 * n.val + j.val < 128 then j.val else 128 * n.val + j.val - 128, by split <;> omega⟩ : Fin 4096)
      = ⟨128 * n.val + j.val - 128, by omega⟩ := by
    apply Fin.ext
    show (if 128 * n.val + j.val < 128 then j.val else 128 * n.val + j.val - 128) = 128 * n.val + j.val - 128
    rw [if_neg (by omega)]
  rw [hw]

theorem off (n : Fin 32) (h : Fin 4) (j : Fin 256) (hz : n.val = 0 ∧ j.val < 128) (s : Fin 512) : probR p gq gk sk bs n h s j = 0 := by
  rw [← row_of s]
  exact prob_zero p gq gk sk bs n h _ _ j (not_sees hz.1 hz.2)

theorem key_off (n : Fin 32) (h : Fin 4) (j : Fin 256) : (∀ s, probR p gq gk sk bs n h s j = 0) ∨ keyO p n h j = keyR p n h j := by
  by_cases hz : n.val = 0 ∧ j.val < 128
  · exact Or.inl (off p gq gk sk bs n h j hz)
  · exact Or.inr (funext fun d => win_off p 3072 (by omega) n h j hz d)

theorem val_off (n : Fin 32) (h : Fin 4) (j : Fin 256) : (∀ s, probR p gq gk sk bs n h s j = 0) ∨ valO p n h j = valR p n h j := by
  by_cases hz : n.val = 0 ∧ j.val < 128
  · exact Or.inl (off p gq gk sk bs n h j hz)
  · exact Or.inr (funext fun d => win_off p 3328 (by omega) n h j hz d)

/-! The blocks' gradients over real arrays. -/

theorem key_up (n : Fin 32) (h : Fin 4) : keyW (up2 p) n h = up2 (keyO p n h) := rfl
theorem val_up (n : Fin 32) (h : Fin 4) : valW (up2 p) n h = up2 (valO p n h) := rfl
theorem qry_up (n : Fin 32) (h : Fin 4) : qry (up2 p) n h = up2 (qryR p n h) := rfl
theorem cot_up (n : Fin 32) (h : Fin 4) : cotan (up2 o) n h = up2 (cotR o n h) := rfl

variable (P : Fin 32 → Fin 4 → Fin 512 → Fin 256 → EReal) (S : Fin 32 → Fin 4 → Fin 512 → EReal)
  (hP : ∀ n h, P n h = up2 (probR p gq gk sk bs n h)) (hS : ∀ n h, S n h = up1 (sinkProbR p gq gk sk bs n h))

include hP

theorem q_up (n : Fin 32) (h : Fin 4) (s : Fin 512) (d : Fin 64) : blkQ (up2 p) (up2 o) P (up1 gq) (up1 gk) n h s d
    = ((dQueryR (probR p gq gk sk bs n h) (cotR o n h) (qryR p n h) (keyR p n h) (valR p n h) gq gk s d : ℝ) : EReal) := by
  unfold blkQ
  rw [hP, key_up, val_up, qry_up, cot_up, dQuery_up, dQuery_off _ _ _ _ _ _ (val_off p gq gk sk bs n h) (key_off p gq gk sk bs n h)]

theorem k_up (n : Fin 32) (h : Fin 4) (j : Fin 256) (d : Fin 64) : blkK (up2 p) (up2 o) P (up1 gq) (up1 gk) n h j d
    = ((dKeyR (probR p gq gk sk bs n h) (cotR o n h) (qryR p n h) (keyR p n h) (valR p n h) gq gk j d : ℝ) : EReal) := by
  unfold blkK
  rw [hP, key_up, val_up, qry_up, cot_up, dKey_up, dKey_off _ _ _ _ _ _ (val_off p gq gk sk bs n h) (key_off p gq gk sk bs n h)]

theorem v_up (n : Fin 32) (h : Fin 4) (j : Fin 256) (d : Fin 64) : blkV (up2 o) P n h j d
    = ((dValueR (probR p gq gk sk bs n h) (cotR o n h) j d : ℝ) : EReal) := by
  unfold blkV
  rw [hP, cot_up, dValue_up]

theorem s_up (n : Fin 32) (h : Fin 4) (s : Fin 512) (j : Fin 256) : blkS (up2 p) (up2 o) P n h s j
    = ((dScoreR (probR p gq gk sk bs n h) (cotR o n h) (valR p n h) s j : ℝ) : EReal) := by
  unfold blkS
  rw [hP, val_up, cot_up, dScore_up, dScore_off _ _ (val_off p gq gk sk bs n h)]
  rfl

theorem gq_up (n : Fin 32) (h : Fin 4) (d : Fin 64) : blkGQ (up2 p) (up2 o) P (up1 gk) n h d
    = ((dGainQR (probR p gq gk sk bs n h) (cotR o n h) (qryR p n h) (keyR p n h) (valR p n h) gk d : ℝ) : EReal) := by
  unfold blkGQ
  rw [hP, key_up, val_up, qry_up, cot_up, dGainQ_up, dGainQ_off _ _ _ _ _ (val_off p gq gk sk bs n h) (key_off p gq gk sk bs n h)]

theorem gk_up (n : Fin 32) (h : Fin 4) (d : Fin 64) : blkGK (up2 p) (up2 o) P (up1 gq) n h d
    = ((dGainKR (probR p gq gk sk bs n h) (cotR o n h) (qryR p n h) (keyR p n h) (valR p n h) gq d : ℝ) : EReal) := by
  unfold blkGK
  rw [hP, key_up, val_up, qry_up, cot_up, dGainK_up, dGainK_off _ _ _ _ _ (val_off p gq gk sk bs n h) (key_off p gq gk sk bs n h)]

include hS in
theorem n_up (n : Fin 32) (h g : Fin 4) : AttnFormula.blkN (up2 p) (up2 o) P S n h g
    = ((dSinkR (probR p gq gk sk bs n h) (cotR o n h) (valR p n h) (sinkProbR p gq gk sk bs n h) g : ℝ) : EReal) := by
  unfold AttnFormula.blkN
  rw [hP, hS, val_up, cot_up, dSink_up, dSink_off _ _ (val_off p gq gk sk bs n h)]

end Cert.AttnMeet
-- ==== Proof.Attn.MeetArrays.lean ====
module

public import proofs.«01_k».proof.Proof.Attn.Meet

@[expose] public section

set_option maxHeartbeats 2000000
set_option maxRecDepth 16384

noncomputable section

open Idealize.ShloMosaic Idealize.ShloMosaic.TcCoe Idealize.SL.Sem Idealize.ShloMosaic.ValueIdx
open Idealize.ShloMosaic.Pipeline (Dat)

namespace Cert.AttnMeet

open Cert.AttnIdeal Cert.AttnIdeal.Gen Cert.AttnIdeal.Array Cert.AttnIdeal.Probs Cert.AttnFormula Cert.AttnReal Cert.Lift
open Cert.AttnRef.Rows Cert.AttnRef.Probs Cert.AttnRef.Grad Cert.AttnRef.Results Cert.AttnRefIdeal.Read

variable (p : Fin 4096 → Fin 5632 → ℝ) (gq gk : Fin 64 → ℝ) (sk : Fin 16 → ℝ) (bs : Fin 16 → Fin 128 → Fin 256 → ℝ) (o : Fin 4096 → Fin 1024 → ℝ)

/-! Over real arguments each result of the call is the reference's. -/

variable (m : (ℓ : Loc nD τ sig) → Buf (Elt Ideal) ℓ) (c : Dev nD)
  (h0 : m ((c : Thread nD τ).loc main_arg0) = X0 p) (h1 : m ((c : Thread nD τ).loc main_arg1) = X1 gq)
  (h2 : m ((c : Thread nD τ).loc main_arg2) = X1 gk) (h3 : m ((c : Thread nD τ).loc main_arg3) = X3 sk)
  (h4 : m ((c : Thread nD τ).loc main_arg4) = X4 bs) (h5 : m ((c : Thread nD τ).loc main_arg5) = X5 o)

include h0 in
theorem pV_eq : pV m c = up2 p := by
  funext r k; unfold pV; rw [h0]; rfl

include h5 in
theorem oV_eq : oV m c = up2 o := by
  funext r k; unfold oV; rw [h5]; rfl

include h1 in
theorem gqV_eq : gqV m c = up1 gq := by
  funext d; unfold gqV; rw [h1]; rfl

include h2 in
theorem gkV_eq : gkV m c = up1 gk := by
  funext d; unfold gkV; rw [h2]; rfl

include h0 h1 h2 h3 h4

theorem PV_eq (n : Fin 32) (h : Fin 4) : PV m c n h = up2 (probR p gq gk sk bs n h) := by
  funext s j
  unfold PV
  rw [atP, h0, h1, h2, h3, h4, v124_at]
  rfl

theorem SV_eq (n : Fin 32) (h : Fin 4) : SV m c n h = up1 (sinkProbR p gq gk sk bs n h) := by
  funext s
  unfold SV
  rw [atS, h0, h1, h2, h3, h4, v128_at]
  rfl

include h5

theorem eqQ : resQ m c = val_main_v232 (F := Ideal) (X0 p) (X1 gq) (X1 gk) (X3 sk) (X4 bs) (X5 o) := by
  funext i
  rw [Idealize.ShloMosaic.eq_ix2 i]
  refine Eq.trans ?_ (v232_at p gq gk sk bs o (i 0) (i 1)).symm
  show arrQ (pV m c) (oV m c) (PV m c) (gqV m c) (gkV m c) (i 0) (i 1) = _
  rw [pV_eq p m c h0, oV_eq o m c h5, gqV_eq gq m c h1, gkV_eq gk m c h2]
  exact q_up p gq gk sk bs o _ (PV_eq p gq gk sk bs m c h0 h1 h2 h3 h4) _ _ _ _

theorem eqKV : resKV m c = val_main_v233 (F := Ideal) (X0 p) (X1 gq) (X1 gk) (X3 sk) (X4 bs) (X5 o) := by
  funext i
  obtain ⟨n, w, a, k, rfl⟩ : ∃ (n : Fin 32) (w : Fin 2) (a : Fin 128) (k : Fin 512), i = Idealize.ShloMosaic.ix4 n w a k := ⟨i 0, i 1, i 2, i 3, Idealize.ShloMosaic.eq_ix4 i⟩
  have hj : (⟨128 * w.val + a.val, by omega⟩ : Fin 256) = ⟨w.val * 128 + a.val, by omega⟩ := Fin.ext (by show 128 * w.val + a.val = w.val * 128 + a.val; omega)
  show arrKV (pV m c) (oV m c) (PV m c) (gqV m c) (gkV m c) n w a k = _
  rw [pV_eq p m c h0, oV_eq o m c h5, gqV_eq gq m c h1, gkV_eq gk m c h2]
  unfold arrKV
  rw [hj]
  by_cases hk : k.val < 256
  · rw [if_pos hk]
    exact (k_up p gq gk sk bs o _ (PV_eq p gq gk sk bs m c h0 h1 h2 h3 h4) _ _ _ _).trans (v233_key p gq gk sk bs o n w a k hk).symm
  · rw [if_neg hk]
    exact (v_up p gq gk sk bs o _ (PV_eq p gq gk sk bs m c h0 h1 h2 h3 h4) _ _ _ _).trans (v233_val p gq gk sk bs o n w a k hk).symm

theorem eqB : resB m c = val_main_v234 (F := Ideal) (X0 p) (X1 gq) (X1 gk) (X3 sk) (X4 bs) (X5 o) := by
  funext i
  obtain ⟨h, s, j, rfl⟩ : ∃ (h : Fin 4) (s : Fin 512) (j : Fin 256), i = Idealize.ShloMosaic.ix3 h s j := ⟨i 0, i 1, i 2, Idealize.ShloMosaic.eq_ix3 i⟩
  show arrB (pV m c) (oV m c) (PV m c) h s j = _
  rw [pV_eq p m c h0, oV_eq o m c h5]
  refine Eq.trans ?_ (v234_at p gq gk sk bs o h s j).symm
  unfold arrB
  simp only [s_up p gq gk sk bs o _ (PV_eq p gq gk sk bs m c h0 h1 h2 h3 h4), n_up p gq gk sk bs o _ _ (PV_eq p gq gk sk bs m c h0 h1 h2 h3 h4) (SV_eq p gq gk sk bs m c h0 h1 h2 h3 h4), coe_sum]

theorem eqN : resN m c = val_main_v235 (F := Ideal) (X0 p) (X1 gq) (X1 gk) (X3 sk) (X4 bs) (X5 o) := by
  funext i
  obtain ⟨h, g, e, rfl⟩ : ∃ (h g : Fin 4) (e : Fin 1), i = Idealize.ShloMosaic.ix3 h g e := ⟨i 0, i 1, i 2, Idealize.ShloMosaic.eq_ix3 i⟩
  show arrN (pV m c) (oV m c) (PV m c) (SV m c) h g = _
  rw [pV_eq p m c h0, oV_eq o m c h5]
  refine Eq.trans ?_ (v235_at p gq gk sk bs o h g e).symm
  unfold arrN
  simp only [s_up p gq gk sk bs o _ (PV_eq p gq gk sk bs m c h0 h1 h2 h3 h4), n_up p gq gk sk bs o _ _ (PV_eq p gq gk sk bs m c h0 h1 h2 h3 h4) (SV_eq p gq gk sk bs m c h0 h1 h2 h3 h4), coe_sum]

theorem eqGQ : resGQ m c = val_main_v236 (F := Ideal) (X0 p) (X1 gq) (X1 gk) (X3 sk) (X4 bs) (X5 o) := by
  funext i
  obtain ⟨u, d, rfl⟩ : ∃ (u : Fin 1) (d : Fin 64), i = Idealize.ShloMosaic.ix2 u d := ⟨i 0, i 1, Idealize.ShloMosaic.eq_ix2 i⟩
  show arrGQ (pV m c) (oV m c) (PV m c) (gkV m c) d = _
  rw [pV_eq p m c h0, oV_eq o m c h5, gkV_eq gk m c h2]
  refine Eq.trans ?_ (v236_at p gq gk sk bs o u d).symm
  unfold arrGQ
  simp only [gq_up p gq gk sk bs o _ (PV_eq p gq gk sk bs m c h0 h1 h2 h3 h4), gk_up p gq gk sk bs o _ (PV_eq p gq gk sk bs m c h0 h1 h2 h3 h4), coe_sum]

theorem eqGK : resGK m c = val_main_v237 (F := Ideal) (X0 p) (X1 gq) (X1 gk) (X3 sk) (X4 bs) (X5 o) := by
  funext i
  obtain ⟨u, d, rfl⟩ : ∃ (u : Fin 1) (d : Fin 64), i = Idealize.ShloMosaic.ix2 u d := ⟨i 0, i 1, Idealize.ShloMosaic.eq_ix2 i⟩
  show arrGK (pV m c) (oV m c) (PV m c) (gqV m c) d = _
  rw [pV_eq p m c h0, oV_eq o m c h5, gqV_eq gq m c h1]
  refine Eq.trans ?_ (v237_at p gq gk sk bs o u d).symm
  unfold arrGK
  simp only [gq_up p gq gk sk bs o _ (PV_eq p gq gk sk bs m c h0 h1 h2 h3 h4), gk_up p gq gk sk bs o _ (PV_eq p gq gk sk bs m c h0 h1 h2 h3 h4), coe_sum]

end Cert.AttnMeet
-- ==== Proof.Attn.Equation.lean ====
module

public import proofs.«01_k».proof.Proof.Attn.MeetArrays
public import proofs.«01_k».proof.Proof.Gen.AttnIdeal.Frame
public import proofs.«01_k».proof.Proof.Gen.AttnRefIdeal.Run
public import proofs.«01_k».proof.Defs
public import proofs.«01_k».proof.Proof.Gen.Pre_finite_attn
public import Idealize.ShloMosaic.Lib.Claim

@[expose] public section

set_option maxHeartbeats 2000000
set_option maxRecDepth 16384

noncomputable section

open Idealize.ShloMosaic Idealize.ShloMosaic.TcCoe Idealize.SL.Sem Idealize.ShloMosaic.ValueIdx
open Idealize.ShloMosaic.Pipeline (Dat)

namespace Cert.AttnClaim

open Cert.Lift Cert.AttnRef.Rows

/-! A finite argument is an array of real numbers. -/

theorem real0 (x : FVec Ideal AttnRefIdeal.S4096x5632 .f32) (h : Finite x) : ∃ p, x = X0 p := by
  obtain ⟨f, rfl⟩ := h.lift
  exact ⟨fun r k => f (Idealize.ShloMosaic.ix2 r k), funext fun i => congrArg (fun i => (f i : EReal)) (Idealize.ShloMosaic.eq_ix2 i)⟩

theorem real1 (x : FVec Ideal AttnRefIdeal.S64 .f32) (h : Finite x) : ∃ g, x = X1 g := by
  obtain ⟨f, rfl⟩ := h.lift
  exact ⟨fun d => f (Idealize.ShloMosaic.ix1 d), funext fun i => congrArg (fun i => (f i : EReal)) (Idealize.ShloMosaic.eq_ix1 i)⟩

theorem real3 (x : FVec Ideal AttnRefIdeal.S16 .f32) (h : Finite x) : ∃ s, x = X3 s := by
  obtain ⟨f, rfl⟩ := h.lift
  exact ⟨fun d => f (Idealize.ShloMosaic.ix1 d), funext fun i => congrArg (fun i => (f i : EReal)) (Idealize.ShloMosaic.eq_ix1 i)⟩

theorem real4 (x : FVec Ideal AttnRefIdeal.S16x128x256 .f32) (h : Finite x) : ∃ b, x = X4 b := by
  obtain ⟨f, rfl⟩ := h.lift
  exact ⟨fun a b d => f (Idealize.ShloMosaic.ix3 a b d), funext fun i => congrArg (fun i => (f i : EReal)) (Idealize.ShloMosaic.eq_ix3 i)⟩

theorem real5 (x : FVec Ideal AttnRefIdeal.S4096x1024 .f32) (h : Finite x) : ∃ o, x = X5 o := by
  obtain ⟨f, rfl⟩ := h.lift
  exact ⟨fun r k => f (Idealize.ShloMosaic.ix2 r k), funext fun i => congrArg (fun i => (f i : EReal)) (Idealize.ShloMosaic.eq_ix2 i)⟩

/-- The six arguments, finite and the same on both sides, are arrays of real numbers on both. -/
theorem reals (m : (ℓ : Loc AttnIdeal.nD AttnIdeal.τ AttnIdeal.sig) → Buf (Elt Ideal) ℓ)
    (m' : (ℓ : Loc AttnRefIdeal.nD AttnRefIdeal.τ AttnRefIdeal.sig) → Buf (Elt Ideal) ℓ) (c : Dev AttnIdeal.nD)
    (f0 : Finite (m ((c.tc : Thread AttnIdeal.nD AttnIdeal.τ).loc AttnIdeal.main_arg0) : FVec Ideal AttnRefIdeal.S4096x5632 .f32))
    (f1 : Finite (m ((c.tc : Thread AttnIdeal.nD AttnIdeal.τ).loc AttnIdeal.main_arg1) : FVec Ideal AttnRefIdeal.S64 .f32))
    (f2 : Finite (m ((c.tc : Thread AttnIdeal.nD AttnIdeal.τ).loc AttnIdeal.main_arg2) : FVec Ideal AttnRefIdeal.S64 .f32))
    (f3 : Finite (m ((c.tc : Thread AttnIdeal.nD AttnIdeal.τ).loc AttnIdeal.main_arg3) : FVec Ideal AttnRefIdeal.S16 .f32))
    (f4 : Finite (m ((c.tc : Thread AttnIdeal.nD AttnIdeal.τ).loc AttnIdeal.main_arg4) : FVec Ideal AttnRefIdeal.S16x128x256 .f32))
    (f5 : Finite (m ((c.tc : Thread AttnIdeal.nD AttnIdeal.τ).loc AttnIdeal.main_arg5) : FVec Ideal AttnRefIdeal.S4096x1024 .f32))
    (h0 : m' ((c.tc : Thread AttnRefIdeal.nD AttnRefIdeal.τ).loc AttnRefIdeal.main_arg0) = m ((c.tc : Thread AttnIdeal.nD AttnIdeal.τ).loc AttnIdeal.main_arg0))
    (h1 : m' ((c.tc : Thread AttnRefIdeal.nD AttnRefIdeal.τ).loc AttnRefIdeal.main_arg1) = m ((c.tc : Thread AttnIdeal.nD AttnIdeal.τ).loc AttnIdeal.main_arg1))
    (h2 : m' ((c.tc : Thread AttnRefIdeal.nD AttnRefIdeal.τ).loc AttnRefIdeal.main_arg2) = m ((c.tc : Thread AttnIdeal.nD AttnIdeal.τ).loc AttnIdeal.main_arg2))
    (h3 : m' ((c.tc : Thread AttnRefIdeal.nD AttnRefIdeal.τ).loc AttnRefIdeal.main_arg3) = m ((c.tc : Thread AttnIdeal.nD AttnIdeal.τ).loc AttnIdeal.main_arg3))
    (h4 : m' ((c.tc : Thread AttnRefIdeal.nD AttnRefIdeal.τ).loc AttnRefIdeal.main_arg4) = m ((c.tc : Thread AttnIdeal.nD AttnIdeal.τ).loc AttnIdeal.main_arg4))
    (h5 : m' ((c.tc : Thread AttnRefIdeal.nD AttnRefIdeal.τ).loc AttnRefIdeal.main_arg5) = m ((c.tc : Thread AttnIdeal.nD AttnIdeal.τ).loc AttnIdeal.main_arg5)) :
    ∃ p gq gk sk bs o, (m ((c.tc : Thread AttnIdeal.nD AttnIdeal.τ).loc AttnIdeal.main_arg0) = X0 p ∧ m ((c.tc : Thread AttnIdeal.nD AttnIdeal.τ).loc AttnIdeal.main_arg1) = X1 gq ∧ m ((c.tc : Thread AttnIdeal.nD AttnIdeal.τ).loc AttnIdeal.main_arg2) = X1 gk ∧ m ((c.tc : Thread AttnIdeal.nD AttnIdeal.τ).loc AttnIdeal.main_arg3) = X3 sk ∧ m ((c.tc : Thread AttnIdeal.nD AttnIdeal.τ).loc AttnIdeal.main_arg4) = X4 bs ∧ m ((c.tc : Thread AttnIdeal.nD AttnIdeal.τ).loc AttnIdeal.main_arg5) = X5 o)
      ∧ (StableHlo.launchContents m' c (Proc.devRef .tc AttnRefIdeal.main_arg0) = X0 p
        ∧ StableHlo.launchContents m' c (Proc.devRef .tc AttnRefIdeal.main_arg1) = X1 gq
        ∧ StableHlo.launchContents m' c (Proc.devRef .tc AttnRefIdeal.main_arg2) = X1 gk
        ∧ StableHlo.launchContents m' c (Proc.devRef .tc AttnRefIdeal.main_arg3) = X3 sk
        ∧ StableHlo.launchContents m' c (Proc.devRef .tc AttnRefIdeal.main_arg4) = X4 bs
        ∧ StableHlo.launchContents m' c (Proc.devRef .tc AttnRefIdeal.main_arg5) = X5 o) := by
  obtain ⟨p, e0⟩ := real0 _ f0
  obtain ⟨gq, e1⟩ := real1 _ f1
  obtain ⟨gk, e2⟩ := real1 _ f2
  obtain ⟨sk, e3⟩ := real3 _ f3
  obtain ⟨bs, e4⟩ := real4 _ f4
  obtain ⟨o, e5⟩ := real5 _ f5
  exact ⟨p, gq, gk, sk, bs, o, ⟨e0, e1, e2, e3, e4, e5⟩, h0.trans e0, h1.trans e1, h2.trans e2, h3.trans e3, h4.trans e4, h5.trans e5⟩

/-- The attention's gradient: kernel and reference end with equal results. -/
theorem algebraic : algebraic_AttnIdeal_AttnRefIdeal_pre_finite_attn := by
  pair_intro
  · run_from AttnIdeal.Gen.run_main m g
    · exact AttnIdeal.Gen.V_main_arg0 m c
    · exact AttnIdeal.Gen.V_main_arg1 m c
    · exact AttnIdeal.Gen.V_main_arg2 m c
    · exact AttnIdeal.Gen.V_main_arg3 m c
    · exact AttnIdeal.Gen.V_main_arg4 m c
    · exact AttnIdeal.Gen.V_main_arg5 m c
  · run_from AttnRefIdeal.Value.run m' g'
    · have hf := hpre c
      obtain ⟨h0, h1, h2, h3, h4, h5⟩ := hagree c
      obtain ⟨p, gq, gk, sk, bs, o, ⟨e0, e1, e2, e3, e4, e5⟩, l0, l1, l2, l3, l4, l5⟩ := reals m m' c (finite_of_test _ _ hf.1) (finite_of_test _ _ hf.2.1) (finite_of_test _ _ hf.2.2.1) (finite_of_test _ _ hf.2.2.2.1) (finite_of_test _ _ hf.2.2.2.2.1) (finite_of_test _ _ hf.2.2.2.2.2) h0 h1 h2 h3 h4 h5
      rw [AttnRefIdeal.Read.val_main_v232_eq, l0, l1, l2, l3, l4, l5]
      exact ((AttnIdeal.Array.finalQ m c).trans (AttnMeet.eqQ p gq gk sk bs o m c e0 e1 e2 e3 e4 e5)).symm
    · have hf := hpre c
      obtain ⟨h0, h1, h2, h3, h4, h5⟩ := hagree c
      obtain ⟨p, gq, gk, sk, bs, o, ⟨e0, e1, e2, e3, e4, e5⟩, l0, l1, l2, l3, l4, l5⟩ := reals m m' c (finite_of_test _ _ hf.1) (finite_of_test _ _ hf.2.1) (finite_of_test _ _ hf.2.2.1) (finite_of_test _ _ hf.2.2.2.1) (finite_of_test _ _ hf.2.2.2.2.1) (finite_of_test _ _ hf.2.2.2.2.2) h0 h1 h2 h3 h4 h5
      rw [AttnRefIdeal.Read.val_main_v233_eq, l0, l1, l2, l3, l4, l5]
      exact ((AttnIdeal.Array.finalKV m c).trans (AttnMeet.eqKV p gq gk sk bs o m c e0 e1 e2 e3 e4 e5)).symm
    · have hf := hpre c
      obtain ⟨h0, h1, h2, h3, h4, h5⟩ := hagree c
      obtain ⟨p, gq, gk, sk, bs, o, ⟨e0, e1, e2, e3, e4, e5⟩, l0, l1, l2, l3, l4, l5⟩ := reals m m' c (finite_of_test _ _ hf.1) (finite_of_test _ _ hf.2.1) (finite_of_test _ _ hf.2.2.1) (finite_of_test _ _ hf.2.2.2.1) (finite_of_test _ _ hf.2.2.2.2.1) (finite_of_test _ _ hf.2.2.2.2.2) h0 h1 h2 h3 h4 h5
      rw [AttnRefIdeal.Read.val_main_v234_eq, l0, l1, l2, l3, l4, l5]
      exact ((AttnIdeal.Array.finalB m c).trans (AttnMeet.eqB p gq gk sk bs o m c e0 e1 e2 e3 e4 e5)).symm
    · have hf := hpre c
      obtain ⟨h0, h1, h2, h3, h4, h5⟩ := hagree c
      obtain ⟨p, gq, gk, sk, bs, o, ⟨e0, e1, e2, e3, e4, e5⟩, l0, l1, l2, l3, l4, l5⟩ := reals m m' c (finite_of_test _ _ hf.1) (finite_of_test _ _ hf.2.1) (finite_of_test _ _ hf.2.2.1) (finite_of_test _ _ hf.2.2.2.1) (finite_of_test _ _ hf.2.2.2.2.1) (finite_of_test _ _ hf.2.2.2.2.2) h0 h1 h2 h3 h4 h5
      rw [AttnRefIdeal.Read.val_main_v235_eq, l0, l1, l2, l3, l4, l5]
      exact ((AttnIdeal.Array.finalN m c).trans (AttnMeet.eqN p gq gk sk bs o m c e0 e1 e2 e3 e4 e5)).symm
    · have hf := hpre c
      obtain ⟨h0, h1, h2, h3, h4, h5⟩ := hagree c
      obtain ⟨p, gq, gk, sk, bs, o, ⟨e0, e1, e2, e3, e4, e5⟩, l0, l1, l2, l3, l4, l5⟩ := reals m m' c (finite_of_test _ _ hf.1) (finite_of_test _ _ hf.2.1) (finite_of_test _ _ hf.2.2.1) (finite_of_test _ _ hf.2.2.2.1) (finite_of_test _ _ hf.2.2.2.2.1) (finite_of_test _ _ hf.2.2.2.2.2) h0 h1 h2 h3 h4 h5
      rw [AttnRefIdeal.Read.val_main_v236_eq, l0, l1, l2, l3, l4, l5]
      exact ((AttnIdeal.Array.finalGQ m c).trans (AttnMeet.eqGQ p gq gk sk bs o m c e0 e1 e2 e3 e4 e5)).symm
    · have hf := hpre c
      obtain ⟨h0, h1, h2, h3, h4, h5⟩ := hagree c
      obtain ⟨p, gq, gk, sk, bs, o, ⟨e0, e1, e2, e3, e4, e5⟩, l0, l1, l2, l3, l4, l5⟩ := reals m m' c (finite_of_test _ _ hf.1) (finite_of_test _ _ hf.2.1) (finite_of_test _ _ hf.2.2.1) (finite_of_test _ _ hf.2.2.2.1) (finite_of_test _ _ hf.2.2.2.2.1) (finite_of_test _ _ hf.2.2.2.2.2) h0 h1 h2 h3 h4 h5
      rw [AttnRefIdeal.Read.val_main_v237_eq, l0, l1, l2, l3, l4, l5]
      exact ((AttnIdeal.Array.finalGK m c).trans (AttnMeet.eqGK p gq gk sk bs o m c e0 e1 e2 e3 e4 e5)).symm

end Cert.AttnClaim
-- ==== Proof.AttnF.Block.lean ====
module

public import proofs.«01_k».proof.Proof.Gen.AttnFIdeal.Skeleton
public import proofs.«01_k».proof.Proof.Attn.Formula
public import Idealize.ShloMosaic.Lib.Pipeline.ValueKit
public import Idealize.ShloMosaic.Lib.Pointwise
public import Idealize.ShloMosaic.Lib.Claim

/-! What the attention call computes for one block of rows and one group of heads. -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnFIdeal.Block

open Cert.AttnFIdeal Cert.AttnFIdeal.Gen

/-- The column of every entry. -/
def colQ : IVec S128x256 32 := iota .tc S128x256 32 [1] iota_S128x256_d1_w32

/-- The head of every column of a block of rows. -/
def headQ : IVec S128x256 32 := k0_pay24 colQ 64#32 k0_pay22 k0_pay23 0#32

/-- The normed queries of a block of rows. -/
def normQ (x : Vec Ideal S128x256 .bf16) (g : Vec Ideal S1x256 .f32) : FVec Ideal S128x256 .f32 :=
  k0_pay30 (k0_pay20 x) (k0_pay21 g) headQ (k0_pay25 (k0_pay20 x)) (k0_pay26 (k0_pay20 x) colQ 64#32 k0_pay22 k0_pay23 0#32)
    (k0_pay27 (k0_pay20 x) colQ 64#32 k0_pay22 k0_pay23 0#32) (k0_pay28 colQ 64#32 k0_pay22 k0_pay23 0#32) k0_pay29

/-- The four heads of a block of rows below each other, each in its own columns. -/
def stackQ (x : Vec Ideal S128x256 .bf16) (g : Vec Ideal S1x256 .f32) : FVec Ideal S512x256 .bf16 :=
  k0_pay33 (normQ x g) colQ 64#32 k0_pay31 k0_pay32

/-- The normed keys. -/
def normK (a : Vec Ideal S128x256 .bf16) (b : Vec Ideal S512x256 .bf16) (g : Vec Ideal S1x256 .f32) : FVec Ideal S640x256 .bf16 :=
  k0_pay16 (k0_pay8 a b) (k0_pay9 g) k0_pay10 (k0_pay11 a b)
    (k0_pay14 k0_pay10 (k0_pay11 a b) k0_pay12 (k0_pay13 a b) (Scalar.ofBits .f32 0x3C800000#32)) (k0_pay15 k0_pay10)
    (Scalar.ofBits .f32 0x00000000#32)

/-- The matrix that repeats the group `h`'s columns for the four heads. -/
def rep : Fin 4 → FVec Ideal S256x256 .bf16
  | 0 => k0_pay2
  | 1 => k0_pay4 k0_pay3
  | 2 => k0_pay5 (iota .tc S256x256 32 [0] iota_S256x256_d0_w32) (iota .tc S256x256 32 [1] iota_S256x256_d1_w32)
  | 3 => k0_pay7 (k0_pay6 (iota .tc S256x256 32 [0] iota_S256x256_d0_w32) (iota .tc S256x256 32 [1] iota_S256x256_d1_w32))

/-- Rows repeated for the four heads of the group `h`. -/
def spread (h : Fin 4) (x : FVec Ideal S640x256 .bf16) : FVec Ideal S640x256 .bf16 :=
  truncf .bf16 (matmul (φ₁ := .bf16) dot_S640x256_S256x256_S640x256_1_0_0_1_n_n none x (rep h) (constant S640x256 .f32 0x00000000#32)) bitsLt_bf16_f32

/-- The window of the block `u`. -/
def win (u : Fin 4) (x : FVec Ideal S640x256 .bf16) : FVec Ideal S256x256 .bf16 :=
  match u with
  | 0 => extractStridedSlice S256x256 ![0, 0] x slices_S640x256_o0_0_S256x256
  | 1 => extractStridedSlice S256x256 ![128, 0] x slices_S640x256_o128_0_S256x256
  | 2 => extractStridedSlice S256x256 ![256, 0] x slices_S640x256_o256_0_S256x256
  | 3 => extractStridedSlice S256x256 ![384, 0] x slices_S640x256_o384_0_S256x256

/-- The scores; the first block of all does not look before its beginning. -/
def score (n : BitVec 32) (q : FVec Ideal S512x256 .bf16) (k : FVec Ideal S256x256 .bf16) (b : Vec Ideal S1x512x256 .f32) : FVec Ideal S512x256 .f32 :=
  select (andi (cmpi .slt (iota .tc S512x256 32 [1] iota_S512x256_d1_w32) (broadcast S512x256 128#32)) (broadcast S512x256 (Scalar.cmpi .eq n 0#32)))
    (broadcast S512x256 (Scalar.ofBits .f32 0xFF800000#32))
    (addf (mulf (matmul (φ₁ := .bf16) dot_S512x256_S256x256_S512x256_1_1_0_0_n_n none q k (constant S512x256 .f32 0x00000000#32))
      (broadcast S512x256 (Scalar.ofBits .f32 0x3E000000#32))) (shapeCast S512x256 b shapeCasts_S1x512x256_S512x256))

/-- The sinks of a group's rows. -/
def sinkOf (x : Vec Ideal S1x512x1 .f32) : FVec Ideal S512x1 .f32 := shapeCast S512x1 x shapeCasts_S1x512x1_S512x1

/-- The larger of a row's largest score and its sink. -/
def topOf (s : FVec Ideal S512x256 .f32) (z : FVec Ideal S512x1 .f32) : FVec Ideal S512x1 .f32 :=
  maximumf (shapeCast S512x1 (multiReduction .maximumf [1] S512 s 0xFF800000#32 reduces_S512x256_S512 (.inl rfl) rfl) shapeCasts_S512_S512x1) z

/-- The terms of the softmax. -/
def termOf (s : FVec Ideal S512x256 .f32) (z : FVec Ideal S512x1 .f32) : FVec Ideal S512x256 .f32 :=
  exp (subf s (broadcastTo S512x256 (topOf s z) broadcasts_S512x1_S512x256))

/-- The sinks' terms. -/
def sinkTermOf (s : FVec Ideal S512x256 .f32) (z : FVec Ideal S512x1 .f32) : FVec Ideal S512x1 .f32 := exp (subf z (topOf s z))

/-- The reciprocals of the rows' sums. -/
def invOf (s : FVec Ideal S512x256 .f32) (z : FVec Ideal S512x1 .f32) : FVec Ideal S512x1 .f32 :=
  divf (broadcast S512x1 (Scalar.ofBits .f32 0x3F800000#32)) (addf (shapeCast S512x1
    (multiReduction .add [1] S512 (termOf s z) 0x00000000#32 reduces_S512x256_S512 (.inl rfl) rfl) shapeCasts_S512_S512x1) (sinkTermOf s z))

/-- The probabilities. -/
def probOf (s : FVec Ideal S512x256 .f32) (z : FVec Ideal S512x1 .f32) : FVec Ideal S512x256 .bf16 :=
  truncf .bf16 (mulf (termOf s z) (broadcastTo S512x256 (invOf s z) broadcasts_S512x1_S512x256)) bitsLt_bf16_f32

/-- The sinks' probabilities. -/
def sinkProbOf (s : FVec Ideal S512x256 .f32) (z : FVec Ideal S512x1 .f32) : FVec Ideal S512x1 .f32 := mulf (sinkTermOf s z) (invOf s z)

/-- The probabilities' sums over the values, the four heads still below each other. -/
def dotV (p : FVec Ideal S512x256 .bf16) (v : FVec Ideal S256x256 .bf16) : FVec Ideal S512x256 .f32 :=
  matmul (φ₁ := .bf16) dot_S512x256_S256x256_S512x256_1_0_0_1_n_n none p v (constant S512x256 .f32 0x00000000#32)

/-- The four heads beside each other again. -/
def unstack (x : FVec Ideal S512x256 .f32) : FVec Ideal S128x256 .bf16 :=
  truncf .bf16 (addf (k0_pay46 x colQ) (select (k0_pay47 colQ) (k0_pay48 x) k0_pay49)) bitsLt_bf16_f32

variable (x0 : Vec Ideal S512x1024 .bf16) (x1 : Vec Ideal S128x256 .bf16) (x2 : Vec Ideal S512x256 .bf16) (x3 : Vec Ideal S128x256 .bf16)
  (x4 : Vec Ideal S512x256 .bf16) (x5 x6 : Vec Ideal S1x256 .f32) (x7 : Vec Ideal S4x512x1 .f32) (x8 : Vec Ideal S4x512x256 .f32)

/-- The rows of the block `u` and the columns of the group `h`. -/
def rows (x : Vec Ideal S512x1024 .bf16) (u h : Fin 4) : Vec Ideal S128x256 .bf16 :=
  View.ld x (Rect.unit ![128 * u.val, 256 * h.val] ![128, 256] (by
    intro a
    fin_cases a
    · show 128 * u.val + 128 ≤ 512
      omega
    · show 256 * h.val + 256 ≤ 1024
      omega))

/-- The group `h`'s sinks. -/
def sinks (x : Vec Ideal S4x512x1 .f32) (h : Fin 4) : Vec Ideal S1x512x1 .f32 :=
  View.ld x (Rect.unit ![h.val, 0, 0] ![1, 512, 1] (by
    intro a
    fin_cases a
    · show h.val + 1 ≤ 4
      omega
    · exact le_refl 512
    · exact le_refl 1))

/-- The group `h`'s bias. -/
def biasOf (x : Vec Ideal S4x512x256 .f32) (h : Fin 4) : Vec Ideal S1x512x256 .f32 :=
  View.ld x (Rect.unit ![h.val, 0, 0] ![1, 512, 256] (by
    intro a
    fin_cases a
    · show h.val + 1 ≤ 4
      omega
    · exact le_refl 512
    · exact le_refl 256))

/-- The scores of the block `u` and the group `h`; `n` is the point's first block. -/
def scoreU (n : BitVec 32) (u h : Fin 4) : FVec Ideal S512x256 .f32 :=
  score (Scalar.addi n (BitVec.ofNat 32 u.val)) (stackQ (rows x0 u h) x5) (win u (spread h (normK x1 x2 x6))) (biasOf x8 h)

/-- The probabilities of the block `u` and the group `h`. -/
def probU (n : BitVec 32) (u h : Fin 4) : FVec Ideal S512x256 .bf16 := probOf (scoreU x0 x1 x2 x5 x6 x8 n u h) (sinkOf (sinks x7 h))

/-- The stored probabilities. -/
def outP (n : BitVec 32) (u h : Fin 4) : FVec Ideal S1x1x512x256 .bf16 :=
  shapeCast S1x1x512x256 (probU x0 x1 x2 x5 x6 x7 x8 n u h) shapeCasts_S512x256_S1x1x512x256

/-- The stored probabilities of the sinks. -/
def outS (n : BitVec 32) (u h : Fin 4) : FVec Ideal S1x1x512x1 .f32 :=
  shapeCast S1x1x512x1 (sinkProbOf (scoreU x0 x1 x2 x5 x6 x8 n u h) (sinkOf (sinks x7 h))) shapeCasts_S512x1_S1x1x512x1

/-- The stored rows of the result. -/
def outO (n : BitVec 32) (u h : Fin 4) : FVec Ideal S128x256 .bf16 :=
  unstack (dotV (probU x0 x1 x2 x5 x6 x7 x8 n u h) (win u (spread h (k0_pay17 x3 x4))))

end Cert.AttnFIdeal.Block
end
-- ==== Proof.AttnF.Rows.lean ====
module

public import proofs.«01_k».proof.Proof.AttnF.Block
public import proofs.«01_k».proof.Proof.Attn.Real
public import Idealize.ShloMosaic.Lib.Pipeline.ValueKit
public import Idealize.ShloMosaic.Lib.Pointwise
public import Idealize.ShloMosaic.Lib.Claim

/-! The entries of what the attention call computes for one block of rows and one group of heads. -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnFIdeal.Rows

open Cert.AttnFIdeal Cert.AttnFIdeal.Gen Cert.AttnFIdeal.Block Cert.AttnFormula

theorem headQ_at (a : Fin 128) (b : Fin 256) : headQ (Idealize.ShloMosaic.ix2 a b) = BitVec.ofNat 32 (b.val / 64) := by
  pointwise [headQ, colQ, k0_pay24, k0_pay22, k0_pay23]
  revert b
  decide +kernel
theorem headK_at (a : Fin 640) (b : Fin 256) : k0_pay10 (Idealize.ShloMosaic.ix2 a b) = BitVec.ofNat 32 (b.val / 64) := by
  pointwise [k0_pay10]
  revert b
  decide +kernel
theorem headO_at (a : Fin 128) (b : Fin 256) : k0_pay45 colQ (Idealize.ShloMosaic.ix2 a b) = BitVec.ofNat 32 (b.val / 64) := by
  pointwise [k0_pay45, colQ]
  revert b
  decide +kernel

/-- Choosing where two small numbers are equal. -/
theorem pick (i k : ℕ) (hi : i < 256) (hk : k < 256) (x y : EReal) :
    Scalar.select (IntOp.cmpi CmpIPredicate.eq (BitVec.ofNat 32 i) (BitVec.ofNat 32 k)) x y = if i = k then x else y := by
  by_cases h : i = k
  · subst h
    rw [if_pos rfl, show IntOp.cmpi CmpIPredicate.eq (BitVec.ofNat 32 i) (BitVec.ofNat 32 i) = 1#1 from by simp [IntOp.cmpi]]
    rfl
  · rw [if_neg h]
    have hne : BitVec.ofNat 32 i ≠ BitVec.ofNat 32 k := by
      intro e
      have := congrArg BitVec.toNat e
      simp only [BitVec.toNat_ofNat] at this
      omega
    rw [show IntOp.cmpi CmpIPredicate.eq (BitVec.ofNat 32 i) (BitVec.ofNat 32 k) = 0#1 from by
      simp only [IntOp.cmpi, beq_eq_false_iff_ne.mpr hne]; rfl]
    rfl

/-- Choosing by a column's head. -/
theorem pickH (b : Fin 256) (k : ℕ) (hk : k < 4) (x y : EReal) :
    Scalar.select (IntOp.cmpi CmpIPredicate.eq (BitVec.ofNat 32 (b.val / 64)) (BitVec.ofNat 32 k)) x y = if b.val / 64 = k then x else y :=
  pick _ _ (by omega) (by omega) x y

/-- A sum over one head's columns. -/
theorem sum_head (u : ℕ) (hu : u < 4) (f : Fin 256 → EReal) :
    (∑ c : Fin 256, if c.val / 64 = u then f c else 0) = ∑ d : Fin 64, f ⟨64 * u + d.val, by omega⟩ := by
  rw [← Finset.sum_filter]
  refine (Finset.sum_bij (fun (d : Fin 64) _ => (⟨64 * u + d.val, by omega⟩ : Fin 256)) (fun d _ => ?_) (fun d _ e _ h => ?_) (fun c hc => ?_) (fun _ _ => rfl)).symm
  · exact Finset.mem_filter.mpr ⟨Finset.mem_univ _, by show (64 * u + d.val) / 64 = u; omega⟩
  · exact Fin.ext (by have : 64 * u + d.val = 64 * u + e.val := congrArg Fin.val h; omega)
  · have := (Finset.mem_filter.mp hc).2
    exact ⟨⟨c.val % 64, by omega⟩, Finset.mem_univ _, Fin.ext (by show 64 * u + c.val % 64 = c.val; omega)⟩

theorem ofBits_inv64 (x : EReal) : x * Ideal.ofBits FTy.f32 0x3C800000#32 = Ideal.div x (Ideal.ofBits FTy.f32 0x42800000#32) := by
  rw [AttnReal.ofBits_64, show Ideal.ofBits FTy.f32 0x3C800000#32 = (((1 / 64 : ℝ)) : EReal) from by
    simp [Ideal.ofBits, Ideal.ieee]; norm_num; rw [← EReal.coe_mul]; norm_num]
  unfold Ideal.div
  rw [if_neg (by exact_mod_cast (by norm_num : (64 : ℝ) ≠ 0)), ← EReal.coe_inv]
  norm_num

/-- The norm over one head's columns. -/
theorem norm_head (f g : Fin 256 → EReal) (b : Fin 256) (u : ℕ) (hu : b.val / 64 = u) :
    f b * Ideal.rsqrt ((∑ c : Fin 256, if c.val / 64 = u then f c * f c else 0) * Ideal.ofBits FTy.f32 0x3C800000#32 + Ideal.ofBits FTy.f32 0x358637BD#32) * g b
      = nrm (fun d : Fin 64 => f ⟨64 * (b.val / 64) + d.val, by omega⟩) (fun d : Fin 64 => g ⟨64 * (b.val / 64) + d.val, by omega⟩) ⟨b.val % 64, by omega⟩ := by
  subst hu
  rw [sum_head _ (by omega), ofBits_inv64]
  unfold nrm rinv meanSq
  have e : (⟨64 * (b.val / 64) + b.val % 64, by omega⟩ : Fin 256) = b := Fin.ext (by show 64 * (b.val / 64) + b.val % 64 = b.val; omega)
  show _ = f ⟨64 * (b.val / 64) + b.val % 64, by omega⟩ * _ * g ⟨64 * (b.val / 64) + b.val % 64, by omega⟩
  rw [e]

theorem normQ_at (x : Vec Ideal S128x256 .bf16) (g : Vec Ideal S1x256 .f32) (a : Fin 128) (b : Fin 256) :
    (normQ x g (Idealize.ShloMosaic.ix2 a b) : EReal)
      = nrm (fun d : Fin 64 => x (Idealize.ShloMosaic.ix2 a ⟨64 * (b.val / 64) + d.val, by omega⟩))
          (fun d : Fin 64 => g (Idealize.ShloMosaic.ix2 0 ⟨64 * (b.val / 64) + d.val, by omega⟩)) ⟨b.val % 64, by omega⟩ := by
  have hb : b.val / 64 < 4 := by omega
  have hh : ∀ b, k0_pay24 colQ 64#32 k0_pay22 k0_pay23 0#32 (Idealize.ShloMosaic.ix2 a b) = BitVec.ofNat 32 (b.val / 64) := headQ_at a
  pointwise [normQ, k0_pay30, k0_pay20, k0_pay21, k0_pay25, k0_pay26, k0_pay27, k0_pay28, k0_pay29, headQ]
  simp only [hh, pickH _ 0 (by omega), pickH _ 1 (by omega), pickH _ 2 (by omega), pickH _ 3 (by omega)]
  obtain h | h | h | h : b.val / 64 = 0 ∨ b.val / 64 = 1 ∨ b.val / 64 = 2 ∨ b.val / 64 = 3 := by omega
  all_goals
    refine Eq.trans ?_ (norm_head (fun b => x (Idealize.ShloMosaic.ix2 a b)) (fun b => g (Idealize.ShloMosaic.ix2 0 b)) b _ h)
    rw [h]
    rfl

/-- The keys (or values) of the block before and of the four blocks. -/
def keyRow (a : Vec Ideal S128x256 .bf16) (b : Vec Ideal S512x256 .bf16) (i : Fin 640) (r : Fin 256) : EReal :=
  if h : i.val < 128 then a (Idealize.ShloMosaic.ix2 ⟨i.val, h⟩ r) else b (Idealize.ShloMosaic.ix2 ⟨i.val - 128, by omega⟩ r)

theorem pay8_at (a : Vec Ideal S128x256 .bf16) (b : Vec Ideal S512x256 .bf16) (i : Fin 640) (r : Fin 256) :
    (k0_pay8 a b (Idealize.ShloMosaic.ix2 i r) : EReal) = keyRow a b i r := by
  pointwise [k0_pay8, keyRow]

theorem pay17_at (a : Vec Ideal S128x256 .bf16) (b : Vec Ideal S512x256 .bf16) (i : Fin 640) (r : Fin 256) :
    (k0_pay17 a b (Idealize.ShloMosaic.ix2 i r) : EReal) = keyRow a b i r := by
  pointwise [k0_pay17, keyRow]

theorem normK_at (a : Vec Ideal S128x256 .bf16) (b : Vec Ideal S512x256 .bf16) (g : Vec Ideal S1x256 .f32) (i : Fin 640) (r : Fin 256) :
    (normK a b g (Idealize.ShloMosaic.ix2 i r) : EReal)
      = nrm (fun d : Fin 64 => keyRow a b i ⟨64 * (r.val / 64) + d.val, by omega⟩)
          (fun d : Fin 64 => g (Idealize.ShloMosaic.ix2 0 ⟨64 * (r.val / 64) + d.val, by omega⟩)) ⟨r.val % 64, by omega⟩ := by
  have hb : r.val / 64 < 4 := by omega
  have hh := headK_at i
  pointwise [normK, k0_pay16, k0_pay9, k0_pay11, k0_pay12, k0_pay13, k0_pay14, k0_pay15]
  simp only [hh, pay8_at, pickH _ 0 (by omega), pickH _ 1 (by omega), pickH _ 2 (by omega), pickH _ 3 (by omega)]
  obtain h | h | h | h : r.val / 64 = 0 ∨ r.val / 64 = 1 ∨ r.val / 64 = 2 ∨ r.val / 64 = 3 := by omega
  all_goals
    refine Eq.trans ?_ (norm_head (keyRow a b i) (fun b => g (Idealize.ShloMosaic.ix2 0 b)) r _ h)
    rw [h]
    rfl

theorem stackQ_at (x : Vec Ideal S128x256 .bf16) (g : Vec Ideal S1x256 .f32) (s : Fin 512) (c : Fin 256) :
    (stackQ x g (Idealize.ShloMosaic.ix2 s c) : EReal)
      = if c.val / 64 = s.val / 128 then normQ x g (Idealize.ShloMosaic.ix2 ⟨s.val % 128, by omega⟩ c) else 0 := by
  have key : ∀ (k : ℕ) (r : Fin 128) (w : BitVec 32), w = BitVec.ofNat 32 (c.val / 64) → k = s.val / 128 → r.val = s.val % 128 →
      Scalar.select (IntOp.cmpi CmpIPredicate.eq w (BitVec.ofNat 32 k)) (normQ x g (Idealize.ShloMosaic.ix2 r c) : EReal) 0
        = if c.val / 64 = s.val / 128 then normQ x g (Idealize.ShloMosaic.ix2 ⟨s.val % 128, by omega⟩ c) else 0 := by
    rintro _ r _ rfl rfl hr
    rw [pickH _ _ (by omega), show r = ⟨s.val % 128, by omega⟩ from Fin.ext hr]
  pointwise [stackQ, k0_pay33, k0_pay31, k0_pay32, colQ]
  by_cases h0 : s.val < 128
  · rw [dif_pos h0]
    refine key 0 _ _ ?_ (by omega) ?_
    · clear key; revert c; decide +kernel
    · show s.val = s.val % 128
      omega
  rw [dif_neg h0]
  by_cases h1 : s.val - 128 < 128
  · rw [dif_pos h1]
    refine key 1 _ _ ?_ (by omega) ?_
    · clear key; revert c; decide +kernel
    · show s.val - 128 = s.val % 128
      omega
  rw [dif_neg h1]
  by_cases h2 : s.val - 128 - 128 < 128
  · rw [dif_pos h2]
    refine key 2 _ _ ?_ (by omega) ?_
    · clear key; revert c; decide +kernel
    · show s.val - 128 - 128 = s.val % 128
      omega
  rw [dif_neg h2]
  refine key 3 _ _ ?_ (by omega) ?_
  · clear key; revert c; decide +kernel
  · show s.val - 128 - 128 - 128 = s.val % 128
    omega

theorem unstack_at (x : FVec Ideal S512x256 .f32) (a : Fin 128) (b : Fin 256) :
    (unstack x (Idealize.ShloMosaic.ix2 a b) : EReal) = x (Idealize.ShloMosaic.ix2 ⟨128 * (b.val / 64) + a.val, by omega⟩ b) := by
  pointwise [unstack, k0_pay46, k0_pay47, k0_pay48, k0_pay49]
  simp only [headO_at, pickH _ 0 (by omega), pickH _ 1 (by omega), pickH _ 2 (by omega), pickH _ 3 (by omega)]
  obtain h | h | h | h : b.val / 64 = 0 ∨ b.val / 64 = 1 ∨ b.val / 64 = 2 ∨ b.val / 64 = 3 := by omega
  all_goals
    simp [h]

/-- The word of "row `r` is the place `p` of the group at `o`", as a number. -/
theorem bit (r : Fin 256) (o p : ℕ) (hp : p < 256) (ho : o < 256) (w : BitVec 32) (hw : w = BitVec.ofNat 32 (o + p)) :
    (FloatOps.sitofp (F := Ideal) FTy.f32 (BitVec.setWidth 32 (IntOp.cmpi CmpIPredicate.eq (BitVec.ofNat 32 r.val) w)) : EReal)
      = if r.val = o + p then 1 else 0 := by
  subst hw
  by_cases h : r.val = o + p
  · rw [← h, if_pos rfl, show IntOp.cmpi CmpIPredicate.eq (BitVec.ofNat 32 r.val) (BitVec.ofNat 32 r.val) = 1#1 from by simp [IntOp.cmpi]]
    show (((1#32 : BitVec 32).toInt : ℝ) : EReal) = 1
    norm_num
  · have hne : BitVec.ofNat 32 r.val ≠ BitVec.ofNat 32 (o + p) := by
      intro e
      have := congrArg BitVec.toNat e
      simp only [BitVec.toNat_ofNat] at this
      omega
    rw [if_neg h, show IntOp.cmpi CmpIPredicate.eq (BitVec.ofNat 32 r.val) (BitVec.ofNat 32 (o + p)) = 0#1 from by
      simp only [IntOp.cmpi, beq_eq_false_iff_ne.mpr hne]; rfl]
    show (((0#32 : BitVec 32).toInt : ℝ) : EReal) = 0
    norm_num

theorem rep_at (h : Fin 4) (r c : Fin 256) :
    (rep h (Idealize.ShloMosaic.ix2 r c) : EReal) = if r.val = 64 * h.val + c.val % 64 then 1 else 0 := by
  fin_cases h
  · show (k0_pay2 (F := Ideal) (Idealize.ShloMosaic.ix2 r c) : EReal) = _
    pointwise [k0_pay2]
    refine (bit r 0 (c.val % 64) (by omega) (by omega) _ ?_).trans (by rw [zero_add])
    revert c
    decide +kernel
  · show (k0_pay4 (F := Ideal) k0_pay3 (Idealize.ShloMosaic.ix2 r c) : EReal) = _
    pointwise [k0_pay4, k0_pay3]
    refine bit r 64 (c.val % 64) (by omega) (by omega) _ ?_
    revert c
    decide +kernel
  · show (k0_pay5 (F := Ideal) _ _ (Idealize.ShloMosaic.ix2 r c) : EReal) = _
    pointwise [k0_pay5]
    refine bit r 128 (c.val % 64) (by omega) (by omega) _ ?_
    revert c
    decide +kernel
  · show (k0_pay7 (F := Ideal) (k0_pay6 _ _) (Idealize.ShloMosaic.ix2 r c) : EReal) = _
    pointwise [k0_pay7, k0_pay6]
    refine bit r 192 (c.val % 64) (by omega) (by omega) _ ?_
    revert c
    decide +kernel

theorem spread_at (h : Fin 4) (x : FVec Ideal S640x256 .bf16) (i : Fin 640) (c : Fin 256) :
    (spread h x (Idealize.ShloMosaic.ix2 i c) : EReal) = x (Idealize.ShloMosaic.ix2 i ⟨64 * h.val + c.val % 64, by omega⟩) := by
  refine Eq.trans (b := (∑ r : Fin 256, x (Idealize.ShloMosaic.ix2 i r) * rep h (Idealize.ShloMosaic.ix2 r c) : EReal)) ?_ ?_
  · pointwise [spread]
  · rw [Finset.sum_eq_single (⟨64 * h.val + c.val % 64, by omega⟩ : Fin 256)]
    · exact (congrArg (_ * ·) ((rep_at h _ c).trans (if_pos rfl))).trans (mul_one _)
    · intro r _ hr
      exact (congrArg (_ * ·) ((rep_at h r c).trans (if_neg fun e => hr (Fin.ext e)))).trans (mul_zero _)
    · exact fun e => absurd (Finset.mem_univ _) e

theorem win_at (u : Fin 4) (x : FVec Ideal S640x256 .bf16) (j : Fin 256) (c : Fin 256) :
    (win u x (Idealize.ShloMosaic.ix2 j c) : EReal) = x (Idealize.ShloMosaic.ix2 ⟨128 * u.val + j.val, by omega⟩ c) := by
  fin_cases u
  all_goals (pointwise [win]; blk_ext)

theorem ofBits_bot : Ideal.ofBits FTy.f32 0xFF800000#32 = (⊥ : EReal) := by simp [Ideal.ofBits, Ideal.ieee]

/-- The largest of a row's scores and its sink. -/
def topE (S : Fin 256 → EReal) (z : EReal) : EReal := max (Finset.univ.sup S) z

/-- The reciprocal of a row's sum. -/
def invE (S : Fin 256 → EReal) (z : EReal) : EReal :=
  Ideal.div (Ideal.ofBits FTy.f32 0x3F800000#32) (∑ j : Fin 256, Ideal.exp (S j - topE S z) + Ideal.exp (z - topE S z))

theorem top_at (s : FVec Ideal S512x256 .f32) (z : FVec Ideal S512x1 .f32) (i : Fin 512) :
    (topOf s z (Idealize.ShloMosaic.ix2 i 0) : EReal) = topE (fun j => s (Idealize.ShloMosaic.ix2 i j)) (z (Idealize.ShloMosaic.ix2 i 0)) := by
  pointwise [topOf, topE]
  rw [ofBits_bot]
  rfl

theorem term_at (s : FVec Ideal S512x256 .f32) (z : FVec Ideal S512x1 .f32) (i : Fin 512) (j : Fin 256) :
    (termOf s z (Idealize.ShloMosaic.ix2 i j) : EReal)
      = Ideal.exp (s (Idealize.ShloMosaic.ix2 i j) - topE (fun j => s (Idealize.ShloMosaic.ix2 i j)) (z (Idealize.ShloMosaic.ix2 i 0))) := by
  rw [← top_at]
  pointwise [termOf]

theorem inv_at (s : FVec Ideal S512x256 .f32) (z : FVec Ideal S512x1 .f32) (i : Fin 512) :
    (invOf s z (Idealize.ShloMosaic.ix2 i 0) : EReal) = invE (fun j => s (Idealize.ShloMosaic.ix2 i j)) (z (Idealize.ShloMosaic.ix2 i 0)) := by
  unfold invE
  simp only [← term_at]
  rw [← top_at]
  pointwise [invOf, sinkTermOf]

theorem prob_at (s : FVec Ideal S512x256 .f32) (z : FVec Ideal S512x1 .f32) (i : Fin 512) (j : Fin 256) :
    (probOf s z (Idealize.ShloMosaic.ix2 i j) : EReal)
      = Ideal.exp (s (Idealize.ShloMosaic.ix2 i j) - topE (fun j => s (Idealize.ShloMosaic.ix2 i j)) (z (Idealize.ShloMosaic.ix2 i 0)))
        * invE (fun j => s (Idealize.ShloMosaic.ix2 i j)) (z (Idealize.ShloMosaic.ix2 i 0)) := by
  rw [← inv_at, ← term_at]
  pointwise [probOf]

theorem sinkProb_at (s : FVec Ideal S512x256 .f32) (z : FVec Ideal S512x1 .f32) (i : Fin 512) :
    (sinkProbOf s z (Idealize.ShloMosaic.ix2 i 0) : EReal)
      = Ideal.exp (z (Idealize.ShloMosaic.ix2 i 0) - topE (fun j => s (Idealize.ShloMosaic.ix2 i j)) (z (Idealize.ShloMosaic.ix2 i 0)))
        * invE (fun j => s (Idealize.ShloMosaic.ix2 i j)) (z (Idealize.ShloMosaic.ix2 i 0)) := by
  rw [← inv_at, ← top_at]
  pointwise [sinkProbOf, sinkTermOf]

theorem score_at (n : ℕ) (hn : n < 32) (q : FVec Ideal S512x256 .bf16) (k : FVec Ideal S256x256 .bf16) (b : Vec Ideal S1x512x256 .f32) (s : Fin 512) (j : Fin 256) :
    (score (BitVec.ofNat 32 n) q k b (Idealize.ShloMosaic.ix2 s j) : EReal)
      = if n = 0 ∧ j.val < 128 then ⊥
        else (∑ c : Fin 256, q (Idealize.ShloMosaic.ix2 s c) * k (Idealize.ShloMosaic.ix2 j c)) * Ideal.ofBits FTy.f32 0x3E000000#32
          + b (Idealize.ShloMosaic.ix3 0 s j) := by
  have hw : ∀ (n : Fin 32) (j : Fin 256), IntOp.andi (IntOp.cmpi CmpIPredicate.slt (BitVec.ofNat 32 j.val) 128#32)
      (Scalar.cmpi CmpIPredicate.eq (BitVec.ofNat 32 n.val) 0#32) = if n.val = 0 ∧ j.val < 128 then 1#1 else 0#1 := by decide +kernel
  pointwise [score]
  rw [hw ⟨n, hn⟩ j, ofBits_bot]
  by_cases h : n = 0 ∧ j.val < 128
  · rw [if_pos h, if_pos h]
    rfl
  · rw [if_neg h, if_neg h]
    rfl

end Cert.AttnFIdeal.Rows
end
-- ==== Proof.AttnF.Point.lean ====
module

public import proofs.«01_k».proof.Proof.AttnF.Block
public import proofs.«01_k».proof.Proof.Gen.AttnFIdeal.Value
public import Idealize.ShloMosaic.Lib.Pipeline.ValueKit
public import Idealize.ShloMosaic.Lib.Pointwise
public import Idealize.ShloMosaic.Lib.Claim
public import Idealize.ShloMosaic.Lib.Pipeline.ReadBack

/-! What one point of the attention call stores. -/

@[expose] public section

set_option maxHeartbeats 4000000
set_option maxRecDepth 16384

noncomputable section

open Idealize.ShloMosaic Idealize.ShloMosaic.TcCoe Idealize.SL.Sem Idealize.ShloMosaic.ValueIdx
open Idealize.ShloMosaic.Pipeline (Dat)

namespace Cert.AttnFIdeal.Point

open Cert.AttnFIdeal Cert.AttnFIdeal.Gen Cert.AttnFIdeal.Block

variable (m : (ℓ : Loc nD τ sig) → Buf (Elt Ideal) ℓ)

/-- The first block of a point. -/
def first (t : Fin cfg0.N) : BitVec 32 := Scalar.muli (BitVec.ofNat 32 (grid0.coords t 0).val) 4#32

/-- The rows of the result: the point stores its sixteen blocks. -/
theorem pointO (c : Dev nD) (t : Fin cfg0.N) (y : S512x1024.Idx) (Q : Vec Ideal S512x1024 .bf16)
    (hQ : ∀ (u h : Fin 4) (x : S128x256.Idx) (y : S512x1024.Idx), (y 0).val = 128 * u.val + (x 0).val → (y 1).val = 256 * h.val + (x 1).val →
      outO (X0_0 m c t) (iblk m c 1 t) (iblk m c 2 t) (iblk m c 3 t) (iblk m c 4 t) (iblk m c 5 t) (iblk m c 6 t) (iblk m c 7 t) (iblk m c 8 t) (first t) u h x = Q y) :
    (outsAt0 m c t).1 y = Q y := by
  unfold outsAt0
  frame_out
  canon_tiles x h
  case piece0 => exact hQ 3 3 x y h0 h1
  case piece1 => exact hQ 2 3 x y h0 h1
  case piece2 => exact hQ 1 3 x y h0 h1
  case piece3 => exact hQ 0 3 x y (h0.trans (Nat.zero_add _).symm) h1
  case piece4 => exact hQ 3 2 x y h0 h1
  case piece5 => exact hQ 2 2 x y h0 h1
  case piece6 => exact hQ 1 2 x y h0 h1
  case piece7 => exact hQ 0 2 x y (h0.trans (Nat.zero_add _).symm) h1
  case piece8 => exact hQ 3 1 x y h0 h1
  case piece9 => exact hQ 2 1 x y h0 h1
  case piece10 => exact hQ 1 1 x y h0 h1
  case piece11 => exact hQ 0 1 x y (h0.trans (Nat.zero_add _).symm) h1
  case piece12 => exact hQ 3 0 x y h0 (h1.trans (Nat.zero_add _).symm)
  case piece13 => exact hQ 2 0 x y h0 (h1.trans (Nat.zero_add _).symm)
  case piece14 => exact hQ 1 0 x y h0 (h1.trans (Nat.zero_add _).symm)
  case piece15 => exact hQ 0 0 x y (h0.trans (Nat.zero_add _).symm) (h1.trans (Nat.zero_add _).symm)

/-- The probabilities: the point stores its sixteen blocks. -/
theorem pointP (c : Dev nD) (t : Fin cfg0.N) (y : S4x4x512x256.Idx) (Q : Vec Ideal S4x4x512x256 .bf16)
    (hQ : ∀ (u h : Fin 4) (x : S1x1x512x256.Idx) (y : S4x4x512x256.Idx), (y 0).val = u.val + (x 0).val → (y 1).val = h.val + (x 1).val →
      (y 2).val = 0 + (x 2).val → (y 3).val = 0 + (x 3).val →
      outP (X0_0 m c t) (iblk m c 1 t) (iblk m c 2 t) (iblk m c 5 t) (iblk m c 6 t) (iblk m c 7 t) (iblk m c 8 t) (first t) u h x = Q y) :
    (outsAt0 m c t).2.1 y = Q y := by
  unfold outsAt0
  frame_out
  canon_tiles x h
  case piece0 => exact hQ 3 3 x y h0 h1 (h2.trans (Nat.zero_add _).symm) (h3.trans (Nat.zero_add _).symm)
  case piece1 => exact hQ 2 3 x y h0 h1 (h2.trans (Nat.zero_add _).symm) (h3.trans (Nat.zero_add _).symm)
  case piece2 => exact hQ 1 3 x y h0 h1 (h2.trans (Nat.zero_add _).symm) (h3.trans (Nat.zero_add _).symm)
  case piece3 => exact hQ 0 3 x y (h0.trans (Nat.zero_add _).symm) h1 (h2.trans (Nat.zero_add _).symm) (h3.trans (Nat.zero_add _).symm)
  case piece4 => exact hQ 3 2 x y h0 h1 (h2.trans (Nat.zero_add _).symm) (h3.trans (Nat.zero_add _).symm)
  case piece5 => exact hQ 2 2 x y h0 h1 (h2.trans (Nat.zero_add _).symm) (h3.trans (Nat.zero_add _).symm)
  case piece6 => exact hQ 1 2 x y h0 h1 (h2.trans (Nat.zero_add _).symm) (h3.trans (Nat.zero_add _).symm)
  case piece7 => exact hQ 0 2 x y (h0.trans (Nat.zero_add _).symm) h1 (h2.trans (Nat.zero_add _).symm) (h3.trans (Nat.zero_add _).symm)
  case piece8 => exact hQ 3 1 x y h0 h1 (h2.trans (Nat.zero_add _).symm) (h3.trans (Nat.zero_add _).symm)
  case piece9 => exact hQ 2 1 x y h0 h1 (h2.trans (Nat.zero_add _).symm) (h3.trans (Nat.zero_add _).symm)
  case piece10 => exact hQ 1 1 x y h0 h1 (h2.trans (Nat.zero_add _).symm) (h3.trans (Nat.zero_add _).symm)
  case piece11 => exact hQ 0 1 x y (h0.trans (Nat.zero_add _).symm) h1 (h2.trans (Nat.zero_add _).symm) (h3.trans (Nat.zero_add _).symm)
  case piece12 => exact hQ 3 0 x y h0 (h1.trans (Nat.zero_add _).symm) (h2.trans (Nat.zero_add _).symm) (h3.trans (Nat.zero_add _).symm)
  case piece13 => exact hQ 2 0 x y h0 (h1.trans (Nat.zero_add _).symm) (h2.trans (Nat.zero_add _).symm) (h3.trans (Nat.zero_add _).symm)
  case piece14 => exact hQ 1 0 x y h0 (h1.trans (Nat.zero_add _).symm) (h2.trans (Nat.zero_add _).symm) (h3.trans (Nat.zero_add _).symm)
  case piece15 => exact hQ 0 0 x y (h0.trans (Nat.zero_add _).symm) (h1.trans (Nat.zero_add _).symm) (h2.trans (Nat.zero_add _).symm) (h3.trans (Nat.zero_add _).symm)

/-- The sinks' probabilities: the point stores its sixteen blocks. -/
theorem pointS (c : Dev nD) (t : Fin cfg0.N) (y : S4x4x512x1.Idx) (Q : Vec Ideal S4x4x512x1 .f32)
    (hQ : ∀ (u h : Fin 4) (x : S1x1x512x1.Idx) (y : S4x4x512x1.Idx), (y 0).val = u.val + (x 0).val → (y 1).val = h.val + (x 1).val →
      (y 2).val = 0 + (x 2).val → (y 3).val = 0 + (x 3).val →
      outS (X0_0 m c t) (iblk m c 1 t) (iblk m c 2 t) (iblk m c 5 t) (iblk m c 6 t) (iblk m c 7 t) (iblk m c 8 t) (first t) u h x = Q y) :
    (outsAt0 m c t).2.2 y = Q y := by
  unfold outsAt0
  frame_out
  canon_tiles x h
  case piece0 => exact hQ 3 3 x y h0 h1 (h2.trans (Nat.zero_add _).symm) (h3.trans (Nat.zero_add _).symm)
  case piece1 => exact hQ 2 3 x y h0 h1 (h2.trans (Nat.zero_add _).symm) (h3.trans (Nat.zero_add _).symm)
  case piece2 => exact hQ 1 3 x y h0 h1 (h2.trans (Nat.zero_add _).symm) (h3.trans (Nat.zero_add _).symm)
  case piece3 => exact hQ 0 3 x y (h0.trans (Nat.zero_add _).symm) h1 (h2.trans (Nat.zero_add _).symm) (h3.trans (Nat.zero_add _).symm)
  case piece4 => exact hQ 3 2 x y h0 h1 (h2.trans (Nat.zero_add _).symm) (h3.trans (Nat.zero_add _).symm)
  case piece5 => exact hQ 2 2 x y h0 h1 (h2.trans (Nat.zero_add _).symm) (h3.trans (Nat.zero_add _).symm)
  case piece6 => exact hQ 1 2 x y h0 h1 (h2.trans (Nat.zero_add _).symm) (h3.trans (Nat.zero_add _).symm)
  case piece7 => exact hQ 0 2 x y (h0.trans (Nat.zero_add _).symm) h1 (h2.trans (Nat.zero_add _).symm) (h3.trans (Nat.zero_add _).symm)
  case piece8 => exact hQ 3 1 x y h0 h1 (h2.trans (Nat.zero_add _).symm) (h3.trans (Nat.zero_add _).symm)
  case piece9 => exact hQ 2 1 x y h0 h1 (h2.trans (Nat.zero_add _).symm) (h3.trans (Nat.zero_add _).symm)
  case piece10 => exact hQ 1 1 x y h0 h1 (h2.trans (Nat.zero_add _).symm) (h3.trans (Nat.zero_add _).symm)
  case piece11 => exact hQ 0 1 x y (h0.trans (Nat.zero_add _).symm) h1 (h2.trans (Nat.zero_add _).symm) (h3.trans (Nat.zero_add _).symm)
  case piece12 => exact hQ 3 0 x y h0 (h1.trans (Nat.zero_add _).symm) (h2.trans (Nat.zero_add _).symm) (h3.trans (Nat.zero_add _).symm)
  case piece13 => exact hQ 2 0 x y h0 (h1.trans (Nat.zero_add _).symm) (h2.trans (Nat.zero_add _).symm) (h3.trans (Nat.zero_add _).symm)
  case piece14 => exact hQ 1 0 x y h0 (h1.trans (Nat.zero_add _).symm) (h2.trans (Nat.zero_add _).symm) (h3.trans (Nat.zero_add _).symm)
  case piece15 => exact hQ 0 0 x y (h0.trans (Nat.zero_add _).symm) (h1.trans (Nat.zero_add _).symm) (h2.trans (Nat.zero_add _).symm) (h3.trans (Nat.zero_add _).symm)

end Cert.AttnFIdeal.Point
end
-- ==== Proof.AttnF.Windows.lean ====
module

public import proofs.«01_k».proof.Proof.AttnF.Rows
public import proofs.«01_k».proof.Proof.AttnF.Point
public import proofs.«01_k».proof.Proof.Attn.Data
public import proofs.«01_k».proof.Proof.Attn.RefProbs
public import proofs.«01_k».proof.Proof.Gen.AttnFIdeal.Value
public import Idealize.ShloMosaic.Lib.Pipeline.ValueKit
public import Idealize.ShloMosaic.Lib.Pointwise
public import Idealize.ShloMosaic.Lib.Claim

/-! What the attention call reads at a point, in terms of its arguments. -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnFIdeal.Array

open Cert.AttnFIdeal Cert.AttnFIdeal.Gen Cert.AttnFIdeal.Block Cert.AttnFIdeal.Rows Cert.AttnFIdeal.Point Cert.AttnFormula Cert.AttnRef.Probs

section Forms

variable (p : Fin 4096 → Fin 5632 → EReal) (gq gk : Fin 64 → EReal) (B : Fin 4 → Fin 512 → Fin 256 → EReal) (z : Fin 4 → Fin 512 → EReal)

/-- A row's scores. -/
def scoreE (n : Fin 32) (h : Fin 4) (s : Fin 512) (j : Fin 256) : EReal :=
  if n.val = 0 ∧ j.val < 128 then ⊥
  else (∑ d : Fin 64, nrm (qry p n h s) gq d * nrm (keyW p n h j) gk d) * Ideal.ofBits FTy.f32 0x3E000000#32 + B h s j

/-- A row's probabilities. -/
def probE (n : Fin 32) (h : Fin 4) (s : Fin 512) (j : Fin 256) : EReal :=
  Ideal.exp (scoreE p gq gk B n h s j - topE (scoreE p gq gk B n h s) (z h s)) * invE (scoreE p gq gk B n h s) (z h s)

/-- A row's sink's probability. -/
def sinkE (n : Fin 32) (h : Fin 4) (s : Fin 512) : EReal :=
  Ideal.exp (z h s - topE (scoreE p gq gk B n h s) (z h s)) * invE (scoreE p gq gk B n h s) (z h s)

/-- A row's output. -/
def outE (n : Fin 32) (h : Fin 4) (s : Fin 512) (d : Fin 64) : EReal :=
  ∑ j : Fin 256, probE p gq gk B z n h s j * valW p n h j d

end Forms

variable (m : (ℓ : Loc nD τ sig) → Buf (Elt Ideal) ℓ)

/-- The projected rows. -/
def pV (c : Dev nD) (r : Fin 4096) (k : Fin 5632) : EReal := m ((c : Thread nD τ).loc main_arg0) (Idealize.ShloMosaic.ix2 r k)

/-- The queries' gain. -/
def gqV (c : Dev nD) (d : Fin 64) : EReal := m ((c : Thread nD τ).loc main_arg1) (Idealize.ShloMosaic.ix1 d)

/-- The keys' gain. -/
def gkV (c : Dev nD) (d : Fin 64) : EReal := m ((c : Thread nD τ).loc main_arg2) (Idealize.ShloMosaic.ix1 d)

/-- The sink of a row. -/
def zV (c : Dev nD) (h : Fin 4) (s : Fin 512) : EReal := m ((c : Thread nD τ).loc main_arg3) (Idealize.ShloMosaic.ix1 ⟨h.val * 4 + s.val / 128, by omega⟩)

/-- The bias of a row, minus infinity where the row does not see. -/
def bV (c : Dev nD) (h : Fin 4) (s : Fin 512) (j : Fin 256) : EReal :=
  Scalar.select (near (s.val % 128) j.val)
    (m ((c : Thread nD τ).loc main_arg4) (Idealize.ShloMosaic.ix3 ⟨h.val * 4 + s.val / 128, by omega⟩ ⟨s.val % 128, by omega⟩ j) : EReal) ⊥

/-- The block `u` of the point `t`. -/
def blkN (t : Fin cfg0.N) (u : Fin 4) : Fin 32 :=
  ⟨4 * t.val + u.val, by have : t.val < 8 := t.isLt; omega⟩

/-- Every window's block index at every point. -/
theorem idx : ∀ t : Fin cfg0.N, win0_0.index t = ![t.val, 2] ∧ win0_1.index t = ![4 * t.val - 1, 12] ∧ win0_2.index t = ![t.val, 12]
    ∧ win0_3.index t = ![4 * t.val - 1, 13] ∧ win0_4.index t = ![t.val, 13] ∧ win0_5.index t = ![0, 0] ∧ win0_6.index t = ![0, 0]
    ∧ win0_7.index t = ![0, 0, 0] ∧ win0_8.index t = ![0, 0, 0] ∧ win0_9.index t = ![t.val, 0]
    ∧ win0_10.index t = ![t.val, 0, 0, 0] ∧ win0_11.index t = ![t.val, 0, 0, 0] ∧ t.val < 8 :=
  (by decide +kernel : ∀ t : Fin grid0.N, _)

theorem first_at : ∀ (t : Fin cfg0.N) (u : Fin 4), Scalar.addi (first t) (BitVec.ofNat 32 u.val) = BitVec.ofNat 32 (4 * t.val + u.val) :=
  (by decide +kernel : ∀ (t : Fin grid0.N) (u : Fin 4), Scalar.addi (Scalar.muli (BitVec.ofNat 32 (grid0.coords t 0).val) 4#32) (BitVec.ofNat 32 u.val) = BitVec.ofNat 32 (4 * t.val + u.val))

theorem rows_at (x : Vec Ideal S512x1024 .bf16) (u h : Fin 4) (a : Fin 128) (b : Fin 256) :
    (rows x u h (Idealize.ShloMosaic.ix2 a b) : EReal) = x (Idealize.ShloMosaic.ix2 ⟨128 * u.val + a.val, by omega⟩ ⟨256 * h.val + b.val, by omega⟩) := by
  unfold rows
  pointwise []
  blk_ext

theorem sinks_at (x : Vec Ideal S4x512x1 .f32) (h : Fin 4) (s : Fin 512) :
    (sinks x h (Idealize.ShloMosaic.ix3 0 s 0) : EReal) = x (Idealize.ShloMosaic.ix3 h s 0) := by
  unfold sinks
  pointwise []
  blk_ext

theorem biasOf_at (x : Vec Ideal S4x512x256 .f32) (h : Fin 4) (s : Fin 512) (j : Fin 256) :
    (biasOf x h (Idealize.ShloMosaic.ix3 0 s j) : EReal) = x (Idealize.ShloMosaic.ix3 h s j) := by
  unfold biasOf
  pointwise []
  blk_ext

/-- The queries' window. -/
theorem at0 (c : Dev nD) (t : Fin cfg0.N) (u h : Fin 4) (a : Fin 128) (b : Fin 256) :
    (rows (X0_0 m c t) u h (Idealize.ShloMosaic.ix2 a b) : EReal) = pV m c ⟨128 * (blkN t u).val + a.val, by have := (blkN t u).isLt; omega⟩ ⟨2048 + (256 * h.val + b.val), by omega⟩ := by
  have ht := (idx t).2.2.2.2.2.2.2.2.2.2.2.2
  refine Eq.trans (b := (X0_0 m c t (Idealize.ShloMosaic.ix2 ⟨128 * u.val + a.val, by omega⟩ ⟨256 * h.val + b.val, by omega⟩) : EReal)) ?_ ?_
  · exact rows_at _ u h a b
  · unfold X0_0 Pipeline.Window.fill
    rw [dif_pos (moved0_0 t _)]
    unfold pV blkN
    blk_point [iblk, V, idx t]

theorem at12 (c : Dev nD) (t : Fin cfg0.N) (u h : Fin 4) (j : Fin 256) (d : Fin 64) :
    keyRow (iblk m c 1 t) (iblk m c 2 t) ⟨128 * u.val + j.val, by omega⟩ ⟨64 * h.val + d.val, by omega⟩ = keyW (pV m c) (blkN t u) h j d := by
  have ht := (idx t).2.2.2.2.2.2.2.2.2.2.2.2
  unfold keyRow keyW wrow blkN pV
  by_cases i : 128 * u.val + j.val < 128
  · rw [dif_pos i]
    by_cases i2 : 128 * (4 * t.val + u.val) + j.val < 128
    · simp only [if_pos i2]
      blk_point [iblk, V, idx t]
    · simp only [if_neg i2]
      blk_point [iblk, V, idx t]
  · rw [dif_neg i]
    have i2 : ¬ 128 * (4 * t.val + u.val) + j.val < 128 := by omega
    simp only [if_neg i2]
    blk_point [iblk, V, idx t]

theorem at34 (c : Dev nD) (t : Fin cfg0.N) (u h : Fin 4) (j : Fin 256) (d : Fin 64) :
    keyRow (iblk m c 3 t) (iblk m c 4 t) ⟨128 * u.val + j.val, by omega⟩ ⟨64 * h.val + d.val, by omega⟩ = valW (pV m c) (blkN t u) h j d := by
  have ht := (idx t).2.2.2.2.2.2.2.2.2.2.2.2
  unfold keyRow valW wrow blkN pV
  by_cases i : 128 * u.val + j.val < 128
  · rw [dif_pos i]
    by_cases i2 : 128 * (4 * t.val + u.val) + j.val < 128
    · simp only [if_pos i2]
      blk_point [iblk, V, idx t]
    · simp only [if_neg i2]
      blk_point [iblk, V, idx t]
  · rw [dif_neg i]
    have i2 : ¬ 128 * (4 * t.val + u.val) + j.val < 128 := by omega
    simp only [if_neg i2]
    blk_point [iblk, V, idx t]

/-- The gain the region is entered with. -/
theorem entry5 (c : Dev nD) (b : Fin 256) : (V m c main_v20 (Idealize.ShloMosaic.ix2 0 b) : EReal) = gqV m c ⟨b.val % 64, by omega⟩ := by
  unfold gqV
  simp only [V, List.flatten_cons, List.flatten_nil, List.append_nil, hostOps0, hostOps0_1, hostOps0_2, List.cons_append, List.nil_append]
  after_results_simp
  pointwise

theorem at5 (c : Dev nD) (t : Fin cfg0.N) (b : Fin 256) : (iblk m c 5 t (Idealize.ShloMosaic.ix2 0 b) : EReal) = gqV m c ⟨b.val % 64, by omega⟩ := by
  simp only [iblk]
  blk_simp
  refine Eq.trans (b := V m c main_v20 (Idealize.ShloMosaic.ix2 0 b)) ?_ (entry5 m c b)
  blk_ext [idx t]

/-- The gain the region is entered with. -/
theorem entry6 (c : Dev nD) (b : Fin 256) : (V m c main_v24 (Idealize.ShloMosaic.ix2 0 b) : EReal) = gkV m c ⟨b.val % 64, by omega⟩ := by
  unfold gkV
  simp only [V, List.flatten_cons, List.flatten_nil, List.append_nil, hostOps0, hostOps0_1, hostOps0_2, List.cons_append, List.nil_append]
  after_results_simp
  pointwise

theorem at6 (c : Dev nD) (t : Fin cfg0.N) (b : Fin 256) : (iblk m c 6 t (Idealize.ShloMosaic.ix2 0 b) : EReal) = gkV m c ⟨b.val % 64, by omega⟩ := by
  simp only [iblk]
  blk_simp
  refine Eq.trans (b := V m c main_v24 (Idealize.ShloMosaic.ix2 0 b)) ?_ (entry6 m c b)
  blk_ext [idx t]

/-- The sinks the region is entered with. -/
theorem entry7 (c : Dev nD) (h : Fin 4) (s : Fin 512) : (V m c main_v15 (Idealize.ShloMosaic.ix3 h s (0 : Fin 1)) : EReal) = zV m c h s := by
  unfold zV
  simp only [V, List.flatten_cons, List.flatten_nil, List.append_nil, hostOps0, hostOps0_1, hostOps0_2, List.cons_append, List.nil_append]
  after_results_simp
  pointwise

theorem at7 (c : Dev nD) (t : Fin cfg0.N) (h : Fin 4) (s : Fin 512) : (sinkOf (sinks (iblk m c 7 t) h) (Idealize.ShloMosaic.ix2 s 0) : EReal) = zV m c h s := by
  refine Eq.trans (b := (sinks (iblk m c 7 t) h (Idealize.ShloMosaic.ix3 0 s 0) : EReal)) ?_ ?_
  · pointwise [sinkOf]
  · refine Eq.trans (b := (iblk m c 7 t (Idealize.ShloMosaic.ix3 h s 0) : EReal)) (sinks_at _ h s) ?_
    simp only [iblk]
    blk_simp
    refine Eq.trans (b := V m c main_v15 (Idealize.ShloMosaic.ix3 h s (0 : Fin 1))) ?_ (entry7 m c h s)
    blk_ext [idx t]

/-- Which entries a row sees by their distance. -/
def nearW : IVec S16x128x256 1 :=
  andi (cmpi .sge (subi (addi (iotaInDim S16x128x256 32 1) (broadcastInDim S16x128x256 ![] bcast_S_S16x128x256 (constantI S_ 32 128#32)))
      (iotaInDim S16x128x256 32 2)) (broadcastInDim S16x128x256 ![] bcast_S_S16x128x256 (constantI S_ 32 0#32)))
    (cmpi .slt (subi (addi (iotaInDim S16x128x256 32 1) (broadcastInDim S16x128x256 ![] bcast_S_S16x128x256 (constantI S_ 32 128#32)))
      (iotaInDim S16x128x256 32 2)) (broadcastInDim S16x128x256 ![] bcast_S_S16x128x256 (constantI S_ 32 128#32)))

/-- The bias the region is entered with. -/
theorem entry8a (c : Dev nD) : V m c main_v11 = (shapeCast S4x512x256 (select nearW (m ((c : Thread nD τ).loc main_arg4) : FVec Ideal S16x128x256 .f32)
    (broadcastInDim S16x128x256 ![] bcast_S_S16x128x256 (constant S_ .f32 0xFF800000#32))) shapeCasts_S16x128x256_S4x512x256 : FVec Ideal S4x512x256 .f32) := by
  simp only [V, List.flatten_cons, List.flatten_nil, List.append_nil, hostOps0, hostOps0_1, hostOps0_2, List.cons_append, List.nil_append]
  after_results_simp
  rfl

theorem entry8 (c : Dev nD) (h : Fin 4) (s : Fin 512) (j : Fin 256) : (V m c main_v11 (Idealize.ShloMosaic.ix3 h s j) : EReal) = bV m c h s j := by
  unfold bV near
  rw [← ofBits_bot, entry8a]
  pointwise [nearW]

theorem at8 (c : Dev nD) (t : Fin cfg0.N) (h : Fin 4) (s : Fin 512) (j : Fin 256) : (biasOf (iblk m c 8 t) h (Idealize.ShloMosaic.ix3 0 s j) : EReal) = bV m c h s j := by
  refine Eq.trans (b := (iblk m c 8 t (Idealize.ShloMosaic.ix3 h s j) : EReal)) (biasOf_at _ h s j) ?_
  simp only [iblk]
  blk_simp
  refine Eq.trans (b := V m c main_v11 (Idealize.ShloMosaic.ix3 h s j)) ?_ (entry8 m c h s j)
  blk_ext [idx t]

end Cert.AttnFIdeal.Array
end
-- ==== Proof.AttnF.Kernel.lean ====
module

public import proofs.«01_k».proof.Proof.AttnF.Windows
public import proofs.«01_k».proof.Proof.Gen.AttnFIdeal.Value
public import Idealize.ShloMosaic.Lib.Pipeline.ValueKit
public import Idealize.ShloMosaic.Lib.Pointwise
public import Idealize.ShloMosaic.Lib.Claim

/-! The three arrays the attention call ends with. -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnFIdeal.Array

open Cert.AttnFIdeal Cert.AttnFIdeal.Gen Cert.AttnFIdeal.Block Cert.AttnFIdeal.Rows Cert.AttnFIdeal.Point Cert.AttnFormula Cert.AttnRef.Probs

variable (m : (ℓ : Loc nD τ sig) → Buf (Elt Ideal) ℓ)

theorem nrm_congr {f f' g g' : Fin 64 → EReal} {i i' : Fin 64} (hf : f = f') (hg : g = g') (hi : i = i') : nrm f g i = nrm f' g' i' := by
  rw [hf, hg, hi]

/-- A normed query of a point. -/
theorem query_at (c : Dev nD) (t : Fin cfg0.N) (u h : Fin 4) (s : Fin 512) (d : Fin 64) :
    (normQ (rows (X0_0 m c t) u h) (iblk m c 5 t) (Idealize.ShloMosaic.ix2 ⟨s.val % 128, by omega⟩ ⟨64 * (s.val / 128) + d.val, by omega⟩) : EReal)
      = nrm (qry (pV m c) (blkN t u) h s) (gqV m c) d := by
  refine (normQ_at _ _ _ _).trans (nrm_congr (funext fun e => ?_) (funext fun e => ?_) (Fin.ext ?_))
  · refine (at0 m c t u h _ _).trans ?_
    unfold qry
    exact congrArg (pV m c _) (Fin.ext (by show 2048 + (256 * h.val + (64 * ((64 * (s.val / 128) + d.val) / 64) + e.val)) = 2048 + (256 * h.val + 64 * (s.val / 128) + e.val); omega))
  · refine (at5 m c t _).trans (congrArg (gqV m c) (Fin.ext ?_))
    show (64 * ((64 * (s.val / 128) + d.val) / 64) + e.val) % 64 = e.val
    omega
  · show (64 * (s.val / 128) + d.val) % 64 = d.val
    omega

/-- A normed key of a point. -/
theorem key_at (c : Dev nD) (t : Fin cfg0.N) (u h : Fin 4) (s : Fin 512) (j : Fin 256) (d : Fin 64) :
    (win u (spread h (normK (iblk m c 1 t) (iblk m c 2 t) (iblk m c 6 t))) (Idealize.ShloMosaic.ix2 j ⟨64 * (s.val / 128) + d.val, by omega⟩) : EReal)
      = nrm (keyW (pV m c) (blkN t u) h j) (gkV m c) d := by
  refine (win_at u _ j _).trans ((spread_at h _ _ _).trans ((normK_at _ _ _ _ _).trans (nrm_congr (funext fun e => ?_) (funext fun e => ?_) (Fin.ext ?_))))
  · refine Eq.trans ?_ (at12 m c t u h j e)
    refine congrArg (keyRow (iblk m c 1 t) (iblk m c 2 t) _) (Fin.ext ?_)
    show 64 * ((64 * h.val + (64 * (s.val / 128) + d.val) % 64) / 64) + e.val = 64 * h.val + e.val
    omega
  · refine (at6 m c t _).trans (congrArg (gkV m c) (Fin.ext ?_))
    show (64 * ((64 * h.val + (64 * (s.val / 128) + d.val) % 64) / 64) + e.val) % 64 = e.val
    omega
  · show (64 * h.val + (64 * (s.val / 128) + d.val) % 64) % 64 = d.val
    omega

/-- A score of a point. -/
theorem scoreU_at (c : Dev nD) (t : Fin cfg0.N) (u h : Fin 4) (s : Fin 512) (j : Fin 256) :
    (scoreU (X0_0 m c t) (iblk m c 1 t) (iblk m c 2 t) (iblk m c 5 t) (iblk m c 6 t) (iblk m c 8 t) (first t) u h (Idealize.ShloMosaic.ix2 s j) : EReal)
      = scoreE (pV m c) (gqV m c) (gkV m c) (bV m c) (blkN t u) h s j := by
  have ht := (idx t).2.2.2.2.2.2.2.2.2.2.2.2
  unfold scoreU scoreE
  rw [first_at t u, score_at _ (by omega), at8]
  have hs : s.val / 128 < 4 := by omega
  have e : (∑ x : Fin 256, stackQ (rows (X0_0 m c t) u h) (iblk m c 5 t) (Idealize.ShloMosaic.ix2 s x)
        * win u (spread h (normK (iblk m c 1 t) (iblk m c 2 t) (iblk m c 6 t))) (Idealize.ShloMosaic.ix2 j x) : EReal)
      = ∑ d : Fin 64, nrm (qry (pV m c) (blkN t u) h s) (gqV m c) d * nrm (keyW (pV m c) (blkN t u) h j) (gkV m c) d := by
    refine Eq.trans (Finset.sum_congr rfl fun x _ => ?_) ((sum_head (s.val / 128) hs fun x : Fin 256 =>
      (normQ (rows (X0_0 m c t) u h) (iblk m c 5 t) (Idealize.ShloMosaic.ix2 ⟨s.val % 128, by omega⟩ x) : EReal)
        * win u (spread h (normK (iblk m c 1 t) (iblk m c 2 t) (iblk m c 6 t))) (Idealize.ShloMosaic.ix2 j x)).trans
      (Finset.sum_congr rfl fun d _ => congrArg₂ (· * ·) (query_at m c t u h s d) (key_at m c t u h s j d)))
    refine (congrArg (· * _) (stackQ_at _ _ s x)).trans ?_
    rw [ite_mul, zero_mul]
  exact congrArg (fun y : EReal => if 4 * t.val + u.val = 0 ∧ j.val < 128 then (⊥ : EReal) else y * Ideal.ofBits FTy.f32 0x3E000000#32 + bV m c h s j) e

theorem scoreU_row (c : Dev nD) (t : Fin cfg0.N) (u h : Fin 4) (s : Fin 512) :
    (fun j : Fin 256 => (scoreU (X0_0 m c t) (iblk m c 1 t) (iblk m c 2 t) (iblk m c 5 t) (iblk m c 6 t) (iblk m c 8 t) (first t) u h (Idealize.ShloMosaic.ix2 s j) : EReal))
      = scoreE (pV m c) (gqV m c) (gkV m c) (bV m c) (blkN t u) h s := funext fun j => scoreU_at m c t u h s j

/-- A probability of a point. -/
theorem probU_at (c : Dev nD) (t : Fin cfg0.N) (u h : Fin 4) (s : Fin 512) (j : Fin 256) :
    (probU (X0_0 m c t) (iblk m c 1 t) (iblk m c 2 t) (iblk m c 5 t) (iblk m c 6 t) (iblk m c 7 t) (iblk m c 8 t) (first t) u h (Idealize.ShloMosaic.ix2 s j) : EReal)
      = probE (pV m c) (gqV m c) (gkV m c) (bV m c) (zV m c) (blkN t u) h s j := by
  unfold probU probE
  rw [prob_at, scoreU_row, at7, scoreU_at]

/-- A stored probability of a point. -/
theorem outP_at (c : Dev nD) (t : Fin cfg0.N) (u h : Fin 4) (s : Fin 512) (j : Fin 256) :
    (outP (X0_0 m c t) (iblk m c 1 t) (iblk m c 2 t) (iblk m c 5 t) (iblk m c 6 t) (iblk m c 7 t) (iblk m c 8 t) (first t) u h (Idealize.ShloMosaic.ix4 0 0 s j) : EReal)
      = probE (pV m c) (gqV m c) (gkV m c) (bV m c) (zV m c) (blkN t u) h s j := by
  rw [← probU_at]
  pointwise [outP]

/-- A stored sink's probability of a point. -/
theorem outS_at (c : Dev nD) (t : Fin cfg0.N) (u h : Fin 4) (s : Fin 512) :
    (outS (X0_0 m c t) (iblk m c 1 t) (iblk m c 2 t) (iblk m c 5 t) (iblk m c 6 t) (iblk m c 7 t) (iblk m c 8 t) (first t) u h (Idealize.ShloMosaic.ix4 0 0 s 0) : EReal)
      = sinkE (pV m c) (gqV m c) (gkV m c) (bV m c) (zV m c) (blkN t u) h s := by
  unfold sinkE
  rw [← scoreU_row, ← at7 m c t, ← sinkProb_at]
  pointwise [outS]

/-- A stored value of a point. -/
theorem outO_at (c : Dev nD) (t : Fin cfg0.N) (u h : Fin 4) (a : Fin 128) (b : Fin 256) :
    (outO (X0_0 m c t) (iblk m c 1 t) (iblk m c 2 t) (iblk m c 3 t) (iblk m c 4 t) (iblk m c 5 t) (iblk m c 6 t) (iblk m c 7 t) (iblk m c 8 t) (first t) u h (Idealize.ShloMosaic.ix2 a b) : EReal)
      = outE (pV m c) (gqV m c) (gkV m c) (bV m c) (zV m c) (blkN t u) h ⟨128 * (b.val / 64) + a.val, by omega⟩ ⟨b.val % 64, by omega⟩ := by
  unfold outO outE
  refine (unstack_at _ a b).trans ?_
  refine Eq.trans (b := (∑ j : Fin 256, probU (X0_0 m c t) (iblk m c 1 t) (iblk m c 2 t) (iblk m c 5 t) (iblk m c 6 t) (iblk m c 7 t) (iblk m c 8 t) (first t) u h (Idealize.ShloMosaic.ix2 ⟨128 * (b.val / 64) + a.val, by omega⟩ j)
      * win u (spread h (k0_pay17 (iblk m c 3 t) (iblk m c 4 t))) (Idealize.ShloMosaic.ix2 j b) : EReal)) ?_ ?_
  · pointwise [dotV]
  · refine Finset.sum_congr rfl fun j _ => congrArg₂ (· * ·) (probU_at m c t u h _ j) ?_
    exact (win_at u _ j b).trans ((spread_at h _ _ b).trans ((pay17_at _ _ _ _).trans (at34 m c t u h j ⟨b.val % 64, by omega⟩)))

/-- The attention's output. -/
def resO (c : Dev nD) : (⟨S4096x1024, .bf16⟩ : BufTy).Contents (Elt Ideal) := fun i =>
  outE (pV m c) (gqV m c) (gkV m c) (bV m c) (zV m c) ⟨(i 0).val / 128, by have : (i 0).val < 4096 := (i 0).isLt; omega⟩
    ⟨(i 1).val / 256, by have : (i 1).val < 1024 := (i 1).isLt; omega⟩
    ⟨128 * ((i 1).val % 256 / 64) + (i 0).val % 128, by omega⟩ ⟨(i 1).val % 64, by omega⟩

/-- The probabilities. -/
def resP (c : Dev nD) : (⟨S32x4x512x256, .bf16⟩ : BufTy).Contents (Elt Ideal) := fun i =>
  probE (pV m c) (gqV m c) (gkV m c) (bV m c) (zV m c) (i 0) (i 1) (i 2) (i 3)

/-- The sinks' probabilities. -/
def resS (c : Dev nD) : (⟨S32x4x512x1, .f32⟩ : BufTy).Contents (Elt Ideal) := fun i =>
  sinkE (pV m c) (gqV m c) (gkV m c) (bV m c) (zV m c) (i 0) (i 1) (i 2)

theorem finalO (c : Dev nD) : (dats m 0 c).arrAt 9 (cfgs 0).N = resO m c := by
  refine (dats m 0 c).arrAt_eq_of_covers 9 _ (by decide +kernel) fun t _ y => ?_
  have hi := idx t
  blk_simp
  rw [after0_9]
  refine pointO m c t y (fun y => resO m c (((cfg0.win 9).blk t).view.emb y)) fun u h x y h0 h1 => ?_
  have hx0 : (x 0).val < 128 := (x 0).isLt
  have hx1 : (x 1).val < 256 := (x 1).isLt
  have e0 : ((((cfg0.win 9).blk t).view.emb y) 0).val = t.val * 512 + (y 0).val := by blk_point [hi]
  have e1 : ((((cfg0.win 9).blk t).view.emb y) 1).val = (y 1).val := by blk_point [hi]
  rw [Idealize.ShloMosaic.ValueIdx.eq_ix2 (n0 := 128) (n1 := 256) x]
  refine (outO_at m c t u h (x 0) (x 1)).trans ?_
  unfold resO blkN
  congr 1
  · exact Fin.ext (by show 4 * t.val + u.val = _ / 128; rw [e0, h0]; omega)
  · exact Fin.ext (by show h.val = _ / 256; rw [e1, h1]; omega)
  · exact Fin.ext (by show 128 * ((x 1).val / 64) + (x 0).val = 128 * (_ % 256 / 64) + _ % 128; rw [e0, e1, h0, h1]; omega)
  · exact Fin.ext (by show (x 1).val % 64 = _ % 64; rw [e1, h1]; omega)

theorem finalP (c : Dev nD) : (dats m 0 c).arrAt 10 (cfgs 0).N = resP m c := by
  refine (dats m 0 c).arrAt_eq_of_covers 10 _ (by decide +kernel) fun t _ y => ?_
  have hi := idx t
  blk_simp
  rw [after0_10]
  refine pointP m c t y (fun y => resP m c (((cfg0.win 10).blk t).view.emb y)) fun u h x y h0 h1 h2 h3 => ?_
  have hx0 : (x 0).val < 1 := (x 0).isLt
  have hx1 : (x 1).val < 1 := (x 1).isLt
  have e0 : ((((cfg0.win 10).blk t).view.emb y) 0).val = t.val * 4 + (y 0).val := by blk_point [hi]
  have e1 : ((((cfg0.win 10).blk t).view.emb y) 1).val = (y 1).val := by blk_point [hi]
  have e2 : ((((cfg0.win 10).blk t).view.emb y) 2).val = (y 2).val := by blk_point [hi]
  have e3 : ((((cfg0.win 10).blk t).view.emb y) 3).val = (y 3).val := by blk_point [hi]
  rw [Idealize.ShloMosaic.ValueIdx.eq_ix4 (n0 := 1) (n1 := 1) (n2 := 512) (n3 := 256) x, show x 0 = (0 : Fin 1) from Fin.ext (by show (x 0).val = 0; omega),
    show x 1 = (0 : Fin 1) from Fin.ext (by show (x 1).val = 0; omega)]
  refine (outP_at m c t u h (x 2) (x 3)).trans ?_
  unfold resP blkN
  congr 1
  · exact Fin.ext (by show 4 * t.val + u.val = _; rw [e0, h0]; omega)
  · exact Fin.ext (by show h.val = _; rw [e1, h1]; omega)
  · exact Fin.ext (by show (x 2).val = _; rw [e2, h2]; omega)
  · exact Fin.ext (by show (x 3).val = _; rw [e3, h3]; omega)

theorem finalS (c : Dev nD) : (dats m 0 c).arrAt 11 (cfgs 0).N = resS m c := by
  refine (dats m 0 c).arrAt_eq_of_covers 11 _ (by decide +kernel) fun t _ y => ?_
  have hi := idx t
  blk_simp
  rw [after0_11]
  refine pointS m c t y (fun y => resS m c (((cfg0.win 11).blk t).view.emb y)) fun u h x y h0 h1 h2 h3 => ?_
  have hx0 : (x 0).val < 1 := (x 0).isLt
  have hx1 : (x 1).val < 1 := (x 1).isLt
  have hx3 : (x 3).val < 1 := (x 3).isLt
  have e0 : ((((cfg0.win 11).blk t).view.emb y) 0).val = t.val * 4 + (y 0).val := by blk_point [hi]
  have e1 : ((((cfg0.win 11).blk t).view.emb y) 1).val = (y 1).val := by blk_point [hi]
  have e2 : ((((cfg0.win 11).blk t).view.emb y) 2).val = (y 2).val := by blk_point [hi]
  rw [Idealize.ShloMosaic.ValueIdx.eq_ix4 (n0 := 1) (n1 := 1) (n2 := 512) (n3 := 1) x, show x 0 = (0 : Fin 1) from Fin.ext (by show (x 0).val = 0; omega),
    show x 1 = (0 : Fin 1) from Fin.ext (by show (x 1).val = 0; omega), show x 3 = (0 : Fin 1) from Fin.ext (by show (x 3).val = 0; omega)]
  refine (outS_at m c t u h (x 2)).trans ?_
  unfold resS blkN
  congr 1
  · exact Fin.ext (by show 4 * t.val + u.val = _; rw [e0, h0]; omega)
  · exact Fin.ext (by show h.val = _; rw [e1, h1]; omega)
  · exact Fin.ext (by show (x 2).val = _; rw [e2, h2]; omega)

end Cert.AttnFIdeal.Array
end
-- ==== Proof.AttnF.Meet.lean ====
module

public import proofs.«01_k».proof.Proof.AttnF.Kernel
public import proofs.«01_k».proof.Proof.Attn.Meet
public import proofs.«01_k».proof.Proof.Gen.AttnFRefIdeal.Read
public import Idealize.ShloMosaic.Lib.Pipeline.ValueKit
public import Idealize.ShloMosaic.Lib.Pointwise
public import Idealize.ShloMosaic.Lib.Claim

/-! Over real arguments the attention call computes the softmax and its sums. -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnFMeet

open Cert.AttnFIdeal Cert.AttnFIdeal.Gen Cert.AttnFIdeal.Array Cert.AttnFIdeal.Rows Cert.AttnFormula Cert.AttnReal Cert.Lift
open Cert.AttnRef.Rows Cert.AttnRef.Probs Cert.AttnRef.Grad Cert.AttnRef.Results Cert.AttnMeet

variable (p : Fin 4096 → Fin 5632 → ℝ) (gq gk : Fin 64 → ℝ) (sk : Fin 16 → ℝ) (bs : Fin 16 → Fin 128 → Fin 256 → ℝ)

/-- The bias as the call is given it. -/
def biasR (h : Fin 4) (s : Fin 512) (j : Fin 256) : EReal :=
  if near (s.val % 128) j.val = 1#1 then ((bs ⟨4 * h.val + s.val / 128, by omega⟩ ⟨s.val % 128, by omega⟩ j : ℝ) : EReal) else ⊥

/-- The sinks as the call is given them. -/
def sinkR (h : Fin 4) (s : Fin 512) : EReal := ((sk ⟨4 * h.val + s.val / 128, by omega⟩ : ℝ) : EReal)

theorem has_rest : ∀ (n : Fin 32) (j : Fin 256), ¬ (n.val = 0 ∧ j.val < 128) → has n.val j.val = 1#1 := by decide +kernel

theorem sees_near (n : Fin 32) (a : Fin 128) (j : Fin 256) (hz : ¬ (n.val = 0 ∧ j.val < 128)) : sees n a j ↔ near a.val j.val = 1#1 := by
  unfold sees
  rw [sees_form, has_rest n j hz]
  generalize near a.val j.val = b
  revert b
  decide

/-- The row's head in its group, and its token in its block. -/
def gOf (s : Fin 512) : Fin 4 := ⟨s.val / 128, by omega⟩
def aOf (s : Fin 512) : Fin 128 := ⟨s.val % 128, by omega⟩

theorem score_up (n : Fin 32) (h : Fin 4) (s : Fin 512) (j : Fin 256) :
    scoreE (up2 p) (up1 gq) (up1 gk) (biasR bs) n h s j
      = if sees n (aOf s) j then ((scoreR p gq gk bs n h (gOf s) (aOf s) j : ℝ) : EReal) else ⊥ := by
  unfold scoreE
  by_cases hz : n.val = 0 ∧ j.val < 128
  · rw [if_pos hz, if_neg (not_sees hz.1 hz.2)]
  · rw [if_neg hz]
    have hk : keyW (up2 p) n h j = up1 (keyR p n h j) := funext fun d => congrArg Real.toEReal (win_off p 3072 (by omega) n h j hz d)
    have hq : qry (up2 p) n h s = up1 (qryR p n h s) := rfl
    have hd : (∑ d : Fin 64, nrm (qry (up2 p) n h s) (up1 gq) d * nrm (keyW (up2 p) n h j) (up1 gk) d)
        = ((∑ d : Fin 64, nrmR (keyR p n h j) gk d * nrmR (qryR p n h s) gq d : ℝ) : EReal) := by
      rw [hk, hq, nrm_up, nrm_up]
      simp only [up1, ← EReal.coe_mul, ← coe_sum]
      exact congrArg Real.toEReal (Finset.sum_congr rfl fun d _ => mul_comm _ _)
    rw [hd, ofBits_eighth, ← EReal.coe_mul]
    unfold biasR
    by_cases hs : near (s.val % 128) j.val = 1#1
    · rw [if_pos hs, if_pos ((sees_near n (aOf s) j hz).mpr hs), ← EReal.coe_add]
      unfold scoreR
      rw [show row (gOf s) (aOf s) = s from row_of s]
      rfl
    · rw [if_neg hs, if_neg fun e => hs ((sees_near n (aOf s) j hz).mp e)]
      exact EReal.add_bot _

theorem top_up (n : Fin 32) (h : Fin 4) (s : Fin 512) :
    topE (scoreE (up2 p) (up1 gq) (up1 gk) (biasR bs) n h s) (sinkR sk h s) = ((topR p gq gk sk bs n h (gOf s) (aOf s) : ℝ) : EReal) := by
  rw [← v95_at, AttnRefIdeal.Read.val_main_v95_apply, sink_at]
  unfold topE sinkR
  have e : (Finset.univ.sup (scoreE (up2 p) (up1 gq) (up1 gk) (biasR bs) n h s) : EReal)
      = AttnRefIdeal.Read.val_main_v93 (F := Ideal) (X0 p) (X1 gq) (X1 gk) (X4 bs) (Idealize.ShloMosaic.ix5 n h (gOf s) (aOf s) (0 : Fin 1)) := by
    pointwise [AttnRefIdeal.Read.val_main_v93]
    rw [v87_at]
    exact Finset.sup_congr rfl fun j _ => score_up p gq gk bs n h s j
  rw [e]
  rfl

theorem term_up (n : Fin 32) (h : Fin 4) (s : Fin 512) (j : Fin 256) :
    Ideal.exp (scoreE (up2 p) (up1 gq) (up1 gk) (biasR bs) n h s j - topE (scoreE (up2 p) (up1 gq) (up1 gk) (biasR bs) n h s) (sinkR sk h s))
      = ((termR p gq gk sk bs n h (gOf s) (aOf s) j : ℝ) : EReal) := by
  rw [top_up, score_up]
  unfold termR
  by_cases hs : sees n (aOf s) j
  · rw [if_pos hs, if_pos hs, ← EReal.coe_sub, Ideal.exp_coe]
  · rw [if_neg hs, if_neg hs, EReal.bot_sub, Ideal.exp_bot, EReal.coe_zero]

theorem sinkTerm_up (n : Fin 32) (h : Fin 4) (s : Fin 512) :
    Ideal.exp (sinkR sk h s - topE (scoreE (up2 p) (up1 gq) (up1 gk) (biasR bs) n h s) (sinkR sk h s))
      = ((sinkTermR p gq gk sk bs n h (gOf s) (aOf s) : ℝ) : EReal) := by
  rw [top_up]
  unfold sinkR sinkTermR
  rw [← EReal.coe_sub, Ideal.exp_coe]
  rfl

theorem inv_up (n : Fin 32) (h : Fin 4) (s : Fin 512) :
    invE (scoreE (up2 p) (up1 gq) (up1 gk) (biasR bs) n h s) (sinkR sk h s) = ((1 / totalR p gq gk sk bs n h (gOf s) (aOf s) : ℝ) : EReal) := by
  unfold invE
  simp only [term_up, sinkTerm_up, ← coe_sum, ← EReal.coe_add]
  rw [ofBits_one]
  exact div_real (total_ne p gq gk sk bs n h (gOf s) (aOf s)) 1

theorem prob_up (n : Fin 32) (h : Fin 4) (s : Fin 512) (j : Fin 256) :
    probE (up2 p) (up1 gq) (up1 gk) (biasR bs) (sinkR sk) n h s j = ((probR p gq gk sk bs n h s j : ℝ) : EReal) := by
  unfold probE
  rw [term_up, inv_up, ← EReal.coe_mul, mul_one_div]
  rfl

theorem sinkProb_up (n : Fin 32) (h : Fin 4) (s : Fin 512) :
    sinkE (up2 p) (up1 gq) (up1 gk) (biasR bs) (sinkR sk) n h s = ((sinkProbR p gq gk sk bs n h s : ℝ) : EReal) := by
  unfold sinkE
  rw [sinkTerm_up, inv_up, ← EReal.coe_mul, mul_one_div]
  rfl

theorem out_up (n : Fin 32) (h : Fin 4) (s : Fin 512) (d : Fin 64) :
    outE (up2 p) (up1 gq) (up1 gk) (biasR bs) (sinkR sk) n h s d = ((∑ j : Fin 256, valR p n h j d * probR p gq gk sk bs n h s j : ℝ) : EReal) := by
  unfold outE
  rw [coe_sum]
  refine Finset.sum_congr rfl fun j _ => ?_
  rw [prob_up, val_up]
  show ((probR p gq gk sk bs n h s j : ℝ) : EReal) * ((valO p n h j d : ℝ) : EReal) = _
  rw [← EReal.coe_mul]
  rcases val_off p gq gk sk bs n h j with e | e
  · rw [e s, zero_mul, mul_zero]
  · rw [e, mul_comm]

/-! The reference. -/

set_option maxHeartbeats 4000000 in
theorem refP (x0 : FVec Ideal AttnRefIdeal.S4096x5632 .f32) (x1 x2 : FVec Ideal AttnRefIdeal.S64 .f32) (x3 : FVec Ideal AttnRefIdeal.S16 .f32) (x4 : FVec Ideal AttnRefIdeal.S16x128x256 .f32) :
    AttnFRefIdeal.Read.val_main_v87 (F := Ideal) x0 x1 x2 x3 x4 = AttnRefIdeal.Read.val_main_v124 (F := Ideal) x0 x1 x2 x3 x4 := rfl

set_option maxHeartbeats 4000000 in
theorem refS (x0 : FVec Ideal AttnRefIdeal.S4096x5632 .f32) (x1 x2 : FVec Ideal AttnRefIdeal.S64 .f32) (x3 : FVec Ideal AttnRefIdeal.S16 .f32) (x4 : FVec Ideal AttnRefIdeal.S16x128x256 .f32) :
    AttnFRefIdeal.Read.val_main_v88 (F := Ideal) x0 x1 x2 x3 x4 = AttnRefIdeal.Read.val_main_v128 (F := Ideal) x0 x1 x2 x3 x4 := rfl

set_option maxHeartbeats 4000000 in
theorem refV (x0 : FVec Ideal AttnRefIdeal.S4096x5632 .f32) :
    AttnFRefIdeal.Read.val_main_v96 (F := Ideal) x0 = AttnRefIdeal.Read.val_main_v21 (F := Ideal) x0 := rfl

theorem v103_at (n : Fin 32) (h : Fin 4) (s : Fin 512) (j : Fin 256) :
    AttnFRefIdeal.Read.val_main_v103 (F := Ideal) (X0 p) (X1 gq) (X1 gk) (X3 sk) (X4 bs) (Idealize.ShloMosaic.ix4 n h s j)
      = ((probR p gq gk sk bs n h s j : ℝ) : EReal) := by
  refine Eq.trans ?_ (v124_at p gq gk sk bs n h (gOf s) (aOf s) j)
  rw [← refP]
  pointwise [AttnFRefIdeal.Read.val_main_v103, AttnFRefIdeal.Read.val_main_v102]
  rfl

theorem v104_at (n : Fin 32) (h : Fin 4) (s : Fin 512) :
    AttnFRefIdeal.Read.val_main_v104 (F := Ideal) (X0 p) (X1 gq) (X1 gk) (X3 sk) (X4 bs) (Idealize.ShloMosaic.ix4 n h s (0 : Fin 1))
      = ((sinkProbR p gq gk sk bs n h s : ℝ) : EReal) := by
  refine Eq.trans ?_ (v128_at p gq gk sk bs n h (gOf s) (aOf s))
  rw [← refS]
  pointwise [AttnFRefIdeal.Read.val_main_v104]
  rfl

theorem v101_at (r : Fin 4096) (k : Fin 1024) :
    AttnFRefIdeal.Read.val_main_v101 (F := Ideal) (X0 p) (X1 gq) (X1 gk) (X3 sk) (X4 bs) (Idealize.ShloMosaic.ix2 r k)
      = ((∑ j : Fin 256, valR p ⟨r.val / 128, by omega⟩ ⟨k.val / 256, by omega⟩ j ⟨k.val % 64, by omega⟩
          * probR p gq gk sk bs ⟨r.val / 128, by omega⟩ ⟨k.val / 256, by omega⟩ ⟨128 * (k.val % 256 / 64) + r.val % 128, by omega⟩ j : ℝ) : EReal) := by
  pointwise [AttnFRefIdeal.Read.val_main_v101, AttnFRefIdeal.Read.val_main_v100, AttnFRefIdeal.Read.val_main_v99, AttnFRefIdeal.Read.val_main_v98, AttnFRefIdeal.Read.val_main_v97]
  rw [refP, refV, coe_sum]
  refine Finset.sum_congr rfl fun j _ => ?_
  rw [v21_at, v124_at, ← EReal.coe_mul]
  refine congrArg Real.toEReal (congrArg₂ (· * ·) ?_ ?_)
  · exact congrArg (fun i => valR p _ _ i _) (Fin.ext (by show j.val / 128 * 128 + j.val % 128 = j.val; omega))
  · unfold probR
    have hg : (⟨k.val / 64 % 4, by omega⟩ : Fin 4) = ⟨(128 * (k.val % 256 / 64) + r.val % 128) / 128, by omega⟩ :=
      Fin.ext (by show k.val / 64 % 4 = (128 * (k.val % 256 / 64) + r.val % 128) / 128; omega)
    have ha : (⟨r.val % 128, by omega⟩ : Fin 128) = ⟨(128 * (k.val % 256 / 64) + r.val % 128) % 128, by omega⟩ :=
      Fin.ext (by show r.val % 128 = (128 * (k.val % 256 / 64) + r.val % 128) % 128; omega)
    rw [← hg, ← ha]

end Cert.AttnFMeet
end
-- ==== Proof.AttnF.Equation.lean ====
module

public import proofs.«01_k».proof.Proof.AttnF.Meet
public import proofs.«01_k».proof.Proof.Attn.Equation
public import proofs.«01_k».proof.Proof.Gen.AttnFIdeal.Frame
public import proofs.«01_k».proof.Proof.Gen.AttnFRefIdeal.Run
public import proofs.«01_k».proof.Defs
public import proofs.«01_k».proof.Proof.Gen.Pre_finite_attnf
public import Idealize.ShloMosaic.Lib.Claim

/-! The attention: kernel and reference end with equal results. -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.AttnFClaim

open Cert.Lift Cert.AttnRef.Rows Cert.AttnReal Cert.AttnFMeet

set_option maxHeartbeats 2000000

section

open AttnFIdeal AttnFIdeal.Gen AttnFIdeal.Array

variable (p : Fin 4096 → Fin 5632 → ℝ) (gq gk : Fin 64 → ℝ) (sk : Fin 16 → ℝ) (bs : Fin 16 → Fin 128 → Fin 256 → ℝ)
  (m : (ℓ : Loc nD τ sig) → Buf (Elt Ideal) ℓ) (c : Dev nD)
  (h0 : m ((c : Thread nD τ).loc main_arg0) = X0 p) (h1 : m ((c : Thread nD τ).loc main_arg1) = X1 gq)
  (h2 : m ((c : Thread nD τ).loc main_arg2) = X1 gk) (h3 : m ((c : Thread nD τ).loc main_arg3) = X3 sk)
  (h4 : m ((c : Thread nD τ).loc main_arg4) = X4 bs)

include h0 in
theorem pV_eq : pV m c = up2 p := by
  funext r k; unfold pV; rw [h0]; rfl

include h1 in
theorem gqV_eq : gqV m c = up1 gq := by
  funext d; unfold gqV; rw [h1]; rfl

include h2 in
theorem gkV_eq : gkV m c = up1 gk := by
  funext d; unfold gkV; rw [h2]; rfl

include h3 in
theorem zV_eq : zV m c = sinkR sk := by
  funext h s
  unfold zV sinkR
  rw [h3]
  exact congrArg (fun i => ((sk i : ℝ) : EReal)) (Fin.ext (by show h.val * 4 + s.val / 128 = 4 * h.val + s.val / 128; omega))

include h4 in
theorem bV_eq : bV m c = biasR bs := by
  funext h s j
  unfold bV biasR Scalar.select
  rw [h4]
  have e : (X4 bs (Idealize.ShloMosaic.ix3 (⟨h.val * 4 + s.val / 128, by omega⟩ : Fin 16) (⟨s.val % 128, by omega⟩ : Fin 128) j) : EReal)
      = ((bs ⟨4 * h.val + s.val / 128, by omega⟩ ⟨s.val % 128, by omega⟩ j : ℝ) : EReal) :=
    congrArg (fun i => ((bs i ⟨s.val % 128, by omega⟩ j : ℝ) : EReal)) (Fin.ext (by show h.val * 4 + s.val / 128 = 4 * h.val + s.val / 128; omega))
  exact congrArg (fun y : EReal => if AttnRef.Probs.near (s.val % 128) j.val = 1#1 then y else ⊥) e

include h0 h1 h2 h3 h4

theorem eqO : resO m c = AttnFRefIdeal.Read.val_main_v101 (F := Ideal) (X0 p) (X1 gq) (X1 gk) (X3 sk) (X4 bs) := by
  funext i
  rw [Idealize.ShloMosaic.eq_ix2 i]
  refine Eq.trans ?_ (v101_at p gq gk sk bs (i 0) (i 1)).symm
  unfold resO
  rw [pV_eq p m c h0, gqV_eq gq m c h1, gkV_eq gk m c h2, zV_eq sk m c h3, bV_eq bs m c h4]
  exact out_up p gq gk sk bs _ _ _ _

theorem eqP : resP m c = AttnFRefIdeal.Read.val_main_v103 (F := Ideal) (X0 p) (X1 gq) (X1 gk) (X3 sk) (X4 bs) := by
  funext i
  obtain ⟨n, h, s, j, rfl⟩ : ∃ (n : Fin 32) (h : Fin 4) (s : Fin 512) (j : Fin 256), i = Idealize.ShloMosaic.ix4 n h s j := ⟨i 0, i 1, i 2, i 3, Idealize.ShloMosaic.eq_ix4 i⟩
  refine Eq.trans ?_ (v103_at p gq gk sk bs n h s j).symm
  unfold resP
  rw [pV_eq p m c h0, gqV_eq gq m c h1, gkV_eq gk m c h2, zV_eq sk m c h3, bV_eq bs m c h4]
  exact prob_up p gq gk sk bs _ _ _ _

theorem eqS : resS m c = AttnFRefIdeal.Read.val_main_v104 (F := Ideal) (X0 p) (X1 gq) (X1 gk) (X3 sk) (X4 bs) := by
  funext i
  obtain ⟨n, h, s, j, rfl⟩ : ∃ (n : Fin 32) (h : Fin 4) (s : Fin 512) (j : Fin 1), i = Idealize.ShloMosaic.ix4 n h s j := ⟨i 0, i 1, i 2, i 3, Idealize.ShloMosaic.eq_ix4 i⟩
  obtain rfl : j = 0 := Subsingleton.elim _ _
  refine Eq.trans ?_ (v104_at p gq gk sk bs n h s).symm
  unfold resS
  rw [pV_eq p m c h0, gqV_eq gq m c h1, gkV_eq gk m c h2, zV_eq sk m c h3, bV_eq bs m c h4]
  exact sinkProb_up p gq gk sk bs _ _ _

end

/-- The five arguments, finite and the same on both sides, are arrays of real numbers on both. -/
theorem reals (m : (ℓ : Loc AttnFIdeal.nD AttnFIdeal.τ AttnFIdeal.sig) → Buf (Elt Ideal) ℓ)
    (m' : (ℓ : Loc AttnFRefIdeal.nD AttnFRefIdeal.τ AttnFRefIdeal.sig) → Buf (Elt Ideal) ℓ) (c : Dev AttnFIdeal.nD)
    (f0 : Finite (m ((c.tc : Thread AttnFIdeal.nD AttnFIdeal.τ).loc AttnFIdeal.main_arg0) : FVec Ideal AttnRefIdeal.S4096x5632 .f32))
    (f1 : Finite (m ((c.tc : Thread AttnFIdeal.nD AttnFIdeal.τ).loc AttnFIdeal.main_arg1) : FVec Ideal AttnRefIdeal.S64 .f32))
    (f2 : Finite (m ((c.tc : Thread AttnFIdeal.nD AttnFIdeal.τ).loc AttnFIdeal.main_arg2) : FVec Ideal AttnRefIdeal.S64 .f32))
    (f3 : Finite (m ((c.tc : Thread AttnFIdeal.nD AttnFIdeal.τ).loc AttnFIdeal.main_arg3) : FVec Ideal AttnRefIdeal.S16 .f32))
    (f4 : Finite (m ((c.tc : Thread AttnFIdeal.nD AttnFIdeal.τ).loc AttnFIdeal.main_arg4) : FVec Ideal AttnRefIdeal.S16x128x256 .f32))
    (h0 : m' ((c.tc : Thread AttnFRefIdeal.nD AttnFRefIdeal.τ).loc AttnFRefIdeal.main_arg0) = m ((c.tc : Thread AttnFIdeal.nD AttnFIdeal.τ).loc AttnFIdeal.main_arg0))
    (h1 : m' ((c.tc : Thread AttnFRefIdeal.nD AttnFRefIdeal.τ).loc AttnFRefIdeal.main_arg1) = m ((c.tc : Thread AttnFIdeal.nD AttnFIdeal.τ).loc AttnFIdeal.main_arg1))
    (h2 : m' ((c.tc : Thread AttnFRefIdeal.nD AttnFRefIdeal.τ).loc AttnFRefIdeal.main_arg2) = m ((c.tc : Thread AttnFIdeal.nD AttnFIdeal.τ).loc AttnFIdeal.main_arg2))
    (h3 : m' ((c.tc : Thread AttnFRefIdeal.nD AttnFRefIdeal.τ).loc AttnFRefIdeal.main_arg3) = m ((c.tc : Thread AttnFIdeal.nD AttnFIdeal.τ).loc AttnFIdeal.main_arg3))
    (h4 : m' ((c.tc : Thread AttnFRefIdeal.nD AttnFRefIdeal.τ).loc AttnFRefIdeal.main_arg4) = m ((c.tc : Thread AttnFIdeal.nD AttnFIdeal.τ).loc AttnFIdeal.main_arg4)) :
    ∃ p gq gk sk bs, (m ((c.tc : Thread AttnFIdeal.nD AttnFIdeal.τ).loc AttnFIdeal.main_arg0) = X0 p ∧ m ((c.tc : Thread AttnFIdeal.nD AttnFIdeal.τ).loc AttnFIdeal.main_arg1) = X1 gq
        ∧ m ((c.tc : Thread AttnFIdeal.nD AttnFIdeal.τ).loc AttnFIdeal.main_arg2) = X1 gk ∧ m ((c.tc : Thread AttnFIdeal.nD AttnFIdeal.τ).loc AttnFIdeal.main_arg3) = X3 sk ∧ m ((c.tc : Thread AttnFIdeal.nD AttnFIdeal.τ).loc AttnFIdeal.main_arg4) = X4 bs)
      ∧ (m' ((c.tc : Thread AttnFRefIdeal.nD AttnFRefIdeal.τ).loc AttnFRefIdeal.main_arg0) = X0 p
        ∧ m' ((c.tc : Thread AttnFRefIdeal.nD AttnFRefIdeal.τ).loc AttnFRefIdeal.main_arg1) = X1 gq
        ∧ m' ((c.tc : Thread AttnFRefIdeal.nD AttnFRefIdeal.τ).loc AttnFRefIdeal.main_arg2) = X1 gk
        ∧ m' ((c.tc : Thread AttnFRefIdeal.nD AttnFRefIdeal.τ).loc AttnFRefIdeal.main_arg3) = X3 sk
        ∧ m' ((c.tc : Thread AttnFRefIdeal.nD AttnFRefIdeal.τ).loc AttnFRefIdeal.main_arg4) = X4 bs) := by
  obtain ⟨p, e0⟩ := AttnClaim.real0 _ f0
  obtain ⟨gq, e1⟩ := AttnClaim.real1 _ f1
  obtain ⟨gk, e2⟩ := AttnClaim.real1 _ f2
  obtain ⟨sk, e3⟩ := AttnClaim.real3 _ f3
  obtain ⟨bs, e4⟩ := AttnClaim.real4 _ f4
  exact ⟨p, gq, gk, sk, bs, ⟨e0, e1, e2, e3, e4⟩, h0.trans e0, h1.trans e1, h2.trans e2, h3.trans e3, h4.trans e4⟩

/-- The attention: kernel and reference end with equal results. -/
theorem algebraic : algebraic_AttnFIdeal_AttnFRefIdeal_pre_finite_attnf := by
  pair_intro
  · run_from AttnFIdeal.Gen.run_main m g
    · exact AttnFIdeal.Gen.V_main_arg0 m c
    · exact AttnFIdeal.Gen.V_main_arg1 m c
    · exact AttnFIdeal.Gen.V_main_arg2 m c
    · exact AttnFIdeal.Gen.V_main_arg3 m c
    · exact AttnFIdeal.Gen.V_main_arg4 m c
  · run_from AttnFRefIdeal.Value.run m' g'
    · have hf := hpre c
      obtain ⟨h0, h1, h2, h3, h4⟩ := hagree c
      obtain ⟨p, gq, gk, sk, bs, ⟨e0, e1, e2, e3, e4⟩, l0, l1, l2, l3, l4⟩ := reals m m' c (finite_of_test _ _ hf.1) (finite_of_test _ _ hf.2.1) (finite_of_test _ _ hf.2.2.1) (finite_of_test _ _ hf.2.2.2.1) (finite_of_test _ _ hf.2.2.2.2) h0 h1 h2 h3 h4
      rw [AttnFRefIdeal.Read.val_main_v101_eq, l0, l1, l2, l3, l4]
      exact ((AttnFIdeal.Array.finalO m c).trans (eqO p gq gk sk bs m c e0 e1 e2 e3 e4)).symm
    · have hf := hpre c
      obtain ⟨h0, h1, h2, h3, h4⟩ := hagree c
      obtain ⟨p, gq, gk, sk, bs, ⟨e0, e1, e2, e3, e4⟩, l0, l1, l2, l3, l4⟩ := reals m m' c (finite_of_test _ _ hf.1) (finite_of_test _ _ hf.2.1) (finite_of_test _ _ hf.2.2.1) (finite_of_test _ _ hf.2.2.2.1) (finite_of_test _ _ hf.2.2.2.2) h0 h1 h2 h3 h4
      rw [AttnFRefIdeal.Read.val_main_v103_eq, l0, l1, l2, l3, l4]
      exact ((AttnFIdeal.Array.finalP m c).trans (eqP p gq gk sk bs m c e0 e1 e2 e3 e4)).symm
    · have hf := hpre c
      obtain ⟨h0, h1, h2, h3, h4⟩ := hagree c
      obtain ⟨p, gq, gk, sk, bs, ⟨e0, e1, e2, e3, e4⟩, l0, l1, l2, l3, l4⟩ := reals m m' c (finite_of_test _ _ hf.1) (finite_of_test _ _ hf.2.1) (finite_of_test _ _ hf.2.2.1) (finite_of_test _ _ hf.2.2.2.1) (finite_of_test _ _ hf.2.2.2.2) h0 h1 h2 h3 h4
      rw [AttnFRefIdeal.Read.val_main_v104_eq, l0, l1, l2, l3, l4]
      exact ((AttnFIdeal.Array.finalS m c).trans (eqS p gq gk sk bs m c e0 e1 e2 e3 e4)).symm

end Cert.AttnFClaim
end
-- ==== Proof.Common.Forward.lean ====
module

public import Idealize.ShloMosaic.Lib.Pipeline.ValueKit
public import Idealize.ShloMosaic.Lib.Pointwise
public import Idealize.ShloMosaic.Lib.Claim

/-! # Formulas of the forward pass: a product of two matrices, the logistic function, the RMS norm of a row -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Forward

/-- A matrix's shape. -/
abbrev Mat (r c : ℕ) : Shape := ⟨2, ![r, c]⟩

/-- Entry `(r, c)` of a product of two matrices. -/
def prod {R K C : ℕ} (a : (Mat R K).Idx → EReal) (w : (Mat K C).Idx → EReal) (r : Fin R) (c : Fin C) : EReal :=
  ∑ k : Fin K, a (Idealize.ShloMosaic.ix2 r k) * w (Idealize.ShloMosaic.ix2 k c)

/-- The logistic function. -/
def logistic (x : EReal) : EReal := Ideal.div 1 (1 + Ideal.exp (-x))

/-- … as the kernels write it. -/
def gate (x : EReal) : EReal := Ideal.div 1 (1 + Ideal.exp (0 - x))

theorem gate_eq (x : EReal) : gate x = logistic x := by unfold gate logistic; rw [zero_sub]

/-- The reciprocal of the root of a row's mean square. -/
def scale (x : Fin 1024 → EReal) : EReal :=
  Ideal.rsqrt (Ideal.div (∑ k, x k * x k) (Ideal.ofBits FTy.f32 0x44800000#32) + Ideal.ofBits FTy.f32 0x358637BD#32)

/-- The RMS norm of a row, times the gain. -/
def normed (x g : Fin 1024 → EReal) (k : Fin 1024) : EReal := x k * scale x * g k

end Cert.Forward

end
-- ==== Proof.RmsF.Kernel.lean ====
module

public import proofs.«01_k».proof.Proof.Gen.RmsFIdeal.Value
public import proofs.«01_k».proof.Proof.Common.Forward
public import Idealize.ShloMosaic.Lib.Pipeline.ValueKit
public import Idealize.ShloMosaic.Lib.Pointwise
public import Idealize.ShloMosaic.Lib.Claim

/-! # The first RMS norm: what the kernel leaves -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.RmsFIdeal.Array

open Cert.RmsFIdeal Cert.RmsFIdeal.Gen Cert.Forward

variable (m : (ℓ : Loc nD τ sig) → Buf (Elt Ideal) ℓ)

/-- Every window's block index at every point. -/
theorem idx : ∀ t : Fin cfg0.N, win0_0.index t = ![t.val, 0] ∧ win0_1.index t = ![0, 0] ∧ win0_2.index t = ![t.val, 0]
    ∧ t.val < 4 :=
  (by decide +kernel : ∀ t : Fin grid0.N, _)

/-- The gain the region is entered with. -/
theorem entryG (c : Dev nD) : V m c main_v0
    = (fun i => m ((c : Thread nD τ).loc main_arg1) (Idealize.ShloMosaic.ix1 (i 1)) : FVec Ideal S1x1024 .f32) := by
  refine funext (α := S1x1024.Idx) fun i => ?_
  unfold V
  after_results
  pointwise

/-- The normed rows. -/
def rows (x : FVec Ideal S4096x1024 .f32) (g : FVec Ideal S1024 .f32) : FVec Ideal S4096x1024 .bf16 := fun i =>
  normed (fun k => x (Idealize.ShloMosaic.ix2 (i 0) k)) (fun k => g (Idealize.ShloMosaic.ix1 k)) (i 1)

/-- The normed rows, at a point's block. -/
theorem point2 (c : Dev nD) (t : Fin cfg0.N) (y : S1024x1024.Idx) :
    out0_2 (iblk m c 0 t) (iblk m c 1 t) y
      = rows (m ((c : Thread nD τ).loc main_arg0)) (m ((c : Thread nD τ).loc main_arg1)) (((cfg0.win 2).blk t).view.emb y) := by
  unfold out0_2
  canon_tiles x h
  all_goals
    pointwise [k0_pay1, rows, normed, scale]
    blk_point [iblk, V, idx t]
  all_goals first | done | (rw [entryG]; blk_ext [idx t])

/-- The normed rows, after the run. -/
theorem final2 (c : Dev nD) : (dats m 0 c).arrAt 2 (cfgs 0).N = rows (m ((c : Thread nD τ).loc main_arg0)) (m ((c : Thread nD τ).loc main_arg1)) := by
  refine (dats m 0 c).arrAt_eq_of_covers 2 _ (by decide +kernel) fun t _ y => ?_
  blk_simp
  rw [after0_2]
  exact point2 m c t y

end Cert.RmsFIdeal.Array

end
-- ==== Proof.RmsF.Reference.lean ====
module

public import proofs.«01_k».proof.Proof.Gen.RmsFRefIdeal.Run
public import proofs.«01_k».proof.Proof.Gen.RmsFRefIdeal.Read
public import proofs.«01_k».proof.Proof.Common.Forward
public import Idealize.ShloMosaic.Lib.Pipeline.ValueKit
public import Idealize.ShloMosaic.Lib.Pointwise
public import Idealize.ShloMosaic.Lib.Claim

/-! # The first RMS norm: what the reference computes -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.RmsFRefIdeal.Array

open Cert.RmsFRefIdeal Cert.RmsFRefIdeal.Gen Cert.RmsFRefIdeal.Read Cert.Forward

/-- The reference's normed rows. -/
theorem read (x : FVec Ideal S4096x1024 .f32) (g : FVec Ideal S1024 .f32) :
    val_main_v13 (F := Ideal) x g = (fun i => normed (fun k => x (Idealize.ShloMosaic.ix2 (i 0) k)) (fun k => g (Idealize.ShloMosaic.ix1 k)) (i 1) : FVec Ideal S4096x1024 .bf16) := by
  refine funext (α := S4096x1024.Idx) fun i => ?_
  pointwise [val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13,
    normed, scale]

end Cert.RmsFRefIdeal.Array

end
-- ==== Proof.RmsF.Equation.lean ====
module

public import proofs.«01_k».proof.Proof.RmsF.Kernel
public import proofs.«01_k».proof.Proof.RmsF.Reference
public import proofs.«01_k».proof.Proof.Gen.RmsFIdeal.Frame
public import proofs.«01_k».proof.Defs
public import Idealize.ShloMosaic.Lib.Claim

/-! # The first RMS norm: the claim -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.RmsFClaim

set_option maxHeartbeats 1000000 in
/-- Kernel and reference end with equal results. -/
theorem algebraic : algebraic_RmsFIdeal_RmsFRefIdeal := by
  pair_intro
  · run_from RmsFIdeal.Gen.run_main m g
  · run_from RmsFRefIdeal.Value.run m' g'
    · rw [RmsFRefIdeal.Read.val_main_v13_eq]
      exact ((RmsFIdeal.Array.final2 m c).trans (RmsFRefIdeal.Array.read _ _).symm).symm

end Cert.RmsFClaim

end
-- ==== Proof.FfnIn.Kernel.lean ====
module

public import proofs.«01_k».proof.Proof.Gen.FfnInIdeal.Value
public import proofs.«01_k».proof.Proof.Common.Forward
public import Idealize.ShloMosaic.Lib.Pipeline.ValueKit
public import Idealize.ShloMosaic.Lib.Pointwise
public import Idealize.ShloMosaic.Lib.Claim

/-! # The gate of the feed-forward: what the kernel leaves -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.FfnInIdeal.Array

open Cert.FfnInIdeal Cert.FfnInIdeal.Gen Cert.Forward

variable (m : (ℓ : Loc nD τ sig) → Buf (Elt Ideal) ℓ)

/-- Every window's block index at every point. -/
theorem idx : ∀ t : Fin cfg0.N, win0_0.index t = ![t.val % 4, 0] ∧ win0_1.index t = ![t.val / 4, 0, 0] ∧ win0_2.index t = ![t.val / 4 + 2, 0, 0]
    ∧ win0_3.index t = ![0, t.val % 4, t.val / 4] ∧ win0_4.index t = ![t.val % 4, t.val / 4] ∧ t.val / 4 < 2
    ∧ t.val < 8 :=
  (by decide +kernel : ∀ t : Fin grid0.N, _)

/-- The weight's segments the region is entered with. -/
theorem entryW (c : Dev nD) : V m c main_v3
    = (fun i => m ((c : Thread nD τ).loc main_arg1) (Idealize.ShloMosaic.ix2 (i 1) ⟨(i 0).val * 1408 + (i 2).val, by
        have h0 : (i 0).val < 4 := (i 0).isLt
        have h2 : (i 2).val < 1408 := (i 2).isLt
        omega⟩) : FVec Ideal S4x1024x1408 .bf16) := by
  refine funext (α := S4x1024x1408.Idx) fun i => ?_
  unfold V
  after_results
  have h0 : (i 0).val < 4 := (i 0).isLt
  have h2 : (i 2).val < 1408 := (i 2).isLt
  pointwise
  all_goals first | done | (congr 1; blk_ext)

/-- The two halves of the product, stacked. -/
def halves (n : FVec Ideal S4096x1024 .f32) (v : FVec Ideal S1024x5632 .f32) : FVec Ideal S2x4096x2816 .bf16 := fun i =>
  prod n v (i 1) ⟨(i 0).val * 2816 + (i 2).val, by
    have h0 : (i 0).val < 2 := (i 0).isLt
    have h2 : (i 2).val < 2816 := (i 2).isLt
    omega⟩

/-- The first half times its logistic function times the second. -/
def gated (n : FVec Ideal S4096x1024 .f32) (v : FVec Ideal S1024x5632 .f32) : FVec Ideal S4096x2816 .bf16 := fun i =>
  prod n v (i 0) ⟨(i 1).val, lt_trans (i 1).isLt (by norm_num)⟩ * gate (prod n v (i 0) ⟨(i 1).val, lt_trans (i 1).isLt (by norm_num)⟩)
    * prod n v (i 0) ⟨2816 + (i 1).val, Nat.add_lt_add_left (i 1).isLt 2816⟩

/-- The halves, at a point's block. -/
theorem point3 (c : Dev nD) (t : Fin cfg0.N) (y : S2x1024x1408.Idx) :
    out0_3 (iblk m c 0 t) (iblk m c 1 t) (iblk m c 2 t) y
      = halves (m ((c : Thread nD τ).loc main_arg0)) (m ((c : Thread nD τ).loc main_arg1)) (((cfg0.win 3).blk t).view.emb y) := by
  unfold out0_3
  canon_tiles x h
  all_goals
    pointwise [k0_pay1, k0_pay2, k0_pay3, k0_pay5, k0_pay6, halves, prod]
    blk_point [iblk, V, idx t]
  all_goals first | done | (rw [entryW]; blk_ext [idx t])

/-- The halves, after the run. -/
theorem final3 (c : Dev nD) : (dats m 0 c).arrAt 3 (cfgs 0).N = halves (m ((c : Thread nD τ).loc main_arg0)) (m ((c : Thread nD τ).loc main_arg1)) := by
  refine (dats m 0 c).arrAt_eq_of_covers 3 _ (by decide +kernel) fun t _ y => ?_
  blk_simp
  rw [after0_3]
  exact point3 m c t y

/-- The gated product, at a point's block. -/
theorem point4 (c : Dev nD) (t : Fin cfg0.N) (y : S1024x1408.Idx) :
    out0_4 (iblk m c 0 t) (iblk m c 1 t) (iblk m c 2 t) y
      = gated (m ((c : Thread nD τ).loc main_arg0)) (m ((c : Thread nD τ).loc main_arg1)) (((cfg0.win 4).blk t).view.emb y) := by
  unfold out0_4
  canon_tiles x h
  all_goals
    pointwise [k0_pay1, k0_pay2, k0_pay3, k0_pay4, gated, Cert.Forward.gate, prod]
    blk_point [iblk, V, idx t]
  all_goals first | done | (rw [entryW]; blk_ext [idx t])

/-- The gated product, after the run. -/
theorem final4 (c : Dev nD) : (dats m 0 c).arrAt 4 (cfgs 0).N = gated (m ((c : Thread nD τ).loc main_arg0)) (m ((c : Thread nD τ).loc main_arg1)) := by
  refine (dats m 0 c).arrAt_eq_of_covers 4 _ (by decide +kernel) fun t _ y => ?_
  blk_simp
  rw [after0_4]
  exact point4 m c t y

end Cert.FfnInIdeal.Array

end
-- ==== Proof.FfnIn.Reference.lean ====
module

public import proofs.«01_k».proof.Proof.Gen.FfnInRefIdeal.Run
public import proofs.«01_k».proof.Proof.Gen.FfnInRefIdeal.Read
public import proofs.«01_k».proof.Proof.Common.Forward
public import Idealize.ShloMosaic.Lib.Pipeline.ValueKit
public import Idealize.ShloMosaic.Lib.Pointwise
public import Idealize.ShloMosaic.Lib.Claim

/-! # The gate of the feed-forward: what the reference computes -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.FfnInRefIdeal.Array

open Cert.FfnInRefIdeal Cert.FfnInRefIdeal.Gen Cert.FfnInRefIdeal.Read Cert.Forward

/-- The reference's halves. -/
theorem readH (n : FVec Ideal S4096x1024 .f32) (v : FVec Ideal S1024x5632 .f32) :
    val_main_v6 (F := Ideal) n v = (fun i => prod n v (i 1) ⟨(i 0).val * 2816 + (i 2).val, by
      have h0 : (i 0).val < 2 := (i 0).isLt
      have h2 : (i 2).val < 2816 := (i 2).isLt
      omega⟩ : FVec Ideal S2x4096x2816 .bf16) := by
  refine funext (α := S2x4096x2816.Idx) fun i => ?_
  pointwise [val_main_v0, val_main_v1, val_main_v2, val_main_v3, val_main_v4, val_main_v5, val_main_v6, val_main_call0_v0,
    val_main_call0_v1, val_main_call0_cst, val_main_call0_v2, val_main_call0_v3, val_main_call0_cst_0,
    val_main_call0_v4, val_main_call0_v5, val_main_v7, val_main_v8, val_main_v9,
    prod]
  have h0 : (i 0).val < 2 := (i 0).isLt
  split <;> rename_i h <;> refine Finset.sum_congr rfl fun x _ => congrArg (_ * ·) (congrArg v ?_) <;> blk_ext
/-- The reference's gated product. -/
theorem readG (n : FVec Ideal S4096x1024 .f32) (v : FVec Ideal S1024x5632 .f32) :
    val_main_v9 (F := Ideal) n v = (fun i => prod n v (i 0) ⟨(i 1).val, lt_trans (i 1).isLt (by norm_num)⟩ * gate (prod n v (i 0) ⟨(i 1).val, lt_trans (i 1).isLt (by norm_num)⟩)
      * prod n v (i 0) ⟨2816 + (i 1).val, Nat.add_lt_add_left (i 1).isLt 2816⟩ : FVec Ideal S4096x2816 .bf16) := by
  refine funext (α := S4096x2816.Idx) fun i => ?_
  pointwise [val_main_v0, val_main_v1, val_main_v2, val_main_v3, val_main_v4, val_main_v5, val_main_v6, val_main_call0_v0,
    val_main_call0_v1, val_main_call0_cst, val_main_call0_v2, val_main_call0_v3, val_main_call0_cst_0,
    val_main_call0_v4, val_main_call0_v5, val_main_v7, val_main_v8, val_main_v9,
    gate_eq, Cert.Forward.logistic, prod]

end Cert.FfnInRefIdeal.Array

end
-- ==== Proof.FfnIn.Equation.lean ====
module

public import proofs.«01_k».proof.Proof.FfnIn.Kernel
public import proofs.«01_k».proof.Proof.FfnIn.Reference
public import proofs.«01_k».proof.Proof.Gen.FfnInIdeal.Frame
public import proofs.«01_k».proof.Defs
public import Idealize.ShloMosaic.Lib.Claim

/-! # The gate of the feed-forward: the claim -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.FfnInClaim

set_option maxHeartbeats 1000000 in
/-- Kernel and reference end with equal results. -/
theorem algebraic : algebraic_FfnInIdeal_FfnInRefIdeal := by
  pair_intro
  · run_from FfnInIdeal.Gen.run_main m g
  · run_from FfnInRefIdeal.Value.run m' g'
    · rw [FfnInRefIdeal.Read.val_main_v6_eq]
      exact ((FfnInIdeal.Array.final3 m c).trans (FfnInRefIdeal.Array.readH _ _).symm).symm
    · rw [FfnInRefIdeal.Read.val_main_v9_eq]
      exact ((FfnInIdeal.Array.final4 m c).trans (FfnInRefIdeal.Array.readG _ _).symm).symm

end Cert.FfnInClaim

end
-- ==== Proof.FfnOut.Kernel.lean ====
module

public import proofs.«01_k».proof.Proof.Gen.FfnOutIdeal.Value
public import proofs.«01_k».proof.Proof.Common.Forward
public import Idealize.ShloMosaic.Lib.Pipeline.ValueKit
public import Idealize.ShloMosaic.Lib.Pointwise
public import Idealize.ShloMosaic.Lib.Claim

/-! # The residual of the feed-forward and the next RMS norm: what the kernel leaves -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.FfnOutIdeal.Array

open Cert.FfnOutIdeal Cert.FfnOutIdeal.Gen Cert.Forward

variable (m : (ℓ : Loc nD τ sig) → Buf (Elt Ideal) ℓ)

/-- Every window's block index at every point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ t.val < 4 :=
  (by decide +kernel : ∀ t : Fin grid0.N, _)

/-- The gain the region is entered with. -/
theorem entryG (c : Dev nD) : V m c main_v2
    = (fun i => m ((c : Thread nD τ).loc main_arg3) (Idealize.ShloMosaic.ix1 (i 1)) : FVec Ideal S1x1024 .f32) := by
  refine funext (α := S1x1024.Idx) fun i => ?_
  unfold V
  after_results
  pointwise

/-- The sum of the residual and the product. -/
def sums (h : FVec Ideal S4096x2816 .f32) (w : FVec Ideal S2816x1024 .f32) (x : FVec Ideal S4096x1024 .f32) : FVec Ideal S4096x1024 .f32 := fun i =>
  x i + Ideal.ofBits FTy.f32 0x3F000000#32 * prod h w (i 0) (i 1)

/-- … normed. -/
def rows (h : FVec Ideal S4096x2816 .f32) (w : FVec Ideal S2816x1024 .f32) (x : FVec Ideal S4096x1024 .f32) (g : FVec Ideal S1024 .f32) : FVec Ideal S4096x1024 .bf16 := fun i =>
  normed (fun k => x (Idealize.ShloMosaic.ix2 (i 0) k) + Ideal.ofBits FTy.f32 0x3F000000#32 * prod h w (i 0) k) (fun k => g (Idealize.ShloMosaic.ix1 k)) (i 1)

/-- The sum, at a point's block. -/
theorem point4 (c : Dev nD) (t : Fin cfg0.N) (y : S1024x1024.Idx) :
    out0_4 (iblk m c 0 t) (iblk m c 1 t) (iblk m c 2 t) (iblk m c 3 t) y
      = sums (m ((c : Thread nD τ).loc main_arg0)) (m ((c : Thread nD τ).loc main_arg1)) (m ((c : Thread nD τ).loc main_arg2)) (((cfg0.win 4).blk t).view.emb y) := by
  unfold out0_4
  canon_tiles x h
  all_goals
    pointwise [k0_pay1, sums, prod]
    blk_point [iblk, V, idx t]

/-- The sum, after the run. -/
theorem final4 (c : Dev nD) : (dats m 0 c).arrAt 4 (cfgs 0).N = sums (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y

/-- The normed sum, at a point's block. -/
theorem point5 (c : Dev nD) (t : Fin cfg0.N) (y : S1024x1024.Idx) :
    out0_5 (iblk m c 0 t) (iblk m c 1 t) (iblk m c 2 t) (iblk m c 3 t) y
      = rows (m ((c : Thread nD τ).loc main_arg0)) (m ((c : Thread nD τ).loc main_arg1)) (m ((c : Thread nD τ).loc main_arg2)) (m ((c : Thread nD τ).loc main_arg3)) (((cfg0.win 5).blk t).view.emb y) := by
  unfold out0_5
  canon_tiles x h
  all_goals
    pointwise [k0_pay1, k0_pay2, rows, normed, scale, prod]
    blk_point [iblk, V, idx t]
  all_goals first | done | (rw [entryG]; blk_ext [idx t])

/-- The normed sum, after the run. -/
theorem final5 (c : Dev nD) : (dats m 0 c).arrAt 5 (cfgs 0).N = rows (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point5 m c t y

end Cert.FfnOutIdeal.Array

end
-- ==== Proof.FfnOut.Reference.lean ====
module

public import proofs.«01_k».proof.Proof.Gen.FfnOutRefIdeal.Run
public import proofs.«01_k».proof.Proof.Gen.FfnOutRefIdeal.Read
public import proofs.«01_k».proof.Proof.Common.Forward
public import Idealize.ShloMosaic.Lib.Pipeline.ValueKit
public import Idealize.ShloMosaic.Lib.Pointwise
public import Idealize.ShloMosaic.Lib.Claim

/-! # The residual of the feed-forward and the next RMS norm: what the reference computes -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.FfnOutRefIdeal.Array

open Cert.FfnOutRefIdeal Cert.FfnOutRefIdeal.Gen Cert.FfnOutRefIdeal.Read Cert.Forward

/-- The reference's sum. -/
theorem readS (h : FVec Ideal S4096x2816 .f32) (w : FVec Ideal S2816x1024 .f32) (x : FVec Ideal S4096x1024 .f32) :
    val_main_v3 (F := Ideal) h w x = (fun i => x i + Ideal.ofBits FTy.f32 0x3F000000#32 * prod h w (i 0) (i 1) : FVec Ideal S4096x1024 .f32) := by
  refine funext (α := S4096x1024.Idx) fun i => ?_
  pointwise [val_main_v0, val_main_cst, val_main_v1, val_main_v2, val_main_v3, val_main_v4, val_main_cst_0, val_main_v5,
    val_main_v6, val_main_cst_1, val_main_v7, val_main_v8, val_main_cst_2, val_main_v9, val_main_v10, val_main_v11,
    val_main_v12, val_main_v13, val_main_v14, val_main_v15, val_main_v16, val_main_v17,
    prod]

/-- The reference's normed sum. -/
theorem readN (h : FVec Ideal S4096x2816 .f32) (w : FVec Ideal S2816x1024 .f32) (x : FVec Ideal S4096x1024 .f32) (g : FVec Ideal S1024 .f32) :
    val_main_v17 (F := Ideal) h w x g = (fun i => normed (fun k => x (Idealize.ShloMosaic.ix2 (i 0) k) + Ideal.ofBits FTy.f32 0x3F000000#32 * prod h w (i 0) k) (fun k => g (Idealize.ShloMosaic.ix1 k)) (i 1) : FVec Ideal S4096x1024 .bf16) := by
  refine funext (α := S4096x1024.Idx) fun i => ?_
  pointwise [val_main_v0, val_main_cst, val_main_v1, val_main_v2, val_main_v3, val_main_v4, val_main_cst_0, val_main_v5,
    val_main_v6, val_main_cst_1, val_main_v7, val_main_v8, val_main_cst_2, val_main_v9, val_main_v10, val_main_v11,
    val_main_v12, val_main_v13, val_main_v14, val_main_v15, val_main_v16, val_main_v17,
    normed, scale, prod]

end Cert.FfnOutRefIdeal.Array

end
-- ==== Proof.FfnOut.Equation.lean ====
module

public import proofs.«01_k».proof.Proof.FfnOut.Kernel
public import proofs.«01_k».proof.Proof.FfnOut.Reference
public import proofs.«01_k».proof.Proof.Gen.FfnOutIdeal.Frame
public import proofs.«01_k».proof.Defs
public import Idealize.ShloMosaic.Lib.Claim

/-! # The residual of the feed-forward and the next RMS norm: the claim -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.FfnOutClaim

set_option maxHeartbeats 1000000 in
/-- Kernel and reference end with equal results. -/
theorem algebraic : algebraic_FfnOutIdeal_FfnOutRefIdeal := by
  pair_intro
  · run_from FfnOutIdeal.Gen.run_main m g
  · run_from FfnOutRefIdeal.Value.run m' g'
    · rw [FfnOutRefIdeal.Read.val_main_v3_eq]
      exact ((FfnOutIdeal.Array.final4 m c).trans (FfnOutRefIdeal.Array.readS _ _ _).symm).symm
    · rw [FfnOutRefIdeal.Read.val_main_v17_eq]
      exact ((FfnOutIdeal.Array.final5 m c).trans (FfnOutRefIdeal.Array.readN _ _ _ _).symm).symm

end Cert.FfnOutClaim

end
-- ==== Proof.MixOut.Kernel.lean ====
module

public import proofs.«01_k».proof.Proof.Gen.MixOutIdeal.Value
public import proofs.«01_k».proof.Proof.Common.Forward
public import Idealize.ShloMosaic.Lib.Pipeline.ValueKit
public import Idealize.ShloMosaic.Lib.Pointwise
public import Idealize.ShloMosaic.Lib.Claim

/-! # The residual of the mixer and the next RMS norm: what the kernel leaves -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.MixOutIdeal.Array

open Cert.MixOutIdeal Cert.MixOutIdeal.Gen Cert.Forward

variable (m : (ℓ : Loc nD τ sig) → Buf (Elt Ideal) ℓ)

/-- Every window's block index at every point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ t.val < 4 :=
  (by decide +kernel : ∀ t : Fin grid0.N, _)

/-- The gain the region is entered with. -/
theorem entryG (c : Dev nD) : V m c main_v2
    = (fun i => m ((c : Thread nD τ).loc main_arg3) (Idealize.ShloMosaic.ix1 (i 1)) : FVec Ideal S1x1024 .f32) := by
  refine funext (α := S1x1024.Idx) fun i => ?_
  unfold V
  after_results
  pointwise

/-- The sum of the residual and the product. -/
def sums (h : FVec Ideal S4096x1024 .f32) (w : FVec Ideal S1024x1024 .f32) (x : FVec Ideal S4096x1024 .f32) : FVec Ideal S4096x1024 .f32 := fun i =>
  x i + prod h w (i 0) (i 1)

/-- … normed. -/
def rows (h : FVec Ideal S4096x1024 .f32) (w : FVec Ideal S1024x1024 .f32) (x : FVec Ideal S4096x1024 .f32) (g : FVec Ideal S1024 .f32) : FVec Ideal S4096x1024 .bf16 := fun i =>
  normed (fun k => x (Idealize.ShloMosaic.ix2 (i 0) k) + prod h w (i 0) k) (fun k => g (Idealize.ShloMosaic.ix1 k)) (i 1)

/-- The sum, at a point's block. -/
theorem point4 (c : Dev nD) (t : Fin cfg0.N) (y : S1024x1024.Idx) :
    out0_4 (iblk m c 0 t) (iblk m c 1 t) (iblk m c 2 t) (iblk m c 3 t) y
      = sums (m ((c : Thread nD τ).loc main_arg0)) (m ((c : Thread nD τ).loc main_arg1)) (m ((c : Thread nD τ).loc main_arg2)) (((cfg0.win 4).blk t).view.emb y) := by
  unfold out0_4
  canon_tiles x h
  all_goals
    pointwise [k0_pay1, sums, prod]
    blk_point [iblk, V, idx t]

/-- The sum, after the run. -/
theorem final4 (c : Dev nD) : (dats m 0 c).arrAt 4 (cfgs 0).N = sums (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y

/-- The normed sum, at a point's block. -/
theorem point5 (c : Dev nD) (t : Fin cfg0.N) (y : S1024x1024.Idx) :
    out0_5 (iblk m c 0 t) (iblk m c 1 t) (iblk m c 2 t) (iblk m c 3 t) y
      = rows (m ((c : Thread nD τ).loc main_arg0)) (m ((c : Thread nD τ).loc main_arg1)) (m ((c : Thread nD τ).loc main_arg2)) (m ((c : Thread nD τ).loc main_arg3)) (((cfg0.win 5).blk t).view.emb y) := by
  unfold out0_5
  canon_tiles x h
  all_goals
    pointwise [k0_pay1, k0_pay2, rows, normed, scale, prod]
    blk_point [iblk, V, idx t]
  all_goals first | done | (rw [entryG]; blk_ext [idx t])

/-- The normed sum, after the run. -/
theorem final5 (c : Dev nD) : (dats m 0 c).arrAt 5 (cfgs 0).N = rows (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point5 m c t y

end Cert.MixOutIdeal.Array

end
-- ==== Proof.MixOut.Reference.lean ====
module

public import proofs.«01_k».proof.Proof.Gen.MixOutRefIdeal.Run
public import proofs.«01_k».proof.Proof.Gen.MixOutRefIdeal.Read
public import proofs.«01_k».proof.Proof.Common.Forward
public import Idealize.ShloMosaic.Lib.Pipeline.ValueKit
public import Idealize.ShloMosaic.Lib.Pointwise
public import Idealize.ShloMosaic.Lib.Claim

/-! # The residual of the mixer and the next RMS norm: what the reference computes -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.MixOutRefIdeal.Array

open Cert.MixOutRefIdeal Cert.MixOutRefIdeal.Gen Cert.MixOutRefIdeal.Read Cert.Forward

/-- The reference's sum. -/
theorem readS (h : FVec Ideal S4096x1024 .f32) (w : FVec Ideal S1024x1024 .f32) (x : FVec Ideal S4096x1024 .f32) :
    val_main_v1 (F := Ideal) h w x = (fun i => x i + prod h w (i 0) (i 1) : FVec Ideal S4096x1024 .f32) := by
  refine funext (α := S4096x1024.Idx) fun i => ?_
  pointwise [val_main_v0, val_main_v1, val_main_v2, val_main_cst, val_main_v3, val_main_v4, val_main_cst_0, val_main_v5,
    val_main_v6, val_main_cst_1, val_main_v7, val_main_v8, val_main_v9, val_main_v10, val_main_v11, val_main_v12,
    val_main_v13, val_main_v14, val_main_v15,
    prod]

/-- The reference's normed sum. -/
theorem readN (h : FVec Ideal S4096x1024 .f32) (w : FVec Ideal S1024x1024 .f32) (x : FVec Ideal S4096x1024 .f32) (g : FVec Ideal S1024 .f32) :
    val_main_v15 (F := Ideal) h w x g = (fun i => normed (fun k => x (Idealize.ShloMosaic.ix2 (i 0) k) + prod h w (i 0) k) (fun k => g (Idealize.ShloMosaic.ix1 k)) (i 1) : FVec Ideal S4096x1024 .bf16) := by
  refine funext (α := S4096x1024.Idx) fun i => ?_
  pointwise [val_main_v0, val_main_v1, val_main_v2, val_main_cst, val_main_v3, val_main_v4, val_main_cst_0, val_main_v5,
    val_main_v6, val_main_cst_1, val_main_v7, val_main_v8, val_main_v9, val_main_v10, val_main_v11, val_main_v12,
    val_main_v13, val_main_v14, val_main_v15,
    normed, scale, prod]

end Cert.MixOutRefIdeal.Array

end
-- ==== Proof.MixOut.Equation.lean ====
module

public import proofs.«01_k».proof.Proof.MixOut.Kernel
public import proofs.«01_k».proof.Proof.MixOut.Reference
public import proofs.«01_k».proof.Proof.Gen.MixOutIdeal.Frame
public import proofs.«01_k».proof.Defs
public import Idealize.ShloMosaic.Lib.Claim

/-! # The residual of the mixer and the next RMS norm: the claim -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.MixOutClaim

set_option maxHeartbeats 1000000 in
/-- Kernel and reference end with equal results. -/
theorem algebraic : algebraic_MixOutIdeal_MixOutRefIdeal := by
  pair_intro
  · run_from MixOutIdeal.Gen.run_main m g
  · run_from MixOutRefIdeal.Value.run m' g'
    · rw [MixOutRefIdeal.Read.val_main_v1_eq]
      exact ((MixOutIdeal.Array.final4 m c).trans (MixOutRefIdeal.Array.readS _ _ _).symm).symm
    · rw [MixOutRefIdeal.Read.val_main_v15_eq]
      exact ((MixOutIdeal.Array.final5 m c).trans (MixOutRefIdeal.Array.readN _ _ _ _).symm).symm

end Cert.MixOutClaim

end
-- ==== Proof.MergeF.Kernel.lean ====
module

public import proofs.«01_k».proof.Proof.Gen.MergeFIdeal.Value
public import proofs.«01_k».proof.Proof.Common.Forward
public import Idealize.ShloMosaic.Lib.Pipeline.ValueKit
public import Idealize.ShloMosaic.Lib.Pointwise
public import Idealize.ShloMosaic.Lib.Claim

/-! # The gated sum of the branches: what the kernel leaves -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.MergeFIdeal.Array

open Cert.MergeFIdeal Cert.MergeFIdeal.Gen Cert.Forward

variable (m : (ℓ : Loc nD τ sig) → Buf (Elt Ideal) ℓ)

/-- Every window's block index at every point. -/
theorem idx : ∀ t : Fin cfg0.N, win0_0.index t = ![t.val / 2, 0] ∧ win0_1.index t = ![t.val / 2, 0]
    ∧ win0_2.index t = ![t.val / 2, 7 + t.val % 2] ∧ win0_3.index t = ![t.val / 2, 9 + t.val % 2]
    ∧ win0_4.index t = ![0, t.val % 2] ∧ win0_5.index t = ![0, t.val % 2]
    ∧ win0_6.index t = ![t.val / 2, t.val % 2] ∧ win0_7.index t = ![t.val / 2, t.val % 2]
    ∧ win0_8.index t = ![t.val / 2, t.val % 2] ∧ t.val / 2 < 4
    ∧ t.val < 8 :=
  (by decide +kernel : ∀ t : Fin grid0.N, _)

/-- A product of two matrices. -/
def branch (x : FVec Ideal S4096x1024 .f32) (w : FVec Ideal S1024x1024 .f32) : FVec Ideal S4096x1024 .bf16 := fun i => prod x w (i 0) (i 1)

/-- The gated sum. -/
def merged (z o : FVec Ideal S4096x1024 .f32) (p : FVec Ideal S4096x5632 .f32) (w v : FVec Ideal S1024x1024 .f32) :
    FVec Ideal S4096x1024 .bf16 := fun i =>
  gate (p (Idealize.ShloMosaic.ix2 (i 0) ⟨3584 + (i 1).val, lt_trans (Nat.add_lt_add_left (i 1).isLt 3584) (by norm_num)⟩)) * prod z w (i 0) (i 1)
    + gate (p (Idealize.ShloMosaic.ix2 (i 0) ⟨4608 + (i 1).val, Nat.add_lt_add_left (i 1).isLt 4608⟩)) * prod o v (i 0) (i 1)

/-- The gated sum, at a point's block. -/
theorem point6 (c : Dev nD) (t : Fin cfg0.N) (y : S1024x512.Idx) :
    out0_6 (iblk m c 0 t) (iblk m c 1 t) (iblk m c 2 t) (iblk m c 3 t) (iblk m c 4 t) (iblk m c 5 t) y
      = merged (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  unfold out0_6
  canon_tiles x h
  all_goals
    pointwise [k0_pay3, k0_pay4, k0_pay5, merged, Cert.Forward.gate, prod]
    blk_point [iblk, V, idx t]

/-- The gated sum, after the run. -/
theorem final6 (c : Dev nD) : (dats m 0 c).arrAt 6 (cfgs 0).N = merged (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point6 m c t y

/-- The convolution's branch, at a point's block. -/
theorem point7 (c : Dev nD) (t : Fin cfg0.N) (y : S1024x512.Idx) :
    out0_7 (iblk m c 0 t) (iblk m c 1 t) (iblk m c 2 t) (iblk m c 3 t) (iblk m c 4 t) (iblk m c 5 t) y
      = branch (m ((c : Thread nD τ).loc main_arg0)) (m ((c : Thread nD τ).loc main_arg3)) (((cfg0.win 7).blk t).view.emb y) := by
  unfold out0_7
  canon_tiles x h
  all_goals
    pointwise [k0_pay1, k0_pay3, branch, prod]
    blk_point [iblk, V, idx t]

/-- The convolution's branch, after the run. -/
theorem final7 (c : Dev nD) : (dats m 0 c).arrAt 7 (cfgs 0).N = branch (m ((c : Thread nD τ).loc main_arg0)) (m ((c : Thread nD τ).loc main_arg3)) := by
  refine (dats m 0 c).arrAt_eq_of_covers 7 _ (by decide +kernel) fun t _ y => ?_
  blk_simp
  rw [after0_7]
  exact point7 m c t y

/-- The attention's branch, at a point's block. -/
theorem point8 (c : Dev nD) (t : Fin cfg0.N) (y : S1024x512.Idx) :
    out0_8 (iblk m c 0 t) (iblk m c 1 t) (iblk m c 2 t) (iblk m c 3 t) (iblk m c 4 t) (iblk m c 5 t) y
      = branch (m ((c : Thread nD τ).loc main_arg1)) (m ((c : Thread nD τ).loc main_arg4)) (((cfg0.win 8).blk t).view.emb y) := by
  unfold out0_8
  canon_tiles x h
  all_goals
    pointwise [k0_pay2, k0_pay4, branch, prod]
    blk_point [iblk, V, idx t]

/-- The attention's branch, after the run. -/
theorem final8 (c : Dev nD) : (dats m 0 c).arrAt 8 (cfgs 0).N = branch (m ((c : Thread nD τ).loc main_arg1)) (m ((c : Thread nD τ).loc main_arg4)) := by
  refine (dats m 0 c).arrAt_eq_of_covers 8 _ (by decide +kernel) fun t _ y => ?_
  blk_simp
  rw [after0_8]
  exact point8 m c t y

end Cert.MergeFIdeal.Array

end
-- ==== Proof.MergeF.Reference.lean ====
module

public import proofs.«01_k».proof.Proof.Gen.MergeFRefIdeal.Run
public import proofs.«01_k».proof.Proof.Gen.MergeFRefIdeal.Read
public import proofs.«01_k».proof.Proof.Common.Forward
public import Idealize.ShloMosaic.Lib.Pipeline.ValueKit
public import Idealize.ShloMosaic.Lib.Pointwise
public import Idealize.ShloMosaic.Lib.Claim

/-! # The gated sum of the branches: what the reference computes -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.MergeFRefIdeal.Array

open Cert.MergeFRefIdeal Cert.MergeFRefIdeal.Gen Cert.MergeFRefIdeal.Read Cert.Forward

/-- The reference's gated sum. -/
theorem readM (z o : FVec Ideal S4096x1024 .f32) (p : FVec Ideal S4096x5632 .f32) (w v : FVec Ideal S1024x1024 .f32) :
    val_main_v23 (F := Ideal) z o p w v = (fun i => gate (p (Idealize.ShloMosaic.ix2 (i 0) ⟨3584 + (i 1).val, lt_trans (Nat.add_lt_add_left (i 1).isLt 3584) (by norm_num)⟩)) * prod z w (i 0) (i 1)
    + gate (p (Idealize.ShloMosaic.ix2 (i 0) ⟨4608 + (i 1).val, Nat.add_lt_add_left (i 1).isLt 4608⟩)) * prod o v (i 0) (i 1) : FVec Ideal S4096x1024 .bf16) := by
  refine funext (α := S4096x1024.Idx) fun i => ?_
  pointwise [val_main_v0, val_main_v1, val_main_v2, val_main_v3, val_main_v4, val_main_v5, val_main_v6, val_main_v7,
    val_main_v8, val_main_v9, val_main_cst, val_main_v10, val_main_v11, val_main_cst_0, val_main_v12, val_main_v13,
    val_main_v14, val_main_v15, val_main_v16, val_main_cst_1, val_main_v17, val_main_v18, val_main_cst_2,
    val_main_v19, val_main_v20, val_main_v21, val_main_v22, val_main_v23, val_main_v24, val_main_v25,
    gate_eq, Cert.Forward.logistic, prod]

/-- The convolution's branch. -/
theorem readA (x : FVec Ideal S4096x1024 .f32) (w : FVec Ideal S1024x1024 .f32) :
    val_main_v24 (F := Ideal) x w = (fun i => prod x w (i 0) (i 1) : FVec Ideal S4096x1024 .bf16) := by
  refine funext (α := S4096x1024.Idx) fun i => ?_
  pointwise [val_main_v0, val_main_v1, val_main_v2, val_main_v3, val_main_v4, val_main_v5, val_main_v6, val_main_v7,
    val_main_v8, val_main_v9, val_main_cst, val_main_v10, val_main_v11, val_main_cst_0, val_main_v12, val_main_v13,
    val_main_v14, val_main_v15, val_main_v16, val_main_cst_1, val_main_v17, val_main_v18, val_main_cst_2,
    val_main_v19, val_main_v20, val_main_v21, val_main_v22, val_main_v23, val_main_v24, val_main_v25,
    prod]

/-- The attention's branch. -/
theorem readB (x : FVec Ideal S4096x1024 .f32) (w : FVec Ideal S1024x1024 .f32) :
    val_main_v25 (F := Ideal) x w = (fun i => prod x w (i 0) (i 1) : FVec Ideal S4096x1024 .bf16) := by
  refine funext (α := S4096x1024.Idx) fun i => ?_
  pointwise [val_main_v0, val_main_v1, val_main_v2, val_main_v3, val_main_v4, val_main_v5, val_main_v6, val_main_v7,
    val_main_v8, val_main_v9, val_main_cst, val_main_v10, val_main_v11, val_main_cst_0, val_main_v12, val_main_v13,
    val_main_v14, val_main_v15, val_main_v16, val_main_cst_1, val_main_v17, val_main_v18, val_main_cst_2,
    val_main_v19, val_main_v20, val_main_v21, val_main_v22, val_main_v23, val_main_v24, val_main_v25,
    prod]

end Cert.MergeFRefIdeal.Array

end
-- ==== Proof.MergeF.Equation.lean ====
module

public import proofs.«01_k».proof.Proof.MergeF.Kernel
public import proofs.«01_k».proof.Proof.MergeF.Reference
public import proofs.«01_k».proof.Proof.Gen.MergeFIdeal.Frame
public import proofs.«01_k».proof.Defs
public import Idealize.ShloMosaic.Lib.Claim

/-! # The gated sum of the branches: the claim -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.MergeFClaim

set_option maxHeartbeats 1000000 in
/-- Kernel and reference end with equal results. -/
theorem algebraic : algebraic_MergeFIdeal_MergeFRefIdeal := by
  pair_intro
  · run_from MergeFIdeal.Gen.run_main m g
  · run_from MergeFRefIdeal.Value.run m' g'
    · rw [MergeFRefIdeal.Read.val_main_v23_eq]
      exact ((MergeFIdeal.Array.final6 m c).trans (MergeFRefIdeal.Array.readM _ _ _ _ _).symm).symm
    · rw [MergeFRefIdeal.Read.val_main_v24_eq]
      exact ((MergeFIdeal.Array.final7 m c).trans (MergeFRefIdeal.Array.readA _ _).symm).symm
    · rw [MergeFRefIdeal.Read.val_main_v25_eq]
      exact ((MergeFIdeal.Array.final8 m c).trans (MergeFRefIdeal.Array.readB _ _).symm).symm

end Cert.MergeFClaim

end
-- ==== Proof.ConvF.Formula.lean ====
module

public import Idealize.ShloMosaic.Lib.Pipeline.ValueKit
public import Idealize.ShloMosaic.Lib.Pointwise
public import Idealize.ShloMosaic.Lib.Claim
public import proofs.«01_k».proof.Proof.ConvGlu.Formula
public import proofs.«01_k».proof.Proof.ConvLn.Formula

/-! # The convolution and its layer norm, as formulas over the arguments -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvFForm

/-- The gated linear unit of row `n`, channel `l`. -/
def glu (p : ConvGluForm.Cols.Idx → EReal) (n : Fin 4096) (l : Fin 1024) : EReal :=
  p (Idealize.ShloMosaic.ix2 n ⟨l.val, by omega⟩) * ConvGluForm.logistic (p (Idealize.ShloMosaic.ix2 n ⟨1024 + l.val, by omega⟩))

/-- … with thirty-two rows of zeros before the first. -/
def padded (p : ConvGluForm.Cols.Idx → EReal) (n : ℕ) (l : Fin 1024) : EReal :=
  if h : 32 ≤ n ∧ n < 4128 then glu p ⟨n - 32, by omega⟩ l else 0

/-- The convolution and its bias: every tap's weight times the row it reaches back to. -/
def conv (p : ConvGluForm.Cols.Idx → EReal) (w : ConvGluForm.Taps.Idx → EReal) (b : ConvLnForm.Row) (n : ℕ) : ConvLnForm.Row := fun l =>
  (∑ k : Fin 31, w (Idealize.ShloMosaic.ix2 k l) * padded p (n + 2 + k.val) l) + b l

/-- The SiLU of the normed, scaled and shifted row. -/
def silu (z g b : ConvLnForm.Row) (l : Fin 1024) : EReal := ConvLnForm.z2 z g b l * ConvLnForm.sg (ConvLnForm.z2 z g b l)

/-- The bias and the taps, in the order the kernel adds them. -/
theorem sum_from (b : EReal) (f : Fin 31 → EReal) :
    b + f 0 + f 8 + f 16 + f 24 + f 1 + f 9 + f 17 + f 25 + f 2 + f 10 + f 18 + f 26 + f 3 + f 11 + f 19 + f 27
      + f 4 + f 12 + f 20 + f 28 + f 5 + f 13 + f 21 + f 29 + f 6 + f 14 + f 22 + f 30 + f 7 + f 15 + f 23 = (∑ k, f k) + b := by
  rw [← ConvGluForm.sum_taps f]
  abel

/-- The taps, first to last. -/
theorem sum_up (f : Fin 31 → EReal) :
    f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = ∑ k, f k := by
  rw [← ConvGluForm.sum_taps f]
  abel

end Cert.ConvFForm

end
-- ==== Proof.ConvF.Kernel.lean ====
module

public import proofs.«01_k».proof.Proof.Gen.ConvFIdeal.Value
public import proofs.«01_k».proof.Proof.ConvF.Formula
public import Idealize.ShloMosaic.Lib.Pipeline.ValueKit
public import Idealize.ShloMosaic.Lib.Pointwise
public import Idealize.ShloMosaic.Lib.Claim
public import Idealize.ShloMosaic.Lib.Pipeline.ReadBack

/-! # The convolution and its layer norm: what the kernel leaves -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvFIdeal.Array

open Cert.ConvFIdeal Cert.ConvFIdeal.Gen

variable (m : (ℓ : Loc nD τ sig) → Buf (Elt Ideal) ℓ)

set_option maxHeartbeats 4000000

/-- Every window's block index at every point. -/
theorem idx : ∀ t : Fin cfg0.N, win0_0.index t = ![t.val, 0] ∧ win0_1.index t = ![t.val, 1]
    ∧ win0_2.index t = ![8 * t.val - 1, 0] ∧ win0_3.index t = ![8 * t.val - 1, 1]
    ∧ win0_4.index t = ![0, 0] ∧ win0_5.index t = ![0, 0] ∧ win0_6.index t = ![0, 0] ∧ win0_7.index t = ![0, 0]
    ∧ win0_8.index t = ![t.val, 0] ∧ win0_9.index t = ![t.val, 0]
    ∧ t.val < 16 :=
  (by decide +kernel : ∀ t : Fin grid0.N, _)

/-- The weights the region is entered with: the taps, and a row of zeros. -/
theorem entryW (c : Dev nD) (k : Fin 31) (l : Fin 1024) : V m c main_v0 (Idealize.ShloMosaic.ix2 ⟨k.val, by omega⟩ l)
    = m ((c : Thread nD τ).loc main_arg1) (Idealize.ShloMosaic.ix2 k l) := by
  have e : V m c main_v0 = (pad S32x1024 ![0, 0] ![1, 0] ![0, 0] (m ((c : Thread nD τ).loc main_arg1) : FVec Ideal S31x1024 .f32)
      (sitofp .f32 (constantI S_ 32 0#32) : FVec Ideal S_ .f32) pads_S31x1024_S32x1024_010_000 h_S_ : FVec Ideal S32x1024 .f32) := by
    simp only [V, List.flatten_cons, List.flatten_nil, List.append_nil, hostOps0, hostOps0_1, hostOps0_2, List.cons_append, List.nil_append]
    after_results_simp
    rfl
  rw [e]
  pointwise
  refine (dif_pos fun a => ?_).trans (congrArg _ ?_)
  · have hk := k.isLt
    have hl := l.isLt
    match a with
    | ⟨0, _⟩ => exact ⟨Nat.zero_le _, Nat.mod_one _, by simpa using hk⟩
    | ⟨1, _⟩ => exact ⟨Nat.zero_le _, Nat.mod_one _, by simpa using hl⟩
  · blk_ext

/-- The columns the region is entered with. -/
theorem entryP (c : Dev nD) : V m c main_v1 = (m ((c : Thread nD τ).loc main_arg0) : FVec Ideal S4096x5632 .f32) := by
  simp only [V, List.flatten_cons, List.flatten_nil, List.append_nil, hostOps0, hostOps0_1, hostOps0_2, List.cons_append, List.nil_append]
  after_results_simp
  rfl

/-- The bias the region is entered with. -/
theorem entryB (c : Dev nD) (l : Fin 1024) : V m c main_v2 (Idealize.ShloMosaic.ix2 0 l) = m ((c : Thread nD τ).loc main_arg2) (Idealize.ShloMosaic.ix1 l) := by
  have e : V m c main_v2 = (Idealize.ShloMosaic.shapeCast S1x1024 (m ((c : Thread nD τ).loc main_arg2) : FVec Ideal S1024 .f32) shapeCasts_S1024_S1x1024 : FVec Ideal S1x1024 .f32) := by
    simp only [V, List.flatten_cons, List.flatten_nil, List.append_nil, hostOps0, hostOps0_1, hostOps0_2, List.cons_append, List.nil_append]
    after_results_simp
    rfl
  rw [e]
  pointwise

/-- The scale the region is entered with. -/
theorem entryG (c : Dev nD) (l : Fin 1024) : V m c main_v3 (Idealize.ShloMosaic.ix2 0 l) = m ((c : Thread nD τ).loc main_arg3) (Idealize.ShloMosaic.ix1 l) := by
  have e : V m c main_v3 = (Idealize.ShloMosaic.shapeCast S1x1024 (m ((c : Thread nD τ).loc main_arg3) : FVec Ideal S1024 .f32) shapeCasts_S1024_S1x1024 : FVec Ideal S1x1024 .f32) := by
    simp only [V, List.flatten_cons, List.flatten_nil, List.append_nil, hostOps0, hostOps0_1, hostOps0_2, List.cons_append, List.nil_append]
    after_results_simp
    rfl
  rw [e]
  pointwise

/-- The shift the region is entered with. -/
theorem entryH (c : Dev nD) (l : Fin 1024) : V m c main_v4 (Idealize.ShloMosaic.ix2 0 l) = m ((c : Thread nD τ).loc main_arg4) (Idealize.ShloMosaic.ix1 l) := by
  have e : V m c main_v4 = (Idealize.ShloMosaic.shapeCast S1x1024 (m ((c : Thread nD τ).loc main_arg4) : FVec Ideal S1024 .f32) shapeCasts_S1024_S1x1024 : FVec Ideal S1x1024 .f32) := by
    simp only [V, List.flatten_cons, List.flatten_nil, List.append_nil, hostOps0, hostOps0_1, hostOps0_2, List.cons_append, List.nil_append]
    after_results_simp
    rfl
  rw [e]
  pointwise

/-- … as a point's block. -/
theorem blkB (c : Dev nD) (t : Fin cfg0.N) (l : Fin 1024) : (iblk m c 5 t (Idealize.ShloMosaic.ix2 0 l) : EReal) = m ((c : Thread nD τ).loc main_arg2) (Idealize.ShloMosaic.ix1 l) := by
  refine Eq.trans ?_ (entryB m c l)
  simp only [iblk]
  blk_simp
  blk_ext [idx t]

/-- … as a point's block. -/
theorem blkG (c : Dev nD) (t : Fin cfg0.N) (l : Fin 1024) : (iblk m c 6 t (Idealize.ShloMosaic.ix2 0 l) : EReal) = m ((c : Thread nD τ).loc main_arg3) (Idealize.ShloMosaic.ix1 l) := by
  refine Eq.trans ?_ (entryG m c l)
  simp only [iblk]
  blk_simp
  blk_ext [idx t]

/-- … as a point's block. -/
theorem blkH (c : Dev nD) (t : Fin cfg0.N) (l : Fin 1024) : (iblk m c 7 t (Idealize.ShloMosaic.ix2 0 l) : EReal) = m ((c : Thread nD τ).loc main_arg4) (Idealize.ShloMosaic.ix1 l) := by
  refine Eq.trans ?_ (entryH m c l)
  simp only [iblk]
  blk_simp
  blk_ext [idx t]

/-- A point's block of the weights. -/
theorem wBlk (c : Dev nD) (t : Fin cfg0.N) (k : Fin 31) (l : Fin 1024) : (iblk m c 4 t (Idealize.ShloMosaic.ix2 ⟨k.val, by omega⟩ l) : EReal)
    = m ((c : Thread nD τ).loc main_arg1) (Idealize.ShloMosaic.ix2 k l) := by
  refine Eq.trans ?_ (entryW m c k l)
  simp only [iblk]
  blk_simp
  blk_ext [idx t]

/-- A point's rows of the value half. -/
theorem aBlk (c : Dev nD) (t : Fin cfg0.N) (x : S256x1024.Idx) (h : t.val < 16) : (X0_0 m c t x : EReal)
    = m ((c : Thread nD τ).loc main_arg0) (Idealize.ShloMosaic.ix2 ⟨t.val * 256 + (x 0).val, by have := (x 0).isLt; simp at this; omega⟩ ⟨(x 1).val, by have := (x 1).isLt; simp at this; omega⟩) := by
  have hx : (x 0).val < 256 := (x 0).isLt
  unfold X0_0 Pipeline.Window.fill
  rw [dif_pos (moved0_0 t _)]
  simp only [iblk]
  blk_simp
  rw [entryP]
  blk_ext [idx t]

/-- A point's rows of the gate half. -/
theorem gBlk (c : Dev nD) (t : Fin cfg0.N) (x : S256x1024.Idx) (h : t.val < 16) : (X0_1 m c t x : EReal)
    = m ((c : Thread nD τ).loc main_arg0) (Idealize.ShloMosaic.ix2 ⟨t.val * 256 + (x 0).val, by have := (x 0).isLt; simp at this; omega⟩ ⟨1024 + (x 1).val, by have := (x 1).isLt; simp at this; omega⟩) := by
  have hx : (x 0).val < 256 := (x 0).isLt
  unfold X0_1 Pipeline.Window.fill
  rw [dif_pos (moved0_1 t _)]
  simp only [iblk]
  blk_simp
  rw [entryP]
  blk_ext [idx t]

/-- The thirty-two rows before them. -/
theorem aHalo (c : Dev nD) (t : Fin cfg0.N) (x : S32x1024.Idx) (h : t.val < 16) (h0 : 0 < t.val) : (X0_2 m c t x : EReal)
    = m ((c : Thread nD τ).loc main_arg0) (Idealize.ShloMosaic.ix2 ⟨t.val * 256 + (x 0).val - 32, by have := (x 0).isLt; simp at this; omega⟩ ⟨(x 1).val, by have := (x 1).isLt; simp at this; omega⟩) := by
  have hx : (x 0).val < 32 := (x 0).isLt
  unfold X0_2 Pipeline.Window.fill
  rw [dif_pos (moved0_2 t _)]
  simp only [iblk]
  blk_simp
  rw [entryP]
  blk_ext [idx t]

/-- … of the gate half. -/
theorem gHalo (c : Dev nD) (t : Fin cfg0.N) (x : S32x1024.Idx) (h : t.val < 16) (h0 : 0 < t.val) : (X0_3 m c t x : EReal)
    = m ((c : Thread nD τ).loc main_arg0) (Idealize.ShloMosaic.ix2 ⟨t.val * 256 + (x 0).val - 32, by have := (x 0).isLt; simp at this; omega⟩ ⟨1024 + (x 1).val, by have := (x 1).isLt; simp at this; omega⟩) := by
  have hx : (x 0).val < 32 := (x 0).isLt
  unfold X0_3 Pipeline.Window.fill
  rw [dif_pos (moved0_3 t _)]
  simp only [iblk]
  blk_simp
  rw [entryP]
  blk_ext [idx t]

/-- The first point has none before it. -/
theorem first_sgt : ∀ t : Fin cfg0.N, t.val = 0 → Scalar.cmpi CmpIPredicate.sgt (BitVec.ofNat 32 (grid0.coords t 0).val) 0#32 = 0#1 :=
  (by decide +kernel : ∀ t : Fin grid0.N, t.val = 0 → Scalar.cmpi CmpIPredicate.sgt (BitVec.ofNat 32 (grid0.coords t 0).val) 0#32 = 0#1)

/-- Every other has them. -/
theorem after_sgt : ∀ t : Fin cfg0.N, 0 < t.val → Scalar.cmpi CmpIPredicate.sgt (BitVec.ofNat 32 (grid0.coords t 0).val) 0#32 = 1#1 :=
  (by decide +kernel : ∀ t : Fin grid0.N, 0 < t.val → Scalar.cmpi CmpIPredicate.sgt (BitVec.ofNat 32 (grid0.coords t 0).val) 0#32 = 1#1)

/-- The gated rows a point convolves. -/
def rowsAt (c : Dev nD) (t : Fin cfg0.N) (i : S288x1024.Idx) : EReal :=
  ConvFForm.padded (m ((c : Thread nD τ).loc main_arg0)) (t.val * 256 + (i 0).val) ⟨(i 1).val, (i 1).isLt⟩

/-- A point's own gated rows. -/
theorem own_eq (c : Dev nD) (t : Fin cfg0.N) (x : S256x1024.Idx) : (k0_pay3 (F := Ideal) (X0_0 m c t) (X0_1 m c t) x : EReal)
    = ConvFForm.padded (m ((c : Thread nD τ).loc main_arg0)) (t.val * 256 + (32 + (x 0).val)) ⟨(x 1).val, (x 1).isLt⟩ := by
  have ht : t.val < 16 := t.isLt
  have hx : (x 0).val < 256 := (x 0).isLt
  unfold ConvFForm.padded ConvFForm.glu ConvGluForm.logistic
  rw [dif_pos (by omega)]
  pointwise [k0_pay3]
  rw [aBlk m c t x ht, gBlk m c t x ht, zero_sub]
  have e : (⟨t.val * 256 + (x 0).val, by omega⟩ : Fin 4096) = ⟨t.val * 256 + (32 + (x 0).val) - 32, by omega⟩ := Fin.ext (by dsimp only; omega)
  rw [e]

/-- The rows before, zero at the first point. -/
theorem halo_eq (c : Dev nD) (t : Fin cfg0.N) (x : S32x1024.Idx) :
    (k0_pay2 (F := Ideal) (grid0.coords t) (X0_2 m c t) (X0_3 m c t) x : EReal)
    = ConvFForm.padded (m ((c : Thread nD τ).loc main_arg0)) (t.val * 256 + (x 0).val) ⟨(x 1).val, (x 1).isLt⟩ := by
  have ht : t.val < 16 := t.isLt
  have hx : (x 0).val < 32 := (x 0).isLt
  pointwise [k0_pay2]
  unfold ConvFForm.padded ConvFForm.glu ConvGluForm.logistic
  rcases Nat.eq_zero_or_pos t.val with h | h
  · rw [dif_neg (by omega), first_sgt t h]
    rfl
  · rw [dif_pos (by omega), after_sgt t h]
    refine Eq.trans (congrArg₂ (fun a b : EReal => a * Ideal.div 1 (1 + Ideal.exp (0 - b))) (aHalo m c t x ht h) (gHalo m c t x ht h)) ?_
    rw [zero_sub]

/-- The gated rows, as a point stores them. -/
theorem rows_eq (c : Dev nD) (t : Fin cfg0.N) (i : S288x1024.Idx) :
    (View.canon (Val := Elt Ideal) (s := S288x1024) (e := .f32)
      [⟨Rect.unit ![32, 0] ![256, 1024] inb_S288x1024_S256x1024_32_0, k0_pay3 (X0_0 m c t) (X0_1 m c t)⟩,
        ⟨Rect.unit ![0, 0] ![32, 1024] inb_S288x1024_S32x1024_0_0, k0_pay2 (grid0.coords t) (X0_2 m c t) (X0_3 m c t)⟩] i : EReal) = rowsAt m c t i := by
  have ht : t.val < 16 := t.isLt
  canon_tiles x h using (by
    have b0 := (i 0).isLt
    have b1 := (i 1).isLt
    simp only [List.mem_cons, exists_eq_or_imp, exists_eq_left, List.not_mem_nil, false_and, exists_false, or_false, Rect.mem_set_unit, Fin.forall_fin_succ]
    simp at b0 b1 ⊢
    omega)
  · rw [own_eq, rowsAt, h0]
    exact congrArg (ConvFForm.padded _ _) (Fin.ext h1.symm)
  · rw [halo_eq, rowsAt, h0]
    exact congrArg (ConvFForm.padded _ _) (Fin.ext h1.symm)

/-- The convolution's rows at a point. -/
abbrev convAt (c : Dev nD) (n : ℕ) : ConvLnForm.Row := ConvFForm.conv (m ((c : Thread nD τ).loc main_arg0))
  (m ((c : Thread nD τ).loc main_arg1)) (fun l => m ((c : Thread nD τ).loc main_arg2) (Idealize.ShloMosaic.ix1 l)) n

set_option maxHeartbeats 2000000 in
/-- What a point leaves in its block of the convolution. -/
theorem pointZ (c : Dev nD) (t : Fin cfg0.N) (y : S256x1024.Idx) : ((outsAt0 m c t).2 y : EReal) = convAt m c (t.val * 256 + (y 0).val) (y 1) := by
  have ht : t.val < 16 := t.isLt
  unfold outsAt0
  dsimp only
  frame_out
  simp only [View.readCov_eq_canon']
  generalize hP : View.canon (Val := Elt Ideal) (s := S288x1024) (e := .f32) _ = P
  have hp : ∀ i, P i = rowsAt m c t i := fun i => by rw [← hP]; exact rows_eq m c t i
  unfold convAt ConvFForm.conv
  generalize hf : (fun k : Fin 31 => ConvGluForm.times (m ((c : Thread nD τ).loc main_arg1) (Idealize.ShloMosaic.ix2 k (y 1)))
    (ConvFForm.padded (m ((c : Thread nD τ).loc main_arg0)) (t.val * 256 + (y 0).val + 2 + k.val) (y 1))) = f
  have hterm : ∀ (k : Fin 31) (k' : Fin 32) (r : Fin 288) (l : Fin 1024), k'.val = k.val → r.val = (y 0).val + 2 + k.val → l.val = (y 1).val →
      ConvGluForm.times (iblk m c 4 t (Idealize.ShloMosaic.ix2 k' l)) (P (Idealize.ShloMosaic.ix2 r l)) = f k := by
    intro k k' r l hk hr hl
    have e : l = y 1 := Fin.ext hl
    subst e
    rw [← hf, show k' = ⟨k.val, by omega⟩ from Fin.ext hk]
    refine congrArg₂ (· * ·) (wBlk m c t k _) ?_
    rw [hp]
    unfold rowsAt
    refine congrArg (fun n => ConvFForm.padded _ n _) ?_
    show t.val * 256 + r.val = _
    omega
  have hbias : ∀ l : Fin 1024, l.val = (y 1).val → (iblk m c 5 t (Idealize.ShloMosaic.ix2 0 l) : EReal) = m ((c : Thread nD τ).loc main_arg2) (Idealize.ShloMosaic.ix1 (y 1)) := by
    intro l hl
    rw [show l = y 1 from Fin.ext hl]
    exact blkB m c t _
  refine Eq.trans ?_ (ConvFForm.sum_from _ f)
  canon_tiles x h
  all_goals
    pointwise [k0_pay4, k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253,
    k0_pay254, k0_pay255, k0_pay256, k0_pay257, k0_pay258, k0_pay259, k0_pay260, k0_pay261, k0_pay262, k0_pay263,
    k0_pay264, k0_pay265, k0_pay266, k0_pay267, k0_pay268, k0_pay269, k0_pay270, k0_pay271, k0_pay272, k0_pay273,
    k0_pay274, k0_pay275, k0_pay276, k0_pay277, k0_pay278, k0_pay279, k0_pay280, k0_pay281, k0_pay282, k0_pay283,
    k0_pay284, k0_pay285, k0_pay286, k0_pay287, k0_pay288, k0_pay289, k0_pay290, k0_pay291, k0_pay292, k0_pay293,
    k0_pay294, k0_pay295, k0_pay296, k0_pay297, k0_pay298, k0_pay299, k0_pay300, k0_pay301, k0_pay302, k0_pay303,
    k0_pay304, k0_pay305, k0_pay306, k0_pay307, k0_pay308, k0_pay309, k0_pay310, k0_pay311, k0_pay312, k0_pay313,
    k0_pay314, k0_pay315, k0_pay316, k0_pay317, k0_pay318, k0_pay319, k0_pay320, k0_pay321, k0_pay322, k0_pay323,
    k0_pay324, k0_pay325, k0_pay326, k0_pay327, k0_pay328, k0_pay329, k0_pay330, k0_pay331, k0_pay332, k0_pay333,
    k0_pay334, k0_pay335, k0_pay336, k0_pay337, k0_pay338, k0_pay339, k0_pay340, k0_pay341]
    iterate 31 refine congrArg₂ (· + ·) ?_ ?_
    all_goals first
      | (refine hterm _ _ _ _ rfl ?_ ?_ <;> (dsimp only; omega))
      | (refine hbias _ ?_; dsimp only; omega)

end Cert.ConvFIdeal.Array

end
-- ==== Proof.ConvF.Store.lean ====
module

public import proofs.«01_k».proof.Proof.ConvF.Kernel

/-! # The layer norm of the convolution, and the arrays the kernel leaves -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvFIdeal.Array

open Cert.ConvFIdeal Cert.ConvFIdeal.Gen

variable (m : (ℓ : Loc nD τ sig) → Buf (Elt Ideal) ℓ)

/-- A row of a block. -/
abbrev row (x : FVec Ideal S256x1024 .f32) (p : Fin 256) : ConvLnForm.Row := fun k => (x (Idealize.ShloMosaic.ix2 p k) : EReal)
/-- The one row of a scale or a shift. -/
abbrev only (x : FVec Ideal S1x1024 .f32) : ConvLnForm.Row := fun k => (x (Idealize.ShloMosaic.ix2 0 k) : EReal)

theorem zc_at (z : FVec Ideal S256x1024 .f32) (p : Fin 256) (q : Fin 1024) :
    (k0_pay340 (F := Ideal) z (Idealize.ShloMosaic.ix2 p q) : EReal) = ConvLnForm.zc (row z p) q := by
  pointwise [k0_pay340, ConvLnForm.zc, ConvLnForm.mean]

theorem sq_at (z : FVec Ideal S256x1024 .f32) (p : Fin 256) (q : Fin 1) :
    (k0_pay341 (F := Ideal) z (Idealize.ShloMosaic.ix2 p q) : EReal) = ConvLnForm.mean (fun k => ConvLnForm.zc (row z p) k * ConvLnForm.zc (row z p) k) := by
  unfold ConvLnForm.mean
  pointwise [k0_pay341]
  simp only [zc_at]

/-- The SiLU of the normed row. -/
theorem silu_at (z : FVec Ideal S256x1024 .f32) (g b : FVec Ideal S1x1024 .f32) (p : Fin 256) (q : Fin 1024) :
    (k0_pay1 (F := Ideal) (k0_pay340 z) (k0_pay341 z) (FloatOps.ofBits FTy.f32 897988541#32) g b (Idealize.ShloMosaic.ix2 p q) : EReal)
      = ConvFForm.silu (row z p) (only g) (only b) q := by
  unfold ConvFForm.silu ConvLnForm.sg ConvLnForm.z2 ConvLnForm.xh ConvLnForm.rs ConvLnForm.ms
  pointwise [k0_pay1]
  simp only [zc_at, sq_at, zero_sub]

set_option maxHeartbeats 2000000 in
/-- What a point leaves in its block of the SiLU. -/
theorem point8 (c : Dev nD) (t : Fin cfg0.N) (y : S256x1024.Idx) : ((outsAt0 m c t).1 y : EReal)
    = ConvFForm.silu (convAt m c (t.val * 256 + (y 0).val)) (fun l => (m ((c : Thread nD τ).loc main_arg3) (Idealize.ShloMosaic.ix1 l) : EReal)) (fun l => (m ((c : Thread nD τ).loc main_arg4) (Idealize.ShloMosaic.ix1 l) : EReal)) (y 1) := by
  unfold outsAt0
  dsimp only
  frame_out
  simp only [View.readCov_eq_canon']
  generalize hZ : View.canon (Val := Elt Ideal) (s := S256x1024) (e := .f32) _ = Z
  have hz : ∀ y, (Z y : EReal) = convAt m c (t.val * 256 + (y 0).val) (y 1) := by
    intro y
    rw [← hZ]
    refine Eq.trans ?_ (pointZ m c t y)
    unfold outsAt0
    dsimp only
    frame_out
    simp only [View.readCov_eq_canon']
  clear hZ
  have hw : (fun j => Z ((Rect.unit ![0, 0] ![256, 1024] inb_S256x1024_S256x1024_0_0).idx j)) = Z := by
    funext j
    refine congrArg Z (funext fun a => Fin.ext ?_)
    rw [Rect.idx_unit_val]
    fin_cases a <;> simp
  rw [hw]
  obtain ⟨p, q, rfl⟩ : ∃ (p : Fin 256) (q : Fin 1024), y = Idealize.ShloMosaic.ix2 p q := ⟨y 0, y 1, (Idealize.ShloMosaic.ix2_eta y).symm⟩
  refine (silu_at Z _ _ p q).trans ?_
  have e1 : row Z p = convAt m c (t.val * 256 + p.val) := by
    funext k
    exact hz _
  have e2 : only (iblk m c 6 t) = (fun l => (m ((c : Thread nD τ).loc main_arg3) (Idealize.ShloMosaic.ix1 l) : EReal)) := by
    funext k
    exact blkG m c t k
  have e3 : only (iblk m c 7 t) = (fun l => (m ((c : Thread nD τ).loc main_arg4) (Idealize.ShloMosaic.ix1 l) : EReal)) := by
    funext k
    exact blkH m c t k
  rw [e1, e2, e3]
  rfl

/-- The SiLU of the normed convolution. -/
theorem final8 (c : Dev nD) : (dats m 0 c).arrAt 8 (cfgs 0).N
    = fun i : S4096x1024.Idx => ConvFForm.silu (convAt m c (i 0).val) (fun l => (m ((c : Thread nD τ).loc main_arg3) (Idealize.ShloMosaic.ix1 l) : EReal)) (fun l => (m ((c : Thread nD τ).loc main_arg4) (Idealize.ShloMosaic.ix1 l) : EReal)) (i 1) := by
  refine (dats m 0 c).arrAt_eq_of_covers 8 _ (by decide +kernel) fun t _ y => ?_
  blk_simp
  rw [after0_8]
  refine (point8 m c t y).trans ?_
  have e0 : t.val * 256 + (y 0).val = win0_8.index t 0 * 256 + (y 0).val := by simp [idx t]
  have e1 : (y 1 : Fin 1024) = (win0_8.blk t).view.emb y 1 := by
    refine Fin.ext ?_
    blk_simp [idx t]
  rw [e0, e1]

/-- The convolution. -/
theorem final9 (c : Dev nD) : (dats m 0 c).arrAt 9 (cfgs 0).N = fun i : S4096x1024.Idx => convAt m c (i 0).val (i 1) := by
  refine (dats m 0 c).arrAt_eq_of_covers 9 _ (by decide +kernel) fun t _ y => ?_
  blk_simp
  rw [after0_9]
  refine (pointZ m c t y).trans ?_
  have e0 : t.val * 256 + (y 0).val = win0_9.index t 0 * 256 + (y 0).val := by simp [idx t]
  have e1 : (y 1 : Fin 1024) = (win0_9.blk t).view.emb y 1 := by
    refine Fin.ext ?_
    blk_simp [idx t]
  rw [e0, e1]

end Cert.ConvFIdeal.Array

end
-- ==== Proof.ConvF.Reference.lean ====
module

public import proofs.«01_k».proof.Proof.Gen.ConvFRefIdeal.Run
public import proofs.«01_k».proof.Proof.Gen.ConvFRefIdeal.Read
public import proofs.«01_k».proof.Proof.ConvF.Formula
public import Idealize.ShloMosaic.Lib.KernelVsHost

/-! # The convolution and its layer norm: what the reference computes -/

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvFRefIdeal.Array

open Cert.ConvFRefIdeal Cert.ConvFRefIdeal.Gen Cert.ConvFRefIdeal.Read

variable (x0 : FVec Ideal S4096x5632 .f32) (x1 : FVec Ideal S31x1024 .f32) (x2 x3 x4 : FVec Ideal S1024 .f32)

/-- A bias, a scale or a shift. -/
abbrev vec (x : FVec Ideal S1024 .f32) : ConvLnForm.Row := fun k => (x (Idealize.ShloMosaic.ix1 k) : EReal)

/-- The gated rows behind thirty rows of zeros. -/
theorem src_at (r : Fin 4126) (l : Fin 1024) : (val_main_v10 (F := Ideal) x0 (Idealize.ShloMosaic.ix2 r l) : EReal) = ConvFForm.padded x0 (r.val + 2) l := by
  have hr : r.val < 4126 := r.isLt
  unfold ConvFForm.padded ConvFForm.glu ConvGluForm.logistic
  pointwise [val_main_v10, val_main_v0, val_main_v1, val_main_v2, val_main_v3, val_main_v4, val_main_v5, val_main_v6, val_main_v7, val_main_v8, val_main_v9, val_main_cst, val_main_cst_0, val_main_cst_1]
  by_cases h : r.val < 30
  · rw [dif_pos h, dif_neg (by omega)]
  · rw [dif_neg h, dif_pos (by omega)]
    have e : (⟨r.val - 30, by omega⟩ : Fin 4096) = ⟨r.val + 2 - 32, by omega⟩ := Fin.ext (by dsimp only; omega)
    rw [e]

set_option maxHeartbeats 4000000 in
/-- The convolution. -/
theorem conv_at (n : Fin 4096) (l : Fin 1024) : (val_main_v229 (F := Ideal) x0 x1 x2 (Idealize.ShloMosaic.ix2 n l) : EReal) = ConvFForm.conv x0 x1 (vec x2) n.val l := by
  unfold ConvFForm.conv
  generalize hf : (fun k : Fin 31 => ConvGluForm.times (x1 (Idealize.ShloMosaic.ix2 k l)) (ConvFForm.padded x0 (n.val + 2 + k.val) l)) = f
  have hterm : ∀ (k k' : Fin 31) (r : Fin 4126) (l' : Fin 1024), k'.val = k.val → r.val = n.val + k.val → l'.val = l.val →
      ConvGluForm.times (x1 (Idealize.ShloMosaic.ix2 k' l')) (val_main_v10 (F := Ideal) x0 (Idealize.ShloMosaic.ix2 r l')) = f k := by
    intro k k' r l' hk hr hl
    have e : l' = l := Fin.ext hl
    subst e
    rw [← hf, show k' = k from Fin.ext hk, src_at]
    refine congrArg (fun n => ConvGluForm.times _ (ConvFForm.padded x0 n _)) ?_
    omega
  refine Eq.trans ?_ (congrArg (· + vec x2 l) (ConvFForm.sum_up f))
  pointwise [val_main_v11, val_main_v12, val_main_v13, val_main_v14, val_main_v15, val_main_v16, val_main_v17, val_main_v18, val_main_v19,
    val_main_v20, val_main_v21, val_main_v22, val_main_v23, val_main_v24, val_main_v25, val_main_v26, val_main_v27, val_main_v28,
    val_main_v29, val_main_v30, val_main_v31, val_main_v32, val_main_v33, val_main_v34, val_main_v35, val_main_v36, val_main_v37,
    val_main_v38, val_main_v39, val_main_v40, val_main_v41, val_main_v42, val_main_v43, val_main_v44, val_main_v45, val_main_v46,
    val_main_v47, val_main_v48, val_main_v49, val_main_v50, val_main_v51, val_main_v52, val_main_v53, val_main_v54, val_main_v55,
    val_main_v56, val_main_v57, val_main_v58, val_main_v59, val_main_v60, val_main_v61, val_main_v62, val_main_v63, val_main_v64,
    val_main_v65, val_main_v66, val_main_v67, val_main_v68, val_main_v69, val_main_v70, val_main_v71, val_main_v72, val_main_v73,
    val_main_v74, val_main_v75, val_main_v76, val_main_v77, val_main_v78, val_main_v79, val_main_v80, val_main_v81, val_main_v82,
    val_main_v83, val_main_v84, val_main_v85, val_main_v86, val_main_v87, val_main_v88, val_main_v89, val_main_v90, val_main_v91,
    val_main_v92, val_main_v93, val_main_v94, val_main_v95, val_main_v96, val_main_v97, val_main_v98, val_main_v99, val_main_v100,
    val_main_v101, val_main_v102, val_main_v103, val_main_v104, val_main_v105, val_main_v106, val_main_v107, val_main_v108,
    val_main_v109, val_main_v110, val_main_v111, val_main_v112, val_main_v113, val_main_v114, val_main_v115, val_main_v116,
    val_main_v117, val_main_v118, val_main_v119, val_main_v120, val_main_v121, val_main_v122, val_main_v123, val_main_v124,
    val_main_v125, val_main_v126, val_main_v127, val_main_v128, val_main_v129, val_main_v130, val_main_v131, val_main_v132,
    val_main_v133, val_main_v134, val_main_v135, val_main_v136, val_main_v137, val_main_v138, val_main_v139, val_main_v140,
    val_main_v141, val_main_v142, val_main_v143, val_main_v144, val_main_v145, val_main_v146, val_main_v147, val_main_v148,
    val_main_v149, val_main_v150, val_main_v151, val_main_v152, val_main_v153, val_main_v154, val_main_v155, val_main_v156,
    val_main_v157, val_main_v158, val_main_v159, val_main_v160, val_main_v161, val_main_v162, val_main_v163, val_main_v164,
    val_main_v165, val_main_v166, val_main_v167, val_main_v168, val_main_v169, val_main_v170, val_main_v171, val_main_v172,
    val_main_v173, val_main_v174, val_main_v175, val_main_v176, val_main_v177, val_main_v178, val_main_v179, val_main_v180,
    val_main_v181, val_main_v182, val_main_v183, val_main_v184, val_main_v185, val_main_v186, val_main_v187, val_main_v188,
    val_main_v189, val_main_v190, val_main_v191, val_main_v192, val_main_v193, val_main_v194, val_main_v195, val_main_v196,
    val_main_v197, val_main_v198, val_main_v199, val_main_v200, val_main_v201, val_main_v202, val_main_v203, val_main_v204,
    val_main_v205, val_main_v206, val_main_v207, val_main_v208, val_main_v209, val_main_v210, val_main_v211, val_main_v212,
    val_main_v213, val_main_v214, val_main_v215, val_main_v216, val_main_v217, val_main_v218, val_main_v219, val_main_v220,
    val_main_v221, val_main_v222, val_main_v223, val_main_v224, val_main_v225, val_main_v226, val_main_v227, val_main_v228,
    val_main_v229]
  iterate 31 refine congrArg₂ (· + ·) ?_ ?_
  all_goals first
    | rfl
    | (refine hterm _ _ _ _ rfl ?_ ?_ <;> first | rfl | (dsimp only; omega) | omega)

/-- A row of the convolution. -/
def zrow (n : Fin 4096) : ConvLnForm.Row := fun k => (val_main_v229 (F := Ideal) x0 x1 x2 (Idealize.ShloMosaic.ix2 n k) : EReal)

theorem zrow_eq (n : Fin 4096) : zrow x0 x1 x2 n = ConvFForm.conv x0 x1 (vec x2) n.val := funext fun k => conv_at x0 x1 x2 n k

theorem zc_at (n : Fin 4096) (k : Fin 1024) : (val_main_v242 (F := Ideal) x0 x1 x2 (Idealize.ShloMosaic.ix2 n k) : EReal) = ConvLnForm.zc (zrow x0 x1 x2 n) k := by
  pointwise [val_main_v242, val_main_v241, val_main_v233, val_main_v232, val_main_cst_3, val_main_v231, val_main_v230, val_main_cst_2, ConvLnForm.zc, ConvLnForm.mean, zrow]

theorem zc_at' (n : Fin 4096) (k : Fin 1024) : (val_main_v235 (F := Ideal) x0 x1 x2 (Idealize.ShloMosaic.ix2 n k) : EReal) = ConvLnForm.zc (zrow x0 x1 x2 n) k := by
  pointwise [val_main_v235, val_main_v234, val_main_v233, val_main_v232, val_main_cst_3, val_main_v231, val_main_v230, val_main_cst_2, ConvLnForm.zc, ConvLnForm.mean, zrow]

theorem ms_at (n : Fin 4096) (k : Fin 1) : (val_main_v244 (F := Ideal) x0 x1 x2 (Idealize.ShloMosaic.ix2 n k) : EReal) = ConvLnForm.ms (zrow x0 x1 x2 n) := by
  unfold ConvLnForm.ms ConvLnForm.mean
  pointwise [val_main_v244, val_main_v243, val_main_cst_6, val_main_v240, val_main_v239, val_main_cst_5, val_main_v238, val_main_v237, val_main_cst_4, val_main_v236]
  simp only [zc_at']

theorem xh_at (n : Fin 4096) (k : Fin 1024) : (val_main_v247 (F := Ideal) x0 x1 x2 (Idealize.ShloMosaic.ix2 n k) : EReal) = ConvLnForm.xh (zrow x0 x1 x2 n) k := by
  unfold ConvLnForm.xh ConvLnForm.rs
  pointwise [val_main_v247, val_main_v246, val_main_v245]
  simp only [zc_at, ms_at]

theorem z2_at (n : Fin 4096) (k : Fin 1024) : (val_main_v253 (F := Ideal) x0 x1 x2 x3 x4 (Idealize.ShloMosaic.ix2 n k) : EReal) = ConvLnForm.z2 (zrow x0 x1 x2 n) (vec x3) (vec x4) k := by
  unfold ConvLnForm.z2
  pointwise [val_main_v253, val_main_v252, val_main_v251, val_main_v250, val_main_v249, val_main_v248]
  simp only [xh_at]

theorem silu_at (n : Fin 4096) (k : Fin 1024) : (val_main_v255 (F := Ideal) x0 x1 x2 x3 x4 (Idealize.ShloMosaic.ix2 n k) : EReal)
    = ConvFForm.silu (zrow x0 x1 x2 n) (vec x3) (vec x4) k := by
  unfold ConvFForm.silu ConvLnForm.sg
  pointwise [val_main_v255, val_main_v254, val_main_call0_v5, val_main_call0_v4, val_main_call0_cst_0, val_main_call0_v3, val_main_call0_v2, val_main_call0_cst, val_main_call0_v1, val_main_call0_v0]
  simp only [z2_at]

/-- The convolution, as an array. -/
theorem readZ : val_main_v229 (F := Ideal) x0 x1 x2 = fun i : S4096x1024.Idx => ConvFForm.conv x0 x1 (vec x2) (i 0).val (i 1) := by
  funext i
  obtain ⟨n, k, rfl⟩ : ∃ (n : Fin 4096) (k : Fin 1024), i = Idealize.ShloMosaic.ix2 n k := ⟨i 0, i 1, (Idealize.ShloMosaic.ix2_eta i).symm⟩
  exact conv_at x0 x1 x2 n k

/-- The SiLU of the normed convolution, as an array. -/
theorem readS : val_main_v255 (F := Ideal) x0 x1 x2 x3 x4
    = fun i : S4096x1024.Idx => ConvFForm.silu (ConvFForm.conv x0 x1 (vec x2) (i 0).val) (vec x3) (vec x4) (i 1) := by
  funext i
  obtain ⟨n, k, rfl⟩ : ∃ (n : Fin 4096) (k : Fin 1024), i = Idealize.ShloMosaic.ix2 n k := ⟨i 0, i 1, (Idealize.ShloMosaic.ix2_eta i).symm⟩
  refine (silu_at x0 x1 x2 x3 x4 n k).trans ?_
  rw [zrow_eq]
  rfl

end Cert.ConvFRefIdeal.Array

end
-- ==== Proof.ConvF.Equation.lean ====
module

public import proofs.«01_k».proof.Proof.ConvF.Store
public import proofs.«01_k».proof.Proof.ConvF.Reference
public import proofs.«01_k».proof.Proof.Gen.ConvFIdeal.Frame
public import proofs.«01_k».proof.Defs
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvFClaim

set_option maxHeartbeats 1000000 in
/-- Kernel and reference end with equal results. -/
theorem algebraic : algebraic_ConvFIdeal_ConvFRefIdeal := by
  pair_intro
  · run_from ConvFIdeal.Gen.run_main m g
    all_goals first
      | exact ConvFIdeal.Gen.V_main_arg0 m c
      | exact ConvFIdeal.Gen.V_main_arg1 m c
      | exact ConvFIdeal.Gen.V_main_arg2 m c
      | exact ConvFIdeal.Gen.V_main_arg3 m c
      | exact ConvFIdeal.Gen.V_main_arg4 m c
  · run_from ConvFRefIdeal.Value.run m' g'
    · obtain ⟨h0, h1, h2, h3, h4⟩ := hagree c
      have l0 : StableHlo.launchContents m' c (Proc.devRef .tc ConvFRefIdeal.main_arg0) = (m ((c.tc : Thread ConvFIdeal.nD ConvFIdeal.τ).loc ConvFIdeal.main_arg0)) := h0
      have l1 : StableHlo.launchContents m' c (Proc.devRef .tc ConvFRefIdeal.main_arg1) = (m ((c.tc : Thread ConvFIdeal.nD ConvFIdeal.τ).loc ConvFIdeal.main_arg1)) := h1
      have l2 : StableHlo.launchContents m' c (Proc.devRef .tc ConvFRefIdeal.main_arg2) = (m ((c.tc : Thread ConvFIdeal.nD ConvFIdeal.τ).loc ConvFIdeal.main_arg2)) := h2
      have l3 : StableHlo.launchContents m' c (Proc.devRef .tc ConvFRefIdeal.main_arg3) = (m ((c.tc : Thread ConvFIdeal.nD ConvFIdeal.τ).loc ConvFIdeal.main_arg3)) := h3
      have l4 : StableHlo.launchContents m' c (Proc.devRef .tc ConvFRefIdeal.main_arg4) = (m ((c.tc : Thread ConvFIdeal.nD ConvFIdeal.τ).loc ConvFIdeal.main_arg4)) := h4
      rw [ConvFRefIdeal.Read.val_main_v255_eq, l0, l1, l2, l3, l4]
      exact ((ConvFIdeal.Array.final8 m c).trans (ConvFRefIdeal.Array.readS _ _ _ _ _).symm).symm
    · obtain ⟨h0, h1, h2, h3, h4⟩ := hagree c
      have l0 : StableHlo.launchContents m' c (Proc.devRef .tc ConvFRefIdeal.main_arg0) = (m ((c.tc : Thread ConvFIdeal.nD ConvFIdeal.τ).loc ConvFIdeal.main_arg0)) := h0
      have l1 : StableHlo.launchContents m' c (Proc.devRef .tc ConvFRefIdeal.main_arg1) = (m ((c.tc : Thread ConvFIdeal.nD ConvFIdeal.τ).loc ConvFIdeal.main_arg1)) := h1
      have l2 : StableHlo.launchContents m' c (Proc.devRef .tc ConvFRefIdeal.main_arg2) = (m ((c.tc : Thread ConvFIdeal.nD ConvFIdeal.τ).loc ConvFIdeal.main_arg2)) := h2
      have l3 : StableHlo.launchContents m' c (Proc.devRef .tc ConvFRefIdeal.main_arg3) = (m ((c.tc : Thread ConvFIdeal.nD ConvFIdeal.τ).loc ConvFIdeal.main_arg3)) := h3
      have l4 : StableHlo.launchContents m' c (Proc.devRef .tc ConvFRefIdeal.main_arg4) = (m ((c.tc : Thread ConvFIdeal.nD ConvFIdeal.τ).loc ConvFIdeal.main_arg4)) := h4
      rw [ConvFRefIdeal.Read.val_main_v229_eq, l0, l1, l2]
      exact ((ConvFIdeal.Array.final9 m c).trans (ConvFRefIdeal.Array.readZ _ _ _).symm).symm

end Cert.ConvFClaim

end
-- ==== Proof.lean ====
/- The claims of the certificate, assembled: every frame is the generated run of its program, every equation is proved in the
   module named after its call. -/
module

public import proofs.«01_k».proof.Defs
public import proofs.«01_k».proof.Proof.Gen.Gate.Frame
public import proofs.«01_k».proof.Proof.Gen.GateIdeal.Frame
public import proofs.«01_k».proof.Proof.Gen.Norm.Frame
public import proofs.«01_k».proof.Proof.Gen.NormIdeal.Frame
public import proofs.«01_k».proof.Proof.Gen.Mix.Frame
public import proofs.«01_k».proof.Proof.Gen.MixIdeal.Frame
public import proofs.«01_k».proof.Proof.Gen.Merge.Frame
public import proofs.«01_k».proof.Proof.Gen.MergeIdeal.Frame
public import proofs.«01_k».proof.Proof.Gen.Loss.Frame
public import proofs.«01_k».proof.Proof.Gen.LossIdeal.Frame
public import proofs.«01_k».proof.Proof.Gen.Bias.Frame
public import proofs.«01_k».proof.Proof.Gen.BiasIdeal.Frame
public import proofs.«01_k».proof.Proof.Gen.ConvGlu.Frame
public import proofs.«01_k».proof.Proof.Gen.ConvGluIdeal.Frame
public import proofs.«01_k».proof.Proof.Gen.ConvLn.Frame
public import proofs.«01_k».proof.Proof.Gen.ConvLnIdeal.Frame
public import proofs.«01_k».proof.Proof.Gen.Attn.Frame
public import proofs.«01_k».proof.Proof.Gen.AttnIdeal.Frame
public import proofs.«01_k».proof.Proof.Gen.AttnF.Frame
public import proofs.«01_k».proof.Proof.Gen.AttnFIdeal.Frame
public import proofs.«01_k».proof.Proof.Gen.RmsF.Frame
public import proofs.«01_k».proof.Proof.Gen.RmsFIdeal.Frame
public import proofs.«01_k».proof.Proof.Gen.FfnIn.Frame
public import proofs.«01_k».proof.Proof.Gen.FfnInIdeal.Frame
public import proofs.«01_k».proof.Proof.Gen.FfnOut.Frame
public import proofs.«01_k».proof.Proof.Gen.FfnOutIdeal.Frame
public import proofs.«01_k».proof.Proof.Gen.MixOut.Frame
public import proofs.«01_k».proof.Proof.Gen.MixOutIdeal.Frame
public import proofs.«01_k».proof.Proof.Gen.MergeF.Frame
public import proofs.«01_k».proof.Proof.Gen.MergeFIdeal.Frame
public import proofs.«01_k».proof.Proof.Gen.ConvF.Frame
public import proofs.«01_k».proof.Proof.Gen.ConvFIdeal.Frame
public import proofs.«01_k».proof.Proof.Gate.Equation
public import proofs.«01_k».proof.Proof.Norm.Equation
public import proofs.«01_k».proof.Proof.Mix.Equation
public import proofs.«01_k».proof.Proof.Merge.Equation
public import proofs.«01_k».proof.Proof.Loss.Equation
public import proofs.«01_k».proof.Proof.Bias.Equation
public import proofs.«01_k».proof.Proof.ConvGlu.Equation
public import proofs.«01_k».proof.Proof.ConvLn.Equation
public import proofs.«01_k».proof.Proof.Attn.Equation
public import proofs.«01_k».proof.Proof.AttnF.Equation
public import proofs.«01_k».proof.Proof.RmsF.Equation
public import proofs.«01_k».proof.Proof.FfnIn.Equation
public import proofs.«01_k».proof.Proof.FfnOut.Equation
public import proofs.«01_k».proof.Proof.MixOut.Equation
public import proofs.«01_k».proof.Proof.MergeF.Equation
public import proofs.«01_k».proof.Proof.ConvF.Equation
public import proofs.«01_k».proof.Proof.Gen.Gate
public import proofs.«01_k».proof.Proof.Gen.GateIdeal
public import proofs.«01_k».proof.Proof.Gen.GateRefIdeal
public import proofs.«01_k».proof.Proof.Gen.Norm
public import proofs.«01_k».proof.Proof.Gen.NormIdeal
public import proofs.«01_k».proof.Proof.Gen.NormRefIdeal
public import proofs.«01_k».proof.Proof.Gen.Mix
public import proofs.«01_k».proof.Proof.Gen.MixIdeal
public import proofs.«01_k».proof.Proof.Gen.Merge
public import proofs.«01_k».proof.Proof.Gen.MergeIdeal
public import proofs.«01_k».proof.Proof.Gen.MergeRefIdeal
public import proofs.«01_k».proof.Proof.Gen.Loss
public import proofs.«01_k».proof.Proof.Gen.LossIdeal
public import proofs.«01_k».proof.Proof.Gen.LossRefIdeal
public import proofs.«01_k».proof.Proof.Gen.Bias
public import proofs.«01_k».proof.Proof.Gen.BiasIdeal
public import proofs.«01_k».proof.Proof.Gen.BiasRefIdeal
public import proofs.«01_k».proof.Proof.Gen.ConvGlu
public import proofs.«01_k».proof.Proof.Gen.ConvGluIdeal
public import proofs.«01_k».proof.Proof.Gen.ConvGluRefIdeal
public import proofs.«01_k».proof.Proof.Gen.ConvLn
public import proofs.«01_k».proof.Proof.Gen.ConvLnIdeal
public import proofs.«01_k».proof.Proof.Gen.ConvLnRefIdeal
public import proofs.«01_k».proof.Proof.Gen.Attn
public import proofs.«01_k».proof.Proof.Gen.AttnIdeal
public import proofs.«01_k».proof.Proof.Gen.AttnRefIdeal
public import proofs.«01_k».proof.Proof.Gen.AttnF
public import proofs.«01_k».proof.Proof.Gen.AttnFIdeal
public import proofs.«01_k».proof.Proof.Gen.AttnFRefIdeal
public import proofs.«01_k».proof.Proof.Gen.RmsF
public import proofs.«01_k».proof.Proof.Gen.RmsFIdeal
public import proofs.«01_k».proof.Proof.Gen.RmsFRefIdeal
public import proofs.«01_k».proof.Proof.Gen.FfnIn
public import proofs.«01_k».proof.Proof.Gen.FfnInIdeal
public import proofs.«01_k».proof.Proof.Gen.FfnInRefIdeal
public import proofs.«01_k».proof.Proof.Gen.FfnOut
public import proofs.«01_k».proof.Proof.Gen.FfnOutIdeal
public import proofs.«01_k».proof.Proof.Gen.FfnOutRefIdeal
public import proofs.«01_k».proof.Proof.Gen.MixOut
public import proofs.«01_k».proof.Proof.Gen.MixOutIdeal
public import proofs.«01_k».proof.Proof.Gen.MixOutRefIdeal
public import proofs.«01_k».proof.Proof.Gen.MergeF
public import proofs.«01_k».proof.Proof.Gen.MergeFIdeal
public import proofs.«01_k».proof.Proof.Gen.MergeFRefIdeal
public import proofs.«01_k».proof.Proof.Gen.ConvF
public import proofs.«01_k».proof.Proof.Gen.ConvFIdeal
public import proofs.«01_k».proof.Proof.Gen.ConvFRefIdeal
public import proofs.«01_k».proof.Proof.Gen.Pre_finite_gate
public import proofs.«01_k».proof.Proof.Gen.Pre_finite_norm
public import proofs.«01_k».proof.Proof.Gen.Pre_finite_convln
public import proofs.«01_k».proof.Proof.Gen.Pre_finite_attn
public import proofs.«01_k».proof.Proof.Gen.Pre_finite_attnf
public import proofs.«01_k».proof.Proof.Gen.GateRefIdeal.Run
public import proofs.«01_k».proof.Proof.Gen.NormRefIdeal.Run
public import proofs.«01_k».proof.Proof.Gen.MergeRefIdeal.Run
public import proofs.«01_k».proof.Proof.Gen.LossRefIdeal.Run
public import proofs.«01_k».proof.Proof.Gen.BiasRefIdeal.Run
public import proofs.«01_k».proof.Proof.Gen.ConvGluRefIdeal.Run
public import proofs.«01_k».proof.Proof.Gen.ConvLnRefIdeal.Run
public import proofs.«01_k».proof.Proof.Gen.AttnRefIdeal.Run
public import proofs.«01_k».proof.Proof.Gen.AttnFRefIdeal.Run
public import proofs.«01_k».proof.Proof.Gen.RmsFRefIdeal.Run
public import proofs.«01_k».proof.Proof.Gen.FfnInRefIdeal.Run
public import proofs.«01_k».proof.Proof.Gen.FfnOutRefIdeal.Run
public import proofs.«01_k».proof.Proof.Gen.MixOutRefIdeal.Run
public import proofs.«01_k».proof.Proof.Gen.MergeFRefIdeal.Run
public import proofs.«01_k».proof.Proof.Gen.ConvFRefIdeal.Run
public import Idealize.ShloMosaic.Lib.Claim

@[expose] public section

set_option maxRecDepth 16384

noncomputable section

namespace Cert.Proof

open Idealize.ShloMosaic Idealize.ShloMosaic.TcCoe Idealize.SL.Sem

/-- The reference `GateRef` runs, leaves its arguments and has no counters. -/
theorem gateRefIdeal_frame : quiescent_GateRefIdeal := fun m ρ _ =>
  (θ_run _ _ _).mono (fun r h => ⟨fun c => (h c).2, Idealize.ShloMosaic.sem_eq_zero_of_no_sems (by decide) r.2⟩)
    (Cert.GateRefIdeal.Value.run m ρ)

/-- The reference `NormRef` runs, leaves its arguments and has no counters. -/
theorem normRefIdeal_frame : quiescent_NormRefIdeal := fun m ρ _ =>
  (θ_run _ _ _).mono (fun r h => ⟨fun c => (h c).2.2, Idealize.ShloMosaic.sem_eq_zero_of_no_sems (by decide) r.2⟩)
    (Cert.NormRefIdeal.Value.run m ρ)

/-- The reference `MergeRef` runs, leaves its arguments and has no counters. -/
theorem mergeRefIdeal_frame : quiescent_MergeRefIdeal := fun m ρ _ =>
  (θ_run _ _ _).mono (fun r h => ⟨fun c => (h c).2.2.2, Idealize.ShloMosaic.sem_eq_zero_of_no_sems (by decide) r.2⟩)
    (Cert.MergeRefIdeal.Value.run m ρ)

/-- The reference `LossRef` runs, leaves its arguments and has no counters. -/
theorem lossRefIdeal_frame : quiescent_LossRefIdeal := fun m ρ _ =>
  (θ_run _ _ _).mono (fun r h => ⟨fun c => (h c).2.2, Idealize.ShloMosaic.sem_eq_zero_of_no_sems (by decide) r.2⟩)
    (Cert.LossRefIdeal.Value.run m ρ)

/-- The reference `BiasRef` runs, leaves its arguments and has no counters. -/
theorem biasRefIdeal_frame : quiescent_BiasRefIdeal := fun m ρ _ =>
  (θ_run _ _ _).mono (fun r h => ⟨fun c => (h c).2, Idealize.ShloMosaic.sem_eq_zero_of_no_sems (by decide) r.2⟩)
    (Cert.BiasRefIdeal.Value.run m ρ)

/-- The reference `ConvGluRef` runs, leaves its arguments and has no counters. -/
theorem convGluRefIdeal_frame : quiescent_ConvGluRefIdeal := fun m ρ _ =>
  (θ_run _ _ _).mono (fun r h => ⟨fun c => (h c).2, Idealize.ShloMosaic.sem_eq_zero_of_no_sems (by decide) r.2⟩)
    (Cert.ConvGluRefIdeal.Value.run m ρ)

/-- The reference `ConvLnRef` runs, leaves its arguments and has no counters. -/
theorem convLnRefIdeal_frame : quiescent_ConvLnRefIdeal := fun m ρ _ =>
  (θ_run _ _ _).mono (fun r h => ⟨fun c => (h c).2.2.2.2, Idealize.ShloMosaic.sem_eq_zero_of_no_sems (by decide) r.2⟩)
    (Cert.ConvLnRefIdeal.Value.run m ρ)

/-- The reference `AttnRef` runs, leaves its arguments and has no counters. -/
theorem attnRefIdeal_frame : quiescent_AttnRefIdeal := fun m ρ _ =>
  (θ_run _ _ _).mono (fun r h => ⟨fun c => (h c).2.2.2.2.2.2, Idealize.ShloMosaic.sem_eq_zero_of_no_sems (by decide) r.2⟩)
    (Cert.AttnRefIdeal.Value.run m ρ)

/-- The reference `AttnFRef` runs, leaves its arguments and has no counters. -/
theorem attnFRefIdeal_frame : quiescent_AttnFRefIdeal := fun m ρ _ =>
  (θ_run _ _ _).mono (fun r h => ⟨fun c => (h c).2.2.2, Idealize.ShloMosaic.sem_eq_zero_of_no_sems (by decide) r.2⟩)
    (Cert.AttnFRefIdeal.Value.run m ρ)

/-- The reference `RmsFRef` runs, leaves its arguments and has no counters. -/
theorem rmsFRefIdeal_frame : quiescent_RmsFRefIdeal := fun m ρ _ =>
  (θ_run _ _ _).mono (fun r h => ⟨fun c => (h c).2, Idealize.ShloMosaic.sem_eq_zero_of_no_sems (by decide) r.2⟩)
    (Cert.RmsFRefIdeal.Value.run m ρ)

/-- The reference `FfnInRef` runs, leaves its arguments and has no counters. -/
theorem ffnInRefIdeal_frame : quiescent_FfnInRefIdeal := fun m ρ _ =>
  (θ_run _ _ _).mono (fun r h => ⟨fun c => (h c).2.2, Idealize.ShloMosaic.sem_eq_zero_of_no_sems (by decide) r.2⟩)
    (Cert.FfnInRefIdeal.Value.run m ρ)

/-- The reference `FfnOutRef` runs, leaves its arguments and has no counters. -/
theorem ffnOutRefIdeal_frame : quiescent_FfnOutRefIdeal := fun m ρ _ =>
  (θ_run _ _ _).mono (fun r h => ⟨fun c => (h c).2.2, Idealize.ShloMosaic.sem_eq_zero_of_no_sems (by decide) r.2⟩)
    (Cert.FfnOutRefIdeal.Value.run m ρ)

/-- The reference `MixOutRef` runs, leaves its arguments and has no counters. -/
theorem mixOutRefIdeal_frame : quiescent_MixOutRefIdeal := fun m ρ _ =>
  (θ_run _ _ _).mono (fun r h => ⟨fun c => (h c).2.2, Idealize.ShloMosaic.sem_eq_zero_of_no_sems (by decide) r.2⟩)
    (Cert.MixOutRefIdeal.Value.run m ρ)

/-- The reference `MergeFRef` runs, leaves its arguments and has no counters. -/
theorem mergeFRefIdeal_frame : quiescent_MergeFRefIdeal := fun m ρ _ =>
  (θ_run _ _ _).mono (fun r h => ⟨fun c => (h c).2.2.2, Idealize.ShloMosaic.sem_eq_zero_of_no_sems (by decide) r.2⟩)
    (Cert.MergeFRefIdeal.Value.run m ρ)

/-- The reference `ConvFRef` runs, leaves its arguments and has no counters. -/
theorem convFRefIdeal_frame : quiescent_ConvFRefIdeal := fun m ρ _ =>
  (θ_run _ _ _).mono (fun r h => ⟨fun c => (h c).2.2, Idealize.ShloMosaic.sem_eq_zero_of_no_sems (by decide) r.2⟩)
    (Cert.ConvFRefIdeal.Value.run m ρ)

theorem claim : Cert.Claim :=
  ⟨Cert.Gate.Gen.facts, Cert.GateIdeal.Gen.facts, Cert.GateRefIdeal.Gen.facts, Cert.Norm.Gen.facts, Cert.NormIdeal.Gen.facts, Cert.NormRefIdeal.Gen.facts, Cert.Mix.Gen.facts, Cert.MixIdeal.Gen.facts, Cert.Merge.Gen.facts, Cert.MergeIdeal.Gen.facts, Cert.MergeRefIdeal.Gen.facts, Cert.Loss.Gen.facts, Cert.LossIdeal.Gen.facts, Cert.LossRefIdeal.Gen.facts, Cert.Bias.Gen.facts, Cert.BiasIdeal.Gen.facts, Cert.BiasRefIdeal.Gen.facts, Cert.ConvGlu.Gen.facts, Cert.ConvGluIdeal.Gen.facts, Cert.ConvGluRefIdeal.Gen.facts, Cert.ConvLn.Gen.facts, Cert.ConvLnIdeal.Gen.facts, Cert.ConvLnRefIdeal.Gen.facts, Cert.Attn.Gen.facts, Cert.AttnIdeal.Gen.facts, Cert.AttnRefIdeal.Gen.facts, Cert.AttnF.Gen.facts, Cert.AttnFIdeal.Gen.facts, Cert.AttnFRefIdeal.Gen.facts, Cert.RmsF.Gen.facts, Cert.RmsFIdeal.Gen.facts, Cert.RmsFRefIdeal.Gen.facts, Cert.FfnIn.Gen.facts, Cert.FfnInIdeal.Gen.facts, Cert.FfnInRefIdeal.Gen.facts, Cert.FfnOut.Gen.facts, Cert.FfnOutIdeal.Gen.facts, Cert.FfnOutRefIdeal.Gen.facts, Cert.MixOut.Gen.facts, Cert.MixOutIdeal.Gen.facts, Cert.MixOutRefIdeal.Gen.facts, Cert.MergeF.Gen.facts, Cert.MergeFIdeal.Gen.facts, Cert.MergeFRefIdeal.Gen.facts, Cert.ConvF.Gen.facts, Cert.ConvFIdeal.Gen.facts, Cert.ConvFRefIdeal.Gen.facts, Cert.Pre_finite_gate.Gen.facts, Cert.Pre_finite_norm.Gen.facts, Cert.Pre_finite_convln.Gen.facts, Cert.Pre_finite_attn.Gen.facts, Cert.Pre_finite_attnf.Gen.facts,
    (fun m ρ _ => Cert.Gate.Gen.frame m ρ),
    (fun m ρ _ => Cert.GateIdeal.Gen.frame m ρ),
    (fun m ρ _ => Cert.GateIdeal.Gen.frame m ρ),
    (fun m ρ _ => gateRefIdeal_frame m ρ trivial),
    (fun m ρ _ => gateRefIdeal_frame m ρ trivial),
    (fun m ρ _ => Cert.Norm.Gen.frame m ρ),
    (fun m ρ _ => Cert.NormIdeal.Gen.frame m ρ),
    (fun m ρ _ => Cert.NormIdeal.Gen.frame m ρ),
    (fun m ρ _ => normRefIdeal_frame m ρ trivial),
    (fun m ρ _ => normRefIdeal_frame m ρ trivial),
    (fun m ρ _ => Cert.Mix.Gen.frame m ρ),
    (fun m ρ _ => Cert.MixIdeal.Gen.frame m ρ),
    (fun m ρ _ => Cert.MixIdeal.Gen.frame m ρ),
    (fun m ρ _ => Cert.Merge.Gen.frame m ρ),
    (fun m ρ _ => Cert.MergeIdeal.Gen.frame m ρ),
    (fun m ρ _ => mergeRefIdeal_frame m ρ trivial),
    (fun m ρ _ => Cert.Loss.Gen.frame m ρ),
    (fun m ρ _ => Cert.LossIdeal.Gen.frame m ρ),
    (fun m ρ _ => lossRefIdeal_frame m ρ trivial),
    (fun m ρ _ => Cert.Bias.Gen.frame m ρ),
    (fun m ρ _ => Cert.BiasIdeal.Gen.frame m ρ),
    (fun m ρ _ => biasRefIdeal_frame m ρ trivial),
    (fun m ρ _ => Cert.ConvGlu.Gen.frame m ρ),
    (fun m ρ _ => Cert.ConvGluIdeal.Gen.frame m ρ),
    (fun m ρ _ => convGluRefIdeal_frame m ρ trivial),
    (fun m ρ _ => Cert.ConvLn.Gen.frame m ρ),
    (fun m ρ _ => Cert.ConvLnIdeal.Gen.frame m ρ),
    (fun m ρ _ => Cert.ConvLnIdeal.Gen.frame m ρ),
    (fun m ρ _ => convLnRefIdeal_frame m ρ trivial),
    (fun m ρ _ => convLnRefIdeal_frame m ρ trivial),
    (fun m ρ _ => Cert.Attn.Gen.frame m ρ),
    (fun m ρ _ => Cert.AttnIdeal.Gen.frame m ρ),
    (fun m ρ _ => Cert.AttnIdeal.Gen.frame m ρ),
    (fun m ρ _ => attnRefIdeal_frame m ρ trivial),
    (fun m ρ _ => attnRefIdeal_frame m ρ trivial),
    (fun m ρ _ => Cert.AttnF.Gen.frame m ρ),
    (fun m ρ _ => Cert.AttnFIdeal.Gen.frame m ρ),
    (fun m ρ _ => Cert.AttnFIdeal.Gen.frame m ρ),
    (fun m ρ _ => attnFRefIdeal_frame m ρ trivial),
    (fun m ρ _ => attnFRefIdeal_frame m ρ trivial),
    (fun m ρ _ => Cert.RmsF.Gen.frame m ρ),
    (fun m ρ _ => Cert.RmsFIdeal.Gen.frame m ρ),
    (fun m ρ _ => rmsFRefIdeal_frame m ρ trivial),
    (fun m ρ _ => Cert.FfnIn.Gen.frame m ρ),
    (fun m ρ _ => Cert.FfnInIdeal.Gen.frame m ρ),
    (fun m ρ _ => ffnInRefIdeal_frame m ρ trivial),
    (fun m ρ _ => Cert.FfnOut.Gen.frame m ρ),
    (fun m ρ _ => Cert.FfnOutIdeal.Gen.frame m ρ),
    (fun m ρ _ => ffnOutRefIdeal_frame m ρ trivial),
    (fun m ρ _ => Cert.MixOut.Gen.frame m ρ),
    (fun m ρ _ => Cert.MixOutIdeal.Gen.frame m ρ),
    (fun m ρ _ => mixOutRefIdeal_frame m ρ trivial),
    (fun m ρ _ => Cert.MergeF.Gen.frame m ρ),
    (fun m ρ _ => Cert.MergeFIdeal.Gen.frame m ρ),
    (fun m ρ _ => mergeFRefIdeal_frame m ρ trivial),
    (fun m ρ _ => Cert.ConvF.Gen.frame m ρ),
    (fun m ρ _ => Cert.ConvFIdeal.Gen.frame m ρ),
    (fun m ρ _ => convFRefIdeal_frame m ρ trivial),
    trivial,
    Cert.GateClaim.algebraic,
    trivial,
    Cert.NormClaim.algebraic,
    trivial,
    Cert.MixClaim.algebraic,
    trivial,
    Cert.MergeClaim.algebraic,
    trivial,
    Cert.LossClaim.algebraic,
    trivial,
    Cert.BiasClaim.algebraic,
    trivial,
    Cert.ConvGluClaim.algebraic,
    trivial,
    Cert.ConvLnClaim.algebraic,
    trivial,
    Cert.AttnClaim.algebraic,
    trivial,
    Cert.AttnFClaim.algebraic,
    trivial,
    Cert.RmsFClaim.algebraic,
    trivial,
    Cert.FfnInClaim.algebraic,
    trivial,
    Cert.FfnOutClaim.algebraic,
    trivial,
    Cert.MixOutClaim.algebraic,
    trivial,
    Cert.MergeFClaim.algebraic,
    trivial,
    Cert.ConvFClaim.algebraic⟩

end Cert.Proof

end
